-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDxV (m : (ℓ : Loc Cert.UpDxV.nD Cert.UpDxV.τ Cert.UpDxV.sig) → Buf (Elt Bits) ℓ) : Prop :=
  True

def Pre_UpDxVIdeal (m : (ℓ : Loc Cert.UpDxVIdeal.nD Cert.UpDxVIdeal.τ Cert.UpDxVIdeal.sig) → Buf (Elt Ideal) ℓ) : Prop :=
  True

def Pre_UpDxVRefIdeal (m : (ℓ : Loc Cert.UpDxVRefIdeal.nD Cert.UpDxVRefIdeal.τ Cert.UpDxVRefIdeal.sig) → Buf (Elt Ideal) ℓ) : Prop :=
  True

def Pre_UpDxG (m : (ℓ : Loc Cert.UpDxG.nD Cert.UpDxG.τ Cert.UpDxG.sig) → Buf (Elt Bits) ℓ) : Prop :=
  True

def Pre_UpDxGIdeal (m : (ℓ : Loc Cert.UpDxGIdeal.nD Cert.UpDxGIdeal.τ Cert.UpDxGIdeal.sig) → Buf (Elt Ideal) ℓ) : Prop :=
  True

def Pre_UpDxGRefIdeal (m : (ℓ : Loc Cert.UpDxGRefIdeal.nD Cert.UpDxGRefIdeal.τ Cert.UpDxGRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_QkvDw (m : (ℓ : Loc Cert.QkvDw.nD Cert.QkvDw.τ Cert.QkvDw.sig) → Buf (Elt Bits) ℓ) : Prop :=
  True

def Pre_QkvDwIdeal (m : (ℓ : Loc Cert.QkvDwIdeal.nD Cert.QkvDwIdeal.τ Cert.QkvDwIdeal.sig) → Buf (Elt Ideal) ℓ) : Prop :=
  True

def Pre_QkvDwRefIdeal (m : (ℓ : Loc Cert.QkvDwRefIdeal.nD Cert.QkvDwRefIdeal.τ Cert.QkvDwRefIdeal.sig) → Buf (Elt Ideal) ℓ) : Prop :=
  True

def Pre_QkvDx (m : (ℓ : Loc Cert.QkvDx.nD Cert.QkvDx.τ Cert.QkvDx.sig) → Buf (Elt Bits) ℓ) : Prop :=
  True

def Pre_QkvDxIdeal (m : (ℓ : Loc Cert.QkvDxIdeal.nD Cert.QkvDxIdeal.τ Cert.QkvDxIdeal.sig) → Buf (Elt Ideal) ℓ) : Prop :=
  True

def Pre_QkvDxRefIdeal (m : (ℓ : Loc Cert.QkvDxRefIdeal.nD Cert.QkvDxRefIdeal.τ Cert.QkvDxRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_GluDx (m : (ℓ : Loc Cert.GluDx.nD Cert.GluDx.τ Cert.GluDx.sig) → Buf (Elt Bits) ℓ) : Prop :=
  True

def Pre_GluDxIdeal (m : (ℓ : Loc Cert.GluDxIdeal.nD Cert.GluDxIdeal.τ Cert.GluDxIdeal.sig) → Buf (Elt Ideal) ℓ) : Prop :=
  True

def Pre_GluDxRefIdeal (m : (ℓ : Loc Cert.GluDxRefIdeal.nD Cert.GluDxRefIdeal.τ Cert.GluDxRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixInDw (m : (ℓ : Loc Cert.MixInDw.nD Cert.MixInDw.τ Cert.MixInDw.sig) → Buf (Elt Bits) ℓ) : Prop :=
  True

def Pre_MixInDwIdeal (m : (ℓ : Loc Cert.MixInDwIdeal.nD Cert.MixInDwIdeal.τ Cert.MixInDwIdeal.sig) → Buf (Elt Ideal) ℓ) : Prop :=
  True

def Pre_MixInDwRefIdeal (m : (ℓ : Loc Cert.MixInDwRefIdeal.nD Cert.MixInDwRefIdeal.τ Cert.MixInDwRefIdeal.sig) → Buf (Elt Ideal) ℓ) : Prop :=
  True

def Pre_MixInDx (m : (ℓ : Loc Cert.MixInDx.nD Cert.MixInDx.τ Cert.MixInDx.sig) → Buf (Elt Bits) ℓ) : Prop :=
  True

def Pre_MixInDxIdeal (m : (ℓ : Loc Cert.MixInDxIdeal.nD Cert.MixInDxIdeal.τ Cert.MixInDxIdeal.sig) → Buf (Elt Ideal) ℓ) : Prop :=
  True

def Pre_MixInDxRefIdeal (m : (ℓ : Loc Cert.MixInDxRefIdeal.nD Cert.MixInDxRefIdeal.τ Cert.MixInDxRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixOutDw (m : (ℓ : Loc Cert.MixOutDw.nD Cert.MixOutDw.τ Cert.MixOutDw.sig) → Buf (Elt Bits) ℓ) : Prop :=
  True

def Pre_MixOutDwIdeal (m : (ℓ : Loc Cert.MixOutDwIdeal.nD Cert.MixOutDwIdeal.τ Cert.MixOutDwIdeal.sig) → Buf (Elt Ideal) ℓ) : Prop :=
  True

def Pre_MixOutDwRefIdeal (m : (ℓ : Loc Cert.MixOutDwRefIdeal.nD Cert.MixOutDwRefIdeal.τ Cert.MixOutDwRefIdeal.sig) → Buf (Elt Ideal) ℓ) : Prop :=
  True

def Pre_MixOutDx (m : (ℓ : Loc Cert.MixOutDx.nD Cert.MixOutDx.τ Cert.MixOutDx.sig) → Buf (Elt Bits) ℓ) : Prop :=
  True

def Pre_MixOutDxIdeal (m : (ℓ : Loc Cert.MixOutDxIdeal.nD Cert.MixOutDxIdeal.τ Cert.MixOutDxIdeal.sig) → Buf (Elt Ideal) ℓ) : Prop :=
  True

def Pre_MixOutDxRefIdeal (m : (ℓ : Loc Cert.MixOutDxRefIdeal.nD Cert.MixOutDxRefIdeal.τ Cert.MixOutDxRefIdeal.sig) → Buf (Elt Ideal) ℓ) : Prop :=
  True

def Pre_AdamCCtx (m : (ℓ : Loc Cert.AdamCCtx.nD Cert.AdamCCtx.τ Cert.AdamCCtx.sig) → Buf (Elt Bits) ℓ) : Prop :=
  True

def Pre_AdamCCtxIdeal (m : (ℓ : Loc Cert.AdamCCtxIdeal.nD Cert.AdamCCtxIdeal.τ Cert.AdamCCtxIdeal.sig) → Buf (Elt Ideal) ℓ) : Prop :=
  True

def Pre_AdamCCtxRefIdeal (m : (ℓ : Loc Cert.AdamCCtxRefIdeal.nD Cert.AdamCCtxRefIdeal.τ Cert.AdamCCtxRefIdeal.sig) → Buf (Elt Ideal) ℓ) : Prop :=
  True

def Pre_AdamAdaW (m : (ℓ : Loc Cert.AdamAdaW.nD Cert.AdamAdaW.τ Cert.AdamAdaW.sig) → Buf (Elt Bits) ℓ) : Prop :=
  True

def Pre_AdamAdaWIdeal (m : (ℓ : Loc Cert.AdamAdaWIdeal.nD Cert.AdamAdaWIdeal.τ Cert.AdamAdaWIdeal.sig) → Buf (Elt Ideal) ℓ) : Prop :=
  True

def Pre_AdamAdaWRefIdeal (m : (ℓ : Loc Cert.AdamAdaWRefIdeal.nD Cert.AdamAdaWRefIdeal.τ Cert.AdamAdaWRefIdeal.sig) → Buf (Elt Ideal) ℓ) : Prop :=
  True

def Pre_AdamAdaB (m : (ℓ : Loc Cert.AdamAdaB.nD Cert.AdamAdaB.τ Cert.AdamAdaB.sig) → Buf (Elt Bits) ℓ) : Prop :=
  True

def Pre_AdamAdaBIdeal (m : (ℓ : Loc Cert.AdamAdaBIdeal.nD Cert.AdamAdaBIdeal.τ Cert.AdamAdaBIdeal.sig) → Buf (Elt Ideal) ℓ) : Prop :=
  True

def Pre_AdamAdaBRefIdeal (m : (ℓ : Loc Cert.AdamAdaBRefIdeal.nD Cert.AdamAdaBRefIdeal.τ Cert.AdamAdaBRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamFfnUp (m : (ℓ : Loc Cert.AdamFfnUp.nD Cert.AdamFfnUp.τ Cert.AdamFfnUp.sig) → Buf (Elt Bits) ℓ) : Prop :=
  True

def Pre_AdamFfnUpIdeal (m : (ℓ : Loc Cert.AdamFfnUpIdeal.nD Cert.AdamFfnUpIdeal.τ Cert.AdamFfnUpIdeal.sig) → Buf (Elt Ideal) ℓ) : Prop :=
  True

def Pre_AdamFfnUpRefIdeal (m : (ℓ : Loc Cert.AdamFfnUpRefIdeal.nD Cert.AdamFfnUpRefIdeal.τ Cert.AdamFfnUpRefIdeal.sig) → Buf (Elt Ideal) ℓ) : Prop :=
  True

def Pre_AdamConvW (m : (ℓ : Loc Cert.AdamConvW.nD Cert.AdamConvW.τ Cert.AdamConvW.sig) → Buf (Elt Bits) ℓ) : Prop :=
  True

def Pre_AdamConvWIdeal (m : (ℓ : Loc Cert.AdamConvWIdeal.nD Cert.AdamConvWIdeal.τ Cert.AdamConvWIdeal.sig) → Buf (Elt Ideal) ℓ) : Prop :=
  True

def Pre_AdamConvWRefIdeal (m : (ℓ : Loc Cert.AdamConvWRefIdeal.nD Cert.AdamConvWRefIdeal.τ Cert.AdamConvWRefIdeal.sig) → Buf (Elt Ideal) ℓ) : Prop :=
  True

def Pre_AdamConvB (m : (ℓ : Loc Cert.AdamConvB.nD Cert.AdamConvB.τ Cert.AdamConvB.sig) → Buf (Elt Bits) ℓ) : Prop :=
  True

def Pre_AdamConvBIdeal (m : (ℓ : Loc Cert.AdamConvBIdeal.nD Cert.AdamConvBIdeal.τ Cert.AdamConvBIdeal.sig) → Buf (Elt Ideal) ℓ) : Prop :=
  True

def Pre_AdamConvBRefIdeal (m : (ℓ : Loc Cert.AdamConvBRefIdeal.nD Cert.AdamConvBRefIdeal.τ Cert.AdamConvBRefIdeal.sig) → Buf (Elt Ideal) ℓ) : Prop :=
  True

def Pre_AdamFfnDown (m : (ℓ : Loc Cert.AdamFfnDown.nD Cert.AdamFfnDown.τ Cert.AdamFfnDown.sig) → Buf (Elt Bits) ℓ) : Prop :=
  True

def Pre_AdamFfnDownIdeal (m : (ℓ : Loc Cert.AdamFfnDownIdeal.nD Cert.AdamFfnDownIdeal.τ Cert.AdamFfnDownIdeal.sig) → Buf (Elt Ideal) ℓ) : Prop :=
  True

def Pre_AdamFfnDownRefIdeal (m : (ℓ : Loc Cert.AdamFfnDownRefIdeal.nD Cert.AdamFfnDownRefIdeal.τ Cert.AdamFfnDownRefIdeal.sig) → Buf (Elt Ideal) ℓ) : Prop :=
  True

def Pre_AdamPoolW (m : (ℓ : Loc Cert.AdamPoolW.nD Cert.AdamPoolW.τ Cert.AdamPoolW.sig) → Buf (Elt Bits) ℓ) : Prop :=
  True

def Pre_AdamPoolWIdeal (m : (ℓ : Loc Cert.AdamPoolWIdeal.nD Cert.AdamPoolWIdeal.τ Cert.AdamPoolWIdeal.sig) → Buf (Elt Ideal) ℓ) : Prop :=
  True

def Pre_AdamPoolWRefIdeal (m : (ℓ : Loc Cert.AdamPoolWRefIdeal.nD Cert.AdamPoolWRefIdeal.τ Cert.AdamPoolWRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_AdamQkv (m : (ℓ : Loc Cert.AdamQkv.nD Cert.AdamQkv.τ Cert.AdamQkv.sig) → Buf (Elt Bits) ℓ) : Prop :=
  True

def Pre_AdamQkvIdeal (m : (ℓ : Loc Cert.AdamQkvIdeal.nD Cert.AdamQkvIdeal.τ Cert.AdamQkvIdeal.sig) → Buf (Elt Ideal) ℓ) : Prop :=
  True

def Pre_AdamQkvRefIdeal (m : (ℓ : Loc Cert.AdamQkvRefIdeal.nD Cert.AdamQkvRefIdeal.τ Cert.AdamQkvRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSink (m : (ℓ : Loc Cert.AdamSink.nD Cert.AdamSink.τ Cert.AdamSink.sig) → Buf (Elt Bits) ℓ) : Prop :=
  True

def Pre_AdamSinkIdeal (m : (ℓ : Loc Cert.AdamSinkIdeal.nD Cert.AdamSinkIdeal.τ Cert.AdamSinkIdeal.sig) → Buf (Elt Ideal) ℓ) : Prop :=
  True

def Pre_AdamSinkRefIdeal (m : (ℓ : Loc Cert.AdamSinkRefIdeal.nD Cert.AdamSinkRefIdeal.τ Cert.AdamSinkRefIdeal.sig) → Buf (Elt Ideal) ℓ) : Prop :=
  True

def Pre_AdamLambda (m : (ℓ : Loc Cert.AdamLambda.nD Cert.AdamLambda.τ Cert.AdamLambda.sig) → Buf (Elt Bits) ℓ) : Prop :=
  True

def Pre_AdamLambdaIdeal (m : (ℓ : Loc Cert.AdamLambdaIdeal.nD Cert.AdamLambdaIdeal.τ Cert.AdamLambdaIdeal.sig) → Buf (Elt Ideal) ℓ) : Prop :=
  True

def Pre_AdamLambdaRefIdeal (m : (ℓ : Loc Cert.AdamLambdaRefIdeal.nD Cert.AdamLambdaRefIdeal.τ Cert.AdamLambdaRefIdeal.sig) → Buf (Elt Ideal) ℓ) : Prop :=
  True

def Pre_AdamLogDt (m : (ℓ : Loc Cert.AdamLogDt.nD Cert.AdamLogDt.τ Cert.AdamLogDt.sig) → Buf (Elt Bits) ℓ) : Prop :=
  True

def Pre_AdamLogDtIdeal (m : (ℓ : Loc Cert.AdamLogDtIdeal.nD Cert.AdamLogDtIdeal.τ Cert.AdamLogDtIdeal.sig) → Buf (Elt Ideal) ℓ) : Prop :=
  True

def Pre_AdamLogDtRefIdeal (m : (ℓ : Loc Cert.AdamLogDtRefIdeal.nD Cert.AdamLogDtRefIdeal.τ Cert.AdamLogDtRefIdeal.sig) → Buf (Elt Ideal) ℓ) : Prop :=
  True

def Pre_AdamSsmB (m : (ℓ : Loc Cert.AdamSsmB.nD Cert.AdamSsmB.τ Cert.AdamSsmB.sig) → Buf (Elt Bits) ℓ) : Prop :=
  True

def Pre_AdamSsmBIdeal (m : (ℓ : Loc Cert.AdamSsmBIdeal.nD Cert.AdamSsmBIdeal.τ Cert.AdamSsmBIdeal.sig) → Buf (Elt Ideal) ℓ) : Prop :=
  True

def Pre_AdamSsmBRefIdeal (m : (ℓ : Loc Cert.AdamSsmBRefIdeal.nD Cert.AdamSsmBRefIdeal.τ Cert.AdamSsmBRefIdeal.sig) → Buf (Elt Ideal) ℓ) : Prop :=
  True

def Pre_AdamSsmC (m : (ℓ : Loc Cert.AdamSsmC.nD Cert.AdamSsmC.τ Cert.AdamSsmC.sig) → Buf (Elt Bits) ℓ) : Prop :=
  True

def Pre_AdamSsmCIdeal (m : (ℓ : Loc Cert.AdamSsmCIdeal.nD Cert.AdamSsmCIdeal.τ Cert.AdamSsmCIdeal.sig) → Buf (Elt Ideal) ℓ) : Prop :=
  True

def Pre_AdamSsmCRefIdeal (m : (ℓ : Loc Cert.AdamSsmCRefIdeal.nD Cert.AdamSsmCRefIdeal.τ Cert.AdamSsmCRefIdeal.sig) → Buf (Elt Ideal) ℓ) : Prop :=
  True

def Pre_AdamSsmD (m : (ℓ : Loc Cert.AdamSsmD.nD Cert.AdamSsmD.τ Cert.AdamSsmD.sig) → Buf (Elt Bits) ℓ) : Prop :=
  True

def Pre_AdamSsmDIdeal (m : (ℓ : Loc Cert.AdamSsmDIdeal.nD Cert.AdamSsmDIdeal.τ Cert.AdamSsmDIdeal.sig) → Buf (Elt Ideal) ℓ) : Prop :=
  True

def Pre_AdamSsmDRefIdeal (m : (ℓ : Loc Cert.AdamSsmDRefIdeal.nD Cert.AdamSsmDRefIdeal.τ Cert.AdamSsmDRefIdeal.sig) → Buf (Elt Ideal) ℓ) : Prop :=
  True

def Pre_AdamMixIn (m : (ℓ : Loc Cert.AdamMixIn.nD Cert.AdamMixIn.τ Cert.AdamMixIn.sig) → Buf (Elt Bits) ℓ) : Prop :=
  True

def Pre_AdamMixInIdeal (m : (ℓ : Loc Cert.AdamMixInIdeal.nD Cert.AdamMixInIdeal.τ Cert.AdamMixInIdeal.sig) → Buf (Elt Ideal) ℓ) : Prop :=
  True

def Pre_AdamMixInRefIdeal (m : (ℓ : Loc Cert.AdamMixInRefIdeal.nD Cert.AdamMixInRefIdeal.τ Cert.AdamMixInRefIdeal.sig) → Buf (Elt Ideal) ℓ) : Prop :=
  True

def Pre_AdamMixBias (m : (ℓ : Loc Cert.AdamMixBias.nD Cert.AdamMixBias.τ Cert.AdamMixBias.sig) → Buf (Elt Bits) ℓ) : Prop :=
  True

def Pre_AdamMixBiasIdeal (m : (ℓ : Loc Cert.AdamMixBiasIdeal.nD Cert.AdamMixBiasIdeal.τ Cert.AdamMixBiasIdeal.sig) → Buf (Elt Ideal) ℓ) : Prop :=
  True

def Pre_AdamMixBiasRefIdeal (m : (ℓ : Loc Cert.AdamMixBiasRefIdeal.nD Cert.AdamMixBiasRefIdeal.τ Cert.AdamMixBiasRefIdeal.sig) → Buf (Elt Ideal) ℓ) : Prop :=
  True

def Pre_AdamMixNorm (m : (ℓ : Loc Cert.AdamMixNorm.nD Cert.AdamMixNorm.τ Cert.AdamMixNorm.sig) → Buf (Elt Bits) ℓ) : Prop :=
  True

def Pre_AdamMixNormIdeal (m : (ℓ : Loc Cert.AdamMixNormIdeal.nD Cert.AdamMixNormIdeal.τ Cert.AdamMixNormIdeal.sig) → Buf (Elt Ideal) ℓ) : Prop :=
  True

def Pre_AdamMixNormRefIdeal (m : (ℓ : Loc Cert.AdamMixNormRefIdeal.nD Cert.AdamMixNormRefIdeal.τ Cert.AdamMixNormRefIdeal.sig) → Buf (Elt Ideal) ℓ) : Prop :=
  True

def Pre_AdamMixW (m : (ℓ : Loc Cert.AdamMixW.nD Cert.AdamMixW.τ Cert.AdamMixW.sig) → Buf (Elt Bits) ℓ) : Prop :=
  True

def Pre_AdamMixWIdeal (m : (ℓ : Loc Cert.AdamMixWIdeal.nD Cert.AdamMixWIdeal.τ Cert.AdamMixWIdeal.sig) → Buf (Elt Ideal) ℓ) : Prop :=
  True

def Pre_AdamMixWRefIdeal (m : (ℓ : Loc Cert.AdamMixWRefIdeal.nD Cert.AdamMixWRefIdeal.τ Cert.AdamMixWRefIdeal.sig) → Buf (Elt Ideal) ℓ) : Prop :=
  True

def Pre_AdamMixB (m : (ℓ : Loc Cert.AdamMixB.nD Cert.AdamMixB.τ Cert.AdamMixB.sig) → Buf (Elt Bits) ℓ) : Prop :=
  True

def Pre_AdamMixBIdeal (m : (ℓ : Loc Cert.AdamMixBIdeal.nD Cert.AdamMixBIdeal.τ Cert.AdamMixBIdeal.sig) → Buf (Elt Ideal) ℓ) : Prop :=
  True

def Pre_AdamMixBRefIdeal (m : (ℓ : Loc Cert.AdamMixBRefIdeal.nD Cert.AdamMixBRefIdeal.τ Cert.AdamMixBRefIdeal.sig) → Buf (Elt Ideal) ℓ) : Prop :=
  True

def Pre_AdamMixOut (m : (ℓ : Loc Cert.AdamMixOut.nD Cert.AdamMixOut.τ Cert.AdamMixOut.sig) → Buf (Elt Bits) ℓ) : Prop :=
  True

def Pre_AdamMixOutIdeal (m : (ℓ : Loc Cert.AdamMixOutIdeal.nD Cert.AdamMixOutIdeal.τ Cert.AdamMixOutIdeal.sig) → Buf (Elt Ideal) ℓ) : Prop :=
  True

def Pre_AdamMixOutRefIdeal (m : (ℓ : Loc Cert.AdamMixOutRefIdeal.nD Cert.AdamMixOutRefIdeal.τ Cert.AdamMixOutRefIdeal.sig) → Buf (Elt Ideal) ℓ) : Prop :=
  True

def Pre_AdaDw (m : (ℓ : Loc Cert.AdaDw.nD Cert.AdaDw.τ Cert.AdaDw.sig) → Buf (Elt Bits) ℓ) : Prop :=
  True

def Pre_AdaDwIdeal (m : (ℓ : Loc Cert.AdaDwIdeal.nD Cert.AdaDwIdeal.τ Cert.AdaDwIdeal.sig) → Buf (Elt Ideal) ℓ) : Prop :=
  True

def Pre_AdaDwRefIdeal (m : (ℓ : Loc Cert.AdaDwRefIdeal.nD Cert.AdaDwRefIdeal.τ Cert.AdaDwRefIdeal.sig) → Buf (Elt Ideal) ℓ) : Prop :=
  True

def Pre_CtxCond (m : (ℓ : Loc Cert.CtxCond.nD Cert.CtxCond.τ Cert.CtxCond.sig) → Buf (Elt Bits) ℓ) : Prop :=
  True

def Pre_CtxCondIdeal (m : (ℓ : Loc Cert.CtxCondIdeal.nD Cert.CtxCondIdeal.τ Cert.CtxCondIdeal.sig) → Buf (Elt Ideal) ℓ) : Prop :=
  True

def Pre_CtxCondRefIdeal (m : (ℓ : Loc Cert.CtxCondRefIdeal.nD Cert.CtxCondRefIdeal.τ Cert.CtxCondRefIdeal.sig) → Buf (Elt Ideal) ℓ) : Prop :=
  True

def Pre_SumFfnUp (m : (ℓ : Loc Cert.SumFfnUp.nD Cert.SumFfnUp.τ Cert.SumFfnUp.sig) → Buf (Elt Bits) ℓ) : Prop :=
  True

def Pre_SumFfnUpIdeal (m : (ℓ : Loc Cert.SumFfnUpIdeal.nD Cert.SumFfnUpIdeal.τ Cert.SumFfnUpIdeal.sig) → Buf (Elt Ideal) ℓ) : Prop :=
  True

def Pre_SumFfnUpRefIdeal (m : (ℓ : Loc Cert.SumFfnUpRefIdeal.nD Cert.SumFfnUpRefIdeal.τ Cert.SumFfnUpRefIdeal.sig) → Buf (Elt Ideal) ℓ) : Prop :=
  True

def Pre_SumFfnDown (m : (ℓ : Loc Cert.SumFfnDown.nD Cert.SumFfnDown.τ Cert.SumFfnDown.sig) → Buf (Elt Bits) ℓ) : Prop :=
  True

def Pre_SumFfnDownIdeal (m : (ℓ : Loc Cert.SumFfnDownIdeal.nD Cert.SumFfnDownIdeal.τ Cert.SumFfnDownIdeal.sig) → Buf (Elt Ideal) ℓ) : Prop :=
  True

def Pre_SumFfnDownRefIdeal (m : (ℓ : Loc Cert.SumFfnDownRefIdeal.nD Cert.SumFfnDownRefIdeal.τ Cert.SumFfnDownRefIdeal.sig) → Buf (Elt Ideal) ℓ) : Prop :=
  True

def Pre_SumPoolW (m : (ℓ : Loc Cert.SumPoolW.nD Cert.SumPoolW.τ Cert.SumPoolW.sig) → Buf (Elt Bits) ℓ) : Prop :=
  True

def Pre_SumPoolWIdeal (m : (ℓ : Loc Cert.SumPoolWIdeal.nD Cert.SumPoolWIdeal.τ Cert.SumPoolWIdeal.sig) → Buf (Elt Ideal) ℓ) : Prop :=
  True

def Pre_SumPoolWRefIdeal (m : (ℓ : Loc Cert.SumPoolWRefIdeal.nD Cert.SumPoolWRefIdeal.τ Cert.SumPoolWRefIdeal.sig) → Buf (Elt Ideal) ℓ) : Prop :=
  True

def Pre_SumQkv (m : (ℓ : Loc Cert.SumQkv.nD Cert.SumQkv.τ Cert.SumQkv.sig) → Buf (Elt Bits) ℓ) : Prop :=
  True

def Pre_SumQkvIdeal (m : (ℓ : Loc Cert.SumQkvIdeal.nD Cert.SumQkvIdeal.τ Cert.SumQkvIdeal.sig) → Buf (Elt Ideal) ℓ) : Prop :=
  True

def Pre_SumQkvRefIdeal (m : (ℓ : Loc Cert.SumQkvRefIdeal.nD Cert.SumQkvRefIdeal.τ Cert.SumQkvRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_SumMixIn (m : (ℓ : Loc Cert.SumMixIn.nD Cert.SumMixIn.τ Cert.SumMixIn.sig) → Buf (Elt Bits) ℓ) : Prop :=
  True

def Pre_SumMixInIdeal (m : (ℓ : Loc Cert.SumMixInIdeal.nD Cert.SumMixInIdeal.τ Cert.SumMixInIdeal.sig) → Buf (Elt Ideal) ℓ) : Prop :=
  True

def Pre_SumMixInRefIdeal (m : (ℓ : Loc Cert.SumMixInRefIdeal.nD Cert.SumMixInRefIdeal.τ Cert.SumMixInRefIdeal.sig) → Buf (Elt Ideal) ℓ) : Prop :=
  True

def Pre_SumMixOut (m : (ℓ : Loc Cert.SumMixOut.nD Cert.SumMixOut.τ Cert.SumMixOut.sig) → Buf (Elt Bits) ℓ) : Prop :=
  True

def Pre_SumMixOutIdeal (m : (ℓ : Loc Cert.SumMixOutIdeal.nD Cert.SumMixOutIdeal.τ Cert.SumMixOutIdeal.sig) → Buf (Elt Ideal) ℓ) : Prop :=
  True

def Pre_SumMixOutRefIdeal (m : (ℓ : Loc Cert.SumMixOutRefIdeal.nD Cert.SumMixOutRefIdeal.τ Cert.SumMixOutRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_SumCond (m : (ℓ : Loc Cert.SumCond.nD Cert.SumCond.τ Cert.SumCond.sig) → Buf (Elt Bits) ℓ) : Prop :=
  True

def Pre_SumCondIdeal (m : (ℓ : Loc Cert.SumCondIdeal.nD Cert.SumCondIdeal.τ Cert.SumCondIdeal.sig) → Buf (Elt Ideal) ℓ) : Prop :=
  True

def Pre_SumCondRefIdeal (m : (ℓ : Loc Cert.SumCondRefIdeal.nD Cert.SumCondRefIdeal.τ Cert.SumCondRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2))
      ∧ r.2.sem = fun _ => 0)

def quiescent_UpDxV [hUpDxV : Cert.UpDxV.Facts] : Prop :=
  ∀ (m : (ℓ : Loc Cert.UpDxV.nD Cert.UpDxV.τ Cert.UpDxV.sig) → Buf (Elt Bits) ℓ) (g : Dev Cert.UpDxV.nD → PrngReg), Pre_UpDxV m →
    θ_run (Cert.UpDxV.defs (F := Bits)) (onTc (τ := Cert.UpDxV.τ) (Cert.UpDxV.main (F := Bits))) ⟨m, fun _ => 0, g⟩ (fun r => (∀ c : Dev Cert.UpDxV.nD,
      r.2.mem ((c.tc : Thread Cert.UpDxV.nD Cert.UpDxV.τ).loc Cert.UpDxV.main_arg0) = m ((c.tc : Thread Cert.UpDxV.nD Cert.UpDxV.τ).loc Cert.UpDxV.main_arg0)
      ∧ r.2.mem ((c.tc : Thread Cert.UpDxV.nD Cert.UpDxV.τ).loc Cert.UpDxV.main_arg1) = m ((c.tc : Thread Cert.UpDxV.nD Cert.UpDxV.τ).loc Cert.UpDxV.main_arg1)
      ∧ r.2.mem ((c.tc : Thread Cert.UpDxV.nD Cert.UpDxV.τ).loc Cert.UpDxV.main_arg2) = m ((c.tc : Thread Cert.UpDxV.nD Cert.UpDxV.τ).loc Cert.UpDxV.main_arg2))
      ∧ r.2.sem = fun _ => 0)

def quiescent_UpDxVIdeal [hUpDxVIdeal : Cert.UpDxVIdeal.Facts] : Prop :=
  ∀ (m : (ℓ : Loc Cert.UpDxVIdeal.nD Cert.UpDxVIdeal.τ Cert.UpDxVIdeal.sig) → Buf (Elt Ideal) ℓ) (g : Dev Cert.UpDxVIdeal.nD → PrngReg), Pre_UpDxVIdeal m →
    θ_run (Cert.UpDxVIdeal.defs (F := Ideal)) (onTc (τ := Cert.UpDxVIdeal.τ) (Cert.UpDxVIdeal.main (F := Ideal))) ⟨m, fun _ => 0, g⟩ (fun r => (∀ c : Dev Cert.UpDxVIdeal.nD,
      r.2.mem ((c.tc : Thread Cert.UpDxVIdeal.nD Cert.UpDxVIdeal.τ).loc Cert.UpDxVIdeal.main_arg0) = m ((c.tc : Thread Cert.UpDxVIdeal.nD Cert.UpDxVIdeal.τ).loc Cert.UpDxVIdeal.main_arg0)
      ∧ r.2.mem ((c.tc : Thread Cert.UpDxVIdeal.nD Cert.UpDxVIdeal.τ).loc Cert.UpDxVIdeal.main_arg1) = m ((c.tc : Thread Cert.UpDxVIdeal.nD Cert.UpDxVIdeal.τ).loc Cert.UpDxVIdeal.main_arg1)
      ∧ r.2.mem ((c.tc : Thread Cert.UpDxVIdeal.nD Cert.UpDxVIdeal.τ).loc Cert.UpDxVIdeal.main_arg2) = m ((c.tc : Thread Cert.UpDxVIdeal.nD Cert.UpDxVIdeal.τ).loc Cert.UpDxVIdeal.main_arg2))
      ∧ r.2.sem = fun _ => 0)

def quiescent_UpDxVRefIdeal [hUpDxVRefIdeal : Cert.UpDxVRefIdeal.Facts] : Prop :=
  ∀ (m : (ℓ : Loc Cert.UpDxVRefIdeal.nD Cert.UpDxVRefIdeal.τ Cert.UpDxVRefIdeal.sig) → Buf (Elt Ideal) ℓ) (g : Dev Cert.UpDxVRefIdeal.nD → PrngReg), Pre_UpDxVRefIdeal m →
    θ_run (Cert.UpDxVRefIdeal.defs (F := Ideal)) (onTc (τ := Cert.UpDxVRefIdeal.τ) (Cert.UpDxVRefIdeal.main (F := Ideal))) ⟨m, fun _ => 0, g⟩ (fun r => (∀ c : Dev Cert.UpDxVRefIdeal.nD,
      r.2.mem ((c.tc : Thread Cert.UpDxVRefIdeal.nD Cert.UpDxVRefIdeal.τ).loc Cert.UpDxVRefIdeal.main_arg0) = m ((c.tc : Thread Cert.UpDxVRefIdeal.nD Cert.UpDxVRefIdeal.τ).loc Cert.UpDxVRefIdeal.main_arg0)
      ∧ r.2.mem ((c.tc : Thread Cert.UpDxVRefIdeal.nD Cert.UpDxVRefIdeal.τ).loc Cert.UpDxVRefIdeal.main_arg1) = m ((c.tc : Thread Cert.UpDxVRefIdeal.nD Cert.UpDxVRefIdeal.τ).loc Cert.UpDxVRefIdeal.main_arg1)
      ∧ r.2.mem ((c.tc : Thread Cert.UpDxVRefIdeal.nD Cert.UpDxVRefIdeal.τ).loc Cert.UpDxVRefIdeal.main_arg2) = m ((c.tc : Thread Cert.UpDxVRefIdeal.nD Cert.UpDxVRefIdeal.τ).loc Cert.UpDxVRefIdeal.main_arg2))
      ∧ r.2.sem = fun _ => 0)

def quiescent_UpDxG [hUpDxG : Cert.UpDxG.Facts] : Prop :=
  ∀ (m : (ℓ : Loc Cert.UpDxG.nD Cert.UpDxG.τ Cert.UpDxG.sig) → Buf (Elt Bits) ℓ) (g : Dev Cert.UpDxG.nD → PrngReg), Pre_UpDxG m →
    θ_run (Cert.UpDxG.defs (F := Bits)) (onTc (τ := Cert.UpDxG.τ) (Cert.UpDxG.main (F := Bits))) ⟨m, fun _ => 0, g⟩ (fun r => (∀ c : Dev Cert.UpDxG.nD,
      r.2.mem ((c.tc : Thread Cert.UpDxG.nD Cert.UpDxG.τ).loc Cert.UpDxG.main_arg0) = m ((c.tc : Thread Cert.UpDxG.nD Cert.UpDxG.τ).loc Cert.UpDxG.main_arg0)
      ∧ r.2.mem ((c.tc : Thread Cert.UpDxG.nD Cert.UpDxG.τ).loc Cert.UpDxG.main_arg1) = m ((c.tc : Thread Cert.UpDxG.nD Cert.UpDxG.τ).loc Cert.UpDxG.main_arg1)
      ∧ r.2.mem ((c.tc : Thread Cert.UpDxG.nD Cert.UpDxG.τ).loc Cert.UpDxG.main_arg2) = m ((c.tc : Thread Cert.UpDxG.nD Cert.UpDxG.τ).loc Cert.UpDxG.main_arg2))
      ∧ r.2.sem = fun _ => 0)

def quiescent_UpDxGIdeal [hUpDxGIdeal : Cert.UpDxGIdeal.Facts] : Prop :=
  ∀ (m : (ℓ : Loc Cert.UpDxGIdeal.nD Cert.UpDxGIdeal.τ Cert.UpDxGIdeal.sig) → Buf (Elt Ideal) ℓ) (g : Dev Cert.UpDxGIdeal.nD → PrngReg), Pre_UpDxGIdeal m →
    θ_run (Cert.UpDxGIdeal.defs (F := Ideal)) (onTc (τ := Cert.UpDxGIdeal.τ) (Cert.UpDxGIdeal.main (F := Ideal))) ⟨m, fun _ => 0, g⟩ (fun r => (∀ c : Dev Cert.UpDxGIdeal.nD,
      r.2.mem ((c.tc : Thread Cert.UpDxGIdeal.nD Cert.UpDxGIdeal.τ).loc Cert.UpDxGIdeal.main_arg0) = m ((c.tc : Thread Cert.UpDxGIdeal.nD Cert.UpDxGIdeal.τ).loc Cert.UpDxGIdeal.main_arg0)
      ∧ r.2.mem ((c.tc : Thread Cert.UpDxGIdeal.nD Cert.UpDxGIdeal.τ).loc Cert.UpDxGIdeal.main_arg1) = m ((c.tc : Thread Cert.UpDxGIdeal.nD Cert.UpDxGIdeal.τ).loc Cert.UpDxGIdeal.main_arg1)
      ∧ r.2.mem ((c.tc : Thread Cert.UpDxGIdeal.nD Cert.UpDxGIdeal.τ).loc Cert.UpDxGIdeal.main_arg2) = m ((c.tc : Thread Cert.UpDxGIdeal.nD Cert.UpDxGIdeal.τ).loc Cert.UpDxGIdeal.main_arg2))
      ∧ r.2.sem = fun _ => 0)

def quiescent_UpDxGRefIdeal [hUpDxGRefIdeal : Cert.UpDxGRefIdeal.Facts] : Prop :=
  ∀ (m : (ℓ : Loc Cert.UpDxGRefIdeal.nD Cert.UpDxGRefIdeal.τ Cert.UpDxGRefIdeal.sig) → Buf (Elt Ideal) ℓ) (g : Dev Cert.UpDxGRefIdeal.nD → PrngReg), Pre_UpDxGRefIdeal m →
    θ_run (Cert.UpDxGRefIdeal.defs (F := Ideal)) (onTc (τ := Cert.UpDxGRefIdeal.τ) (Cert.UpDxGRefIdeal.main (F := Ideal))) ⟨m, fun _ => 0, g⟩ (fun r => (∀ c : Dev Cert.UpDxGRefIdeal.nD,
      r.2.mem ((c.tc : Thread Cert.UpDxGRefIdeal.nD Cert.UpDxGRefIdeal.τ).loc Cert.UpDxGRefIdeal.main_arg0) = m ((c.tc : Thread Cert.UpDxGRefIdeal.nD Cert.UpDxGRefIdeal.τ).loc Cert.UpDxGRefIdeal.main_arg0)
      ∧ r.2.mem ((c.tc : Thread Cert.UpDxGRefIdeal.nD Cert.UpDxGRefIdeal.τ).loc Cert.UpDxGRefIdeal.main_arg1) = m ((c.tc : Thread Cert.UpDxGRefIdeal.nD Cert.UpDxGRefIdeal.τ).loc Cert.UpDxGRefIdeal.main_arg1)
      ∧ r.2.mem ((c.tc : Thread Cert.UpDxGRefIdeal.nD Cert.UpDxGRefIdeal.τ).loc Cert.UpDxGRefIdeal.main_arg2) = m ((c.tc : Thread Cert.UpDxGRefIdeal.nD Cert.UpDxGRefIdeal.τ).loc Cert.UpDxGRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_QkvDw [hQkvDw : Cert.QkvDw.Facts] : Prop :=
  ∀ (m : (ℓ : Loc Cert.QkvDw.nD Cert.QkvDw.τ Cert.QkvDw.sig) → Buf (Elt Bits) ℓ) (g : Dev Cert.QkvDw.nD → PrngReg), Pre_QkvDw m →
    θ_run (Cert.QkvDw.defs (F := Bits)) (onTc (τ := Cert.QkvDw.τ) (Cert.QkvDw.main (F := Bits))) ⟨m, fun _ => 0, g⟩ (fun r => (∀ c : Dev Cert.QkvDw.nD,
      r.2.mem ((c.tc : Thread Cert.QkvDw.nD Cert.QkvDw.τ).loc Cert.QkvDw.main_arg0) = m ((c.tc : Thread Cert.QkvDw.nD Cert.QkvDw.τ).loc Cert.QkvDw.main_arg0)
      ∧ r.2.mem ((c.tc : Thread Cert.QkvDw.nD Cert.QkvDw.τ).loc Cert.QkvDw.main_arg1) = m ((c.tc : Thread Cert.QkvDw.nD Cert.QkvDw.τ).loc Cert.QkvDw.main_arg1)
      ∧ r.2.mem ((c.tc : Thread Cert.QkvDw.nD Cert.QkvDw.τ).loc Cert.QkvDw.main_arg2) = m ((c.tc : Thread Cert.QkvDw.nD Cert.QkvDw.τ).loc Cert.QkvDw.main_arg2))
      ∧ r.2.sem = fun _ => 0)

def quiescent_QkvDwIdeal [hQkvDwIdeal : Cert.QkvDwIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg), Pre_QkvDwIdeal m →
    θ_run (Cert.QkvDwIdeal.defs (F := Ideal)) (onTc (τ := Cert.QkvDwIdeal.τ) (Cert.QkvDwIdeal.main (F := Ideal))) ⟨m, fun _ => 0, g⟩ (fun r => (∀ c : Dev Cert.QkvDwIdeal.nD,
      r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
      ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1)
      ∧ r.2.mem ((c.tc : Thread Cert.QkvDwIdeal.nD Cert.QkvDwIdeal.τ).loc Cert.QkvDwIdeal.main_arg2) = m ((c.tc : Thread Cert.QkvDwIdeal.nD Cert.QkvDwIdeal.τ).loc Cert.QkvDwIdeal.main_arg2))
      ∧ r.2.sem = fun _ => 0)

def quiescent_QkvDwRefIdeal [hQkvDwRefIdeal : Cert.QkvDwRefIdeal.Facts] : Prop :=
  ∀ (m : (ℓ : Loc Cert.QkvDwRefIdeal.nD Cert.QkvDwRefIdeal.τ Cert.QkvDwRefIdeal.sig) → Buf (Elt Ideal) ℓ) (g : Dev Cert.QkvDwRefIdeal.nD → PrngReg), Pre_QkvDwRefIdeal m →
    θ_run (Cert.QkvDwRefIdeal.defs (F := Ideal)) (onTc (τ := Cert.QkvDwRefIdeal.τ) (Cert.QkvDwRefIdeal.main (F := Ideal))) ⟨m, fun _ => 0, g⟩ (fun r => (∀ c : Dev Cert.QkvDwRefIdeal.nD,
      r.2.mem ((c.tc : Thread Cert.QkvDwRefIdeal.nD Cert.QkvDwRefIdeal.τ).loc Cert.QkvDwRefIdeal.main_arg0) = m ((c.tc : Thread Cert.QkvDwRefIdeal.nD Cert.QkvDwRefIdeal.τ).loc Cert.QkvDwRefIdeal.main_arg0)
      ∧ r.2.mem ((c.tc : Thread Cert.QkvDwRefIdeal.nD Cert.QkvDwRefIdeal.τ).loc Cert.QkvDwRefIdeal.main_arg1) = m ((c.tc : Thread Cert.QkvDwRefIdeal.nD Cert.QkvDwRefIdeal.τ).loc Cert.QkvDwRefIdeal.main_arg1)
      ∧ r.2.mem ((c.tc : Thread Cert.QkvDwRefIdeal.nD Cert.QkvDwRefIdeal.τ).loc Cert.QkvDwRefIdeal.main_arg2) = m ((c.tc : Thread Cert.QkvDwRefIdeal.nD Cert.QkvDwRefIdeal.τ).loc Cert.QkvDwRefIdeal.main_arg2))
      ∧ r.2.sem = fun _ => 0)

def quiescent_QkvDx [hQkvDx : Cert.QkvDx.Facts] : Prop :=
  ∀ (m : (ℓ : Loc Cert.QkvDx.nD Cert.QkvDx.τ Cert.QkvDx.sig) → Buf (Elt Bits) ℓ) (g : Dev Cert.QkvDx.nD → PrngReg), Pre_QkvDx m →
    θ_run (Cert.QkvDx.defs (F := Bits)) (onTc (τ := Cert.QkvDx.τ) (Cert.QkvDx.main (F := Bits))) ⟨m, fun _ => 0, g⟩ (fun r => (∀ c : Dev Cert.QkvDx.nD,
      r.2.mem ((c.tc : Thread Cert.QkvDx.nD Cert.QkvDx.τ).loc Cert.QkvDx.main_arg0) = m ((c.tc : Thread Cert.QkvDx.nD Cert.QkvDx.τ).loc Cert.QkvDx.main_arg0)
      ∧ r.2.mem ((c.tc : Thread Cert.QkvDx.nD Cert.QkvDx.τ).loc Cert.QkvDx.main_arg1) = m ((c.tc : Thread Cert.QkvDx.nD Cert.QkvDx.τ).loc Cert.QkvDx.main_arg1)
      ∧ r.2.mem ((c.tc : Thread Cert.QkvDx.nD Cert.QkvDx.τ).loc Cert.QkvDx.main_arg2) = m ((c.tc : Thread Cert.QkvDx.nD Cert.QkvDx.τ).loc Cert.QkvDx.main_arg2))
      ∧ r.2.sem = fun _ => 0)

def quiescent_QkvDxIdeal [hQkvDxIdeal : Cert.QkvDxIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg), Pre_QkvDxIdeal m →
    θ_run (Cert.QkvDxIdeal.defs (F := Ideal)) (onTc (τ := Cert.QkvDxIdeal.τ) (Cert.QkvDxIdeal.main (F := Ideal))) ⟨m, fun _ => 0, g⟩ (fun r => (∀ c : Dev Cert.QkvDxIdeal.nD,
      r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
      ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1)
      ∧ r.2.mem ((c.tc : Thread Cert.QkvDxIdeal.nD Cert.QkvDxIdeal.τ).loc Cert.QkvDxIdeal.main_arg2) = m ((c.tc : Thread Cert.QkvDxIdeal.nD Cert.QkvDxIdeal.τ).loc Cert.QkvDxIdeal.main_arg2))
      ∧ r.2.sem = fun _ => 0)

def quiescent_QkvDxRefIdeal [hQkvDxRefIdeal : Cert.QkvDxRefIdeal.Facts] : Prop :=
  ∀ (m : (ℓ : Loc Cert.QkvDxRefIdeal.nD Cert.QkvDxRefIdeal.τ Cert.QkvDxRefIdeal.sig) → Buf (Elt Ideal) ℓ) (g : Dev Cert.QkvDxRefIdeal.nD → PrngReg), Pre_QkvDxRefIdeal m →
    θ_run (Cert.QkvDxRefIdeal.defs (F := Ideal)) (onTc (τ := Cert.QkvDxRefIdeal.τ) (Cert.QkvDxRefIdeal.main (F := Ideal))) ⟨m, fun _ => 0, g⟩ (fun r => (∀ c : Dev Cert.QkvDxRefIdeal.nD,
      r.2.mem ((c.tc : Thread Cert.QkvDxRefIdeal.nD Cert.QkvDxRefIdeal.τ).loc Cert.QkvDxRefIdeal.main_arg0) = m ((c.tc : Thread Cert.QkvDxRefIdeal.nD Cert.QkvDxRefIdeal.τ).loc Cert.QkvDxRefIdeal.main_arg0)
      ∧ r.2.mem ((c.tc : Thread Cert.QkvDxRefIdeal.nD Cert.QkvDxRefIdeal.τ).loc Cert.QkvDxRefIdeal.main_arg1) = m ((c.tc : Thread Cert.QkvDxRefIdeal.nD Cert.QkvDxRefIdeal.τ).loc Cert.QkvDxRefIdeal.main_arg1)
      ∧ r.2.mem ((c.tc : Thread Cert.QkvDxRefIdeal.nD Cert.QkvDxRefIdeal.τ).loc Cert.QkvDxRefIdeal.main_arg2) = m ((c.tc : Thread Cert.QkvDxRefIdeal.nD Cert.QkvDxRefIdeal.τ).loc Cert.QkvDxRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1)
      ∧ r.2.mem ((c.tc : Thread Cert.OutDxRefIdeal.nD Cert.OutDxRefIdeal.τ).loc Cert.OutDxRefIdeal.main_arg2) = m ((c.tc : Thread Cert.OutDxRefIdeal.nD Cert.OutDxRefIdeal.τ).loc Cert.OutDxRefIdeal.main_arg2))
      ∧ r.2.sem = fun _ => 0)

def quiescent_GluDx [hGluDx : Cert.GluDx.Facts] : Prop :=
  ∀ (m : (ℓ : Loc Cert.GluDx.nD Cert.GluDx.τ Cert.GluDx.sig) → Buf (Elt Bits) ℓ) (g : Dev Cert.GluDx.nD → PrngReg), Pre_GluDx m →
    θ_run (Cert.GluDx.defs (F := Bits)) (onTc (τ := Cert.GluDx.τ) (Cert.GluDx.main (F := Bits))) ⟨m, fun _ => 0, g⟩ (fun r => (∀ c : Dev Cert.GluDx.nD,
      r.2.mem ((c.tc : Thread Cert.GluDx.nD Cert.GluDx.τ).loc Cert.GluDx.main_arg0) = m ((c.tc : Thread Cert.GluDx.nD Cert.GluDx.τ).loc Cert.GluDx.main_arg0)
      ∧ r.2.mem ((c.tc : Thread Cert.GluDx.nD Cert.GluDx.τ).loc Cert.GluDx.main_arg1) = m ((c.tc : Thread Cert.GluDx.nD Cert.GluDx.τ).loc Cert.GluDx.main_arg1)
      ∧ r.2.mem ((c.tc : Thread Cert.GluDx.nD Cert.GluDx.τ).loc Cert.GluDx.main_arg2) = m ((c.tc : Thread Cert.GluDx.nD Cert.GluDx.τ).loc Cert.GluDx.main_arg2))
      ∧ r.2.sem = fun _ => 0)

def quiescent_GluDxIdeal [hGluDxIdeal : Cert.GluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
      ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2))
      ∧ r.2.sem = fun _ => 0)

def quiescent_GluDxRefIdeal [hGluDxRefIdeal : Cert.GluDxRefIdeal.Facts] : Prop :=
  ∀ (m : (ℓ : Loc Cert.GluDxRefIdeal.nD Cert.GluDxRefIdeal.τ Cert.GluDxRefIdeal.sig) → Buf (Elt Ideal) ℓ) (g : Dev Cert.GluDxRefIdeal.nD → PrngReg), Pre_GluDxRefIdeal m →
    θ_run (Cert.GluDxRefIdeal.defs (F := Ideal)) (onTc (τ := Cert.GluDxRefIdeal.τ) (Cert.GluDxRefIdeal.main (F := Ideal))) ⟨m, fun _ => 0, g⟩ (fun r => (∀ c : Dev Cert.GluDxRefIdeal.nD,
      r.2.mem ((c.tc : Thread Cert.GluDxRefIdeal.nD Cert.GluDxRefIdeal.τ).loc Cert.GluDxRefIdeal.main_arg0) = m ((c.tc : Thread Cert.GluDxRefIdeal.nD Cert.GluDxRefIdeal.τ).loc Cert.GluDxRefIdeal.main_arg0)
      ∧ r.2.mem ((c.tc : Thread Cert.GluDxRefIdeal.nD Cert.GluDxRefIdeal.τ).loc Cert.GluDxRefIdeal.main_arg1) = m ((c.tc : Thread Cert.GluDxRefIdeal.nD Cert.GluDxRefIdeal.τ).loc Cert.GluDxRefIdeal.main_arg1)
      ∧ r.2.mem ((c.tc : Thread Cert.GluDxRefIdeal.nD Cert.GluDxRefIdeal.τ).loc Cert.GluDxRefIdeal.main_arg2) = m ((c.tc : Thread Cert.GluDxRefIdeal.nD Cert.GluDxRefIdeal.τ).loc Cert.GluDxRefIdeal.main_arg2))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_MixInDw [hMixInDw : Cert.MixInDw.Facts] : Prop :=
  ∀ (m : (ℓ : Loc Cert.MixInDw.nD Cert.MixInDw.τ Cert.MixInDw.sig) → Buf (Elt Bits) ℓ) (g : Dev Cert.MixInDw.nD → PrngReg), Pre_MixInDw m →
    θ_run (Cert.MixInDw.defs (F := Bits)) (onTc (τ := Cert.MixInDw.τ) (Cert.MixInDw.main (F := Bits))) ⟨m, fun _ => 0, g⟩ (fun r => (∀ c : Dev Cert.MixInDw.nD,
      r.2.mem ((c.tc : Thread Cert.MixInDw.nD Cert.MixInDw.τ).loc Cert.MixInDw.main_arg0) = m ((c.tc : Thread Cert.MixInDw.nD Cert.MixInDw.τ).loc Cert.MixInDw.main_arg0)
      ∧ r.2.mem ((c.tc : Thread Cert.MixInDw.nD Cert.MixInDw.τ).loc Cert.MixInDw.main_arg1) = m ((c.tc : Thread Cert.MixInDw.nD Cert.MixInDw.τ).loc Cert.MixInDw.main_arg1)
      ∧ r.2.mem ((c.tc : Thread Cert.MixInDw.nD Cert.MixInDw.τ).loc Cert.MixInDw.main_arg2) = m ((c.tc : Thread Cert.MixInDw.nD Cert.MixInDw.τ).loc Cert.MixInDw.main_arg2))
      ∧ r.2.sem = fun _ => 0)

def quiescent_MixInDwIdeal [hMixInDwIdeal : Cert.MixInDwIdeal.Facts] : Prop :=
  ∀ (m : (ℓ : Loc Cert.MixInDwIdeal.nD Cert.MixInDwIdeal.τ Cert.MixInDwIdeal.sig) → Buf (Elt Ideal) ℓ) (g : Dev Cert.MixInDwIdeal.nD → PrngReg), Pre_MixInDwIdeal m →
    θ_run (Cert.MixInDwIdeal.defs (F := Ideal)) (onTc (τ := Cert.MixInDwIdeal.τ) (Cert.MixInDwIdeal.main (F := Ideal))) ⟨m, fun _ => 0, g⟩ (fun r => (∀ c : Dev Cert.MixInDwIdeal.nD,
      r.2.mem ((c.tc : Thread Cert.MixInDwIdeal.nD Cert.MixInDwIdeal.τ).loc Cert.MixInDwIdeal.main_arg0) = m ((c.tc : Thread Cert.MixInDwIdeal.nD Cert.MixInDwIdeal.τ).loc Cert.MixInDwIdeal.main_arg0)
      ∧ r.2.mem ((c.tc : Thread Cert.MixInDwIdeal.nD Cert.MixInDwIdeal.τ).loc Cert.MixInDwIdeal.main_arg1) = m ((c.tc : Thread Cert.MixInDwIdeal.nD Cert.MixInDwIdeal.τ).loc Cert.MixInDwIdeal.main_arg1)
      ∧ r.2.mem ((c.tc : Thread Cert.MixInDwIdeal.nD Cert.MixInDwIdeal.τ).loc Cert.MixInDwIdeal.main_arg2) = m ((c.tc : Thread Cert.MixInDwIdeal.nD Cert.MixInDwIdeal.τ).loc Cert.MixInDwIdeal.main_arg2))
      ∧ r.2.sem = fun _ => 0)

def quiescent_MixInDwRefIdeal [hMixInDwRefIdeal : Cert.MixInDwRefIdeal.Facts] : Prop :=
  ∀ (m : (ℓ : Loc Cert.MixInDwRefIdeal.nD Cert.MixInDwRefIdeal.τ Cert.MixInDwRefIdeal.sig) → Buf (Elt Ideal) ℓ) (g : Dev Cert.MixInDwRefIdeal.nD → PrngReg), Pre_MixInDwRefIdeal m →
    θ_run (Cert.MixInDwRefIdeal.defs (F := Ideal)) (onTc (τ := Cert.MixInDwRefIdeal.τ) (Cert.MixInDwRefIdeal.main (F := Ideal))) ⟨m, fun _ => 0, g⟩ (fun r => (∀ c : Dev Cert.MixInDwRefIdeal.nD,
      r.2.mem ((c.tc : Thread Cert.MixInDwRefIdeal.nD Cert.MixInDwRefIdeal.τ).loc Cert.MixInDwRefIdeal.main_arg0) = m ((c.tc : Thread Cert.MixInDwRefIdeal.nD Cert.MixInDwRefIdeal.τ).loc Cert.MixInDwRefIdeal.main_arg0)
      ∧ r.2.mem ((c.tc : Thread Cert.MixInDwRefIdeal.nD Cert.MixInDwRefIdeal.τ).loc Cert.MixInDwRefIdeal.main_arg1) = m ((c.tc : Thread Cert.MixInDwRefIdeal.nD Cert.MixInDwRefIdeal.τ).loc Cert.MixInDwRefIdeal.main_arg1)
      ∧ r.2.mem ((c.tc : Thread Cert.MixInDwRefIdeal.nD Cert.MixInDwRefIdeal.τ).loc Cert.MixInDwRefIdeal.main_arg2) = m ((c.tc : Thread Cert.MixInDwRefIdeal.nD Cert.MixInDwRefIdeal.τ).loc Cert.MixInDwRefIdeal.main_arg2))
      ∧ r.2.sem = fun _ => 0)

def quiescent_MixInDx [hMixInDx : Cert.MixInDx.Facts] : Prop :=
  ∀ (m : (ℓ : Loc Cert.MixInDx.nD Cert.MixInDx.τ Cert.MixInDx.sig) → Buf (Elt Bits) ℓ) (g : Dev Cert.MixInDx.nD → PrngReg), Pre_MixInDx m →
    θ_run (Cert.MixInDx.defs (F := Bits)) (onTc (τ := Cert.MixInDx.τ) (Cert.MixInDx.main (F := Bits))) ⟨m, fun _ => 0, g⟩ (fun r => (∀ c : Dev Cert.MixInDx.nD,
      r.2.mem ((c.tc : Thread Cert.MixInDx.nD Cert.MixInDx.τ).loc Cert.MixInDx.main_arg0) = m ((c.tc : Thread Cert.MixInDx.nD Cert.MixInDx.τ).loc Cert.MixInDx.main_arg0)
      ∧ r.2.mem ((c.tc : Thread Cert.MixInDx.nD Cert.MixInDx.τ).loc Cert.MixInDx.main_arg1) = m ((c.tc : Thread Cert.MixInDx.nD Cert.MixInDx.τ).loc Cert.MixInDx.main_arg1)
      ∧ r.2.mem ((c.tc : Thread Cert.MixInDx.nD Cert.MixInDx.τ).loc Cert.MixInDx.main_arg2) = m ((c.tc : Thread Cert.MixInDx.nD Cert.MixInDx.τ).loc Cert.MixInDx.main_arg2))
      ∧ r.2.sem = fun _ => 0)

def quiescent_MixInDxIdeal [hMixInDxIdeal : Cert.MixInDxIdeal.Facts] : Prop :=
  ∀ (m : (ℓ : Loc Cert.MixInDxIdeal.nD Cert.MixInDxIdeal.τ Cert.MixInDxIdeal.sig) → Buf (Elt Ideal) ℓ) (g : Dev Cert.MixInDxIdeal.nD → PrngReg), Pre_MixInDxIdeal m →
    θ_run (Cert.MixInDxIdeal.defs (F := Ideal)) (onTc (τ := Cert.MixInDxIdeal.τ) (Cert.MixInDxIdeal.main (F := Ideal))) ⟨m, fun _ => 0, g⟩ (fun r => (∀ c : Dev Cert.MixInDxIdeal.nD,
      r.2.mem ((c.tc : Thread Cert.MixInDxIdeal.nD Cert.MixInDxIdeal.τ).loc Cert.MixInDxIdeal.main_arg0) = m ((c.tc : Thread Cert.MixInDxIdeal.nD Cert.MixInDxIdeal.τ).loc Cert.MixInDxIdeal.main_arg0)
      ∧ r.2.mem ((c.tc : Thread Cert.MixInDxIdeal.nD Cert.MixInDxIdeal.τ).loc Cert.MixInDxIdeal.main_arg1) = m ((c.tc : Thread Cert.MixInDxIdeal.nD Cert.MixInDxIdeal.τ).loc Cert.MixInDxIdeal.main_arg1)
      ∧ r.2.mem ((c.tc : Thread Cert.MixInDxIdeal.nD Cert.MixInDxIdeal.τ).loc Cert.MixInDxIdeal.main_arg2) = m ((c.tc : Thread Cert.MixInDxIdeal.nD Cert.MixInDxIdeal.τ).loc Cert.MixInDxIdeal.main_arg2))
      ∧ r.2.sem = fun _ => 0)

def quiescent_MixInDxRefIdeal [hMixInDxRefIdeal : Cert.MixInDxRefIdeal.Facts] : Prop :=
  ∀ (m : (ℓ : Loc Cert.MixInDxRefIdeal.nD Cert.MixInDxRefIdeal.τ Cert.MixInDxRefIdeal.sig) → Buf (Elt Ideal) ℓ) (g : Dev Cert.MixInDxRefIdeal.nD → PrngReg), Pre_MixInDxRefIdeal m →
    θ_run (Cert.MixInDxRefIdeal.defs (F := Ideal)) (onTc (τ := Cert.MixInDxRefIdeal.τ) (Cert.MixInDxRefIdeal.main (F := Ideal))) ⟨m, fun _ => 0, g⟩ (fun r => (∀ c : Dev Cert.MixInDxRefIdeal.nD,
      r.2.mem ((c.tc : Thread Cert.MixInDxRefIdeal.nD Cert.MixInDxRefIdeal.τ).loc Cert.MixInDxRefIdeal.main_arg0) = m ((c.tc : Thread Cert.MixInDxRefIdeal.nD Cert.MixInDxRefIdeal.τ).loc Cert.MixInDxRefIdeal.main_arg0)
      ∧ r.2.mem ((c.tc : Thread Cert.MixInDxRefIdeal.nD Cert.MixInDxRefIdeal.τ).loc Cert.MixInDxRefIdeal.main_arg1) = m ((c.tc : Thread Cert.MixInDxRefIdeal.nD Cert.MixInDxRefIdeal.τ).loc Cert.MixInDxRefIdeal.main_arg1)
      ∧ r.2.mem ((c.tc : Thread Cert.MixInDxRefIdeal.nD Cert.MixInDxRefIdeal.τ).loc Cert.MixInDxRefIdeal.main_arg2) = m ((c.tc : Thread Cert.MixInDxRefIdeal.nD Cert.MixInDxRefIdeal.τ).loc Cert.MixInDxRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_MixOutDw [hMixOutDw : Cert.MixOutDw.Facts] : Prop :=
  ∀ (m : (ℓ : Loc Cert.MixOutDw.nD Cert.MixOutDw.τ Cert.MixOutDw.sig) → Buf (Elt Bits) ℓ) (g : Dev Cert.MixOutDw.nD → PrngReg), Pre_MixOutDw m →
    θ_run (Cert.MixOutDw.defs (F := Bits)) (onTc (τ := Cert.MixOutDw.τ) (Cert.MixOutDw.main (F := Bits))) ⟨m, fun _ => 0, g⟩ (fun r => (∀ c : Dev Cert.MixOutDw.nD,
      r.2.mem ((c.tc : Thread Cert.MixOutDw.nD Cert.MixOutDw.τ).loc Cert.MixOutDw.main_arg0) = m ((c.tc : Thread Cert.MixOutDw.nD Cert.MixOutDw.τ).loc Cert.MixOutDw.main_arg0)
      ∧ r.2.mem ((c.tc : Thread Cert.MixOutDw.nD Cert.MixOutDw.τ).loc Cert.MixOutDw.main_arg1) = m ((c.tc : Thread Cert.MixOutDw.nD Cert.MixOutDw.τ).loc Cert.MixOutDw.main_arg1)
      ∧ r.2.mem ((c.tc : Thread Cert.MixOutDw.nD Cert.MixOutDw.τ).loc Cert.MixOutDw.main_arg2) = m ((c.tc : Thread Cert.MixOutDw.nD Cert.MixOutDw.τ).loc Cert.MixOutDw.main_arg2))
      ∧ r.2.sem = fun _ => 0)

def quiescent_MixOutDwIdeal [hMixOutDwIdeal : Cert.MixOutDwIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg), Pre_MixOutDwIdeal m →
    θ_run (Cert.MixOutDwIdeal.defs (F := Ideal)) (onTc (τ := Cert.MixOutDwIdeal.τ) (Cert.MixOutDwIdeal.main (F := Ideal))) ⟨m, fun _ => 0, g⟩ (fun r => (∀ c : Dev Cert.MixOutDwIdeal.nD,
      r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
      ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1)
      ∧ r.2.mem ((c.tc : Thread Cert.MixOutDwIdeal.nD Cert.MixOutDwIdeal.τ).loc Cert.MixOutDwIdeal.main_arg2) = m ((c.tc : Thread Cert.MixOutDwIdeal.nD Cert.MixOutDwIdeal.τ).loc Cert.MixOutDwIdeal.main_arg2))
      ∧ r.2.sem = fun _ => 0)

def quiescent_MixOutDwRefIdeal [hMixOutDwRefIdeal : Cert.MixOutDwRefIdeal.Facts] : Prop :=
  ∀ (m : (ℓ : Loc Cert.MixOutDwRefIdeal.nD Cert.MixOutDwRefIdeal.τ Cert.MixOutDwRefIdeal.sig) → Buf (Elt Ideal) ℓ) (g : Dev Cert.MixOutDwRefIdeal.nD → PrngReg), Pre_MixOutDwRefIdeal m →
    θ_run (Cert.MixOutDwRefIdeal.defs (F := Ideal)) (onTc (τ := Cert.MixOutDwRefIdeal.τ) (Cert.MixOutDwRefIdeal.main (F := Ideal))) ⟨m, fun _ => 0, g⟩ (fun r => (∀ c : Dev Cert.MixOutDwRefIdeal.nD,
      r.2.mem ((c.tc : Thread Cert.MixOutDwRefIdeal.nD Cert.MixOutDwRefIdeal.τ).loc Cert.MixOutDwRefIdeal.main_arg0) = m ((c.tc : Thread Cert.MixOutDwRefIdeal.nD Cert.MixOutDwRefIdeal.τ).loc Cert.MixOutDwRefIdeal.main_arg0)
      ∧ r.2.mem ((c.tc : Thread Cert.MixOutDwRefIdeal.nD Cert.MixOutDwRefIdeal.τ).loc Cert.MixOutDwRefIdeal.main_arg1) = m ((c.tc : Thread Cert.MixOutDwRefIdeal.nD Cert.MixOutDwRefIdeal.τ).loc Cert.MixOutDwRefIdeal.main_arg1)
      ∧ r.2.mem ((c.tc : Thread Cert.MixOutDwRefIdeal.nD Cert.MixOutDwRefIdeal.τ).loc Cert.MixOutDwRefIdeal.main_arg2) = m ((c.tc : Thread Cert.MixOutDwRefIdeal.nD Cert.MixOutDwRefIdeal.τ).loc Cert.MixOutDwRefIdeal.main_arg2))
      ∧ r.2.sem = fun _ => 0)

def quiescent_MixOutDx [hMixOutDx : Cert.MixOutDx.Facts] : Prop :=
  ∀ (m : (ℓ : Loc Cert.MixOutDx.nD Cert.MixOutDx.τ Cert.MixOutDx.sig) → Buf (Elt Bits) ℓ) (g : Dev Cert.MixOutDx.nD → PrngReg), Pre_MixOutDx m →
    θ_run (Cert.MixOutDx.defs (F := Bits)) (onTc (τ := Cert.MixOutDx.τ) (Cert.MixOutDx.main (F := Bits))) ⟨m, fun _ => 0, g⟩ (fun r => (∀ c : Dev Cert.MixOutDx.nD,
      r.2.mem ((c.tc : Thread Cert.MixOutDx.nD Cert.MixOutDx.τ).loc Cert.MixOutDx.main_arg0) = m ((c.tc : Thread Cert.MixOutDx.nD Cert.MixOutDx.τ).loc Cert.MixOutDx.main_arg0)
      ∧ r.2.mem ((c.tc : Thread Cert.MixOutDx.nD Cert.MixOutDx.τ).loc Cert.MixOutDx.main_arg1) = m ((c.tc : Thread Cert.MixOutDx.nD Cert.MixOutDx.τ).loc Cert.MixOutDx.main_arg1)
      ∧ r.2.mem ((c.tc : Thread Cert.MixOutDx.nD Cert.MixOutDx.τ).loc Cert.MixOutDx.main_arg2) = m ((c.tc : Thread Cert.MixOutDx.nD Cert.MixOutDx.τ).loc Cert.MixOutDx.main_arg2))
      ∧ r.2.sem = fun _ => 0)

def quiescent_MixOutDxIdeal [hMixOutDxIdeal : Cert.MixOutDxIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg), Pre_MixOutDxIdeal m →
    θ_run (Cert.MixOutDxIdeal.defs (F := Ideal)) (onTc (τ := Cert.MixOutDxIdeal.τ) (Cert.MixOutDxIdeal.main (F := Ideal))) ⟨m, fun _ => 0, g⟩ (fun r => (∀ c : Dev Cert.MixOutDxIdeal.nD,
      r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
      ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1)
      ∧ r.2.mem ((c.tc : Thread Cert.MixOutDxIdeal.nD Cert.MixOutDxIdeal.τ).loc Cert.MixOutDxIdeal.main_arg2) = m ((c.tc : Thread Cert.MixOutDxIdeal.nD Cert.MixOutDxIdeal.τ).loc Cert.MixOutDxIdeal.main_arg2))
      ∧ r.2.sem = fun _ => 0)

def quiescent_MixOutDxRefIdeal [hMixOutDxRefIdeal : Cert.MixOutDxRefIdeal.Facts] : Prop :=
  ∀ (m : (ℓ : Loc Cert.MixOutDxRefIdeal.nD Cert.MixOutDxRefIdeal.τ Cert.MixOutDxRefIdeal.sig) → Buf (Elt Ideal) ℓ) (g : Dev Cert.MixOutDxRefIdeal.nD → PrngReg), Pre_MixOutDxRefIdeal m →
    θ_run (Cert.MixOutDxRefIdeal.defs (F := Ideal)) (onTc (τ := Cert.MixOutDxRefIdeal.τ) (Cert.MixOutDxRefIdeal.main (F := Ideal))) ⟨m, fun _ => 0, g⟩ (fun r => (∀ c : Dev Cert.MixOutDxRefIdeal.nD,
      r.2.mem ((c.tc : Thread Cert.MixOutDxRefIdeal.nD Cert.MixOutDxRefIdeal.τ).loc Cert.MixOutDxRefIdeal.main_arg0) = m ((c.tc : Thread Cert.MixOutDxRefIdeal.nD Cert.MixOutDxRefIdeal.τ).loc Cert.MixOutDxRefIdeal.main_arg0)
      ∧ r.2.mem ((c.tc : Thread Cert.MixOutDxRefIdeal.nD Cert.MixOutDxRefIdeal.τ).loc Cert.MixOutDxRefIdeal.main_arg1) = m ((c.tc : Thread Cert.MixOutDxRefIdeal.nD Cert.MixOutDxRefIdeal.τ).loc Cert.MixOutDxRefIdeal.main_arg1)
      ∧ r.2.mem ((c.tc : Thread Cert.MixOutDxRefIdeal.nD Cert.MixOutDxRefIdeal.τ).loc Cert.MixOutDxRefIdeal.main_arg2) = m ((c.tc : Thread Cert.MixOutDxRefIdeal.nD Cert.MixOutDxRefIdeal.τ).loc Cert.MixOutDxRefIdeal.main_arg2))
      ∧ r.2.sem = fun _ => 0)

def quiescent_AdamCCtx [hAdamCCtx : Cert.AdamCCtx.Facts] : Prop :=
  ∀ (m : (ℓ : Loc Cert.AdamCCtx.nD Cert.AdamCCtx.τ Cert.AdamCCtx.sig) → Buf (Elt Bits) ℓ) (g : Dev Cert.AdamCCtx.nD → PrngReg), Pre_AdamCCtx m →
    θ_run (Cert.AdamCCtx.defs (F := Bits)) (onTc (τ := Cert.AdamCCtx.τ) (Cert.AdamCCtx.main (F := Bits))) ⟨m, fun _ => 0, g⟩ (fun r => (∀ c : Dev Cert.AdamCCtx.nD,
      r.2.mem ((c.tc : Thread Cert.AdamCCtx.nD Cert.AdamCCtx.τ).loc Cert.AdamCCtx.main_arg0) = m ((c.tc : Thread Cert.AdamCCtx.nD Cert.AdamCCtx.τ).loc Cert.AdamCCtx.main_arg0)
      ∧ r.2.mem ((c.tc : Thread Cert.AdamCCtx.nD Cert.AdamCCtx.τ).loc Cert.AdamCCtx.main_arg1) = m ((c.tc : Thread Cert.AdamCCtx.nD Cert.AdamCCtx.τ).loc Cert.AdamCCtx.main_arg1)
      ∧ r.2.mem ((c.tc : Thread Cert.AdamCCtx.nD Cert.AdamCCtx.τ).loc Cert.AdamCCtx.main_arg2) = m ((c.tc : Thread Cert.AdamCCtx.nD Cert.AdamCCtx.τ).loc Cert.AdamCCtx.main_arg2)
      ∧ r.2.mem ((c.tc : Thread Cert.AdamCCtx.nD Cert.AdamCCtx.τ).loc Cert.AdamCCtx.main_arg3) = m ((c.tc : Thread Cert.AdamCCtx.nD Cert.AdamCCtx.τ).loc Cert.AdamCCtx.main_arg3))
      ∧ r.2.sem = fun _ => 0)

def quiescent_AdamCCtxIdeal [hAdamCCtxIdeal : Cert.AdamCCtxIdeal.Facts] : Prop :=
  ∀ (m : (ℓ : Loc Cert.AdamCCtxIdeal.nD Cert.AdamCCtxIdeal.τ Cert.AdamCCtxIdeal.sig) → Buf (Elt Ideal) ℓ) (g : Dev Cert.AdamCCtxIdeal.nD → PrngReg), Pre_AdamCCtxIdeal m →
    θ_run (Cert.AdamCCtxIdeal.defs (F := Ideal)) (onTc (τ := Cert.AdamCCtxIdeal.τ) (Cert.AdamCCtxIdeal.main (F := Ideal))) ⟨m, fun _ => 0, g⟩ (fun r => (∀ c : Dev Cert.AdamCCtxIdeal.nD,
      r.2.mem ((c.tc : Thread Cert.AdamCCtxIdeal.nD Cert.AdamCCtxIdeal.τ).loc Cert.AdamCCtxIdeal.main_arg0) = m ((c.tc : Thread Cert.AdamCCtxIdeal.nD Cert.AdamCCtxIdeal.τ).loc Cert.AdamCCtxIdeal.main_arg0)
      ∧ r.2.mem ((c.tc : Thread Cert.AdamCCtxIdeal.nD Cert.AdamCCtxIdeal.τ).loc Cert.AdamCCtxIdeal.main_arg1) = m ((c.tc : Thread Cert.AdamCCtxIdeal.nD Cert.AdamCCtxIdeal.τ).loc Cert.AdamCCtxIdeal.main_arg1)
      ∧ r.2.mem ((c.tc : Thread Cert.AdamCCtxIdeal.nD Cert.AdamCCtxIdeal.τ).loc Cert.AdamCCtxIdeal.main_arg2) = m ((c.tc : Thread Cert.AdamCCtxIdeal.nD Cert.AdamCCtxIdeal.τ).loc Cert.AdamCCtxIdeal.main_arg2)
      ∧ r.2.mem ((c.tc : Thread Cert.AdamCCtxIdeal.nD Cert.AdamCCtxIdeal.τ).loc Cert.AdamCCtxIdeal.main_arg3) = m ((c.tc : Thread Cert.AdamCCtxIdeal.nD Cert.AdamCCtxIdeal.τ).loc Cert.AdamCCtxIdeal.main_arg3))
      ∧ r.2.sem = fun _ => 0)

def quiescent_AdamCCtxRefIdeal [hAdamCCtxRefIdeal : Cert.AdamCCtxRefIdeal.Facts] : Prop :=
  ∀ (m : (ℓ : Loc Cert.AdamCCtxRefIdeal.nD Cert.AdamCCtxRefIdeal.τ Cert.AdamCCtxRefIdeal.sig) → Buf (Elt Ideal) ℓ) (g : Dev Cert.AdamCCtxRefIdeal.nD → PrngReg), Pre_AdamCCtxRefIdeal m →
    θ_run (Cert.AdamCCtxRefIdeal.defs (F := Ideal)) (onTc (τ := Cert.AdamCCtxRefIdeal.τ) (Cert.AdamCCtxRefIdeal.main (F := Ideal))) ⟨m, fun _ => 0, g⟩ (fun r => (∀ c : Dev Cert.AdamCCtxRefIdeal.nD,
      r.2.mem ((c.tc : Thread Cert.AdamCCtxRefIdeal.nD Cert.AdamCCtxRefIdeal.τ).loc Cert.AdamCCtxRefIdeal.main_arg0) = m ((c.tc : Thread Cert.AdamCCtxRefIdeal.nD Cert.AdamCCtxRefIdeal.τ).loc Cert.AdamCCtxRefIdeal.main_arg0)
      ∧ r.2.mem ((c.tc : Thread Cert.AdamCCtxRefIdeal.nD Cert.AdamCCtxRefIdeal.τ).loc Cert.AdamCCtxRefIdeal.main_arg1) = m ((c.tc : Thread Cert.AdamCCtxRefIdeal.nD Cert.AdamCCtxRefIdeal.τ).loc Cert.AdamCCtxRefIdeal.main_arg1)
      ∧ r.2.mem ((c.tc : Thread Cert.AdamCCtxRefIdeal.nD Cert.AdamCCtxRefIdeal.τ).loc Cert.AdamCCtxRefIdeal.main_arg2) = m ((c.tc : Thread Cert.AdamCCtxRefIdeal.nD Cert.AdamCCtxRefIdeal.τ).loc Cert.AdamCCtxRefIdeal.main_arg2)
      ∧ r.2.mem ((c.tc : Thread Cert.AdamCCtxRefIdeal.nD Cert.AdamCCtxRefIdeal.τ).loc Cert.AdamCCtxRefIdeal.main_arg3) = m ((c.tc : Thread Cert.AdamCCtxRefIdeal.nD Cert.AdamCCtxRefIdeal.τ).loc Cert.AdamCCtxRefIdeal.main_arg3))
      ∧ r.2.sem = fun _ => 0)

def quiescent_AdamAdaW [hAdamAdaW : Cert.AdamAdaW.Facts] : Prop :=
  ∀ (m : (ℓ : Loc Cert.AdamAdaW.nD Cert.AdamAdaW.τ Cert.AdamAdaW.sig) → Buf (Elt Bits) ℓ) (g : Dev Cert.AdamAdaW.nD → PrngReg), Pre_AdamAdaW m →
    θ_run (Cert.AdamAdaW.defs (F := Bits)) (onTc (τ := Cert.AdamAdaW.τ) (Cert.AdamAdaW.main (F := Bits))) ⟨m, fun _ => 0, g⟩ (fun r => (∀ c : Dev Cert.AdamAdaW.nD,
      r.2.mem ((c.tc : Thread Cert.AdamAdaW.nD Cert.AdamAdaW.τ).loc Cert.AdamAdaW.main_arg0) = m ((c.tc : Thread Cert.AdamAdaW.nD Cert.AdamAdaW.τ).loc Cert.AdamAdaW.main_arg0)
      ∧ r.2.mem ((c.tc : Thread Cert.AdamAdaW.nD Cert.AdamAdaW.τ).loc Cert.AdamAdaW.main_arg1) = m ((c.tc : Thread Cert.AdamAdaW.nD Cert.AdamAdaW.τ).loc Cert.AdamAdaW.main_arg1)
      ∧ r.2.mem ((c.tc : Thread Cert.AdamAdaW.nD Cert.AdamAdaW.τ).loc Cert.AdamAdaW.main_arg2) = m ((c.tc : Thread Cert.AdamAdaW.nD Cert.AdamAdaW.τ).loc Cert.AdamAdaW.main_arg2)
      ∧ r.2.mem ((c.tc : Thread Cert.AdamAdaW.nD Cert.AdamAdaW.τ).loc Cert.AdamAdaW.main_arg3) = m ((c.tc : Thread Cert.AdamAdaW.nD Cert.AdamAdaW.τ).loc Cert.AdamAdaW.main_arg3))
      ∧ r.2.sem = fun _ => 0)

def quiescent_AdamAdaWIdeal [hAdamAdaWIdeal : Cert.AdamAdaWIdeal.Facts] : Prop :=
  ∀ (m : (ℓ : Loc Cert.AdamAdaWIdeal.nD Cert.AdamAdaWIdeal.τ Cert.AdamAdaWIdeal.sig) → Buf (Elt Ideal) ℓ) (g : Dev Cert.AdamAdaWIdeal.nD → PrngReg), Pre_AdamAdaWIdeal m →
    θ_run (Cert.AdamAdaWIdeal.defs (F := Ideal)) (onTc (τ := Cert.AdamAdaWIdeal.τ) (Cert.AdamAdaWIdeal.main (F := Ideal))) ⟨m, fun _ => 0, g⟩ (fun r => (∀ c : Dev Cert.AdamAdaWIdeal.nD,
      r.2.mem ((c.tc : Thread Cert.AdamAdaWIdeal.nD Cert.AdamAdaWIdeal.τ).loc Cert.AdamAdaWIdeal.main_arg0) = m ((c.tc : Thread Cert.AdamAdaWIdeal.nD Cert.AdamAdaWIdeal.τ).loc Cert.AdamAdaWIdeal.main_arg0)
      ∧ r.2.mem ((c.tc : Thread Cert.AdamAdaWIdeal.nD Cert.AdamAdaWIdeal.τ).loc Cert.AdamAdaWIdeal.main_arg1) = m ((c.tc : Thread Cert.AdamAdaWIdeal.nD Cert.AdamAdaWIdeal.τ).loc Cert.AdamAdaWIdeal.main_arg1)
      ∧ r.2.mem ((c.tc : Thread Cert.AdamAdaWIdeal.nD Cert.AdamAdaWIdeal.τ).loc Cert.AdamAdaWIdeal.main_arg2) = m ((c.tc : Thread Cert.AdamAdaWIdeal.nD Cert.AdamAdaWIdeal.τ).loc Cert.AdamAdaWIdeal.main_arg2)
      ∧ r.2.mem ((c.tc : Thread Cert.AdamAdaWIdeal.nD Cert.AdamAdaWIdeal.τ).loc Cert.AdamAdaWIdeal.main_arg3) = m ((c.tc : Thread Cert.AdamAdaWIdeal.nD Cert.AdamAdaWIdeal.τ).loc Cert.AdamAdaWIdeal.main_arg3))
      ∧ r.2.sem = fun _ => 0)

def quiescent_AdamAdaWRefIdeal [hAdamAdaWRefIdeal : Cert.AdamAdaWRefIdeal.Facts] : Prop :=
  ∀ (m : (ℓ : Loc Cert.AdamAdaWRefIdeal.nD Cert.AdamAdaWRefIdeal.τ Cert.AdamAdaWRefIdeal.sig) → Buf (Elt Ideal) ℓ) (g : Dev Cert.AdamAdaWRefIdeal.nD → PrngReg), Pre_AdamAdaWRefIdeal m →
    θ_run (Cert.AdamAdaWRefIdeal.defs (F := Ideal)) (onTc (τ := Cert.AdamAdaWRefIdeal.τ) (Cert.AdamAdaWRefIdeal.main (F := Ideal))) ⟨m, fun _ => 0, g⟩ (fun r => (∀ c : Dev Cert.AdamAdaWRefIdeal.nD,
      r.2.mem ((c.tc : Thread Cert.AdamAdaWRefIdeal.nD Cert.AdamAdaWRefIdeal.τ).loc Cert.AdamAdaWRefIdeal.main_arg0) = m ((c.tc : Thread Cert.AdamAdaWRefIdeal.nD Cert.AdamAdaWRefIdeal.τ).loc Cert.AdamAdaWRefIdeal.main_arg0)
      ∧ r.2.mem ((c.tc : Thread Cert.AdamAdaWRefIdeal.nD Cert.AdamAdaWRefIdeal.τ).loc Cert.AdamAdaWRefIdeal.main_arg1) = m ((c.tc : Thread Cert.AdamAdaWRefIdeal.nD Cert.AdamAdaWRefIdeal.τ).loc Cert.AdamAdaWRefIdeal.main_arg1)
      ∧ r.2.mem ((c.tc : Thread Cert.AdamAdaWRefIdeal.nD Cert.AdamAdaWRefIdeal.τ).loc Cert.AdamAdaWRefIdeal.main_arg2) = m ((c.tc : Thread Cert.AdamAdaWRefIdeal.nD Cert.AdamAdaWRefIdeal.τ).loc Cert.AdamAdaWRefIdeal.main_arg2)
      ∧ r.2.mem ((c.tc : Thread Cert.AdamAdaWRefIdeal.nD Cert.AdamAdaWRefIdeal.τ).loc Cert.AdamAdaWRefIdeal.main_arg3) = m ((c.tc : Thread Cert.AdamAdaWRefIdeal.nD Cert.AdamAdaWRefIdeal.τ).loc Cert.AdamAdaWRefIdeal.main_arg3))
      ∧ r.2.sem = fun _ => 0)

def quiescent_AdamAdaB [hAdamAdaB : Cert.AdamAdaB.Facts] : Prop :=
  ∀ (m : (ℓ : Loc Cert.AdamAdaB.nD Cert.AdamAdaB.τ Cert.AdamAdaB.sig) → Buf (Elt Bits) ℓ) (g : Dev Cert.AdamAdaB.nD → PrngReg), Pre_AdamAdaB m →
    θ_run (Cert.AdamAdaB.defs (F := Bits)) (onTc (τ := Cert.AdamAdaB.τ) (Cert.AdamAdaB.main (F := Bits))) ⟨m, fun _ => 0, g⟩ (fun r => (∀ c : Dev Cert.AdamAdaB.nD,
      r.2.mem ((c.tc : Thread Cert.AdamAdaB.nD Cert.AdamAdaB.τ).loc Cert.AdamAdaB.main_arg0) = m ((c.tc : Thread Cert.AdamAdaB.nD Cert.AdamAdaB.τ).loc Cert.AdamAdaB.main_arg0)
      ∧ r.2.mem ((c.tc : Thread Cert.AdamAdaB.nD Cert.AdamAdaB.τ).loc Cert.AdamAdaB.main_arg1) = m ((c.tc : Thread Cert.AdamAdaB.nD Cert.AdamAdaB.τ).loc Cert.AdamAdaB.main_arg1)
      ∧ r.2.mem ((c.tc : Thread Cert.AdamAdaB.nD Cert.AdamAdaB.τ).loc Cert.AdamAdaB.main_arg2) = m ((c.tc : Thread Cert.AdamAdaB.nD Cert.AdamAdaB.τ).loc Cert.AdamAdaB.main_arg2)
      ∧ r.2.mem ((c.tc : Thread Cert.AdamAdaB.nD Cert.AdamAdaB.τ).loc Cert.AdamAdaB.main_arg3) = m ((c.tc : Thread Cert.AdamAdaB.nD Cert.AdamAdaB.τ).loc Cert.AdamAdaB.main_arg3))
      ∧ r.2.sem = fun _ => 0)

def quiescent_AdamAdaBIdeal [hAdamAdaBIdeal : Cert.AdamAdaBIdeal.Facts] : Prop :=
  ∀ (m : (ℓ : Loc Cert.AdamAdaBIdeal.nD Cert.AdamAdaBIdeal.τ Cert.AdamAdaBIdeal.sig) → Buf (Elt Ideal) ℓ) (g : Dev Cert.AdamAdaBIdeal.nD → PrngReg), Pre_AdamAdaBIdeal m →
    θ_run (Cert.AdamAdaBIdeal.defs (F := Ideal)) (onTc (τ := Cert.AdamAdaBIdeal.τ) (Cert.AdamAdaBIdeal.main (F := Ideal))) ⟨m, fun _ => 0, g⟩ (fun r => (∀ c : Dev Cert.AdamAdaBIdeal.nD,
      r.2.mem ((c.tc : Thread Cert.AdamAdaBIdeal.nD Cert.AdamAdaBIdeal.τ).loc Cert.AdamAdaBIdeal.main_arg0) = m ((c.tc : Thread Cert.AdamAdaBIdeal.nD Cert.AdamAdaBIdeal.τ).loc Cert.AdamAdaBIdeal.main_arg0)
      ∧ r.2.mem ((c.tc : Thread Cert.AdamAdaBIdeal.nD Cert.AdamAdaBIdeal.τ).loc Cert.AdamAdaBIdeal.main_arg1) = m ((c.tc : Thread Cert.AdamAdaBIdeal.nD Cert.AdamAdaBIdeal.τ).loc Cert.AdamAdaBIdeal.main_arg1)
      ∧ r.2.mem ((c.tc : Thread Cert.AdamAdaBIdeal.nD Cert.AdamAdaBIdeal.τ).loc Cert.AdamAdaBIdeal.main_arg2) = m ((c.tc : Thread Cert.AdamAdaBIdeal.nD Cert.AdamAdaBIdeal.τ).loc Cert.AdamAdaBIdeal.main_arg2)
      ∧ r.2.mem ((c.tc : Thread Cert.AdamAdaBIdeal.nD Cert.AdamAdaBIdeal.τ).loc Cert.AdamAdaBIdeal.main_arg3) = m ((c.tc : Thread Cert.AdamAdaBIdeal.nD Cert.AdamAdaBIdeal.τ).loc Cert.AdamAdaBIdeal.main_arg3))
      ∧ r.2.sem = fun _ => 0)

def quiescent_AdamAdaBRefIdeal [hAdamAdaBRefIdeal : Cert.AdamAdaBRefIdeal.Facts] : Prop :=
  ∀ (m : (ℓ : Loc Cert.AdamAdaBRefIdeal.nD Cert.AdamAdaBRefIdeal.τ Cert.AdamAdaBRefIdeal.sig) → Buf (Elt Ideal) ℓ) (g : Dev Cert.AdamAdaBRefIdeal.nD → PrngReg), Pre_AdamAdaBRefIdeal m →
    θ_run (Cert.AdamAdaBRefIdeal.defs (F := Ideal)) (onTc (τ := Cert.AdamAdaBRefIdeal.τ) (Cert.AdamAdaBRefIdeal.main (F := Ideal))) ⟨m, fun _ => 0, g⟩ (fun r => (∀ c : Dev Cert.AdamAdaBRefIdeal.nD,
      r.2.mem ((c.tc : Thread Cert.AdamAdaBRefIdeal.nD Cert.AdamAdaBRefIdeal.τ).loc Cert.AdamAdaBRefIdeal.main_arg0) = m ((c.tc : Thread Cert.AdamAdaBRefIdeal.nD Cert.AdamAdaBRefIdeal.τ).loc Cert.AdamAdaBRefIdeal.main_arg0)
      ∧ r.2.mem ((c.tc : Thread Cert.AdamAdaBRefIdeal.nD Cert.AdamAdaBRefIdeal.τ).loc Cert.AdamAdaBRefIdeal.main_arg1) = m ((c.tc : Thread Cert.AdamAdaBRefIdeal.nD Cert.AdamAdaBRefIdeal.τ).loc Cert.AdamAdaBRefIdeal.main_arg1)
      ∧ r.2.mem ((c.tc : Thread Cert.AdamAdaBRefIdeal.nD Cert.AdamAdaBRefIdeal.τ).loc Cert.AdamAdaBRefIdeal.main_arg2) = m ((c.tc : Thread Cert.AdamAdaBRefIdeal.nD Cert.AdamAdaBRefIdeal.τ).loc Cert.AdamAdaBRefIdeal.main_arg2)
      ∧ r.2.mem ((c.tc : Thread Cert.AdamAdaBRefIdeal.nD Cert.AdamAdaBRefIdeal.τ).loc Cert.AdamAdaBRefIdeal.main_arg3) = m ((c.tc : Thread Cert.AdamAdaBRefIdeal.nD Cert.AdamAdaBRefIdeal.τ).loc Cert.AdamAdaBRefIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamFfnUp [hAdamFfnUp : Cert.AdamFfnUp.Facts] : Prop :=
  ∀ (m : (ℓ : Loc Cert.AdamFfnUp.nD Cert.AdamFfnUp.τ Cert.AdamFfnUp.sig) → Buf (Elt Bits) ℓ) (g : Dev Cert.AdamFfnUp.nD → PrngReg), Pre_AdamFfnUp m →
    θ_run (Cert.AdamFfnUp.defs (F := Bits)) (onTc (τ := Cert.AdamFfnUp.τ) (Cert.AdamFfnUp.main (F := Bits))) ⟨m, fun _ => 0, g⟩ (fun r => (∀ c : Dev Cert.AdamFfnUp.nD,
      r.2.mem ((c.tc : Thread Cert.AdamFfnUp.nD Cert.AdamFfnUp.τ).loc Cert.AdamFfnUp.main_arg0) = m ((c.tc : Thread Cert.AdamFfnUp.nD Cert.AdamFfnUp.τ).loc Cert.AdamFfnUp.main_arg0)
      ∧ r.2.mem ((c.tc : Thread Cert.AdamFfnUp.nD Cert.AdamFfnUp.τ).loc Cert.AdamFfnUp.main_arg1) = m ((c.tc : Thread Cert.AdamFfnUp.nD Cert.AdamFfnUp.τ).loc Cert.AdamFfnUp.main_arg1)
      ∧ r.2.mem ((c.tc : Thread Cert.AdamFfnUp.nD Cert.AdamFfnUp.τ).loc Cert.AdamFfnUp.main_arg2) = m ((c.tc : Thread Cert.AdamFfnUp.nD Cert.AdamFfnUp.τ).loc Cert.AdamFfnUp.main_arg2)
      ∧ r.2.mem ((c.tc : Thread Cert.AdamFfnUp.nD Cert.AdamFfnUp.τ).loc Cert.AdamFfnUp.main_arg3) = m ((c.tc : Thread Cert.AdamFfnUp.nD Cert.AdamFfnUp.τ).loc Cert.AdamFfnUp.main_arg3))
      ∧ r.2.sem = fun _ => 0)

def quiescent_AdamFfnUpIdeal [hAdamFfnUpIdeal : Cert.AdamFfnUpIdeal.Facts] : Prop :=
  ∀ (m : (ℓ : Loc Cert.AdamFfnUpIdeal.nD Cert.AdamFfnUpIdeal.τ Cert.AdamFfnUpIdeal.sig) → Buf (Elt Ideal) ℓ) (g : Dev Cert.AdamFfnUpIdeal.nD → PrngReg), Pre_AdamFfnUpIdeal m →
    θ_run (Cert.AdamFfnUpIdeal.defs (F := Ideal)) (onTc (τ := Cert.AdamFfnUpIdeal.τ) (Cert.AdamFfnUpIdeal.main (F := Ideal))) ⟨m, fun _ => 0, g⟩ (fun r => (∀ c : Dev Cert.AdamFfnUpIdeal.nD,
      r.2.mem ((c.tc : Thread Cert.AdamFfnUpIdeal.nD Cert.AdamFfnUpIdeal.τ).loc Cert.AdamFfnUpIdeal.main_arg0) = m ((c.tc : Thread Cert.AdamFfnUpIdeal.nD Cert.AdamFfnUpIdeal.τ).loc Cert.AdamFfnUpIdeal.main_arg0)
      ∧ r.2.mem ((c.tc : Thread Cert.AdamFfnUpIdeal.nD Cert.AdamFfnUpIdeal.τ).loc Cert.AdamFfnUpIdeal.main_arg1) = m ((c.tc : Thread Cert.AdamFfnUpIdeal.nD Cert.AdamFfnUpIdeal.τ).loc Cert.AdamFfnUpIdeal.main_arg1)
      ∧ r.2.mem ((c.tc : Thread Cert.AdamFfnUpIdeal.nD Cert.AdamFfnUpIdeal.τ).loc Cert.AdamFfnUpIdeal.main_arg2) = m ((c.tc : Thread Cert.AdamFfnUpIdeal.nD Cert.AdamFfnUpIdeal.τ).loc Cert.AdamFfnUpIdeal.main_arg2)
      ∧ r.2.mem ((c.tc : Thread Cert.AdamFfnUpIdeal.nD Cert.AdamFfnUpIdeal.τ).loc Cert.AdamFfnUpIdeal.main_arg3) = m ((c.tc : Thread Cert.AdamFfnUpIdeal.nD Cert.AdamFfnUpIdeal.τ).loc Cert.AdamFfnUpIdeal.main_arg3))
      ∧ r.2.sem = fun _ => 0)

def quiescent_AdamFfnUpRefIdeal [hAdamFfnUpRefIdeal : Cert.AdamFfnUpRefIdeal.Facts] : Prop :=
  ∀ (m : (ℓ : Loc Cert.AdamFfnUpRefIdeal.nD Cert.AdamFfnUpRefIdeal.τ Cert.AdamFfnUpRefIdeal.sig) → Buf (Elt Ideal) ℓ) (g : Dev Cert.AdamFfnUpRefIdeal.nD → PrngReg), Pre_AdamFfnUpRefIdeal m →
    θ_run (Cert.AdamFfnUpRefIdeal.defs (F := Ideal)) (onTc (τ := Cert.AdamFfnUpRefIdeal.τ) (Cert.AdamFfnUpRefIdeal.main (F := Ideal))) ⟨m, fun _ => 0, g⟩ (fun r => (∀ c : Dev Cert.AdamFfnUpRefIdeal.nD,
      r.2.mem ((c.tc : Thread Cert.AdamFfnUpRefIdeal.nD Cert.AdamFfnUpRefIdeal.τ).loc Cert.AdamFfnUpRefIdeal.main_arg0) = m ((c.tc : Thread Cert.AdamFfnUpRefIdeal.nD Cert.AdamFfnUpRefIdeal.τ).loc Cert.AdamFfnUpRefIdeal.main_arg0)
      ∧ r.2.mem ((c.tc : Thread Cert.AdamFfnUpRefIdeal.nD Cert.AdamFfnUpRefIdeal.τ).loc Cert.AdamFfnUpRefIdeal.main_arg1) = m ((c.tc : Thread Cert.AdamFfnUpRefIdeal.nD Cert.AdamFfnUpRefIdeal.τ).loc Cert.AdamFfnUpRefIdeal.main_arg1)
      ∧ r.2.mem ((c.tc : Thread Cert.AdamFfnUpRefIdeal.nD Cert.AdamFfnUpRefIdeal.τ).loc Cert.AdamFfnUpRefIdeal.main_arg2) = m ((c.tc : Thread Cert.AdamFfnUpRefIdeal.nD Cert.AdamFfnUpRefIdeal.τ).loc Cert.AdamFfnUpRefIdeal.main_arg2)
      ∧ r.2.mem ((c.tc : Thread Cert.AdamFfnUpRefIdeal.nD Cert.AdamFfnUpRefIdeal.τ).loc Cert.AdamFfnUpRefIdeal.main_arg3) = m ((c.tc : Thread Cert.AdamFfnUpRefIdeal.nD Cert.AdamFfnUpRefIdeal.τ).loc Cert.AdamFfnUpRefIdeal.main_arg3))
      ∧ r.2.sem = fun _ => 0)

def quiescent_AdamConvW [hAdamConvW : Cert.AdamConvW.Facts] : Prop :=
  ∀ (m : (ℓ : Loc Cert.AdamConvW.nD Cert.AdamConvW.τ Cert.AdamConvW.sig) → Buf (Elt Bits) ℓ) (g : Dev Cert.AdamConvW.nD → PrngReg), Pre_AdamConvW m →
    θ_run (Cert.AdamConvW.defs (F := Bits)) (onTc (τ := Cert.AdamConvW.τ) (Cert.AdamConvW.main (F := Bits))) ⟨m, fun _ => 0, g⟩ (fun r => (∀ c : Dev Cert.AdamConvW.nD,
      r.2.mem ((c.tc : Thread Cert.AdamConvW.nD Cert.AdamConvW.τ).loc Cert.AdamConvW.main_arg0) = m ((c.tc : Thread Cert.AdamConvW.nD Cert.AdamConvW.τ).loc Cert.AdamConvW.main_arg0)
      ∧ r.2.mem ((c.tc : Thread Cert.AdamConvW.nD Cert.AdamConvW.τ).loc Cert.AdamConvW.main_arg1) = m ((c.tc : Thread Cert.AdamConvW.nD Cert.AdamConvW.τ).loc Cert.AdamConvW.main_arg1)
      ∧ r.2.mem ((c.tc : Thread Cert.AdamConvW.nD Cert.AdamConvW.τ).loc Cert.AdamConvW.main_arg2) = m ((c.tc : Thread Cert.AdamConvW.nD Cert.AdamConvW.τ).loc Cert.AdamConvW.main_arg2)
      ∧ r.2.mem ((c.tc : Thread Cert.AdamConvW.nD Cert.AdamConvW.τ).loc Cert.AdamConvW.main_arg3) = m ((c.tc : Thread Cert.AdamConvW.nD Cert.AdamConvW.τ).loc Cert.AdamConvW.main_arg3))
      ∧ r.2.sem = fun _ => 0)

def quiescent_AdamConvWIdeal [hAdamConvWIdeal : Cert.AdamConvWIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg), Pre_AdamConvWIdeal m →
    θ_run (Cert.AdamConvWIdeal.defs (F := Ideal)) (onTc (τ := Cert.AdamConvWIdeal.τ) (Cert.AdamConvWIdeal.main (F := Ideal))) ⟨m, fun _ => 0, g⟩ (fun r => (∀ c : Dev Cert.AdamConvWIdeal.nD,
      r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
      ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
      ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
      ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3))
      ∧ r.2.sem = fun _ => 0)

def quiescent_AdamConvWRefIdeal [hAdamConvWRefIdeal : Cert.AdamConvWRefIdeal.Facts] : Prop :=
  ∀ (m : (ℓ : Loc Cert.AdamConvWRefIdeal.nD Cert.AdamConvWRefIdeal.τ Cert.AdamConvWRefIdeal.sig) → Buf (Elt Ideal) ℓ) (g : Dev Cert.AdamConvWRefIdeal.nD → PrngReg), Pre_AdamConvWRefIdeal m →
    θ_run (Cert.AdamConvWRefIdeal.defs (F := Ideal)) (onTc (τ := Cert.AdamConvWRefIdeal.τ) (Cert.AdamConvWRefIdeal.main (F := Ideal))) ⟨m, fun _ => 0, g⟩ (fun r => (∀ c : Dev Cert.AdamConvWRefIdeal.nD,
      r.2.mem ((c.tc : Thread Cert.AdamConvWRefIdeal.nD Cert.AdamConvWRefIdeal.τ).loc Cert.AdamConvWRefIdeal.main_arg0) = m ((c.tc : Thread Cert.AdamConvWRefIdeal.nD Cert.AdamConvWRefIdeal.τ).loc Cert.AdamConvWRefIdeal.main_arg0)
      ∧ r.2.mem ((c.tc : Thread Cert.AdamConvWRefIdeal.nD Cert.AdamConvWRefIdeal.τ).loc Cert.AdamConvWRefIdeal.main_arg1) = m ((c.tc : Thread Cert.AdamConvWRefIdeal.nD Cert.AdamConvWRefIdeal.τ).loc Cert.AdamConvWRefIdeal.main_arg1)
      ∧ r.2.mem ((c.tc : Thread Cert.AdamConvWRefIdeal.nD Cert.AdamConvWRefIdeal.τ).loc Cert.AdamConvWRefIdeal.main_arg2) = m ((c.tc : Thread Cert.AdamConvWRefIdeal.nD Cert.AdamConvWRefIdeal.τ).loc Cert.AdamConvWRefIdeal.main_arg2)
      ∧ r.2.mem ((c.tc : Thread Cert.AdamConvWRefIdeal.nD Cert.AdamConvWRefIdeal.τ).loc Cert.AdamConvWRefIdeal.main_arg3) = m ((c.tc : Thread Cert.AdamConvWRefIdeal.nD Cert.AdamConvWRefIdeal.τ).loc Cert.AdamConvWRefIdeal.main_arg3))
      ∧ r.2.sem = fun _ => 0)

def quiescent_AdamConvB [hAdamConvB : Cert.AdamConvB.Facts] : Prop :=
  ∀ (m : (ℓ : Loc Cert.AdamConvB.nD Cert.AdamConvB.τ Cert.AdamConvB.sig) → Buf (Elt Bits) ℓ) (g : Dev Cert.AdamConvB.nD → PrngReg), Pre_AdamConvB m →
    θ_run (Cert.AdamConvB.defs (F := Bits)) (onTc (τ := Cert.AdamConvB.τ) (Cert.AdamConvB.main (F := Bits))) ⟨m, fun _ => 0, g⟩ (fun r => (∀ c : Dev Cert.AdamConvB.nD,
      r.2.mem ((c.tc : Thread Cert.AdamConvB.nD Cert.AdamConvB.τ).loc Cert.AdamConvB.main_arg0) = m ((c.tc : Thread Cert.AdamConvB.nD Cert.AdamConvB.τ).loc Cert.AdamConvB.main_arg0)
      ∧ r.2.mem ((c.tc : Thread Cert.AdamConvB.nD Cert.AdamConvB.τ).loc Cert.AdamConvB.main_arg1) = m ((c.tc : Thread Cert.AdamConvB.nD Cert.AdamConvB.τ).loc Cert.AdamConvB.main_arg1)
      ∧ r.2.mem ((c.tc : Thread Cert.AdamConvB.nD Cert.AdamConvB.τ).loc Cert.AdamConvB.main_arg2) = m ((c.tc : Thread Cert.AdamConvB.nD Cert.AdamConvB.τ).loc Cert.AdamConvB.main_arg2)
      ∧ r.2.mem ((c.tc : Thread Cert.AdamConvB.nD Cert.AdamConvB.τ).loc Cert.AdamConvB.main_arg3) = m ((c.tc : Thread Cert.AdamConvB.nD Cert.AdamConvB.τ).loc Cert.AdamConvB.main_arg3))
      ∧ r.2.sem = fun _ => 0)

def quiescent_AdamConvBIdeal [hAdamConvBIdeal : Cert.AdamConvBIdeal.Facts] : Prop :=
  ∀ (m : (ℓ : Loc Cert.AdamConvBIdeal.nD Cert.AdamConvBIdeal.τ Cert.AdamConvBIdeal.sig) → Buf (Elt Ideal) ℓ) (g : Dev Cert.AdamConvBIdeal.nD → PrngReg), Pre_AdamConvBIdeal m →
    θ_run (Cert.AdamConvBIdeal.defs (F := Ideal)) (onTc (τ := Cert.AdamConvBIdeal.τ) (Cert.AdamConvBIdeal.main (F := Ideal))) ⟨m, fun _ => 0, g⟩ (fun r => (∀ c : Dev Cert.AdamConvBIdeal.nD,
      r.2.mem ((c.tc : Thread Cert.AdamConvBIdeal.nD Cert.AdamConvBIdeal.τ).loc Cert.AdamConvBIdeal.main_arg0) = m ((c.tc : Thread Cert.AdamConvBIdeal.nD Cert.AdamConvBIdeal.τ).loc Cert.AdamConvBIdeal.main_arg0)
      ∧ r.2.mem ((c.tc : Thread Cert.AdamConvBIdeal.nD Cert.AdamConvBIdeal.τ).loc Cert.AdamConvBIdeal.main_arg1) = m ((c.tc : Thread Cert.AdamConvBIdeal.nD Cert.AdamConvBIdeal.τ).loc Cert.AdamConvBIdeal.main_arg1)
      ∧ r.2.mem ((c.tc : Thread Cert.AdamConvBIdeal.nD Cert.AdamConvBIdeal.τ).loc Cert.AdamConvBIdeal.main_arg2) = m ((c.tc : Thread Cert.AdamConvBIdeal.nD Cert.AdamConvBIdeal.τ).loc Cert.AdamConvBIdeal.main_arg2)
      ∧ r.2.mem ((c.tc : Thread Cert.AdamConvBIdeal.nD Cert.AdamConvBIdeal.τ).loc Cert.AdamConvBIdeal.main_arg3) = m ((c.tc : Thread Cert.AdamConvBIdeal.nD Cert.AdamConvBIdeal.τ).loc Cert.AdamConvBIdeal.main_arg3))
      ∧ r.2.sem = fun _ => 0)

def quiescent_AdamConvBRefIdeal [hAdamConvBRefIdeal : Cert.AdamConvBRefIdeal.Facts] : Prop :=
  ∀ (m : (ℓ : Loc Cert.AdamConvBRefIdeal.nD Cert.AdamConvBRefIdeal.τ Cert.AdamConvBRefIdeal.sig) → Buf (Elt Ideal) ℓ) (g : Dev Cert.AdamConvBRefIdeal.nD → PrngReg), Pre_AdamConvBRefIdeal m →
    θ_run (Cert.AdamConvBRefIdeal.defs (F := Ideal)) (onTc (τ := Cert.AdamConvBRefIdeal.τ) (Cert.AdamConvBRefIdeal.main (F := Ideal))) ⟨m, fun _ => 0, g⟩ (fun r => (∀ c : Dev Cert.AdamConvBRefIdeal.nD,
      r.2.mem ((c.tc : Thread Cert.AdamConvBRefIdeal.nD Cert.AdamConvBRefIdeal.τ).loc Cert.AdamConvBRefIdeal.main_arg0) = m ((c.tc : Thread Cert.AdamConvBRefIdeal.nD Cert.AdamConvBRefIdeal.τ).loc Cert.AdamConvBRefIdeal.main_arg0)
      ∧ r.2.mem ((c.tc : Thread Cert.AdamConvBRefIdeal.nD Cert.AdamConvBRefIdeal.τ).loc Cert.AdamConvBRefIdeal.main_arg1) = m ((c.tc : Thread Cert.AdamConvBRefIdeal.nD Cert.AdamConvBRefIdeal.τ).loc Cert.AdamConvBRefIdeal.main_arg1)
      ∧ r.2.mem ((c.tc : Thread Cert.AdamConvBRefIdeal.nD Cert.AdamConvBRefIdeal.τ).loc Cert.AdamConvBRefIdeal.main_arg2) = m ((c.tc : Thread Cert.AdamConvBRefIdeal.nD Cert.AdamConvBRefIdeal.τ).loc Cert.AdamConvBRefIdeal.main_arg2)
      ∧ r.2.mem ((c.tc : Thread Cert.AdamConvBRefIdeal.nD Cert.AdamConvBRefIdeal.τ).loc Cert.AdamConvBRefIdeal.main_arg3) = m ((c.tc : Thread Cert.AdamConvBRefIdeal.nD Cert.AdamConvBRefIdeal.τ).loc Cert.AdamConvBRefIdeal.main_arg3))
      ∧ r.2.sem = fun _ => 0)

def quiescent_AdamFfnDown [hAdamFfnDown : Cert.AdamFfnDown.Facts] : Prop :=
  ∀ (m : (ℓ : Loc Cert.AdamFfnDown.nD Cert.AdamFfnDown.τ Cert.AdamFfnDown.sig) → Buf (Elt Bits) ℓ) (g : Dev Cert.AdamFfnDown.nD → PrngReg), Pre_AdamFfnDown m →
    θ_run (Cert.AdamFfnDown.defs (F := Bits)) (onTc (τ := Cert.AdamFfnDown.τ) (Cert.AdamFfnDown.main (F := Bits))) ⟨m, fun _ => 0, g⟩ (fun r => (∀ c : Dev Cert.AdamFfnDown.nD,
      r.2.mem ((c.tc : Thread Cert.AdamFfnDown.nD Cert.AdamFfnDown.τ).loc Cert.AdamFfnDown.main_arg0) = m ((c.tc : Thread Cert.AdamFfnDown.nD Cert.AdamFfnDown.τ).loc Cert.AdamFfnDown.main_arg0)
      ∧ r.2.mem ((c.tc : Thread Cert.AdamFfnDown.nD Cert.AdamFfnDown.τ).loc Cert.AdamFfnDown.main_arg1) = m ((c.tc : Thread Cert.AdamFfnDown.nD Cert.AdamFfnDown.τ).loc Cert.AdamFfnDown.main_arg1)
      ∧ r.2.mem ((c.tc : Thread Cert.AdamFfnDown.nD Cert.AdamFfnDown.τ).loc Cert.AdamFfnDown.main_arg2) = m ((c.tc : Thread Cert.AdamFfnDown.nD Cert.AdamFfnDown.τ).loc Cert.AdamFfnDown.main_arg2)
      ∧ r.2.mem ((c.tc : Thread Cert.AdamFfnDown.nD Cert.AdamFfnDown.τ).loc Cert.AdamFfnDown.main_arg3) = m ((c.tc : Thread Cert.AdamFfnDown.nD Cert.AdamFfnDown.τ).loc Cert.AdamFfnDown.main_arg3))
      ∧ r.2.sem = fun _ => 0)

def quiescent_AdamFfnDownIdeal [hAdamFfnDownIdeal : Cert.AdamFfnDownIdeal.Facts] : Prop :=
  ∀ (m : (ℓ : Loc Cert.AdamFfnDownIdeal.nD Cert.AdamFfnDownIdeal.τ Cert.AdamFfnDownIdeal.sig) → Buf (Elt Ideal) ℓ) (g : Dev Cert.AdamFfnDownIdeal.nD → PrngReg), Pre_AdamFfnDownIdeal m →
    θ_run (Cert.AdamFfnDownIdeal.defs (F := Ideal)) (onTc (τ := Cert.AdamFfnDownIdeal.τ) (Cert.AdamFfnDownIdeal.main (F := Ideal))) ⟨m, fun _ => 0, g⟩ (fun r => (∀ c : Dev Cert.AdamFfnDownIdeal.nD,
      r.2.mem ((c.tc : Thread Cert.AdamFfnDownIdeal.nD Cert.AdamFfnDownIdeal.τ).loc Cert.AdamFfnDownIdeal.main_arg0) = m ((c.tc : Thread Cert.AdamFfnDownIdeal.nD Cert.AdamFfnDownIdeal.τ).loc Cert.AdamFfnDownIdeal.main_arg0)
      ∧ r.2.mem ((c.tc : Thread Cert.AdamFfnDownIdeal.nD Cert.AdamFfnDownIdeal.τ).loc Cert.AdamFfnDownIdeal.main_arg1) = m ((c.tc : Thread Cert.AdamFfnDownIdeal.nD Cert.AdamFfnDownIdeal.τ).loc Cert.AdamFfnDownIdeal.main_arg1)
      ∧ r.2.mem ((c.tc : Thread Cert.AdamFfnDownIdeal.nD Cert.AdamFfnDownIdeal.τ).loc Cert.AdamFfnDownIdeal.main_arg2) = m ((c.tc : Thread Cert.AdamFfnDownIdeal.nD Cert.AdamFfnDownIdeal.τ).loc Cert.AdamFfnDownIdeal.main_arg2)
      ∧ r.2.mem ((c.tc : Thread Cert.AdamFfnDownIdeal.nD Cert.AdamFfnDownIdeal.τ).loc Cert.AdamFfnDownIdeal.main_arg3) = m ((c.tc : Thread Cert.AdamFfnDownIdeal.nD Cert.AdamFfnDownIdeal.τ).loc Cert.AdamFfnDownIdeal.main_arg3))
      ∧ r.2.sem = fun _ => 0)

def quiescent_AdamFfnDownRefIdeal [hAdamFfnDownRefIdeal : Cert.AdamFfnDownRefIdeal.Facts] : Prop :=
  ∀ (m : (ℓ : Loc Cert.AdamFfnDownRefIdeal.nD Cert.AdamFfnDownRefIdeal.τ Cert.AdamFfnDownRefIdeal.sig) → Buf (Elt Ideal) ℓ) (g : Dev Cert.AdamFfnDownRefIdeal.nD → PrngReg), Pre_AdamFfnDownRefIdeal m →
    θ_run (Cert.AdamFfnDownRefIdeal.defs (F := Ideal)) (onTc (τ := Cert.AdamFfnDownRefIdeal.τ) (Cert.AdamFfnDownRefIdeal.main (F := Ideal))) ⟨m, fun _ => 0, g⟩ (fun r => (∀ c : Dev Cert.AdamFfnDownRefIdeal.nD,
      r.2.mem ((c.tc : Thread Cert.AdamFfnDownRefIdeal.nD Cert.AdamFfnDownRefIdeal.τ).loc Cert.AdamFfnDownRefIdeal.main_arg0) = m ((c.tc : Thread Cert.AdamFfnDownRefIdeal.nD Cert.AdamFfnDownRefIdeal.τ).loc Cert.AdamFfnDownRefIdeal.main_arg0)
      ∧ r.2.mem ((c.tc : Thread Cert.AdamFfnDownRefIdeal.nD Cert.AdamFfnDownRefIdeal.τ).loc Cert.AdamFfnDownRefIdeal.main_arg1) = m ((c.tc : Thread Cert.AdamFfnDownRefIdeal.nD Cert.AdamFfnDownRefIdeal.τ).loc Cert.AdamFfnDownRefIdeal.main_arg1)
      ∧ r.2.mem ((c.tc : Thread Cert.AdamFfnDownRefIdeal.nD Cert.AdamFfnDownRefIdeal.τ).loc Cert.AdamFfnDownRefIdeal.main_arg2) = m ((c.tc : Thread Cert.AdamFfnDownRefIdeal.nD Cert.AdamFfnDownRefIdeal.τ).loc Cert.AdamFfnDownRefIdeal.main_arg2)
      ∧ r.2.mem ((c.tc : Thread Cert.AdamFfnDownRefIdeal.nD Cert.AdamFfnDownRefIdeal.τ).loc Cert.AdamFfnDownRefIdeal.main_arg3) = m ((c.tc : Thread Cert.AdamFfnDownRefIdeal.nD Cert.AdamFfnDownRefIdeal.τ).loc Cert.AdamFfnDownRefIdeal.main_arg3))
      ∧ r.2.sem = fun _ => 0)

def quiescent_AdamPoolW [hAdamPoolW : Cert.AdamPoolW.Facts] : Prop :=
  ∀ (m : (ℓ : Loc Cert.AdamPoolW.nD Cert.AdamPoolW.τ Cert.AdamPoolW.sig) → Buf (Elt Bits) ℓ) (g : Dev Cert.AdamPoolW.nD → PrngReg), Pre_AdamPoolW m →
    θ_run (Cert.AdamPoolW.defs (F := Bits)) (onTc (τ := Cert.AdamPoolW.τ) (Cert.AdamPoolW.main (F := Bits))) ⟨m, fun _ => 0, g⟩ (fun r => (∀ c : Dev Cert.AdamPoolW.nD,
      r.2.mem ((c.tc : Thread Cert.AdamPoolW.nD Cert.AdamPoolW.τ).loc Cert.AdamPoolW.main_arg0) = m ((c.tc : Thread Cert.AdamPoolW.nD Cert.AdamPoolW.τ).loc Cert.AdamPoolW.main_arg0)
      ∧ r.2.mem ((c.tc : Thread Cert.AdamPoolW.nD Cert.AdamPoolW.τ).loc Cert.AdamPoolW.main_arg1) = m ((c.tc : Thread Cert.AdamPoolW.nD Cert.AdamPoolW.τ).loc Cert.AdamPoolW.main_arg1)
      ∧ r.2.mem ((c.tc : Thread Cert.AdamPoolW.nD Cert.AdamPoolW.τ).loc Cert.AdamPoolW.main_arg2) = m ((c.tc : Thread Cert.AdamPoolW.nD Cert.AdamPoolW.τ).loc Cert.AdamPoolW.main_arg2)
      ∧ r.2.mem ((c.tc : Thread Cert.AdamPoolW.nD Cert.AdamPoolW.τ).loc Cert.AdamPoolW.main_arg3) = m ((c.tc : Thread Cert.AdamPoolW.nD Cert.AdamPoolW.τ).loc Cert.AdamPoolW.main_arg3))
      ∧ r.2.sem = fun _ => 0)

def quiescent_AdamPoolWIdeal [hAdamPoolWIdeal : Cert.AdamPoolWIdeal.Facts] : Prop :=
  ∀ (m : (ℓ : Loc Cert.AdamPoolWIdeal.nD Cert.AdamPoolWIdeal.τ Cert.AdamPoolWIdeal.sig) → Buf (Elt Ideal) ℓ) (g : Dev Cert.AdamPoolWIdeal.nD → PrngReg), Pre_AdamPoolWIdeal m →
    θ_run (Cert.AdamPoolWIdeal.defs (F := Ideal)) (onTc (τ := Cert.AdamPoolWIdeal.τ) (Cert.AdamPoolWIdeal.main (F := Ideal))) ⟨m, fun _ => 0, g⟩ (fun r => (∀ c : Dev Cert.AdamPoolWIdeal.nD,
      r.2.mem ((c.tc : Thread Cert.AdamPoolWIdeal.nD Cert.AdamPoolWIdeal.τ).loc Cert.AdamPoolWIdeal.main_arg0) = m ((c.tc : Thread Cert.AdamPoolWIdeal.nD Cert.AdamPoolWIdeal.τ).loc Cert.AdamPoolWIdeal.main_arg0)
      ∧ r.2.mem ((c.tc : Thread Cert.AdamPoolWIdeal.nD Cert.AdamPoolWIdeal.τ).loc Cert.AdamPoolWIdeal.main_arg1) = m ((c.tc : Thread Cert.AdamPoolWIdeal.nD Cert.AdamPoolWIdeal.τ).loc Cert.AdamPoolWIdeal.main_arg1)
      ∧ r.2.mem ((c.tc : Thread Cert.AdamPoolWIdeal.nD Cert.AdamPoolWIdeal.τ).loc Cert.AdamPoolWIdeal.main_arg2) = m ((c.tc : Thread Cert.AdamPoolWIdeal.nD Cert.AdamPoolWIdeal.τ).loc Cert.AdamPoolWIdeal.main_arg2)
      ∧ r.2.mem ((c.tc : Thread Cert.AdamPoolWIdeal.nD Cert.AdamPoolWIdeal.τ).loc Cert.AdamPoolWIdeal.main_arg3) = m ((c.tc : Thread Cert.AdamPoolWIdeal.nD Cert.AdamPoolWIdeal.τ).loc Cert.AdamPoolWIdeal.main_arg3))
      ∧ r.2.sem = fun _ => 0)

def quiescent_AdamPoolWRefIdeal [hAdamPoolWRefIdeal : Cert.AdamPoolWRefIdeal.Facts] : Prop :=
  ∀ (m : (ℓ : Loc Cert.AdamPoolWRefIdeal.nD Cert.AdamPoolWRefIdeal.τ Cert.AdamPoolWRefIdeal.sig) → Buf (Elt Ideal) ℓ) (g : Dev Cert.AdamPoolWRefIdeal.nD → PrngReg), Pre_AdamPoolWRefIdeal m →
    θ_run (Cert.AdamPoolWRefIdeal.defs (F := Ideal)) (onTc (τ := Cert.AdamPoolWRefIdeal.τ) (Cert.AdamPoolWRefIdeal.main (F := Ideal))) ⟨m, fun _ => 0, g⟩ (fun r => (∀ c : Dev Cert.AdamPoolWRefIdeal.nD,
      r.2.mem ((c.tc : Thread Cert.AdamPoolWRefIdeal.nD Cert.AdamPoolWRefIdeal.τ).loc Cert.AdamPoolWRefIdeal.main_arg0) = m ((c.tc : Thread Cert.AdamPoolWRefIdeal.nD Cert.AdamPoolWRefIdeal.τ).loc Cert.AdamPoolWRefIdeal.main_arg0)
      ∧ r.2.mem ((c.tc : Thread Cert.AdamPoolWRefIdeal.nD Cert.AdamPoolWRefIdeal.τ).loc Cert.AdamPoolWRefIdeal.main_arg1) = m ((c.tc : Thread Cert.AdamPoolWRefIdeal.nD Cert.AdamPoolWRefIdeal.τ).loc Cert.AdamPoolWRefIdeal.main_arg1)
      ∧ r.2.mem ((c.tc : Thread Cert.AdamPoolWRefIdeal.nD Cert.AdamPoolWRefIdeal.τ).loc Cert.AdamPoolWRefIdeal.main_arg2) = m ((c.tc : Thread Cert.AdamPoolWRefIdeal.nD Cert.AdamPoolWRefIdeal.τ).loc Cert.AdamPoolWRefIdeal.main_arg2)
      ∧ r.2.mem ((c.tc : Thread Cert.AdamPoolWRefIdeal.nD Cert.AdamPoolWRefIdeal.τ).loc Cert.AdamPoolWRefIdeal.main_arg3) = m ((c.tc : Thread Cert.AdamPoolWRefIdeal.nD Cert.AdamPoolWRefIdeal.τ).loc Cert.AdamPoolWRefIdeal.main_arg3))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3))
      ∧ r.2.sem = fun _ => 0)

def quiescent_AdamQkv [hAdamQkv : Cert.AdamQkv.Facts] : Prop :=
  ∀ (m : (ℓ : Loc Cert.AdamQkv.nD Cert.AdamQkv.τ Cert.AdamQkv.sig) → Buf (Elt Bits) ℓ) (g : Dev Cert.AdamQkv.nD → PrngReg), Pre_AdamQkv m →
    θ_run (Cert.AdamQkv.defs (F := Bits)) (onTc (τ := Cert.AdamQkv.τ) (Cert.AdamQkv.main (F := Bits))) ⟨m, fun _ => 0, g⟩ (fun r => (∀ c : Dev Cert.AdamQkv.nD,
      r.2.mem ((c.tc : Thread Cert.AdamQkv.nD Cert.AdamQkv.τ).loc Cert.AdamQkv.main_arg0) = m ((c.tc : Thread Cert.AdamQkv.nD Cert.AdamQkv.τ).loc Cert.AdamQkv.main_arg0)
      ∧ r.2.mem ((c.tc : Thread Cert.AdamQkv.nD Cert.AdamQkv.τ).loc Cert.AdamQkv.main_arg1) = m ((c.tc : Thread Cert.AdamQkv.nD Cert.AdamQkv.τ).loc Cert.AdamQkv.main_arg1)
      ∧ r.2.mem ((c.tc : Thread Cert.AdamQkv.nD Cert.AdamQkv.τ).loc Cert.AdamQkv.main_arg2) = m ((c.tc : Thread Cert.AdamQkv.nD Cert.AdamQkv.τ).loc Cert.AdamQkv.main_arg2)
      ∧ r.2.mem ((c.tc : Thread Cert.AdamQkv.nD Cert.AdamQkv.τ).loc Cert.AdamQkv.main_arg3) = m ((c.tc : Thread Cert.AdamQkv.nD Cert.AdamQkv.τ).loc Cert.AdamQkv.main_arg3))
      ∧ r.2.sem = fun _ => 0)

def quiescent_AdamQkvIdeal [hAdamQkvIdeal : Cert.AdamQkvIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg), Pre_AdamQkvIdeal m →
    θ_run (Cert.AdamQkvIdeal.defs (F := Ideal)) (onTc (τ := Cert.AdamQkvIdeal.τ) (Cert.AdamQkvIdeal.main (F := Ideal))) ⟨m, fun _ => 0, g⟩ (fun r => (∀ c : Dev Cert.AdamQkvIdeal.nD,
      r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
      ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
      ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
      ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ r.2.sem = fun _ => 0)

def quiescent_AdamQkvRefIdeal [hAdamQkvRefIdeal : Cert.AdamQkvRefIdeal.Facts] : Prop :=
  ∀ (m : (ℓ : Loc Cert.AdamQkvRefIdeal.nD Cert.AdamQkvRefIdeal.τ Cert.AdamQkvRefIdeal.sig) → Buf (Elt Ideal) ℓ) (g : Dev Cert.AdamQkvRefIdeal.nD → PrngReg), Pre_AdamQkvRefIdeal m →
    θ_run (Cert.AdamQkvRefIdeal.defs (F := Ideal)) (onTc (τ := Cert.AdamQkvRefIdeal.τ) (Cert.AdamQkvRefIdeal.main (F := Ideal))) ⟨m, fun _ => 0, g⟩ (fun r => (∀ c : Dev Cert.AdamQkvRefIdeal.nD,
      r.2.mem ((c.tc : Thread Cert.AdamQkvRefIdeal.nD Cert.AdamQkvRefIdeal.τ).loc Cert.AdamQkvRefIdeal.main_arg0) = m ((c.tc : Thread Cert.AdamQkvRefIdeal.nD Cert.AdamQkvRefIdeal.τ).loc Cert.AdamQkvRefIdeal.main_arg0)
      ∧ r.2.mem ((c.tc : Thread Cert.AdamQkvRefIdeal.nD Cert.AdamQkvRefIdeal.τ).loc Cert.AdamQkvRefIdeal.main_arg1) = m ((c.tc : Thread Cert.AdamQkvRefIdeal.nD Cert.AdamQkvRefIdeal.τ).loc Cert.AdamQkvRefIdeal.main_arg1)
      ∧ r.2.mem ((c.tc : Thread Cert.AdamQkvRefIdeal.nD Cert.AdamQkvRefIdeal.τ).loc Cert.AdamQkvRefIdeal.main_arg2) = m ((c.tc : Thread Cert.AdamQkvRefIdeal.nD Cert.AdamQkvRefIdeal.τ).loc Cert.AdamQkvRefIdeal.main_arg2)
      ∧ r.2.mem ((c.tc : Thread Cert.AdamQkvRefIdeal.nD Cert.AdamQkvRefIdeal.τ).loc Cert.AdamQkvRefIdeal.main_arg3) = m ((c.tc : Thread Cert.AdamQkvRefIdeal.nD Cert.AdamQkvRefIdeal.τ).loc Cert.AdamQkvRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamSink [hAdamSink : Cert.AdamSink.Facts] : Prop :=
  ∀ (m : (ℓ : Loc Cert.AdamSink.nD Cert.AdamSink.τ Cert.AdamSink.sig) → Buf (Elt Bits) ℓ) (g : Dev Cert.AdamSink.nD → PrngReg), Pre_AdamSink m →
    θ_run (Cert.AdamSink.defs (F := Bits)) (onTc (τ := Cert.AdamSink.τ) (Cert.AdamSink.main (F := Bits))) ⟨m, fun _ => 0, g⟩ (fun r => (∀ c : Dev Cert.AdamSink.nD,
      r.2.mem ((c.tc : Thread Cert.AdamSink.nD Cert.AdamSink.τ).loc Cert.AdamSink.main_arg0) = m ((c.tc : Thread Cert.AdamSink.nD Cert.AdamSink.τ).loc Cert.AdamSink.main_arg0)
      ∧ r.2.mem ((c.tc : Thread Cert.AdamSink.nD Cert.AdamSink.τ).loc Cert.AdamSink.main_arg1) = m ((c.tc : Thread Cert.AdamSink.nD Cert.AdamSink.τ).loc Cert.AdamSink.main_arg1)
      ∧ r.2.mem ((c.tc : Thread Cert.AdamSink.nD Cert.AdamSink.τ).loc Cert.AdamSink.main_arg2) = m ((c.tc : Thread Cert.AdamSink.nD Cert.AdamSink.τ).loc Cert.AdamSink.main_arg2)
      ∧ r.2.mem ((c.tc : Thread Cert.AdamSink.nD Cert.AdamSink.τ).loc Cert.AdamSink.main_arg3) = m ((c.tc : Thread Cert.AdamSink.nD Cert.AdamSink.τ).loc Cert.AdamSink.main_arg3))
      ∧ r.2.sem = fun _ => 0)

def quiescent_AdamSinkIdeal [hAdamSinkIdeal : Cert.AdamSinkIdeal.Facts] : Prop :=
  ∀ (m : (ℓ : Loc Cert.AdamSinkIdeal.nD Cert.AdamSinkIdeal.τ Cert.AdamSinkIdeal.sig) → Buf (Elt Ideal) ℓ) (g : Dev Cert.AdamSinkIdeal.nD → PrngReg), Pre_AdamSinkIdeal m →
    θ_run (Cert.AdamSinkIdeal.defs (F := Ideal)) (onTc (τ := Cert.AdamSinkIdeal.τ) (Cert.AdamSinkIdeal.main (F := Ideal))) ⟨m, fun _ => 0, g⟩ (fun r => (∀ c : Dev Cert.AdamSinkIdeal.nD,
      r.2.mem ((c.tc : Thread Cert.AdamSinkIdeal.nD Cert.AdamSinkIdeal.τ).loc Cert.AdamSinkIdeal.main_arg0) = m ((c.tc : Thread Cert.AdamSinkIdeal.nD Cert.AdamSinkIdeal.τ).loc Cert.AdamSinkIdeal.main_arg0)
      ∧ r.2.mem ((c.tc : Thread Cert.AdamSinkIdeal.nD Cert.AdamSinkIdeal.τ).loc Cert.AdamSinkIdeal.main_arg1) = m ((c.tc : Thread Cert.AdamSinkIdeal.nD Cert.AdamSinkIdeal.τ).loc Cert.AdamSinkIdeal.main_arg1)
      ∧ r.2.mem ((c.tc : Thread Cert.AdamSinkIdeal.nD Cert.AdamSinkIdeal.τ).loc Cert.AdamSinkIdeal.main_arg2) = m ((c.tc : Thread Cert.AdamSinkIdeal.nD Cert.AdamSinkIdeal.τ).loc Cert.AdamSinkIdeal.main_arg2)
      ∧ r.2.mem ((c.tc : Thread Cert.AdamSinkIdeal.nD Cert.AdamSinkIdeal.τ).loc Cert.AdamSinkIdeal.main_arg3) = m ((c.tc : Thread Cert.AdamSinkIdeal.nD Cert.AdamSinkIdeal.τ).loc Cert.AdamSinkIdeal.main_arg3))
      ∧ r.2.sem = fun _ => 0)

def quiescent_AdamSinkRefIdeal [hAdamSinkRefIdeal : Cert.AdamSinkRefIdeal.Facts] : Prop :=
  ∀ (m : (ℓ : Loc Cert.AdamSinkRefIdeal.nD Cert.AdamSinkRefIdeal.τ Cert.AdamSinkRefIdeal.sig) → Buf (Elt Ideal) ℓ) (g : Dev Cert.AdamSinkRefIdeal.nD → PrngReg), Pre_AdamSinkRefIdeal m →
    θ_run (Cert.AdamSinkRefIdeal.defs (F := Ideal)) (onTc (τ := Cert.AdamSinkRefIdeal.τ) (Cert.AdamSinkRefIdeal.main (F := Ideal))) ⟨m, fun _ => 0, g⟩ (fun r => (∀ c : Dev Cert.AdamSinkRefIdeal.nD,
      r.2.mem ((c.tc : Thread Cert.AdamSinkRefIdeal.nD Cert.AdamSinkRefIdeal.τ).loc Cert.AdamSinkRefIdeal.main_arg0) = m ((c.tc : Thread Cert.AdamSinkRefIdeal.nD Cert.AdamSinkRefIdeal.τ).loc Cert.AdamSinkRefIdeal.main_arg0)
      ∧ r.2.mem ((c.tc : Thread Cert.AdamSinkRefIdeal.nD Cert.AdamSinkRefIdeal.τ).loc Cert.AdamSinkRefIdeal.main_arg1) = m ((c.tc : Thread Cert.AdamSinkRefIdeal.nD Cert.AdamSinkRefIdeal.τ).loc Cert.AdamSinkRefIdeal.main_arg1)
      ∧ r.2.mem ((c.tc : Thread Cert.AdamSinkRefIdeal.nD Cert.AdamSinkRefIdeal.τ).loc Cert.AdamSinkRefIdeal.main_arg2) = m ((c.tc : Thread Cert.AdamSinkRefIdeal.nD Cert.AdamSinkRefIdeal.τ).loc Cert.AdamSinkRefIdeal.main_arg2)
      ∧ r.2.mem ((c.tc : Thread Cert.AdamSinkRefIdeal.nD Cert.AdamSinkRefIdeal.τ).loc Cert.AdamSinkRefIdeal.main_arg3) = m ((c.tc : Thread Cert.AdamSinkRefIdeal.nD Cert.AdamSinkRefIdeal.τ).loc Cert.AdamSinkRefIdeal.main_arg3))
      ∧ r.2.sem = fun _ => 0)

def quiescent_AdamLambda [hAdamLambda : Cert.AdamLambda.Facts] : Prop :=
  ∀ (m : (ℓ : Loc Cert.AdamLambda.nD Cert.AdamLambda.τ Cert.AdamLambda.sig) → Buf (Elt Bits) ℓ) (g : Dev Cert.AdamLambda.nD → PrngReg), Pre_AdamLambda m →
    θ_run (Cert.AdamLambda.defs (F := Bits)) (onTc (τ := Cert.AdamLambda.τ) (Cert.AdamLambda.main (F := Bits))) ⟨m, fun _ => 0, g⟩ (fun r => (∀ c : Dev Cert.AdamLambda.nD,
      r.2.mem ((c.tc : Thread Cert.AdamLambda.nD Cert.AdamLambda.τ).loc Cert.AdamLambda.main_arg0) = m ((c.tc : Thread Cert.AdamLambda.nD Cert.AdamLambda.τ).loc Cert.AdamLambda.main_arg0)
      ∧ r.2.mem ((c.tc : Thread Cert.AdamLambda.nD Cert.AdamLambda.τ).loc Cert.AdamLambda.main_arg1) = m ((c.tc : Thread Cert.AdamLambda.nD Cert.AdamLambda.τ).loc Cert.AdamLambda.main_arg1)
      ∧ r.2.mem ((c.tc : Thread Cert.AdamLambda.nD Cert.AdamLambda.τ).loc Cert.AdamLambda.main_arg2) = m ((c.tc : Thread Cert.AdamLambda.nD Cert.AdamLambda.τ).loc Cert.AdamLambda.main_arg2)
      ∧ r.2.mem ((c.tc : Thread Cert.AdamLambda.nD Cert.AdamLambda.τ).loc Cert.AdamLambda.main_arg3) = m ((c.tc : Thread Cert.AdamLambda.nD Cert.AdamLambda.τ).loc Cert.AdamLambda.main_arg3))
      ∧ r.2.sem = fun _ => 0)

def quiescent_AdamLambdaIdeal [hAdamLambdaIdeal : Cert.AdamLambdaIdeal.Facts] : Prop :=
  ∀ (m : (ℓ : Loc Cert.AdamLambdaIdeal.nD Cert.AdamLambdaIdeal.τ Cert.AdamLambdaIdeal.sig) → Buf (Elt Ideal) ℓ) (g : Dev Cert.AdamLambdaIdeal.nD → PrngReg), Pre_AdamLambdaIdeal m →
    θ_run (Cert.AdamLambdaIdeal.defs (F := Ideal)) (onTc (τ := Cert.AdamLambdaIdeal.τ) (Cert.AdamLambdaIdeal.main (F := Ideal))) ⟨m, fun _ => 0, g⟩ (fun r => (∀ c : Dev Cert.AdamLambdaIdeal.nD,
      r.2.mem ((c.tc : Thread Cert.AdamLambdaIdeal.nD Cert.AdamLambdaIdeal.τ).loc Cert.AdamLambdaIdeal.main_arg0) = m ((c.tc : Thread Cert.AdamLambdaIdeal.nD Cert.AdamLambdaIdeal.τ).loc Cert.AdamLambdaIdeal.main_arg0)
      ∧ r.2.mem ((c.tc : Thread Cert.AdamLambdaIdeal.nD Cert.AdamLambdaIdeal.τ).loc Cert.AdamLambdaIdeal.main_arg1) = m ((c.tc : Thread Cert.AdamLambdaIdeal.nD Cert.AdamLambdaIdeal.τ).loc Cert.AdamLambdaIdeal.main_arg1)
      ∧ r.2.mem ((c.tc : Thread Cert.AdamLambdaIdeal.nD Cert.AdamLambdaIdeal.τ).loc Cert.AdamLambdaIdeal.main_arg2) = m ((c.tc : Thread Cert.AdamLambdaIdeal.nD Cert.AdamLambdaIdeal.τ).loc Cert.AdamLambdaIdeal.main_arg2)
      ∧ r.2.mem ((c.tc : Thread Cert.AdamLambdaIdeal.nD Cert.AdamLambdaIdeal.τ).loc Cert.AdamLambdaIdeal.main_arg3) = m ((c.tc : Thread Cert.AdamLambdaIdeal.nD Cert.AdamLambdaIdeal.τ).loc Cert.AdamLambdaIdeal.main_arg3))
      ∧ r.2.sem = fun _ => 0)

def quiescent_AdamLambdaRefIdeal [hAdamLambdaRefIdeal : Cert.AdamLambdaRefIdeal.Facts] : Prop :=
  ∀ (m : (ℓ : Loc Cert.AdamLambdaRefIdeal.nD Cert.AdamLambdaRefIdeal.τ Cert.AdamLambdaRefIdeal.sig) → Buf (Elt Ideal) ℓ) (g : Dev Cert.AdamLambdaRefIdeal.nD → PrngReg), Pre_AdamLambdaRefIdeal m →
    θ_run (Cert.AdamLambdaRefIdeal.defs (F := Ideal)) (onTc (τ := Cert.AdamLambdaRefIdeal.τ) (Cert.AdamLambdaRefIdeal.main (F := Ideal))) ⟨m, fun _ => 0, g⟩ (fun r => (∀ c : Dev Cert.AdamLambdaRefIdeal.nD,
      r.2.mem ((c.tc : Thread Cert.AdamLambdaRefIdeal.nD Cert.AdamLambdaRefIdeal.τ).loc Cert.AdamLambdaRefIdeal.main_arg0) = m ((c.tc : Thread Cert.AdamLambdaRefIdeal.nD Cert.AdamLambdaRefIdeal.τ).loc Cert.AdamLambdaRefIdeal.main_arg0)
      ∧ r.2.mem ((c.tc : Thread Cert.AdamLambdaRefIdeal.nD Cert.AdamLambdaRefIdeal.τ).loc Cert.AdamLambdaRefIdeal.main_arg1) = m ((c.tc : Thread Cert.AdamLambdaRefIdeal.nD Cert.AdamLambdaRefIdeal.τ).loc Cert.AdamLambdaRefIdeal.main_arg1)
      ∧ r.2.mem ((c.tc : Thread Cert.AdamLambdaRefIdeal.nD Cert.AdamLambdaRefIdeal.τ).loc Cert.AdamLambdaRefIdeal.main_arg2) = m ((c.tc : Thread Cert.AdamLambdaRefIdeal.nD Cert.AdamLambdaRefIdeal.τ).loc Cert.AdamLambdaRefIdeal.main_arg2)
      ∧ r.2.mem ((c.tc : Thread Cert.AdamLambdaRefIdeal.nD Cert.AdamLambdaRefIdeal.τ).loc Cert.AdamLambdaRefIdeal.main_arg3) = m ((c.tc : Thread Cert.AdamLambdaRefIdeal.nD Cert.AdamLambdaRefIdeal.τ).loc Cert.AdamLambdaRefIdeal.main_arg3))
      ∧ r.2.sem = fun _ => 0)

def quiescent_AdamLogDt [hAdamLogDt : Cert.AdamLogDt.Facts] : Prop :=
  ∀ (m : (ℓ : Loc Cert.AdamLogDt.nD Cert.AdamLogDt.τ Cert.AdamLogDt.sig) → Buf (Elt Bits) ℓ) (g : Dev Cert.AdamLogDt.nD → PrngReg), Pre_AdamLogDt m →
    θ_run (Cert.AdamLogDt.defs (F := Bits)) (onTc (τ := Cert.AdamLogDt.τ) (Cert.AdamLogDt.main (F := Bits))) ⟨m, fun _ => 0, g⟩ (fun r => (∀ c : Dev Cert.AdamLogDt.nD,
      r.2.mem ((c.tc : Thread Cert.AdamLogDt.nD Cert.AdamLogDt.τ).loc Cert.AdamLogDt.main_arg0) = m ((c.tc : Thread Cert.AdamLogDt.nD Cert.AdamLogDt.τ).loc Cert.AdamLogDt.main_arg0)
      ∧ r.2.mem ((c.tc : Thread Cert.AdamLogDt.nD Cert.AdamLogDt.τ).loc Cert.AdamLogDt.main_arg1) = m ((c.tc : Thread Cert.AdamLogDt.nD Cert.AdamLogDt.τ).loc Cert.AdamLogDt.main_arg1)
      ∧ r.2.mem ((c.tc : Thread Cert.AdamLogDt.nD Cert.AdamLogDt.τ).loc Cert.AdamLogDt.main_arg2) = m ((c.tc : Thread Cert.AdamLogDt.nD Cert.AdamLogDt.τ).loc Cert.AdamLogDt.main_arg2)
      ∧ r.2.mem ((c.tc : Thread Cert.AdamLogDt.nD Cert.AdamLogDt.τ).loc Cert.AdamLogDt.main_arg3) = m ((c.tc : Thread Cert.AdamLogDt.nD Cert.AdamLogDt.τ).loc Cert.AdamLogDt.main_arg3))
      ∧ r.2.sem = fun _ => 0)

def quiescent_AdamLogDtIdeal [hAdamLogDtIdeal : Cert.AdamLogDtIdeal.Facts] : Prop :=
  ∀ (m : (ℓ : Loc Cert.AdamLogDtIdeal.nD Cert.AdamLogDtIdeal.τ Cert.AdamLogDtIdeal.sig) → Buf (Elt Ideal) ℓ) (g : Dev Cert.AdamLogDtIdeal.nD → PrngReg), Pre_AdamLogDtIdeal m →
    θ_run (Cert.AdamLogDtIdeal.defs (F := Ideal)) (onTc (τ := Cert.AdamLogDtIdeal.τ) (Cert.AdamLogDtIdeal.main (F := Ideal))) ⟨m, fun _ => 0, g⟩ (fun r => (∀ c : Dev Cert.AdamLogDtIdeal.nD,
      r.2.mem ((c.tc : Thread Cert.AdamLogDtIdeal.nD Cert.AdamLogDtIdeal.τ).loc Cert.AdamLogDtIdeal.main_arg0) = m ((c.tc : Thread Cert.AdamLogDtIdeal.nD Cert.AdamLogDtIdeal.τ).loc Cert.AdamLogDtIdeal.main_arg0)
      ∧ r.2.mem ((c.tc : Thread Cert.AdamLogDtIdeal.nD Cert.AdamLogDtIdeal.τ).loc Cert.AdamLogDtIdeal.main_arg1) = m ((c.tc : Thread Cert.AdamLogDtIdeal.nD Cert.AdamLogDtIdeal.τ).loc Cert.AdamLogDtIdeal.main_arg1)
      ∧ r.2.mem ((c.tc : Thread Cert.AdamLogDtIdeal.nD Cert.AdamLogDtIdeal.τ).loc Cert.AdamLogDtIdeal.main_arg2) = m ((c.tc : Thread Cert.AdamLogDtIdeal.nD Cert.AdamLogDtIdeal.τ).loc Cert.AdamLogDtIdeal.main_arg2)
      ∧ r.2.mem ((c.tc : Thread Cert.AdamLogDtIdeal.nD Cert.AdamLogDtIdeal.τ).loc Cert.AdamLogDtIdeal.main_arg3) = m ((c.tc : Thread Cert.AdamLogDtIdeal.nD Cert.AdamLogDtIdeal.τ).loc Cert.AdamLogDtIdeal.main_arg3))
      ∧ r.2.sem = fun _ => 0)

def quiescent_AdamLogDtRefIdeal [hAdamLogDtRefIdeal : Cert.AdamLogDtRefIdeal.Facts] : Prop :=
  ∀ (m : (ℓ : Loc Cert.AdamLogDtRefIdeal.nD Cert.AdamLogDtRefIdeal.τ Cert.AdamLogDtRefIdeal.sig) → Buf (Elt Ideal) ℓ) (g : Dev Cert.AdamLogDtRefIdeal.nD → PrngReg), Pre_AdamLogDtRefIdeal m →
    θ_run (Cert.AdamLogDtRefIdeal.defs (F := Ideal)) (onTc (τ := Cert.AdamLogDtRefIdeal.τ) (Cert.AdamLogDtRefIdeal.main (F := Ideal))) ⟨m, fun _ => 0, g⟩ (fun r => (∀ c : Dev Cert.AdamLogDtRefIdeal.nD,
      r.2.mem ((c.tc : Thread Cert.AdamLogDtRefIdeal.nD Cert.AdamLogDtRefIdeal.τ).loc Cert.AdamLogDtRefIdeal.main_arg0) = m ((c.tc : Thread Cert.AdamLogDtRefIdeal.nD Cert.AdamLogDtRefIdeal.τ).loc Cert.AdamLogDtRefIdeal.main_arg0)
      ∧ r.2.mem ((c.tc : Thread Cert.AdamLogDtRefIdeal.nD Cert.AdamLogDtRefIdeal.τ).loc Cert.AdamLogDtRefIdeal.main_arg1) = m ((c.tc : Thread Cert.AdamLogDtRefIdeal.nD Cert.AdamLogDtRefIdeal.τ).loc Cert.AdamLogDtRefIdeal.main_arg1)
      ∧ r.2.mem ((c.tc : Thread Cert.AdamLogDtRefIdeal.nD Cert.AdamLogDtRefIdeal.τ).loc Cert.AdamLogDtRefIdeal.main_arg2) = m ((c.tc : Thread Cert.AdamLogDtRefIdeal.nD Cert.AdamLogDtRefIdeal.τ).loc Cert.AdamLogDtRefIdeal.main_arg2)
      ∧ r.2.mem ((c.tc : Thread Cert.AdamLogDtRefIdeal.nD Cert.AdamLogDtRefIdeal.τ).loc Cert.AdamLogDtRefIdeal.main_arg3) = m ((c.tc : Thread Cert.AdamLogDtRefIdeal.nD Cert.AdamLogDtRefIdeal.τ).loc Cert.AdamLogDtRefIdeal.main_arg3))
      ∧ r.2.sem = fun _ => 0)

def quiescent_AdamSsmB [hAdamSsmB : Cert.AdamSsmB.Facts] : Prop :=
  ∀ (m : (ℓ : Loc Cert.AdamSsmB.nD Cert.AdamSsmB.τ Cert.AdamSsmB.sig) → Buf (Elt Bits) ℓ) (g : Dev Cert.AdamSsmB.nD → PrngReg), Pre_AdamSsmB m →
    θ_run (Cert.AdamSsmB.defs (F := Bits)) (onTc (τ := Cert.AdamSsmB.τ) (Cert.AdamSsmB.main (F := Bits))) ⟨m, fun _ => 0, g⟩ (fun r => (∀ c : Dev Cert.AdamSsmB.nD,
      r.2.mem ((c.tc : Thread Cert.AdamSsmB.nD Cert.AdamSsmB.τ).loc Cert.AdamSsmB.main_arg0) = m ((c.tc : Thread Cert.AdamSsmB.nD Cert.AdamSsmB.τ).loc Cert.AdamSsmB.main_arg0)
      ∧ r.2.mem ((c.tc : Thread Cert.AdamSsmB.nD Cert.AdamSsmB.τ).loc Cert.AdamSsmB.main_arg1) = m ((c.tc : Thread Cert.AdamSsmB.nD Cert.AdamSsmB.τ).loc Cert.AdamSsmB.main_arg1)
      ∧ r.2.mem ((c.tc : Thread Cert.AdamSsmB.nD Cert.AdamSsmB.τ).loc Cert.AdamSsmB.main_arg2) = m ((c.tc : Thread Cert.AdamSsmB.nD Cert.AdamSsmB.τ).loc Cert.AdamSsmB.main_arg2)
      ∧ r.2.mem ((c.tc : Thread Cert.AdamSsmB.nD Cert.AdamSsmB.τ).loc Cert.AdamSsmB.main_arg3) = m ((c.tc : Thread Cert.AdamSsmB.nD Cert.AdamSsmB.τ).loc Cert.AdamSsmB.main_arg3))
      ∧ r.2.sem = fun _ => 0)

def quiescent_AdamSsmBIdeal [hAdamSsmBIdeal : Cert.AdamSsmBIdeal.Facts] : Prop :=
  ∀ (m : (ℓ : Loc Cert.AdamSsmBIdeal.nD Cert.AdamSsmBIdeal.τ Cert.AdamSsmBIdeal.sig) → Buf (Elt Ideal) ℓ) (g : Dev Cert.AdamSsmBIdeal.nD → PrngReg), Pre_AdamSsmBIdeal m →
    θ_run (Cert.AdamSsmBIdeal.defs (F := Ideal)) (onTc (τ := Cert.AdamSsmBIdeal.τ) (Cert.AdamSsmBIdeal.main (F := Ideal))) ⟨m, fun _ => 0, g⟩ (fun r => (∀ c : Dev Cert.AdamSsmBIdeal.nD,
      r.2.mem ((c.tc : Thread Cert.AdamSsmBIdeal.nD Cert.AdamSsmBIdeal.τ).loc Cert.AdamSsmBIdeal.main_arg0) = m ((c.tc : Thread Cert.AdamSsmBIdeal.nD Cert.AdamSsmBIdeal.τ).loc Cert.AdamSsmBIdeal.main_arg0)
      ∧ r.2.mem ((c.tc : Thread Cert.AdamSsmBIdeal.nD Cert.AdamSsmBIdeal.τ).loc Cert.AdamSsmBIdeal.main_arg1) = m ((c.tc : Thread Cert.AdamSsmBIdeal.nD Cert.AdamSsmBIdeal.τ).loc Cert.AdamSsmBIdeal.main_arg1)
      ∧ r.2.mem ((c.tc : Thread Cert.AdamSsmBIdeal.nD Cert.AdamSsmBIdeal.τ).loc Cert.AdamSsmBIdeal.main_arg2) = m ((c.tc : Thread Cert.AdamSsmBIdeal.nD Cert.AdamSsmBIdeal.τ).loc Cert.AdamSsmBIdeal.main_arg2)
      ∧ r.2.mem ((c.tc : Thread Cert.AdamSsmBIdeal.nD Cert.AdamSsmBIdeal.τ).loc Cert.AdamSsmBIdeal.main_arg3) = m ((c.tc : Thread Cert.AdamSsmBIdeal.nD Cert.AdamSsmBIdeal.τ).loc Cert.AdamSsmBIdeal.main_arg3))
      ∧ r.2.sem = fun _ => 0)

def quiescent_AdamSsmBRefIdeal [hAdamSsmBRefIdeal : Cert.AdamSsmBRefIdeal.Facts] : Prop :=
  ∀ (m : (ℓ : Loc Cert.AdamSsmBRefIdeal.nD Cert.AdamSsmBRefIdeal.τ Cert.AdamSsmBRefIdeal.sig) → Buf (Elt Ideal) ℓ) (g : Dev Cert.AdamSsmBRefIdeal.nD → PrngReg), Pre_AdamSsmBRefIdeal m →
    θ_run (Cert.AdamSsmBRefIdeal.defs (F := Ideal)) (onTc (τ := Cert.AdamSsmBRefIdeal.τ) (Cert.AdamSsmBRefIdeal.main (F := Ideal))) ⟨m, fun _ => 0, g⟩ (fun r => (∀ c : Dev Cert.AdamSsmBRefIdeal.nD,
      r.2.mem ((c.tc : Thread Cert.AdamSsmBRefIdeal.nD Cert.AdamSsmBRefIdeal.τ).loc Cert.AdamSsmBRefIdeal.main_arg0) = m ((c.tc : Thread Cert.AdamSsmBRefIdeal.nD Cert.AdamSsmBRefIdeal.τ).loc Cert.AdamSsmBRefIdeal.main_arg0)
      ∧ r.2.mem ((c.tc : Thread Cert.AdamSsmBRefIdeal.nD Cert.AdamSsmBRefIdeal.τ).loc Cert.AdamSsmBRefIdeal.main_arg1) = m ((c.tc : Thread Cert.AdamSsmBRefIdeal.nD Cert.AdamSsmBRefIdeal.τ).loc Cert.AdamSsmBRefIdeal.main_arg1)
      ∧ r.2.mem ((c.tc : Thread Cert.AdamSsmBRefIdeal.nD Cert.AdamSsmBRefIdeal.τ).loc Cert.AdamSsmBRefIdeal.main_arg2) = m ((c.tc : Thread Cert.AdamSsmBRefIdeal.nD Cert.AdamSsmBRefIdeal.τ).loc Cert.AdamSsmBRefIdeal.main_arg2)
      ∧ r.2.mem ((c.tc : Thread Cert.AdamSsmBRefIdeal.nD Cert.AdamSsmBRefIdeal.τ).loc Cert.AdamSsmBRefIdeal.main_arg3) = m ((c.tc : Thread Cert.AdamSsmBRefIdeal.nD Cert.AdamSsmBRefIdeal.τ).loc Cert.AdamSsmBRefIdeal.main_arg3))
      ∧ r.2.sem = fun _ => 0)

def quiescent_AdamSsmC [hAdamSsmC : Cert.AdamSsmC.Facts] : Prop :=
  ∀ (m : (ℓ : Loc Cert.AdamSsmC.nD Cert.AdamSsmC.τ Cert.AdamSsmC.sig) → Buf (Elt Bits) ℓ) (g : Dev Cert.AdamSsmC.nD → PrngReg), Pre_AdamSsmC m →
    θ_run (Cert.AdamSsmC.defs (F := Bits)) (onTc (τ := Cert.AdamSsmC.τ) (Cert.AdamSsmC.main (F := Bits))) ⟨m, fun _ => 0, g⟩ (fun r => (∀ c : Dev Cert.AdamSsmC.nD,
      r.2.mem ((c.tc : Thread Cert.AdamSsmC.nD Cert.AdamSsmC.τ).loc Cert.AdamSsmC.main_arg0) = m ((c.tc : Thread Cert.AdamSsmC.nD Cert.AdamSsmC.τ).loc Cert.AdamSsmC.main_arg0)
      ∧ r.2.mem ((c.tc : Thread Cert.AdamSsmC.nD Cert.AdamSsmC.τ).loc Cert.AdamSsmC.main_arg1) = m ((c.tc : Thread Cert.AdamSsmC.nD Cert.AdamSsmC.τ).loc Cert.AdamSsmC.main_arg1)
      ∧ r.2.mem ((c.tc : Thread Cert.AdamSsmC.nD Cert.AdamSsmC.τ).loc Cert.AdamSsmC.main_arg2) = m ((c.tc : Thread Cert.AdamSsmC.nD Cert.AdamSsmC.τ).loc Cert.AdamSsmC.main_arg2)
      ∧ r.2.mem ((c.tc : Thread Cert.AdamSsmC.nD Cert.AdamSsmC.τ).loc Cert.AdamSsmC.main_arg3) = m ((c.tc : Thread Cert.AdamSsmC.nD Cert.AdamSsmC.τ).loc Cert.AdamSsmC.main_arg3))
      ∧ r.2.sem = fun _ => 0)

def quiescent_AdamSsmCIdeal [hAdamSsmCIdeal : Cert.AdamSsmCIdeal.Facts] : Prop :=
  ∀ (m : (ℓ : Loc Cert.AdamSsmCIdeal.nD Cert.AdamSsmCIdeal.τ Cert.AdamSsmCIdeal.sig) → Buf (Elt Ideal) ℓ) (g : Dev Cert.AdamSsmCIdeal.nD → PrngReg), Pre_AdamSsmCIdeal m →
    θ_run (Cert.AdamSsmCIdeal.defs (F := Ideal)) (onTc (τ := Cert.AdamSsmCIdeal.τ) (Cert.AdamSsmCIdeal.main (F := Ideal))) ⟨m, fun _ => 0, g⟩ (fun r => (∀ c : Dev Cert.AdamSsmCIdeal.nD,
      r.2.mem ((c.tc : Thread Cert.AdamSsmCIdeal.nD Cert.AdamSsmCIdeal.τ).loc Cert.AdamSsmCIdeal.main_arg0) = m ((c.tc : Thread Cert.AdamSsmCIdeal.nD Cert.AdamSsmCIdeal.τ).loc Cert.AdamSsmCIdeal.main_arg0)
      ∧ r.2.mem ((c.tc : Thread Cert.AdamSsmCIdeal.nD Cert.AdamSsmCIdeal.τ).loc Cert.AdamSsmCIdeal.main_arg1) = m ((c.tc : Thread Cert.AdamSsmCIdeal.nD Cert.AdamSsmCIdeal.τ).loc Cert.AdamSsmCIdeal.main_arg1)
      ∧ r.2.mem ((c.tc : Thread Cert.AdamSsmCIdeal.nD Cert.AdamSsmCIdeal.τ).loc Cert.AdamSsmCIdeal.main_arg2) = m ((c.tc : Thread Cert.AdamSsmCIdeal.nD Cert.AdamSsmCIdeal.τ).loc Cert.AdamSsmCIdeal.main_arg2)
      ∧ r.2.mem ((c.tc : Thread Cert.AdamSsmCIdeal.nD Cert.AdamSsmCIdeal.τ).loc Cert.AdamSsmCIdeal.main_arg3) = m ((c.tc : Thread Cert.AdamSsmCIdeal.nD Cert.AdamSsmCIdeal.τ).loc Cert.AdamSsmCIdeal.main_arg3))
      ∧ r.2.sem = fun _ => 0)

def quiescent_AdamSsmCRefIdeal [hAdamSsmCRefIdeal : Cert.AdamSsmCRefIdeal.Facts] : Prop :=
  ∀ (m : (ℓ : Loc Cert.AdamSsmCRefIdeal.nD Cert.AdamSsmCRefIdeal.τ Cert.AdamSsmCRefIdeal.sig) → Buf (Elt Ideal) ℓ) (g : Dev Cert.AdamSsmCRefIdeal.nD → PrngReg), Pre_AdamSsmCRefIdeal m →
    θ_run (Cert.AdamSsmCRefIdeal.defs (F := Ideal)) (onTc (τ := Cert.AdamSsmCRefIdeal.τ) (Cert.AdamSsmCRefIdeal.main (F := Ideal))) ⟨m, fun _ => 0, g⟩ (fun r => (∀ c : Dev Cert.AdamSsmCRefIdeal.nD,
      r.2.mem ((c.tc : Thread Cert.AdamSsmCRefIdeal.nD Cert.AdamSsmCRefIdeal.τ).loc Cert.AdamSsmCRefIdeal.main_arg0) = m ((c.tc : Thread Cert.AdamSsmCRefIdeal.nD Cert.AdamSsmCRefIdeal.τ).loc Cert.AdamSsmCRefIdeal.main_arg0)
      ∧ r.2.mem ((c.tc : Thread Cert.AdamSsmCRefIdeal.nD Cert.AdamSsmCRefIdeal.τ).loc Cert.AdamSsmCRefIdeal.main_arg1) = m ((c.tc : Thread Cert.AdamSsmCRefIdeal.nD Cert.AdamSsmCRefIdeal.τ).loc Cert.AdamSsmCRefIdeal.main_arg1)
      ∧ r.2.mem ((c.tc : Thread Cert.AdamSsmCRefIdeal.nD Cert.AdamSsmCRefIdeal.τ).loc Cert.AdamSsmCRefIdeal.main_arg2) = m ((c.tc : Thread Cert.AdamSsmCRefIdeal.nD Cert.AdamSsmCRefIdeal.τ).loc Cert.AdamSsmCRefIdeal.main_arg2)
      ∧ r.2.mem ((c.tc : Thread Cert.AdamSsmCRefIdeal.nD Cert.AdamSsmCRefIdeal.τ).loc Cert.AdamSsmCRefIdeal.main_arg3) = m ((c.tc : Thread Cert.AdamSsmCRefIdeal.nD Cert.AdamSsmCRefIdeal.τ).loc Cert.AdamSsmCRefIdeal.main_arg3))
      ∧ r.2.sem = fun _ => 0)

def quiescent_AdamSsmD [hAdamSsmD : Cert.AdamSsmD.Facts] : Prop :=
  ∀ (m : (ℓ : Loc Cert.AdamSsmD.nD Cert.AdamSsmD.τ Cert.AdamSsmD.sig) → Buf (Elt Bits) ℓ) (g : Dev Cert.AdamSsmD.nD → PrngReg), Pre_AdamSsmD m →
    θ_run (Cert.AdamSsmD.defs (F := Bits)) (onTc (τ := Cert.AdamSsmD.τ) (Cert.AdamSsmD.main (F := Bits))) ⟨m, fun _ => 0, g⟩ (fun r => (∀ c : Dev Cert.AdamSsmD.nD,
      r.2.mem ((c.tc : Thread Cert.AdamSsmD.nD Cert.AdamSsmD.τ).loc Cert.AdamSsmD.main_arg0) = m ((c.tc : Thread Cert.AdamSsmD.nD Cert.AdamSsmD.τ).loc Cert.AdamSsmD.main_arg0)
      ∧ r.2.mem ((c.tc : Thread Cert.AdamSsmD.nD Cert.AdamSsmD.τ).loc Cert.AdamSsmD.main_arg1) = m ((c.tc : Thread Cert.AdamSsmD.nD Cert.AdamSsmD.τ).loc Cert.AdamSsmD.main_arg1)
      ∧ r.2.mem ((c.tc : Thread Cert.AdamSsmD.nD Cert.AdamSsmD.τ).loc Cert.AdamSsmD.main_arg2) = m ((c.tc : Thread Cert.AdamSsmD.nD Cert.AdamSsmD.τ).loc Cert.AdamSsmD.main_arg2)
      ∧ r.2.mem ((c.tc : Thread Cert.AdamSsmD.nD Cert.AdamSsmD.τ).loc Cert.AdamSsmD.main_arg3) = m ((c.tc : Thread Cert.AdamSsmD.nD Cert.AdamSsmD.τ).loc Cert.AdamSsmD.main_arg3))
      ∧ r.2.sem = fun _ => 0)

def quiescent_AdamSsmDIdeal [hAdamSsmDIdeal : Cert.AdamSsmDIdeal.Facts] : Prop :=
  ∀ (m : (ℓ : Loc Cert.AdamSsmDIdeal.nD Cert.AdamSsmDIdeal.τ Cert.AdamSsmDIdeal.sig) → Buf (Elt Ideal) ℓ) (g : Dev Cert.AdamSsmDIdeal.nD → PrngReg), Pre_AdamSsmDIdeal m →
    θ_run (Cert.AdamSsmDIdeal.defs (F := Ideal)) (onTc (τ := Cert.AdamSsmDIdeal.τ) (Cert.AdamSsmDIdeal.main (F := Ideal))) ⟨m, fun _ => 0, g⟩ (fun r => (∀ c : Dev Cert.AdamSsmDIdeal.nD,
      r.2.mem ((c.tc : Thread Cert.AdamSsmDIdeal.nD Cert.AdamSsmDIdeal.τ).loc Cert.AdamSsmDIdeal.main_arg0) = m ((c.tc : Thread Cert.AdamSsmDIdeal.nD Cert.AdamSsmDIdeal.τ).loc Cert.AdamSsmDIdeal.main_arg0)
      ∧ r.2.mem ((c.tc : Thread Cert.AdamSsmDIdeal.nD Cert.AdamSsmDIdeal.τ).loc Cert.AdamSsmDIdeal.main_arg1) = m ((c.tc : Thread Cert.AdamSsmDIdeal.nD Cert.AdamSsmDIdeal.τ).loc Cert.AdamSsmDIdeal.main_arg1)
      ∧ r.2.mem ((c.tc : Thread Cert.AdamSsmDIdeal.nD Cert.AdamSsmDIdeal.τ).loc Cert.AdamSsmDIdeal.main_arg2) = m ((c.tc : Thread Cert.AdamSsmDIdeal.nD Cert.AdamSsmDIdeal.τ).loc Cert.AdamSsmDIdeal.main_arg2)
      ∧ r.2.mem ((c.tc : Thread Cert.AdamSsmDIdeal.nD Cert.AdamSsmDIdeal.τ).loc Cert.AdamSsmDIdeal.main_arg3) = m ((c.tc : Thread Cert.AdamSsmDIdeal.nD Cert.AdamSsmDIdeal.τ).loc Cert.AdamSsmDIdeal.main_arg3))
      ∧ r.2.sem = fun _ => 0)

def quiescent_AdamSsmDRefIdeal [hAdamSsmDRefIdeal : Cert.AdamSsmDRefIdeal.Facts] : Prop :=
  ∀ (m : (ℓ : Loc Cert.AdamSsmDRefIdeal.nD Cert.AdamSsmDRefIdeal.τ Cert.AdamSsmDRefIdeal.sig) → Buf (Elt Ideal) ℓ) (g : Dev Cert.AdamSsmDRefIdeal.nD → PrngReg), Pre_AdamSsmDRefIdeal m →
    θ_run (Cert.AdamSsmDRefIdeal.defs (F := Ideal)) (onTc (τ := Cert.AdamSsmDRefIdeal.τ) (Cert.AdamSsmDRefIdeal.main (F := Ideal))) ⟨m, fun _ => 0, g⟩ (fun r => (∀ c : Dev Cert.AdamSsmDRefIdeal.nD,
      r.2.mem ((c.tc : Thread Cert.AdamSsmDRefIdeal.nD Cert.AdamSsmDRefIdeal.τ).loc Cert.AdamSsmDRefIdeal.main_arg0) = m ((c.tc : Thread Cert.AdamSsmDRefIdeal.nD Cert.AdamSsmDRefIdeal.τ).loc Cert.AdamSsmDRefIdeal.main_arg0)
      ∧ r.2.mem ((c.tc : Thread Cert.AdamSsmDRefIdeal.nD Cert.AdamSsmDRefIdeal.τ).loc Cert.AdamSsmDRefIdeal.main_arg1) = m ((c.tc : Thread Cert.AdamSsmDRefIdeal.nD Cert.AdamSsmDRefIdeal.τ).loc Cert.AdamSsmDRefIdeal.main_arg1)
      ∧ r.2.mem ((c.tc : Thread Cert.AdamSsmDRefIdeal.nD Cert.AdamSsmDRefIdeal.τ).loc Cert.AdamSsmDRefIdeal.main_arg2) = m ((c.tc : Thread Cert.AdamSsmDRefIdeal.nD Cert.AdamSsmDRefIdeal.τ).loc Cert.AdamSsmDRefIdeal.main_arg2)
      ∧ r.2.mem ((c.tc : Thread Cert.AdamSsmDRefIdeal.nD Cert.AdamSsmDRefIdeal.τ).loc Cert.AdamSsmDRefIdeal.main_arg3) = m ((c.tc : Thread Cert.AdamSsmDRefIdeal.nD Cert.AdamSsmDRefIdeal.τ).loc Cert.AdamSsmDRefIdeal.main_arg3))
      ∧ r.2.sem = fun _ => 0)

def quiescent_AdamMixIn [hAdamMixIn : Cert.AdamMixIn.Facts] : Prop :=
  ∀ (m : (ℓ : Loc Cert.AdamMixIn.nD Cert.AdamMixIn.τ Cert.AdamMixIn.sig) → Buf (Elt Bits) ℓ) (g : Dev Cert.AdamMixIn.nD → PrngReg), Pre_AdamMixIn m →
    θ_run (Cert.AdamMixIn.defs (F := Bits)) (onTc (τ := Cert.AdamMixIn.τ) (Cert.AdamMixIn.main (F := Bits))) ⟨m, fun _ => 0, g⟩ (fun r => (∀ c : Dev Cert.AdamMixIn.nD,
      r.2.mem ((c.tc : Thread Cert.AdamMixIn.nD Cert.AdamMixIn.τ).loc Cert.AdamMixIn.main_arg0) = m ((c.tc : Thread Cert.AdamMixIn.nD Cert.AdamMixIn.τ).loc Cert.AdamMixIn.main_arg0)
      ∧ r.2.mem ((c.tc : Thread Cert.AdamMixIn.nD Cert.AdamMixIn.τ).loc Cert.AdamMixIn.main_arg1) = m ((c.tc : Thread Cert.AdamMixIn.nD Cert.AdamMixIn.τ).loc Cert.AdamMixIn.main_arg1)
      ∧ r.2.mem ((c.tc : Thread Cert.AdamMixIn.nD Cert.AdamMixIn.τ).loc Cert.AdamMixIn.main_arg2) = m ((c.tc : Thread Cert.AdamMixIn.nD Cert.AdamMixIn.τ).loc Cert.AdamMixIn.main_arg2)
      ∧ r.2.mem ((c.tc : Thread Cert.AdamMixIn.nD Cert.AdamMixIn.τ).loc Cert.AdamMixIn.main_arg3) = m ((c.tc : Thread Cert.AdamMixIn.nD Cert.AdamMixIn.τ).loc Cert.AdamMixIn.main_arg3))
      ∧ r.2.sem = fun _ => 0)

def quiescent_AdamMixInIdeal [hAdamMixInIdeal : Cert.AdamMixInIdeal.Facts] : Prop :=
  ∀ (m : (ℓ : Loc Cert.AdamMixInIdeal.nD Cert.AdamMixInIdeal.τ Cert.AdamMixInIdeal.sig) → Buf (Elt Ideal) ℓ) (g : Dev Cert.AdamMixInIdeal.nD → PrngReg), Pre_AdamMixInIdeal m →
    θ_run (Cert.AdamMixInIdeal.defs (F := Ideal)) (onTc (τ := Cert.AdamMixInIdeal.τ) (Cert.AdamMixInIdeal.main (F := Ideal))) ⟨m, fun _ => 0, g⟩ (fun r => (∀ c : Dev Cert.AdamMixInIdeal.nD,
      r.2.mem ((c.tc : Thread Cert.AdamMixInIdeal.nD Cert.AdamMixInIdeal.τ).loc Cert.AdamMixInIdeal.main_arg0) = m ((c.tc : Thread Cert.AdamMixInIdeal.nD Cert.AdamMixInIdeal.τ).loc Cert.AdamMixInIdeal.main_arg0)
      ∧ r.2.mem ((c.tc : Thread Cert.AdamMixInIdeal.nD Cert.AdamMixInIdeal.τ).loc Cert.AdamMixInIdeal.main_arg1) = m ((c.tc : Thread Cert.AdamMixInIdeal.nD Cert.AdamMixInIdeal.τ).loc Cert.AdamMixInIdeal.main_arg1)
      ∧ r.2.mem ((c.tc : Thread Cert.AdamMixInIdeal.nD Cert.AdamMixInIdeal.τ).loc Cert.AdamMixInIdeal.main_arg2) = m ((c.tc : Thread Cert.AdamMixInIdeal.nD Cert.AdamMixInIdeal.τ).loc Cert.AdamMixInIdeal.main_arg2)
      ∧ r.2.mem ((c.tc : Thread Cert.AdamMixInIdeal.nD Cert.AdamMixInIdeal.τ).loc Cert.AdamMixInIdeal.main_arg3) = m ((c.tc : Thread Cert.AdamMixInIdeal.nD Cert.AdamMixInIdeal.τ).loc Cert.AdamMixInIdeal.main_arg3))
      ∧ r.2.sem = fun _ => 0)

def quiescent_AdamMixInRefIdeal [hAdamMixInRefIdeal : Cert.AdamMixInRefIdeal.Facts] : Prop :=
  ∀ (m : (ℓ : Loc Cert.AdamMixInRefIdeal.nD Cert.AdamMixInRefIdeal.τ Cert.AdamMixInRefIdeal.sig) → Buf (Elt Ideal) ℓ) (g : Dev Cert.AdamMixInRefIdeal.nD → PrngReg), Pre_AdamMixInRefIdeal m →
    θ_run (Cert.AdamMixInRefIdeal.defs (F := Ideal)) (onTc (τ := Cert.AdamMixInRefIdeal.τ) (Cert.AdamMixInRefIdeal.main (F := Ideal))) ⟨m, fun _ => 0, g⟩ (fun r => (∀ c : Dev Cert.AdamMixInRefIdeal.nD,
      r.2.mem ((c.tc : Thread Cert.AdamMixInRefIdeal.nD Cert.AdamMixInRefIdeal.τ).loc Cert.AdamMixInRefIdeal.main_arg0) = m ((c.tc : Thread Cert.AdamMixInRefIdeal.nD Cert.AdamMixInRefIdeal.τ).loc Cert.AdamMixInRefIdeal.main_arg0)
      ∧ r.2.mem ((c.tc : Thread Cert.AdamMixInRefIdeal.nD Cert.AdamMixInRefIdeal.τ).loc Cert.AdamMixInRefIdeal.main_arg1) = m ((c.tc : Thread Cert.AdamMixInRefIdeal.nD Cert.AdamMixInRefIdeal.τ).loc Cert.AdamMixInRefIdeal.main_arg1)
      ∧ r.2.mem ((c.tc : Thread Cert.AdamMixInRefIdeal.nD Cert.AdamMixInRefIdeal.τ).loc Cert.AdamMixInRefIdeal.main_arg2) = m ((c.tc : Thread Cert.AdamMixInRefIdeal.nD Cert.AdamMixInRefIdeal.τ).loc Cert.AdamMixInRefIdeal.main_arg2)
      ∧ r.2.mem ((c.tc : Thread Cert.AdamMixInRefIdeal.nD Cert.AdamMixInRefIdeal.τ).loc Cert.AdamMixInRefIdeal.main_arg3) = m ((c.tc : Thread Cert.AdamMixInRefIdeal.nD Cert.AdamMixInRefIdeal.τ).loc Cert.AdamMixInRefIdeal.main_arg3))
      ∧ r.2.sem = fun _ => 0)

def quiescent_AdamMixBias [hAdamMixBias : Cert.AdamMixBias.Facts] : Prop :=
  ∀ (m : (ℓ : Loc Cert.AdamMixBias.nD Cert.AdamMixBias.τ Cert.AdamMixBias.sig) → Buf (Elt Bits) ℓ) (g : Dev Cert.AdamMixBias.nD → PrngReg), Pre_AdamMixBias m →
    θ_run (Cert.AdamMixBias.defs (F := Bits)) (onTc (τ := Cert.AdamMixBias.τ) (Cert.AdamMixBias.main (F := Bits))) ⟨m, fun _ => 0, g⟩ (fun r => (∀ c : Dev Cert.AdamMixBias.nD,
      r.2.mem ((c.tc : Thread Cert.AdamMixBias.nD Cert.AdamMixBias.τ).loc Cert.AdamMixBias.main_arg0) = m ((c.tc : Thread Cert.AdamMixBias.nD Cert.AdamMixBias.τ).loc Cert.AdamMixBias.main_arg0)
      ∧ r.2.mem ((c.tc : Thread Cert.AdamMixBias.nD Cert.AdamMixBias.τ).loc Cert.AdamMixBias.main_arg1) = m ((c.tc : Thread Cert.AdamMixBias.nD Cert.AdamMixBias.τ).loc Cert.AdamMixBias.main_arg1)
      ∧ r.2.mem ((c.tc : Thread Cert.AdamMixBias.nD Cert.AdamMixBias.τ).loc Cert.AdamMixBias.main_arg2) = m ((c.tc : Thread Cert.AdamMixBias.nD Cert.AdamMixBias.τ).loc Cert.AdamMixBias.main_arg2)
      ∧ r.2.mem ((c.tc : Thread Cert.AdamMixBias.nD Cert.AdamMixBias.τ).loc Cert.AdamMixBias.main_arg3) = m ((c.tc : Thread Cert.AdamMixBias.nD Cert.AdamMixBias.τ).loc Cert.AdamMixBias.main_arg3))
      ∧ r.2.sem = fun _ => 0)

def quiescent_AdamMixBiasIdeal [hAdamMixBiasIdeal : Cert.AdamMixBiasIdeal.Facts] : Prop :=
  ∀ (m : (ℓ : Loc Cert.AdamMixBiasIdeal.nD Cert.AdamMixBiasIdeal.τ Cert.AdamMixBiasIdeal.sig) → Buf (Elt Ideal) ℓ) (g : Dev Cert.AdamMixBiasIdeal.nD → PrngReg), Pre_AdamMixBiasIdeal m →
    θ_run (Cert.AdamMixBiasIdeal.defs (F := Ideal)) (onTc (τ := Cert.AdamMixBiasIdeal.τ) (Cert.AdamMixBiasIdeal.main (F := Ideal))) ⟨m, fun _ => 0, g⟩ (fun r => (∀ c : Dev Cert.AdamMixBiasIdeal.nD,
      r.2.mem ((c.tc : Thread Cert.AdamMixBiasIdeal.nD Cert.AdamMixBiasIdeal.τ).loc Cert.AdamMixBiasIdeal.main_arg0) = m ((c.tc : Thread Cert.AdamMixBiasIdeal.nD Cert.AdamMixBiasIdeal.τ).loc Cert.AdamMixBiasIdeal.main_arg0)
      ∧ r.2.mem ((c.tc : Thread Cert.AdamMixBiasIdeal.nD Cert.AdamMixBiasIdeal.τ).loc Cert.AdamMixBiasIdeal.main_arg1) = m ((c.tc : Thread Cert.AdamMixBiasIdeal.nD Cert.AdamMixBiasIdeal.τ).loc Cert.AdamMixBiasIdeal.main_arg1)
      ∧ r.2.mem ((c.tc : Thread Cert.AdamMixBiasIdeal.nD Cert.AdamMixBiasIdeal.τ).loc Cert.AdamMixBiasIdeal.main_arg2) = m ((c.tc : Thread Cert.AdamMixBiasIdeal.nD Cert.AdamMixBiasIdeal.τ).loc Cert.AdamMixBiasIdeal.main_arg2)
      ∧ r.2.mem ((c.tc : Thread Cert.AdamMixBiasIdeal.nD Cert.AdamMixBiasIdeal.τ).loc Cert.AdamMixBiasIdeal.main_arg3) = m ((c.tc : Thread Cert.AdamMixBiasIdeal.nD Cert.AdamMixBiasIdeal.τ).loc Cert.AdamMixBiasIdeal.main_arg3))
      ∧ r.2.sem = fun _ => 0)

def quiescent_AdamMixBiasRefIdeal [hAdamMixBiasRefIdeal : Cert.AdamMixBiasRefIdeal.Facts] : Prop :=
  ∀ (m : (ℓ : Loc Cert.AdamMixBiasRefIdeal.nD Cert.AdamMixBiasRefIdeal.τ Cert.AdamMixBiasRefIdeal.sig) → Buf (Elt Ideal) ℓ) (g : Dev Cert.AdamMixBiasRefIdeal.nD → PrngReg), Pre_AdamMixBiasRefIdeal m →
    θ_run (Cert.AdamMixBiasRefIdeal.defs (F := Ideal)) (onTc (τ := Cert.AdamMixBiasRefIdeal.τ) (Cert.AdamMixBiasRefIdeal.main (F := Ideal))) ⟨m, fun _ => 0, g⟩ (fun r => (∀ c : Dev Cert.AdamMixBiasRefIdeal.nD,
      r.2.mem ((c.tc : Thread Cert.AdamMixBiasRefIdeal.nD Cert.AdamMixBiasRefIdeal.τ).loc Cert.AdamMixBiasRefIdeal.main_arg0) = m ((c.tc : Thread Cert.AdamMixBiasRefIdeal.nD Cert.AdamMixBiasRefIdeal.τ).loc Cert.AdamMixBiasRefIdeal.main_arg0)
      ∧ r.2.mem ((c.tc : Thread Cert.AdamMixBiasRefIdeal.nD Cert.AdamMixBiasRefIdeal.τ).loc Cert.AdamMixBiasRefIdeal.main_arg1) = m ((c.tc : Thread Cert.AdamMixBiasRefIdeal.nD Cert.AdamMixBiasRefIdeal.τ).loc Cert.AdamMixBiasRefIdeal.main_arg1)
      ∧ r.2.mem ((c.tc : Thread Cert.AdamMixBiasRefIdeal.nD Cert.AdamMixBiasRefIdeal.τ).loc Cert.AdamMixBiasRefIdeal.main_arg2) = m ((c.tc : Thread Cert.AdamMixBiasRefIdeal.nD Cert.AdamMixBiasRefIdeal.τ).loc Cert.AdamMixBiasRefIdeal.main_arg2)
      ∧ r.2.mem ((c.tc : Thread Cert.AdamMixBiasRefIdeal.nD Cert.AdamMixBiasRefIdeal.τ).loc Cert.AdamMixBiasRefIdeal.main_arg3) = m ((c.tc : Thread Cert.AdamMixBiasRefIdeal.nD Cert.AdamMixBiasRefIdeal.τ).loc Cert.AdamMixBiasRefIdeal.main_arg3))
      ∧ r.2.sem = fun _ => 0)

def quiescent_AdamMixNorm [hAdamMixNorm : Cert.AdamMixNorm.Facts] : Prop :=
  ∀ (m : (ℓ : Loc Cert.AdamMixNorm.nD Cert.AdamMixNorm.τ Cert.AdamMixNorm.sig) → Buf (Elt Bits) ℓ) (g : Dev Cert.AdamMixNorm.nD → PrngReg), Pre_AdamMixNorm m →
    θ_run (Cert.AdamMixNorm.defs (F := Bits)) (onTc (τ := Cert.AdamMixNorm.τ) (Cert.AdamMixNorm.main (F := Bits))) ⟨m, fun _ => 0, g⟩ (fun r => (∀ c : Dev Cert.AdamMixNorm.nD,
      r.2.mem ((c.tc : Thread Cert.AdamMixNorm.nD Cert.AdamMixNorm.τ).loc Cert.AdamMixNorm.main_arg0) = m ((c.tc : Thread Cert.AdamMixNorm.nD Cert.AdamMixNorm.τ).loc Cert.AdamMixNorm.main_arg0)
      ∧ r.2.mem ((c.tc : Thread Cert.AdamMixNorm.nD Cert.AdamMixNorm.τ).loc Cert.AdamMixNorm.main_arg1) = m ((c.tc : Thread Cert.AdamMixNorm.nD Cert.AdamMixNorm.τ).loc Cert.AdamMixNorm.main_arg1)
      ∧ r.2.mem ((c.tc : Thread Cert.AdamMixNorm.nD Cert.AdamMixNorm.τ).loc Cert.AdamMixNorm.main_arg2) = m ((c.tc : Thread Cert.AdamMixNorm.nD Cert.AdamMixNorm.τ).loc Cert.AdamMixNorm.main_arg2)
      ∧ r.2.mem ((c.tc : Thread Cert.AdamMixNorm.nD Cert.AdamMixNorm.τ).loc Cert.AdamMixNorm.main_arg3) = m ((c.tc : Thread Cert.AdamMixNorm.nD Cert.AdamMixNorm.τ).loc Cert.AdamMixNorm.main_arg3))
      ∧ r.2.sem = fun _ => 0)

def quiescent_AdamMixNormIdeal [hAdamMixNormIdeal : Cert.AdamMixNormIdeal.Facts] : Prop :=
  ∀ (m : (ℓ : Loc Cert.AdamMixNormIdeal.nD Cert.AdamMixNormIdeal.τ Cert.AdamMixNormIdeal.sig) → Buf (Elt Ideal) ℓ) (g : Dev Cert.AdamMixNormIdeal.nD → PrngReg), Pre_AdamMixNormIdeal m →
    θ_run (Cert.AdamMixNormIdeal.defs (F := Ideal)) (onTc (τ := Cert.AdamMixNormIdeal.τ) (Cert.AdamMixNormIdeal.main (F := Ideal))) ⟨m, fun _ => 0, g⟩ (fun r => (∀ c : Dev Cert.AdamMixNormIdeal.nD,
      r.2.mem ((c.tc : Thread Cert.AdamMixNormIdeal.nD Cert.AdamMixNormIdeal.τ).loc Cert.AdamMixNormIdeal.main_arg0) = m ((c.tc : Thread Cert.AdamMixNormIdeal.nD Cert.AdamMixNormIdeal.τ).loc Cert.AdamMixNormIdeal.main_arg0)
      ∧ r.2.mem ((c.tc : Thread Cert.AdamMixNormIdeal.nD Cert.AdamMixNormIdeal.τ).loc Cert.AdamMixNormIdeal.main_arg1) = m ((c.tc : Thread Cert.AdamMixNormIdeal.nD Cert.AdamMixNormIdeal.τ).loc Cert.AdamMixNormIdeal.main_arg1)
      ∧ r.2.mem ((c.tc : Thread Cert.AdamMixNormIdeal.nD Cert.AdamMixNormIdeal.τ).loc Cert.AdamMixNormIdeal.main_arg2) = m ((c.tc : Thread Cert.AdamMixNormIdeal.nD Cert.AdamMixNormIdeal.τ).loc Cert.AdamMixNormIdeal.main_arg2)
      ∧ r.2.mem ((c.tc : Thread Cert.AdamMixNormIdeal.nD Cert.AdamMixNormIdeal.τ).loc Cert.AdamMixNormIdeal.main_arg3) = m ((c.tc : Thread Cert.AdamMixNormIdeal.nD Cert.AdamMixNormIdeal.τ).loc Cert.AdamMixNormIdeal.main_arg3))
      ∧ r.2.sem = fun _ => 0)

def quiescent_AdamMixNormRefIdeal [hAdamMixNormRefIdeal : Cert.AdamMixNormRefIdeal.Facts] : Prop :=
  ∀ (m : (ℓ : Loc Cert.AdamMixNormRefIdeal.nD Cert.AdamMixNormRefIdeal.τ Cert.AdamMixNormRefIdeal.sig) → Buf (Elt Ideal) ℓ) (g : Dev Cert.AdamMixNormRefIdeal.nD → PrngReg), Pre_AdamMixNormRefIdeal m →
    θ_run (Cert.AdamMixNormRefIdeal.defs (F := Ideal)) (onTc (τ := Cert.AdamMixNormRefIdeal.τ) (Cert.AdamMixNormRefIdeal.main (F := Ideal))) ⟨m, fun _ => 0, g⟩ (fun r => (∀ c : Dev Cert.AdamMixNormRefIdeal.nD,
      r.2.mem ((c.tc : Thread Cert.AdamMixNormRefIdeal.nD Cert.AdamMixNormRefIdeal.τ).loc Cert.AdamMixNormRefIdeal.main_arg0) = m ((c.tc : Thread Cert.AdamMixNormRefIdeal.nD Cert.AdamMixNormRefIdeal.τ).loc Cert.AdamMixNormRefIdeal.main_arg0)
      ∧ r.2.mem ((c.tc : Thread Cert.AdamMixNormRefIdeal.nD Cert.AdamMixNormRefIdeal.τ).loc Cert.AdamMixNormRefIdeal.main_arg1) = m ((c.tc : Thread Cert.AdamMixNormRefIdeal.nD Cert.AdamMixNormRefIdeal.τ).loc Cert.AdamMixNormRefIdeal.main_arg1)
      ∧ r.2.mem ((c.tc : Thread Cert.AdamMixNormRefIdeal.nD Cert.AdamMixNormRefIdeal.τ).loc Cert.AdamMixNormRefIdeal.main_arg2) = m ((c.tc : Thread Cert.AdamMixNormRefIdeal.nD Cert.AdamMixNormRefIdeal.τ).loc Cert.AdamMixNormRefIdeal.main_arg2)
      ∧ r.2.mem ((c.tc : Thread Cert.AdamMixNormRefIdeal.nD Cert.AdamMixNormRefIdeal.τ).loc Cert.AdamMixNormRefIdeal.main_arg3) = m ((c.tc : Thread Cert.AdamMixNormRefIdeal.nD Cert.AdamMixNormRefIdeal.τ).loc Cert.AdamMixNormRefIdeal.main_arg3))
      ∧ r.2.sem = fun _ => 0)

def quiescent_AdamMixW [hAdamMixW : Cert.AdamMixW.Facts] : Prop :=
  ∀ (m : (ℓ : Loc Cert.AdamMixW.nD Cert.AdamMixW.τ Cert.AdamMixW.sig) → Buf (Elt Bits) ℓ) (g : Dev Cert.AdamMixW.nD → PrngReg), Pre_AdamMixW m →
    θ_run (Cert.AdamMixW.defs (F := Bits)) (onTc (τ := Cert.AdamMixW.τ) (Cert.AdamMixW.main (F := Bits))) ⟨m, fun _ => 0, g⟩ (fun r => (∀ c : Dev Cert.AdamMixW.nD,
      r.2.mem ((c.tc : Thread Cert.AdamMixW.nD Cert.AdamMixW.τ).loc Cert.AdamMixW.main_arg0) = m ((c.tc : Thread Cert.AdamMixW.nD Cert.AdamMixW.τ).loc Cert.AdamMixW.main_arg0)
      ∧ r.2.mem ((c.tc : Thread Cert.AdamMixW.nD Cert.AdamMixW.τ).loc Cert.AdamMixW.main_arg1) = m ((c.tc : Thread Cert.AdamMixW.nD Cert.AdamMixW.τ).loc Cert.AdamMixW.main_arg1)
      ∧ r.2.mem ((c.tc : Thread Cert.AdamMixW.nD Cert.AdamMixW.τ).loc Cert.AdamMixW.main_arg2) = m ((c.tc : Thread Cert.AdamMixW.nD Cert.AdamMixW.τ).loc Cert.AdamMixW.main_arg2)
      ∧ r.2.mem ((c.tc : Thread Cert.AdamMixW.nD Cert.AdamMixW.τ).loc Cert.AdamMixW.main_arg3) = m ((c.tc : Thread Cert.AdamMixW.nD Cert.AdamMixW.τ).loc Cert.AdamMixW.main_arg3))
      ∧ r.2.sem = fun _ => 0)

def quiescent_AdamMixWIdeal [hAdamMixWIdeal : Cert.AdamMixWIdeal.Facts] : Prop :=
  ∀ (m : (ℓ : Loc Cert.AdamMixWIdeal.nD Cert.AdamMixWIdeal.τ Cert.AdamMixWIdeal.sig) → Buf (Elt Ideal) ℓ) (g : Dev Cert.AdamMixWIdeal.nD → PrngReg), Pre_AdamMixWIdeal m →
    θ_run (Cert.AdamMixWIdeal.defs (F := Ideal)) (onTc (τ := Cert.AdamMixWIdeal.τ) (Cert.AdamMixWIdeal.main (F := Ideal))) ⟨m, fun _ => 0, g⟩ (fun r => (∀ c : Dev Cert.AdamMixWIdeal.nD,
      r.2.mem ((c.tc : Thread Cert.AdamMixWIdeal.nD Cert.AdamMixWIdeal.τ).loc Cert.AdamMixWIdeal.main_arg0) = m ((c.tc : Thread Cert.AdamMixWIdeal.nD Cert.AdamMixWIdeal.τ).loc Cert.AdamMixWIdeal.main_arg0)
      ∧ r.2.mem ((c.tc : Thread Cert.AdamMixWIdeal.nD Cert.AdamMixWIdeal.τ).loc Cert.AdamMixWIdeal.main_arg1) = m ((c.tc : Thread Cert.AdamMixWIdeal.nD Cert.AdamMixWIdeal.τ).loc Cert.AdamMixWIdeal.main_arg1)
      ∧ r.2.mem ((c.tc : Thread Cert.AdamMixWIdeal.nD Cert.AdamMixWIdeal.τ).loc Cert.AdamMixWIdeal.main_arg2) = m ((c.tc : Thread Cert.AdamMixWIdeal.nD Cert.AdamMixWIdeal.τ).loc Cert.AdamMixWIdeal.main_arg2)
      ∧ r.2.mem ((c.tc : Thread Cert.AdamMixWIdeal.nD Cert.AdamMixWIdeal.τ).loc Cert.AdamMixWIdeal.main_arg3) = m ((c.tc : Thread Cert.AdamMixWIdeal.nD Cert.AdamMixWIdeal.τ).loc Cert.AdamMixWIdeal.main_arg3))
      ∧ r.2.sem = fun _ => 0)

def quiescent_AdamMixWRefIdeal [hAdamMixWRefIdeal : Cert.AdamMixWRefIdeal.Facts] : Prop :=
  ∀ (m : (ℓ : Loc Cert.AdamMixWRefIdeal.nD Cert.AdamMixWRefIdeal.τ Cert.AdamMixWRefIdeal.sig) → Buf (Elt Ideal) ℓ) (g : Dev Cert.AdamMixWRefIdeal.nD → PrngReg), Pre_AdamMixWRefIdeal m →
    θ_run (Cert.AdamMixWRefIdeal.defs (F := Ideal)) (onTc (τ := Cert.AdamMixWRefIdeal.τ) (Cert.AdamMixWRefIdeal.main (F := Ideal))) ⟨m, fun _ => 0, g⟩ (fun r => (∀ c : Dev Cert.AdamMixWRefIdeal.nD,
      r.2.mem ((c.tc : Thread Cert.AdamMixWRefIdeal.nD Cert.AdamMixWRefIdeal.τ).loc Cert.AdamMixWRefIdeal.main_arg0) = m ((c.tc : Thread Cert.AdamMixWRefIdeal.nD Cert.AdamMixWRefIdeal.τ).loc Cert.AdamMixWRefIdeal.main_arg0)
      ∧ r.2.mem ((c.tc : Thread Cert.AdamMixWRefIdeal.nD Cert.AdamMixWRefIdeal.τ).loc Cert.AdamMixWRefIdeal.main_arg1) = m ((c.tc : Thread Cert.AdamMixWRefIdeal.nD Cert.AdamMixWRefIdeal.τ).loc Cert.AdamMixWRefIdeal.main_arg1)
      ∧ r.2.mem ((c.tc : Thread Cert.AdamMixWRefIdeal.nD Cert.AdamMixWRefIdeal.τ).loc Cert.AdamMixWRefIdeal.main_arg2) = m ((c.tc : Thread Cert.AdamMixWRefIdeal.nD Cert.AdamMixWRefIdeal.τ).loc Cert.AdamMixWRefIdeal.main_arg2)
      ∧ r.2.mem ((c.tc : Thread Cert.AdamMixWRefIdeal.nD Cert.AdamMixWRefIdeal.τ).loc Cert.AdamMixWRefIdeal.main_arg3) = m ((c.tc : Thread Cert.AdamMixWRefIdeal.nD Cert.AdamMixWRefIdeal.τ).loc Cert.AdamMixWRefIdeal.main_arg3))
      ∧ r.2.sem = fun _ => 0)

def quiescent_AdamMixB [hAdamMixB : Cert.AdamMixB.Facts] : Prop :=
  ∀ (m : (ℓ : Loc Cert.AdamMixB.nD Cert.AdamMixB.τ Cert.AdamMixB.sig) → Buf (Elt Bits) ℓ) (g : Dev Cert.AdamMixB.nD → PrngReg), Pre_AdamMixB m →
    θ_run (Cert.AdamMixB.defs (F := Bits)) (onTc (τ := Cert.AdamMixB.τ) (Cert.AdamMixB.main (F := Bits))) ⟨m, fun _ => 0, g⟩ (fun r => (∀ c : Dev Cert.AdamMixB.nD,
      r.2.mem ((c.tc : Thread Cert.AdamMixB.nD Cert.AdamMixB.τ).loc Cert.AdamMixB.main_arg0) = m ((c.tc : Thread Cert.AdamMixB.nD Cert.AdamMixB.τ).loc Cert.AdamMixB.main_arg0)
      ∧ r.2.mem ((c.tc : Thread Cert.AdamMixB.nD Cert.AdamMixB.τ).loc Cert.AdamMixB.main_arg1) = m ((c.tc : Thread Cert.AdamMixB.nD Cert.AdamMixB.τ).loc Cert.AdamMixB.main_arg1)
      ∧ r.2.mem ((c.tc : Thread Cert.AdamMixB.nD Cert.AdamMixB.τ).loc Cert.AdamMixB.main_arg2) = m ((c.tc : Thread Cert.AdamMixB.nD Cert.AdamMixB.τ).loc Cert.AdamMixB.main_arg2)
      ∧ r.2.mem ((c.tc : Thread Cert.AdamMixB.nD Cert.AdamMixB.τ).loc Cert.AdamMixB.main_arg3) = m ((c.tc : Thread Cert.AdamMixB.nD Cert.AdamMixB.τ).loc Cert.AdamMixB.main_arg3))
      ∧ r.2.sem = fun _ => 0)

def quiescent_AdamMixBIdeal [hAdamMixBIdeal : Cert.AdamMixBIdeal.Facts] : Prop :=
  ∀ (m : (ℓ : Loc Cert.AdamMixBIdeal.nD Cert.AdamMixBIdeal.τ Cert.AdamMixBIdeal.sig) → Buf (Elt Ideal) ℓ) (g : Dev Cert.AdamMixBIdeal.nD → PrngReg), Pre_AdamMixBIdeal m →
    θ_run (Cert.AdamMixBIdeal.defs (F := Ideal)) (onTc (τ := Cert.AdamMixBIdeal.τ) (Cert.AdamMixBIdeal.main (F := Ideal))) ⟨m, fun _ => 0, g⟩ (fun r => (∀ c : Dev Cert.AdamMixBIdeal.nD,
      r.2.mem ((c.tc : Thread Cert.AdamMixBIdeal.nD Cert.AdamMixBIdeal.τ).loc Cert.AdamMixBIdeal.main_arg0) = m ((c.tc : Thread Cert.AdamMixBIdeal.nD Cert.AdamMixBIdeal.τ).loc Cert.AdamMixBIdeal.main_arg0)
      ∧ r.2.mem ((c.tc : Thread Cert.AdamMixBIdeal.nD Cert.AdamMixBIdeal.τ).loc Cert.AdamMixBIdeal.main_arg1) = m ((c.tc : Thread Cert.AdamMixBIdeal.nD Cert.AdamMixBIdeal.τ).loc Cert.AdamMixBIdeal.main_arg1)
      ∧ r.2.mem ((c.tc : Thread Cert.AdamMixBIdeal.nD Cert.AdamMixBIdeal.τ).loc Cert.AdamMixBIdeal.main_arg2) = m ((c.tc : Thread Cert.AdamMixBIdeal.nD Cert.AdamMixBIdeal.τ).loc Cert.AdamMixBIdeal.main_arg2)
      ∧ r.2.mem ((c.tc : Thread Cert.AdamMixBIdeal.nD Cert.AdamMixBIdeal.τ).loc Cert.AdamMixBIdeal.main_arg3) = m ((c.tc : Thread Cert.AdamMixBIdeal.nD Cert.AdamMixBIdeal.τ).loc Cert.AdamMixBIdeal.main_arg3))
      ∧ r.2.sem = fun _ => 0)

def quiescent_AdamMixBRefIdeal [hAdamMixBRefIdeal : Cert.AdamMixBRefIdeal.Facts] : Prop :=
  ∀ (m : (ℓ : Loc Cert.AdamMixBRefIdeal.nD Cert.AdamMixBRefIdeal.τ Cert.AdamMixBRefIdeal.sig) → Buf (Elt Ideal) ℓ) (g : Dev Cert.AdamMixBRefIdeal.nD → PrngReg), Pre_AdamMixBRefIdeal m →
    θ_run (Cert.AdamMixBRefIdeal.defs (F := Ideal)) (onTc (τ := Cert.AdamMixBRefIdeal.τ) (Cert.AdamMixBRefIdeal.main (F := Ideal))) ⟨m, fun _ => 0, g⟩ (fun r => (∀ c : Dev Cert.AdamMixBRefIdeal.nD,
      r.2.mem ((c.tc : Thread Cert.AdamMixBRefIdeal.nD Cert.AdamMixBRefIdeal.τ).loc Cert.AdamMixBRefIdeal.main_arg0) = m ((c.tc : Thread Cert.AdamMixBRefIdeal.nD Cert.AdamMixBRefIdeal.τ).loc Cert.AdamMixBRefIdeal.main_arg0)
      ∧ r.2.mem ((c.tc : Thread Cert.AdamMixBRefIdeal.nD Cert.AdamMixBRefIdeal.τ).loc Cert.AdamMixBRefIdeal.main_arg1) = m ((c.tc : Thread Cert.AdamMixBRefIdeal.nD Cert.AdamMixBRefIdeal.τ).loc Cert.AdamMixBRefIdeal.main_arg1)
      ∧ r.2.mem ((c.tc : Thread Cert.AdamMixBRefIdeal.nD Cert.AdamMixBRefIdeal.τ).loc Cert.AdamMixBRefIdeal.main_arg2) = m ((c.tc : Thread Cert.AdamMixBRefIdeal.nD Cert.AdamMixBRefIdeal.τ).loc Cert.AdamMixBRefIdeal.main_arg2)
      ∧ r.2.mem ((c.tc : Thread Cert.AdamMixBRefIdeal.nD Cert.AdamMixBRefIdeal.τ).loc Cert.AdamMixBRefIdeal.main_arg3) = m ((c.tc : Thread Cert.AdamMixBRefIdeal.nD Cert.AdamMixBRefIdeal.τ).loc Cert.AdamMixBRefIdeal.main_arg3))
      ∧ r.2.sem = fun _ => 0)

def quiescent_AdamMixOut [hAdamMixOut : Cert.AdamMixOut.Facts] : Prop :=
  ∀ (m : (ℓ : Loc Cert.AdamMixOut.nD Cert.AdamMixOut.τ Cert.AdamMixOut.sig) → Buf (Elt Bits) ℓ) (g : Dev Cert.AdamMixOut.nD → PrngReg), Pre_AdamMixOut m →
    θ_run (Cert.AdamMixOut.defs (F := Bits)) (onTc (τ := Cert.AdamMixOut.τ) (Cert.AdamMixOut.main (F := Bits))) ⟨m, fun _ => 0, g⟩ (fun r => (∀ c : Dev Cert.AdamMixOut.nD,
      r.2.mem ((c.tc : Thread Cert.AdamMixOut.nD Cert.AdamMixOut.τ).loc Cert.AdamMixOut.main_arg0) = m ((c.tc : Thread Cert.AdamMixOut.nD Cert.AdamMixOut.τ).loc Cert.AdamMixOut.main_arg0)
      ∧ r.2.mem ((c.tc : Thread Cert.AdamMixOut.nD Cert.AdamMixOut.τ).loc Cert.AdamMixOut.main_arg1) = m ((c.tc : Thread Cert.AdamMixOut.nD Cert.AdamMixOut.τ).loc Cert.AdamMixOut.main_arg1)
      ∧ r.2.mem ((c.tc : Thread Cert.AdamMixOut.nD Cert.AdamMixOut.τ).loc Cert.AdamMixOut.main_arg2) = m ((c.tc : Thread Cert.AdamMixOut.nD Cert.AdamMixOut.τ).loc Cert.AdamMixOut.main_arg2)
      ∧ r.2.mem ((c.tc : Thread Cert.AdamMixOut.nD Cert.AdamMixOut.τ).loc Cert.AdamMixOut.main_arg3) = m ((c.tc : Thread Cert.AdamMixOut.nD Cert.AdamMixOut.τ).loc Cert.AdamMixOut.main_arg3))
      ∧ r.2.sem = fun _ => 0)

def quiescent_AdamMixOutIdeal [hAdamMixOutIdeal : Cert.AdamMixOutIdeal.Facts] : Prop :=
  ∀ (m : (ℓ : Loc Cert.AdamMixOutIdeal.nD Cert.AdamMixOutIdeal.τ Cert.AdamMixOutIdeal.sig) → Buf (Elt Ideal) ℓ) (g : Dev Cert.AdamMixOutIdeal.nD → PrngReg), Pre_AdamMixOutIdeal m →
    θ_run (Cert.AdamMixOutIdeal.defs (F := Ideal)) (onTc (τ := Cert.AdamMixOutIdeal.τ) (Cert.AdamMixOutIdeal.main (F := Ideal))) ⟨m, fun _ => 0, g⟩ (fun r => (∀ c : Dev Cert.AdamMixOutIdeal.nD,
      r.2.mem ((c.tc : Thread Cert.AdamMixOutIdeal.nD Cert.AdamMixOutIdeal.τ).loc Cert.AdamMixOutIdeal.main_arg0) = m ((c.tc : Thread Cert.AdamMixOutIdeal.nD Cert.AdamMixOutIdeal.τ).loc Cert.AdamMixOutIdeal.main_arg0)
      ∧ r.2.mem ((c.tc : Thread Cert.AdamMixOutIdeal.nD Cert.AdamMixOutIdeal.τ).loc Cert.AdamMixOutIdeal.main_arg1) = m ((c.tc : Thread Cert.AdamMixOutIdeal.nD Cert.AdamMixOutIdeal.τ).loc Cert.AdamMixOutIdeal.main_arg1)
      ∧ r.2.mem ((c.tc : Thread Cert.AdamMixOutIdeal.nD Cert.AdamMixOutIdeal.τ).loc Cert.AdamMixOutIdeal.main_arg2) = m ((c.tc : Thread Cert.AdamMixOutIdeal.nD Cert.AdamMixOutIdeal.τ).loc Cert.AdamMixOutIdeal.main_arg2)
      ∧ r.2.mem ((c.tc : Thread Cert.AdamMixOutIdeal.nD Cert.AdamMixOutIdeal.τ).loc Cert.AdamMixOutIdeal.main_arg3) = m ((c.tc : Thread Cert.AdamMixOutIdeal.nD Cert.AdamMixOutIdeal.τ).loc Cert.AdamMixOutIdeal.main_arg3))
      ∧ r.2.sem = fun _ => 0)

def quiescent_AdamMixOutRefIdeal [hAdamMixOutRefIdeal : Cert.AdamMixOutRefIdeal.Facts] : Prop :=
  ∀ (m : (ℓ : Loc Cert.AdamMixOutRefIdeal.nD Cert.AdamMixOutRefIdeal.τ Cert.AdamMixOutRefIdeal.sig) → Buf (Elt Ideal) ℓ) (g : Dev Cert.AdamMixOutRefIdeal.nD → PrngReg), Pre_AdamMixOutRefIdeal m →
    θ_run (Cert.AdamMixOutRefIdeal.defs (F := Ideal)) (onTc (τ := Cert.AdamMixOutRefIdeal.τ) (Cert.AdamMixOutRefIdeal.main (F := Ideal))) ⟨m, fun _ => 0, g⟩ (fun r => (∀ c : Dev Cert.AdamMixOutRefIdeal.nD,
      r.2.mem ((c.tc : Thread Cert.AdamMixOutRefIdeal.nD Cert.AdamMixOutRefIdeal.τ).loc Cert.AdamMixOutRefIdeal.main_arg0) = m ((c.tc : Thread Cert.AdamMixOutRefIdeal.nD Cert.AdamMixOutRefIdeal.τ).loc Cert.AdamMixOutRefIdeal.main_arg0)
      ∧ r.2.mem ((c.tc : Thread Cert.AdamMixOutRefIdeal.nD Cert.AdamMixOutRefIdeal.τ).loc Cert.AdamMixOutRefIdeal.main_arg1) = m ((c.tc : Thread Cert.AdamMixOutRefIdeal.nD Cert.AdamMixOutRefIdeal.τ).loc Cert.AdamMixOutRefIdeal.main_arg1)
      ∧ r.2.mem ((c.tc : Thread Cert.AdamMixOutRefIdeal.nD Cert.AdamMixOutRefIdeal.τ).loc Cert.AdamMixOutRefIdeal.main_arg2) = m ((c.tc : Thread Cert.AdamMixOutRefIdeal.nD Cert.AdamMixOutRefIdeal.τ).loc Cert.AdamMixOutRefIdeal.main_arg2)
      ∧ r.2.mem ((c.tc : Thread Cert.AdamMixOutRefIdeal.nD Cert.AdamMixOutRefIdeal.τ).loc Cert.AdamMixOutRefIdeal.main_arg3) = m ((c.tc : Thread Cert.AdamMixOutRefIdeal.nD Cert.AdamMixOutRefIdeal.τ).loc Cert.AdamMixOutRefIdeal.main_arg3))
      ∧ r.2.sem = fun _ => 0)

def quiescent_AdaDw [hAdaDw : Cert.AdaDw.Facts] : Prop :=
  ∀ (m : (ℓ : Loc Cert.AdaDw.nD Cert.AdaDw.τ Cert.AdaDw.sig) → Buf (Elt Bits) ℓ) (g : Dev Cert.AdaDw.nD → PrngReg), Pre_AdaDw m →
    θ_run (Cert.AdaDw.defs (F := Bits)) (onTc (τ := Cert.AdaDw.τ) (Cert.AdaDw.main (F := Bits))) ⟨m, fun _ => 0, g⟩ (fun r => (∀ c : Dev Cert.AdaDw.nD,
      r.2.mem ((c.tc : Thread Cert.AdaDw.nD Cert.AdaDw.τ).loc Cert.AdaDw.main_arg0) = m ((c.tc : Thread Cert.AdaDw.nD Cert.AdaDw.τ).loc Cert.AdaDw.main_arg0)
      ∧ r.2.mem ((c.tc : Thread Cert.AdaDw.nD Cert.AdaDw.τ).loc Cert.AdaDw.main_arg1) = m ((c.tc : Thread Cert.AdaDw.nD Cert.AdaDw.τ).loc Cert.AdaDw.main_arg1)
      ∧ r.2.mem ((c.tc : Thread Cert.AdaDw.nD Cert.AdaDw.τ).loc Cert.AdaDw.main_arg2) = m ((c.tc : Thread Cert.AdaDw.nD Cert.AdaDw.τ).loc Cert.AdaDw.main_arg2)
      ∧ r.2.mem ((c.tc : Thread Cert.AdaDw.nD Cert.AdaDw.τ).loc Cert.AdaDw.main_arg3) = m ((c.tc : Thread Cert.AdaDw.nD Cert.AdaDw.τ).loc Cert.AdaDw.main_arg3))
      ∧ r.2.sem = fun _ => 0)

def quiescent_AdaDwIdeal [hAdaDwIdeal : Cert.AdaDwIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg), Pre_AdaDwIdeal m →
    θ_run (Cert.AdaDwIdeal.defs (F := Ideal)) (onTc (τ := Cert.AdaDwIdeal.τ) (Cert.AdaDwIdeal.main (F := Ideal))) ⟨m, fun _ => 0, g⟩ (fun r => (∀ c : Dev Cert.AdaDwIdeal.nD,
      r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
      ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1)
      ∧ r.2.mem ((c.tc : Thread Cert.AdaDwIdeal.nD Cert.AdaDwIdeal.τ).loc Cert.AdaDwIdeal.main_arg2) = m ((c.tc : Thread Cert.AdaDwIdeal.nD Cert.AdaDwIdeal.τ).loc Cert.AdaDwIdeal.main_arg2)
      ∧ r.2.mem ((c.tc : Thread Cert.AdaDwIdeal.nD Cert.AdaDwIdeal.τ).loc Cert.AdaDwIdeal.main_arg3) = m ((c.tc : Thread Cert.AdaDwIdeal.nD Cert.AdaDwIdeal.τ).loc Cert.AdaDwIdeal.main_arg3))
      ∧ r.2.sem = fun _ => 0)

def quiescent_AdaDwRefIdeal [hAdaDwRefIdeal : Cert.AdaDwRefIdeal.Facts] : Prop :=
  ∀ (m : (ℓ : Loc Cert.AdaDwRefIdeal.nD Cert.AdaDwRefIdeal.τ Cert.AdaDwRefIdeal.sig) → Buf (Elt Ideal) ℓ) (g : Dev Cert.AdaDwRefIdeal.nD → PrngReg), Pre_AdaDwRefIdeal m →
    θ_run (Cert.AdaDwRefIdeal.defs (F := Ideal)) (onTc (τ := Cert.AdaDwRefIdeal.τ) (Cert.AdaDwRefIdeal.main (F := Ideal))) ⟨m, fun _ => 0, g⟩ (fun r => (∀ c : Dev Cert.AdaDwRefIdeal.nD,
      r.2.mem ((c.tc : Thread Cert.AdaDwRefIdeal.nD Cert.AdaDwRefIdeal.τ).loc Cert.AdaDwRefIdeal.main_arg0) = m ((c.tc : Thread Cert.AdaDwRefIdeal.nD Cert.AdaDwRefIdeal.τ).loc Cert.AdaDwRefIdeal.main_arg0)
      ∧ r.2.mem ((c.tc : Thread Cert.AdaDwRefIdeal.nD Cert.AdaDwRefIdeal.τ).loc Cert.AdaDwRefIdeal.main_arg1) = m ((c.tc : Thread Cert.AdaDwRefIdeal.nD Cert.AdaDwRefIdeal.τ).loc Cert.AdaDwRefIdeal.main_arg1)
      ∧ r.2.mem ((c.tc : Thread Cert.AdaDwRefIdeal.nD Cert.AdaDwRefIdeal.τ).loc Cert.AdaDwRefIdeal.main_arg2) = m ((c.tc : Thread Cert.AdaDwRefIdeal.nD Cert.AdaDwRefIdeal.τ).loc Cert.AdaDwRefIdeal.main_arg2)
      ∧ r.2.mem ((c.tc : Thread Cert.AdaDwRefIdeal.nD Cert.AdaDwRefIdeal.τ).loc Cert.AdaDwRefIdeal.main_arg3) = m ((c.tc : Thread Cert.AdaDwRefIdeal.nD Cert.AdaDwRefIdeal.τ).loc Cert.AdaDwRefIdeal.main_arg3))
      ∧ r.2.sem = fun _ => 0)

def quiescent_CtxCond [hCtxCond : Cert.CtxCond.Facts] : Prop :=
  ∀ (m : (ℓ : Loc Cert.CtxCond.nD Cert.CtxCond.τ Cert.CtxCond.sig) → Buf (Elt Bits) ℓ) (g : Dev Cert.CtxCond.nD → PrngReg), Pre_CtxCond m →
    θ_run (Cert.CtxCond.defs (F := Bits)) (onTc (τ := Cert.CtxCond.τ) (Cert.CtxCond.main (F := Bits))) ⟨m, fun _ => 0, g⟩ (fun r => (∀ c : Dev Cert.CtxCond.nD,
      r.2.mem ((c.tc : Thread Cert.CtxCond.nD Cert.CtxCond.τ).loc Cert.CtxCond.main_arg0) = m ((c.tc : Thread Cert.CtxCond.nD Cert.CtxCond.τ).loc Cert.CtxCond.main_arg0)
      ∧ r.2.mem ((c.tc : Thread Cert.CtxCond.nD Cert.CtxCond.τ).loc Cert.CtxCond.main_arg1) = m ((c.tc : Thread Cert.CtxCond.nD Cert.CtxCond.τ).loc Cert.CtxCond.main_arg1))
      ∧ r.2.sem = fun _ => 0)

def quiescent_CtxCondIdeal [hCtxCondIdeal : Cert.CtxCondIdeal.Facts] : Prop :=
  ∀ (m : (ℓ : Loc Cert.CtxCondIdeal.nD Cert.CtxCondIdeal.τ Cert.CtxCondIdeal.sig) → Buf (Elt Ideal) ℓ) (g : Dev Cert.CtxCondIdeal.nD → PrngReg), Pre_CtxCondIdeal m →
    θ_run (Cert.CtxCondIdeal.defs (F := Ideal)) (onTc (τ := Cert.CtxCondIdeal.τ) (Cert.CtxCondIdeal.main (F := Ideal))) ⟨m, fun _ => 0, g⟩ (fun r => (∀ c : Dev Cert.CtxCondIdeal.nD,
      r.2.mem ((c.tc : Thread Cert.CtxCondIdeal.nD Cert.CtxCondIdeal.τ).loc Cert.CtxCondIdeal.main_arg0) = m ((c.tc : Thread Cert.CtxCondIdeal.nD Cert.CtxCondIdeal.τ).loc Cert.CtxCondIdeal.main_arg0)
      ∧ r.2.mem ((c.tc : Thread Cert.CtxCondIdeal.nD Cert.CtxCondIdeal.τ).loc Cert.CtxCondIdeal.main_arg1) = m ((c.tc : Thread Cert.CtxCondIdeal.nD Cert.CtxCondIdeal.τ).loc Cert.CtxCondIdeal.main_arg1))
      ∧ r.2.sem = fun _ => 0)

def quiescent_CtxCondRefIdeal [hCtxCondRefIdeal : Cert.CtxCondRefIdeal.Facts] : Prop :=
  ∀ (m : (ℓ : Loc Cert.CtxCondRefIdeal.nD Cert.CtxCondRefIdeal.τ Cert.CtxCondRefIdeal.sig) → Buf (Elt Ideal) ℓ) (g : Dev Cert.CtxCondRefIdeal.nD → PrngReg), Pre_CtxCondRefIdeal m →
    θ_run (Cert.CtxCondRefIdeal.defs (F := Ideal)) (onTc (τ := Cert.CtxCondRefIdeal.τ) (Cert.CtxCondRefIdeal.main (F := Ideal))) ⟨m, fun _ => 0, g⟩ (fun r => (∀ c : Dev Cert.CtxCondRefIdeal.nD,
      r.2.mem ((c.tc : Thread Cert.CtxCondRefIdeal.nD Cert.CtxCondRefIdeal.τ).loc Cert.CtxCondRefIdeal.main_arg0) = m ((c.tc : Thread Cert.CtxCondRefIdeal.nD Cert.CtxCondRefIdeal.τ).loc Cert.CtxCondRefIdeal.main_arg0)
      ∧ r.2.mem ((c.tc : Thread Cert.CtxCondRefIdeal.nD Cert.CtxCondRefIdeal.τ).loc Cert.CtxCondRefIdeal.main_arg1) = m ((c.tc : Thread Cert.CtxCondRefIdeal.nD Cert.CtxCondRefIdeal.τ).loc Cert.CtxCondRefIdeal.main_arg1))
      ∧ r.2.sem = fun _ => 0)

def quiescent_SumFfnUp [hSumFfnUp : Cert.SumFfnUp.Facts] : Prop :=
  ∀ (m : (ℓ : Loc Cert.SumFfnUp.nD Cert.SumFfnUp.τ Cert.SumFfnUp.sig) → Buf (Elt Bits) ℓ) (g : Dev Cert.SumFfnUp.nD → PrngReg), Pre_SumFfnUp m →
    θ_run (Cert.SumFfnUp.defs (F := Bits)) (onTc (τ := Cert.SumFfnUp.τ) (Cert.SumFfnUp.main (F := Bits))) ⟨m, fun _ => 0, g⟩ (fun r => (∀ c : Dev Cert.SumFfnUp.nD,
      r.2.mem ((c.tc : Thread Cert.SumFfnUp.nD Cert.SumFfnUp.τ).loc Cert.SumFfnUp.main_arg0) = m ((c.tc : Thread Cert.SumFfnUp.nD Cert.SumFfnUp.τ).loc Cert.SumFfnUp.main_arg0))
      ∧ r.2.sem = fun _ => 0)

def quiescent_SumFfnUpIdeal [hSumFfnUpIdeal : Cert.SumFfnUpIdeal.Facts] : Prop :=
  ∀ (m : (ℓ : Loc Cert.SumFfnUpIdeal.nD Cert.SumFfnUpIdeal.τ Cert.SumFfnUpIdeal.sig) → Buf (Elt Ideal) ℓ) (g : Dev Cert.SumFfnUpIdeal.nD → PrngReg), Pre_SumFfnUpIdeal m →
    θ_run (Cert.SumFfnUpIdeal.defs (F := Ideal)) (onTc (τ := Cert.SumFfnUpIdeal.τ) (Cert.SumFfnUpIdeal.main (F := Ideal))) ⟨m, fun _ => 0, g⟩ (fun r => (∀ c : Dev Cert.SumFfnUpIdeal.nD,
      r.2.mem ((c.tc : Thread Cert.SumFfnUpIdeal.nD Cert.SumFfnUpIdeal.τ).loc Cert.SumFfnUpIdeal.main_arg0) = m ((c.tc : Thread Cert.SumFfnUpIdeal.nD Cert.SumFfnUpIdeal.τ).loc Cert.SumFfnUpIdeal.main_arg0))
      ∧ r.2.sem = fun _ => 0)

def quiescent_SumFfnUpRefIdeal [hSumFfnUpRefIdeal : Cert.SumFfnUpRefIdeal.Facts] : Prop :=
  ∀ (m : (ℓ : Loc Cert.SumFfnUpRefIdeal.nD Cert.SumFfnUpRefIdeal.τ Cert.SumFfnUpRefIdeal.sig) → Buf (Elt Ideal) ℓ) (g : Dev Cert.SumFfnUpRefIdeal.nD → PrngReg), Pre_SumFfnUpRefIdeal m →
    θ_run (Cert.SumFfnUpRefIdeal.defs (F := Ideal)) (onTc (τ := Cert.SumFfnUpRefIdeal.τ) (Cert.SumFfnUpRefIdeal.main (F := Ideal))) ⟨m, fun _ => 0, g⟩ (fun r => (∀ c : Dev Cert.SumFfnUpRefIdeal.nD,
      r.2.mem ((c.tc : Thread Cert.SumFfnUpRefIdeal.nD Cert.SumFfnUpRefIdeal.τ).loc Cert.SumFfnUpRefIdeal.main_arg0) = m ((c.tc : Thread Cert.SumFfnUpRefIdeal.nD Cert.SumFfnUpRefIdeal.τ).loc Cert.SumFfnUpRefIdeal.main_arg0))
      ∧ r.2.sem = fun _ => 0)

def quiescent_SumFfnDown [hSumFfnDown : Cert.SumFfnDown.Facts] : Prop :=
  ∀ (m : (ℓ : Loc Cert.SumFfnDown.nD Cert.SumFfnDown.τ Cert.SumFfnDown.sig) → Buf (Elt Bits) ℓ) (g : Dev Cert.SumFfnDown.nD → PrngReg), Pre_SumFfnDown m →
    θ_run (Cert.SumFfnDown.defs (F := Bits)) (onTc (τ := Cert.SumFfnDown.τ) (Cert.SumFfnDown.main (F := Bits))) ⟨m, fun _ => 0, g⟩ (fun r => (∀ c : Dev Cert.SumFfnDown.nD,
      r.2.mem ((c.tc : Thread Cert.SumFfnDown.nD Cert.SumFfnDown.τ).loc Cert.SumFfnDown.main_arg0) = m ((c.tc : Thread Cert.SumFfnDown.nD Cert.SumFfnDown.τ).loc Cert.SumFfnDown.main_arg0))
      ∧ r.2.sem = fun _ => 0)

def quiescent_SumFfnDownIdeal [hSumFfnDownIdeal : Cert.SumFfnDownIdeal.Facts] : Prop :=
  ∀ (m : (ℓ : Loc Cert.SumFfnDownIdeal.nD Cert.SumFfnDownIdeal.τ Cert.SumFfnDownIdeal.sig) → Buf (Elt Ideal) ℓ) (g : Dev Cert.SumFfnDownIdeal.nD → PrngReg), Pre_SumFfnDownIdeal m →
    θ_run (Cert.SumFfnDownIdeal.defs (F := Ideal)) (onTc (τ := Cert.SumFfnDownIdeal.τ) (Cert.SumFfnDownIdeal.main (F := Ideal))) ⟨m, fun _ => 0, g⟩ (fun r => (∀ c : Dev Cert.SumFfnDownIdeal.nD,
      r.2.mem ((c.tc : Thread Cert.SumFfnDownIdeal.nD Cert.SumFfnDownIdeal.τ).loc Cert.SumFfnDownIdeal.main_arg0) = m ((c.tc : Thread Cert.SumFfnDownIdeal.nD Cert.SumFfnDownIdeal.τ).loc Cert.SumFfnDownIdeal.main_arg0))
      ∧ r.2.sem = fun _ => 0)

def quiescent_SumFfnDownRefIdeal [hSumFfnDownRefIdeal : Cert.SumFfnDownRefIdeal.Facts] : Prop :=
  ∀ (m : (ℓ : Loc Cert.SumFfnDownRefIdeal.nD Cert.SumFfnDownRefIdeal.τ Cert.SumFfnDownRefIdeal.sig) → Buf (Elt Ideal) ℓ) (g : Dev Cert.SumFfnDownRefIdeal.nD → PrngReg), Pre_SumFfnDownRefIdeal m →
    θ_run (Cert.SumFfnDownRefIdeal.defs (F := Ideal)) (onTc (τ := Cert.SumFfnDownRefIdeal.τ) (Cert.SumFfnDownRefIdeal.main (F := Ideal))) ⟨m, fun _ => 0, g⟩ (fun r => (∀ c : Dev Cert.SumFfnDownRefIdeal.nD,
      r.2.mem ((c.tc : Thread Cert.SumFfnDownRefIdeal.nD Cert.SumFfnDownRefIdeal.τ).loc Cert.SumFfnDownRefIdeal.main_arg0) = m ((c.tc : Thread Cert.SumFfnDownRefIdeal.nD Cert.SumFfnDownRefIdeal.τ).loc Cert.SumFfnDownRefIdeal.main_arg0))
      ∧ r.2.sem = fun _ => 0)

def quiescent_SumPoolW [hSumPoolW : Cert.SumPoolW.Facts] : Prop :=
  ∀ (m : (ℓ : Loc Cert.SumPoolW.nD Cert.SumPoolW.τ Cert.SumPoolW.sig) → Buf (Elt Bits) ℓ) (g : Dev Cert.SumPoolW.nD → PrngReg), Pre_SumPoolW m →
    θ_run (Cert.SumPoolW.defs (F := Bits)) (onTc (τ := Cert.SumPoolW.τ) (Cert.SumPoolW.main (F := Bits))) ⟨m, fun _ => 0, g⟩ (fun r => (∀ c : Dev Cert.SumPoolW.nD,
      r.2.mem ((c.tc : Thread Cert.SumPoolW.nD Cert.SumPoolW.τ).loc Cert.SumPoolW.main_arg0) = m ((c.tc : Thread Cert.SumPoolW.nD Cert.SumPoolW.τ).loc Cert.SumPoolW.main_arg0))
      ∧ r.2.sem = fun _ => 0)

def quiescent_SumPoolWIdeal [hSumPoolWIdeal : Cert.SumPoolWIdeal.Facts] : Prop :=
  ∀ (m : (ℓ : Loc Cert.SumPoolWIdeal.nD Cert.SumPoolWIdeal.τ Cert.SumPoolWIdeal.sig) → Buf (Elt Ideal) ℓ) (g : Dev Cert.SumPoolWIdeal.nD → PrngReg), Pre_SumPoolWIdeal m →
    θ_run (Cert.SumPoolWIdeal.defs (F := Ideal)) (onTc (τ := Cert.SumPoolWIdeal.τ) (Cert.SumPoolWIdeal.main (F := Ideal))) ⟨m, fun _ => 0, g⟩ (fun r => (∀ c : Dev Cert.SumPoolWIdeal.nD,
      r.2.mem ((c.tc : Thread Cert.SumPoolWIdeal.nD Cert.SumPoolWIdeal.τ).loc Cert.SumPoolWIdeal.main_arg0) = m ((c.tc : Thread Cert.SumPoolWIdeal.nD Cert.SumPoolWIdeal.τ).loc Cert.SumPoolWIdeal.main_arg0))
      ∧ r.2.sem = fun _ => 0)

def quiescent_SumPoolWRefIdeal [hSumPoolWRefIdeal : Cert.SumPoolWRefIdeal.Facts] : Prop :=
  ∀ (m : (ℓ : Loc Cert.SumPoolWRefIdeal.nD Cert.SumPoolWRefIdeal.τ Cert.SumPoolWRefIdeal.sig) → Buf (Elt Ideal) ℓ) (g : Dev Cert.SumPoolWRefIdeal.nD → PrngReg), Pre_SumPoolWRefIdeal m →
    θ_run (Cert.SumPoolWRefIdeal.defs (F := Ideal)) (onTc (τ := Cert.SumPoolWRefIdeal.τ) (Cert.SumPoolWRefIdeal.main (F := Ideal))) ⟨m, fun _ => 0, g⟩ (fun r => (∀ c : Dev Cert.SumPoolWRefIdeal.nD,
      r.2.mem ((c.tc : Thread Cert.SumPoolWRefIdeal.nD Cert.SumPoolWRefIdeal.τ).loc Cert.SumPoolWRefIdeal.main_arg0) = m ((c.tc : Thread Cert.SumPoolWRefIdeal.nD Cert.SumPoolWRefIdeal.τ).loc Cert.SumPoolWRefIdeal.main_arg0))
      ∧ r.2.sem = fun _ => 0)

def quiescent_SumQkv [hSumQkv : Cert.SumQkv.Facts] : Prop :=
  ∀ (m : (ℓ : Loc Cert.SumQkv.nD Cert.SumQkv.τ Cert.SumQkv.sig) → Buf (Elt Bits) ℓ) (g : Dev Cert.SumQkv.nD → PrngReg), Pre_SumQkv m →
    θ_run (Cert.SumQkv.defs (F := Bits)) (onTc (τ := Cert.SumQkv.τ) (Cert.SumQkv.main (F := Bits))) ⟨m, fun _ => 0, g⟩ (fun r => (∀ c : Dev Cert.SumQkv.nD,
      r.2.mem ((c.tc : Thread Cert.SumQkv.nD Cert.SumQkv.τ).loc Cert.SumQkv.main_arg0) = m ((c.tc : Thread Cert.SumQkv.nD Cert.SumQkv.τ).loc Cert.SumQkv.main_arg0))
      ∧ r.2.sem = fun _ => 0)

def quiescent_SumQkvIdeal [hSumQkvIdeal : Cert.SumQkvIdeal.Facts] : Prop :=
  ∀ (m : (ℓ : Loc Cert.SumQkvIdeal.nD Cert.SumQkvIdeal.τ Cert.SumQkvIdeal.sig) → Buf (Elt Ideal) ℓ) (g : Dev Cert.SumQkvIdeal.nD → PrngReg), Pre_SumQkvIdeal m →
    θ_run (Cert.SumQkvIdeal.defs (F := Ideal)) (onTc (τ := Cert.SumQkvIdeal.τ) (Cert.SumQkvIdeal.main (F := Ideal))) ⟨m, fun _ => 0, g⟩ (fun r => (∀ c : Dev Cert.SumQkvIdeal.nD,
      r.2.mem ((c.tc : Thread Cert.SumQkvIdeal.nD Cert.SumQkvIdeal.τ).loc Cert.SumQkvIdeal.main_arg0) = m ((c.tc : Thread Cert.SumQkvIdeal.nD Cert.SumQkvIdeal.τ).loc Cert.SumQkvIdeal.main_arg0))
      ∧ r.2.sem = fun _ => 0)

def quiescent_SumQkvRefIdeal [hSumQkvRefIdeal : Cert.SumQkvRefIdeal.Facts] : Prop :=
  ∀ (m : (ℓ : Loc Cert.SumQkvRefIdeal.nD Cert.SumQkvRefIdeal.τ Cert.SumQkvRefIdeal.sig) → Buf (Elt Ideal) ℓ) (g : Dev Cert.SumQkvRefIdeal.nD → PrngReg), Pre_SumQkvRefIdeal m →
    θ_run (Cert.SumQkvRefIdeal.defs (F := Ideal)) (onTc (τ := Cert.SumQkvRefIdeal.τ) (Cert.SumQkvRefIdeal.main (F := Ideal))) ⟨m, fun _ => 0, g⟩ (fun r => (∀ c : Dev Cert.SumQkvRefIdeal.nD,
      r.2.mem ((c.tc : Thread Cert.SumQkvRefIdeal.nD Cert.SumQkvRefIdeal.τ).loc Cert.SumQkvRefIdeal.main_arg0) = m ((c.tc : Thread Cert.SumQkvRefIdeal.nD Cert.SumQkvRefIdeal.τ).loc Cert.SumQkvRefIdeal.main_arg0))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0))
      ∧ r.2.sem = fun _ => 0)

def quiescent_SumMixIn [hSumMixIn : Cert.SumMixIn.Facts] : Prop :=
  ∀ (m : (ℓ : Loc Cert.SumMixIn.nD Cert.SumMixIn.τ Cert.SumMixIn.sig) → Buf (Elt Bits) ℓ) (g : Dev Cert.SumMixIn.nD → PrngReg), Pre_SumMixIn m →
    θ_run (Cert.SumMixIn.defs (F := Bits)) (onTc (τ := Cert.SumMixIn.τ) (Cert.SumMixIn.main (F := Bits))) ⟨m, fun _ => 0, g⟩ (fun r => (∀ c : Dev Cert.SumMixIn.nD,
      r.2.mem ((c.tc : Thread Cert.SumMixIn.nD Cert.SumMixIn.τ).loc Cert.SumMixIn.main_arg0) = m ((c.tc : Thread Cert.SumMixIn.nD Cert.SumMixIn.τ).loc Cert.SumMixIn.main_arg0))
      ∧ r.2.sem = fun _ => 0)

def quiescent_SumMixInIdeal [hSumMixInIdeal : Cert.SumMixInIdeal.Facts] : Prop :=
  ∀ (m : (ℓ : Loc Cert.SumMixInIdeal.nD Cert.SumMixInIdeal.τ Cert.SumMixInIdeal.sig) → Buf (Elt Ideal) ℓ) (g : Dev Cert.SumMixInIdeal.nD → PrngReg), Pre_SumMixInIdeal m →
    θ_run (Cert.SumMixInIdeal.defs (F := Ideal)) (onTc (τ := Cert.SumMixInIdeal.τ) (Cert.SumMixInIdeal.main (F := Ideal))) ⟨m, fun _ => 0, g⟩ (fun r => (∀ c : Dev Cert.SumMixInIdeal.nD,
      r.2.mem ((c.tc : Thread Cert.SumMixInIdeal.nD Cert.SumMixInIdeal.τ).loc Cert.SumMixInIdeal.main_arg0) = m ((c.tc : Thread Cert.SumMixInIdeal.nD Cert.SumMixInIdeal.τ).loc Cert.SumMixInIdeal.main_arg0))
      ∧ r.2.sem = fun _ => 0)

def quiescent_SumMixInRefIdeal [hSumMixInRefIdeal : Cert.SumMixInRefIdeal.Facts] : Prop :=
  ∀ (m : (ℓ : Loc Cert.SumMixInRefIdeal.nD Cert.SumMixInRefIdeal.τ Cert.SumMixInRefIdeal.sig) → Buf (Elt Ideal) ℓ) (g : Dev Cert.SumMixInRefIdeal.nD → PrngReg), Pre_SumMixInRefIdeal m →
    θ_run (Cert.SumMixInRefIdeal.defs (F := Ideal)) (onTc (τ := Cert.SumMixInRefIdeal.τ) (Cert.SumMixInRefIdeal.main (F := Ideal))) ⟨m, fun _ => 0, g⟩ (fun r => (∀ c : Dev Cert.SumMixInRefIdeal.nD,
      r.2.mem ((c.tc : Thread Cert.SumMixInRefIdeal.nD Cert.SumMixInRefIdeal.τ).loc Cert.SumMixInRefIdeal.main_arg0) = m ((c.tc : Thread Cert.SumMixInRefIdeal.nD Cert.SumMixInRefIdeal.τ).loc Cert.SumMixInRefIdeal.main_arg0))
      ∧ r.2.sem = fun _ => 0)

def quiescent_SumMixOut [hSumMixOut : Cert.SumMixOut.Facts] : Prop :=
  ∀ (m : (ℓ : Loc Cert.SumMixOut.nD Cert.SumMixOut.τ Cert.SumMixOut.sig) → Buf (Elt Bits) ℓ) (g : Dev Cert.SumMixOut.nD → PrngReg), Pre_SumMixOut m →
    θ_run (Cert.SumMixOut.defs (F := Bits)) (onTc (τ := Cert.SumMixOut.τ) (Cert.SumMixOut.main (F := Bits))) ⟨m, fun _ => 0, g⟩ (fun r => (∀ c : Dev Cert.SumMixOut.nD,
      r.2.mem ((c.tc : Thread Cert.SumMixOut.nD Cert.SumMixOut.τ).loc Cert.SumMixOut.main_arg0) = m ((c.tc : Thread Cert.SumMixOut.nD Cert.SumMixOut.τ).loc Cert.SumMixOut.main_arg0))
      ∧ r.2.sem = fun _ => 0)

def quiescent_SumMixOutIdeal [hSumMixOutIdeal : Cert.SumMixOutIdeal.Facts] : Prop :=
  ∀ (m : (ℓ : Loc Cert.SumMixOutIdeal.nD Cert.SumMixOutIdeal.τ Cert.SumMixOutIdeal.sig) → Buf (Elt Ideal) ℓ) (g : Dev Cert.SumMixOutIdeal.nD → PrngReg), Pre_SumMixOutIdeal m →
    θ_run (Cert.SumMixOutIdeal.defs (F := Ideal)) (onTc (τ := Cert.SumMixOutIdeal.τ) (Cert.SumMixOutIdeal.main (F := Ideal))) ⟨m, fun _ => 0, g⟩ (fun r => (∀ c : Dev Cert.SumMixOutIdeal.nD,
      r.2.mem ((c.tc : Thread Cert.SumMixOutIdeal.nD Cert.SumMixOutIdeal.τ).loc Cert.SumMixOutIdeal.main_arg0) = m ((c.tc : Thread Cert.SumMixOutIdeal.nD Cert.SumMixOutIdeal.τ).loc Cert.SumMixOutIdeal.main_arg0))
      ∧ r.2.sem = fun _ => 0)

def quiescent_SumMixOutRefIdeal [hSumMixOutRefIdeal : Cert.SumMixOutRefIdeal.Facts] : Prop :=
  ∀ (m : (ℓ : Loc Cert.SumMixOutRefIdeal.nD Cert.SumMixOutRefIdeal.τ Cert.SumMixOutRefIdeal.sig) → Buf (Elt Ideal) ℓ) (g : Dev Cert.SumMixOutRefIdeal.nD → PrngReg), Pre_SumMixOutRefIdeal m →
    θ_run (Cert.SumMixOutRefIdeal.defs (F := Ideal)) (onTc (τ := Cert.SumMixOutRefIdeal.τ) (Cert.SumMixOutRefIdeal.main (F := Ideal))) ⟨m, fun _ => 0, g⟩ (fun r => (∀ c : Dev Cert.SumMixOutRefIdeal.nD,
      r.2.mem ((c.tc : Thread Cert.SumMixOutRefIdeal.nD Cert.SumMixOutRefIdeal.τ).loc Cert.SumMixOutRefIdeal.main_arg0) = m ((c.tc : Thread Cert.SumMixOutRefIdeal.nD Cert.SumMixOutRefIdeal.τ).loc Cert.SumMixOutRefIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_SumCond [hSumCond : Cert.SumCond.Facts] : Prop :=
  ∀ (m : (ℓ : Loc Cert.SumCond.nD Cert.SumCond.τ Cert.SumCond.sig) → Buf (Elt Bits) ℓ) (g : Dev Cert.SumCond.nD → PrngReg), Pre_SumCond m →
    θ_run (Cert.SumCond.defs (F := Bits)) (onTc (τ := Cert.SumCond.τ) (Cert.SumCond.main (F := Bits))) ⟨m, fun _ => 0, g⟩ (fun r => (∀ c : Dev Cert.SumCond.nD,
      r.2.mem ((c.tc : Thread Cert.SumCond.nD Cert.SumCond.τ).loc Cert.SumCond.main_arg0) = m ((c.tc : Thread Cert.SumCond.nD Cert.SumCond.τ).loc Cert.SumCond.main_arg0))
      ∧ r.2.sem = fun _ => 0)

def quiescent_SumCondIdeal [hSumCondIdeal : Cert.SumCondIdeal.Facts] : Prop :=
  ∀ (m : (ℓ : Loc Cert.SumCondIdeal.nD Cert.SumCondIdeal.τ Cert.SumCondIdeal.sig) → Buf (Elt Ideal) ℓ) (g : Dev Cert.SumCondIdeal.nD → PrngReg), Pre_SumCondIdeal m →
    θ_run (Cert.SumCondIdeal.defs (F := Ideal)) (onTc (τ := Cert.SumCondIdeal.τ) (Cert.SumCondIdeal.main (F := Ideal))) ⟨m, fun _ => 0, g⟩ (fun r => (∀ c : Dev Cert.SumCondIdeal.nD,
      r.2.mem ((c.tc : Thread Cert.SumCondIdeal.nD Cert.SumCondIdeal.τ).loc Cert.SumCondIdeal.main_arg0) = m ((c.tc : Thread Cert.SumCondIdeal.nD Cert.SumCondIdeal.τ).loc Cert.SumCondIdeal.main_arg0))
      ∧ r.2.sem = fun _ => 0)

def quiescent_SumCondRefIdeal [hSumCondRefIdeal : Cert.SumCondRefIdeal.Facts] : Prop :=
  ∀ (m : (ℓ : Loc Cert.SumCondRefIdeal.nD Cert.SumCondRefIdeal.τ Cert.SumCondRefIdeal.sig) → Buf (Elt Ideal) ℓ) (g : Dev Cert.SumCondRefIdeal.nD → PrngReg), Pre_SumCondRefIdeal m →
    θ_run (Cert.SumCondRefIdeal.defs (F := Ideal)) (onTc (τ := Cert.SumCondRefIdeal.τ) (Cert.SumCondRefIdeal.main (F := Ideal))) ⟨m, fun _ => 0, g⟩ (fun r => (∀ c : Dev Cert.SumCondRefIdeal.nD,
      r.2.mem ((c.tc : Thread Cert.SumCondRefIdeal.nD Cert.SumCondRefIdeal.τ).loc Cert.SumCondRefIdeal.main_arg0) = m ((c.tc : Thread Cert.SumCondRefIdeal.nD Cert.SumCondRefIdeal.τ).loc Cert.SumCondRefIdeal.main_arg0))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)) (v2 : (c : Dev Cert.KernelIdeal.nD) → Buf (Elt Ideal) ((c.tc : Thread Cert.KernelIdeal.nD Cert.KernelIdeal.τ).loc Cert.KernelIdeal.main_v51_2)) (v3 : (c : Dev Cert.KernelIdeal.nD) → Buf (Elt Ideal) ((c.tc : Thread Cert.KernelIdeal.nD Cert.KernelIdeal.τ).loc Cert.KernelIdeal.main_v51_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_v51_2) = v2 c
          ∧ r.2.mem ((c.tc : Thread Cert.KernelIdeal.nD Cert.KernelIdeal.τ).loc Cert.KernelIdeal.main_v51_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_v104) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v1)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v1) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v6) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v1)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v1) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v5) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2))

def preserves_UpDxV_UpDxVIdeal : Prop :=
  True

def algebraic_UpDxVIdeal_UpDxVRefIdeal [hUpDxVIdeal : Cert.UpDxVIdeal.Facts] [hUpDxVRefIdeal : Cert.UpDxVRefIdeal.Facts] : Prop :=
  ∀ (m : (ℓ : Loc Cert.UpDxVIdeal.nD Cert.UpDxVIdeal.τ Cert.UpDxVIdeal.sig) → Buf (Elt Ideal) ℓ) (g : Dev Cert.UpDxVIdeal.nD → PrngReg)
    (m' : (ℓ : Loc Cert.UpDxVRefIdeal.nD Cert.UpDxVRefIdeal.τ Cert.UpDxVRefIdeal.sig) → Buf (Elt Ideal) ℓ) (g' : Dev Cert.UpDxVRefIdeal.nD → PrngReg), Pre_UpDxVIdeal m →
    (∀ c : Dev Cert.UpDxVIdeal.nD,
      m' ((c.tc : Thread Cert.UpDxVRefIdeal.nD Cert.UpDxVRefIdeal.τ).loc Cert.UpDxVRefIdeal.main_arg0) = m ((c.tc : Thread Cert.UpDxVIdeal.nD Cert.UpDxVIdeal.τ).loc Cert.UpDxVIdeal.main_arg0)
      ∧ m' ((c.tc : Thread Cert.UpDxVRefIdeal.nD Cert.UpDxVRefIdeal.τ).loc Cert.UpDxVRefIdeal.main_arg1) = m ((c.tc : Thread Cert.UpDxVIdeal.nD Cert.UpDxVIdeal.τ).loc Cert.UpDxVIdeal.main_arg1)
      ∧ m' ((c.tc : Thread Cert.UpDxVRefIdeal.nD Cert.UpDxVRefIdeal.τ).loc Cert.UpDxVRefIdeal.main_arg2) = m ((c.tc : Thread Cert.UpDxVIdeal.nD Cert.UpDxVIdeal.τ).loc Cert.UpDxVIdeal.main_arg2)) →
    ∃ (v0 : (c : Dev Cert.UpDxVIdeal.nD) → Buf (Elt Ideal) ((c.tc : Thread Cert.UpDxVIdeal.nD Cert.UpDxVIdeal.τ).loc Cert.UpDxVIdeal.main_v0)),
      θ_run (Cert.UpDxVIdeal.defs (F := Ideal)) (onTc (τ := Cert.UpDxVIdeal.τ) (Cert.UpDxVIdeal.main (F := Ideal))) ⟨m, fun _ => 0, g⟩ (fun r => ∀ c : Dev Cert.UpDxVIdeal.nD,
          r.2.mem ((c.tc : Thread Cert.UpDxVIdeal.nD Cert.UpDxVIdeal.τ).loc Cert.UpDxVIdeal.main_v0) = v0 c
          ∧ r.2.mem ((c.tc : Thread Cert.UpDxVIdeal.nD Cert.UpDxVIdeal.τ).loc Cert.UpDxVIdeal.main_arg0) = m ((c.tc : Thread Cert.UpDxVIdeal.nD Cert.UpDxVIdeal.τ).loc Cert.UpDxVIdeal.main_arg0)
          ∧ r.2.mem ((c.tc : Thread Cert.UpDxVIdeal.nD Cert.UpDxVIdeal.τ).loc Cert.UpDxVIdeal.main_arg1) = m ((c.tc : Thread Cert.UpDxVIdeal.nD Cert.UpDxVIdeal.τ).loc Cert.UpDxVIdeal.main_arg1)
          ∧ r.2.mem ((c.tc : Thread Cert.UpDxVIdeal.nD Cert.UpDxVIdeal.τ).loc Cert.UpDxVIdeal.main_arg2) = m ((c.tc : Thread Cert.UpDxVIdeal.nD Cert.UpDxVIdeal.τ).loc Cert.UpDxVIdeal.main_arg2))
      ∧ θ_run (Cert.UpDxVRefIdeal.defs (F := Ideal)) (onTc (τ := Cert.UpDxVRefIdeal.τ) (Cert.UpDxVRefIdeal.main (F := Ideal))) ⟨m', fun _ => 0, g'⟩ (fun r => ∀ c : Dev Cert.UpDxVRefIdeal.nD,
          r.2.mem ((c.tc : Thread Cert.UpDxVRefIdeal.nD Cert.UpDxVRefIdeal.τ).loc Cert.UpDxVRefIdeal.main_v7) = v0 c
          ∧ r.2.mem ((c.tc : Thread Cert.UpDxVRefIdeal.nD Cert.UpDxVRefIdeal.τ).loc Cert.UpDxVRefIdeal.main_arg0) = m' ((c.tc : Thread Cert.UpDxVRefIdeal.nD Cert.UpDxVRefIdeal.τ).loc Cert.UpDxVRefIdeal.main_arg0)
          ∧ r.2.mem ((c.tc : Thread Cert.UpDxVRefIdeal.nD Cert.UpDxVRefIdeal.τ).loc Cert.UpDxVRefIdeal.main_arg1) = m' ((c.tc : Thread Cert.UpDxVRefIdeal.nD Cert.UpDxVRefIdeal.τ).loc Cert.UpDxVRefIdeal.main_arg1)
          ∧ r.2.mem ((c.tc : Thread Cert.UpDxVRefIdeal.nD Cert.UpDxVRefIdeal.τ).loc Cert.UpDxVRefIdeal.main_arg2) = m' ((c.tc : Thread Cert.UpDxVRefIdeal.nD Cert.UpDxVRefIdeal.τ).loc Cert.UpDxVRefIdeal.main_arg2))

def preserves_UpDxG_UpDxGIdeal : Prop :=
  True

def algebraic_UpDxGIdeal_UpDxGRefIdeal [hUpDxGIdeal : Cert.UpDxGIdeal.Facts] [hUpDxGRefIdeal : Cert.UpDxGRefIdeal.Facts] : Prop :=
  ∀ (m : (ℓ : Loc Cert.UpDxGIdeal.nD Cert.UpDxGIdeal.τ Cert.UpDxGIdeal.sig) → Buf (Elt Ideal) ℓ) (g : Dev Cert.UpDxGIdeal.nD → PrngReg)
    (m' : (ℓ : Loc Cert.UpDxGRefIdeal.nD Cert.UpDxGRefIdeal.τ Cert.UpDxGRefIdeal.sig) → Buf (Elt Ideal) ℓ) (g' : Dev Cert.UpDxGRefIdeal.nD → PrngReg), Pre_UpDxGIdeal m →
    (∀ c : Dev Cert.UpDxGIdeal.nD,
      m' ((c.tc : Thread Cert.UpDxGRefIdeal.nD Cert.UpDxGRefIdeal.τ).loc Cert.UpDxGRefIdeal.main_arg0) = m ((c.tc : Thread Cert.UpDxGIdeal.nD Cert.UpDxGIdeal.τ).loc Cert.UpDxGIdeal.main_arg0)
      ∧ m' ((c.tc : Thread Cert.UpDxGRefIdeal.nD Cert.UpDxGRefIdeal.τ).loc Cert.UpDxGRefIdeal.main_arg1) = m ((c.tc : Thread Cert.UpDxGIdeal.nD Cert.UpDxGIdeal.τ).loc Cert.UpDxGIdeal.main_arg1)
      ∧ m' ((c.tc : Thread Cert.UpDxGRefIdeal.nD Cert.UpDxGRefIdeal.τ).loc Cert.UpDxGRefIdeal.main_arg2) = m ((c.tc : Thread Cert.UpDxGIdeal.nD Cert.UpDxGIdeal.τ).loc Cert.UpDxGIdeal.main_arg2)) →
    ∃ (v0 : (c : Dev Cert.UpDxGIdeal.nD) → Buf (Elt Ideal) ((c.tc : Thread Cert.UpDxGIdeal.nD Cert.UpDxGIdeal.τ).loc Cert.UpDxGIdeal.main_v0)),
      θ_run (Cert.UpDxGIdeal.defs (F := Ideal)) (onTc (τ := Cert.UpDxGIdeal.τ) (Cert.UpDxGIdeal.main (F := Ideal))) ⟨m, fun _ => 0, g⟩ (fun r => ∀ c : Dev Cert.UpDxGIdeal.nD,
          r.2.mem ((c.tc : Thread Cert.UpDxGIdeal.nD Cert.UpDxGIdeal.τ).loc Cert.UpDxGIdeal.main_v0) = v0 c
          ∧ r.2.mem ((c.tc : Thread Cert.UpDxGIdeal.nD Cert.UpDxGIdeal.τ).loc Cert.UpDxGIdeal.main_arg0) = m ((c.tc : Thread Cert.UpDxGIdeal.nD Cert.UpDxGIdeal.τ).loc Cert.UpDxGIdeal.main_arg0)
          ∧ r.2.mem ((c.tc : Thread Cert.UpDxGIdeal.nD Cert.UpDxGIdeal.τ).loc Cert.UpDxGIdeal.main_arg1) = m ((c.tc : Thread Cert.UpDxGIdeal.nD Cert.UpDxGIdeal.τ).loc Cert.UpDxGIdeal.main_arg1)
          ∧ r.2.mem ((c.tc : Thread Cert.UpDxGIdeal.nD Cert.UpDxGIdeal.τ).loc Cert.UpDxGIdeal.main_arg2) = m ((c.tc : Thread Cert.UpDxGIdeal.nD Cert.UpDxGIdeal.τ).loc Cert.UpDxGIdeal.main_arg2))
      ∧ θ_run (Cert.UpDxGRefIdeal.defs (F := Ideal)) (onTc (τ := Cert.UpDxGRefIdeal.τ) (Cert.UpDxGRefIdeal.main (F := Ideal))) ⟨m', fun _ => 0, g'⟩ (fun r => ∀ c : Dev Cert.UpDxGRefIdeal.nD,
          r.2.mem ((c.tc : Thread Cert.UpDxGRefIdeal.nD Cert.UpDxGRefIdeal.τ).loc Cert.UpDxGRefIdeal.main_v7) = v0 c
          ∧ r.2.mem ((c.tc : Thread Cert.UpDxGRefIdeal.nD Cert.UpDxGRefIdeal.τ).loc Cert.UpDxGRefIdeal.main_arg0) = m' ((c.tc : Thread Cert.UpDxGRefIdeal.nD Cert.UpDxGRefIdeal.τ).loc Cert.UpDxGRefIdeal.main_arg0)
          ∧ r.2.mem ((c.tc : Thread Cert.UpDxGRefIdeal.nD Cert.UpDxGRefIdeal.τ).loc Cert.UpDxGRefIdeal.main_arg1) = m' ((c.tc : Thread Cert.UpDxGRefIdeal.nD Cert.UpDxGRefIdeal.τ).loc Cert.UpDxGRefIdeal.main_arg1)
          ∧ r.2.mem ((c.tc : Thread Cert.UpDxGRefIdeal.nD Cert.UpDxGRefIdeal.τ).loc Cert.UpDxGRefIdeal.main_arg2) = m' ((c.tc : Thread Cert.UpDxGRefIdeal.nD Cert.UpDxGRefIdeal.τ).loc Cert.UpDxGRefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v2) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_QkvDw_QkvDwIdeal : Prop :=
  True

def algebraic_QkvDwIdeal_QkvDwRefIdeal [hQkvDwIdeal : Cert.QkvDwIdeal.Facts] [hQkvDwRefIdeal : Cert.QkvDwRefIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg)
    (m' : (ℓ : Loc Cert.QkvDwRefIdeal.nD Cert.QkvDwRefIdeal.τ Cert.QkvDwRefIdeal.sig) → Buf (Elt Ideal) ℓ) (g' : Dev Cert.QkvDwRefIdeal.nD → PrngReg), Pre_QkvDwIdeal m →
    (∀ c : Dev Cert.QkvDwIdeal.nD,
      m' ((c.tc : Thread Cert.QkvDwRefIdeal.nD Cert.QkvDwRefIdeal.τ).loc Cert.QkvDwRefIdeal.main_arg0) = m ((c.tc : Thread Cert.QkvDwIdeal.nD Cert.QkvDwIdeal.τ).loc Cert.QkvDwIdeal.main_arg0)
      ∧ m' ((c.tc : Thread Cert.QkvDwRefIdeal.nD Cert.QkvDwRefIdeal.τ).loc Cert.QkvDwRefIdeal.main_arg1) = m ((c.tc : Thread Cert.QkvDwIdeal.nD Cert.QkvDwIdeal.τ).loc Cert.QkvDwIdeal.main_arg1)
      ∧ m' ((c.tc : Thread Cert.QkvDwRefIdeal.nD Cert.QkvDwRefIdeal.τ).loc Cert.QkvDwRefIdeal.main_arg2) = m ((c.tc : Thread Cert.QkvDwIdeal.nD Cert.QkvDwIdeal.τ).loc Cert.QkvDwIdeal.main_arg2)) →
    ∃ (v0 : (c : Dev Cert.QkvDwIdeal.nD) → Buf (Elt Ideal) ((c.tc : Thread Cert.QkvDwIdeal.nD Cert.QkvDwIdeal.τ).loc Cert.QkvDwIdeal.main_v1)),
      θ_run (Cert.QkvDwIdeal.defs (F := Ideal)) (onTc (τ := Cert.QkvDwIdeal.τ) (Cert.QkvDwIdeal.main (F := Ideal))) ⟨m, fun _ => 0, g⟩ (fun r => ∀ c : Dev Cert.QkvDwIdeal.nD,
          r.2.mem ((c.tc : Thread Cert.QkvDwIdeal.nD Cert.QkvDwIdeal.τ).loc Cert.QkvDwIdeal.main_v1) = v0 c
          ∧ r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
          ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1)
          ∧ r.2.mem ((c.tc : Thread Cert.QkvDwIdeal.nD Cert.QkvDwIdeal.τ).loc Cert.QkvDwIdeal.main_arg2) = m ((c.tc : Thread Cert.QkvDwIdeal.nD Cert.QkvDwIdeal.τ).loc Cert.QkvDwIdeal.main_arg2))
      ∧ θ_run (Cert.QkvDwRefIdeal.defs (F := Ideal)) (onTc (τ := Cert.QkvDwRefIdeal.τ) (Cert.QkvDwRefIdeal.main (F := Ideal))) ⟨m', fun _ => 0, g'⟩ (fun r => ∀ c : Dev Cert.QkvDwRefIdeal.nD,
          r.2.mem ((c.tc : Thread Cert.QkvDwRefIdeal.nD Cert.QkvDwRefIdeal.τ).loc Cert.QkvDwRefIdeal.main_v5) = v0 c
          ∧ r.2.mem ((c.tc : Thread Cert.QkvDwRefIdeal.nD Cert.QkvDwRefIdeal.τ).loc Cert.QkvDwRefIdeal.main_arg0) = m' ((c.tc : Thread Cert.QkvDwRefIdeal.nD Cert.QkvDwRefIdeal.τ).loc Cert.QkvDwRefIdeal.main_arg0)
          ∧ r.2.mem ((c.tc : Thread Cert.QkvDwRefIdeal.nD Cert.QkvDwRefIdeal.τ).loc Cert.QkvDwRefIdeal.main_arg1) = m' ((c.tc : Thread Cert.QkvDwRefIdeal.nD Cert.QkvDwRefIdeal.τ).loc Cert.QkvDwRefIdeal.main_arg1)
          ∧ r.2.mem ((c.tc : Thread Cert.QkvDwRefIdeal.nD Cert.QkvDwRefIdeal.τ).loc Cert.QkvDwRefIdeal.main_arg2) = m' ((c.tc : Thread Cert.QkvDwRefIdeal.nD Cert.QkvDwRefIdeal.τ).loc Cert.QkvDwRefIdeal.main_arg2))

def preserves_QkvDx_QkvDxIdeal : Prop :=
  True

def algebraic_QkvDxIdeal_QkvDxRefIdeal [hQkvDxIdeal : Cert.QkvDxIdeal.Facts] [hQkvDxRefIdeal : Cert.QkvDxRefIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg)
    (m' : (ℓ : Loc Cert.QkvDxRefIdeal.nD Cert.QkvDxRefIdeal.τ Cert.QkvDxRefIdeal.sig) → Buf (Elt Ideal) ℓ) (g' : Dev Cert.QkvDxRefIdeal.nD → PrngReg), Pre_QkvDxIdeal m →
    (∀ c : Dev Cert.QkvDxIdeal.nD,
      m' ((c.tc : Thread Cert.QkvDxRefIdeal.nD Cert.QkvDxRefIdeal.τ).loc Cert.QkvDxRefIdeal.main_arg0) = m ((c.tc : Thread Cert.QkvDxIdeal.nD Cert.QkvDxIdeal.τ).loc Cert.QkvDxIdeal.main_arg0)
      ∧ m' ((c.tc : Thread Cert.QkvDxRefIdeal.nD Cert.QkvDxRefIdeal.τ).loc Cert.QkvDxRefIdeal.main_arg1) = m ((c.tc : Thread Cert.QkvDxIdeal.nD Cert.QkvDxIdeal.τ).loc Cert.QkvDxIdeal.main_arg1)
      ∧ m' ((c.tc : Thread Cert.QkvDxRefIdeal.nD Cert.QkvDxRefIdeal.τ).loc Cert.QkvDxRefIdeal.main_arg2) = m ((c.tc : Thread Cert.QkvDxIdeal.nD Cert.QkvDxIdeal.τ).loc Cert.QkvDxIdeal.main_arg2)) →
    ∃ (v0 : (c : Dev Cert.QkvDxIdeal.nD) → Buf (Elt Ideal) ((c.tc : Thread Cert.QkvDxIdeal.nD Cert.QkvDxIdeal.τ).loc Cert.QkvDxIdeal.main_v0)),
      θ_run (Cert.QkvDxIdeal.defs (F := Ideal)) (onTc (τ := Cert.QkvDxIdeal.τ) (Cert.QkvDxIdeal.main (F := Ideal))) ⟨m, fun _ => 0, g⟩ (fun r => ∀ c : Dev Cert.QkvDxIdeal.nD,
          r.2.mem ((c.tc : Thread Cert.QkvDxIdeal.nD Cert.QkvDxIdeal.τ).loc Cert.QkvDxIdeal.main_v0) = v0 c
          ∧ r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
          ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1)
          ∧ r.2.mem ((c.tc : Thread Cert.QkvDxIdeal.nD Cert.QkvDxIdeal.τ).loc Cert.QkvDxIdeal.main_arg2) = m ((c.tc : Thread Cert.QkvDxIdeal.nD Cert.QkvDxIdeal.τ).loc Cert.QkvDxIdeal.main_arg2))
      ∧ θ_run (Cert.QkvDxRefIdeal.defs (F := Ideal)) (onTc (τ := Cert.QkvDxRefIdeal.τ) (Cert.QkvDxRefIdeal.main (F := Ideal))) ⟨m', fun _ => 0, g'⟩ (fun r => ∀ c : Dev Cert.QkvDxRefIdeal.nD,
          r.2.mem ((c.tc : Thread Cert.QkvDxRefIdeal.nD Cert.QkvDxRefIdeal.τ).loc Cert.QkvDxRefIdeal.main_v6) = v0 c
          ∧ r.2.mem ((c.tc : Thread Cert.QkvDxRefIdeal.nD Cert.QkvDxRefIdeal.τ).loc Cert.QkvDxRefIdeal.main_arg0) = m' ((c.tc : Thread Cert.QkvDxRefIdeal.nD Cert.QkvDxRefIdeal.τ).loc Cert.QkvDxRefIdeal.main_arg0)
          ∧ r.2.mem ((c.tc : Thread Cert.QkvDxRefIdeal.nD Cert.QkvDxRefIdeal.τ).loc Cert.QkvDxRefIdeal.main_arg1) = m' ((c.tc : Thread Cert.QkvDxRefIdeal.nD Cert.QkvDxRefIdeal.τ).loc Cert.QkvDxRefIdeal.main_arg1)
          ∧ r.2.mem ((c.tc : Thread Cert.QkvDxRefIdeal.nD Cert.QkvDxRefIdeal.τ).loc Cert.QkvDxRefIdeal.main_arg2) = m' ((c.tc : Thread Cert.QkvDxRefIdeal.nD Cert.QkvDxRefIdeal.τ).loc Cert.QkvDxRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)
      ∧ m' ((c.tc : Thread Cert.OutDwRefIdeal.nD Cert.OutDwRefIdeal.τ).loc Cert.OutDwRefIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v1)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v1) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)
          ∧ r.2.mem ((c.tc : Thread Cert.OutDwRefIdeal.nD Cert.OutDwRefIdeal.τ).loc Cert.OutDwRefIdeal.main_arg2) = m' ((c.tc : Thread Cert.OutDwRefIdeal.nD Cert.OutDwRefIdeal.τ).loc Cert.OutDwRefIdeal.main_arg2))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)
      ∧ m' ((c.tc : Thread Cert.OutDxRefIdeal.nD Cert.OutDxRefIdeal.τ).loc Cert.OutDxRefIdeal.main_arg2) = m ((c.tc : Thread Cert.OutDxIdeal.nD Cert.OutDxIdeal.τ).loc Cert.OutDxIdeal.main_arg2)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v7) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1)
          ∧ r.2.mem ((c.tc : Thread Cert.OutDxRefIdeal.nD Cert.OutDxRefIdeal.τ).loc Cert.OutDxRefIdeal.main_arg2) = m' ((c.tc : Thread Cert.OutDxRefIdeal.nD Cert.OutDxRefIdeal.τ).loc Cert.OutDxRefIdeal.main_arg2))

def preserves_GluDx_GluDxIdeal : Prop :=
  True

def algebraic_GluDxIdeal_GluDxRefIdeal [hGluDxIdeal : Cert.GluDxIdeal.Facts] [hGluDxRefIdeal : Cert.GluDxRefIdeal.Facts] : Prop :=
  ∀ (m : (ℓ : Loc Cert.GluDxIdeal.nD Cert.GluDxIdeal.τ Cert.GluDxIdeal.sig) → Buf (Elt Ideal) ℓ) (g : Dev Cert.GluDxIdeal.nD → PrngReg)
    (m' : (ℓ : Loc Cert.GluDxRefIdeal.nD Cert.GluDxRefIdeal.τ Cert.GluDxRefIdeal.sig) → Buf (Elt Ideal) ℓ) (g' : Dev Cert.GluDxRefIdeal.nD → PrngReg), Pre_GluDxIdeal m →
    (∀ c : Dev Cert.GluDxIdeal.nD,
      m' ((c.tc : Thread Cert.GluDxRefIdeal.nD Cert.GluDxRefIdeal.τ).loc Cert.GluDxRefIdeal.main_arg0) = m ((c.tc : Thread Cert.GluDxIdeal.nD Cert.GluDxIdeal.τ).loc Cert.GluDxIdeal.main_arg0)
      ∧ m' ((c.tc : Thread Cert.GluDxRefIdeal.nD Cert.GluDxRefIdeal.τ).loc Cert.GluDxRefIdeal.main_arg1) = m ((c.tc : Thread Cert.GluDxIdeal.nD Cert.GluDxIdeal.τ).loc Cert.GluDxIdeal.main_arg1)
      ∧ m' ((c.tc : Thread Cert.GluDxRefIdeal.nD Cert.GluDxRefIdeal.τ).loc Cert.GluDxRefIdeal.main_arg2) = m ((c.tc : Thread Cert.GluDxIdeal.nD Cert.GluDxIdeal.τ).loc Cert.GluDxIdeal.main_arg2)) →
    ∃ (v0 : (c : Dev Cert.GluDxIdeal.nD) → Buf (Elt Ideal) ((c.tc : Thread Cert.GluDxIdeal.nD Cert.GluDxIdeal.τ).loc Cert.GluDxIdeal.main_v0)),
      θ_run (Cert.GluDxIdeal.defs (F := Ideal)) (onTc (τ := Cert.GluDxIdeal.τ) (Cert.GluDxIdeal.main (F := Ideal))) ⟨m, fun _ => 0, g⟩ (fun r => ∀ c : Dev Cert.GluDxIdeal.nD,
          r.2.mem ((c.tc : Thread Cert.GluDxIdeal.nD Cert.GluDxIdeal.τ).loc Cert.GluDxIdeal.main_v0) = v0 c
          ∧ r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
          ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
          ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2))
      ∧ θ_run (Cert.GluDxRefIdeal.defs (F := Ideal)) (onTc (τ := Cert.GluDxRefIdeal.τ) (Cert.GluDxRefIdeal.main (F := Ideal))) ⟨m', fun _ => 0, g'⟩ (fun r => ∀ c : Dev Cert.GluDxRefIdeal.nD,
          r.2.mem ((c.tc : Thread Cert.GluDxRefIdeal.nD Cert.GluDxRefIdeal.τ).loc Cert.GluDxRefIdeal.main_v6) = v0 c
          ∧ r.2.mem ((c.tc : Thread Cert.GluDxRefIdeal.nD Cert.GluDxRefIdeal.τ).loc Cert.GluDxRefIdeal.main_arg0) = m' ((c.tc : Thread Cert.GluDxRefIdeal.nD Cert.GluDxRefIdeal.τ).loc Cert.GluDxRefIdeal.main_arg0)
          ∧ r.2.mem ((c.tc : Thread Cert.GluDxRefIdeal.nD Cert.GluDxRefIdeal.τ).loc Cert.GluDxRefIdeal.main_arg1) = m' ((c.tc : Thread Cert.GluDxRefIdeal.nD Cert.GluDxRefIdeal.τ).loc Cert.GluDxRefIdeal.main_arg1)
          ∧ r.2.mem ((c.tc : Thread Cert.GluDxRefIdeal.nD Cert.GluDxRefIdeal.τ).loc Cert.GluDxRefIdeal.main_arg2) = m' ((c.tc : Thread Cert.GluDxRefIdeal.nD Cert.GluDxRefIdeal.τ).loc Cert.GluDxRefIdeal.main_arg2))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v0)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v2) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_MixInDw_MixInDwIdeal : Prop :=
  True

def algebraic_MixInDwIdeal_MixInDwRefIdeal [hMixInDwIdeal : Cert.MixInDwIdeal.Facts] [hMixInDwRefIdeal : Cert.MixInDwRefIdeal.Facts] : Prop :=
  ∀ (m : (ℓ : Loc Cert.MixInDwIdeal.nD Cert.MixInDwIdeal.τ Cert.MixInDwIdeal.sig) → Buf (Elt Ideal) ℓ) (g : Dev Cert.MixInDwIdeal.nD → PrngReg)
    (m' : (ℓ : Loc Cert.MixInDwRefIdeal.nD Cert.MixInDwRefIdeal.τ Cert.MixInDwRefIdeal.sig) → Buf (Elt Ideal) ℓ) (g' : Dev Cert.MixInDwRefIdeal.nD → PrngReg), Pre_MixInDwIdeal m →
    (∀ c : Dev Cert.MixInDwIdeal.nD,
      m' ((c.tc : Thread Cert.MixInDwRefIdeal.nD Cert.MixInDwRefIdeal.τ).loc Cert.MixInDwRefIdeal.main_arg0) = m ((c.tc : Thread Cert.MixInDwIdeal.nD Cert.MixInDwIdeal.τ).loc Cert.MixInDwIdeal.main_arg0)
      ∧ m' ((c.tc : Thread Cert.MixInDwRefIdeal.nD Cert.MixInDwRefIdeal.τ).loc Cert.MixInDwRefIdeal.main_arg1) = m ((c.tc : Thread Cert.MixInDwIdeal.nD Cert.MixInDwIdeal.τ).loc Cert.MixInDwIdeal.main_arg1)
      ∧ m' ((c.tc : Thread Cert.MixInDwRefIdeal.nD Cert.MixInDwRefIdeal.τ).loc Cert.MixInDwRefIdeal.main_arg2) = m ((c.tc : Thread Cert.MixInDwIdeal.nD Cert.MixInDwIdeal.τ).loc Cert.MixInDwIdeal.main_arg2)) →
    ∃ (v0 : (c : Dev Cert.MixInDwIdeal.nD) → Buf (Elt Ideal) ((c.tc : Thread Cert.MixInDwIdeal.nD Cert.MixInDwIdeal.τ).loc Cert.MixInDwIdeal.main_v1)),
      θ_run (Cert.MixInDwIdeal.defs (F := Ideal)) (onTc (τ := Cert.MixInDwIdeal.τ) (Cert.MixInDwIdeal.main (F := Ideal))) ⟨m, fun _ => 0, g⟩ (fun r => ∀ c : Dev Cert.MixInDwIdeal.nD,
          r.2.mem ((c.tc : Thread Cert.MixInDwIdeal.nD Cert.MixInDwIdeal.τ).loc Cert.MixInDwIdeal.main_v1) = v0 c
          ∧ r.2.mem ((c.tc : Thread Cert.MixInDwIdeal.nD Cert.MixInDwIdeal.τ).loc Cert.MixInDwIdeal.main_arg0) = m ((c.tc : Thread Cert.MixInDwIdeal.nD Cert.MixInDwIdeal.τ).loc Cert.MixInDwIdeal.main_arg0)
          ∧ r.2.mem ((c.tc : Thread Cert.MixInDwIdeal.nD Cert.MixInDwIdeal.τ).loc Cert.MixInDwIdeal.main_arg1) = m ((c.tc : Thread Cert.MixInDwIdeal.nD Cert.MixInDwIdeal.τ).loc Cert.MixInDwIdeal.main_arg1)
          ∧ r.2.mem ((c.tc : Thread Cert.MixInDwIdeal.nD Cert.MixInDwIdeal.τ).loc Cert.MixInDwIdeal.main_arg2) = m ((c.tc : Thread Cert.MixInDwIdeal.nD Cert.MixInDwIdeal.τ).loc Cert.MixInDwIdeal.main_arg2))
      ∧ θ_run (Cert.MixInDwRefIdeal.defs (F := Ideal)) (onTc (τ := Cert.MixInDwRefIdeal.τ) (Cert.MixInDwRefIdeal.main (F := Ideal))) ⟨m', fun _ => 0, g'⟩ (fun r => ∀ c : Dev Cert.MixInDwRefIdeal.nD,
          r.2.mem ((c.tc : Thread Cert.MixInDwRefIdeal.nD Cert.MixInDwRefIdeal.τ).loc Cert.MixInDwRefIdeal.main_v5) = v0 c
          ∧ r.2.mem ((c.tc : Thread Cert.MixInDwRefIdeal.nD Cert.MixInDwRefIdeal.τ).loc Cert.MixInDwRefIdeal.main_arg0) = m' ((c.tc : Thread Cert.MixInDwRefIdeal.nD Cert.MixInDwRefIdeal.τ).loc Cert.MixInDwRefIdeal.main_arg0)
          ∧ r.2.mem ((c.tc : Thread Cert.MixInDwRefIdeal.nD Cert.MixInDwRefIdeal.τ).loc Cert.MixInDwRefIdeal.main_arg1) = m' ((c.tc : Thread Cert.MixInDwRefIdeal.nD Cert.MixInDwRefIdeal.τ).loc Cert.MixInDwRefIdeal.main_arg1)
          ∧ r.2.mem ((c.tc : Thread Cert.MixInDwRefIdeal.nD Cert.MixInDwRefIdeal.τ).loc Cert.MixInDwRefIdeal.main_arg2) = m' ((c.tc : Thread Cert.MixInDwRefIdeal.nD Cert.MixInDwRefIdeal.τ).loc Cert.MixInDwRefIdeal.main_arg2))

def preserves_MixInDx_MixInDxIdeal : Prop :=
  True

def algebraic_MixInDxIdeal_MixInDxRefIdeal [hMixInDxIdeal : Cert.MixInDxIdeal.Facts] [hMixInDxRefIdeal : Cert.MixInDxRefIdeal.Facts] : Prop :=
  ∀ (m : (ℓ : Loc Cert.MixInDxIdeal.nD Cert.MixInDxIdeal.τ Cert.MixInDxIdeal.sig) → Buf (Elt Ideal) ℓ) (g : Dev Cert.MixInDxIdeal.nD → PrngReg)
    (m' : (ℓ : Loc Cert.MixInDxRefIdeal.nD Cert.MixInDxRefIdeal.τ Cert.MixInDxRefIdeal.sig) → Buf (Elt Ideal) ℓ) (g' : Dev Cert.MixInDxRefIdeal.nD → PrngReg), Pre_MixInDxIdeal m →
    (∀ c : Dev Cert.MixInDxIdeal.nD,
      m' ((c.tc : Thread Cert.MixInDxRefIdeal.nD Cert.MixInDxRefIdeal.τ).loc Cert.MixInDxRefIdeal.main_arg0) = m ((c.tc : Thread Cert.MixInDxIdeal.nD Cert.MixInDxIdeal.τ).loc Cert.MixInDxIdeal.main_arg0)
      ∧ m' ((c.tc : Thread Cert.MixInDxRefIdeal.nD Cert.MixInDxRefIdeal.τ).loc Cert.MixInDxRefIdeal.main_arg1) = m ((c.tc : Thread Cert.MixInDxIdeal.nD Cert.MixInDxIdeal.τ).loc Cert.MixInDxIdeal.main_arg1)
      ∧ m' ((c.tc : Thread Cert.MixInDxRefIdeal.nD Cert.MixInDxRefIdeal.τ).loc Cert.MixInDxRefIdeal.main_arg2) = m ((c.tc : Thread Cert.MixInDxIdeal.nD Cert.MixInDxIdeal.τ).loc Cert.MixInDxIdeal.main_arg2)) →
    ∃ (v0 : (c : Dev Cert.MixInDxIdeal.nD) → Buf (Elt Ideal) ((c.tc : Thread Cert.MixInDxIdeal.nD Cert.MixInDxIdeal.τ).loc Cert.MixInDxIdeal.main_v0)),
      θ_run (Cert.MixInDxIdeal.defs (F := Ideal)) (onTc (τ := Cert.MixInDxIdeal.τ) (Cert.MixInDxIdeal.main (F := Ideal))) ⟨m, fun _ => 0, g⟩ (fun r => ∀ c : Dev Cert.MixInDxIdeal.nD,
          r.2.mem ((c.tc : Thread Cert.MixInDxIdeal.nD Cert.MixInDxIdeal.τ).loc Cert.MixInDxIdeal.main_v0) = v0 c
          ∧ r.2.mem ((c.tc : Thread Cert.MixInDxIdeal.nD Cert.MixInDxIdeal.τ).loc Cert.MixInDxIdeal.main_arg0) = m ((c.tc : Thread Cert.MixInDxIdeal.nD Cert.MixInDxIdeal.τ).loc Cert.MixInDxIdeal.main_arg0)
          ∧ r.2.mem ((c.tc : Thread Cert.MixInDxIdeal.nD Cert.MixInDxIdeal.τ).loc Cert.MixInDxIdeal.main_arg1) = m ((c.tc : Thread Cert.MixInDxIdeal.nD Cert.MixInDxIdeal.τ).loc Cert.MixInDxIdeal.main_arg1)
          ∧ r.2.mem ((c.tc : Thread Cert.MixInDxIdeal.nD Cert.MixInDxIdeal.τ).loc Cert.MixInDxIdeal.main_arg2) = m ((c.tc : Thread Cert.MixInDxIdeal.nD Cert.MixInDxIdeal.τ).loc Cert.MixInDxIdeal.main_arg2))
      ∧ θ_run (Cert.MixInDxRefIdeal.defs (F := Ideal)) (onTc (τ := Cert.MixInDxRefIdeal.τ) (Cert.MixInDxRefIdeal.main (F := Ideal))) ⟨m', fun _ => 0, g'⟩ (fun r => ∀ c : Dev Cert.MixInDxRefIdeal.nD,
          r.2.mem ((c.tc : Thread Cert.MixInDxRefIdeal.nD Cert.MixInDxRefIdeal.τ).loc Cert.MixInDxRefIdeal.main_v6) = v0 c
          ∧ r.2.mem ((c.tc : Thread Cert.MixInDxRefIdeal.nD Cert.MixInDxRefIdeal.τ).loc Cert.MixInDxRefIdeal.main_arg0) = m' ((c.tc : Thread Cert.MixInDxRefIdeal.nD Cert.MixInDxRefIdeal.τ).loc Cert.MixInDxRefIdeal.main_arg0)
          ∧ r.2.mem ((c.tc : Thread Cert.MixInDxRefIdeal.nD Cert.MixInDxRefIdeal.τ).loc Cert.MixInDxRefIdeal.main_arg1) = m' ((c.tc : Thread Cert.MixInDxRefIdeal.nD Cert.MixInDxRefIdeal.τ).loc Cert.MixInDxRefIdeal.main_arg1)
          ∧ r.2.mem ((c.tc : Thread Cert.MixInDxRefIdeal.nD Cert.MixInDxRefIdeal.τ).loc Cert.MixInDxRefIdeal.main_arg2) = m' ((c.tc : Thread Cert.MixInDxRefIdeal.nD Cert.MixInDxRefIdeal.τ).loc Cert.MixInDxRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v2) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_MixOutDw_MixOutDwIdeal : Prop :=
  True

def algebraic_MixOutDwIdeal_MixOutDwRefIdeal [hMixOutDwIdeal : Cert.MixOutDwIdeal.Facts] [hMixOutDwRefIdeal : Cert.MixOutDwRefIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg)
    (m' : (ℓ : Loc Cert.MixOutDwRefIdeal.nD Cert.MixOutDwRefIdeal.τ Cert.MixOutDwRefIdeal.sig) → Buf (Elt Ideal) ℓ) (g' : Dev Cert.MixOutDwRefIdeal.nD → PrngReg), Pre_MixOutDwIdeal m →
    (∀ c : Dev Cert.MixOutDwIdeal.nD,
      m' ((c.tc : Thread Cert.MixOutDwRefIdeal.nD Cert.MixOutDwRefIdeal.τ).loc Cert.MixOutDwRefIdeal.main_arg0) = m ((c.tc : Thread Cert.MixOutDwIdeal.nD Cert.MixOutDwIdeal.τ).loc Cert.MixOutDwIdeal.main_arg0)
      ∧ m' ((c.tc : Thread Cert.MixOutDwRefIdeal.nD Cert.MixOutDwRefIdeal.τ).loc Cert.MixOutDwRefIdeal.main_arg1) = m ((c.tc : Thread Cert.MixOutDwIdeal.nD Cert.MixOutDwIdeal.τ).loc Cert.MixOutDwIdeal.main_arg1)
      ∧ m' ((c.tc : Thread Cert.MixOutDwRefIdeal.nD Cert.MixOutDwRefIdeal.τ).loc Cert.MixOutDwRefIdeal.main_arg2) = m ((c.tc : Thread Cert.MixOutDwIdeal.nD Cert.MixOutDwIdeal.τ).loc Cert.MixOutDwIdeal.main_arg2)) →
    ∃ (v0 : (c : Dev Cert.MixOutDwIdeal.nD) → Buf (Elt Ideal) ((c.tc : Thread Cert.MixOutDwIdeal.nD Cert.MixOutDwIdeal.τ).loc Cert.MixOutDwIdeal.main_v1)),
      θ_run (Cert.MixOutDwIdeal.defs (F := Ideal)) (onTc (τ := Cert.MixOutDwIdeal.τ) (Cert.MixOutDwIdeal.main (F := Ideal))) ⟨m, fun _ => 0, g⟩ (fun r => ∀ c : Dev Cert.MixOutDwIdeal.nD,
          r.2.mem ((c.tc : Thread Cert.MixOutDwIdeal.nD Cert.MixOutDwIdeal.τ).loc Cert.MixOutDwIdeal.main_v1) = v0 c
          ∧ r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
          ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1)
          ∧ r.2.mem ((c.tc : Thread Cert.MixOutDwIdeal.nD Cert.MixOutDwIdeal.τ).loc Cert.MixOutDwIdeal.main_arg2) = m ((c.tc : Thread Cert.MixOutDwIdeal.nD Cert.MixOutDwIdeal.τ).loc Cert.MixOutDwIdeal.main_arg2))
      ∧ θ_run (Cert.MixOutDwRefIdeal.defs (F := Ideal)) (onTc (τ := Cert.MixOutDwRefIdeal.τ) (Cert.MixOutDwRefIdeal.main (F := Ideal))) ⟨m', fun _ => 0, g'⟩ (fun r => ∀ c : Dev Cert.MixOutDwRefIdeal.nD,
          r.2.mem ((c.tc : Thread Cert.MixOutDwRefIdeal.nD Cert.MixOutDwRefIdeal.τ).loc Cert.MixOutDwRefIdeal.main_v4) = v0 c
          ∧ r.2.mem ((c.tc : Thread Cert.MixOutDwRefIdeal.nD Cert.MixOutDwRefIdeal.τ).loc Cert.MixOutDwRefIdeal.main_arg0) = m' ((c.tc : Thread Cert.MixOutDwRefIdeal.nD Cert.MixOutDwRefIdeal.τ).loc Cert.MixOutDwRefIdeal.main_arg0)
          ∧ r.2.mem ((c.tc : Thread Cert.MixOutDwRefIdeal.nD Cert.MixOutDwRefIdeal.τ).loc Cert.MixOutDwRefIdeal.main_arg1) = m' ((c.tc : Thread Cert.MixOutDwRefIdeal.nD Cert.MixOutDwRefIdeal.τ).loc Cert.MixOutDwRefIdeal.main_arg1)
          ∧ r.2.mem ((c.tc : Thread Cert.MixOutDwRefIdeal.nD Cert.MixOutDwRefIdeal.τ).loc Cert.MixOutDwRefIdeal.main_arg2) = m' ((c.tc : Thread Cert.MixOutDwRefIdeal.nD Cert.MixOutDwRefIdeal.τ).loc Cert.MixOutDwRefIdeal.main_arg2))

def preserves_MixOutDx_MixOutDxIdeal : Prop :=
  True

def algebraic_MixOutDxIdeal_MixOutDxRefIdeal [hMixOutDxIdeal : Cert.MixOutDxIdeal.Facts] [hMixOutDxRefIdeal : Cert.MixOutDxRefIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg)
    (m' : (ℓ : Loc Cert.MixOutDxRefIdeal.nD Cert.MixOutDxRefIdeal.τ Cert.MixOutDxRefIdeal.sig) → Buf (Elt Ideal) ℓ) (g' : Dev Cert.MixOutDxRefIdeal.nD → PrngReg), Pre_MixOutDxIdeal m →
    (∀ c : Dev Cert.MixOutDxIdeal.nD,
      m' ((c.tc : Thread Cert.MixOutDxRefIdeal.nD Cert.MixOutDxRefIdeal.τ).loc Cert.MixOutDxRefIdeal.main_arg0) = m ((c.tc : Thread Cert.MixOutDxIdeal.nD Cert.MixOutDxIdeal.τ).loc Cert.MixOutDxIdeal.main_arg0)
      ∧ m' ((c.tc : Thread Cert.MixOutDxRefIdeal.nD Cert.MixOutDxRefIdeal.τ).loc Cert.MixOutDxRefIdeal.main_arg1) = m ((c.tc : Thread Cert.MixOutDxIdeal.nD Cert.MixOutDxIdeal.τ).loc Cert.MixOutDxIdeal.main_arg1)
      ∧ m' ((c.tc : Thread Cert.MixOutDxRefIdeal.nD Cert.MixOutDxRefIdeal.τ).loc Cert.MixOutDxRefIdeal.main_arg2) = m ((c.tc : Thread Cert.MixOutDxIdeal.nD Cert.MixOutDxIdeal.τ).loc Cert.MixOutDxIdeal.main_arg2)) →
    ∃ (v0 : (c : Dev Cert.MixOutDxIdeal.nD) → Buf (Elt Ideal) ((c.tc : Thread Cert.MixOutDxIdeal.nD Cert.MixOutDxIdeal.τ).loc Cert.MixOutDxIdeal.main_v0)),
      θ_run (Cert.MixOutDxIdeal.defs (F := Ideal)) (onTc (τ := Cert.MixOutDxIdeal.τ) (Cert.MixOutDxIdeal.main (F := Ideal))) ⟨m, fun _ => 0, g⟩ (fun r => ∀ c : Dev Cert.MixOutDxIdeal.nD,
          r.2.mem ((c.tc : Thread Cert.MixOutDxIdeal.nD Cert.MixOutDxIdeal.τ).loc Cert.MixOutDxIdeal.main_v0) = v0 c
          ∧ r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
          ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1)
          ∧ r.2.mem ((c.tc : Thread Cert.MixOutDxIdeal.nD Cert.MixOutDxIdeal.τ).loc Cert.MixOutDxIdeal.main_arg2) = m ((c.tc : Thread Cert.MixOutDxIdeal.nD Cert.MixOutDxIdeal.τ).loc Cert.MixOutDxIdeal.main_arg2))
      ∧ θ_run (Cert.MixOutDxRefIdeal.defs (F := Ideal)) (onTc (τ := Cert.MixOutDxRefIdeal.τ) (Cert.MixOutDxRefIdeal.main (F := Ideal))) ⟨m', fun _ => 0, g'⟩ (fun r => ∀ c : Dev Cert.MixOutDxRefIdeal.nD,
          r.2.mem ((c.tc : Thread Cert.MixOutDxRefIdeal.nD Cert.MixOutDxRefIdeal.τ).loc Cert.MixOutDxRefIdeal.main_v5) = v0 c
          ∧ r.2.mem ((c.tc : Thread Cert.MixOutDxRefIdeal.nD Cert.MixOutDxRefIdeal.τ).loc Cert.MixOutDxRefIdeal.main_arg0) = m' ((c.tc : Thread Cert.MixOutDxRefIdeal.nD Cert.MixOutDxRefIdeal.τ).loc Cert.MixOutDxRefIdeal.main_arg0)
          ∧ r.2.mem ((c.tc : Thread Cert.MixOutDxRefIdeal.nD Cert.MixOutDxRefIdeal.τ).loc Cert.MixOutDxRefIdeal.main_arg1) = m' ((c.tc : Thread Cert.MixOutDxRefIdeal.nD Cert.MixOutDxRefIdeal.τ).loc Cert.MixOutDxRefIdeal.main_arg1)
          ∧ r.2.mem ((c.tc : Thread Cert.MixOutDxRefIdeal.nD Cert.MixOutDxRefIdeal.τ).loc Cert.MixOutDxRefIdeal.main_arg2) = m' ((c.tc : Thread Cert.MixOutDxRefIdeal.nD Cert.MixOutDxRefIdeal.τ).loc Cert.MixOutDxRefIdeal.main_arg2))

def preserves_AdamCCtx_AdamCCtxIdeal : Prop :=
  True

def algebraic_AdamCCtxIdeal_AdamCCtxRefIdeal [hAdamCCtxIdeal : Cert.AdamCCtxIdeal.Facts] [hAdamCCtxRefIdeal : Cert.AdamCCtxRefIdeal.Facts] : Prop :=
  ∀ (m : (ℓ : Loc Cert.AdamCCtxIdeal.nD Cert.AdamCCtxIdeal.τ Cert.AdamCCtxIdeal.sig) → Buf (Elt Ideal) ℓ) (g : Dev Cert.AdamCCtxIdeal.nD → PrngReg)
    (m' : (ℓ : Loc Cert.AdamCCtxRefIdeal.nD Cert.AdamCCtxRefIdeal.τ Cert.AdamCCtxRefIdeal.sig) → Buf (Elt Ideal) ℓ) (g' : Dev Cert.AdamCCtxRefIdeal.nD → PrngReg), Pre_AdamCCtxIdeal m →
    (∀ c : Dev Cert.AdamCCtxIdeal.nD,
      m' ((c.tc : Thread Cert.AdamCCtxRefIdeal.nD Cert.AdamCCtxRefIdeal.τ).loc Cert.AdamCCtxRefIdeal.main_arg0) = m ((c.tc : Thread Cert.AdamCCtxIdeal.nD Cert.AdamCCtxIdeal.τ).loc Cert.AdamCCtxIdeal.main_arg0)
      ∧ m' ((c.tc : Thread Cert.AdamCCtxRefIdeal.nD Cert.AdamCCtxRefIdeal.τ).loc Cert.AdamCCtxRefIdeal.main_arg1) = m ((c.tc : Thread Cert.AdamCCtxIdeal.nD Cert.AdamCCtxIdeal.τ).loc Cert.AdamCCtxIdeal.main_arg1)
      ∧ m' ((c.tc : Thread Cert.AdamCCtxRefIdeal.nD Cert.AdamCCtxRefIdeal.τ).loc Cert.AdamCCtxRefIdeal.main_arg2) = m ((c.tc : Thread Cert.AdamCCtxIdeal.nD Cert.AdamCCtxIdeal.τ).loc Cert.AdamCCtxIdeal.main_arg2)
      ∧ m' ((c.tc : Thread Cert.AdamCCtxRefIdeal.nD Cert.AdamCCtxRefIdeal.τ).loc Cert.AdamCCtxRefIdeal.main_arg3) = m ((c.tc : Thread Cert.AdamCCtxIdeal.nD Cert.AdamCCtxIdeal.τ).loc Cert.AdamCCtxIdeal.main_arg3)) →
    ∃ (v0 : (c : Dev Cert.AdamCCtxIdeal.nD) → Buf (Elt Ideal) ((c.tc : Thread Cert.AdamCCtxIdeal.nD Cert.AdamCCtxIdeal.τ).loc Cert.AdamCCtxIdeal.main_v4_0)) (v1 : (c : Dev Cert.AdamCCtxIdeal.nD) → Buf (Elt Ideal) ((c.tc : Thread Cert.AdamCCtxIdeal.nD Cert.AdamCCtxIdeal.τ).loc Cert.AdamCCtxIdeal.main_v4_1)) (v2 : (c : Dev Cert.AdamCCtxIdeal.nD) → Buf (Elt Ideal) ((c.tc : Thread Cert.AdamCCtxIdeal.nD Cert.AdamCCtxIdeal.τ).loc Cert.AdamCCtxIdeal.main_v4_2)),
      θ_run (Cert.AdamCCtxIdeal.defs (F := Ideal)) (onTc (τ := Cert.AdamCCtxIdeal.τ) (Cert.AdamCCtxIdeal.main (F := Ideal))) ⟨m, fun _ => 0, g⟩ (fun r => ∀ c : Dev Cert.AdamCCtxIdeal.nD,
          r.2.mem ((c.tc : Thread Cert.AdamCCtxIdeal.nD Cert.AdamCCtxIdeal.τ).loc Cert.AdamCCtxIdeal.main_v4_0) = v0 c
          ∧ r.2.mem ((c.tc : Thread Cert.AdamCCtxIdeal.nD Cert.AdamCCtxIdeal.τ).loc Cert.AdamCCtxIdeal.main_v4_1) = v1 c
          ∧ r.2.mem ((c.tc : Thread Cert.AdamCCtxIdeal.nD Cert.AdamCCtxIdeal.τ).loc Cert.AdamCCtxIdeal.main_v4_2) = v2 c
          ∧ r.2.mem ((c.tc : Thread Cert.AdamCCtxIdeal.nD Cert.AdamCCtxIdeal.τ).loc Cert.AdamCCtxIdeal.main_arg0) = m ((c.tc : Thread Cert.AdamCCtxIdeal.nD Cert.AdamCCtxIdeal.τ).loc Cert.AdamCCtxIdeal.main_arg0)
          ∧ r.2.mem ((c.tc : Thread Cert.AdamCCtxIdeal.nD Cert.AdamCCtxIdeal.τ).loc Cert.AdamCCtxIdeal.main_arg1) = m ((c.tc : Thread Cert.AdamCCtxIdeal.nD Cert.AdamCCtxIdeal.τ).loc Cert.AdamCCtxIdeal.main_arg1)
          ∧ r.2.mem ((c.tc : Thread Cert.AdamCCtxIdeal.nD Cert.AdamCCtxIdeal.τ).loc Cert.AdamCCtxIdeal.main_arg2) = m ((c.tc : Thread Cert.AdamCCtxIdeal.nD Cert.AdamCCtxIdeal.τ).loc Cert.AdamCCtxIdeal.main_arg2)
          ∧ r.2.mem ((c.tc : Thread Cert.AdamCCtxIdeal.nD Cert.AdamCCtxIdeal.τ).loc Cert.AdamCCtxIdeal.main_arg3) = m ((c.tc : Thread Cert.AdamCCtxIdeal.nD Cert.AdamCCtxIdeal.τ).loc Cert.AdamCCtxIdeal.main_arg3))
      ∧ θ_run (Cert.AdamCCtxRefIdeal.defs (F := Ideal)) (onTc (τ := Cert.AdamCCtxRefIdeal.τ) (Cert.AdamCCtxRefIdeal.main (F := Ideal))) ⟨m', fun _ => 0, g'⟩ (fun r => ∀ c : Dev Cert.AdamCCtxRefIdeal.nD,
          r.2.mem ((c.tc : Thread Cert.AdamCCtxRefIdeal.nD Cert.AdamCCtxRefIdeal.τ).loc Cert.AdamCCtxRefIdeal.main_v24) = v0 c
          ∧ r.2.mem ((c.tc : Thread Cert.AdamCCtxRefIdeal.nD Cert.AdamCCtxRefIdeal.τ).loc Cert.AdamCCtxRefIdeal.main_v25) = v1 c
          ∧ r.2.mem ((c.tc : Thread Cert.AdamCCtxRefIdeal.nD Cert.AdamCCtxRefIdeal.τ).loc Cert.AdamCCtxRefIdeal.main_v26) = v2 c
          ∧ r.2.mem ((c.tc : Thread Cert.AdamCCtxRefIdeal.nD Cert.AdamCCtxRefIdeal.τ).loc Cert.AdamCCtxRefIdeal.main_arg0) = m' ((c.tc : Thread Cert.AdamCCtxRefIdeal.nD Cert.AdamCCtxRefIdeal.τ).loc Cert.AdamCCtxRefIdeal.main_arg0)
          ∧ r.2.mem ((c.tc : Thread Cert.AdamCCtxRefIdeal.nD Cert.AdamCCtxRefIdeal.τ).loc Cert.AdamCCtxRefIdeal.main_arg1) = m' ((c.tc : Thread Cert.AdamCCtxRefIdeal.nD Cert.AdamCCtxRefIdeal.τ).loc Cert.AdamCCtxRefIdeal.main_arg1)
          ∧ r.2.mem ((c.tc : Thread Cert.AdamCCtxRefIdeal.nD Cert.AdamCCtxRefIdeal.τ).loc Cert.AdamCCtxRefIdeal.main_arg2) = m' ((c.tc : Thread Cert.AdamCCtxRefIdeal.nD Cert.AdamCCtxRefIdeal.τ).loc Cert.AdamCCtxRefIdeal.main_arg2)
          ∧ r.2.mem ((c.tc : Thread Cert.AdamCCtxRefIdeal.nD Cert.AdamCCtxRefIdeal.τ).loc Cert.AdamCCtxRefIdeal.main_arg3) = m' ((c.tc : Thread Cert.AdamCCtxRefIdeal.nD Cert.AdamCCtxRefIdeal.τ).loc Cert.AdamCCtxRefIdeal.main_arg3))

def preserves_AdamAdaW_AdamAdaWIdeal : Prop :=
  True

def algebraic_AdamAdaWIdeal_AdamAdaWRefIdeal [hAdamAdaWIdeal : Cert.AdamAdaWIdeal.Facts] [hAdamAdaWRefIdeal : Cert.AdamAdaWRefIdeal.Facts] : Prop :=
  ∀ (m : (ℓ : Loc Cert.AdamAdaWIdeal.nD Cert.AdamAdaWIdeal.τ Cert.AdamAdaWIdeal.sig) → Buf (Elt Ideal) ℓ) (g : Dev Cert.AdamAdaWIdeal.nD → PrngReg)
    (m' : (ℓ : Loc Cert.AdamAdaWRefIdeal.nD Cert.AdamAdaWRefIdeal.τ Cert.AdamAdaWRefIdeal.sig) → Buf (Elt Ideal) ℓ) (g' : Dev Cert.AdamAdaWRefIdeal.nD → PrngReg), Pre_AdamAdaWIdeal m →
    (∀ c : Dev Cert.AdamAdaWIdeal.nD,
      m' ((c.tc : Thread Cert.AdamAdaWRefIdeal.nD Cert.AdamAdaWRefIdeal.τ).loc Cert.AdamAdaWRefIdeal.main_arg0) = m ((c.tc : Thread Cert.AdamAdaWIdeal.nD Cert.AdamAdaWIdeal.τ).loc Cert.AdamAdaWIdeal.main_arg0)
      ∧ m' ((c.tc : Thread Cert.AdamAdaWRefIdeal.nD Cert.AdamAdaWRefIdeal.τ).loc Cert.AdamAdaWRefIdeal.main_arg1) = m ((c.tc : Thread Cert.AdamAdaWIdeal.nD Cert.AdamAdaWIdeal.τ).loc Cert.AdamAdaWIdeal.main_arg1)
      ∧ m' ((c.tc : Thread Cert.AdamAdaWRefIdeal.nD Cert.AdamAdaWRefIdeal.τ).loc Cert.AdamAdaWRefIdeal.main_arg2) = m ((c.tc : Thread Cert.AdamAdaWIdeal.nD Cert.AdamAdaWIdeal.τ).loc Cert.AdamAdaWIdeal.main_arg2)
      ∧ m' ((c.tc : Thread Cert.AdamAdaWRefIdeal.nD Cert.AdamAdaWRefIdeal.τ).loc Cert.AdamAdaWRefIdeal.main_arg3) = m ((c.tc : Thread Cert.AdamAdaWIdeal.nD Cert.AdamAdaWIdeal.τ).loc Cert.AdamAdaWIdeal.main_arg3)) →
    ∃ (v0 : (c : Dev Cert.AdamAdaWIdeal.nD) → Buf (Elt Ideal) ((c.tc : Thread Cert.AdamAdaWIdeal.nD Cert.AdamAdaWIdeal.τ).loc Cert.AdamAdaWIdeal.main_v4_0)) (v1 : (c : Dev Cert.AdamAdaWIdeal.nD) → Buf (Elt Ideal) ((c.tc : Thread Cert.AdamAdaWIdeal.nD Cert.AdamAdaWIdeal.τ).loc Cert.AdamAdaWIdeal.main_v4_1)) (v2 : (c : Dev Cert.AdamAdaWIdeal.nD) → Buf (Elt Ideal) ((c.tc : Thread Cert.AdamAdaWIdeal.nD Cert.AdamAdaWIdeal.τ).loc Cert.AdamAdaWIdeal.main_v4_2)),
      θ_run (Cert.AdamAdaWIdeal.defs (F := Ideal)) (onTc (τ := Cert.AdamAdaWIdeal.τ) (Cert.AdamAdaWIdeal.main (F := Ideal))) ⟨m, fun _ => 0, g⟩ (fun r => ∀ c : Dev Cert.AdamAdaWIdeal.nD,
          r.2.mem ((c.tc : Thread Cert.AdamAdaWIdeal.nD Cert.AdamAdaWIdeal.τ).loc Cert.AdamAdaWIdeal.main_v4_0) = v0 c
          ∧ r.2.mem ((c.tc : Thread Cert.AdamAdaWIdeal.nD Cert.AdamAdaWIdeal.τ).loc Cert.AdamAdaWIdeal.main_v4_1) = v1 c
          ∧ r.2.mem ((c.tc : Thread Cert.AdamAdaWIdeal.nD Cert.AdamAdaWIdeal.τ).loc Cert.AdamAdaWIdeal.main_v4_2) = v2 c
          ∧ r.2.mem ((c.tc : Thread Cert.AdamAdaWIdeal.nD Cert.AdamAdaWIdeal.τ).loc Cert.AdamAdaWIdeal.main_arg0) = m ((c.tc : Thread Cert.AdamAdaWIdeal.nD Cert.AdamAdaWIdeal.τ).loc Cert.AdamAdaWIdeal.main_arg0)
          ∧ r.2.mem ((c.tc : Thread Cert.AdamAdaWIdeal.nD Cert.AdamAdaWIdeal.τ).loc Cert.AdamAdaWIdeal.main_arg1) = m ((c.tc : Thread Cert.AdamAdaWIdeal.nD Cert.AdamAdaWIdeal.τ).loc Cert.AdamAdaWIdeal.main_arg1)
          ∧ r.2.mem ((c.tc : Thread Cert.AdamAdaWIdeal.nD Cert.AdamAdaWIdeal.τ).loc Cert.AdamAdaWIdeal.main_arg2) = m ((c.tc : Thread Cert.AdamAdaWIdeal.nD Cert.AdamAdaWIdeal.τ).loc Cert.AdamAdaWIdeal.main_arg2)
          ∧ r.2.mem ((c.tc : Thread Cert.AdamAdaWIdeal.nD Cert.AdamAdaWIdeal.τ).loc Cert.AdamAdaWIdeal.main_arg3) = m ((c.tc : Thread Cert.AdamAdaWIdeal.nD Cert.AdamAdaWIdeal.τ).loc Cert.AdamAdaWIdeal.main_arg3))
      ∧ θ_run (Cert.AdamAdaWRefIdeal.defs (F := Ideal)) (onTc (τ := Cert.AdamAdaWRefIdeal.τ) (Cert.AdamAdaWRefIdeal.main (F := Ideal))) ⟨m', fun _ => 0, g'⟩ (fun r => ∀ c : Dev Cert.AdamAdaWRefIdeal.nD,
          r.2.mem ((c.tc : Thread Cert.AdamAdaWRefIdeal.nD Cert.AdamAdaWRefIdeal.τ).loc Cert.AdamAdaWRefIdeal.main_v24) = v0 c
          ∧ r.2.mem ((c.tc : Thread Cert.AdamAdaWRefIdeal.nD Cert.AdamAdaWRefIdeal.τ).loc Cert.AdamAdaWRefIdeal.main_v25) = v1 c
          ∧ r.2.mem ((c.tc : Thread Cert.AdamAdaWRefIdeal.nD Cert.AdamAdaWRefIdeal.τ).loc Cert.AdamAdaWRefIdeal.main_v26) = v2 c
          ∧ r.2.mem ((c.tc : Thread Cert.AdamAdaWRefIdeal.nD Cert.AdamAdaWRefIdeal.τ).loc Cert.AdamAdaWRefIdeal.main_arg0) = m' ((c.tc : Thread Cert.AdamAdaWRefIdeal.nD Cert.AdamAdaWRefIdeal.τ).loc Cert.AdamAdaWRefIdeal.main_arg0)
          ∧ r.2.mem ((c.tc : Thread Cert.AdamAdaWRefIdeal.nD Cert.AdamAdaWRefIdeal.τ).loc Cert.AdamAdaWRefIdeal.main_arg1) = m' ((c.tc : Thread Cert.AdamAdaWRefIdeal.nD Cert.AdamAdaWRefIdeal.τ).loc Cert.AdamAdaWRefIdeal.main_arg1)
          ∧ r.2.mem ((c.tc : Thread Cert.AdamAdaWRefIdeal.nD Cert.AdamAdaWRefIdeal.τ).loc Cert.AdamAdaWRefIdeal.main_arg2) = m' ((c.tc : Thread Cert.AdamAdaWRefIdeal.nD Cert.AdamAdaWRefIdeal.τ).loc Cert.AdamAdaWRefIdeal.main_arg2)
          ∧ r.2.mem ((c.tc : Thread Cert.AdamAdaWRefIdeal.nD Cert.AdamAdaWRefIdeal.τ).loc Cert.AdamAdaWRefIdeal.main_arg3) = m' ((c.tc : Thread Cert.AdamAdaWRefIdeal.nD Cert.AdamAdaWRefIdeal.τ).loc Cert.AdamAdaWRefIdeal.main_arg3))

def preserves_AdamAdaB_AdamAdaBIdeal : Prop :=
  True

def algebraic_AdamAdaBIdeal_AdamAdaBRefIdeal [hAdamAdaBIdeal : Cert.AdamAdaBIdeal.Facts] [hAdamAdaBRefIdeal : Cert.AdamAdaBRefIdeal.Facts] : Prop :=
  ∀ (m : (ℓ : Loc Cert.AdamAdaBIdeal.nD Cert.AdamAdaBIdeal.τ Cert.AdamAdaBIdeal.sig) → Buf (Elt Ideal) ℓ) (g : Dev Cert.AdamAdaBIdeal.nD → PrngReg)
    (m' : (ℓ : Loc Cert.AdamAdaBRefIdeal.nD Cert.AdamAdaBRefIdeal.τ Cert.AdamAdaBRefIdeal.sig) → Buf (Elt Ideal) ℓ) (g' : Dev Cert.AdamAdaBRefIdeal.nD → PrngReg), Pre_AdamAdaBIdeal m →
    (∀ c : Dev Cert.AdamAdaBIdeal.nD,
      m' ((c.tc : Thread Cert.AdamAdaBRefIdeal.nD Cert.AdamAdaBRefIdeal.τ).loc Cert.AdamAdaBRefIdeal.main_arg0) = m ((c.tc : Thread Cert.AdamAdaBIdeal.nD Cert.AdamAdaBIdeal.τ).loc Cert.AdamAdaBIdeal.main_arg0)
      ∧ m' ((c.tc : Thread Cert.AdamAdaBRefIdeal.nD Cert.AdamAdaBRefIdeal.τ).loc Cert.AdamAdaBRefIdeal.main_arg1) = m ((c.tc : Thread Cert.AdamAdaBIdeal.nD Cert.AdamAdaBIdeal.τ).loc Cert.AdamAdaBIdeal.main_arg1)
      ∧ m' ((c.tc : Thread Cert.AdamAdaBRefIdeal.nD Cert.AdamAdaBRefIdeal.τ).loc Cert.AdamAdaBRefIdeal.main_arg2) = m ((c.tc : Thread Cert.AdamAdaBIdeal.nD Cert.AdamAdaBIdeal.τ).loc Cert.AdamAdaBIdeal.main_arg2)
      ∧ m' ((c.tc : Thread Cert.AdamAdaBRefIdeal.nD Cert.AdamAdaBRefIdeal.τ).loc Cert.AdamAdaBRefIdeal.main_arg3) = m ((c.tc : Thread Cert.AdamAdaBIdeal.nD Cert.AdamAdaBIdeal.τ).loc Cert.AdamAdaBIdeal.main_arg3)) →
    ∃ (v0 : (c : Dev Cert.AdamAdaBIdeal.nD) → Buf (Elt Ideal) ((c.tc : Thread Cert.AdamAdaBIdeal.nD Cert.AdamAdaBIdeal.τ).loc Cert.AdamAdaBIdeal.main_v0_0)) (v1 : (c : Dev Cert.AdamAdaBIdeal.nD) → Buf (Elt Ideal) ((c.tc : Thread Cert.AdamAdaBIdeal.nD Cert.AdamAdaBIdeal.τ).loc Cert.AdamAdaBIdeal.main_v0_1)) (v2 : (c : Dev Cert.AdamAdaBIdeal.nD) → Buf (Elt Ideal) ((c.tc : Thread Cert.AdamAdaBIdeal.nD Cert.AdamAdaBIdeal.τ).loc Cert.AdamAdaBIdeal.main_v0_2)),
      θ_run (Cert.AdamAdaBIdeal.defs (F := Ideal)) (onTc (τ := Cert.AdamAdaBIdeal.τ) (Cert.AdamAdaBIdeal.main (F := Ideal))) ⟨m, fun _ => 0, g⟩ (fun r => ∀ c : Dev Cert.AdamAdaBIdeal.nD,
          r.2.mem ((c.tc : Thread Cert.AdamAdaBIdeal.nD Cert.AdamAdaBIdeal.τ).loc Cert.AdamAdaBIdeal.main_v0_0) = v0 c
          ∧ r.2.mem ((c.tc : Thread Cert.AdamAdaBIdeal.nD Cert.AdamAdaBIdeal.τ).loc Cert.AdamAdaBIdeal.main_v0_1) = v1 c
          ∧ r.2.mem ((c.tc : Thread Cert.AdamAdaBIdeal.nD Cert.AdamAdaBIdeal.τ).loc Cert.AdamAdaBIdeal.main_v0_2) = v2 c
          ∧ r.2.mem ((c.tc : Thread Cert.AdamAdaBIdeal.nD Cert.AdamAdaBIdeal.τ).loc Cert.AdamAdaBIdeal.main_arg0) = m ((c.tc : Thread Cert.AdamAdaBIdeal.nD Cert.AdamAdaBIdeal.τ).loc Cert.AdamAdaBIdeal.main_arg0)
          ∧ r.2.mem ((c.tc : Thread Cert.AdamAdaBIdeal.nD Cert.AdamAdaBIdeal.τ).loc Cert.AdamAdaBIdeal.main_arg1) = m ((c.tc : Thread Cert.AdamAdaBIdeal.nD Cert.AdamAdaBIdeal.τ).loc Cert.AdamAdaBIdeal.main_arg1)
          ∧ r.2.mem ((c.tc : Thread Cert.AdamAdaBIdeal.nD Cert.AdamAdaBIdeal.τ).loc Cert.AdamAdaBIdeal.main_arg2) = m ((c.tc : Thread Cert.AdamAdaBIdeal.nD Cert.AdamAdaBIdeal.τ).loc Cert.AdamAdaBIdeal.main_arg2)
          ∧ r.2.mem ((c.tc : Thread Cert.AdamAdaBIdeal.nD Cert.AdamAdaBIdeal.τ).loc Cert.AdamAdaBIdeal.main_arg3) = m ((c.tc : Thread Cert.AdamAdaBIdeal.nD Cert.AdamAdaBIdeal.τ).loc Cert.AdamAdaBIdeal.main_arg3))
      ∧ θ_run (Cert.AdamAdaBRefIdeal.defs (F := Ideal)) (onTc (τ := Cert.AdamAdaBRefIdeal.τ) (Cert.AdamAdaBRefIdeal.main (F := Ideal))) ⟨m', fun _ => 0, g'⟩ (fun r => ∀ c : Dev Cert.AdamAdaBRefIdeal.nD,
          r.2.mem ((c.tc : Thread Cert.AdamAdaBRefIdeal.nD Cert.AdamAdaBRefIdeal.τ).loc Cert.AdamAdaBRefIdeal.main_v23) = v0 c
          ∧ r.2.mem ((c.tc : Thread Cert.AdamAdaBRefIdeal.nD Cert.AdamAdaBRefIdeal.τ).loc Cert.AdamAdaBRefIdeal.main_v4) = v1 c
          ∧ r.2.mem ((c.tc : Thread Cert.AdamAdaBRefIdeal.nD Cert.AdamAdaBRefIdeal.τ).loc Cert.AdamAdaBRefIdeal.main_v10) = v2 c
          ∧ r.2.mem ((c.tc : Thread Cert.AdamAdaBRefIdeal.nD Cert.AdamAdaBRefIdeal.τ).loc Cert.AdamAdaBRefIdeal.main_arg0) = m' ((c.tc : Thread Cert.AdamAdaBRefIdeal.nD Cert.AdamAdaBRefIdeal.τ).loc Cert.AdamAdaBRefIdeal.main_arg0)
          ∧ r.2.mem ((c.tc : Thread Cert.AdamAdaBRefIdeal.nD Cert.AdamAdaBRefIdeal.τ).loc Cert.AdamAdaBRefIdeal.main_arg1) = m' ((c.tc : Thread Cert.AdamAdaBRefIdeal.nD Cert.AdamAdaBRefIdeal.τ).loc Cert.AdamAdaBRefIdeal.main_arg1)
          ∧ r.2.mem ((c.tc : Thread Cert.AdamAdaBRefIdeal.nD Cert.AdamAdaBRefIdeal.τ).loc Cert.AdamAdaBRefIdeal.main_arg2) = m' ((c.tc : Thread Cert.AdamAdaBRefIdeal.nD Cert.AdamAdaBRefIdeal.τ).loc Cert.AdamAdaBRefIdeal.main_arg2)
          ∧ r.2.mem ((c.tc : Thread Cert.AdamAdaBRefIdeal.nD Cert.AdamAdaBRefIdeal.τ).loc Cert.AdamAdaBRefIdeal.main_arg3) = m' ((c.tc : Thread Cert.AdamAdaBRefIdeal.nD Cert.AdamAdaBRefIdeal.τ).loc Cert.AdamAdaBRefIdeal.main_arg3))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v23) = v0 c
          ∧ r.2.mem ((c.tc : Thread Cert.AdamNormRefIdeal.nD Cert.AdamNormRefIdeal.τ).loc Cert.AdamNormRefIdeal.main_v4) = v1 c
          ∧ r.2.mem ((c.tc : Thread Cert.AdamNormRefIdeal.nD Cert.AdamNormRefIdeal.τ).loc Cert.AdamNormRefIdeal.main_v10) = v2 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamFfnUp_AdamFfnUpIdeal : Prop :=
  True

def algebraic_AdamFfnUpIdeal_AdamFfnUpRefIdeal [hAdamFfnUpIdeal : Cert.AdamFfnUpIdeal.Facts] [hAdamFfnUpRefIdeal : Cert.AdamFfnUpRefIdeal.Facts] : Prop :=
  ∀ (m : (ℓ : Loc Cert.AdamFfnUpIdeal.nD Cert.AdamFfnUpIdeal.τ Cert.AdamFfnUpIdeal.sig) → Buf (Elt Ideal) ℓ) (g : Dev Cert.AdamFfnUpIdeal.nD → PrngReg)
    (m' : (ℓ : Loc Cert.AdamFfnUpRefIdeal.nD Cert.AdamFfnUpRefIdeal.τ Cert.AdamFfnUpRefIdeal.sig) → Buf (Elt Ideal) ℓ) (g' : Dev Cert.AdamFfnUpRefIdeal.nD → PrngReg), Pre_AdamFfnUpIdeal m →
    (∀ c : Dev Cert.AdamFfnUpIdeal.nD,
      m' ((c.tc : Thread Cert.AdamFfnUpRefIdeal.nD Cert.AdamFfnUpRefIdeal.τ).loc Cert.AdamFfnUpRefIdeal.main_arg0) = m ((c.tc : Thread Cert.AdamFfnUpIdeal.nD Cert.AdamFfnUpIdeal.τ).loc Cert.AdamFfnUpIdeal.main_arg0)
      ∧ m' ((c.tc : Thread Cert.AdamFfnUpRefIdeal.nD Cert.AdamFfnUpRefIdeal.τ).loc Cert.AdamFfnUpRefIdeal.main_arg1) = m ((c.tc : Thread Cert.AdamFfnUpIdeal.nD Cert.AdamFfnUpIdeal.τ).loc Cert.AdamFfnUpIdeal.main_arg1)
      ∧ m' ((c.tc : Thread Cert.AdamFfnUpRefIdeal.nD Cert.AdamFfnUpRefIdeal.τ).loc Cert.AdamFfnUpRefIdeal.main_arg2) = m ((c.tc : Thread Cert.AdamFfnUpIdeal.nD Cert.AdamFfnUpIdeal.τ).loc Cert.AdamFfnUpIdeal.main_arg2)
      ∧ m' ((c.tc : Thread Cert.AdamFfnUpRefIdeal.nD Cert.AdamFfnUpRefIdeal.τ).loc Cert.AdamFfnUpRefIdeal.main_arg3) = m ((c.tc : Thread Cert.AdamFfnUpIdeal.nD Cert.AdamFfnUpIdeal.τ).loc Cert.AdamFfnUpIdeal.main_arg3)) →
    ∃ (v0 : (c : Dev Cert.AdamFfnUpIdeal.nD) → Buf (Elt Ideal) ((c.tc : Thread Cert.AdamFfnUpIdeal.nD Cert.AdamFfnUpIdeal.τ).loc Cert.AdamFfnUpIdeal.main_v4_0)) (v1 : (c : Dev Cert.AdamFfnUpIdeal.nD) → Buf (Elt Ideal) ((c.tc : Thread Cert.AdamFfnUpIdeal.nD Cert.AdamFfnUpIdeal.τ).loc Cert.AdamFfnUpIdeal.main_v4_1)) (v2 : (c : Dev Cert.AdamFfnUpIdeal.nD) → Buf (Elt Ideal) ((c.tc : Thread Cert.AdamFfnUpIdeal.nD Cert.AdamFfnUpIdeal.τ).loc Cert.AdamFfnUpIdeal.main_v4_2)),
      θ_run (Cert.AdamFfnUpIdeal.defs (F := Ideal)) (onTc (τ := Cert.AdamFfnUpIdeal.τ) (Cert.AdamFfnUpIdeal.main (F := Ideal))) ⟨m, fun _ => 0, g⟩ (fun r => ∀ c : Dev Cert.AdamFfnUpIdeal.nD,
          r.2.mem ((c.tc : Thread Cert.AdamFfnUpIdeal.nD Cert.AdamFfnUpIdeal.τ).loc Cert.AdamFfnUpIdeal.main_v4_0) = v0 c
          ∧ r.2.mem ((c.tc : Thread Cert.AdamFfnUpIdeal.nD Cert.AdamFfnUpIdeal.τ).loc Cert.AdamFfnUpIdeal.main_v4_1) = v1 c
          ∧ r.2.mem ((c.tc : Thread Cert.AdamFfnUpIdeal.nD Cert.AdamFfnUpIdeal.τ).loc Cert.AdamFfnUpIdeal.main_v4_2) = v2 c
          ∧ r.2.mem ((c.tc : Thread Cert.AdamFfnUpIdeal.nD Cert.AdamFfnUpIdeal.τ).loc Cert.AdamFfnUpIdeal.main_arg0) = m ((c.tc : Thread Cert.AdamFfnUpIdeal.nD Cert.AdamFfnUpIdeal.τ).loc Cert.AdamFfnUpIdeal.main_arg0)
          ∧ r.2.mem ((c.tc : Thread Cert.AdamFfnUpIdeal.nD Cert.AdamFfnUpIdeal.τ).loc Cert.AdamFfnUpIdeal.main_arg1) = m ((c.tc : Thread Cert.AdamFfnUpIdeal.nD Cert.AdamFfnUpIdeal.τ).loc Cert.AdamFfnUpIdeal.main_arg1)
          ∧ r.2.mem ((c.tc : Thread Cert.AdamFfnUpIdeal.nD Cert.AdamFfnUpIdeal.τ).loc Cert.AdamFfnUpIdeal.main_arg2) = m ((c.tc : Thread Cert.AdamFfnUpIdeal.nD Cert.AdamFfnUpIdeal.τ).loc Cert.AdamFfnUpIdeal.main_arg2)
          ∧ r.2.mem ((c.tc : Thread Cert.AdamFfnUpIdeal.nD Cert.AdamFfnUpIdeal.τ).loc Cert.AdamFfnUpIdeal.main_arg3) = m ((c.tc : Thread Cert.AdamFfnUpIdeal.nD Cert.AdamFfnUpIdeal.τ).loc Cert.AdamFfnUpIdeal.main_arg3))
      ∧ θ_run (Cert.AdamFfnUpRefIdeal.defs (F := Ideal)) (onTc (τ := Cert.AdamFfnUpRefIdeal.τ) (Cert.AdamFfnUpRefIdeal.main (F := Ideal))) ⟨m', fun _ => 0, g'⟩ (fun r => ∀ c : Dev Cert.AdamFfnUpRefIdeal.nD,
          r.2.mem ((c.tc : Thread Cert.AdamFfnUpRefIdeal.nD Cert.AdamFfnUpRefIdeal.τ).loc Cert.AdamFfnUpRefIdeal.main_v24) = v0 c
          ∧ r.2.mem ((c.tc : Thread Cert.AdamFfnUpRefIdeal.nD Cert.AdamFfnUpRefIdeal.τ).loc Cert.AdamFfnUpRefIdeal.main_v25) = v1 c
          ∧ r.2.mem ((c.tc : Thread Cert.AdamFfnUpRefIdeal.nD Cert.AdamFfnUpRefIdeal.τ).loc Cert.AdamFfnUpRefIdeal.main_v26) = v2 c
          ∧ r.2.mem ((c.tc : Thread Cert.AdamFfnUpRefIdeal.nD Cert.AdamFfnUpRefIdeal.τ).loc Cert.AdamFfnUpRefIdeal.main_arg0) = m' ((c.tc : Thread Cert.AdamFfnUpRefIdeal.nD Cert.AdamFfnUpRefIdeal.τ).loc Cert.AdamFfnUpRefIdeal.main_arg0)
          ∧ r.2.mem ((c.tc : Thread Cert.AdamFfnUpRefIdeal.nD Cert.AdamFfnUpRefIdeal.τ).loc Cert.AdamFfnUpRefIdeal.main_arg1) = m' ((c.tc : Thread Cert.AdamFfnUpRefIdeal.nD Cert.AdamFfnUpRefIdeal.τ).loc Cert.AdamFfnUpRefIdeal.main_arg1)
          ∧ r.2.mem ((c.tc : Thread Cert.AdamFfnUpRefIdeal.nD Cert.AdamFfnUpRefIdeal.τ).loc Cert.AdamFfnUpRefIdeal.main_arg2) = m' ((c.tc : Thread Cert.AdamFfnUpRefIdeal.nD Cert.AdamFfnUpRefIdeal.τ).loc Cert.AdamFfnUpRefIdeal.main_arg2)
          ∧ r.2.mem ((c.tc : Thread Cert.AdamFfnUpRefIdeal.nD Cert.AdamFfnUpRefIdeal.τ).loc Cert.AdamFfnUpRefIdeal.main_arg3) = m' ((c.tc : Thread Cert.AdamFfnUpRefIdeal.nD Cert.AdamFfnUpRefIdeal.τ).loc Cert.AdamFfnUpRefIdeal.main_arg3))

def preserves_AdamConvW_AdamConvWIdeal : Prop :=
  True

def algebraic_AdamConvWIdeal_AdamConvWRefIdeal [hAdamConvWIdeal : Cert.AdamConvWIdeal.Facts] [hAdamConvWRefIdeal : Cert.AdamConvWRefIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg)
    (m' : (ℓ : Loc Cert.AdamConvWRefIdeal.nD Cert.AdamConvWRefIdeal.τ Cert.AdamConvWRefIdeal.sig) → Buf (Elt Ideal) ℓ) (g' : Dev Cert.AdamConvWRefIdeal.nD → PrngReg), Pre_AdamConvWIdeal m →
    (∀ c : Dev Cert.AdamConvWIdeal.nD,
      m' ((c.tc : Thread Cert.AdamConvWRefIdeal.nD Cert.AdamConvWRefIdeal.τ).loc Cert.AdamConvWRefIdeal.main_arg0) = m ((c.tc : Thread Cert.AdamConvWIdeal.nD Cert.AdamConvWIdeal.τ).loc Cert.AdamConvWIdeal.main_arg0)
      ∧ m' ((c.tc : Thread Cert.AdamConvWRefIdeal.nD Cert.AdamConvWRefIdeal.τ).loc Cert.AdamConvWRefIdeal.main_arg1) = m ((c.tc : Thread Cert.AdamConvWIdeal.nD Cert.AdamConvWIdeal.τ).loc Cert.AdamConvWIdeal.main_arg1)
      ∧ m' ((c.tc : Thread Cert.AdamConvWRefIdeal.nD Cert.AdamConvWRefIdeal.τ).loc Cert.AdamConvWRefIdeal.main_arg2) = m ((c.tc : Thread Cert.AdamConvWIdeal.nD Cert.AdamConvWIdeal.τ).loc Cert.AdamConvWIdeal.main_arg2)
      ∧ m' ((c.tc : Thread Cert.AdamConvWRefIdeal.nD Cert.AdamConvWRefIdeal.τ).loc Cert.AdamConvWRefIdeal.main_arg3) = m ((c.tc : Thread Cert.AdamConvWIdeal.nD Cert.AdamConvWIdeal.τ).loc Cert.AdamConvWIdeal.main_arg3)) →
    ∃ (v0 : (c : Dev Cert.AdamConvWIdeal.nD) → Buf (Elt Ideal) ((c.tc : Thread Cert.AdamConvWIdeal.nD Cert.AdamConvWIdeal.τ).loc Cert.AdamConvWIdeal.main_v4_0)) (v1 : (c : Dev Cert.AdamConvWIdeal.nD) → Buf (Elt Ideal) ((c.tc : Thread Cert.AdamConvWIdeal.nD Cert.AdamConvWIdeal.τ).loc Cert.AdamConvWIdeal.main_v4_1)) (v2 : (c : Dev Cert.AdamConvWIdeal.nD) → Buf (Elt Ideal) ((c.tc : Thread Cert.AdamConvWIdeal.nD Cert.AdamConvWIdeal.τ).loc Cert.AdamConvWIdeal.main_v4_2)),
      θ_run (Cert.AdamConvWIdeal.defs (F := Ideal)) (onTc (τ := Cert.AdamConvWIdeal.τ) (Cert.AdamConvWIdeal.main (F := Ideal))) ⟨m, fun _ => 0, g⟩ (fun r => ∀ c : Dev Cert.AdamConvWIdeal.nD,
          r.2.mem ((c.tc : Thread Cert.AdamConvWIdeal.nD Cert.AdamConvWIdeal.τ).loc Cert.AdamConvWIdeal.main_v4_0) = v0 c
          ∧ r.2.mem ((c.tc : Thread Cert.AdamConvWIdeal.nD Cert.AdamConvWIdeal.τ).loc Cert.AdamConvWIdeal.main_v4_1) = v1 c
          ∧ r.2.mem ((c.tc : Thread Cert.AdamConvWIdeal.nD Cert.AdamConvWIdeal.τ).loc Cert.AdamConvWIdeal.main_v4_2) = v2 c
          ∧ r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
          ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
          ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
          ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3))
      ∧ θ_run (Cert.AdamConvWRefIdeal.defs (F := Ideal)) (onTc (τ := Cert.AdamConvWRefIdeal.τ) (Cert.AdamConvWRefIdeal.main (F := Ideal))) ⟨m', fun _ => 0, g'⟩ (fun r => ∀ c : Dev Cert.AdamConvWRefIdeal.nD,
          r.2.mem ((c.tc : Thread Cert.AdamConvWRefIdeal.nD Cert.AdamConvWRefIdeal.τ).loc Cert.AdamConvWRefIdeal.main_v24) = v0 c
          ∧ r.2.mem ((c.tc : Thread Cert.AdamConvWRefIdeal.nD Cert.AdamConvWRefIdeal.τ).loc Cert.AdamConvWRefIdeal.main_v25) = v1 c
          ∧ r.2.mem ((c.tc : Thread Cert.AdamConvWRefIdeal.nD Cert.AdamConvWRefIdeal.τ).loc Cert.AdamConvWRefIdeal.main_v26) = v2 c
          ∧ r.2.mem ((c.tc : Thread Cert.AdamConvWRefIdeal.nD Cert.AdamConvWRefIdeal.τ).loc Cert.AdamConvWRefIdeal.main_arg0) = m' ((c.tc : Thread Cert.AdamConvWRefIdeal.nD Cert.AdamConvWRefIdeal.τ).loc Cert.AdamConvWRefIdeal.main_arg0)
          ∧ r.2.mem ((c.tc : Thread Cert.AdamConvWRefIdeal.nD Cert.AdamConvWRefIdeal.τ).loc Cert.AdamConvWRefIdeal.main_arg1) = m' ((c.tc : Thread Cert.AdamConvWRefIdeal.nD Cert.AdamConvWRefIdeal.τ).loc Cert.AdamConvWRefIdeal.main_arg1)
          ∧ r.2.mem ((c.tc : Thread Cert.AdamConvWRefIdeal.nD Cert.AdamConvWRefIdeal.τ).loc Cert.AdamConvWRefIdeal.main_arg2) = m' ((c.tc : Thread Cert.AdamConvWRefIdeal.nD Cert.AdamConvWRefIdeal.τ).loc Cert.AdamConvWRefIdeal.main_arg2)
          ∧ r.2.mem ((c.tc : Thread Cert.AdamConvWRefIdeal.nD Cert.AdamConvWRefIdeal.τ).loc Cert.AdamConvWRefIdeal.main_arg3) = m' ((c.tc : Thread Cert.AdamConvWRefIdeal.nD Cert.AdamConvWRefIdeal.τ).loc Cert.AdamConvWRefIdeal.main_arg3))

def preserves_AdamConvB_AdamConvBIdeal : Prop :=
  True

def algebraic_AdamConvBIdeal_AdamConvBRefIdeal [hAdamConvBIdeal : Cert.AdamConvBIdeal.Facts] [hAdamConvBRefIdeal : Cert.AdamConvBRefIdeal.Facts] : Prop :=
  ∀ (m : (ℓ : Loc Cert.AdamConvBIdeal.nD Cert.AdamConvBIdeal.τ Cert.AdamConvBIdeal.sig) → Buf (Elt Ideal) ℓ) (g : Dev Cert.AdamConvBIdeal.nD → PrngReg)
    (m' : (ℓ : Loc Cert.AdamConvBRefIdeal.nD Cert.AdamConvBRefIdeal.τ Cert.AdamConvBRefIdeal.sig) → Buf (Elt Ideal) ℓ) (g' : Dev Cert.AdamConvBRefIdeal.nD → PrngReg), Pre_AdamConvBIdeal m →
    (∀ c : Dev Cert.AdamConvBIdeal.nD,
      m' ((c.tc : Thread Cert.AdamConvBRefIdeal.nD Cert.AdamConvBRefIdeal.τ).loc Cert.AdamConvBRefIdeal.main_arg0) = m ((c.tc : Thread Cert.AdamConvBIdeal.nD Cert.AdamConvBIdeal.τ).loc Cert.AdamConvBIdeal.main_arg0)
      ∧ m' ((c.tc : Thread Cert.AdamConvBRefIdeal.nD Cert.AdamConvBRefIdeal.τ).loc Cert.AdamConvBRefIdeal.main_arg1) = m ((c.tc : Thread Cert.AdamConvBIdeal.nD Cert.AdamConvBIdeal.τ).loc Cert.AdamConvBIdeal.main_arg1)
      ∧ m' ((c.tc : Thread Cert.AdamConvBRefIdeal.nD Cert.AdamConvBRefIdeal.τ).loc Cert.AdamConvBRefIdeal.main_arg2) = m ((c.tc : Thread Cert.AdamConvBIdeal.nD Cert.AdamConvBIdeal.τ).loc Cert.AdamConvBIdeal.main_arg2)
      ∧ m' ((c.tc : Thread Cert.AdamConvBRefIdeal.nD Cert.AdamConvBRefIdeal.τ).loc Cert.AdamConvBRefIdeal.main_arg3) = m ((c.tc : Thread Cert.AdamConvBIdeal.nD Cert.AdamConvBIdeal.τ).loc Cert.AdamConvBIdeal.main_arg3)) →
    ∃ (v0 : (c : Dev Cert.AdamConvBIdeal.nD) → Buf (Elt Ideal) ((c.tc : Thread Cert.AdamConvBIdeal.nD Cert.AdamConvBIdeal.τ).loc Cert.AdamConvBIdeal.main_v0_0)) (v1 : (c : Dev Cert.AdamConvBIdeal.nD) → Buf (Elt Ideal) ((c.tc : Thread Cert.AdamConvBIdeal.nD Cert.AdamConvBIdeal.τ).loc Cert.AdamConvBIdeal.main_v0_1)) (v2 : (c : Dev Cert.AdamConvBIdeal.nD) → Buf (Elt Ideal) ((c.tc : Thread Cert.AdamConvBIdeal.nD Cert.AdamConvBIdeal.τ).loc Cert.AdamConvBIdeal.main_v0_2)),
      θ_run (Cert.AdamConvBIdeal.defs (F := Ideal)) (onTc (τ := Cert.AdamConvBIdeal.τ) (Cert.AdamConvBIdeal.main (F := Ideal))) ⟨m, fun _ => 0, g⟩ (fun r => ∀ c : Dev Cert.AdamConvBIdeal.nD,
          r.2.mem ((c.tc : Thread Cert.AdamConvBIdeal.nD Cert.AdamConvBIdeal.τ).loc Cert.AdamConvBIdeal.main_v0_0) = v0 c
          ∧ r.2.mem ((c.tc : Thread Cert.AdamConvBIdeal.nD Cert.AdamConvBIdeal.τ).loc Cert.AdamConvBIdeal.main_v0_1) = v1 c
          ∧ r.2.mem ((c.tc : Thread Cert.AdamConvBIdeal.nD Cert.AdamConvBIdeal.τ).loc Cert.AdamConvBIdeal.main_v0_2) = v2 c
          ∧ r.2.mem ((c.tc : Thread Cert.AdamConvBIdeal.nD Cert.AdamConvBIdeal.τ).loc Cert.AdamConvBIdeal.main_arg0) = m ((c.tc : Thread Cert.AdamConvBIdeal.nD Cert.AdamConvBIdeal.τ).loc Cert.AdamConvBIdeal.main_arg0)
          ∧ r.2.mem ((c.tc : Thread Cert.AdamConvBIdeal.nD Cert.AdamConvBIdeal.τ).loc Cert.AdamConvBIdeal.main_arg1) = m ((c.tc : Thread Cert.AdamConvBIdeal.nD Cert.AdamConvBIdeal.τ).loc Cert.AdamConvBIdeal.main_arg1)
          ∧ r.2.mem ((c.tc : Thread Cert.AdamConvBIdeal.nD Cert.AdamConvBIdeal.τ).loc Cert.AdamConvBIdeal.main_arg2) = m ((c.tc : Thread Cert.AdamConvBIdeal.nD Cert.AdamConvBIdeal.τ).loc Cert.AdamConvBIdeal.main_arg2)
          ∧ r.2.mem ((c.tc : Thread Cert.AdamConvBIdeal.nD Cert.AdamConvBIdeal.τ).loc Cert.AdamConvBIdeal.main_arg3) = m ((c.tc : Thread Cert.AdamConvBIdeal.nD Cert.AdamConvBIdeal.τ).loc Cert.AdamConvBIdeal.main_arg3))
      ∧ θ_run (Cert.AdamConvBRefIdeal.defs (F := Ideal)) (onTc (τ := Cert.AdamConvBRefIdeal.τ) (Cert.AdamConvBRefIdeal.main (F := Ideal))) ⟨m', fun _ => 0, g'⟩ (fun r => ∀ c : Dev Cert.AdamConvBRefIdeal.nD,
          r.2.mem ((c.tc : Thread Cert.AdamConvBRefIdeal.nD Cert.AdamConvBRefIdeal.τ).loc Cert.AdamConvBRefIdeal.main_v23) = v0 c
          ∧ r.2.mem ((c.tc : Thread Cert.AdamConvBRefIdeal.nD Cert.AdamConvBRefIdeal.τ).loc Cert.AdamConvBRefIdeal.main_v4) = v1 c
          ∧ r.2.mem ((c.tc : Thread Cert.AdamConvBRefIdeal.nD Cert.AdamConvBRefIdeal.τ).loc Cert.AdamConvBRefIdeal.main_v10) = v2 c
          ∧ r.2.mem ((c.tc : Thread Cert.AdamConvBRefIdeal.nD Cert.AdamConvBRefIdeal.τ).loc Cert.AdamConvBRefIdeal.main_arg0) = m' ((c.tc : Thread Cert.AdamConvBRefIdeal.nD Cert.AdamConvBRefIdeal.τ).loc Cert.AdamConvBRefIdeal.main_arg0)
          ∧ r.2.mem ((c.tc : Thread Cert.AdamConvBRefIdeal.nD Cert.AdamConvBRefIdeal.τ).loc Cert.AdamConvBRefIdeal.main_arg1) = m' ((c.tc : Thread Cert.AdamConvBRefIdeal.nD Cert.AdamConvBRefIdeal.τ).loc Cert.AdamConvBRefIdeal.main_arg1)
          ∧ r.2.mem ((c.tc : Thread Cert.AdamConvBRefIdeal.nD Cert.AdamConvBRefIdeal.τ).loc Cert.AdamConvBRefIdeal.main_arg2) = m' ((c.tc : Thread Cert.AdamConvBRefIdeal.nD Cert.AdamConvBRefIdeal.τ).loc Cert.AdamConvBRefIdeal.main_arg2)
          ∧ r.2.mem ((c.tc : Thread Cert.AdamConvBRefIdeal.nD Cert.AdamConvBRefIdeal.τ).loc Cert.AdamConvBRefIdeal.main_arg3) = m' ((c.tc : Thread Cert.AdamConvBRefIdeal.nD Cert.AdamConvBRefIdeal.τ).loc Cert.AdamConvBRefIdeal.main_arg3))

def preserves_AdamFfnDown_AdamFfnDownIdeal : Prop :=
  True

def algebraic_AdamFfnDownIdeal_AdamFfnDownRefIdeal [hAdamFfnDownIdeal : Cert.AdamFfnDownIdeal.Facts] [hAdamFfnDownRefIdeal : Cert.AdamFfnDownRefIdeal.Facts] : Prop :=
  ∀ (m : (ℓ : Loc Cert.AdamFfnDownIdeal.nD Cert.AdamFfnDownIdeal.τ Cert.AdamFfnDownIdeal.sig) → Buf (Elt Ideal) ℓ) (g : Dev Cert.AdamFfnDownIdeal.nD → PrngReg)
    (m' : (ℓ : Loc Cert.AdamFfnDownRefIdeal.nD Cert.AdamFfnDownRefIdeal.τ Cert.AdamFfnDownRefIdeal.sig) → Buf (Elt Ideal) ℓ) (g' : Dev Cert.AdamFfnDownRefIdeal.nD → PrngReg), Pre_AdamFfnDownIdeal m →
    (∀ c : Dev Cert.AdamFfnDownIdeal.nD,
      m' ((c.tc : Thread Cert.AdamFfnDownRefIdeal.nD Cert.AdamFfnDownRefIdeal.τ).loc Cert.AdamFfnDownRefIdeal.main_arg0) = m ((c.tc : Thread Cert.AdamFfnDownIdeal.nD Cert.AdamFfnDownIdeal.τ).loc Cert.AdamFfnDownIdeal.main_arg0)
      ∧ m' ((c.tc : Thread Cert.AdamFfnDownRefIdeal.nD Cert.AdamFfnDownRefIdeal.τ).loc Cert.AdamFfnDownRefIdeal.main_arg1) = m ((c.tc : Thread Cert.AdamFfnDownIdeal.nD Cert.AdamFfnDownIdeal.τ).loc Cert.AdamFfnDownIdeal.main_arg1)
      ∧ m' ((c.tc : Thread Cert.AdamFfnDownRefIdeal.nD Cert.AdamFfnDownRefIdeal.τ).loc Cert.AdamFfnDownRefIdeal.main_arg2) = m ((c.tc : Thread Cert.AdamFfnDownIdeal.nD Cert.AdamFfnDownIdeal.τ).loc Cert.AdamFfnDownIdeal.main_arg2)
      ∧ m' ((c.tc : Thread Cert.AdamFfnDownRefIdeal.nD Cert.AdamFfnDownRefIdeal.τ).loc Cert.AdamFfnDownRefIdeal.main_arg3) = m ((c.tc : Thread Cert.AdamFfnDownIdeal.nD Cert.AdamFfnDownIdeal.τ).loc Cert.AdamFfnDownIdeal.main_arg3)) →
    ∃ (v0 : (c : Dev Cert.AdamFfnDownIdeal.nD) → Buf (Elt Ideal) ((c.tc : Thread Cert.AdamFfnDownIdeal.nD Cert.AdamFfnDownIdeal.τ).loc Cert.AdamFfnDownIdeal.main_v4_0)) (v1 : (c : Dev Cert.AdamFfnDownIdeal.nD) → Buf (Elt Ideal) ((c.tc : Thread Cert.AdamFfnDownIdeal.nD Cert.AdamFfnDownIdeal.τ).loc Cert.AdamFfnDownIdeal.main_v4_1)) (v2 : (c : Dev Cert.AdamFfnDownIdeal.nD) → Buf (Elt Ideal) ((c.tc : Thread Cert.AdamFfnDownIdeal.nD Cert.AdamFfnDownIdeal.τ).loc Cert.AdamFfnDownIdeal.main_v4_2)),
      θ_run (Cert.AdamFfnDownIdeal.defs (F := Ideal)) (onTc (τ := Cert.AdamFfnDownIdeal.τ) (Cert.AdamFfnDownIdeal.main (F := Ideal))) ⟨m, fun _ => 0, g⟩ (fun r => ∀ c : Dev Cert.AdamFfnDownIdeal.nD,
          r.2.mem ((c.tc : Thread Cert.AdamFfnDownIdeal.nD Cert.AdamFfnDownIdeal.τ).loc Cert.AdamFfnDownIdeal.main_v4_0) = v0 c
          ∧ r.2.mem ((c.tc : Thread Cert.AdamFfnDownIdeal.nD Cert.AdamFfnDownIdeal.τ).loc Cert.AdamFfnDownIdeal.main_v4_1) = v1 c
          ∧ r.2.mem ((c.tc : Thread Cert.AdamFfnDownIdeal.nD Cert.AdamFfnDownIdeal.τ).loc Cert.AdamFfnDownIdeal.main_v4_2) = v2 c
          ∧ r.2.mem ((c.tc : Thread Cert.AdamFfnDownIdeal.nD Cert.AdamFfnDownIdeal.τ).loc Cert.AdamFfnDownIdeal.main_arg0) = m ((c.tc : Thread Cert.AdamFfnDownIdeal.nD Cert.AdamFfnDownIdeal.τ).loc Cert.AdamFfnDownIdeal.main_arg0)
          ∧ r.2.mem ((c.tc : Thread Cert.AdamFfnDownIdeal.nD Cert.AdamFfnDownIdeal.τ).loc Cert.AdamFfnDownIdeal.main_arg1) = m ((c.tc : Thread Cert.AdamFfnDownIdeal.nD Cert.AdamFfnDownIdeal.τ).loc Cert.AdamFfnDownIdeal.main_arg1)
          ∧ r.2.mem ((c.tc : Thread Cert.AdamFfnDownIdeal.nD Cert.AdamFfnDownIdeal.τ).loc Cert.AdamFfnDownIdeal.main_arg2) = m ((c.tc : Thread Cert.AdamFfnDownIdeal.nD Cert.AdamFfnDownIdeal.τ).loc Cert.AdamFfnDownIdeal.main_arg2)
          ∧ r.2.mem ((c.tc : Thread Cert.AdamFfnDownIdeal.nD Cert.AdamFfnDownIdeal.τ).loc Cert.AdamFfnDownIdeal.main_arg3) = m ((c.tc : Thread Cert.AdamFfnDownIdeal.nD Cert.AdamFfnDownIdeal.τ).loc Cert.AdamFfnDownIdeal.main_arg3))
      ∧ θ_run (Cert.AdamFfnDownRefIdeal.defs (F := Ideal)) (onTc (τ := Cert.AdamFfnDownRefIdeal.τ) (Cert.AdamFfnDownRefIdeal.main (F := Ideal))) ⟨m', fun _ => 0, g'⟩ (fun r => ∀ c : Dev Cert.AdamFfnDownRefIdeal.nD,
          r.2.mem ((c.tc : Thread Cert.AdamFfnDownRefIdeal.nD Cert.AdamFfnDownRefIdeal.τ).loc Cert.AdamFfnDownRefIdeal.main_v24) = v0 c
          ∧ r.2.mem ((c.tc : Thread Cert.AdamFfnDownRefIdeal.nD Cert.AdamFfnDownRefIdeal.τ).loc Cert.AdamFfnDownRefIdeal.main_v25) = v1 c
          ∧ r.2.mem ((c.tc : Thread Cert.AdamFfnDownRefIdeal.nD Cert.AdamFfnDownRefIdeal.τ).loc Cert.AdamFfnDownRefIdeal.main_v26) = v2 c
          ∧ r.2.mem ((c.tc : Thread Cert.AdamFfnDownRefIdeal.nD Cert.AdamFfnDownRefIdeal.τ).loc Cert.AdamFfnDownRefIdeal.main_arg0) = m' ((c.tc : Thread Cert.AdamFfnDownRefIdeal.nD Cert.AdamFfnDownRefIdeal.τ).loc Cert.AdamFfnDownRefIdeal.main_arg0)
          ∧ r.2.mem ((c.tc : Thread Cert.AdamFfnDownRefIdeal.nD Cert.AdamFfnDownRefIdeal.τ).loc Cert.AdamFfnDownRefIdeal.main_arg1) = m' ((c.tc : Thread Cert.AdamFfnDownRefIdeal.nD Cert.AdamFfnDownRefIdeal.τ).loc Cert.AdamFfnDownRefIdeal.main_arg1)
          ∧ r.2.mem ((c.tc : Thread Cert.AdamFfnDownRefIdeal.nD Cert.AdamFfnDownRefIdeal.τ).loc Cert.AdamFfnDownRefIdeal.main_arg2) = m' ((c.tc : Thread Cert.AdamFfnDownRefIdeal.nD Cert.AdamFfnDownRefIdeal.τ).loc Cert.AdamFfnDownRefIdeal.main_arg2)
          ∧ r.2.mem ((c.tc : Thread Cert.AdamFfnDownRefIdeal.nD Cert.AdamFfnDownRefIdeal.τ).loc Cert.AdamFfnDownRefIdeal.main_arg3) = m' ((c.tc : Thread Cert.AdamFfnDownRefIdeal.nD Cert.AdamFfnDownRefIdeal.τ).loc Cert.AdamFfnDownRefIdeal.main_arg3))

def preserves_AdamPoolW_AdamPoolWIdeal : Prop :=
  True

def algebraic_AdamPoolWIdeal_AdamPoolWRefIdeal [hAdamPoolWIdeal : Cert.AdamPoolWIdeal.Facts] [hAdamPoolWRefIdeal : Cert.AdamPoolWRefIdeal.Facts] : Prop :=
  ∀ (m : (ℓ : Loc Cert.AdamPoolWIdeal.nD Cert.AdamPoolWIdeal.τ Cert.AdamPoolWIdeal.sig) → Buf (Elt Ideal) ℓ) (g : Dev Cert.AdamPoolWIdeal.nD → PrngReg)
    (m' : (ℓ : Loc Cert.AdamPoolWRefIdeal.nD Cert.AdamPoolWRefIdeal.τ Cert.AdamPoolWRefIdeal.sig) → Buf (Elt Ideal) ℓ) (g' : Dev Cert.AdamPoolWRefIdeal.nD → PrngReg), Pre_AdamPoolWIdeal m →
    (∀ c : Dev Cert.AdamPoolWIdeal.nD,
      m' ((c.tc : Thread Cert.AdamPoolWRefIdeal.nD Cert.AdamPoolWRefIdeal.τ).loc Cert.AdamPoolWRefIdeal.main_arg0) = m ((c.tc : Thread Cert.AdamPoolWIdeal.nD Cert.AdamPoolWIdeal.τ).loc Cert.AdamPoolWIdeal.main_arg0)
      ∧ m' ((c.tc : Thread Cert.AdamPoolWRefIdeal.nD Cert.AdamPoolWRefIdeal.τ).loc Cert.AdamPoolWRefIdeal.main_arg1) = m ((c.tc : Thread Cert.AdamPoolWIdeal.nD Cert.AdamPoolWIdeal.τ).loc Cert.AdamPoolWIdeal.main_arg1)
      ∧ m' ((c.tc : Thread Cert.AdamPoolWRefIdeal.nD Cert.AdamPoolWRefIdeal.τ).loc Cert.AdamPoolWRefIdeal.main_arg2) = m ((c.tc : Thread Cert.AdamPoolWIdeal.nD Cert.AdamPoolWIdeal.τ).loc Cert.AdamPoolWIdeal.main_arg2)
      ∧ m' ((c.tc : Thread Cert.AdamPoolWRefIdeal.nD Cert.AdamPoolWRefIdeal.τ).loc Cert.AdamPoolWRefIdeal.main_arg3) = m ((c.tc : Thread Cert.AdamPoolWIdeal.nD Cert.AdamPoolWIdeal.τ).loc Cert.AdamPoolWIdeal.main_arg3)) →
    ∃ (v0 : (c : Dev Cert.AdamPoolWIdeal.nD) → Buf (Elt Ideal) ((c.tc : Thread Cert.AdamPoolWIdeal.nD Cert.AdamPoolWIdeal.τ).loc Cert.AdamPoolWIdeal.main_v4_0)) (v1 : (c : Dev Cert.AdamPoolWIdeal.nD) → Buf (Elt Ideal) ((c.tc : Thread Cert.AdamPoolWIdeal.nD Cert.AdamPoolWIdeal.τ).loc Cert.AdamPoolWIdeal.main_v4_1)) (v2 : (c : Dev Cert.AdamPoolWIdeal.nD) → Buf (Elt Ideal) ((c.tc : Thread Cert.AdamPoolWIdeal.nD Cert.AdamPoolWIdeal.τ).loc Cert.AdamPoolWIdeal.main_v4_2)),
      θ_run (Cert.AdamPoolWIdeal.defs (F := Ideal)) (onTc (τ := Cert.AdamPoolWIdeal.τ) (Cert.AdamPoolWIdeal.main (F := Ideal))) ⟨m, fun _ => 0, g⟩ (fun r => ∀ c : Dev Cert.AdamPoolWIdeal.nD,
          r.2.mem ((c.tc : Thread Cert.AdamPoolWIdeal.nD Cert.AdamPoolWIdeal.τ).loc Cert.AdamPoolWIdeal.main_v4_0) = v0 c
          ∧ r.2.mem ((c.tc : Thread Cert.AdamPoolWIdeal.nD Cert.AdamPoolWIdeal.τ).loc Cert.AdamPoolWIdeal.main_v4_1) = v1 c
          ∧ r.2.mem ((c.tc : Thread Cert.AdamPoolWIdeal.nD Cert.AdamPoolWIdeal.τ).loc Cert.AdamPoolWIdeal.main_v4_2) = v2 c
          ∧ r.2.mem ((c.tc : Thread Cert.AdamPoolWIdeal.nD Cert.AdamPoolWIdeal.τ).loc Cert.AdamPoolWIdeal.main_arg0) = m ((c.tc : Thread Cert.AdamPoolWIdeal.nD Cert.AdamPoolWIdeal.τ).loc Cert.AdamPoolWIdeal.main_arg0)
          ∧ r.2.mem ((c.tc : Thread Cert.AdamPoolWIdeal.nD Cert.AdamPoolWIdeal.τ).loc Cert.AdamPoolWIdeal.main_arg1) = m ((c.tc : Thread Cert.AdamPoolWIdeal.nD Cert.AdamPoolWIdeal.τ).loc Cert.AdamPoolWIdeal.main_arg1)
          ∧ r.2.mem ((c.tc : Thread Cert.AdamPoolWIdeal.nD Cert.AdamPoolWIdeal.τ).loc Cert.AdamPoolWIdeal.main_arg2) = m ((c.tc : Thread Cert.AdamPoolWIdeal.nD Cert.AdamPoolWIdeal.τ).loc Cert.AdamPoolWIdeal.main_arg2)
          ∧ r.2.mem ((c.tc : Thread Cert.AdamPoolWIdeal.nD Cert.AdamPoolWIdeal.τ).loc Cert.AdamPoolWIdeal.main_arg3) = m ((c.tc : Thread Cert.AdamPoolWIdeal.nD Cert.AdamPoolWIdeal.τ).loc Cert.AdamPoolWIdeal.main_arg3))
      ∧ θ_run (Cert.AdamPoolWRefIdeal.defs (F := Ideal)) (onTc (τ := Cert.AdamPoolWRefIdeal.τ) (Cert.AdamPoolWRefIdeal.main (F := Ideal))) ⟨m', fun _ => 0, g'⟩ (fun r => ∀ c : Dev Cert.AdamPoolWRefIdeal.nD,
          r.2.mem ((c.tc : Thread Cert.AdamPoolWRefIdeal.nD Cert.AdamPoolWRefIdeal.τ).loc Cert.AdamPoolWRefIdeal.main_v24) = v0 c
          ∧ r.2.mem ((c.tc : Thread Cert.AdamPoolWRefIdeal.nD Cert.AdamPoolWRefIdeal.τ).loc Cert.AdamPoolWRefIdeal.main_v25) = v1 c
          ∧ r.2.mem ((c.tc : Thread Cert.AdamPoolWRefIdeal.nD Cert.AdamPoolWRefIdeal.τ).loc Cert.AdamPoolWRefIdeal.main_v26) = v2 c
          ∧ r.2.mem ((c.tc : Thread Cert.AdamPoolWRefIdeal.nD Cert.AdamPoolWRefIdeal.τ).loc Cert.AdamPoolWRefIdeal.main_arg0) = m' ((c.tc : Thread Cert.AdamPoolWRefIdeal.nD Cert.AdamPoolWRefIdeal.τ).loc Cert.AdamPoolWRefIdeal.main_arg0)
          ∧ r.2.mem ((c.tc : Thread Cert.AdamPoolWRefIdeal.nD Cert.AdamPoolWRefIdeal.τ).loc Cert.AdamPoolWRefIdeal.main_arg1) = m' ((c.tc : Thread Cert.AdamPoolWRefIdeal.nD Cert.AdamPoolWRefIdeal.τ).loc Cert.AdamPoolWRefIdeal.main_arg1)
          ∧ r.2.mem ((c.tc : Thread Cert.AdamPoolWRefIdeal.nD Cert.AdamPoolWRefIdeal.τ).loc Cert.AdamPoolWRefIdeal.main_arg2) = m' ((c.tc : Thread Cert.AdamPoolWRefIdeal.nD Cert.AdamPoolWRefIdeal.τ).loc Cert.AdamPoolWRefIdeal.main_arg2)
          ∧ r.2.mem ((c.tc : Thread Cert.AdamPoolWRefIdeal.nD Cert.AdamPoolWRefIdeal.τ).loc Cert.AdamPoolWRefIdeal.main_arg3) = m' ((c.tc : Thread Cert.AdamPoolWRefIdeal.nD Cert.AdamPoolWRefIdeal.τ).loc Cert.AdamPoolWRefIdeal.main_arg3))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v0_0)) (v1 : (c : Dev Cert.AdamPoolIdeal.nD) → Buf (Elt Ideal) ((c.tc : Thread Cert.AdamPoolIdeal.nD Cert.AdamPoolIdeal.τ).loc Cert.AdamPoolIdeal.main_v0_1)) (v2 : (c : Dev Cert.AdamPoolIdeal.nD) → Buf (Elt Ideal) ((c.tc : Thread Cert.AdamPoolIdeal.nD Cert.AdamPoolIdeal.τ).loc Cert.AdamPoolIdeal.main_v0_2)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v0_0) = v0 c
          ∧ r.2.mem ((c.tc : Thread Cert.AdamPoolIdeal.nD Cert.AdamPoolIdeal.τ).loc Cert.AdamPoolIdeal.main_v0_1) = v1 c
          ∧ r.2.mem ((c.tc : Thread Cert.AdamPoolIdeal.nD Cert.AdamPoolIdeal.τ).loc Cert.AdamPoolIdeal.main_v0_2) = v2 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v23) = v0 c
          ∧ r.2.mem ((c.tc : Thread Cert.AdamPoolRefIdeal.nD Cert.AdamPoolRefIdeal.τ).loc Cert.AdamPoolRefIdeal.main_v4) = v1 c
          ∧ r.2.mem ((c.tc : Thread Cert.AdamPoolRefIdeal.nD Cert.AdamPoolRefIdeal.τ).loc Cert.AdamPoolRefIdeal.main_v10) = v2 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3))

def preserves_AdamQkv_AdamQkvIdeal : Prop :=
  True

def algebraic_AdamQkvIdeal_AdamQkvRefIdeal [hAdamQkvIdeal : Cert.AdamQkvIdeal.Facts] [hAdamQkvRefIdeal : Cert.AdamQkvRefIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg)
    (m' : (ℓ : Loc Cert.AdamQkvRefIdeal.nD Cert.AdamQkvRefIdeal.τ Cert.AdamQkvRefIdeal.sig) → Buf (Elt Ideal) ℓ) (g' : Dev Cert.AdamQkvRefIdeal.nD → PrngReg), Pre_AdamQkvIdeal m →
    (∀ c : Dev Cert.AdamQkvIdeal.nD,
      m' ((c.tc : Thread Cert.AdamQkvRefIdeal.nD Cert.AdamQkvRefIdeal.τ).loc Cert.AdamQkvRefIdeal.main_arg0) = m ((c.tc : Thread Cert.AdamQkvIdeal.nD Cert.AdamQkvIdeal.τ).loc Cert.AdamQkvIdeal.main_arg0)
      ∧ m' ((c.tc : Thread Cert.AdamQkvRefIdeal.nD Cert.AdamQkvRefIdeal.τ).loc Cert.AdamQkvRefIdeal.main_arg1) = m ((c.tc : Thread Cert.AdamQkvIdeal.nD Cert.AdamQkvIdeal.τ).loc Cert.AdamQkvIdeal.main_arg1)
      ∧ m' ((c.tc : Thread Cert.AdamQkvRefIdeal.nD Cert.AdamQkvRefIdeal.τ).loc Cert.AdamQkvRefIdeal.main_arg2) = m ((c.tc : Thread Cert.AdamQkvIdeal.nD Cert.AdamQkvIdeal.τ).loc Cert.AdamQkvIdeal.main_arg2)
      ∧ m' ((c.tc : Thread Cert.AdamQkvRefIdeal.nD Cert.AdamQkvRefIdeal.τ).loc Cert.AdamQkvRefIdeal.main_arg3) = m ((c.tc : Thread Cert.AdamQkvIdeal.nD Cert.AdamQkvIdeal.τ).loc Cert.AdamQkvIdeal.main_arg3)) →
    ∃ (v0 : (c : Dev Cert.AdamQkvIdeal.nD) → Buf (Elt Ideal) ((c.tc : Thread Cert.AdamQkvIdeal.nD Cert.AdamQkvIdeal.τ).loc Cert.AdamQkvIdeal.main_v4_0)) (v1 : (c : Dev Cert.AdamQkvIdeal.nD) → Buf (Elt Ideal) ((c.tc : Thread Cert.AdamQkvIdeal.nD Cert.AdamQkvIdeal.τ).loc Cert.AdamQkvIdeal.main_v4_1)) (v2 : (c : Dev Cert.AdamQkvIdeal.nD) → Buf (Elt Ideal) ((c.tc : Thread Cert.AdamQkvIdeal.nD Cert.AdamQkvIdeal.τ).loc Cert.AdamQkvIdeal.main_v4_2)),
      θ_run (Cert.AdamQkvIdeal.defs (F := Ideal)) (onTc (τ := Cert.AdamQkvIdeal.τ) (Cert.AdamQkvIdeal.main (F := Ideal))) ⟨m, fun _ => 0, g⟩ (fun r => ∀ c : Dev Cert.AdamQkvIdeal.nD,
          r.2.mem ((c.tc : Thread Cert.AdamQkvIdeal.nD Cert.AdamQkvIdeal.τ).loc Cert.AdamQkvIdeal.main_v4_0) = v0 c
          ∧ r.2.mem ((c.tc : Thread Cert.AdamQkvIdeal.nD Cert.AdamQkvIdeal.τ).loc Cert.AdamQkvIdeal.main_v4_1) = v1 c
          ∧ r.2.mem ((c.tc : Thread Cert.AdamQkvIdeal.nD Cert.AdamQkvIdeal.τ).loc Cert.AdamQkvIdeal.main_v4_2) = v2 c
          ∧ r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
          ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
          ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
          ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ θ_run (Cert.AdamQkvRefIdeal.defs (F := Ideal)) (onTc (τ := Cert.AdamQkvRefIdeal.τ) (Cert.AdamQkvRefIdeal.main (F := Ideal))) ⟨m', fun _ => 0, g'⟩ (fun r => ∀ c : Dev Cert.AdamQkvRefIdeal.nD,
          r.2.mem ((c.tc : Thread Cert.AdamQkvRefIdeal.nD Cert.AdamQkvRefIdeal.τ).loc Cert.AdamQkvRefIdeal.main_v24) = v0 c
          ∧ r.2.mem ((c.tc : Thread Cert.AdamQkvRefIdeal.nD Cert.AdamQkvRefIdeal.τ).loc Cert.AdamQkvRefIdeal.main_v25) = v1 c
          ∧ r.2.mem ((c.tc : Thread Cert.AdamQkvRefIdeal.nD Cert.AdamQkvRefIdeal.τ).loc Cert.AdamQkvRefIdeal.main_v26) = v2 c
          ∧ r.2.mem ((c.tc : Thread Cert.AdamQkvRefIdeal.nD Cert.AdamQkvRefIdeal.τ).loc Cert.AdamQkvRefIdeal.main_arg0) = m' ((c.tc : Thread Cert.AdamQkvRefIdeal.nD Cert.AdamQkvRefIdeal.τ).loc Cert.AdamQkvRefIdeal.main_arg0)
          ∧ r.2.mem ((c.tc : Thread Cert.AdamQkvRefIdeal.nD Cert.AdamQkvRefIdeal.τ).loc Cert.AdamQkvRefIdeal.main_arg1) = m' ((c.tc : Thread Cert.AdamQkvRefIdeal.nD Cert.AdamQkvRefIdeal.τ).loc Cert.AdamQkvRefIdeal.main_arg1)
          ∧ r.2.mem ((c.tc : Thread Cert.AdamQkvRefIdeal.nD Cert.AdamQkvRefIdeal.τ).loc Cert.AdamQkvRefIdeal.main_arg2) = m' ((c.tc : Thread Cert.AdamQkvRefIdeal.nD Cert.AdamQkvRefIdeal.τ).loc Cert.AdamQkvRefIdeal.main_arg2)
          ∧ r.2.mem ((c.tc : Thread Cert.AdamQkvRefIdeal.nD Cert.AdamQkvRefIdeal.τ).loc Cert.AdamQkvRefIdeal.main_arg3) = m' ((c.tc : Thread Cert.AdamQkvRefIdeal.nD Cert.AdamQkvRefIdeal.τ).loc Cert.AdamQkvRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v4_0)) (v1 : (c : Dev Cert.AdamOutIdeal.nD) → Buf (Elt Ideal) ((c.tc : Thread Cert.AdamOutIdeal.nD Cert.AdamOutIdeal.τ).loc Cert.AdamOutIdeal.main_v4_1)) (v2 : (c : Dev Cert.AdamOutIdeal.nD) → Buf (Elt Ideal) ((c.tc : Thread Cert.AdamOutIdeal.nD Cert.AdamOutIdeal.τ).loc Cert.AdamOutIdeal.main_v4_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v4_0) = v0 c
          ∧ r.2.mem ((c.tc : Thread Cert.AdamOutIdeal.nD Cert.AdamOutIdeal.τ).loc Cert.AdamOutIdeal.main_v4_1) = v1 c
          ∧ r.2.mem ((c.tc : Thread Cert.AdamOutIdeal.nD Cert.AdamOutIdeal.τ).loc Cert.AdamOutIdeal.main_v4_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v24) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v26) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamSink_AdamSinkIdeal : Prop :=
  True

def algebraic_AdamSinkIdeal_AdamSinkRefIdeal [hAdamSinkIdeal : Cert.AdamSinkIdeal.Facts] [hAdamSinkRefIdeal : Cert.AdamSinkRefIdeal.Facts] : Prop :=
  ∀ (m : (ℓ : Loc Cert.AdamSinkIdeal.nD Cert.AdamSinkIdeal.τ Cert.AdamSinkIdeal.sig) → Buf (Elt Ideal) ℓ) (g : Dev Cert.AdamSinkIdeal.nD → PrngReg)
    (m' : (ℓ : Loc Cert.AdamSinkRefIdeal.nD Cert.AdamSinkRefIdeal.τ Cert.AdamSinkRefIdeal.sig) → Buf (Elt Ideal) ℓ) (g' : Dev Cert.AdamSinkRefIdeal.nD → PrngReg), Pre_AdamSinkIdeal m →
    (∀ c : Dev Cert.AdamSinkIdeal.nD,
      m' ((c.tc : Thread Cert.AdamSinkRefIdeal.nD Cert.AdamSinkRefIdeal.τ).loc Cert.AdamSinkRefIdeal.main_arg0) = m ((c.tc : Thread Cert.AdamSinkIdeal.nD Cert.AdamSinkIdeal.τ).loc Cert.AdamSinkIdeal.main_arg0)
      ∧ m' ((c.tc : Thread Cert.AdamSinkRefIdeal.nD Cert.AdamSinkRefIdeal.τ).loc Cert.AdamSinkRefIdeal.main_arg1) = m ((c.tc : Thread Cert.AdamSinkIdeal.nD Cert.AdamSinkIdeal.τ).loc Cert.AdamSinkIdeal.main_arg1)
      ∧ m' ((c.tc : Thread Cert.AdamSinkRefIdeal.nD Cert.AdamSinkRefIdeal.τ).loc Cert.AdamSinkRefIdeal.main_arg2) = m ((c.tc : Thread Cert.AdamSinkIdeal.nD Cert.AdamSinkIdeal.τ).loc Cert.AdamSinkIdeal.main_arg2)
      ∧ m' ((c.tc : Thread Cert.AdamSinkRefIdeal.nD Cert.AdamSinkRefIdeal.τ).loc Cert.AdamSinkRefIdeal.main_arg3) = m ((c.tc : Thread Cert.AdamSinkIdeal.nD Cert.AdamSinkIdeal.τ).loc Cert.AdamSinkIdeal.main_arg3)) →
    ∃ (v0 : (c : Dev Cert.AdamSinkIdeal.nD) → Buf (Elt Ideal) ((c.tc : Thread Cert.AdamSinkIdeal.nD Cert.AdamSinkIdeal.τ).loc Cert.AdamSinkIdeal.main_v0_0)) (v1 : (c : Dev Cert.AdamSinkIdeal.nD) → Buf (Elt Ideal) ((c.tc : Thread Cert.AdamSinkIdeal.nD Cert.AdamSinkIdeal.τ).loc Cert.AdamSinkIdeal.main_v0_1)) (v2 : (c : Dev Cert.AdamSinkIdeal.nD) → Buf (Elt Ideal) ((c.tc : Thread Cert.AdamSinkIdeal.nD Cert.AdamSinkIdeal.τ).loc Cert.AdamSinkIdeal.main_v0_2)),
      θ_run (Cert.AdamSinkIdeal.defs (F := Ideal)) (onTc (τ := Cert.AdamSinkIdeal.τ) (Cert.AdamSinkIdeal.main (F := Ideal))) ⟨m, fun _ => 0, g⟩ (fun r => ∀ c : Dev Cert.AdamSinkIdeal.nD,
          r.2.mem ((c.tc : Thread Cert.AdamSinkIdeal.nD Cert.AdamSinkIdeal.τ).loc Cert.AdamSinkIdeal.main_v0_0) = v0 c
          ∧ r.2.mem ((c.tc : Thread Cert.AdamSinkIdeal.nD Cert.AdamSinkIdeal.τ).loc Cert.AdamSinkIdeal.main_v0_1) = v1 c
          ∧ r.2.mem ((c.tc : Thread Cert.AdamSinkIdeal.nD Cert.AdamSinkIdeal.τ).loc Cert.AdamSinkIdeal.main_v0_2) = v2 c
          ∧ r.2.mem ((c.tc : Thread Cert.AdamSinkIdeal.nD Cert.AdamSinkIdeal.τ).loc Cert.AdamSinkIdeal.main_arg0) = m ((c.tc : Thread Cert.AdamSinkIdeal.nD Cert.AdamSinkIdeal.τ).loc Cert.AdamSinkIdeal.main_arg0)
          ∧ r.2.mem ((c.tc : Thread Cert.AdamSinkIdeal.nD Cert.AdamSinkIdeal.τ).loc Cert.AdamSinkIdeal.main_arg1) = m ((c.tc : Thread Cert.AdamSinkIdeal.nD Cert.AdamSinkIdeal.τ).loc Cert.AdamSinkIdeal.main_arg1)
          ∧ r.2.mem ((c.tc : Thread Cert.AdamSinkIdeal.nD Cert.AdamSinkIdeal.τ).loc Cert.AdamSinkIdeal.main_arg2) = m ((c.tc : Thread Cert.AdamSinkIdeal.nD Cert.AdamSinkIdeal.τ).loc Cert.AdamSinkIdeal.main_arg2)
          ∧ r.2.mem ((c.tc : Thread Cert.AdamSinkIdeal.nD Cert.AdamSinkIdeal.τ).loc Cert.AdamSinkIdeal.main_arg3) = m ((c.tc : Thread Cert.AdamSinkIdeal.nD Cert.AdamSinkIdeal.τ).loc Cert.AdamSinkIdeal.main_arg3))
      ∧ θ_run (Cert.AdamSinkRefIdeal.defs (F := Ideal)) (onTc (τ := Cert.AdamSinkRefIdeal.τ) (Cert.AdamSinkRefIdeal.main (F := Ideal))) ⟨m', fun _ => 0, g'⟩ (fun r => ∀ c : Dev Cert.AdamSinkRefIdeal.nD,
          r.2.mem ((c.tc : Thread Cert.AdamSinkRefIdeal.nD Cert.AdamSinkRefIdeal.τ).loc Cert.AdamSinkRefIdeal.main_v23) = v0 c
          ∧ r.2.mem ((c.tc : Thread Cert.AdamSinkRefIdeal.nD Cert.AdamSinkRefIdeal.τ).loc Cert.AdamSinkRefIdeal.main_v4) = v1 c
          ∧ r.2.mem ((c.tc : Thread Cert.AdamSinkRefIdeal.nD Cert.AdamSinkRefIdeal.τ).loc Cert.AdamSinkRefIdeal.main_v10) = v2 c
          ∧ r.2.mem ((c.tc : Thread Cert.AdamSinkRefIdeal.nD Cert.AdamSinkRefIdeal.τ).loc Cert.AdamSinkRefIdeal.main_arg0) = m' ((c.tc : Thread Cert.AdamSinkRefIdeal.nD Cert.AdamSinkRefIdeal.τ).loc Cert.AdamSinkRefIdeal.main_arg0)
          ∧ r.2.mem ((c.tc : Thread Cert.AdamSinkRefIdeal.nD Cert.AdamSinkRefIdeal.τ).loc Cert.AdamSinkRefIdeal.main_arg1) = m' ((c.tc : Thread Cert.AdamSinkRefIdeal.nD Cert.AdamSinkRefIdeal.τ).loc Cert.AdamSinkRefIdeal.main_arg1)
          ∧ r.2.mem ((c.tc : Thread Cert.AdamSinkRefIdeal.nD Cert.AdamSinkRefIdeal.τ).loc Cert.AdamSinkRefIdeal.main_arg2) = m' ((c.tc : Thread Cert.AdamSinkRefIdeal.nD Cert.AdamSinkRefIdeal.τ).loc Cert.AdamSinkRefIdeal.main_arg2)
          ∧ r.2.mem ((c.tc : Thread Cert.AdamSinkRefIdeal.nD Cert.AdamSinkRefIdeal.τ).loc Cert.AdamSinkRefIdeal.main_arg3) = m' ((c.tc : Thread Cert.AdamSinkRefIdeal.nD Cert.AdamSinkRefIdeal.τ).loc Cert.AdamSinkRefIdeal.main_arg3))

def preserves_AdamLambda_AdamLambdaIdeal : Prop :=
  True

def algebraic_AdamLambdaIdeal_AdamLambdaRefIdeal [hAdamLambdaIdeal : Cert.AdamLambdaIdeal.Facts] [hAdamLambdaRefIdeal : Cert.AdamLambdaRefIdeal.Facts] : Prop :=
  ∀ (m : (ℓ : Loc Cert.AdamLambdaIdeal.nD Cert.AdamLambdaIdeal.τ Cert.AdamLambdaIdeal.sig) → Buf (Elt Ideal) ℓ) (g : Dev Cert.AdamLambdaIdeal.nD → PrngReg)
    (m' : (ℓ : Loc Cert.AdamLambdaRefIdeal.nD Cert.AdamLambdaRefIdeal.τ Cert.AdamLambdaRefIdeal.sig) → Buf (Elt Ideal) ℓ) (g' : Dev Cert.AdamLambdaRefIdeal.nD → PrngReg), Pre_AdamLambdaIdeal m →
    (∀ c : Dev Cert.AdamLambdaIdeal.nD,
      m' ((c.tc : Thread Cert.AdamLambdaRefIdeal.nD Cert.AdamLambdaRefIdeal.τ).loc Cert.AdamLambdaRefIdeal.main_arg0) = m ((c.tc : Thread Cert.AdamLambdaIdeal.nD Cert.AdamLambdaIdeal.τ).loc Cert.AdamLambdaIdeal.main_arg0)
      ∧ m' ((c.tc : Thread Cert.AdamLambdaRefIdeal.nD Cert.AdamLambdaRefIdeal.τ).loc Cert.AdamLambdaRefIdeal.main_arg1) = m ((c.tc : Thread Cert.AdamLambdaIdeal.nD Cert.AdamLambdaIdeal.τ).loc Cert.AdamLambdaIdeal.main_arg1)
      ∧ m' ((c.tc : Thread Cert.AdamLambdaRefIdeal.nD Cert.AdamLambdaRefIdeal.τ).loc Cert.AdamLambdaRefIdeal.main_arg2) = m ((c.tc : Thread Cert.AdamLambdaIdeal.nD Cert.AdamLambdaIdeal.τ).loc Cert.AdamLambdaIdeal.main_arg2)
      ∧ m' ((c.tc : Thread Cert.AdamLambdaRefIdeal.nD Cert.AdamLambdaRefIdeal.τ).loc Cert.AdamLambdaRefIdeal.main_arg3) = m ((c.tc : Thread Cert.AdamLambdaIdeal.nD Cert.AdamLambdaIdeal.τ).loc Cert.AdamLambdaIdeal.main_arg3)) →
    ∃ (v0 : (c : Dev Cert.AdamLambdaIdeal.nD) → Buf (Elt Ideal) ((c.tc : Thread Cert.AdamLambdaIdeal.nD Cert.AdamLambdaIdeal.τ).loc Cert.AdamLambdaIdeal.main_v4_0)) (v1 : (c : Dev Cert.AdamLambdaIdeal.nD) → Buf (Elt Ideal) ((c.tc : Thread Cert.AdamLambdaIdeal.nD Cert.AdamLambdaIdeal.τ).loc Cert.AdamLambdaIdeal.main_v4_1)) (v2 : (c : Dev Cert.AdamLambdaIdeal.nD) → Buf (Elt Ideal) ((c.tc : Thread Cert.AdamLambdaIdeal.nD Cert.AdamLambdaIdeal.τ).loc Cert.AdamLambdaIdeal.main_v4_2)),
      θ_run (Cert.AdamLambdaIdeal.defs (F := Ideal)) (onTc (τ := Cert.AdamLambdaIdeal.τ) (Cert.AdamLambdaIdeal.main (F := Ideal))) ⟨m, fun _ => 0, g⟩ (fun r => ∀ c : Dev Cert.AdamLambdaIdeal.nD,
          r.2.mem ((c.tc : Thread Cert.AdamLambdaIdeal.nD Cert.AdamLambdaIdeal.τ).loc Cert.AdamLambdaIdeal.main_v4_0) = v0 c
          ∧ r.2.mem ((c.tc : Thread Cert.AdamLambdaIdeal.nD Cert.AdamLambdaIdeal.τ).loc Cert.AdamLambdaIdeal.main_v4_1) = v1 c
          ∧ r.2.mem ((c.tc : Thread Cert.AdamLambdaIdeal.nD Cert.AdamLambdaIdeal.τ).loc Cert.AdamLambdaIdeal.main_v4_2) = v2 c
          ∧ r.2.mem ((c.tc : Thread Cert.AdamLambdaIdeal.nD Cert.AdamLambdaIdeal.τ).loc Cert.AdamLambdaIdeal.main_arg0) = m ((c.tc : Thread Cert.AdamLambdaIdeal.nD Cert.AdamLambdaIdeal.τ).loc Cert.AdamLambdaIdeal.main_arg0)
          ∧ r.2.mem ((c.tc : Thread Cert.AdamLambdaIdeal.nD Cert.AdamLambdaIdeal.τ).loc Cert.AdamLambdaIdeal.main_arg1) = m ((c.tc : Thread Cert.AdamLambdaIdeal.nD Cert.AdamLambdaIdeal.τ).loc Cert.AdamLambdaIdeal.main_arg1)
          ∧ r.2.mem ((c.tc : Thread Cert.AdamLambdaIdeal.nD Cert.AdamLambdaIdeal.τ).loc Cert.AdamLambdaIdeal.main_arg2) = m ((c.tc : Thread Cert.AdamLambdaIdeal.nD Cert.AdamLambdaIdeal.τ).loc Cert.AdamLambdaIdeal.main_arg2)
          ∧ r.2.mem ((c.tc : Thread Cert.AdamLambdaIdeal.nD Cert.AdamLambdaIdeal.τ).loc Cert.AdamLambdaIdeal.main_arg3) = m ((c.tc : Thread Cert.AdamLambdaIdeal.nD Cert.AdamLambdaIdeal.τ).loc Cert.AdamLambdaIdeal.main_arg3))
      ∧ θ_run (Cert.AdamLambdaRefIdeal.defs (F := Ideal)) (onTc (τ := Cert.AdamLambdaRefIdeal.τ) (Cert.AdamLambdaRefIdeal.main (F := Ideal))) ⟨m', fun _ => 0, g'⟩ (fun r => ∀ c : Dev Cert.AdamLambdaRefIdeal.nD,
          r.2.mem ((c.tc : Thread Cert.AdamLambdaRefIdeal.nD Cert.AdamLambdaRefIdeal.τ).loc Cert.AdamLambdaRefIdeal.main_v24) = v0 c
          ∧ r.2.mem ((c.tc : Thread Cert.AdamLambdaRefIdeal.nD Cert.AdamLambdaRefIdeal.τ).loc Cert.AdamLambdaRefIdeal.main_v25) = v1 c
          ∧ r.2.mem ((c.tc : Thread Cert.AdamLambdaRefIdeal.nD Cert.AdamLambdaRefIdeal.τ).loc Cert.AdamLambdaRefIdeal.main_v26) = v2 c
          ∧ r.2.mem ((c.tc : Thread Cert.AdamLambdaRefIdeal.nD Cert.AdamLambdaRefIdeal.τ).loc Cert.AdamLambdaRefIdeal.main_arg0) = m' ((c.tc : Thread Cert.AdamLambdaRefIdeal.nD Cert.AdamLambdaRefIdeal.τ).loc Cert.AdamLambdaRefIdeal.main_arg0)
          ∧ r.2.mem ((c.tc : Thread Cert.AdamLambdaRefIdeal.nD Cert.AdamLambdaRefIdeal.τ).loc Cert.AdamLambdaRefIdeal.main_arg1) = m' ((c.tc : Thread Cert.AdamLambdaRefIdeal.nD Cert.AdamLambdaRefIdeal.τ).loc Cert.AdamLambdaRefIdeal.main_arg1)
          ∧ r.2.mem ((c.tc : Thread Cert.AdamLambdaRefIdeal.nD Cert.AdamLambdaRefIdeal.τ).loc Cert.AdamLambdaRefIdeal.main_arg2) = m' ((c.tc : Thread Cert.AdamLambdaRefIdeal.nD Cert.AdamLambdaRefIdeal.τ).loc Cert.AdamLambdaRefIdeal.main_arg2)
          ∧ r.2.mem ((c.tc : Thread Cert.AdamLambdaRefIdeal.nD Cert.AdamLambdaRefIdeal.τ).loc Cert.AdamLambdaRefIdeal.main_arg3) = m' ((c.tc : Thread Cert.AdamLambdaRefIdeal.nD Cert.AdamLambdaRefIdeal.τ).loc Cert.AdamLambdaRefIdeal.main_arg3))

def preserves_AdamLogDt_AdamLogDtIdeal : Prop :=
  True

def algebraic_AdamLogDtIdeal_AdamLogDtRefIdeal [hAdamLogDtIdeal : Cert.AdamLogDtIdeal.Facts] [hAdamLogDtRefIdeal : Cert.AdamLogDtRefIdeal.Facts] : Prop :=
  ∀ (m : (ℓ : Loc Cert.AdamLogDtIdeal.nD Cert.AdamLogDtIdeal.τ Cert.AdamLogDtIdeal.sig) → Buf (Elt Ideal) ℓ) (g : Dev Cert.AdamLogDtIdeal.nD → PrngReg)
    (m' : (ℓ : Loc Cert.AdamLogDtRefIdeal.nD Cert.AdamLogDtRefIdeal.τ Cert.AdamLogDtRefIdeal.sig) → Buf (Elt Ideal) ℓ) (g' : Dev Cert.AdamLogDtRefIdeal.nD → PrngReg), Pre_AdamLogDtIdeal m →
    (∀ c : Dev Cert.AdamLogDtIdeal.nD,
      m' ((c.tc : Thread Cert.AdamLogDtRefIdeal.nD Cert.AdamLogDtRefIdeal.τ).loc Cert.AdamLogDtRefIdeal.main_arg0) = m ((c.tc : Thread Cert.AdamLogDtIdeal.nD Cert.AdamLogDtIdeal.τ).loc Cert.AdamLogDtIdeal.main_arg0)
      ∧ m' ((c.tc : Thread Cert.AdamLogDtRefIdeal.nD Cert.AdamLogDtRefIdeal.τ).loc Cert.AdamLogDtRefIdeal.main_arg1) = m ((c.tc : Thread Cert.AdamLogDtIdeal.nD Cert.AdamLogDtIdeal.τ).loc Cert.AdamLogDtIdeal.main_arg1)
      ∧ m' ((c.tc : Thread Cert.AdamLogDtRefIdeal.nD Cert.AdamLogDtRefIdeal.τ).loc Cert.AdamLogDtRefIdeal.main_arg2) = m ((c.tc : Thread Cert.AdamLogDtIdeal.nD Cert.AdamLogDtIdeal.τ).loc Cert.AdamLogDtIdeal.main_arg2)
      ∧ m' ((c.tc : Thread Cert.AdamLogDtRefIdeal.nD Cert.AdamLogDtRefIdeal.τ).loc Cert.AdamLogDtRefIdeal.main_arg3) = m ((c.tc : Thread Cert.AdamLogDtIdeal.nD Cert.AdamLogDtIdeal.τ).loc Cert.AdamLogDtIdeal.main_arg3)) →
    ∃ (v0 : (c : Dev Cert.AdamLogDtIdeal.nD) → Buf (Elt Ideal) ((c.tc : Thread Cert.AdamLogDtIdeal.nD Cert.AdamLogDtIdeal.τ).loc Cert.AdamLogDtIdeal.main_v4_0)) (v1 : (c : Dev Cert.AdamLogDtIdeal.nD) → Buf (Elt Ideal) ((c.tc : Thread Cert.AdamLogDtIdeal.nD Cert.AdamLogDtIdeal.τ).loc Cert.AdamLogDtIdeal.main_v4_1)) (v2 : (c : Dev Cert.AdamLogDtIdeal.nD) → Buf (Elt Ideal) ((c.tc : Thread Cert.AdamLogDtIdeal.nD Cert.AdamLogDtIdeal.τ).loc Cert.AdamLogDtIdeal.main_v4_2)),
      θ_run (Cert.AdamLogDtIdeal.defs (F := Ideal)) (onTc (τ := Cert.AdamLogDtIdeal.τ) (Cert.AdamLogDtIdeal.main (F := Ideal))) ⟨m, fun _ => 0, g⟩ (fun r => ∀ c : Dev Cert.AdamLogDtIdeal.nD,
          r.2.mem ((c.tc : Thread Cert.AdamLogDtIdeal.nD Cert.AdamLogDtIdeal.τ).loc Cert.AdamLogDtIdeal.main_v4_0) = v0 c
          ∧ r.2.mem ((c.tc : Thread Cert.AdamLogDtIdeal.nD Cert.AdamLogDtIdeal.τ).loc Cert.AdamLogDtIdeal.main_v4_1) = v1 c
          ∧ r.2.mem ((c.tc : Thread Cert.AdamLogDtIdeal.nD Cert.AdamLogDtIdeal.τ).loc Cert.AdamLogDtIdeal.main_v4_2) = v2 c
          ∧ r.2.mem ((c.tc : Thread Cert.AdamLogDtIdeal.nD Cert.AdamLogDtIdeal.τ).loc Cert.AdamLogDtIdeal.main_arg0) = m ((c.tc : Thread Cert.AdamLogDtIdeal.nD Cert.AdamLogDtIdeal.τ).loc Cert.AdamLogDtIdeal.main_arg0)
          ∧ r.2.mem ((c.tc : Thread Cert.AdamLogDtIdeal.nD Cert.AdamLogDtIdeal.τ).loc Cert.AdamLogDtIdeal.main_arg1) = m ((c.tc : Thread Cert.AdamLogDtIdeal.nD Cert.AdamLogDtIdeal.τ).loc Cert.AdamLogDtIdeal.main_arg1)
          ∧ r.2.mem ((c.tc : Thread Cert.AdamLogDtIdeal.nD Cert.AdamLogDtIdeal.τ).loc Cert.AdamLogDtIdeal.main_arg2) = m ((c.tc : Thread Cert.AdamLogDtIdeal.nD Cert.AdamLogDtIdeal.τ).loc Cert.AdamLogDtIdeal.main_arg2)
          ∧ r.2.mem ((c.tc : Thread Cert.AdamLogDtIdeal.nD Cert.AdamLogDtIdeal.τ).loc Cert.AdamLogDtIdeal.main_arg3) = m ((c.tc : Thread Cert.AdamLogDtIdeal.nD Cert.AdamLogDtIdeal.τ).loc Cert.AdamLogDtIdeal.main_arg3))
      ∧ θ_run (Cert.AdamLogDtRefIdeal.defs (F := Ideal)) (onTc (τ := Cert.AdamLogDtRefIdeal.τ) (Cert.AdamLogDtRefIdeal.main (F := Ideal))) ⟨m', fun _ => 0, g'⟩ (fun r => ∀ c : Dev Cert.AdamLogDtRefIdeal.nD,
          r.2.mem ((c.tc : Thread Cert.AdamLogDtRefIdeal.nD Cert.AdamLogDtRefIdeal.τ).loc Cert.AdamLogDtRefIdeal.main_v24) = v0 c
          ∧ r.2.mem ((c.tc : Thread Cert.AdamLogDtRefIdeal.nD Cert.AdamLogDtRefIdeal.τ).loc Cert.AdamLogDtRefIdeal.main_v25) = v1 c
          ∧ r.2.mem ((c.tc : Thread Cert.AdamLogDtRefIdeal.nD Cert.AdamLogDtRefIdeal.τ).loc Cert.AdamLogDtRefIdeal.main_v26) = v2 c
          ∧ r.2.mem ((c.tc : Thread Cert.AdamLogDtRefIdeal.nD Cert.AdamLogDtRefIdeal.τ).loc Cert.AdamLogDtRefIdeal.main_arg0) = m' ((c.tc : Thread Cert.AdamLogDtRefIdeal.nD Cert.AdamLogDtRefIdeal.τ).loc Cert.AdamLogDtRefIdeal.main_arg0)
          ∧ r.2.mem ((c.tc : Thread Cert.AdamLogDtRefIdeal.nD Cert.AdamLogDtRefIdeal.τ).loc Cert.AdamLogDtRefIdeal.main_arg1) = m' ((c.tc : Thread Cert.AdamLogDtRefIdeal.nD Cert.AdamLogDtRefIdeal.τ).loc Cert.AdamLogDtRefIdeal.main_arg1)
          ∧ r.2.mem ((c.tc : Thread Cert.AdamLogDtRefIdeal.nD Cert.AdamLogDtRefIdeal.τ).loc Cert.AdamLogDtRefIdeal.main_arg2) = m' ((c.tc : Thread Cert.AdamLogDtRefIdeal.nD Cert.AdamLogDtRefIdeal.τ).loc Cert.AdamLogDtRefIdeal.main_arg2)
          ∧ r.2.mem ((c.tc : Thread Cert.AdamLogDtRefIdeal.nD Cert.AdamLogDtRefIdeal.τ).loc Cert.AdamLogDtRefIdeal.main_arg3) = m' ((c.tc : Thread Cert.AdamLogDtRefIdeal.nD Cert.AdamLogDtRefIdeal.τ).loc Cert.AdamLogDtRefIdeal.main_arg3))

def preserves_AdamSsmB_AdamSsmBIdeal : Prop :=
  True

def algebraic_AdamSsmBIdeal_AdamSsmBRefIdeal [hAdamSsmBIdeal : Cert.AdamSsmBIdeal.Facts] [hAdamSsmBRefIdeal : Cert.AdamSsmBRefIdeal.Facts] : Prop :=
  ∀ (m : (ℓ : Loc Cert.AdamSsmBIdeal.nD Cert.AdamSsmBIdeal.τ Cert.AdamSsmBIdeal.sig) → Buf (Elt Ideal) ℓ) (g : Dev Cert.AdamSsmBIdeal.nD → PrngReg)
    (m' : (ℓ : Loc Cert.AdamSsmBRefIdeal.nD Cert.AdamSsmBRefIdeal.τ Cert.AdamSsmBRefIdeal.sig) → Buf (Elt Ideal) ℓ) (g' : Dev Cert.AdamSsmBRefIdeal.nD → PrngReg), Pre_AdamSsmBIdeal m →
    (∀ c : Dev Cert.AdamSsmBIdeal.nD,
      m' ((c.tc : Thread Cert.AdamSsmBRefIdeal.nD Cert.AdamSsmBRefIdeal.τ).loc Cert.AdamSsmBRefIdeal.main_arg0) = m ((c.tc : Thread Cert.AdamSsmBIdeal.nD Cert.AdamSsmBIdeal.τ).loc Cert.AdamSsmBIdeal.main_arg0)
      ∧ m' ((c.tc : Thread Cert.AdamSsmBRefIdeal.nD Cert.AdamSsmBRefIdeal.τ).loc Cert.AdamSsmBRefIdeal.main_arg1) = m ((c.tc : Thread Cert.AdamSsmBIdeal.nD Cert.AdamSsmBIdeal.τ).loc Cert.AdamSsmBIdeal.main_arg1)
      ∧ m' ((c.tc : Thread Cert.AdamSsmBRefIdeal.nD Cert.AdamSsmBRefIdeal.τ).loc Cert.AdamSsmBRefIdeal.main_arg2) = m ((c.tc : Thread Cert.AdamSsmBIdeal.nD Cert.AdamSsmBIdeal.τ).loc Cert.AdamSsmBIdeal.main_arg2)
      ∧ m' ((c.tc : Thread Cert.AdamSsmBRefIdeal.nD Cert.AdamSsmBRefIdeal.τ).loc Cert.AdamSsmBRefIdeal.main_arg3) = m ((c.tc : Thread Cert.AdamSsmBIdeal.nD Cert.AdamSsmBIdeal.τ).loc Cert.AdamSsmBIdeal.main_arg3)) →
    ∃ (v0 : (c : Dev Cert.AdamSsmBIdeal.nD) → Buf (Elt Ideal) ((c.tc : Thread Cert.AdamSsmBIdeal.nD Cert.AdamSsmBIdeal.τ).loc Cert.AdamSsmBIdeal.main_v4_0)) (v1 : (c : Dev Cert.AdamSsmBIdeal.nD) → Buf (Elt Ideal) ((c.tc : Thread Cert.AdamSsmBIdeal.nD Cert.AdamSsmBIdeal.τ).loc Cert.AdamSsmBIdeal.main_v4_1)) (v2 : (c : Dev Cert.AdamSsmBIdeal.nD) → Buf (Elt Ideal) ((c.tc : Thread Cert.AdamSsmBIdeal.nD Cert.AdamSsmBIdeal.τ).loc Cert.AdamSsmBIdeal.main_v4_2)),
      θ_run (Cert.AdamSsmBIdeal.defs (F := Ideal)) (onTc (τ := Cert.AdamSsmBIdeal.τ) (Cert.AdamSsmBIdeal.main (F := Ideal))) ⟨m, fun _ => 0, g⟩ (fun r => ∀ c : Dev Cert.AdamSsmBIdeal.nD,
          r.2.mem ((c.tc : Thread Cert.AdamSsmBIdeal.nD Cert.AdamSsmBIdeal.τ).loc Cert.AdamSsmBIdeal.main_v4_0) = v0 c
          ∧ r.2.mem ((c.tc : Thread Cert.AdamSsmBIdeal.nD Cert.AdamSsmBIdeal.τ).loc Cert.AdamSsmBIdeal.main_v4_1) = v1 c
          ∧ r.2.mem ((c.tc : Thread Cert.AdamSsmBIdeal.nD Cert.AdamSsmBIdeal.τ).loc Cert.AdamSsmBIdeal.main_v4_2) = v2 c
          ∧ r.2.mem ((c.tc : Thread Cert.AdamSsmBIdeal.nD Cert.AdamSsmBIdeal.τ).loc Cert.AdamSsmBIdeal.main_arg0) = m ((c.tc : Thread Cert.AdamSsmBIdeal.nD Cert.AdamSsmBIdeal.τ).loc Cert.AdamSsmBIdeal.main_arg0)
          ∧ r.2.mem ((c.tc : Thread Cert.AdamSsmBIdeal.nD Cert.AdamSsmBIdeal.τ).loc Cert.AdamSsmBIdeal.main_arg1) = m ((c.tc : Thread Cert.AdamSsmBIdeal.nD Cert.AdamSsmBIdeal.τ).loc Cert.AdamSsmBIdeal.main_arg1)
          ∧ r.2.mem ((c.tc : Thread Cert.AdamSsmBIdeal.nD Cert.AdamSsmBIdeal.τ).loc Cert.AdamSsmBIdeal.main_arg2) = m ((c.tc : Thread Cert.AdamSsmBIdeal.nD Cert.AdamSsmBIdeal.τ).loc Cert.AdamSsmBIdeal.main_arg2)
          ∧ r.2.mem ((c.tc : Thread Cert.AdamSsmBIdeal.nD Cert.AdamSsmBIdeal.τ).loc Cert.AdamSsmBIdeal.main_arg3) = m ((c.tc : Thread Cert.AdamSsmBIdeal.nD Cert.AdamSsmBIdeal.τ).loc Cert.AdamSsmBIdeal.main_arg3))
      ∧ θ_run (Cert.AdamSsmBRefIdeal.defs (F := Ideal)) (onTc (τ := Cert.AdamSsmBRefIdeal.τ) (Cert.AdamSsmBRefIdeal.main (F := Ideal))) ⟨m', fun _ => 0, g'⟩ (fun r => ∀ c : Dev Cert.AdamSsmBRefIdeal.nD,
          r.2.mem ((c.tc : Thread Cert.AdamSsmBRefIdeal.nD Cert.AdamSsmBRefIdeal.τ).loc Cert.AdamSsmBRefIdeal.main_v24) = v0 c
          ∧ r.2.mem ((c.tc : Thread Cert.AdamSsmBRefIdeal.nD Cert.AdamSsmBRefIdeal.τ).loc Cert.AdamSsmBRefIdeal.main_v25) = v1 c
          ∧ r.2.mem ((c.tc : Thread Cert.AdamSsmBRefIdeal.nD Cert.AdamSsmBRefIdeal.τ).loc Cert.AdamSsmBRefIdeal.main_v26) = v2 c
          ∧ r.2.mem ((c.tc : Thread Cert.AdamSsmBRefIdeal.nD Cert.AdamSsmBRefIdeal.τ).loc Cert.AdamSsmBRefIdeal.main_arg0) = m' ((c.tc : Thread Cert.AdamSsmBRefIdeal.nD Cert.AdamSsmBRefIdeal.τ).loc Cert.AdamSsmBRefIdeal.main_arg0)
          ∧ r.2.mem ((c.tc : Thread Cert.AdamSsmBRefIdeal.nD Cert.AdamSsmBRefIdeal.τ).loc Cert.AdamSsmBRefIdeal.main_arg1) = m' ((c.tc : Thread Cert.AdamSsmBRefIdeal.nD Cert.AdamSsmBRefIdeal.τ).loc Cert.AdamSsmBRefIdeal.main_arg1)
          ∧ r.2.mem ((c.tc : Thread Cert.AdamSsmBRefIdeal.nD Cert.AdamSsmBRefIdeal.τ).loc Cert.AdamSsmBRefIdeal.main_arg2) = m' ((c.tc : Thread Cert.AdamSsmBRefIdeal.nD Cert.AdamSsmBRefIdeal.τ).loc Cert.AdamSsmBRefIdeal.main_arg2)
          ∧ r.2.mem ((c.tc : Thread Cert.AdamSsmBRefIdeal.nD Cert.AdamSsmBRefIdeal.τ).loc Cert.AdamSsmBRefIdeal.main_arg3) = m' ((c.tc : Thread Cert.AdamSsmBRefIdeal.nD Cert.AdamSsmBRefIdeal.τ).loc Cert.AdamSsmBRefIdeal.main_arg3))

def preserves_AdamSsmC_AdamSsmCIdeal : Prop :=
  True

def algebraic_AdamSsmCIdeal_AdamSsmCRefIdeal [hAdamSsmCIdeal : Cert.AdamSsmCIdeal.Facts] [hAdamSsmCRefIdeal : Cert.AdamSsmCRefIdeal.Facts] : Prop :=
  ∀ (m : (ℓ : Loc Cert.AdamSsmCIdeal.nD Cert.AdamSsmCIdeal.τ Cert.AdamSsmCIdeal.sig) → Buf (Elt Ideal) ℓ) (g : Dev Cert.AdamSsmCIdeal.nD → PrngReg)
    (m' : (ℓ : Loc Cert.AdamSsmCRefIdeal.nD Cert.AdamSsmCRefIdeal.τ Cert.AdamSsmCRefIdeal.sig) → Buf (Elt Ideal) ℓ) (g' : Dev Cert.AdamSsmCRefIdeal.nD → PrngReg), Pre_AdamSsmCIdeal m →
    (∀ c : Dev Cert.AdamSsmCIdeal.nD,
      m' ((c.tc : Thread Cert.AdamSsmCRefIdeal.nD Cert.AdamSsmCRefIdeal.τ).loc Cert.AdamSsmCRefIdeal.main_arg0) = m ((c.tc : Thread Cert.AdamSsmCIdeal.nD Cert.AdamSsmCIdeal.τ).loc Cert.AdamSsmCIdeal.main_arg0)
      ∧ m' ((c.tc : Thread Cert.AdamSsmCRefIdeal.nD Cert.AdamSsmCRefIdeal.τ).loc Cert.AdamSsmCRefIdeal.main_arg1) = m ((c.tc : Thread Cert.AdamSsmCIdeal.nD Cert.AdamSsmCIdeal.τ).loc Cert.AdamSsmCIdeal.main_arg1)
      ∧ m' ((c.tc : Thread Cert.AdamSsmCRefIdeal.nD Cert.AdamSsmCRefIdeal.τ).loc Cert.AdamSsmCRefIdeal.main_arg2) = m ((c.tc : Thread Cert.AdamSsmCIdeal.nD Cert.AdamSsmCIdeal.τ).loc Cert.AdamSsmCIdeal.main_arg2)
      ∧ m' ((c.tc : Thread Cert.AdamSsmCRefIdeal.nD Cert.AdamSsmCRefIdeal.τ).loc Cert.AdamSsmCRefIdeal.main_arg3) = m ((c.tc : Thread Cert.AdamSsmCIdeal.nD Cert.AdamSsmCIdeal.τ).loc Cert.AdamSsmCIdeal.main_arg3)) →
    ∃ (v0 : (c : Dev Cert.AdamSsmCIdeal.nD) → Buf (Elt Ideal) ((c.tc : Thread Cert.AdamSsmCIdeal.nD Cert.AdamSsmCIdeal.τ).loc Cert.AdamSsmCIdeal.main_v4_0)) (v1 : (c : Dev Cert.AdamSsmCIdeal.nD) → Buf (Elt Ideal) ((c.tc : Thread Cert.AdamSsmCIdeal.nD Cert.AdamSsmCIdeal.τ).loc Cert.AdamSsmCIdeal.main_v4_1)) (v2 : (c : Dev Cert.AdamSsmCIdeal.nD) → Buf (Elt Ideal) ((c.tc : Thread Cert.AdamSsmCIdeal.nD Cert.AdamSsmCIdeal.τ).loc Cert.AdamSsmCIdeal.main_v4_2)),
      θ_run (Cert.AdamSsmCIdeal.defs (F := Ideal)) (onTc (τ := Cert.AdamSsmCIdeal.τ) (Cert.AdamSsmCIdeal.main (F := Ideal))) ⟨m, fun _ => 0, g⟩ (fun r => ∀ c : Dev Cert.AdamSsmCIdeal.nD,
          r.2.mem ((c.tc : Thread Cert.AdamSsmCIdeal.nD Cert.AdamSsmCIdeal.τ).loc Cert.AdamSsmCIdeal.main_v4_0) = v0 c
          ∧ r.2.mem ((c.tc : Thread Cert.AdamSsmCIdeal.nD Cert.AdamSsmCIdeal.τ).loc Cert.AdamSsmCIdeal.main_v4_1) = v1 c
          ∧ r.2.mem ((c.tc : Thread Cert.AdamSsmCIdeal.nD Cert.AdamSsmCIdeal.τ).loc Cert.AdamSsmCIdeal.main_v4_2) = v2 c
          ∧ r.2.mem ((c.tc : Thread Cert.AdamSsmCIdeal.nD Cert.AdamSsmCIdeal.τ).loc Cert.AdamSsmCIdeal.main_arg0) = m ((c.tc : Thread Cert.AdamSsmCIdeal.nD Cert.AdamSsmCIdeal.τ).loc Cert.AdamSsmCIdeal.main_arg0)
          ∧ r.2.mem ((c.tc : Thread Cert.AdamSsmCIdeal.nD Cert.AdamSsmCIdeal.τ).loc Cert.AdamSsmCIdeal.main_arg1) = m ((c.tc : Thread Cert.AdamSsmCIdeal.nD Cert.AdamSsmCIdeal.τ).loc Cert.AdamSsmCIdeal.main_arg1)
          ∧ r.2.mem ((c.tc : Thread Cert.AdamSsmCIdeal.nD Cert.AdamSsmCIdeal.τ).loc Cert.AdamSsmCIdeal.main_arg2) = m ((c.tc : Thread Cert.AdamSsmCIdeal.nD Cert.AdamSsmCIdeal.τ).loc Cert.AdamSsmCIdeal.main_arg2)
          ∧ r.2.mem ((c.tc : Thread Cert.AdamSsmCIdeal.nD Cert.AdamSsmCIdeal.τ).loc Cert.AdamSsmCIdeal.main_arg3) = m ((c.tc : Thread Cert.AdamSsmCIdeal.nD Cert.AdamSsmCIdeal.τ).loc Cert.AdamSsmCIdeal.main_arg3))
      ∧ θ_run (Cert.AdamSsmCRefIdeal.defs (F := Ideal)) (onTc (τ := Cert.AdamSsmCRefIdeal.τ) (Cert.AdamSsmCRefIdeal.main (F := Ideal))) ⟨m', fun _ => 0, g'⟩ (fun r => ∀ c : Dev Cert.AdamSsmCRefIdeal.nD,
          r.2.mem ((c.tc : Thread Cert.AdamSsmCRefIdeal.nD Cert.AdamSsmCRefIdeal.τ).loc Cert.AdamSsmCRefIdeal.main_v24) = v0 c
          ∧ r.2.mem ((c.tc : Thread Cert.AdamSsmCRefIdeal.nD Cert.AdamSsmCRefIdeal.τ).loc Cert.AdamSsmCRefIdeal.main_v25) = v1 c
          ∧ r.2.mem ((c.tc : Thread Cert.AdamSsmCRefIdeal.nD Cert.AdamSsmCRefIdeal.τ).loc Cert.AdamSsmCRefIdeal.main_v26) = v2 c
          ∧ r.2.mem ((c.tc : Thread Cert.AdamSsmCRefIdeal.nD Cert.AdamSsmCRefIdeal.τ).loc Cert.AdamSsmCRefIdeal.main_arg0) = m' ((c.tc : Thread Cert.AdamSsmCRefIdeal.nD Cert.AdamSsmCRefIdeal.τ).loc Cert.AdamSsmCRefIdeal.main_arg0)
          ∧ r.2.mem ((c.tc : Thread Cert.AdamSsmCRefIdeal.nD Cert.AdamSsmCRefIdeal.τ).loc Cert.AdamSsmCRefIdeal.main_arg1) = m' ((c.tc : Thread Cert.AdamSsmCRefIdeal.nD Cert.AdamSsmCRefIdeal.τ).loc Cert.AdamSsmCRefIdeal.main_arg1)
          ∧ r.2.mem ((c.tc : Thread Cert.AdamSsmCRefIdeal.nD Cert.AdamSsmCRefIdeal.τ).loc Cert.AdamSsmCRefIdeal.main_arg2) = m' ((c.tc : Thread Cert.AdamSsmCRefIdeal.nD Cert.AdamSsmCRefIdeal.τ).loc Cert.AdamSsmCRefIdeal.main_arg2)
          ∧ r.2.mem ((c.tc : Thread Cert.AdamSsmCRefIdeal.nD Cert.AdamSsmCRefIdeal.τ).loc Cert.AdamSsmCRefIdeal.main_arg3) = m' ((c.tc : Thread Cert.AdamSsmCRefIdeal.nD Cert.AdamSsmCRefIdeal.τ).loc Cert.AdamSsmCRefIdeal.main_arg3))

def preserves_AdamSsmD_AdamSsmDIdeal : Prop :=
  True

def algebraic_AdamSsmDIdeal_AdamSsmDRefIdeal [hAdamSsmDIdeal : Cert.AdamSsmDIdeal.Facts] [hAdamSsmDRefIdeal : Cert.AdamSsmDRefIdeal.Facts] : Prop :=
  ∀ (m : (ℓ : Loc Cert.AdamSsmDIdeal.nD Cert.AdamSsmDIdeal.τ Cert.AdamSsmDIdeal.sig) → Buf (Elt Ideal) ℓ) (g : Dev Cert.AdamSsmDIdeal.nD → PrngReg)
    (m' : (ℓ : Loc Cert.AdamSsmDRefIdeal.nD Cert.AdamSsmDRefIdeal.τ Cert.AdamSsmDRefIdeal.sig) → Buf (Elt Ideal) ℓ) (g' : Dev Cert.AdamSsmDRefIdeal.nD → PrngReg), Pre_AdamSsmDIdeal m →
    (∀ c : Dev Cert.AdamSsmDIdeal.nD,
      m' ((c.tc : Thread Cert.AdamSsmDRefIdeal.nD Cert.AdamSsmDRefIdeal.τ).loc Cert.AdamSsmDRefIdeal.main_arg0) = m ((c.tc : Thread Cert.AdamSsmDIdeal.nD Cert.AdamSsmDIdeal.τ).loc Cert.AdamSsmDIdeal.main_arg0)
      ∧ m' ((c.tc : Thread Cert.AdamSsmDRefIdeal.nD Cert.AdamSsmDRefIdeal.τ).loc Cert.AdamSsmDRefIdeal.main_arg1) = m ((c.tc : Thread Cert.AdamSsmDIdeal.nD Cert.AdamSsmDIdeal.τ).loc Cert.AdamSsmDIdeal.main_arg1)
      ∧ m' ((c.tc : Thread Cert.AdamSsmDRefIdeal.nD Cert.AdamSsmDRefIdeal.τ).loc Cert.AdamSsmDRefIdeal.main_arg2) = m ((c.tc : Thread Cert.AdamSsmDIdeal.nD Cert.AdamSsmDIdeal.τ).loc Cert.AdamSsmDIdeal.main_arg2)
      ∧ m' ((c.tc : Thread Cert.AdamSsmDRefIdeal.nD Cert.AdamSsmDRefIdeal.τ).loc Cert.AdamSsmDRefIdeal.main_arg3) = m ((c.tc : Thread Cert.AdamSsmDIdeal.nD Cert.AdamSsmDIdeal.τ).loc Cert.AdamSsmDIdeal.main_arg3)) →
    ∃ (v0 : (c : Dev Cert.AdamSsmDIdeal.nD) → Buf (Elt Ideal) ((c.tc : Thread Cert.AdamSsmDIdeal.nD Cert.AdamSsmDIdeal.τ).loc Cert.AdamSsmDIdeal.main_v0_0)) (v1 : (c : Dev Cert.AdamSsmDIdeal.nD) → Buf (Elt Ideal) ((c.tc : Thread Cert.AdamSsmDIdeal.nD Cert.AdamSsmDIdeal.τ).loc Cert.AdamSsmDIdeal.main_v0_1)) (v2 : (c : Dev Cert.AdamSsmDIdeal.nD) → Buf (Elt Ideal) ((c.tc : Thread Cert.AdamSsmDIdeal.nD Cert.AdamSsmDIdeal.τ).loc Cert.AdamSsmDIdeal.main_v0_2)),
      θ_run (Cert.AdamSsmDIdeal.defs (F := Ideal)) (onTc (τ := Cert.AdamSsmDIdeal.τ) (Cert.AdamSsmDIdeal.main (F := Ideal))) ⟨m, fun _ => 0, g⟩ (fun r => ∀ c : Dev Cert.AdamSsmDIdeal.nD,
          r.2.mem ((c.tc : Thread Cert.AdamSsmDIdeal.nD Cert.AdamSsmDIdeal.τ).loc Cert.AdamSsmDIdeal.main_v0_0) = v0 c
          ∧ r.2.mem ((c.tc : Thread Cert.AdamSsmDIdeal.nD Cert.AdamSsmDIdeal.τ).loc Cert.AdamSsmDIdeal.main_v0_1) = v1 c
          ∧ r.2.mem ((c.tc : Thread Cert.AdamSsmDIdeal.nD Cert.AdamSsmDIdeal.τ).loc Cert.AdamSsmDIdeal.main_v0_2) = v2 c
          ∧ r.2.mem ((c.tc : Thread Cert.AdamSsmDIdeal.nD Cert.AdamSsmDIdeal.τ).loc Cert.AdamSsmDIdeal.main_arg0) = m ((c.tc : Thread Cert.AdamSsmDIdeal.nD Cert.AdamSsmDIdeal.τ).loc Cert.AdamSsmDIdeal.main_arg0)
          ∧ r.2.mem ((c.tc : Thread Cert.AdamSsmDIdeal.nD Cert.AdamSsmDIdeal.τ).loc Cert.AdamSsmDIdeal.main_arg1) = m ((c.tc : Thread Cert.AdamSsmDIdeal.nD Cert.AdamSsmDIdeal.τ).loc Cert.AdamSsmDIdeal.main_arg1)
          ∧ r.2.mem ((c.tc : Thread Cert.AdamSsmDIdeal.nD Cert.AdamSsmDIdeal.τ).loc Cert.AdamSsmDIdeal.main_arg2) = m ((c.tc : Thread Cert.AdamSsmDIdeal.nD Cert.AdamSsmDIdeal.τ).loc Cert.AdamSsmDIdeal.main_arg2)
          ∧ r.2.mem ((c.tc : Thread Cert.AdamSsmDIdeal.nD Cert.AdamSsmDIdeal.τ).loc Cert.AdamSsmDIdeal.main_arg3) = m ((c.tc : Thread Cert.AdamSsmDIdeal.nD Cert.AdamSsmDIdeal.τ).loc Cert.AdamSsmDIdeal.main_arg3))
      ∧ θ_run (Cert.AdamSsmDRefIdeal.defs (F := Ideal)) (onTc (τ := Cert.AdamSsmDRefIdeal.τ) (Cert.AdamSsmDRefIdeal.main (F := Ideal))) ⟨m', fun _ => 0, g'⟩ (fun r => ∀ c : Dev Cert.AdamSsmDRefIdeal.nD,
          r.2.mem ((c.tc : Thread Cert.AdamSsmDRefIdeal.nD Cert.AdamSsmDRefIdeal.τ).loc Cert.AdamSsmDRefIdeal.main_v23) = v0 c
          ∧ r.2.mem ((c.tc : Thread Cert.AdamSsmDRefIdeal.nD Cert.AdamSsmDRefIdeal.τ).loc Cert.AdamSsmDRefIdeal.main_v4) = v1 c
          ∧ r.2.mem ((c.tc : Thread Cert.AdamSsmDRefIdeal.nD Cert.AdamSsmDRefIdeal.τ).loc Cert.AdamSsmDRefIdeal.main_v10) = v2 c
          ∧ r.2.mem ((c.tc : Thread Cert.AdamSsmDRefIdeal.nD Cert.AdamSsmDRefIdeal.τ).loc Cert.AdamSsmDRefIdeal.main_arg0) = m' ((c.tc : Thread Cert.AdamSsmDRefIdeal.nD Cert.AdamSsmDRefIdeal.τ).loc Cert.AdamSsmDRefIdeal.main_arg0)
          ∧ r.2.mem ((c.tc : Thread Cert.AdamSsmDRefIdeal.nD Cert.AdamSsmDRefIdeal.τ).loc Cert.AdamSsmDRefIdeal.main_arg1) = m' ((c.tc : Thread Cert.AdamSsmDRefIdeal.nD Cert.AdamSsmDRefIdeal.τ).loc Cert.AdamSsmDRefIdeal.main_arg1)
          ∧ r.2.mem ((c.tc : Thread Cert.AdamSsmDRefIdeal.nD Cert.AdamSsmDRefIdeal.τ).loc Cert.AdamSsmDRefIdeal.main_arg2) = m' ((c.tc : Thread Cert.AdamSsmDRefIdeal.nD Cert.AdamSsmDRefIdeal.τ).loc Cert.AdamSsmDRefIdeal.main_arg2)
          ∧ r.2.mem ((c.tc : Thread Cert.AdamSsmDRefIdeal.nD Cert.AdamSsmDRefIdeal.τ).loc Cert.AdamSsmDRefIdeal.main_arg3) = m' ((c.tc : Thread Cert.AdamSsmDRefIdeal.nD Cert.AdamSsmDRefIdeal.τ).loc Cert.AdamSsmDRefIdeal.main_arg3))

def preserves_AdamMixIn_AdamMixInIdeal : Prop :=
  True

def algebraic_AdamMixInIdeal_AdamMixInRefIdeal [hAdamMixInIdeal : Cert.AdamMixInIdeal.Facts] [hAdamMixInRefIdeal : Cert.AdamMixInRefIdeal.Facts] : Prop :=
  ∀ (m : (ℓ : Loc Cert.AdamMixInIdeal.nD Cert.AdamMixInIdeal.τ Cert.AdamMixInIdeal.sig) → Buf (Elt Ideal) ℓ) (g : Dev Cert.AdamMixInIdeal.nD → PrngReg)
    (m' : (ℓ : Loc Cert.AdamMixInRefIdeal.nD Cert.AdamMixInRefIdeal.τ Cert.AdamMixInRefIdeal.sig) → Buf (Elt Ideal) ℓ) (g' : Dev Cert.AdamMixInRefIdeal.nD → PrngReg), Pre_AdamMixInIdeal m →
    (∀ c : Dev Cert.AdamMixInIdeal.nD,
      m' ((c.tc : Thread Cert.AdamMixInRefIdeal.nD Cert.AdamMixInRefIdeal.τ).loc Cert.AdamMixInRefIdeal.main_arg0) = m ((c.tc : Thread Cert.AdamMixInIdeal.nD Cert.AdamMixInIdeal.τ).loc Cert.AdamMixInIdeal.main_arg0)
      ∧ m' ((c.tc : Thread Cert.AdamMixInRefIdeal.nD Cert.AdamMixInRefIdeal.τ).loc Cert.AdamMixInRefIdeal.main_arg1) = m ((c.tc : Thread Cert.AdamMixInIdeal.nD Cert.AdamMixInIdeal.τ).loc Cert.AdamMixInIdeal.main_arg1)
      ∧ m' ((c.tc : Thread Cert.AdamMixInRefIdeal.nD Cert.AdamMixInRefIdeal.τ).loc Cert.AdamMixInRefIdeal.main_arg2) = m ((c.tc : Thread Cert.AdamMixInIdeal.nD Cert.AdamMixInIdeal.τ).loc Cert.AdamMixInIdeal.main_arg2)
      ∧ m' ((c.tc : Thread Cert.AdamMixInRefIdeal.nD Cert.AdamMixInRefIdeal.τ).loc Cert.AdamMixInRefIdeal.main_arg3) = m ((c.tc : Thread Cert.AdamMixInIdeal.nD Cert.AdamMixInIdeal.τ).loc Cert.AdamMixInIdeal.main_arg3)) →
    ∃ (v0 : (c : Dev Cert.AdamMixInIdeal.nD) → Buf (Elt Ideal) ((c.tc : Thread Cert.AdamMixInIdeal.nD Cert.AdamMixInIdeal.τ).loc Cert.AdamMixInIdeal.main_v4_0)) (v1 : (c : Dev Cert.AdamMixInIdeal.nD) → Buf (Elt Ideal) ((c.tc : Thread Cert.AdamMixInIdeal.nD Cert.AdamMixInIdeal.τ).loc Cert.AdamMixInIdeal.main_v4_1)) (v2 : (c : Dev Cert.AdamMixInIdeal.nD) → Buf (Elt Ideal) ((c.tc : Thread Cert.AdamMixInIdeal.nD Cert.AdamMixInIdeal.τ).loc Cert.AdamMixInIdeal.main_v4_2)),
      θ_run (Cert.AdamMixInIdeal.defs (F := Ideal)) (onTc (τ := Cert.AdamMixInIdeal.τ) (Cert.AdamMixInIdeal.main (F := Ideal))) ⟨m, fun _ => 0, g⟩ (fun r => ∀ c : Dev Cert.AdamMixInIdeal.nD,
          r.2.mem ((c.tc : Thread Cert.AdamMixInIdeal.nD Cert.AdamMixInIdeal.τ).loc Cert.AdamMixInIdeal.main_v4_0) = v0 c
          ∧ r.2.mem ((c.tc : Thread Cert.AdamMixInIdeal.nD Cert.AdamMixInIdeal.τ).loc Cert.AdamMixInIdeal.main_v4_1) = v1 c
          ∧ r.2.mem ((c.tc : Thread Cert.AdamMixInIdeal.nD Cert.AdamMixInIdeal.τ).loc Cert.AdamMixInIdeal.main_v4_2) = v2 c
          ∧ r.2.mem ((c.tc : Thread Cert.AdamMixInIdeal.nD Cert.AdamMixInIdeal.τ).loc Cert.AdamMixInIdeal.main_arg0) = m ((c.tc : Thread Cert.AdamMixInIdeal.nD Cert.AdamMixInIdeal.τ).loc Cert.AdamMixInIdeal.main_arg0)
          ∧ r.2.mem ((c.tc : Thread Cert.AdamMixInIdeal.nD Cert.AdamMixInIdeal.τ).loc Cert.AdamMixInIdeal.main_arg1) = m ((c.tc : Thread Cert.AdamMixInIdeal.nD Cert.AdamMixInIdeal.τ).loc Cert.AdamMixInIdeal.main_arg1)
          ∧ r.2.mem ((c.tc : Thread Cert.AdamMixInIdeal.nD Cert.AdamMixInIdeal.τ).loc Cert.AdamMixInIdeal.main_arg2) = m ((c.tc : Thread Cert.AdamMixInIdeal.nD Cert.AdamMixInIdeal.τ).loc Cert.AdamMixInIdeal.main_arg2)
          ∧ r.2.mem ((c.tc : Thread Cert.AdamMixInIdeal.nD Cert.AdamMixInIdeal.τ).loc Cert.AdamMixInIdeal.main_arg3) = m ((c.tc : Thread Cert.AdamMixInIdeal.nD Cert.AdamMixInIdeal.τ).loc Cert.AdamMixInIdeal.main_arg3))
      ∧ θ_run (Cert.AdamMixInRefIdeal.defs (F := Ideal)) (onTc (τ := Cert.AdamMixInRefIdeal.τ) (Cert.AdamMixInRefIdeal.main (F := Ideal))) ⟨m', fun _ => 0, g'⟩ (fun r => ∀ c : Dev Cert.AdamMixInRefIdeal.nD,
          r.2.mem ((c.tc : Thread Cert.AdamMixInRefIdeal.nD Cert.AdamMixInRefIdeal.τ).loc Cert.AdamMixInRefIdeal.main_v24) = v0 c
          ∧ r.2.mem ((c.tc : Thread Cert.AdamMixInRefIdeal.nD Cert.AdamMixInRefIdeal.τ).loc Cert.AdamMixInRefIdeal.main_v25) = v1 c
          ∧ r.2.mem ((c.tc : Thread Cert.AdamMixInRefIdeal.nD Cert.AdamMixInRefIdeal.τ).loc Cert.AdamMixInRefIdeal.main_v26) = v2 c
          ∧ r.2.mem ((c.tc : Thread Cert.AdamMixInRefIdeal.nD Cert.AdamMixInRefIdeal.τ).loc Cert.AdamMixInRefIdeal.main_arg0) = m' ((c.tc : Thread Cert.AdamMixInRefIdeal.nD Cert.AdamMixInRefIdeal.τ).loc Cert.AdamMixInRefIdeal.main_arg0)
          ∧ r.2.mem ((c.tc : Thread Cert.AdamMixInRefIdeal.nD Cert.AdamMixInRefIdeal.τ).loc Cert.AdamMixInRefIdeal.main_arg1) = m' ((c.tc : Thread Cert.AdamMixInRefIdeal.nD Cert.AdamMixInRefIdeal.τ).loc Cert.AdamMixInRefIdeal.main_arg1)
          ∧ r.2.mem ((c.tc : Thread Cert.AdamMixInRefIdeal.nD Cert.AdamMixInRefIdeal.τ).loc Cert.AdamMixInRefIdeal.main_arg2) = m' ((c.tc : Thread Cert.AdamMixInRefIdeal.nD Cert.AdamMixInRefIdeal.τ).loc Cert.AdamMixInRefIdeal.main_arg2)
          ∧ r.2.mem ((c.tc : Thread Cert.AdamMixInRefIdeal.nD Cert.AdamMixInRefIdeal.τ).loc Cert.AdamMixInRefIdeal.main_arg3) = m' ((c.tc : Thread Cert.AdamMixInRefIdeal.nD Cert.AdamMixInRefIdeal.τ).loc Cert.AdamMixInRefIdeal.main_arg3))

def preserves_AdamMixBias_AdamMixBiasIdeal : Prop :=
  True

def algebraic_AdamMixBiasIdeal_AdamMixBiasRefIdeal [hAdamMixBiasIdeal : Cert.AdamMixBiasIdeal.Facts] [hAdamMixBiasRefIdeal : Cert.AdamMixBiasRefIdeal.Facts] : Prop :=
  ∀ (m : (ℓ : Loc Cert.AdamMixBiasIdeal.nD Cert.AdamMixBiasIdeal.τ Cert.AdamMixBiasIdeal.sig) → Buf (Elt Ideal) ℓ) (g : Dev Cert.AdamMixBiasIdeal.nD → PrngReg)
    (m' : (ℓ : Loc Cert.AdamMixBiasRefIdeal.nD Cert.AdamMixBiasRefIdeal.τ Cert.AdamMixBiasRefIdeal.sig) → Buf (Elt Ideal) ℓ) (g' : Dev Cert.AdamMixBiasRefIdeal.nD → PrngReg), Pre_AdamMixBiasIdeal m →
    (∀ c : Dev Cert.AdamMixBiasIdeal.nD,
      m' ((c.tc : Thread Cert.AdamMixBiasRefIdeal.nD Cert.AdamMixBiasRefIdeal.τ).loc Cert.AdamMixBiasRefIdeal.main_arg0) = m ((c.tc : Thread Cert.AdamMixBiasIdeal.nD Cert.AdamMixBiasIdeal.τ).loc Cert.AdamMixBiasIdeal.main_arg0)
      ∧ m' ((c.tc : Thread Cert.AdamMixBiasRefIdeal.nD Cert.AdamMixBiasRefIdeal.τ).loc Cert.AdamMixBiasRefIdeal.main_arg1) = m ((c.tc : Thread Cert.AdamMixBiasIdeal.nD Cert.AdamMixBiasIdeal.τ).loc Cert.AdamMixBiasIdeal.main_arg1)
      ∧ m' ((c.tc : Thread Cert.AdamMixBiasRefIdeal.nD Cert.AdamMixBiasRefIdeal.τ).loc Cert.AdamMixBiasRefIdeal.main_arg2) = m ((c.tc : Thread Cert.AdamMixBiasIdeal.nD Cert.AdamMixBiasIdeal.τ).loc Cert.AdamMixBiasIdeal.main_arg2)
      ∧ m' ((c.tc : Thread Cert.AdamMixBiasRefIdeal.nD Cert.AdamMixBiasRefIdeal.τ).loc Cert.AdamMixBiasRefIdeal.main_arg3) = m ((c.tc : Thread Cert.AdamMixBiasIdeal.nD Cert.AdamMixBiasIdeal.τ).loc Cert.AdamMixBiasIdeal.main_arg3)) →
    ∃ (v0 : (c : Dev Cert.AdamMixBiasIdeal.nD) → Buf (Elt Ideal) ((c.tc : Thread Cert.AdamMixBiasIdeal.nD Cert.AdamMixBiasIdeal.τ).loc Cert.AdamMixBiasIdeal.main_v0_0)) (v1 : (c : Dev Cert.AdamMixBiasIdeal.nD) → Buf (Elt Ideal) ((c.tc : Thread Cert.AdamMixBiasIdeal.nD Cert.AdamMixBiasIdeal.τ).loc Cert.AdamMixBiasIdeal.main_v0_1)) (v2 : (c : Dev Cert.AdamMixBiasIdeal.nD) → Buf (Elt Ideal) ((c.tc : Thread Cert.AdamMixBiasIdeal.nD Cert.AdamMixBiasIdeal.τ).loc Cert.AdamMixBiasIdeal.main_v0_2)),
      θ_run (Cert.AdamMixBiasIdeal.defs (F := Ideal)) (onTc (τ := Cert.AdamMixBiasIdeal.τ) (Cert.AdamMixBiasIdeal.main (F := Ideal))) ⟨m, fun _ => 0, g⟩ (fun r => ∀ c : Dev Cert.AdamMixBiasIdeal.nD,
          r.2.mem ((c.tc : Thread Cert.AdamMixBiasIdeal.nD Cert.AdamMixBiasIdeal.τ).loc Cert.AdamMixBiasIdeal.main_v0_0) = v0 c
          ∧ r.2.mem ((c.tc : Thread Cert.AdamMixBiasIdeal.nD Cert.AdamMixBiasIdeal.τ).loc Cert.AdamMixBiasIdeal.main_v0_1) = v1 c
          ∧ r.2.mem ((c.tc : Thread Cert.AdamMixBiasIdeal.nD Cert.AdamMixBiasIdeal.τ).loc Cert.AdamMixBiasIdeal.main_v0_2) = v2 c
          ∧ r.2.mem ((c.tc : Thread Cert.AdamMixBiasIdeal.nD Cert.AdamMixBiasIdeal.τ).loc Cert.AdamMixBiasIdeal.main_arg0) = m ((c.tc : Thread Cert.AdamMixBiasIdeal.nD Cert.AdamMixBiasIdeal.τ).loc Cert.AdamMixBiasIdeal.main_arg0)
          ∧ r.2.mem ((c.tc : Thread Cert.AdamMixBiasIdeal.nD Cert.AdamMixBiasIdeal.τ).loc Cert.AdamMixBiasIdeal.main_arg1) = m ((c.tc : Thread Cert.AdamMixBiasIdeal.nD Cert.AdamMixBiasIdeal.τ).loc Cert.AdamMixBiasIdeal.main_arg1)
          ∧ r.2.mem ((c.tc : Thread Cert.AdamMixBiasIdeal.nD Cert.AdamMixBiasIdeal.τ).loc Cert.AdamMixBiasIdeal.main_arg2) = m ((c.tc : Thread Cert.AdamMixBiasIdeal.nD Cert.AdamMixBiasIdeal.τ).loc Cert.AdamMixBiasIdeal.main_arg2)
          ∧ r.2.mem ((c.tc : Thread Cert.AdamMixBiasIdeal.nD Cert.AdamMixBiasIdeal.τ).loc Cert.AdamMixBiasIdeal.main_arg3) = m ((c.tc : Thread Cert.AdamMixBiasIdeal.nD Cert.AdamMixBiasIdeal.τ).loc Cert.AdamMixBiasIdeal.main_arg3))
      ∧ θ_run (Cert.AdamMixBiasRefIdeal.defs (F := Ideal)) (onTc (τ := Cert.AdamMixBiasRefIdeal.τ) (Cert.AdamMixBiasRefIdeal.main (F := Ideal))) ⟨m', fun _ => 0, g'⟩ (fun r => ∀ c : Dev Cert.AdamMixBiasRefIdeal.nD,
          r.2.mem ((c.tc : Thread Cert.AdamMixBiasRefIdeal.nD Cert.AdamMixBiasRefIdeal.τ).loc Cert.AdamMixBiasRefIdeal.main_v23) = v0 c
          ∧ r.2.mem ((c.tc : Thread Cert.AdamMixBiasRefIdeal.nD Cert.AdamMixBiasRefIdeal.τ).loc Cert.AdamMixBiasRefIdeal.main_v4) = v1 c
          ∧ r.2.mem ((c.tc : Thread Cert.AdamMixBiasRefIdeal.nD Cert.AdamMixBiasRefIdeal.τ).loc Cert.AdamMixBiasRefIdeal.main_v10) = v2 c
          ∧ r.2.mem ((c.tc : Thread Cert.AdamMixBiasRefIdeal.nD Cert.AdamMixBiasRefIdeal.τ).loc Cert.AdamMixBiasRefIdeal.main_arg0) = m' ((c.tc : Thread Cert.AdamMixBiasRefIdeal.nD Cert.AdamMixBiasRefIdeal.τ).loc Cert.AdamMixBiasRefIdeal.main_arg0)
          ∧ r.2.mem ((c.tc : Thread Cert.AdamMixBiasRefIdeal.nD Cert.AdamMixBiasRefIdeal.τ).loc Cert.AdamMixBiasRefIdeal.main_arg1) = m' ((c.tc : Thread Cert.AdamMixBiasRefIdeal.nD Cert.AdamMixBiasRefIdeal.τ).loc Cert.AdamMixBiasRefIdeal.main_arg1)
          ∧ r.2.mem ((c.tc : Thread Cert.AdamMixBiasRefIdeal.nD Cert.AdamMixBiasRefIdeal.τ).loc Cert.AdamMixBiasRefIdeal.main_arg2) = m' ((c.tc : Thread Cert.AdamMixBiasRefIdeal.nD Cert.AdamMixBiasRefIdeal.τ).loc Cert.AdamMixBiasRefIdeal.main_arg2)
          ∧ r.2.mem ((c.tc : Thread Cert.AdamMixBiasRefIdeal.nD Cert.AdamMixBiasRefIdeal.τ).loc Cert.AdamMixBiasRefIdeal.main_arg3) = m' ((c.tc : Thread Cert.AdamMixBiasRefIdeal.nD Cert.AdamMixBiasRefIdeal.τ).loc Cert.AdamMixBiasRefIdeal.main_arg3))

def preserves_AdamMixNorm_AdamMixNormIdeal : Prop :=
  True

def algebraic_AdamMixNormIdeal_AdamMixNormRefIdeal [hAdamMixNormIdeal : Cert.AdamMixNormIdeal.Facts] [hAdamMixNormRefIdeal : Cert.AdamMixNormRefIdeal.Facts] : Prop :=
  ∀ (m : (ℓ : Loc Cert.AdamMixNormIdeal.nD Cert.AdamMixNormIdeal.τ Cert.AdamMixNormIdeal.sig) → Buf (Elt Ideal) ℓ) (g : Dev Cert.AdamMixNormIdeal.nD → PrngReg)
    (m' : (ℓ : Loc Cert.AdamMixNormRefIdeal.nD Cert.AdamMixNormRefIdeal.τ Cert.AdamMixNormRefIdeal.sig) → Buf (Elt Ideal) ℓ) (g' : Dev Cert.AdamMixNormRefIdeal.nD → PrngReg), Pre_AdamMixNormIdeal m →
    (∀ c : Dev Cert.AdamMixNormIdeal.nD,
      m' ((c.tc : Thread Cert.AdamMixNormRefIdeal.nD Cert.AdamMixNormRefIdeal.τ).loc Cert.AdamMixNormRefIdeal.main_arg0) = m ((c.tc : Thread Cert.AdamMixNormIdeal.nD Cert.AdamMixNormIdeal.τ).loc Cert.AdamMixNormIdeal.main_arg0)
      ∧ m' ((c.tc : Thread Cert.AdamMixNormRefIdeal.nD Cert.AdamMixNormRefIdeal.τ).loc Cert.AdamMixNormRefIdeal.main_arg1) = m ((c.tc : Thread Cert.AdamMixNormIdeal.nD Cert.AdamMixNormIdeal.τ).loc Cert.AdamMixNormIdeal.main_arg1)
      ∧ m' ((c.tc : Thread Cert.AdamMixNormRefIdeal.nD Cert.AdamMixNormRefIdeal.τ).loc Cert.AdamMixNormRefIdeal.main_arg2) = m ((c.tc : Thread Cert.AdamMixNormIdeal.nD Cert.AdamMixNormIdeal.τ).loc Cert.AdamMixNormIdeal.main_arg2)
      ∧ m' ((c.tc : Thread Cert.AdamMixNormRefIdeal.nD Cert.AdamMixNormRefIdeal.τ).loc Cert.AdamMixNormRefIdeal.main_arg3) = m ((c.tc : Thread Cert.AdamMixNormIdeal.nD Cert.AdamMixNormIdeal.τ).loc Cert.AdamMixNormIdeal.main_arg3)) →
    ∃ (v0 : (c : Dev Cert.AdamMixNormIdeal.nD) → Buf (Elt Ideal) ((c.tc : Thread Cert.AdamMixNormIdeal.nD Cert.AdamMixNormIdeal.τ).loc Cert.AdamMixNormIdeal.main_v0_0)) (v1 : (c : Dev Cert.AdamMixNormIdeal.nD) → Buf (Elt Ideal) ((c.tc : Thread Cert.AdamMixNormIdeal.nD Cert.AdamMixNormIdeal.τ).loc Cert.AdamMixNormIdeal.main_v0_1)) (v2 : (c : Dev Cert.AdamMixNormIdeal.nD) → Buf (Elt Ideal) ((c.tc : Thread Cert.AdamMixNormIdeal.nD Cert.AdamMixNormIdeal.τ).loc Cert.AdamMixNormIdeal.main_v0_2)),
      θ_run (Cert.AdamMixNormIdeal.defs (F := Ideal)) (onTc (τ := Cert.AdamMixNormIdeal.τ) (Cert.AdamMixNormIdeal.main (F := Ideal))) ⟨m, fun _ => 0, g⟩ (fun r => ∀ c : Dev Cert.AdamMixNormIdeal.nD,
          r.2.mem ((c.tc : Thread Cert.AdamMixNormIdeal.nD Cert.AdamMixNormIdeal.τ).loc Cert.AdamMixNormIdeal.main_v0_0) = v0 c
          ∧ r.2.mem ((c.tc : Thread Cert.AdamMixNormIdeal.nD Cert.AdamMixNormIdeal.τ).loc Cert.AdamMixNormIdeal.main_v0_1) = v1 c
          ∧ r.2.mem ((c.tc : Thread Cert.AdamMixNormIdeal.nD Cert.AdamMixNormIdeal.τ).loc Cert.AdamMixNormIdeal.main_v0_2) = v2 c
          ∧ r.2.mem ((c.tc : Thread Cert.AdamMixNormIdeal.nD Cert.AdamMixNormIdeal.τ).loc Cert.AdamMixNormIdeal.main_arg0) = m ((c.tc : Thread Cert.AdamMixNormIdeal.nD Cert.AdamMixNormIdeal.τ).loc Cert.AdamMixNormIdeal.main_arg0)
          ∧ r.2.mem ((c.tc : Thread Cert.AdamMixNormIdeal.nD Cert.AdamMixNormIdeal.τ).loc Cert.AdamMixNormIdeal.main_arg1) = m ((c.tc : Thread Cert.AdamMixNormIdeal.nD Cert.AdamMixNormIdeal.τ).loc Cert.AdamMixNormIdeal.main_arg1)
          ∧ r.2.mem ((c.tc : Thread Cert.AdamMixNormIdeal.nD Cert.AdamMixNormIdeal.τ).loc Cert.AdamMixNormIdeal.main_arg2) = m ((c.tc : Thread Cert.AdamMixNormIdeal.nD Cert.AdamMixNormIdeal.τ).loc Cert.AdamMixNormIdeal.main_arg2)
          ∧ r.2.mem ((c.tc : Thread Cert.AdamMixNormIdeal.nD Cert.AdamMixNormIdeal.τ).loc Cert.AdamMixNormIdeal.main_arg3) = m ((c.tc : Thread Cert.AdamMixNormIdeal.nD Cert.AdamMixNormIdeal.τ).loc Cert.AdamMixNormIdeal.main_arg3))
      ∧ θ_run (Cert.AdamMixNormRefIdeal.defs (F := Ideal)) (onTc (τ := Cert.AdamMixNormRefIdeal.τ) (Cert.AdamMixNormRefIdeal.main (F := Ideal))) ⟨m', fun _ => 0, g'⟩ (fun r => ∀ c : Dev Cert.AdamMixNormRefIdeal.nD,
          r.2.mem ((c.tc : Thread Cert.AdamMixNormRefIdeal.nD Cert.AdamMixNormRefIdeal.τ).loc Cert.AdamMixNormRefIdeal.main_v23) = v0 c
          ∧ r.2.mem ((c.tc : Thread Cert.AdamMixNormRefIdeal.nD Cert.AdamMixNormRefIdeal.τ).loc Cert.AdamMixNormRefIdeal.main_v4) = v1 c
          ∧ r.2.mem ((c.tc : Thread Cert.AdamMixNormRefIdeal.nD Cert.AdamMixNormRefIdeal.τ).loc Cert.AdamMixNormRefIdeal.main_v10) = v2 c
          ∧ r.2.mem ((c.tc : Thread Cert.AdamMixNormRefIdeal.nD Cert.AdamMixNormRefIdeal.τ).loc Cert.AdamMixNormRefIdeal.main_arg0) = m' ((c.tc : Thread Cert.AdamMixNormRefIdeal.nD Cert.AdamMixNormRefIdeal.τ).loc Cert.AdamMixNormRefIdeal.main_arg0)
          ∧ r.2.mem ((c.tc : Thread Cert.AdamMixNormRefIdeal.nD Cert.AdamMixNormRefIdeal.τ).loc Cert.AdamMixNormRefIdeal.main_arg1) = m' ((c.tc : Thread Cert.AdamMixNormRefIdeal.nD Cert.AdamMixNormRefIdeal.τ).loc Cert.AdamMixNormRefIdeal.main_arg1)
          ∧ r.2.mem ((c.tc : Thread Cert.AdamMixNormRefIdeal.nD Cert.AdamMixNormRefIdeal.τ).loc Cert.AdamMixNormRefIdeal.main_arg2) = m' ((c.tc : Thread Cert.AdamMixNormRefIdeal.nD Cert.AdamMixNormRefIdeal.τ).loc Cert.AdamMixNormRefIdeal.main_arg2)
          ∧ r.2.mem ((c.tc : Thread Cert.AdamMixNormRefIdeal.nD Cert.AdamMixNormRefIdeal.τ).loc Cert.AdamMixNormRefIdeal.main_arg3) = m' ((c.tc : Thread Cert.AdamMixNormRefIdeal.nD Cert.AdamMixNormRefIdeal.τ).loc Cert.AdamMixNormRefIdeal.main_arg3))

def preserves_AdamMixW_AdamMixWIdeal : Prop :=
  True

def algebraic_AdamMixWIdeal_AdamMixWRefIdeal [hAdamMixWIdeal : Cert.AdamMixWIdeal.Facts] [hAdamMixWRefIdeal : Cert.AdamMixWRefIdeal.Facts] : Prop :=
  ∀ (m : (ℓ : Loc Cert.AdamMixWIdeal.nD Cert.AdamMixWIdeal.τ Cert.AdamMixWIdeal.sig) → Buf (Elt Ideal) ℓ) (g : Dev Cert.AdamMixWIdeal.nD → PrngReg)
    (m' : (ℓ : Loc Cert.AdamMixWRefIdeal.nD Cert.AdamMixWRefIdeal.τ Cert.AdamMixWRefIdeal.sig) → Buf (Elt Ideal) ℓ) (g' : Dev Cert.AdamMixWRefIdeal.nD → PrngReg), Pre_AdamMixWIdeal m →
    (∀ c : Dev Cert.AdamMixWIdeal.nD,
      m' ((c.tc : Thread Cert.AdamMixWRefIdeal.nD Cert.AdamMixWRefIdeal.τ).loc Cert.AdamMixWRefIdeal.main_arg0) = m ((c.tc : Thread Cert.AdamMixWIdeal.nD Cert.AdamMixWIdeal.τ).loc Cert.AdamMixWIdeal.main_arg0)
      ∧ m' ((c.tc : Thread Cert.AdamMixWRefIdeal.nD Cert.AdamMixWRefIdeal.τ).loc Cert.AdamMixWRefIdeal.main_arg1) = m ((c.tc : Thread Cert.AdamMixWIdeal.nD Cert.AdamMixWIdeal.τ).loc Cert.AdamMixWIdeal.main_arg1)
      ∧ m' ((c.tc : Thread Cert.AdamMixWRefIdeal.nD Cert.AdamMixWRefIdeal.τ).loc Cert.AdamMixWRefIdeal.main_arg2) = m ((c.tc : Thread Cert.AdamMixWIdeal.nD Cert.AdamMixWIdeal.τ).loc Cert.AdamMixWIdeal.main_arg2)
      ∧ m' ((c.tc : Thread Cert.AdamMixWRefIdeal.nD Cert.AdamMixWRefIdeal.τ).loc Cert.AdamMixWRefIdeal.main_arg3) = m ((c.tc : Thread Cert.AdamMixWIdeal.nD Cert.AdamMixWIdeal.τ).loc Cert.AdamMixWIdeal.main_arg3)) →
    ∃ (v0 : (c : Dev Cert.AdamMixWIdeal.nD) → Buf (Elt Ideal) ((c.tc : Thread Cert.AdamMixWIdeal.nD Cert.AdamMixWIdeal.τ).loc Cert.AdamMixWIdeal.main_v4_0)) (v1 : (c : Dev Cert.AdamMixWIdeal.nD) → Buf (Elt Ideal) ((c.tc : Thread Cert.AdamMixWIdeal.nD Cert.AdamMixWIdeal.τ).loc Cert.AdamMixWIdeal.main_v4_1)) (v2 : (c : Dev Cert.AdamMixWIdeal.nD) → Buf (Elt Ideal) ((c.tc : Thread Cert.AdamMixWIdeal.nD Cert.AdamMixWIdeal.τ).loc Cert.AdamMixWIdeal.main_v4_2)),
      θ_run (Cert.AdamMixWIdeal.defs (F := Ideal)) (onTc (τ := Cert.AdamMixWIdeal.τ) (Cert.AdamMixWIdeal.main (F := Ideal))) ⟨m, fun _ => 0, g⟩ (fun r => ∀ c : Dev Cert.AdamMixWIdeal.nD,
          r.2.mem ((c.tc : Thread Cert.AdamMixWIdeal.nD Cert.AdamMixWIdeal.τ).loc Cert.AdamMixWIdeal.main_v4_0) = v0 c
          ∧ r.2.mem ((c.tc : Thread Cert.AdamMixWIdeal.nD Cert.AdamMixWIdeal.τ).loc Cert.AdamMixWIdeal.main_v4_1) = v1 c
          ∧ r.2.mem ((c.tc : Thread Cert.AdamMixWIdeal.nD Cert.AdamMixWIdeal.τ).loc Cert.AdamMixWIdeal.main_v4_2) = v2 c
          ∧ r.2.mem ((c.tc : Thread Cert.AdamMixWIdeal.nD Cert.AdamMixWIdeal.τ).loc Cert.AdamMixWIdeal.main_arg0) = m ((c.tc : Thread Cert.AdamMixWIdeal.nD Cert.AdamMixWIdeal.τ).loc Cert.AdamMixWIdeal.main_arg0)
          ∧ r.2.mem ((c.tc : Thread Cert.AdamMixWIdeal.nD Cert.AdamMixWIdeal.τ).loc Cert.AdamMixWIdeal.main_arg1) = m ((c.tc : Thread Cert.AdamMixWIdeal.nD Cert.AdamMixWIdeal.τ).loc Cert.AdamMixWIdeal.main_arg1)
          ∧ r.2.mem ((c.tc : Thread Cert.AdamMixWIdeal.nD Cert.AdamMixWIdeal.τ).loc Cert.AdamMixWIdeal.main_arg2) = m ((c.tc : Thread Cert.AdamMixWIdeal.nD Cert.AdamMixWIdeal.τ).loc Cert.AdamMixWIdeal.main_arg2)
          ∧ r.2.mem ((c.tc : Thread Cert.AdamMixWIdeal.nD Cert.AdamMixWIdeal.τ).loc Cert.AdamMixWIdeal.main_arg3) = m ((c.tc : Thread Cert.AdamMixWIdeal.nD Cert.AdamMixWIdeal.τ).loc Cert.AdamMixWIdeal.main_arg3))
      ∧ θ_run (Cert.AdamMixWRefIdeal.defs (F := Ideal)) (onTc (τ := Cert.AdamMixWRefIdeal.τ) (Cert.AdamMixWRefIdeal.main (F := Ideal))) ⟨m', fun _ => 0, g'⟩ (fun r => ∀ c : Dev Cert.AdamMixWRefIdeal.nD,
          r.2.mem ((c.tc : Thread Cert.AdamMixWRefIdeal.nD Cert.AdamMixWRefIdeal.τ).loc Cert.AdamMixWRefIdeal.main_v24) = v0 c
          ∧ r.2.mem ((c.tc : Thread Cert.AdamMixWRefIdeal.nD Cert.AdamMixWRefIdeal.τ).loc Cert.AdamMixWRefIdeal.main_v25) = v1 c
          ∧ r.2.mem ((c.tc : Thread Cert.AdamMixWRefIdeal.nD Cert.AdamMixWRefIdeal.τ).loc Cert.AdamMixWRefIdeal.main_v26) = v2 c
          ∧ r.2.mem ((c.tc : Thread Cert.AdamMixWRefIdeal.nD Cert.AdamMixWRefIdeal.τ).loc Cert.AdamMixWRefIdeal.main_arg0) = m' ((c.tc : Thread Cert.AdamMixWRefIdeal.nD Cert.AdamMixWRefIdeal.τ).loc Cert.AdamMixWRefIdeal.main_arg0)
          ∧ r.2.mem ((c.tc : Thread Cert.AdamMixWRefIdeal.nD Cert.AdamMixWRefIdeal.τ).loc Cert.AdamMixWRefIdeal.main_arg1) = m' ((c.tc : Thread Cert.AdamMixWRefIdeal.nD Cert.AdamMixWRefIdeal.τ).loc Cert.AdamMixWRefIdeal.main_arg1)
          ∧ r.2.mem ((c.tc : Thread Cert.AdamMixWRefIdeal.nD Cert.AdamMixWRefIdeal.τ).loc Cert.AdamMixWRefIdeal.main_arg2) = m' ((c.tc : Thread Cert.AdamMixWRefIdeal.nD Cert.AdamMixWRefIdeal.τ).loc Cert.AdamMixWRefIdeal.main_arg2)
          ∧ r.2.mem ((c.tc : Thread Cert.AdamMixWRefIdeal.nD Cert.AdamMixWRefIdeal.τ).loc Cert.AdamMixWRefIdeal.main_arg3) = m' ((c.tc : Thread Cert.AdamMixWRefIdeal.nD Cert.AdamMixWRefIdeal.τ).loc Cert.AdamMixWRefIdeal.main_arg3))

def preserves_AdamMixB_AdamMixBIdeal : Prop :=
  True

def algebraic_AdamMixBIdeal_AdamMixBRefIdeal [hAdamMixBIdeal : Cert.AdamMixBIdeal.Facts] [hAdamMixBRefIdeal : Cert.AdamMixBRefIdeal.Facts] : Prop :=
  ∀ (m : (ℓ : Loc Cert.AdamMixBIdeal.nD Cert.AdamMixBIdeal.τ Cert.AdamMixBIdeal.sig) → Buf (Elt Ideal) ℓ) (g : Dev Cert.AdamMixBIdeal.nD → PrngReg)
    (m' : (ℓ : Loc Cert.AdamMixBRefIdeal.nD Cert.AdamMixBRefIdeal.τ Cert.AdamMixBRefIdeal.sig) → Buf (Elt Ideal) ℓ) (g' : Dev Cert.AdamMixBRefIdeal.nD → PrngReg), Pre_AdamMixBIdeal m →
    (∀ c : Dev Cert.AdamMixBIdeal.nD,
      m' ((c.tc : Thread Cert.AdamMixBRefIdeal.nD Cert.AdamMixBRefIdeal.τ).loc Cert.AdamMixBRefIdeal.main_arg0) = m ((c.tc : Thread Cert.AdamMixBIdeal.nD Cert.AdamMixBIdeal.τ).loc Cert.AdamMixBIdeal.main_arg0)
      ∧ m' ((c.tc : Thread Cert.AdamMixBRefIdeal.nD Cert.AdamMixBRefIdeal.τ).loc Cert.AdamMixBRefIdeal.main_arg1) = m ((c.tc : Thread Cert.AdamMixBIdeal.nD Cert.AdamMixBIdeal.τ).loc Cert.AdamMixBIdeal.main_arg1)
      ∧ m' ((c.tc : Thread Cert.AdamMixBRefIdeal.nD Cert.AdamMixBRefIdeal.τ).loc Cert.AdamMixBRefIdeal.main_arg2) = m ((c.tc : Thread Cert.AdamMixBIdeal.nD Cert.AdamMixBIdeal.τ).loc Cert.AdamMixBIdeal.main_arg2)
      ∧ m' ((c.tc : Thread Cert.AdamMixBRefIdeal.nD Cert.AdamMixBRefIdeal.τ).loc Cert.AdamMixBRefIdeal.main_arg3) = m ((c.tc : Thread Cert.AdamMixBIdeal.nD Cert.AdamMixBIdeal.τ).loc Cert.AdamMixBIdeal.main_arg3)) →
    ∃ (v0 : (c : Dev Cert.AdamMixBIdeal.nD) → Buf (Elt Ideal) ((c.tc : Thread Cert.AdamMixBIdeal.nD Cert.AdamMixBIdeal.τ).loc Cert.AdamMixBIdeal.main_v4_0)) (v1 : (c : Dev Cert.AdamMixBIdeal.nD) → Buf (Elt Ideal) ((c.tc : Thread Cert.AdamMixBIdeal.nD Cert.AdamMixBIdeal.τ).loc Cert.AdamMixBIdeal.main_v4_1)) (v2 : (c : Dev Cert.AdamMixBIdeal.nD) → Buf (Elt Ideal) ((c.tc : Thread Cert.AdamMixBIdeal.nD Cert.AdamMixBIdeal.τ).loc Cert.AdamMixBIdeal.main_v4_2)),
      θ_run (Cert.AdamMixBIdeal.defs (F := Ideal)) (onTc (τ := Cert.AdamMixBIdeal.τ) (Cert.AdamMixBIdeal.main (F := Ideal))) ⟨m, fun _ => 0, g⟩ (fun r => ∀ c : Dev Cert.AdamMixBIdeal.nD,
          r.2.mem ((c.tc : Thread Cert.AdamMixBIdeal.nD Cert.AdamMixBIdeal.τ).loc Cert.AdamMixBIdeal.main_v4_0) = v0 c
          ∧ r.2.mem ((c.tc : Thread Cert.AdamMixBIdeal.nD Cert.AdamMixBIdeal.τ).loc Cert.AdamMixBIdeal.main_v4_1) = v1 c
          ∧ r.2.mem ((c.tc : Thread Cert.AdamMixBIdeal.nD Cert.AdamMixBIdeal.τ).loc Cert.AdamMixBIdeal.main_v4_2) = v2 c
          ∧ r.2.mem ((c.tc : Thread Cert.AdamMixBIdeal.nD Cert.AdamMixBIdeal.τ).loc Cert.AdamMixBIdeal.main_arg0) = m ((c.tc : Thread Cert.AdamMixBIdeal.nD Cert.AdamMixBIdeal.τ).loc Cert.AdamMixBIdeal.main_arg0)
          ∧ r.2.mem ((c.tc : Thread Cert.AdamMixBIdeal.nD Cert.AdamMixBIdeal.τ).loc Cert.AdamMixBIdeal.main_arg1) = m ((c.tc : Thread Cert.AdamMixBIdeal.nD Cert.AdamMixBIdeal.τ).loc Cert.AdamMixBIdeal.main_arg1)
          ∧ r.2.mem ((c.tc : Thread Cert.AdamMixBIdeal.nD Cert.AdamMixBIdeal.τ).loc Cert.AdamMixBIdeal.main_arg2) = m ((c.tc : Thread Cert.AdamMixBIdeal.nD Cert.AdamMixBIdeal.τ).loc Cert.AdamMixBIdeal.main_arg2)
          ∧ r.2.mem ((c.tc : Thread Cert.AdamMixBIdeal.nD Cert.AdamMixBIdeal.τ).loc Cert.AdamMixBIdeal.main_arg3) = m ((c.tc : Thread Cert.AdamMixBIdeal.nD Cert.AdamMixBIdeal.τ).loc Cert.AdamMixBIdeal.main_arg3))
      ∧ θ_run (Cert.AdamMixBRefIdeal.defs (F := Ideal)) (onTc (τ := Cert.AdamMixBRefIdeal.τ) (Cert.AdamMixBRefIdeal.main (F := Ideal))) ⟨m', fun _ => 0, g'⟩ (fun r => ∀ c : Dev Cert.AdamMixBRefIdeal.nD,
          r.2.mem ((c.tc : Thread Cert.AdamMixBRefIdeal.nD Cert.AdamMixBRefIdeal.τ).loc Cert.AdamMixBRefIdeal.main_v24) = v0 c
          ∧ r.2.mem ((c.tc : Thread Cert.AdamMixBRefIdeal.nD Cert.AdamMixBRefIdeal.τ).loc Cert.AdamMixBRefIdeal.main_v25) = v1 c
          ∧ r.2.mem ((c.tc : Thread Cert.AdamMixBRefIdeal.nD Cert.AdamMixBRefIdeal.τ).loc Cert.AdamMixBRefIdeal.main_v26) = v2 c
          ∧ r.2.mem ((c.tc : Thread Cert.AdamMixBRefIdeal.nD Cert.AdamMixBRefIdeal.τ).loc Cert.AdamMixBRefIdeal.main_arg0) = m' ((c.tc : Thread Cert.AdamMixBRefIdeal.nD Cert.AdamMixBRefIdeal.τ).loc Cert.AdamMixBRefIdeal.main_arg0)
          ∧ r.2.mem ((c.tc : Thread Cert.AdamMixBRefIdeal.nD Cert.AdamMixBRefIdeal.τ).loc Cert.AdamMixBRefIdeal.main_arg1) = m' ((c.tc : Thread Cert.AdamMixBRefIdeal.nD Cert.AdamMixBRefIdeal.τ).loc Cert.AdamMixBRefIdeal.main_arg1)
          ∧ r.2.mem ((c.tc : Thread Cert.AdamMixBRefIdeal.nD Cert.AdamMixBRefIdeal.τ).loc Cert.AdamMixBRefIdeal.main_arg2) = m' ((c.tc : Thread Cert.AdamMixBRefIdeal.nD Cert.AdamMixBRefIdeal.τ).loc Cert.AdamMixBRefIdeal.main_arg2)
          ∧ r.2.mem ((c.tc : Thread Cert.AdamMixBRefIdeal.nD Cert.AdamMixBRefIdeal.τ).loc Cert.AdamMixBRefIdeal.main_arg3) = m' ((c.tc : Thread Cert.AdamMixBRefIdeal.nD Cert.AdamMixBRefIdeal.τ).loc Cert.AdamMixBRefIdeal.main_arg3))

def preserves_AdamMixOut_AdamMixOutIdeal : Prop :=
  True

def algebraic_AdamMixOutIdeal_AdamMixOutRefIdeal [hAdamMixOutIdeal : Cert.AdamMixOutIdeal.Facts] [hAdamMixOutRefIdeal : Cert.AdamMixOutRefIdeal.Facts] : Prop :=
  ∀ (m : (ℓ : Loc Cert.AdamMixOutIdeal.nD Cert.AdamMixOutIdeal.τ Cert.AdamMixOutIdeal.sig) → Buf (Elt Ideal) ℓ) (g : Dev Cert.AdamMixOutIdeal.nD → PrngReg)
    (m' : (ℓ : Loc Cert.AdamMixOutRefIdeal.nD Cert.AdamMixOutRefIdeal.τ Cert.AdamMixOutRefIdeal.sig) → Buf (Elt Ideal) ℓ) (g' : Dev Cert.AdamMixOutRefIdeal.nD → PrngReg), Pre_AdamMixOutIdeal m →
    (∀ c : Dev Cert.AdamMixOutIdeal.nD,
      m' ((c.tc : Thread Cert.AdamMixOutRefIdeal.nD Cert.AdamMixOutRefIdeal.τ).loc Cert.AdamMixOutRefIdeal.main_arg0) = m ((c.tc : Thread Cert.AdamMixOutIdeal.nD Cert.AdamMixOutIdeal.τ).loc Cert.AdamMixOutIdeal.main_arg0)
      ∧ m' ((c.tc : Thread Cert.AdamMixOutRefIdeal.nD Cert.AdamMixOutRefIdeal.τ).loc Cert.AdamMixOutRefIdeal.main_arg1) = m ((c.tc : Thread Cert.AdamMixOutIdeal.nD Cert.AdamMixOutIdeal.τ).loc Cert.AdamMixOutIdeal.main_arg1)
      ∧ m' ((c.tc : Thread Cert.AdamMixOutRefIdeal.nD Cert.AdamMixOutRefIdeal.τ).loc Cert.AdamMixOutRefIdeal.main_arg2) = m ((c.tc : Thread Cert.AdamMixOutIdeal.nD Cert.AdamMixOutIdeal.τ).loc Cert.AdamMixOutIdeal.main_arg2)
      ∧ m' ((c.tc : Thread Cert.AdamMixOutRefIdeal.nD Cert.AdamMixOutRefIdeal.τ).loc Cert.AdamMixOutRefIdeal.main_arg3) = m ((c.tc : Thread Cert.AdamMixOutIdeal.nD Cert.AdamMixOutIdeal.τ).loc Cert.AdamMixOutIdeal.main_arg3)) →
    ∃ (v0 : (c : Dev Cert.AdamMixOutIdeal.nD) → Buf (Elt Ideal) ((c.tc : Thread Cert.AdamMixOutIdeal.nD Cert.AdamMixOutIdeal.τ).loc Cert.AdamMixOutIdeal.main_v4_0)) (v1 : (c : Dev Cert.AdamMixOutIdeal.nD) → Buf (Elt Ideal) ((c.tc : Thread Cert.AdamMixOutIdeal.nD Cert.AdamMixOutIdeal.τ).loc Cert.AdamMixOutIdeal.main_v4_1)) (v2 : (c : Dev Cert.AdamMixOutIdeal.nD) → Buf (Elt Ideal) ((c.tc : Thread Cert.AdamMixOutIdeal.nD Cert.AdamMixOutIdeal.τ).loc Cert.AdamMixOutIdeal.main_v4_2)),
      θ_run (Cert.AdamMixOutIdeal.defs (F := Ideal)) (onTc (τ := Cert.AdamMixOutIdeal.τ) (Cert.AdamMixOutIdeal.main (F := Ideal))) ⟨m, fun _ => 0, g⟩ (fun r => ∀ c : Dev Cert.AdamMixOutIdeal.nD,
          r.2.mem ((c.tc : Thread Cert.AdamMixOutIdeal.nD Cert.AdamMixOutIdeal.τ).loc Cert.AdamMixOutIdeal.main_v4_0) = v0 c
          ∧ r.2.mem ((c.tc : Thread Cert.AdamMixOutIdeal.nD Cert.AdamMixOutIdeal.τ).loc Cert.AdamMixOutIdeal.main_v4_1) = v1 c
          ∧ r.2.mem ((c.tc : Thread Cert.AdamMixOutIdeal.nD Cert.AdamMixOutIdeal.τ).loc Cert.AdamMixOutIdeal.main_v4_2) = v2 c
          ∧ r.2.mem ((c.tc : Thread Cert.AdamMixOutIdeal.nD Cert.AdamMixOutIdeal.τ).loc Cert.AdamMixOutIdeal.main_arg0) = m ((c.tc : Thread Cert.AdamMixOutIdeal.nD Cert.AdamMixOutIdeal.τ).loc Cert.AdamMixOutIdeal.main_arg0)
          ∧ r.2.mem ((c.tc : Thread Cert.AdamMixOutIdeal.nD Cert.AdamMixOutIdeal.τ).loc Cert.AdamMixOutIdeal.main_arg1) = m ((c.tc : Thread Cert.AdamMixOutIdeal.nD Cert.AdamMixOutIdeal.τ).loc Cert.AdamMixOutIdeal.main_arg1)
          ∧ r.2.mem ((c.tc : Thread Cert.AdamMixOutIdeal.nD Cert.AdamMixOutIdeal.τ).loc Cert.AdamMixOutIdeal.main_arg2) = m ((c.tc : Thread Cert.AdamMixOutIdeal.nD Cert.AdamMixOutIdeal.τ).loc Cert.AdamMixOutIdeal.main_arg2)
          ∧ r.2.mem ((c.tc : Thread Cert.AdamMixOutIdeal.nD Cert.AdamMixOutIdeal.τ).loc Cert.AdamMixOutIdeal.main_arg3) = m ((c.tc : Thread Cert.AdamMixOutIdeal.nD Cert.AdamMixOutIdeal.τ).loc Cert.AdamMixOutIdeal.main_arg3))
      ∧ θ_run (Cert.AdamMixOutRefIdeal.defs (F := Ideal)) (onTc (τ := Cert.AdamMixOutRefIdeal.τ) (Cert.AdamMixOutRefIdeal.main (F := Ideal))) ⟨m', fun _ => 0, g'⟩ (fun r => ∀ c : Dev Cert.AdamMixOutRefIdeal.nD,
          r.2.mem ((c.tc : Thread Cert.AdamMixOutRefIdeal.nD Cert.AdamMixOutRefIdeal.τ).loc Cert.AdamMixOutRefIdeal.main_v24) = v0 c
          ∧ r.2.mem ((c.tc : Thread Cert.AdamMixOutRefIdeal.nD Cert.AdamMixOutRefIdeal.τ).loc Cert.AdamMixOutRefIdeal.main_v25) = v1 c
          ∧ r.2.mem ((c.tc : Thread Cert.AdamMixOutRefIdeal.nD Cert.AdamMixOutRefIdeal.τ).loc Cert.AdamMixOutRefIdeal.main_v26) = v2 c
          ∧ r.2.mem ((c.tc : Thread Cert.AdamMixOutRefIdeal.nD Cert.AdamMixOutRefIdeal.τ).loc Cert.AdamMixOutRefIdeal.main_arg0) = m' ((c.tc : Thread Cert.AdamMixOutRefIdeal.nD Cert.AdamMixOutRefIdeal.τ).loc Cert.AdamMixOutRefIdeal.main_arg0)
          ∧ r.2.mem ((c.tc : Thread Cert.AdamMixOutRefIdeal.nD Cert.AdamMixOutRefIdeal.τ).loc Cert.AdamMixOutRefIdeal.main_arg1) = m' ((c.tc : Thread Cert.AdamMixOutRefIdeal.nD Cert.AdamMixOutRefIdeal.τ).loc Cert.AdamMixOutRefIdeal.main_arg1)
          ∧ r.2.mem ((c.tc : Thread Cert.AdamMixOutRefIdeal.nD Cert.AdamMixOutRefIdeal.τ).loc Cert.AdamMixOutRefIdeal.main_arg2) = m' ((c.tc : Thread Cert.AdamMixOutRefIdeal.nD Cert.AdamMixOutRefIdeal.τ).loc Cert.AdamMixOutRefIdeal.main_arg2)
          ∧ r.2.mem ((c.tc : Thread Cert.AdamMixOutRefIdeal.nD Cert.AdamMixOutRefIdeal.τ).loc Cert.AdamMixOutRefIdeal.main_arg3) = m' ((c.tc : Thread Cert.AdamMixOutRefIdeal.nD Cert.AdamMixOutRefIdeal.τ).loc Cert.AdamMixOutRefIdeal.main_arg3))

def preserves_AdaDw_AdaDwIdeal : Prop :=
  True

def algebraic_AdaDwIdeal_AdaDwRefIdeal [hAdaDwIdeal : Cert.AdaDwIdeal.Facts] [hAdaDwRefIdeal : Cert.AdaDwRefIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg)
    (m' : (ℓ : Loc Cert.AdaDwRefIdeal.nD Cert.AdaDwRefIdeal.τ Cert.AdaDwRefIdeal.sig) → Buf (Elt Ideal) ℓ) (g' : Dev Cert.AdaDwRefIdeal.nD → PrngReg), Pre_AdaDwIdeal m →
    (∀ c : Dev Cert.AdaDwIdeal.nD,
      m' ((c.tc : Thread Cert.AdaDwRefIdeal.nD Cert.AdaDwRefIdeal.τ).loc Cert.AdaDwRefIdeal.main_arg0) = m ((c.tc : Thread Cert.AdaDwIdeal.nD Cert.AdaDwIdeal.τ).loc Cert.AdaDwIdeal.main_arg0)
      ∧ m' ((c.tc : Thread Cert.AdaDwRefIdeal.nD Cert.AdaDwRefIdeal.τ).loc Cert.AdaDwRefIdeal.main_arg1) = m ((c.tc : Thread Cert.AdaDwIdeal.nD Cert.AdaDwIdeal.τ).loc Cert.AdaDwIdeal.main_arg1)
      ∧ m' ((c.tc : Thread Cert.AdaDwRefIdeal.nD Cert.AdaDwRefIdeal.τ).loc Cert.AdaDwRefIdeal.main_arg2) = m ((c.tc : Thread Cert.AdaDwIdeal.nD Cert.AdaDwIdeal.τ).loc Cert.AdaDwIdeal.main_arg2)
      ∧ m' ((c.tc : Thread Cert.AdaDwRefIdeal.nD Cert.AdaDwRefIdeal.τ).loc Cert.AdaDwRefIdeal.main_arg3) = m ((c.tc : Thread Cert.AdaDwIdeal.nD Cert.AdaDwIdeal.τ).loc Cert.AdaDwIdeal.main_arg3)) →
    ∃ (v0 : (c : Dev Cert.AdaDwIdeal.nD) → Buf (Elt Ideal) ((c.tc : Thread Cert.AdaDwIdeal.nD Cert.AdaDwIdeal.τ).loc Cert.AdaDwIdeal.main_v3)) (v1 : (c : Dev Cert.AdaDwIdeal.nD) → Buf (Elt Ideal) ((c.tc : Thread Cert.AdaDwIdeal.nD Cert.AdaDwIdeal.τ).loc Cert.AdaDwIdeal.main_v0)),
      θ_run (Cert.AdaDwIdeal.defs (F := Ideal)) (onTc (τ := Cert.AdaDwIdeal.τ) (Cert.AdaDwIdeal.main (F := Ideal))) ⟨m, fun _ => 0, g⟩ (fun r => ∀ c : Dev Cert.AdaDwIdeal.nD,
          r.2.mem ((c.tc : Thread Cert.AdaDwIdeal.nD Cert.AdaDwIdeal.τ).loc Cert.AdaDwIdeal.main_v3) = v0 c
          ∧ r.2.mem ((c.tc : Thread Cert.AdaDwIdeal.nD Cert.AdaDwIdeal.τ).loc Cert.AdaDwIdeal.main_v0) = v1 c
          ∧ r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
          ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1)
          ∧ r.2.mem ((c.tc : Thread Cert.AdaDwIdeal.nD Cert.AdaDwIdeal.τ).loc Cert.AdaDwIdeal.main_arg2) = m ((c.tc : Thread Cert.AdaDwIdeal.nD Cert.AdaDwIdeal.τ).loc Cert.AdaDwIdeal.main_arg2)
          ∧ r.2.mem ((c.tc : Thread Cert.AdaDwIdeal.nD Cert.AdaDwIdeal.τ).loc Cert.AdaDwIdeal.main_arg3) = m ((c.tc : Thread Cert.AdaDwIdeal.nD Cert.AdaDwIdeal.τ).loc Cert.AdaDwIdeal.main_arg3))
      ∧ θ_run (Cert.AdaDwRefIdeal.defs (F := Ideal)) (onTc (τ := Cert.AdaDwRefIdeal.τ) (Cert.AdaDwRefIdeal.main (F := Ideal))) ⟨m', fun _ => 0, g'⟩ (fun r => ∀ c : Dev Cert.AdaDwRefIdeal.nD,
          r.2.mem ((c.tc : Thread Cert.AdaDwRefIdeal.nD Cert.AdaDwRefIdeal.τ).loc Cert.AdaDwRefIdeal.main_v9) = v0 c
          ∧ r.2.mem ((c.tc : Thread Cert.AdaDwRefIdeal.nD Cert.AdaDwRefIdeal.τ).loc Cert.AdaDwRefIdeal.main_v7) = v1 c
          ∧ r.2.mem ((c.tc : Thread Cert.AdaDwRefIdeal.nD Cert.AdaDwRefIdeal.τ).loc Cert.AdaDwRefIdeal.main_arg0) = m' ((c.tc : Thread Cert.AdaDwRefIdeal.nD Cert.AdaDwRefIdeal.τ).loc Cert.AdaDwRefIdeal.main_arg0)
          ∧ r.2.mem ((c.tc : Thread Cert.AdaDwRefIdeal.nD Cert.AdaDwRefIdeal.τ).loc Cert.AdaDwRefIdeal.main_arg1) = m' ((c.tc : Thread Cert.AdaDwRefIdeal.nD Cert.AdaDwRefIdeal.τ).loc Cert.AdaDwRefIdeal.main_arg1)
          ∧ r.2.mem ((c.tc : Thread Cert.AdaDwRefIdeal.nD Cert.AdaDwRefIdeal.τ).loc Cert.AdaDwRefIdeal.main_arg2) = m' ((c.tc : Thread Cert.AdaDwRefIdeal.nD Cert.AdaDwRefIdeal.τ).loc Cert.AdaDwRefIdeal.main_arg2)
          ∧ r.2.mem ((c.tc : Thread Cert.AdaDwRefIdeal.nD Cert.AdaDwRefIdeal.τ).loc Cert.AdaDwRefIdeal.main_arg3) = m' ((c.tc : Thread Cert.AdaDwRefIdeal.nD Cert.AdaDwRefIdeal.τ).loc Cert.AdaDwRefIdeal.main_arg3))

def preserves_CtxCond_CtxCondIdeal : Prop :=
  True

def algebraic_CtxCondIdeal_CtxCondRefIdeal [hCtxCondIdeal : Cert.CtxCondIdeal.Facts] [hCtxCondRefIdeal : Cert.CtxCondRefIdeal.Facts] : Prop :=
  ∀ (m : (ℓ : Loc Cert.CtxCondIdeal.nD Cert.CtxCondIdeal.τ Cert.CtxCondIdeal.sig) → Buf (Elt Ideal) ℓ) (g : Dev Cert.CtxCondIdeal.nD → PrngReg)
    (m' : (ℓ : Loc Cert.CtxCondRefIdeal.nD Cert.CtxCondRefIdeal.τ Cert.CtxCondRefIdeal.sig) → Buf (Elt Ideal) ℓ) (g' : Dev Cert.CtxCondRefIdeal.nD → PrngReg), Pre_CtxCondIdeal m →
    (∀ c : Dev Cert.CtxCondIdeal.nD,
      m' ((c.tc : Thread Cert.CtxCondRefIdeal.nD Cert.CtxCondRefIdeal.τ).loc Cert.CtxCondRefIdeal.main_arg0) = m ((c.tc : Thread Cert.CtxCondIdeal.nD Cert.CtxCondIdeal.τ).loc Cert.CtxCondIdeal.main_arg0)
      ∧ m' ((c.tc : Thread Cert.CtxCondRefIdeal.nD Cert.CtxCondRefIdeal.τ).loc Cert.CtxCondRefIdeal.main_arg1) = m ((c.tc : Thread Cert.CtxCondIdeal.nD Cert.CtxCondIdeal.τ).loc Cert.CtxCondIdeal.main_arg1)) →
    ∃ (v0 : (c : Dev Cert.CtxCondIdeal.nD) → Buf (Elt Ideal) ((c.tc : Thread Cert.CtxCondIdeal.nD Cert.CtxCondIdeal.τ).loc Cert.CtxCondIdeal.main_v4)),
      θ_run (Cert.CtxCondIdeal.defs (F := Ideal)) (onTc (τ := Cert.CtxCondIdeal.τ) (Cert.CtxCondIdeal.main (F := Ideal))) ⟨m, fun _ => 0, g⟩ (fun r => ∀ c : Dev Cert.CtxCondIdeal.nD,
          r.2.mem ((c.tc : Thread Cert.CtxCondIdeal.nD Cert.CtxCondIdeal.τ).loc Cert.CtxCondIdeal.main_v4) = v0 c
          ∧ r.2.mem ((c.tc : Thread Cert.CtxCondIdeal.nD Cert.CtxCondIdeal.τ).loc Cert.CtxCondIdeal.main_arg0) = m ((c.tc : Thread Cert.CtxCondIdeal.nD Cert.CtxCondIdeal.τ).loc Cert.CtxCondIdeal.main_arg0)
          ∧ r.2.mem ((c.tc : Thread Cert.CtxCondIdeal.nD Cert.CtxCondIdeal.τ).loc Cert.CtxCondIdeal.main_arg1) = m ((c.tc : Thread Cert.CtxCondIdeal.nD Cert.CtxCondIdeal.τ).loc Cert.CtxCondIdeal.main_arg1))
      ∧ θ_run (Cert.CtxCondRefIdeal.defs (F := Ideal)) (onTc (τ := Cert.CtxCondRefIdeal.τ) (Cert.CtxCondRefIdeal.main (F := Ideal))) ⟨m', fun _ => 0, g'⟩ (fun r => ∀ c : Dev Cert.CtxCondRefIdeal.nD,
          r.2.mem ((c.tc : Thread Cert.CtxCondRefIdeal.nD Cert.CtxCondRefIdeal.τ).loc Cert.CtxCondRefIdeal.main_v2) = v0 c
          ∧ r.2.mem ((c.tc : Thread Cert.CtxCondRefIdeal.nD Cert.CtxCondRefIdeal.τ).loc Cert.CtxCondRefIdeal.main_arg0) = m' ((c.tc : Thread Cert.CtxCondRefIdeal.nD Cert.CtxCondRefIdeal.τ).loc Cert.CtxCondRefIdeal.main_arg0)
          ∧ r.2.mem ((c.tc : Thread Cert.CtxCondRefIdeal.nD Cert.CtxCondRefIdeal.τ).loc Cert.CtxCondRefIdeal.main_arg1) = m' ((c.tc : Thread Cert.CtxCondRefIdeal.nD Cert.CtxCondRefIdeal.τ).loc Cert.CtxCondRefIdeal.main_arg1))

def preserves_SumFfnUp_SumFfnUpIdeal : Prop :=
  True

def algebraic_SumFfnUpIdeal_SumFfnUpRefIdeal [hSumFfnUpIdeal : Cert.SumFfnUpIdeal.Facts] [hSumFfnUpRefIdeal : Cert.SumFfnUpRefIdeal.Facts] : Prop :=
  ∀ (m : (ℓ : Loc Cert.SumFfnUpIdeal.nD Cert.SumFfnUpIdeal.τ Cert.SumFfnUpIdeal.sig) → Buf (Elt Ideal) ℓ) (g : Dev Cert.SumFfnUpIdeal.nD → PrngReg)
    (m' : (ℓ : Loc Cert.SumFfnUpRefIdeal.nD Cert.SumFfnUpRefIdeal.τ Cert.SumFfnUpRefIdeal.sig) → Buf (Elt Ideal) ℓ) (g' : Dev Cert.SumFfnUpRefIdeal.nD → PrngReg), Pre_SumFfnUpIdeal m →
    (∀ c : Dev Cert.SumFfnUpIdeal.nD,
      m' ((c.tc : Thread Cert.SumFfnUpRefIdeal.nD Cert.SumFfnUpRefIdeal.τ).loc Cert.SumFfnUpRefIdeal.main_arg0) = m ((c.tc : Thread Cert.SumFfnUpIdeal.nD Cert.SumFfnUpIdeal.τ).loc Cert.SumFfnUpIdeal.main_arg0)) →
    ∃ (v0 : (c : Dev Cert.SumFfnUpIdeal.nD) → Buf (Elt Ideal) ((c.tc : Thread Cert.SumFfnUpIdeal.nD Cert.SumFfnUpIdeal.τ).loc Cert.SumFfnUpIdeal.main_v0)),
      θ_run (Cert.SumFfnUpIdeal.defs (F := Ideal)) (onTc (τ := Cert.SumFfnUpIdeal.τ) (Cert.SumFfnUpIdeal.main (F := Ideal))) ⟨m, fun _ => 0, g⟩ (fun r => ∀ c : Dev Cert.SumFfnUpIdeal.nD,
          r.2.mem ((c.tc : Thread Cert.SumFfnUpIdeal.nD Cert.SumFfnUpIdeal.τ).loc Cert.SumFfnUpIdeal.main_v0) = v0 c
          ∧ r.2.mem ((c.tc : Thread Cert.SumFfnUpIdeal.nD Cert.SumFfnUpIdeal.τ).loc Cert.SumFfnUpIdeal.main_arg0) = m ((c.tc : Thread Cert.SumFfnUpIdeal.nD Cert.SumFfnUpIdeal.τ).loc Cert.SumFfnUpIdeal.main_arg0))
      ∧ θ_run (Cert.SumFfnUpRefIdeal.defs (F := Ideal)) (onTc (τ := Cert.SumFfnUpRefIdeal.τ) (Cert.SumFfnUpRefIdeal.main (F := Ideal))) ⟨m', fun _ => 0, g'⟩ (fun r => ∀ c : Dev Cert.SumFfnUpRefIdeal.nD,
          r.2.mem ((c.tc : Thread Cert.SumFfnUpRefIdeal.nD Cert.SumFfnUpRefIdeal.τ).loc Cert.SumFfnUpRefIdeal.main_v1) = v0 c
          ∧ r.2.mem ((c.tc : Thread Cert.SumFfnUpRefIdeal.nD Cert.SumFfnUpRefIdeal.τ).loc Cert.SumFfnUpRefIdeal.main_arg0) = m' ((c.tc : Thread Cert.SumFfnUpRefIdeal.nD Cert.SumFfnUpRefIdeal.τ).loc Cert.SumFfnUpRefIdeal.main_arg0))

def preserves_SumFfnDown_SumFfnDownIdeal : Prop :=
  True

def algebraic_SumFfnDownIdeal_SumFfnDownRefIdeal [hSumFfnDownIdeal : Cert.SumFfnDownIdeal.Facts] [hSumFfnDownRefIdeal : Cert.SumFfnDownRefIdeal.Facts] : Prop :=
  ∀ (m : (ℓ : Loc Cert.SumFfnDownIdeal.nD Cert.SumFfnDownIdeal.τ Cert.SumFfnDownIdeal.sig) → Buf (Elt Ideal) ℓ) (g : Dev Cert.SumFfnDownIdeal.nD → PrngReg)
    (m' : (ℓ : Loc Cert.SumFfnDownRefIdeal.nD Cert.SumFfnDownRefIdeal.τ Cert.SumFfnDownRefIdeal.sig) → Buf (Elt Ideal) ℓ) (g' : Dev Cert.SumFfnDownRefIdeal.nD → PrngReg), Pre_SumFfnDownIdeal m →
    (∀ c : Dev Cert.SumFfnDownIdeal.nD,
      m' ((c.tc : Thread Cert.SumFfnDownRefIdeal.nD Cert.SumFfnDownRefIdeal.τ).loc Cert.SumFfnDownRefIdeal.main_arg0) = m ((c.tc : Thread Cert.SumFfnDownIdeal.nD Cert.SumFfnDownIdeal.τ).loc Cert.SumFfnDownIdeal.main_arg0)) →
    ∃ (v0 : (c : Dev Cert.SumFfnDownIdeal.nD) → Buf (Elt Ideal) ((c.tc : Thread Cert.SumFfnDownIdeal.nD Cert.SumFfnDownIdeal.τ).loc Cert.SumFfnDownIdeal.main_v0)),
      θ_run (Cert.SumFfnDownIdeal.defs (F := Ideal)) (onTc (τ := Cert.SumFfnDownIdeal.τ) (Cert.SumFfnDownIdeal.main (F := Ideal))) ⟨m, fun _ => 0, g⟩ (fun r => ∀ c : Dev Cert.SumFfnDownIdeal.nD,
          r.2.mem ((c.tc : Thread Cert.SumFfnDownIdeal.nD Cert.SumFfnDownIdeal.τ).loc Cert.SumFfnDownIdeal.main_v0) = v0 c
          ∧ r.2.mem ((c.tc : Thread Cert.SumFfnDownIdeal.nD Cert.SumFfnDownIdeal.τ).loc Cert.SumFfnDownIdeal.main_arg0) = m ((c.tc : Thread Cert.SumFfnDownIdeal.nD Cert.SumFfnDownIdeal.τ).loc Cert.SumFfnDownIdeal.main_arg0))
      ∧ θ_run (Cert.SumFfnDownRefIdeal.defs (F := Ideal)) (onTc (τ := Cert.SumFfnDownRefIdeal.τ) (Cert.SumFfnDownRefIdeal.main (F := Ideal))) ⟨m', fun _ => 0, g'⟩ (fun r => ∀ c : Dev Cert.SumFfnDownRefIdeal.nD,
          r.2.mem ((c.tc : Thread Cert.SumFfnDownRefIdeal.nD Cert.SumFfnDownRefIdeal.τ).loc Cert.SumFfnDownRefIdeal.main_v1) = v0 c
          ∧ r.2.mem ((c.tc : Thread Cert.SumFfnDownRefIdeal.nD Cert.SumFfnDownRefIdeal.τ).loc Cert.SumFfnDownRefIdeal.main_arg0) = m' ((c.tc : Thread Cert.SumFfnDownRefIdeal.nD Cert.SumFfnDownRefIdeal.τ).loc Cert.SumFfnDownRefIdeal.main_arg0))

def preserves_SumPoolW_SumPoolWIdeal : Prop :=
  True

def algebraic_SumPoolWIdeal_SumPoolWRefIdeal [hSumPoolWIdeal : Cert.SumPoolWIdeal.Facts] [hSumPoolWRefIdeal : Cert.SumPoolWRefIdeal.Facts] : Prop :=
  ∀ (m : (ℓ : Loc Cert.SumPoolWIdeal.nD Cert.SumPoolWIdeal.τ Cert.SumPoolWIdeal.sig) → Buf (Elt Ideal) ℓ) (g : Dev Cert.SumPoolWIdeal.nD → PrngReg)
    (m' : (ℓ : Loc Cert.SumPoolWRefIdeal.nD Cert.SumPoolWRefIdeal.τ Cert.SumPoolWRefIdeal.sig) → Buf (Elt Ideal) ℓ) (g' : Dev Cert.SumPoolWRefIdeal.nD → PrngReg), Pre_SumPoolWIdeal m →
    (∀ c : Dev Cert.SumPoolWIdeal.nD,
      m' ((c.tc : Thread Cert.SumPoolWRefIdeal.nD Cert.SumPoolWRefIdeal.τ).loc Cert.SumPoolWRefIdeal.main_arg0) = m ((c.tc : Thread Cert.SumPoolWIdeal.nD Cert.SumPoolWIdeal.τ).loc Cert.SumPoolWIdeal.main_arg0)) →
    ∃ (v0 : (c : Dev Cert.SumPoolWIdeal.nD) → Buf (Elt Ideal) ((c.tc : Thread Cert.SumPoolWIdeal.nD Cert.SumPoolWIdeal.τ).loc Cert.SumPoolWIdeal.main_v0)),
      θ_run (Cert.SumPoolWIdeal.defs (F := Ideal)) (onTc (τ := Cert.SumPoolWIdeal.τ) (Cert.SumPoolWIdeal.main (F := Ideal))) ⟨m, fun _ => 0, g⟩ (fun r => ∀ c : Dev Cert.SumPoolWIdeal.nD,
          r.2.mem ((c.tc : Thread Cert.SumPoolWIdeal.nD Cert.SumPoolWIdeal.τ).loc Cert.SumPoolWIdeal.main_v0) = v0 c
          ∧ r.2.mem ((c.tc : Thread Cert.SumPoolWIdeal.nD Cert.SumPoolWIdeal.τ).loc Cert.SumPoolWIdeal.main_arg0) = m ((c.tc : Thread Cert.SumPoolWIdeal.nD Cert.SumPoolWIdeal.τ).loc Cert.SumPoolWIdeal.main_arg0))
      ∧ θ_run (Cert.SumPoolWRefIdeal.defs (F := Ideal)) (onTc (τ := Cert.SumPoolWRefIdeal.τ) (Cert.SumPoolWRefIdeal.main (F := Ideal))) ⟨m', fun _ => 0, g'⟩ (fun r => ∀ c : Dev Cert.SumPoolWRefIdeal.nD,
          r.2.mem ((c.tc : Thread Cert.SumPoolWRefIdeal.nD Cert.SumPoolWRefIdeal.τ).loc Cert.SumPoolWRefIdeal.main_v1) = v0 c
          ∧ r.2.mem ((c.tc : Thread Cert.SumPoolWRefIdeal.nD Cert.SumPoolWRefIdeal.τ).loc Cert.SumPoolWRefIdeal.main_arg0) = m' ((c.tc : Thread Cert.SumPoolWRefIdeal.nD Cert.SumPoolWRefIdeal.τ).loc Cert.SumPoolWRefIdeal.main_arg0))

def preserves_SumQkv_SumQkvIdeal : Prop :=
  True

def algebraic_SumQkvIdeal_SumQkvRefIdeal [hSumQkvIdeal : Cert.SumQkvIdeal.Facts] [hSumQkvRefIdeal : Cert.SumQkvRefIdeal.Facts] : Prop :=
  ∀ (m : (ℓ : Loc Cert.SumQkvIdeal.nD Cert.SumQkvIdeal.τ Cert.SumQkvIdeal.sig) → Buf (Elt Ideal) ℓ) (g : Dev Cert.SumQkvIdeal.nD → PrngReg)
    (m' : (ℓ : Loc Cert.SumQkvRefIdeal.nD Cert.SumQkvRefIdeal.τ Cert.SumQkvRefIdeal.sig) → Buf (Elt Ideal) ℓ) (g' : Dev Cert.SumQkvRefIdeal.nD → PrngReg), Pre_SumQkvIdeal m →
    (∀ c : Dev Cert.SumQkvIdeal.nD,
      m' ((c.tc : Thread Cert.SumQkvRefIdeal.nD Cert.SumQkvRefIdeal.τ).loc Cert.SumQkvRefIdeal.main_arg0) = m ((c.tc : Thread Cert.SumQkvIdeal.nD Cert.SumQkvIdeal.τ).loc Cert.SumQkvIdeal.main_arg0)) →
    ∃ (v0 : (c : Dev Cert.SumQkvIdeal.nD) → Buf (Elt Ideal) ((c.tc : Thread Cert.SumQkvIdeal.nD Cert.SumQkvIdeal.τ).loc Cert.SumQkvIdeal.main_v0)),
      θ_run (Cert.SumQkvIdeal.defs (F := Ideal)) (onTc (τ := Cert.SumQkvIdeal.τ) (Cert.SumQkvIdeal.main (F := Ideal))) ⟨m, fun _ => 0, g⟩ (fun r => ∀ c : Dev Cert.SumQkvIdeal.nD,
          r.2.mem ((c.tc : Thread Cert.SumQkvIdeal.nD Cert.SumQkvIdeal.τ).loc Cert.SumQkvIdeal.main_v0) = v0 c
          ∧ r.2.mem ((c.tc : Thread Cert.SumQkvIdeal.nD Cert.SumQkvIdeal.τ).loc Cert.SumQkvIdeal.main_arg0) = m ((c.tc : Thread Cert.SumQkvIdeal.nD Cert.SumQkvIdeal.τ).loc Cert.SumQkvIdeal.main_arg0))
      ∧ θ_run (Cert.SumQkvRefIdeal.defs (F := Ideal)) (onTc (τ := Cert.SumQkvRefIdeal.τ) (Cert.SumQkvRefIdeal.main (F := Ideal))) ⟨m', fun _ => 0, g'⟩ (fun r => ∀ c : Dev Cert.SumQkvRefIdeal.nD,
          r.2.mem ((c.tc : Thread Cert.SumQkvRefIdeal.nD Cert.SumQkvRefIdeal.τ).loc Cert.SumQkvRefIdeal.main_v1) = v0 c
          ∧ r.2.mem ((c.tc : Thread Cert.SumQkvRefIdeal.nD Cert.SumQkvRefIdeal.τ).loc Cert.SumQkvRefIdeal.main_arg0) = m' ((c.tc : Thread Cert.SumQkvRefIdeal.nD Cert.SumQkvRefIdeal.τ).loc Cert.SumQkvRefIdeal.main_arg0))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v1) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0))

def preserves_SumMixIn_SumMixInIdeal : Prop :=
  True

def algebraic_SumMixInIdeal_SumMixInRefIdeal [hSumMixInIdeal : Cert.SumMixInIdeal.Facts] [hSumMixInRefIdeal : Cert.SumMixInRefIdeal.Facts] : Prop :=
  ∀ (m : (ℓ : Loc Cert.SumMixInIdeal.nD Cert.SumMixInIdeal.τ Cert.SumMixInIdeal.sig) → Buf (Elt Ideal) ℓ) (g : Dev Cert.SumMixInIdeal.nD → PrngReg)
    (m' : (ℓ : Loc Cert.SumMixInRefIdeal.nD Cert.SumMixInRefIdeal.τ Cert.SumMixInRefIdeal.sig) → Buf (Elt Ideal) ℓ) (g' : Dev Cert.SumMixInRefIdeal.nD → PrngReg), Pre_SumMixInIdeal m →
    (∀ c : Dev Cert.SumMixInIdeal.nD,
      m' ((c.tc : Thread Cert.SumMixInRefIdeal.nD Cert.SumMixInRefIdeal.τ).loc Cert.SumMixInRefIdeal.main_arg0) = m ((c.tc : Thread Cert.SumMixInIdeal.nD Cert.SumMixInIdeal.τ).loc Cert.SumMixInIdeal.main_arg0)) →
    ∃ (v0 : (c : Dev Cert.SumMixInIdeal.nD) → Buf (Elt Ideal) ((c.tc : Thread Cert.SumMixInIdeal.nD Cert.SumMixInIdeal.τ).loc Cert.SumMixInIdeal.main_v0)),
      θ_run (Cert.SumMixInIdeal.defs (F := Ideal)) (onTc (τ := Cert.SumMixInIdeal.τ) (Cert.SumMixInIdeal.main (F := Ideal))) ⟨m, fun _ => 0, g⟩ (fun r => ∀ c : Dev Cert.SumMixInIdeal.nD,
          r.2.mem ((c.tc : Thread Cert.SumMixInIdeal.nD Cert.SumMixInIdeal.τ).loc Cert.SumMixInIdeal.main_v0) = v0 c
          ∧ r.2.mem ((c.tc : Thread Cert.SumMixInIdeal.nD Cert.SumMixInIdeal.τ).loc Cert.SumMixInIdeal.main_arg0) = m ((c.tc : Thread Cert.SumMixInIdeal.nD Cert.SumMixInIdeal.τ).loc Cert.SumMixInIdeal.main_arg0))
      ∧ θ_run (Cert.SumMixInRefIdeal.defs (F := Ideal)) (onTc (τ := Cert.SumMixInRefIdeal.τ) (Cert.SumMixInRefIdeal.main (F := Ideal))) ⟨m', fun _ => 0, g'⟩ (fun r => ∀ c : Dev Cert.SumMixInRefIdeal.nD,
          r.2.mem ((c.tc : Thread Cert.SumMixInRefIdeal.nD Cert.SumMixInRefIdeal.τ).loc Cert.SumMixInRefIdeal.main_v1) = v0 c
          ∧ r.2.mem ((c.tc : Thread Cert.SumMixInRefIdeal.nD Cert.SumMixInRefIdeal.τ).loc Cert.SumMixInRefIdeal.main_arg0) = m' ((c.tc : Thread Cert.SumMixInRefIdeal.nD Cert.SumMixInRefIdeal.τ).loc Cert.SumMixInRefIdeal.main_arg0))

def preserves_SumMixOut_SumMixOutIdeal : Prop :=
  True

def algebraic_SumMixOutIdeal_SumMixOutRefIdeal [hSumMixOutIdeal : Cert.SumMixOutIdeal.Facts] [hSumMixOutRefIdeal : Cert.SumMixOutRefIdeal.Facts] : Prop :=
  ∀ (m : (ℓ : Loc Cert.SumMixOutIdeal.nD Cert.SumMixOutIdeal.τ Cert.SumMixOutIdeal.sig) → Buf (Elt Ideal) ℓ) (g : Dev Cert.SumMixOutIdeal.nD → PrngReg)
    (m' : (ℓ : Loc Cert.SumMixOutRefIdeal.nD Cert.SumMixOutRefIdeal.τ Cert.SumMixOutRefIdeal.sig) → Buf (Elt Ideal) ℓ) (g' : Dev Cert.SumMixOutRefIdeal.nD → PrngReg), Pre_SumMixOutIdeal m →
    (∀ c : Dev Cert.SumMixOutIdeal.nD,
      m' ((c.tc : Thread Cert.SumMixOutRefIdeal.nD Cert.SumMixOutRefIdeal.τ).loc Cert.SumMixOutRefIdeal.main_arg0) = m ((c.tc : Thread Cert.SumMixOutIdeal.nD Cert.SumMixOutIdeal.τ).loc Cert.SumMixOutIdeal.main_arg0)) →
    ∃ (v0 : (c : Dev Cert.SumMixOutIdeal.nD) → Buf (Elt Ideal) ((c.tc : Thread Cert.SumMixOutIdeal.nD Cert.SumMixOutIdeal.τ).loc Cert.SumMixOutIdeal.main_v0)),
      θ_run (Cert.SumMixOutIdeal.defs (F := Ideal)) (onTc (τ := Cert.SumMixOutIdeal.τ) (Cert.SumMixOutIdeal.main (F := Ideal))) ⟨m, fun _ => 0, g⟩ (fun r => ∀ c : Dev Cert.SumMixOutIdeal.nD,
          r.2.mem ((c.tc : Thread Cert.SumMixOutIdeal.nD Cert.SumMixOutIdeal.τ).loc Cert.SumMixOutIdeal.main_v0) = v0 c
          ∧ r.2.mem ((c.tc : Thread Cert.SumMixOutIdeal.nD Cert.SumMixOutIdeal.τ).loc Cert.SumMixOutIdeal.main_arg0) = m ((c.tc : Thread Cert.SumMixOutIdeal.nD Cert.SumMixOutIdeal.τ).loc Cert.SumMixOutIdeal.main_arg0))
      ∧ θ_run (Cert.SumMixOutRefIdeal.defs (F := Ideal)) (onTc (τ := Cert.SumMixOutRefIdeal.τ) (Cert.SumMixOutRefIdeal.main (F := Ideal))) ⟨m', fun _ => 0, g'⟩ (fun r => ∀ c : Dev Cert.SumMixOutRefIdeal.nD,
          r.2.mem ((c.tc : Thread Cert.SumMixOutRefIdeal.nD Cert.SumMixOutRefIdeal.τ).loc Cert.SumMixOutRefIdeal.main_v1) = v0 c
          ∧ r.2.mem ((c.tc : Thread Cert.SumMixOutRefIdeal.nD Cert.SumMixOutRefIdeal.τ).loc Cert.SumMixOutRefIdeal.main_arg0) = m' ((c.tc : Thread Cert.SumMixOutRefIdeal.nD Cert.SumMixOutRefIdeal.τ).loc Cert.SumMixOutRefIdeal.main_arg0))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_SumCond_SumCondIdeal : Prop :=
  True

def algebraic_SumCondIdeal_SumCondRefIdeal [hSumCondIdeal : Cert.SumCondIdeal.Facts] [hSumCondRefIdeal : Cert.SumCondRefIdeal.Facts] : Prop :=
  ∀ (m : (ℓ : Loc Cert.SumCondIdeal.nD Cert.SumCondIdeal.τ Cert.SumCondIdeal.sig) → Buf (Elt Ideal) ℓ) (g : Dev Cert.SumCondIdeal.nD → PrngReg)
    (m' : (ℓ : Loc Cert.SumCondRefIdeal.nD Cert.SumCondRefIdeal.τ Cert.SumCondRefIdeal.sig) → Buf (Elt Ideal) ℓ) (g' : Dev Cert.SumCondRefIdeal.nD → PrngReg), Pre_SumCondIdeal m →
    (∀ c : Dev Cert.SumCondIdeal.nD,
      m' ((c.tc : Thread Cert.SumCondRefIdeal.nD Cert.SumCondRefIdeal.τ).loc Cert.SumCondRefIdeal.main_arg0) = m ((c.tc : Thread Cert.SumCondIdeal.nD Cert.SumCondIdeal.τ).loc Cert.SumCondIdeal.main_arg0)) →
    ∃ (v0 : (c : Dev Cert.SumCondIdeal.nD) → Buf (Elt Ideal) ((c.tc : Thread Cert.SumCondIdeal.nD Cert.SumCondIdeal.τ).loc Cert.SumCondIdeal.main_v0)),
      θ_run (Cert.SumCondIdeal.defs (F := Ideal)) (onTc (τ := Cert.SumCondIdeal.τ) (Cert.SumCondIdeal.main (F := Ideal))) ⟨m, fun _ => 0, g⟩ (fun r => ∀ c : Dev Cert.SumCondIdeal.nD,
          r.2.mem ((c.tc : Thread Cert.SumCondIdeal.nD Cert.SumCondIdeal.τ).loc Cert.SumCondIdeal.main_v0) = v0 c
          ∧ r.2.mem ((c.tc : Thread Cert.SumCondIdeal.nD Cert.SumCondIdeal.τ).loc Cert.SumCondIdeal.main_arg0) = m ((c.tc : Thread Cert.SumCondIdeal.nD Cert.SumCondIdeal.τ).loc Cert.SumCondIdeal.main_arg0))
      ∧ θ_run (Cert.SumCondRefIdeal.defs (F := Ideal)) (onTc (τ := Cert.SumCondRefIdeal.τ) (Cert.SumCondRefIdeal.main (F := Ideal))) ⟨m', fun _ => 0, g'⟩ (fun r => ∀ c : Dev Cert.SumCondRefIdeal.nD,
          r.2.mem ((c.tc : Thread Cert.SumCondRefIdeal.nD Cert.SumCondRefIdeal.τ).loc Cert.SumCondRefIdeal.main_v0) = v0 c
          ∧ r.2.mem ((c.tc : Thread Cert.SumCondRefIdeal.nD Cert.SumCondRefIdeal.τ).loc Cert.SumCondRefIdeal.main_arg0) = m' ((c.tc : Thread Cert.SumCondRefIdeal.nD Cert.SumCondRefIdeal.τ).loc Cert.SumCondRefIdeal.main_arg0))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v17) = v0 c
          ∧ r.2.mem ((c.tc : Thread Cert.LossHeadRefIdeal.nD Cert.LossHeadRefIdeal.τ).loc Cert.LossHeadRefIdeal.main_v16) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hDownDw : Cert.DownDw.Facts) (hDownDwIdeal : Cert.DownDwIdeal.Facts) (hDownDwRefIdeal : Cert.DownDwRefIdeal.Facts) (hDownDx : Cert.DownDx.Facts) (hDownDxIdeal : Cert.DownDxIdeal.Facts) (hDownDxRefIdeal : Cert.DownDxRefIdeal.Facts) (hUpDw : Cert.UpDw.Facts) (hUpDwIdeal : Cert.UpDwIdeal.Facts) (hUpDwRefIdeal : Cert.UpDwRefIdeal.Facts) (hUpDxV : Cert.UpDxV.Facts) (hUpDxVIdeal : Cert.UpDxVIdeal.Facts) (hUpDxVRefIdeal : Cert.UpDxVRefIdeal.Facts) (hUpDxG : Cert.UpDxG.Facts) (hUpDxGIdeal : Cert.UpDxGIdeal.Facts) (hUpDxGRefIdeal : Cert.UpDxGRefIdeal.Facts) (hQkv : Cert.Qkv.Facts) (hQkvIdeal : Cert.QkvIdeal.Facts) (hQkvRefIdeal : Cert.QkvRefIdeal.Facts) (hQkvDw : Cert.QkvDw.Facts) (hQkvDwIdeal : Cert.QkvDwIdeal.Facts) (hQkvDwRefIdeal : Cert.QkvDwRefIdeal.Facts) (hQkvDx : Cert.QkvDx.Facts) (hQkvDxIdeal : Cert.QkvDxIdeal.Facts) (hQkvDxRefIdeal : Cert.QkvDxRefIdeal.Facts) (hOut : Cert.Out.Facts) (hOutIdeal : Cert.OutIdeal.Facts) (hOutRefIdeal : Cert.OutRefIdeal.Facts) (hOutDw : Cert.OutDw.Facts) (hOutDwIdeal : Cert.OutDwIdeal.Facts) (hOutDwRefIdeal : Cert.OutDwRefIdeal.Facts) (hOutDx : Cert.OutDx.Facts) (hOutDxIdeal : Cert.OutDxIdeal.Facts) (hOutDxRefIdeal : Cert.OutDxRefIdeal.Facts) (hGluDx : Cert.GluDx.Facts) (hGluDxIdeal : Cert.GluDxIdeal.Facts) (hGluDxRefIdeal : Cert.GluDxRefIdeal.Facts) (hMixIn : Cert.MixIn.Facts) (hMixInIdeal : Cert.MixInIdeal.Facts) (hMixInRefIdeal : Cert.MixInRefIdeal.Facts) (hMixInDw : Cert.MixInDw.Facts) (hMixInDwIdeal : Cert.MixInDwIdeal.Facts) (hMixInDwRefIdeal : Cert.MixInDwRefIdeal.Facts) (hMixInDx : Cert.MixInDx.Facts) (hMixInDxIdeal : Cert.MixInDxIdeal.Facts) (hMixInDxRefIdeal : Cert.MixInDxRefIdeal.Facts) (hMixOut : Cert.MixOut.Facts) (hMixOutIdeal : Cert.MixOutIdeal.Facts) (hMixOutRefIdeal : Cert.MixOutRefIdeal.Facts) (hMixOutDw : Cert.MixOutDw.Facts) (hMixOutDwIdeal : Cert.MixOutDwIdeal.Facts) (hMixOutDwRefIdeal : Cert.MixOutDwRefIdeal.Facts) (hMixOutDx : Cert.MixOutDx.Facts) (hMixOutDxIdeal : Cert.MixOutDxIdeal.Facts) (hMixOutDxRefIdeal : Cert.MixOutDxRefIdeal.Facts) (hAdamCCtx : Cert.AdamCCtx.Facts) (hAdamCCtxIdeal : Cert.AdamCCtxIdeal.Facts) (hAdamCCtxRefIdeal : Cert.AdamCCtxRefIdeal.Facts) (hAdamAdaW : Cert.AdamAdaW.Facts) (hAdamAdaWIdeal : Cert.AdamAdaWIdeal.Facts) (hAdamAdaWRefIdeal : Cert.AdamAdaWRefIdeal.Facts) (hAdamAdaB : Cert.AdamAdaB.Facts) (hAdamAdaBIdeal : Cert.AdamAdaBIdeal.Facts) (hAdamAdaBRefIdeal : Cert.AdamAdaBRefIdeal.Facts) (hAdamNorm : Cert.AdamNorm.Facts) (hAdamNormIdeal : Cert.AdamNormIdeal.Facts) (hAdamNormRefIdeal : Cert.AdamNormRefIdeal.Facts) (hAdamFfnUp : Cert.AdamFfnUp.Facts) (hAdamFfnUpIdeal : Cert.AdamFfnUpIdeal.Facts) (hAdamFfnUpRefIdeal : Cert.AdamFfnUpRefIdeal.Facts) (hAdamConvW : Cert.AdamConvW.Facts) (hAdamConvWIdeal : Cert.AdamConvWIdeal.Facts) (hAdamConvWRefIdeal : Cert.AdamConvWRefIdeal.Facts) (hAdamConvB : Cert.AdamConvB.Facts) (hAdamConvBIdeal : Cert.AdamConvBIdeal.Facts) (hAdamConvBRefIdeal : Cert.AdamConvBRefIdeal.Facts) (hAdamFfnDown : Cert.AdamFfnDown.Facts) (hAdamFfnDownIdeal : Cert.AdamFfnDownIdeal.Facts) (hAdamFfnDownRefIdeal : Cert.AdamFfnDownRefIdeal.Facts) (hAdamPoolW : Cert.AdamPoolW.Facts) (hAdamPoolWIdeal : Cert.AdamPoolWIdeal.Facts) (hAdamPoolWRefIdeal : Cert.AdamPoolWRefIdeal.Facts) (hAdamPool : Cert.AdamPool.Facts) (hAdamPoolIdeal : Cert.AdamPoolIdeal.Facts) (hAdamPoolRefIdeal : Cert.AdamPoolRefIdeal.Facts) (hAdamQkv : Cert.AdamQkv.Facts) (hAdamQkvIdeal : Cert.AdamQkvIdeal.Facts) (hAdamQkvRefIdeal : Cert.AdamQkvRefIdeal.Facts) (hAdamOut : Cert.AdamOut.Facts) (hAdamOutIdeal : Cert.AdamOutIdeal.Facts) (hAdamOutRefIdeal : Cert.AdamOutRefIdeal.Facts) (hAdamSink : Cert.AdamSink.Facts) (hAdamSinkIdeal : Cert.AdamSinkIdeal.Facts) (hAdamSinkRefIdeal : Cert.AdamSinkRefIdeal.Facts) (hAdamLambda : Cert.AdamLambda.Facts) (hAdamLambdaIdeal : Cert.AdamLambdaIdeal.Facts) (hAdamLambdaRefIdeal : Cert.AdamLambdaRefIdeal.Facts) (hAdamLogDt : Cert.AdamLogDt.Facts) (hAdamLogDtIdeal : Cert.AdamLogDtIdeal.Facts) (hAdamLogDtRefIdeal : Cert.AdamLogDtRefIdeal.Facts) (hAdamSsmB : Cert.AdamSsmB.Facts) (hAdamSsmBIdeal : Cert.AdamSsmBIdeal.Facts) (hAdamSsmBRefIdeal : Cert.AdamSsmBRefIdeal.Facts) (hAdamSsmC : Cert.AdamSsmC.Facts) (hAdamSsmCIdeal : Cert.AdamSsmCIdeal.Facts) (hAdamSsmCRefIdeal : Cert.AdamSsmCRefIdeal.Facts) (hAdamSsmD : Cert.AdamSsmD.Facts) (hAdamSsmDIdeal : Cert.AdamSsmDIdeal.Facts) (hAdamSsmDRefIdeal : Cert.AdamSsmDRefIdeal.Facts) (hAdamMixIn : Cert.AdamMixIn.Facts) (hAdamMixInIdeal : Cert.AdamMixInIdeal.Facts) (hAdamMixInRefIdeal : Cert.AdamMixInRefIdeal.Facts) (hAdamMixBias : Cert.AdamMixBias.Facts) (hAdamMixBiasIdeal : Cert.AdamMixBiasIdeal.Facts) (hAdamMixBiasRefIdeal : Cert.AdamMixBiasRefIdeal.Facts) (hAdamMixNorm : Cert.AdamMixNorm.Facts) (hAdamMixNormIdeal : Cert.AdamMixNormIdeal.Facts) (hAdamMixNormRefIdeal : Cert.AdamMixNormRefIdeal.Facts) (hAdamMixW : Cert.AdamMixW.Facts) (hAdamMixWIdeal : Cert.AdamMixWIdeal.Facts) (hAdamMixWRefIdeal : Cert.AdamMixWRefIdeal.Facts) (hAdamMixB : Cert.AdamMixB.Facts) (hAdamMixBIdeal : Cert.AdamMixBIdeal.Facts) (hAdamMixBRefIdeal : Cert.AdamMixBRefIdeal.Facts) (hAdamMixOut : Cert.AdamMixOut.Facts) (hAdamMixOutIdeal : Cert.AdamMixOutIdeal.Facts) (hAdamMixOutRefIdeal : Cert.AdamMixOutRefIdeal.Facts) (hAdaDw : Cert.AdaDw.Facts) (hAdaDwIdeal : Cert.AdaDwIdeal.Facts) (hAdaDwRefIdeal : Cert.AdaDwRefIdeal.Facts) (hCtxCond : Cert.CtxCond.Facts) (hCtxCondIdeal : Cert.CtxCondIdeal.Facts) (hCtxCondRefIdeal : Cert.CtxCondRefIdeal.Facts) (hSumFfnUp : Cert.SumFfnUp.Facts) (hSumFfnUpIdeal : Cert.SumFfnUpIdeal.Facts) (hSumFfnUpRefIdeal : Cert.SumFfnUpRefIdeal.Facts) (hSumFfnDown : Cert.SumFfnDown.Facts) (hSumFfnDownIdeal : Cert.SumFfnDownIdeal.Facts) (hSumFfnDownRefIdeal : Cert.SumFfnDownRefIdeal.Facts) (hSumPoolW : Cert.SumPoolW.Facts) (hSumPoolWIdeal : Cert.SumPoolWIdeal.Facts) (hSumPoolWRefIdeal : Cert.SumPoolWRefIdeal.Facts) (hSumQkv : Cert.SumQkv.Facts) (hSumQkvIdeal : Cert.SumQkvIdeal.Facts) (hSumQkvRefIdeal : Cert.SumQkvRefIdeal.Facts) (hSumOut : Cert.SumOut.Facts) (hSumOutIdeal : Cert.SumOutIdeal.Facts) (hSumOutRefIdeal : Cert.SumOutRefIdeal.Facts) (hSumMixIn : Cert.SumMixIn.Facts) (hSumMixInIdeal : Cert.SumMixInIdeal.Facts) (hSumMixInRefIdeal : Cert.SumMixInRefIdeal.Facts) (hSumMixOut : Cert.SumMixOut.Facts) (hSumMixOutIdeal : Cert.SumMixOutIdeal.Facts) (hSumMixOutRefIdeal : Cert.SumMixOutRefIdeal.Facts) (hSumSmall : Cert.SumSmall.Facts) (hSumSmallIdeal : Cert.SumSmallIdeal.Facts) (hSumSmallRefIdeal : Cert.SumSmallRefIdeal.Facts) (hSumCond : Cert.SumCond.Facts) (hSumCondIdeal : Cert.SumCondIdeal.Facts) (hSumCondRefIdeal : Cert.SumCondRefIdeal.Facts) (hLossHead : Cert.LossHead.Facts) (hLossHeadIdeal : Cert.LossHeadIdeal.Facts) (hLossHeadRefIdeal : Cert.LossHeadRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDxV (hUpDxV := hUpDxV)
    ∧ quiescent_UpDxVIdeal (hUpDxVIdeal := hUpDxVIdeal)
    ∧ quiescent_UpDxVRefIdeal (hUpDxVRefIdeal := hUpDxVRefIdeal)
    ∧ quiescent_UpDxG (hUpDxG := hUpDxG)
    ∧ quiescent_UpDxGIdeal (hUpDxGIdeal := hUpDxGIdeal)
    ∧ quiescent_UpDxGRefIdeal (hUpDxGRefIdeal := hUpDxGRefIdeal)
    ∧ quiescent_Qkv (hQkv := hQkv)
    ∧ quiescent_QkvIdeal (hQkvIdeal := hQkvIdeal)
    ∧ quiescent_QkvRefIdeal (hQkvRefIdeal := hQkvRefIdeal)
    ∧ quiescent_QkvDw (hQkvDw := hQkvDw)
    ∧ quiescent_QkvDwIdeal (hQkvDwIdeal := hQkvDwIdeal)
    ∧ quiescent_QkvDwRefIdeal (hQkvDwRefIdeal := hQkvDwRefIdeal)
    ∧ quiescent_QkvDx (hQkvDx := hQkvDx)
    ∧ quiescent_QkvDxIdeal (hQkvDxIdeal := hQkvDxIdeal)
    ∧ quiescent_QkvDxRefIdeal (hQkvDxRefIdeal := hQkvDxRefIdeal)
    ∧ quiescent_Out (hOut := hOut)
    ∧ quiescent_OutIdeal (hOutIdeal := hOutIdeal)
    ∧ quiescent_OutRefIdeal (hOutRefIdeal := hOutRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_GluDx (hGluDx := hGluDx)
    ∧ quiescent_GluDxIdeal (hGluDxIdeal := hGluDxIdeal)
    ∧ quiescent_GluDxRefIdeal (hGluDxRefIdeal := hGluDxRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixInDw (hMixInDw := hMixInDw)
    ∧ quiescent_MixInDwIdeal (hMixInDwIdeal := hMixInDwIdeal)
    ∧ quiescent_MixInDwRefIdeal (hMixInDwRefIdeal := hMixInDwRefIdeal)
    ∧ quiescent_MixInDx (hMixInDx := hMixInDx)
    ∧ quiescent_MixInDxIdeal (hMixInDxIdeal := hMixInDxIdeal)
    ∧ quiescent_MixInDxRefIdeal (hMixInDxRefIdeal := hMixInDxRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixOutDw (hMixOutDw := hMixOutDw)
    ∧ quiescent_MixOutDwIdeal (hMixOutDwIdeal := hMixOutDwIdeal)
    ∧ quiescent_MixOutDwRefIdeal (hMixOutDwRefIdeal := hMixOutDwRefIdeal)
    ∧ quiescent_MixOutDx (hMixOutDx := hMixOutDx)
    ∧ quiescent_MixOutDxIdeal (hMixOutDxIdeal := hMixOutDxIdeal)
    ∧ quiescent_MixOutDxRefIdeal (hMixOutDxRefIdeal := hMixOutDxRefIdeal)
    ∧ quiescent_AdamCCtx (hAdamCCtx := hAdamCCtx)
    ∧ quiescent_AdamCCtxIdeal (hAdamCCtxIdeal := hAdamCCtxIdeal)
    ∧ quiescent_AdamCCtxRefIdeal (hAdamCCtxRefIdeal := hAdamCCtxRefIdeal)
    ∧ quiescent_AdamAdaW (hAdamAdaW := hAdamAdaW)
    ∧ quiescent_AdamAdaWIdeal (hAdamAdaWIdeal := hAdamAdaWIdeal)
    ∧ quiescent_AdamAdaWRefIdeal (hAdamAdaWRefIdeal := hAdamAdaWRefIdeal)
    ∧ quiescent_AdamAdaB (hAdamAdaB := hAdamAdaB)
    ∧ quiescent_AdamAdaBIdeal (hAdamAdaBIdeal := hAdamAdaBIdeal)
    ∧ quiescent_AdamAdaBRefIdeal (hAdamAdaBRefIdeal := hAdamAdaBRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamFfnUp (hAdamFfnUp := hAdamFfnUp)
    ∧ quiescent_AdamFfnUpIdeal (hAdamFfnUpIdeal := hAdamFfnUpIdeal)
    ∧ quiescent_AdamFfnUpRefIdeal (hAdamFfnUpRefIdeal := hAdamFfnUpRefIdeal)
    ∧ quiescent_AdamConvW (hAdamConvW := hAdamConvW)
    ∧ quiescent_AdamConvWIdeal (hAdamConvWIdeal := hAdamConvWIdeal)
    ∧ quiescent_AdamConvWRefIdeal (hAdamConvWRefIdeal := hAdamConvWRefIdeal)
    ∧ quiescent_AdamConvB (hAdamConvB := hAdamConvB)
    ∧ quiescent_AdamConvBIdeal (hAdamConvBIdeal := hAdamConvBIdeal)
    ∧ quiescent_AdamConvBRefIdeal (hAdamConvBRefIdeal := hAdamConvBRefIdeal)
    ∧ quiescent_AdamFfnDown (hAdamFfnDown := hAdamFfnDown)
    ∧ quiescent_AdamFfnDownIdeal (hAdamFfnDownIdeal := hAdamFfnDownIdeal)
    ∧ quiescent_AdamFfnDownRefIdeal (hAdamFfnDownRefIdeal := hAdamFfnDownRefIdeal)
    ∧ quiescent_AdamPoolW (hAdamPoolW := hAdamPoolW)
    ∧ quiescent_AdamPoolWIdeal (hAdamPoolWIdeal := hAdamPoolWIdeal)
    ∧ quiescent_AdamPoolWRefIdeal (hAdamPoolWRefIdeal := hAdamPoolWRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_AdamQkv (hAdamQkv := hAdamQkv)
    ∧ quiescent_AdamQkvIdeal (hAdamQkvIdeal := hAdamQkvIdeal)
    ∧ quiescent_AdamQkvRefIdeal (hAdamQkvRefIdeal := hAdamQkvRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSink (hAdamSink := hAdamSink)
    ∧ quiescent_AdamSinkIdeal (hAdamSinkIdeal := hAdamSinkIdeal)
    ∧ quiescent_AdamSinkRefIdeal (hAdamSinkRefIdeal := hAdamSinkRefIdeal)
    ∧ quiescent_AdamLambda (hAdamLambda := hAdamLambda)
    ∧ quiescent_AdamLambdaIdeal (hAdamLambdaIdeal := hAdamLambdaIdeal)
    ∧ quiescent_AdamLambdaRefIdeal (hAdamLambdaRefIdeal := hAdamLambdaRefIdeal)
    ∧ quiescent_AdamLogDt (hAdamLogDt := hAdamLogDt)
    ∧ quiescent_AdamLogDtIdeal (hAdamLogDtIdeal := hAdamLogDtIdeal)
    ∧ quiescent_AdamLogDtRefIdeal (hAdamLogDtRefIdeal := hAdamLogDtRefIdeal)
    ∧ quiescent_AdamSsmB (hAdamSsmB := hAdamSsmB)
    ∧ quiescent_AdamSsmBIdeal (hAdamSsmBIdeal := hAdamSsmBIdeal)
    ∧ quiescent_AdamSsmBRefIdeal (hAdamSsmBRefIdeal := hAdamSsmBRefIdeal)
    ∧ quiescent_AdamSsmC (hAdamSsmC := hAdamSsmC)
    ∧ quiescent_AdamSsmCIdeal (hAdamSsmCIdeal := hAdamSsmCIdeal)
    ∧ quiescent_AdamSsmCRefIdeal (hAdamSsmCRefIdeal := hAdamSsmCRefIdeal)
    ∧ quiescent_AdamSsmD (hAdamSsmD := hAdamSsmD)
    ∧ quiescent_AdamSsmDIdeal (hAdamSsmDIdeal := hAdamSsmDIdeal)
    ∧ quiescent_AdamSsmDRefIdeal (hAdamSsmDRefIdeal := hAdamSsmDRefIdeal)
    ∧ quiescent_AdamMixIn (hAdamMixIn := hAdamMixIn)
    ∧ quiescent_AdamMixInIdeal (hAdamMixInIdeal := hAdamMixInIdeal)
    ∧ quiescent_AdamMixInRefIdeal (hAdamMixInRefIdeal := hAdamMixInRefIdeal)
    ∧ quiescent_AdamMixBias (hAdamMixBias := hAdamMixBias)
    ∧ quiescent_AdamMixBiasIdeal (hAdamMixBiasIdeal := hAdamMixBiasIdeal)
    ∧ quiescent_AdamMixBiasRefIdeal (hAdamMixBiasRefIdeal := hAdamMixBiasRefIdeal)
    ∧ quiescent_AdamMixNorm (hAdamMixNorm := hAdamMixNorm)
    ∧ quiescent_AdamMixNormIdeal (hAdamMixNormIdeal := hAdamMixNormIdeal)
    ∧ quiescent_AdamMixNormRefIdeal (hAdamMixNormRefIdeal := hAdamMixNormRefIdeal)
    ∧ quiescent_AdamMixW (hAdamMixW := hAdamMixW)
    ∧ quiescent_AdamMixWIdeal (hAdamMixWIdeal := hAdamMixWIdeal)
    ∧ quiescent_AdamMixWRefIdeal (hAdamMixWRefIdeal := hAdamMixWRefIdeal)
    ∧ quiescent_AdamMixB (hAdamMixB := hAdamMixB)
    ∧ quiescent_AdamMixBIdeal (hAdamMixBIdeal := hAdamMixBIdeal)
    ∧ quiescent_AdamMixBRefIdeal (hAdamMixBRefIdeal := hAdamMixBRefIdeal)
    ∧ quiescent_AdamMixOut (hAdamMixOut := hAdamMixOut)
    ∧ quiescent_AdamMixOutIdeal (hAdamMixOutIdeal := hAdamMixOutIdeal)
    ∧ quiescent_AdamMixOutRefIdeal (hAdamMixOutRefIdeal := hAdamMixOutRefIdeal)
    ∧ quiescent_AdaDw (hAdaDw := hAdaDw)
    ∧ quiescent_AdaDwIdeal (hAdaDwIdeal := hAdaDwIdeal)
    ∧ quiescent_AdaDwRefIdeal (hAdaDwRefIdeal := hAdaDwRefIdeal)
    ∧ quiescent_CtxCond (hCtxCond := hCtxCond)
    ∧ quiescent_CtxCondIdeal (hCtxCondIdeal := hCtxCondIdeal)
    ∧ quiescent_CtxCondRefIdeal (hCtxCondRefIdeal := hCtxCondRefIdeal)
    ∧ quiescent_SumFfnUp (hSumFfnUp := hSumFfnUp)
    ∧ quiescent_SumFfnUpIdeal (hSumFfnUpIdeal := hSumFfnUpIdeal)
    ∧ quiescent_SumFfnUpRefIdeal (hSumFfnUpRefIdeal := hSumFfnUpRefIdeal)
    ∧ quiescent_SumFfnDown (hSumFfnDown := hSumFfnDown)
    ∧ quiescent_SumFfnDownIdeal (hSumFfnDownIdeal := hSumFfnDownIdeal)
    ∧ quiescent_SumFfnDownRefIdeal (hSumFfnDownRefIdeal := hSumFfnDownRefIdeal)
    ∧ quiescent_SumPoolW (hSumPoolW := hSumPoolW)
    ∧ quiescent_SumPoolWIdeal (hSumPoolWIdeal := hSumPoolWIdeal)
    ∧ quiescent_SumPoolWRefIdeal (hSumPoolWRefIdeal := hSumPoolWRefIdeal)
    ∧ quiescent_SumQkv (hSumQkv := hSumQkv)
    ∧ quiescent_SumQkvIdeal (hSumQkvIdeal := hSumQkvIdeal)
    ∧ quiescent_SumQkvRefIdeal (hSumQkvRefIdeal := hSumQkvRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_SumMixIn (hSumMixIn := hSumMixIn)
    ∧ quiescent_SumMixInIdeal (hSumMixInIdeal := hSumMixInIdeal)
    ∧ quiescent_SumMixInRefIdeal (hSumMixInRefIdeal := hSumMixInRefIdeal)
    ∧ quiescent_SumMixOut (hSumMixOut := hSumMixOut)
    ∧ quiescent_SumMixOutIdeal (hSumMixOutIdeal := hSumMixOutIdeal)
    ∧ quiescent_SumMixOutRefIdeal (hSumMixOutRefIdeal := hSumMixOutRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_SumCond (hSumCond := hSumCond)
    ∧ quiescent_SumCondIdeal (hSumCondIdeal := hSumCondIdeal)
    ∧ quiescent_SumCondRefIdeal (hSumCondRefIdeal := hSumCondRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_DownDw_DownDwIdeal
    ∧ algebraic_DownDwIdeal_DownDwRefIdeal (hDownDwIdeal := hDownDwIdeal) (hDownDwRefIdeal := hDownDwRefIdeal)
    ∧ preserves_DownDx_DownDxIdeal
    ∧ algebraic_DownDxIdeal_DownDxRefIdeal (hDownDxIdeal := hDownDxIdeal) (hDownDxRefIdeal := hDownDxRefIdeal)
    ∧ preserves_UpDw_UpDwIdeal
    ∧ algebraic_UpDwIdeal_UpDwRefIdeal (hUpDwIdeal := hUpDwIdeal) (hUpDwRefIdeal := hUpDwRefIdeal)
    ∧ preserves_UpDxV_UpDxVIdeal
    ∧ algebraic_UpDxVIdeal_UpDxVRefIdeal (hUpDxVIdeal := hUpDxVIdeal) (hUpDxVRefIdeal := hUpDxVRefIdeal)
    ∧ preserves_UpDxG_UpDxGIdeal
    ∧ algebraic_UpDxGIdeal_UpDxGRefIdeal (hUpDxGIdeal := hUpDxGIdeal) (hUpDxGRefIdeal := hUpDxGRefIdeal)
    ∧ preserves_Qkv_QkvIdeal
    ∧ algebraic_QkvIdeal_QkvRefIdeal (hQkvIdeal := hQkvIdeal) (hQkvRefIdeal := hQkvRefIdeal)
    ∧ preserves_QkvDw_QkvDwIdeal
    ∧ algebraic_QkvDwIdeal_QkvDwRefIdeal (hQkvDwIdeal := hQkvDwIdeal) (hQkvDwRefIdeal := hQkvDwRefIdeal)
    ∧ preserves_QkvDx_QkvDxIdeal
    ∧ algebraic_QkvDxIdeal_QkvDxRefIdeal (hQkvDxIdeal := hQkvDxIdeal) (hQkvDxRefIdeal := hQkvDxRefIdeal)
    ∧ preserves_Out_OutIdeal
    ∧ algebraic_OutIdeal_OutRefIdeal (hOutIdeal := hOutIdeal) (hOutRefIdeal := hOutRefIdeal)
    ∧ preserves_OutDw_OutDwIdeal
    ∧ algebraic_OutDwIdeal_OutDwRefIdeal (hOutDwIdeal := hOutDwIdeal) (hOutDwRefIdeal := hOutDwRefIdeal)
    ∧ preserves_OutDx_OutDxIdeal
    ∧ algebraic_OutDxIdeal_OutDxRefIdeal (hOutDxIdeal := hOutDxIdeal) (hOutDxRefIdeal := hOutDxRefIdeal)
    ∧ preserves_GluDx_GluDxIdeal
    ∧ algebraic_GluDxIdeal_GluDxRefIdeal (hGluDxIdeal := hGluDxIdeal) (hGluDxRefIdeal := hGluDxRefIdeal)
    ∧ preserves_MixIn_MixInIdeal
    ∧ algebraic_MixInIdeal_MixInRefIdeal (hMixInIdeal := hMixInIdeal) (hMixInRefIdeal := hMixInRefIdeal)
    ∧ preserves_MixInDw_MixInDwIdeal
    ∧ algebraic_MixInDwIdeal_MixInDwRefIdeal (hMixInDwIdeal := hMixInDwIdeal) (hMixInDwRefIdeal := hMixInDwRefIdeal)
    ∧ preserves_MixInDx_MixInDxIdeal
    ∧ algebraic_MixInDxIdeal_MixInDxRefIdeal (hMixInDxIdeal := hMixInDxIdeal) (hMixInDxRefIdeal := hMixInDxRefIdeal)
    ∧ preserves_MixOut_MixOutIdeal
    ∧ algebraic_MixOutIdeal_MixOutRefIdeal (hMixOutIdeal := hMixOutIdeal) (hMixOutRefIdeal := hMixOutRefIdeal)
    ∧ preserves_MixOutDw_MixOutDwIdeal
    ∧ algebraic_MixOutDwIdeal_MixOutDwRefIdeal (hMixOutDwIdeal := hMixOutDwIdeal) (hMixOutDwRefIdeal := hMixOutDwRefIdeal)
    ∧ preserves_MixOutDx_MixOutDxIdeal
    ∧ algebraic_MixOutDxIdeal_MixOutDxRefIdeal (hMixOutDxIdeal := hMixOutDxIdeal) (hMixOutDxRefIdeal := hMixOutDxRefIdeal)
    ∧ preserves_AdamCCtx_AdamCCtxIdeal
    ∧ algebraic_AdamCCtxIdeal_AdamCCtxRefIdeal (hAdamCCtxIdeal := hAdamCCtxIdeal) (hAdamCCtxRefIdeal := hAdamCCtxRefIdeal)
    ∧ preserves_AdamAdaW_AdamAdaWIdeal
    ∧ algebraic_AdamAdaWIdeal_AdamAdaWRefIdeal (hAdamAdaWIdeal := hAdamAdaWIdeal) (hAdamAdaWRefIdeal := hAdamAdaWRefIdeal)
    ∧ preserves_AdamAdaB_AdamAdaBIdeal
    ∧ algebraic_AdamAdaBIdeal_AdamAdaBRefIdeal (hAdamAdaBIdeal := hAdamAdaBIdeal) (hAdamAdaBRefIdeal := hAdamAdaBRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamFfnUp_AdamFfnUpIdeal
    ∧ algebraic_AdamFfnUpIdeal_AdamFfnUpRefIdeal (hAdamFfnUpIdeal := hAdamFfnUpIdeal) (hAdamFfnUpRefIdeal := hAdamFfnUpRefIdeal)
    ∧ preserves_AdamConvW_AdamConvWIdeal
    ∧ algebraic_AdamConvWIdeal_AdamConvWRefIdeal (hAdamConvWIdeal := hAdamConvWIdeal) (hAdamConvWRefIdeal := hAdamConvWRefIdeal)
    ∧ preserves_AdamConvB_AdamConvBIdeal
    ∧ algebraic_AdamConvBIdeal_AdamConvBRefIdeal (hAdamConvBIdeal := hAdamConvBIdeal) (hAdamConvBRefIdeal := hAdamConvBRefIdeal)
    ∧ preserves_AdamFfnDown_AdamFfnDownIdeal
    ∧ algebraic_AdamFfnDownIdeal_AdamFfnDownRefIdeal (hAdamFfnDownIdeal := hAdamFfnDownIdeal) (hAdamFfnDownRefIdeal := hAdamFfnDownRefIdeal)
    ∧ preserves_AdamPoolW_AdamPoolWIdeal
    ∧ algebraic_AdamPoolWIdeal_AdamPoolWRefIdeal (hAdamPoolWIdeal := hAdamPoolWIdeal) (hAdamPoolWRefIdeal := hAdamPoolWRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_AdamQkv_AdamQkvIdeal
    ∧ algebraic_AdamQkvIdeal_AdamQkvRefIdeal (hAdamQkvIdeal := hAdamQkvIdeal) (hAdamQkvRefIdeal := hAdamQkvRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSink_AdamSinkIdeal
    ∧ algebraic_AdamSinkIdeal_AdamSinkRefIdeal (hAdamSinkIdeal := hAdamSinkIdeal) (hAdamSinkRefIdeal := hAdamSinkRefIdeal)
    ∧ preserves_AdamLambda_AdamLambdaIdeal
    ∧ algebraic_AdamLambdaIdeal_AdamLambdaRefIdeal (hAdamLambdaIdeal := hAdamLambdaIdeal) (hAdamLambdaRefIdeal := hAdamLambdaRefIdeal)
    ∧ preserves_AdamLogDt_AdamLogDtIdeal
    ∧ algebraic_AdamLogDtIdeal_AdamLogDtRefIdeal (hAdamLogDtIdeal := hAdamLogDtIdeal) (hAdamLogDtRefIdeal := hAdamLogDtRefIdeal)
    ∧ preserves_AdamSsmB_AdamSsmBIdeal
    ∧ algebraic_AdamSsmBIdeal_AdamSsmBRefIdeal (hAdamSsmBIdeal := hAdamSsmBIdeal) (hAdamSsmBRefIdeal := hAdamSsmBRefIdeal)
    ∧ preserves_AdamSsmC_AdamSsmCIdeal
    ∧ algebraic_AdamSsmCIdeal_AdamSsmCRefIdeal (hAdamSsmCIdeal := hAdamSsmCIdeal) (hAdamSsmCRefIdeal := hAdamSsmCRefIdeal)
    ∧ preserves_AdamSsmD_AdamSsmDIdeal
    ∧ algebraic_AdamSsmDIdeal_AdamSsmDRefIdeal (hAdamSsmDIdeal := hAdamSsmDIdeal) (hAdamSsmDRefIdeal := hAdamSsmDRefIdeal)
    ∧ preserves_AdamMixIn_AdamMixInIdeal
    ∧ algebraic_AdamMixInIdeal_AdamMixInRefIdeal (hAdamMixInIdeal := hAdamMixInIdeal) (hAdamMixInRefIdeal := hAdamMixInRefIdeal)
    ∧ preserves_AdamMixBias_AdamMixBiasIdeal
    ∧ algebraic_AdamMixBiasIdeal_AdamMixBiasRefIdeal (hAdamMixBiasIdeal := hAdamMixBiasIdeal) (hAdamMixBiasRefIdeal := hAdamMixBiasRefIdeal)
    ∧ preserves_AdamMixNorm_AdamMixNormIdeal
    ∧ algebraic_AdamMixNormIdeal_AdamMixNormRefIdeal (hAdamMixNormIdeal := hAdamMixNormIdeal) (hAdamMixNormRefIdeal := hAdamMixNormRefIdeal)
    ∧ preserves_AdamMixW_AdamMixWIdeal
    ∧ algebraic_AdamMixWIdeal_AdamMixWRefIdeal (hAdamMixWIdeal := hAdamMixWIdeal) (hAdamMixWRefIdeal := hAdamMixWRefIdeal)
    ∧ preserves_AdamMixB_AdamMixBIdeal
    ∧ algebraic_AdamMixBIdeal_AdamMixBRefIdeal (hAdamMixBIdeal := hAdamMixBIdeal) (hAdamMixBRefIdeal := hAdamMixBRefIdeal)
    ∧ preserves_AdamMixOut_AdamMixOutIdeal
    ∧ algebraic_AdamMixOutIdeal_AdamMixOutRefIdeal (hAdamMixOutIdeal := hAdamMixOutIdeal) (hAdamMixOutRefIdeal := hAdamMixOutRefIdeal)
    ∧ preserves_AdaDw_AdaDwIdeal
    ∧ algebraic_AdaDwIdeal_AdaDwRefIdeal (hAdaDwIdeal := hAdaDwIdeal) (hAdaDwRefIdeal := hAdaDwRefIdeal)
    ∧ preserves_CtxCond_CtxCondIdeal
    ∧ algebraic_CtxCondIdeal_CtxCondRefIdeal (hCtxCondIdeal := hCtxCondIdeal) (hCtxCondRefIdeal := hCtxCondRefIdeal)
    ∧ preserves_SumFfnUp_SumFfnUpIdeal
    ∧ algebraic_SumFfnUpIdeal_SumFfnUpRefIdeal (hSumFfnUpIdeal := hSumFfnUpIdeal) (hSumFfnUpRefIdeal := hSumFfnUpRefIdeal)
    ∧ preserves_SumFfnDown_SumFfnDownIdeal
    ∧ algebraic_SumFfnDownIdeal_SumFfnDownRefIdeal (hSumFfnDownIdeal := hSumFfnDownIdeal) (hSumFfnDownRefIdeal := hSumFfnDownRefIdeal)
    ∧ preserves_SumPoolW_SumPoolWIdeal
    ∧ algebraic_SumPoolWIdeal_SumPoolWRefIdeal (hSumPoolWIdeal := hSumPoolWIdeal) (hSumPoolWRefIdeal := hSumPoolWRefIdeal)
    ∧ preserves_SumQkv_SumQkvIdeal
    ∧ algebraic_SumQkvIdeal_SumQkvRefIdeal (hSumQkvIdeal := hSumQkvIdeal) (hSumQkvRefIdeal := hSumQkvRefIdeal)
    ∧ preserves_SumOut_SumOutIdeal
    ∧ algebraic_SumOutIdeal_SumOutRefIdeal (hSumOutIdeal := hSumOutIdeal) (hSumOutRefIdeal := hSumOutRefIdeal)
    ∧ preserves_SumMixIn_SumMixInIdeal
    ∧ algebraic_SumMixInIdeal_SumMixInRefIdeal (hSumMixInIdeal := hSumMixInIdeal) (hSumMixInRefIdeal := hSumMixInRefIdeal)
    ∧ preserves_SumMixOut_SumMixOutIdeal
    ∧ algebraic_SumMixOutIdeal_SumMixOutRefIdeal (hSumMixOutIdeal := hSumMixOutIdeal) (hSumMixOutRefIdeal := hSumMixOutRefIdeal)
    ∧ preserves_SumSmall_SumSmallIdeal
    ∧ algebraic_SumSmallIdeal_SumSmallRefIdeal (hSumSmallIdeal := hSumSmallIdeal) (hSumSmallRefIdeal := hSumSmallRefIdeal)
    ∧ preserves_SumCond_SumCondIdeal
    ∧ algebraic_SumCondIdeal_SumCondRefIdeal (hSumCondIdeal := hSumCondIdeal) (hSumCondRefIdeal := hSumCondRefIdeal)
    ∧ preserves_LossHead_LossHeadIdeal
    ∧ algebraic_LossHeadIdeal_LossHeadRefIdeal (hLossHeadIdeal := hLossHeadIdeal) (hLossHeadRefIdeal := hLossHeadRefIdeal)
-- ==== Pre_finite.lean ====
abbrev S4352x16x64 : Shape := ⟨3, ![4352, 16, 64]⟩
abbrev S4352x4x64 : Shape := ⟨3, ![4352, 4, 64]⟩
abbrev S4x4 : Shape := ⟨2, ![4, 4]⟩
abbrev S_ : Shape := ⟨0, ![]⟩

class Facts : Prop where
  bitsLt_bf16_f32 : FTy.bits .bf16 < FTy.bits .f32
  bcast_S_S4352x16x64 : S_.BroadcastsInDim S4352x16x64 (![] : Fin 0 → Fin S4352x16x64.rank)
  reducesTo_S4352x16x64_S_d0_1_2 : S4352x16x64.ReducesTo [0, 1, 2] S_
  h_S_ : 0 < S_.numel
  bcast_S_S4352x4x64 : S_.BroadcastsInDim S4352x4x64 (![] : Fin 0 → Fin S4352x4x64.rank)
  reducesTo_S4352x4x64_S_d0_1_2 : S4352x4x64.ReducesTo [0, 1, 2] S_
  bcast_S_S4x4 : S_.BroadcastsInDim S4x4 (![] : Fin 0 → Fin S4x4.rank)
  reducesTo_S4x4_S_d0_1 : S4x4.ReducesTo [0, 1] S_

variable [Facts]

def fn_part1 {F : FTy → Type} [FloatOps F] (main_arg4 : FVec F S4352x16x64 .bf16) (main_v16 : IVec S_ 1) (main_v17 : FVec F S4x4 .f32) : IVec S_ 1 :=
  let main_cst_4 : FVec F S_ .f32 := constant S_ .f32 0x7F800000#32
  let main_v18 : FVec F S4x4 .f32 := broadcastInDim S4x4 ![] bcast_S_S4x4 main_cst_4
  let main_v19 : IVec S4x4 1 := cmpf .olt main_v17 main_v18
  let main_c_5 : IVec S_ 1 := constantI S_ 1 1#1
  let main_v20 : IVec S_ 1 := (fun x v => Host.reduce IntOp.andi x v reducesTo_S4x4_S_d0_1 h_S_) main_v19 main_c_5
  let main_v21 : IVec S_ 1 := andi main_v16 main_v20
  let main_v22 : FVec F S4352x16x64 .f32 := (extf .f32 · bitsLt_bf16_f32) main_arg4
  let main_v23 : FVec F S4352x16x64 .f32 := Host.absf main_v22
  let main_cst_6 : FVec F S_ .f32 := constant S_ .f32 0x7F800000#32
  let main_v24 : FVec F S4352x16x64 .f32 := broadcastInDim S4352x16x64 ![] bcast_S_S4352x16x64 main_cst_6
  let main_v25 : IVec S4352x16x64 1 := cmpf .olt main_v23 main_v24
  let main_c_7 : IVec S_ 1 := constantI S_ 1 1#1
  let main_v26 : IVec S_ 1 := (fun x v => Host.reduce IntOp.andi x v reducesTo_S4352x16x64_S_d0_1_2 h_S_) main_v25 main_c_7
  let main_v27 : IVec S_ 1 := andi main_v21 main_v26
  main_v27

def fn {F : FTy → Type} [FloatOps F] (main_arg0 : FVec F S4352x16x64 .bf16) (main_arg1 : FVec F S4352x4x64 .bf16) (main_arg2 : FVec F S4352x4x64 .bf16) (main_arg3 : FVec F S4x4 .f32) (main_arg4 : FVec F S4352x16x64 .bf16) : IVec S_ 1 :=
  let main_v0 : FVec F S4352x16x64 .f32 := (extf .f32 · bitsLt_bf16_f32) main_arg0
  let main_v1 : FVec F S4352x16x64 .f32 := Host.absf main_v0
  let main_cst : FVec F S_ .f32 := constant S_ .f32 0x7F800000#32
  let main_v2 : FVec F S4352x16x64 .f32 := broadcastInDim S4352x16x64 ![] bcast_S_S4352x16x64 main_cst
  let main_v3 : IVec S4352x16x64 1 := cmpf .olt main_v1 main_v2
  let main_c : IVec S_ 1 := constantI S_ 1 1#1
  let main_v4 : IVec S_ 1 := (fun x v => Host.reduce IntOp.andi x v reducesTo_S4352x16x64_S_d0_1_2 h_S_) main_v3 main_c
  let main_v5 : FVec F S4352x4x64 .f32 := (extf .f32 · bitsLt_bf16_f32) main_arg1
  let main_v6 : FVec F S4352x4x64 .f32 := Host.absf main_v5
  let main_cst_0 : FVec F S_ .f32 := constant S_ .f32 0x7F800000#32
  let main_v7 : FVec F S4352x4x64 .f32 := broadcastInDim S4352x4x64 ![] bcast_S_S4352x4x64 main_cst_0
  let main_v8 : IVec S4352x4x64 1 := cmpf .olt main_v6 main_v7
  let main_c_1 : IVec S_ 1 := constantI S_ 1 1#1
  let main_v9 : IVec S_ 1 := (fun x v => Host.reduce IntOp.andi x v reducesTo_S4352x4x64_S_d0_1_2 h_S_) main_v8 main_c_1
  let main_v10 : IVec S_ 1 := andi main_v4 main_v9
  let main_v11 : FVec F S4352x4x64 .f32 := (extf .f32 · bitsLt_bf16_f32) main_arg2
  let main_v12 : FVec F S4352x4x64 .f32 := Host.absf main_v11
  let main_cst_2 : FVec F S_ .f32 := constant S_ .f32 0x7F800000#32
  let main_v13 : FVec F S4352x4x64 .f32 := broadcastInDim S4352x4x64 ![] bcast_S_S4352x4x64 main_cst_2
  let main_v14 : IVec S4352x4x64 1 := cmpf .olt main_v12 main_v13
  let main_c_3 : IVec S_ 1 := constantI S_ 1 1#1
  let main_v15 : IVec S_ 1 := (fun x v => Host.reduce IntOp.andi x v reducesTo_S4352x4x64_S_d0_1_2 h_S_) main_v14 main_c_3
  let main_v16 : IVec S_ 1 := andi main_v10 main_v15
  let main_v17 : FVec F S4x4 .f32 := Host.absf main_arg3
  fn_part1 (F := F) main_arg4 main_v16 main_v17
-- ==== Kernel.lean ====
abbrev S4352x16x64 : Shape := ⟨3, ![4352, 16, 64]⟩
abbrev S4352x4x64 : Shape := ⟨3, ![4352, 4, 64]⟩
abbrev S4x4 : Shape := ⟨2, ![4, 4]⟩
abbrev S4352x4x4x64 : Shape := ⟨4, ![4352, 4, 4, 64]⟩
abbrev S4352 : Shape := ⟨1, ![4352]⟩
abbrev S4352x1 : Shape := ⟨2, ![4352, 1]⟩
abbrev S1x4352 : Shape := ⟨2, ![1, 4352]⟩
abbrev S_ : Shape := ⟨0, ![]⟩
abbrev S4352x4352 : Shape := ⟨2, ![4352, 4352]⟩
abbrev S4x4352x4352x4 : Shape := ⟨4, ![4, 4352, 4352, 4]⟩
abbrev S4x4x4352x4352 : Shape := ⟨4, ![4, 4, 4352, 4352]⟩
abbrev S1x1x4352x4352 : Shape := ⟨4, ![1, 1, 4352, 4352]⟩
abbrev S4x4x1x1 : Shape := ⟨4, ![4, 4, 1, 1]⟩
abbrev S4x4x4352x1 : Shape := ⟨4, ![4, 4, 4352, 1]⟩
abbrev S4x4x4352x4353 : Shape := ⟨4, ![4, 4, 4352, 4353]⟩
abbrev S4x4x4352 : Shape := ⟨3, ![4, 4, 4352]⟩
abbrev S16x4352x64 : Shape := ⟨3, ![16, 4352, 64]⟩
abbrev S4x4352x64 : Shape := ⟨3, ![4, 4352, 64]⟩
abbrev S4x128x64 : Shape := ⟨3, ![4, 128, 64]⟩
abbrev S4x256x64 : Shape := ⟨3, ![4, 256, 64]⟩
abbrev S4x4096x64 : Shape := ⟨3, ![4, 4096, 64]⟩
abbrev S4x4608x64 : Shape := ⟨3, ![4, 4608, 64]⟩
abbrev S16x1x1 : Shape := ⟨3, ![16, 1, 1]⟩
abbrev S16x4352x1 : Shape := ⟨3, ![16, 4352, 1]⟩
abbrev S1x256x64 : Shape := ⟨3, ![1, 256, 64]⟩
abbrev S1x128x64 : Shape := ⟨3, ![1, 128, 64]⟩
abbrev S4x1x1 : Shape := ⟨3, ![4, 1, 1]⟩
abbrev S4x128x1 : Shape := ⟨3, ![4, 128, 1]⟩
abbrev S1x4608x64 : Shape := ⟨3, ![1, 4608, 64]⟩
abbrev S512x640 : Shape := ⟨2, ![512, 640]⟩
abbrev S256x64 : Shape := ⟨2, ![256, 64]⟩
abbrev S128x64 : Shape := ⟨2, ![128, 64]⟩
abbrev S640x64 : Shape := ⟨2, ![640, 64]⟩
abbrev S512x64 : Shape := ⟨2, ![512, 64]⟩
abbrev S1x128x1 : Shape := ⟨3, ![1, 128, 1]⟩
abbrev S128x1 : Shape := ⟨2, ![128, 1]⟩
abbrev S512x1 : Shape := ⟨2, ![512, 1]⟩
abbrev S1x1x1 : Shape := ⟨3, ![1, 1, 1]⟩
abbrev S1x1 : Shape := ⟨2, ![1, 1]⟩
abbrev S512 : Shape := ⟨1, ![512]⟩
abbrev S1 : Shape := ⟨1, ![1]⟩
abbrev S1x384x64 : Shape := ⟨3, ![1, 384, 64]⟩
abbrev S384x64 : Shape := ⟨2, ![384, 64]⟩

abbrev nBuf : Space → Nat
  | .hbm => 72
  | .vmem => 32
  | .smem => 0
  | _ => 0

abbrev bufTy : (tb : Table) → Fin (tcTables nBuf tb) → BufTy
  | .hbm, ⟨0, _⟩ => ⟨S4352x16x64, .bf16⟩
  | .hbm, ⟨1, _⟩ => ⟨S4352x4x64, .bf16⟩
  | .hbm, ⟨2, _⟩ => ⟨S4352x4x64, .bf16⟩
  | .hbm, ⟨3, _⟩ => ⟨S4x4, .f32⟩
  | .hbm, ⟨4, _⟩ => ⟨S4352x16x64, .bf16⟩
  | .hbm, ⟨5, _⟩ => ⟨S4352x16x64, .f32⟩
  | .hbm, ⟨6, _⟩ => ⟨S4352x4x4x64, .f32⟩
  | .hbm, ⟨7, _⟩ => ⟨S4352x4x64, .f32⟩
  | .hbm, ⟨8, _⟩ => ⟨S4352, .i32⟩
  | .hbm, ⟨9, _⟩ => ⟨S4352x1, .i32⟩
  | .hbm, ⟨10, _⟩ => ⟨S1x4352, .i32⟩
  | .hbm, ⟨11, _⟩ => ⟨S_, .i32⟩
  | .hbm, ⟨12, _⟩ => ⟨S1x4352, .i32⟩
  | .hbm, ⟨13, _⟩ => ⟨S1x4352, .i1⟩
  | .hbm, ⟨14, _⟩ => ⟨S_, .i32⟩
  | .hbm, ⟨15, _⟩ => ⟨S4352x1, .i32⟩
  | .hbm, ⟨16, _⟩ => ⟨S4352x1, .i1⟩
  | .hbm, ⟨17, _⟩ => ⟨S4352x4352, .i32⟩
  | .hbm, ⟨18, _⟩ => ⟨S4352x4352, .i32⟩
  | .hbm, ⟨19, _⟩ => ⟨S4352x4352, .i32⟩
  | .hbm, ⟨20, _⟩ => ⟨S4352x4352, .i32⟩
  | .hbm, ⟨21, _⟩ => ⟨S_, .i32⟩
  | .hbm, ⟨22, _⟩ => ⟨S4352x4352, .i32⟩
  | .hbm, ⟨23, _⟩ => ⟨S4352x4352, .i1⟩
  | .hbm, ⟨24, _⟩ => ⟨S4352x4352, .i1⟩
  | .hbm, ⟨25, _⟩ => ⟨S4352x4352, .i1⟩
  | .hbm, ⟨26, _⟩ => ⟨S4352x4352, .i1⟩
  | .hbm, ⟨27, _⟩ => ⟨S4352x4352, .i1⟩
  | .hbm, ⟨28, _⟩ => ⟨S4x4352x4352x4, .f32⟩
  | .hbm, ⟨29, _⟩ => ⟨S4x4x4352x4352, .f32⟩
  | .hbm, ⟨30, _⟩ => ⟨S_, .f32⟩
  | .hbm, ⟨31, _⟩ => ⟨S4x4x4352x4352, .f32⟩
  | .hbm, ⟨32, _⟩ => ⟨S4x4x4352x4352, .f32⟩
  | .hbm, ⟨33, _⟩ => ⟨S1x1x4352x4352, .i1⟩
  | .hbm, ⟨34, _⟩ => ⟨S_, .f32⟩
  | .hbm, ⟨35, _⟩ => ⟨S_, .f32⟩
  | .hbm, ⟨36, _⟩ => ⟨S4x4x4352x4352, .i1⟩
  | .hbm, ⟨37, _⟩ => ⟨S4x4x4352x4352, .f32⟩
  | .hbm, ⟨38, _⟩ => ⟨S4x4x4352x4352, .f32⟩
  | .hbm, ⟨39, _⟩ => ⟨S4x4x1x1, .f32⟩
  | .hbm, ⟨40, _⟩ => ⟨S4x4x4352x1, .f32⟩
  | .hbm, ⟨41, _⟩ => ⟨S4x4x4352x4353, .f32⟩
  | .hbm, ⟨42, _⟩ => ⟨S_, .f32⟩
  | .hbm, ⟨43, _⟩ => ⟨S4x4x4352, .f32⟩
  | .hbm, ⟨44, _⟩ => ⟨S4x4x4352x1, .f32⟩
  | .hbm, ⟨45, _⟩ => ⟨S4x4x4352x4353, .f32⟩
  | .hbm, ⟨46, _⟩ => ⟨S4x4x4352x4353, .f32⟩
  | .hbm, ⟨47, _⟩ => ⟨S4x4x4352x4353, .f32⟩
  | .hbm, ⟨48, _⟩ => ⟨S_, .f32⟩
  | .hbm, ⟨49, _⟩ => ⟨S4x4x4352, .f32⟩
  | .hbm, ⟨50, _⟩ => ⟨S4x4x4352, .f32⟩
  | .hbm, ⟨51, _⟩ => ⟨S4x4x4352, .f32⟩
  | .hbm, ⟨52, _⟩ => ⟨S16x4352x64, .bf16⟩
  | .hbm, ⟨53, _⟩ => ⟨S4x4352x64, .bf16⟩
  | .hbm, ⟨54, _⟩ => ⟨S_, .bf16⟩
  | .hbm, ⟨55, _⟩ => ⟨S4x128x64, .bf16⟩
  | .hbm, ⟨56, _⟩ => ⟨S4x256x64, .bf16⟩
  | .hbm, ⟨57, _⟩ => ⟨S4x4096x64, .bf16⟩
  | .hbm, ⟨58, _⟩ => ⟨S4x4608x64, .bf16⟩
  | .hbm, ⟨59, _⟩ => ⟨S4x4352x64, .bf16⟩
  | .hbm, ⟨60, _⟩ => ⟨S_, .bf16⟩
  | .hbm, ⟨61, _⟩ => ⟨S4x128x64, .bf16⟩
  | .hbm, ⟨62, _⟩ => ⟨S4x256x64, .bf16⟩
  | .hbm, ⟨63, _⟩ => ⟨S4x4096x64, .bf16⟩
  | .hbm, ⟨64, _⟩ => ⟨S4x4608x64, .bf16⟩
  | .hbm, ⟨65, _⟩ => ⟨S16x1x1, .f32⟩
  | .hbm, ⟨66, _⟩ => ⟨S16x4352x1, .f32⟩
  | .hbm, ⟨67, _⟩ => ⟨S16x4352x64, .bf16⟩
  | .hbm, ⟨68, _⟩ => ⟨S16x4352x64, .f32⟩
  | .hbm, ⟨69, _⟩ => ⟨S4x4608x64, .f32⟩
  | .hbm, ⟨70, _⟩ => ⟨S4x4608x64, .f32⟩
  | .hbm, ⟨71, _⟩ => ⟨S16x1x1, .f32⟩
  | .local _ .vmem, ⟨0, _⟩ => ⟨S4x128x64, .bf16⟩
  | .local _ .vmem, ⟨1, _⟩ => ⟨S4x128x64, .bf16⟩
  | .local _ .vmem, ⟨2, _⟩ => ⟨S1x256x64, .bf16⟩
  | .local _ .vmem, ⟨3, _⟩ => ⟨S1x256x64, .bf16⟩
  | .local _ .vmem, ⟨4, _⟩ => ⟨S1x128x64, .bf16⟩
  | .local _ .vmem, ⟨5, _⟩ => ⟨S1x128x64, .bf16⟩
  | .local _ .vmem, ⟨6, _⟩ => ⟨S1x128x64, .bf16⟩
  | .local _ .vmem, ⟨7, _⟩ => ⟨S1x128x64, .bf16⟩
  | .local _ .vmem, ⟨8, _⟩ => ⟨S1x128x64, .bf16⟩
  | .local _ .vmem, ⟨9, _⟩ => ⟨S1x128x64, .bf16⟩
  | .local _ .vmem, ⟨10, _⟩ => ⟨S1x256x64, .bf16⟩
  | .local _ .vmem, ⟨11, _⟩ => ⟨S1x256x64, .bf16⟩
  | .local _ .vmem, ⟨12, _⟩ => ⟨S1x128x64, .bf16⟩
  | .local _ .vmem, ⟨13, _⟩ => ⟨S1x128x64, .bf16⟩
  | .local _ .vmem, ⟨14, _⟩ => ⟨S1x128x64, .bf16⟩
  | .local _ .vmem, ⟨15, _⟩ => ⟨S1x128x64, .bf16⟩
  | .local _ .vmem, ⟨16, _⟩ => ⟨S1x128x64, .bf16⟩
  | .local _ .vmem, ⟨17, _⟩ => ⟨S1x128x64, .bf16⟩
  | .local _ .vmem, ⟨18, _⟩ => ⟨S4x1x1, .f32⟩
  | .local _ .vmem, ⟨19, _⟩ => ⟨S4x1x1, .f32⟩
  | .local _ .vmem, ⟨20, _⟩ => ⟨S4x128x1, .f32⟩
  | .local _ .vmem, ⟨21, _⟩ => ⟨S4x128x1, .f32⟩
  | .local _ .vmem, ⟨22, _⟩ => ⟨S4x128x64, .bf16⟩
  | .local _ .vmem, ⟨23, _⟩ => ⟨S4x128x64, .bf16⟩
  | .local _ .vmem, ⟨24, _⟩ => ⟨S4x128x64, .f32⟩
  | .local _ .vmem, ⟨25, _⟩ => ⟨S4x128x64, .f32⟩
  | .local _ .vmem, ⟨26, _⟩ => ⟨S1x4608x64, .f32⟩
  | .local _ .vmem, ⟨27, _⟩ => ⟨S1x4608x64, .f32⟩
  | .local _ .vmem, ⟨28, _⟩ => ⟨S1x4608x64, .f32⟩
  | .local _ .vmem, ⟨29, _⟩ => ⟨S1x4608x64, .f32⟩
  | .local _ .vmem, ⟨30, _⟩ => ⟨S4x1x1, .f32⟩
  | .local _ .vmem, ⟨31, _⟩ => ⟨S4x1x1, .f32⟩
  | _, _ => ⟨S4352x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51_0 : Ref sig .tc := ⟨.hbm, 68, rfl⟩
abbrev main_v51_1 : Ref sig .tc := ⟨.hbm, 69, rfl⟩
abbrev main_v51_2 : Ref sig .tc := ⟨.hbm, 70, rfl⟩
abbrev main_v51_3 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![4, 34], ![false, false]⟩

def k0_mult1 (i : grid0.Coords) : BitVec 32 :=
  let arg1 : BitVec 32 := BitVec.ofNat 32 (i 1).val
  let c128_i32_133 : BitVec 32 := 128#32
  let v197 : BitVec 32 := Scalar.muli arg1 c128_i32_133
  v197
def k0_off1 (i : grid0.Coords) : Fin 3 → Nat :=
  let c0_146 : Index := 0#32
  let arg1 : BitVec 32 := BitVec.ofNat 32 (i 1).val
  let c128_i32_133 : BitVec 32 := 128#32
  let v197 : BitVec 32 := Scalar.muli arg1 c128_i32_133
  let v198 : BitVec 32 := v197
  let v213 : Index := Scalar.indexCast v198
  let c0_147 : Index := 0#32
  ![0, v213.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4x128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4x128x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4x128x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4608x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x4608x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S4x1x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4352x16x64 : Shape := ⟨3, ![4352, 16, 64]⟩
abbrev S4352x4x64 : Shape := ⟨3, ![4352, 4, 64]⟩
abbrev S4x4 : Shape := ⟨2, ![4, 4]⟩
abbrev S4352x4x4x64 : Shape := ⟨4, ![4352, 4, 4, 64]⟩
abbrev S4352 : Shape := ⟨1, ![4352]⟩
abbrev S4352x1 : Shape := ⟨2, ![4352, 1]⟩
abbrev S1x4352 : Shape := ⟨2, ![1, 4352]⟩
abbrev S_ : Shape := ⟨0, ![]⟩
abbrev S4352x4352 : Shape := ⟨2, ![4352, 4352]⟩
abbrev S4x4352x4352x4 : Shape := ⟨4, ![4, 4352, 4352, 4]⟩
abbrev S4x4x4352x4352 : Shape := ⟨4, ![4, 4, 4352, 4352]⟩
abbrev S1x1x4352x4352 : Shape := ⟨4, ![1, 1, 4352, 4352]⟩
abbrev S4x4x1x1 : Shape := ⟨4, ![4, 4, 1, 1]⟩
abbrev S4x4x4352x1 : Shape := ⟨4, ![4, 4, 4352, 1]⟩
abbrev S4x4x4352x4353 : Shape := ⟨4, ![4, 4, 4352, 4353]⟩
abbrev S4x4x4352 : Shape := ⟨3, ![4, 4, 4352]⟩
abbrev S4x64x4x4352 : Shape := ⟨4, ![4, 64, 4, 4352]⟩
abbrev S4x64x4352 : Shape := ⟨3, ![4, 64, 4352]⟩
abbrev S4x4352x4x64 : Shape := ⟨4, ![4, 4352, 4, 64]⟩
abbrev S4x4352x64 : Shape := ⟨3, ![4, 4352, 64]⟩
abbrev S128x4x64 : Shape := ⟨3, ![128, 4, 64]⟩
abbrev S16x4352x64 : Shape := ⟨3, ![16, 4352, 64]⟩
abbrev S256x4x64 : Shape := ⟨3, ![256, 4, 64]⟩
abbrev S4096x4x64 : Shape := ⟨3, ![4096, 4, 64]⟩
abbrev S4608x4x64 : Shape := ⟨3, ![4608, 4, 64]⟩
abbrev S4x4608x64 : Shape := ⟨3, ![4, 4608, 64]⟩
abbrev S16x1x1 : Shape := ⟨3, ![16, 1, 1]⟩

abbrev nBuf : Space → Nat
  | .hbm => 139
  | .vmem => 0
  | .smem => 0
  | _ => 0

abbrev hbmTy0_0 (i : Nat) : BufTy := match i % 128 with
  | 0 => ⟨S4352x16x64, .bf16⟩
  | 1 => ⟨S4352x4x64, .bf16⟩
  | 2 => ⟨S4352x4x64, .bf16⟩
  | 3 => ⟨S4x4, .f32⟩
  | 4 => ⟨S4352x16x64, .bf16⟩
  | 5 => ⟨S4352x4x64, .f32⟩
  | 6 => ⟨S4352x4x64, .f32⟩
  | 7 => ⟨S4352x16x64, .f32⟩
  | 8 => ⟨S4352x4x4x64, .f32⟩
  | 9 => ⟨S4352, .i32⟩
  | 10 => ⟨S4352x1, .i32⟩
  | 11 => ⟨S1x4352, .i32⟩
  | 12 => ⟨S_, .i32⟩
  | 13 => ⟨S1x4352, .i32⟩
  | 14 => ⟨S1x4352, .i1⟩
  | 15 => ⟨S_, .i32⟩
  | 16 => ⟨S4352x1, .i32⟩
  | 17 => ⟨S4352x1, .i1⟩
  | 18 => ⟨S4352x4352, .i32⟩
  | 19 => ⟨S4352x4352, .i32⟩
  | 20 => ⟨S4352x4352, .i32⟩
  | 21 => ⟨S4352x4352, .i32⟩
  | 22 => ⟨S_, .i32⟩
  | 23 => ⟨S4352x4352, .i32⟩
  | 24 => ⟨S4352x4352, .i1⟩
  | 25 => ⟨S4352x4352, .i1⟩
  | 26 => ⟨S4352x4352, .i1⟩
  | 27 => ⟨S4352x4352, .i1⟩
  | 28 => ⟨S4352x4352, .i1⟩
  | 29 => ⟨S4x4352x4352x4, .f32⟩
  | 30 => ⟨S4x4x4352x4352, .f32⟩
  | 31 => ⟨S_, .f32⟩
  | 32 => ⟨S4x4x4352x4352, .f32⟩
  | 33 => ⟨S4x4x4352x4352, .f32⟩
  | 34 => ⟨S1x1x4352x4352, .i1⟩
  | 35 => ⟨S_, .f32⟩
  | 36 => ⟨S_, .f32⟩
  | 37 => ⟨S4x4x4352x4352, .i1⟩
  | 38 => ⟨S4x4x4352x4352, .f32⟩
  | 39 => ⟨S4x4x4352x4352, .f32⟩
  | 40 => ⟨S_, .f32⟩
  | 41 => ⟨S4x4x4352x4352, .f32⟩
  | 42 => ⟨S4x4x1x1, .f32⟩
  | 43 => ⟨S4x4x4352x1, .f32⟩
  | 44 => ⟨S4x4x4352x4353, .f32⟩
  | 45 => ⟨S_, .f32⟩
  | 46 => ⟨S4x4x4352, .f32⟩
  | 47 => ⟨S4x4x4352x1, .f32⟩
  | 48 => ⟨S4x4x4352x4353, .f32⟩
  | 49 => ⟨S4x4x4352x4353, .i1⟩
  | 50 => ⟨S4x4x4352x4353, .f32⟩
  | 51 => ⟨S_, .f32⟩
  | 52 => ⟨S4x4x4352, .f32⟩
  | 53 => ⟨S_, .f32⟩
  | 54 => ⟨S4x4x4352, .f32⟩
  | 55 => ⟨S4x4x4352, .f32⟩
  | 56 => ⟨S_, .f32⟩
  | 57 => ⟨S4x4x4352, .f32⟩
  | 58 => ⟨S4x4x4352, .i1⟩
  | 59 => ⟨S_, .f32⟩
  | 60 => ⟨S4x4x4352, .f32⟩
  | 61 => ⟨S4x4x4352, .i1⟩
  | 62 => ⟨S_, .f32⟩
  | 63 => ⟨S4x4x4352, .f32⟩
  | 64 => ⟨S_, .f32⟩
  | 65 => ⟨S4x4x4352, .f32⟩
  | 66 => ⟨S_, .f32⟩
  | 67 => ⟨S4x4x4352, .f32⟩
  | 68 => ⟨S4x4x4352, .f32⟩
  | 69 => ⟨S4x4x4352, .f32⟩
  | 70 => ⟨S4x4x4352x1, .f32⟩
  | 71 => ⟨S4x4x4352x4353, .f32⟩
  | 72 => ⟨S4x4x4352x4353, .f32⟩
  | 73 => ⟨S4x4x4352x4353, .f32⟩
  | 74 => ⟨S_, .f32⟩
  | 75 => ⟨S4x4x4352, .f32⟩
  | 76 => ⟨S4x4x4352x1, .f32⟩
  | 77 => ⟨S4x4x4352x4353, .f32⟩
  | 78 => ⟨S4x4x4352x4353, .f32⟩
  | 79 => ⟨S4x4x4352x1, .f32⟩
  | 80 => ⟨S_, .f32⟩
  | 81 => ⟨S4x4x4352x1, .f32⟩
  | 82 => ⟨S4x4x4352x1, .f32⟩
  | 83 => ⟨S4x4x4352x4352, .f32⟩
  | 84 => ⟨S4x64x4x4352, .f32⟩
  | 85 => ⟨S4352x4x4x64, .f32⟩
  | 86 => ⟨S4352x16x64, .f32⟩
  | 87 => ⟨S4352x4x4x64, .f32⟩
  | 88 => ⟨S4x64x4x4352, .f32⟩
  | 89 => ⟨S4x4x4352x4352, .f32⟩
  | 90 => ⟨S4x64x4352, .f32⟩
  | 91 => ⟨S4352x4x64, .f32⟩
  | 92 => ⟨S_, .f32⟩
  | 93 => ⟨S4x4x4352x4353, .f32⟩
  | 94 => ⟨S4x4x4352x4353, .f32⟩
  | 95 => ⟨S4x4x4352x4353, .f32⟩
  | 96 => ⟨S4x4x4352x4353, .f32⟩
  | 97 => ⟨S_, .f32⟩
  | 98 => ⟨S4x4x4352, .f32⟩
  | 99 => ⟨S4x4x4352x1, .f32⟩
  | 100 => ⟨S4x4x4352x1, .f32⟩
  | 101 => ⟨S4x4x4352x4353, .f32⟩
  | 102 => ⟨S4x4x4352x4353, .f32⟩
  | 103 => ⟨S_, .f32⟩
  | 104 => ⟨S4x4x4352, .f32⟩
  | 105 => ⟨S4x4x4352x4353, .f32⟩
  | 106 => ⟨S4x4x4352x4353, .f32⟩
  | 107 => ⟨S4x4x4352x4353, .f32⟩
  | 108 => ⟨S4x4x4352x4352, .f32⟩
  | 109 => ⟨S4x4x4352x1, .f32⟩
  | 110 => ⟨S_, .f32⟩
  | 111 => ⟨S4x4, .f32⟩
  | 112 => ⟨S4x4x1x1, .f32⟩
  | 113 => ⟨S_, .f32⟩
  | 114 => ⟨S4x4, .f32⟩
  | 115 => ⟨S_, .f32⟩
  | 116 => ⟨S4x4x4352x4352, .f32⟩
  | 117 => ⟨S4x4x4352x4352, .f32⟩
  | 118 => ⟨S_, .f32⟩
  | 119 => ⟨S4x4x4352x4352, .f32⟩
  | 120 => ⟨S4x4x4352x4352, .f32⟩
  | 121 => ⟨S4x4352x4352x4, .f32⟩
  | 122 => ⟨S4x4352x4x64, .f32⟩
  | 123 => ⟨S4352x4x4x64, .f32⟩
  | 124 => ⟨S4x4352x64, .f32⟩
  | 125 => ⟨S4352x4x64, .f32⟩
  | 126 => ⟨S_, .f32⟩
  | 127 => ⟨S128x4x64, .f32⟩
  | _ => ⟨S4352x16x64, .bf16⟩

abbrev hbmTy0_1 (i : Nat) : BufTy := match i % 128 with
  | 0 => ⟨S4352x16x64, .f32⟩
  | 1 => ⟨S16x4352x64, .f32⟩
  | 2 => ⟨S256x4x64, .f32⟩
  | 3 => ⟨S4096x4x64, .f32⟩
  | 4 => ⟨S4608x4x64, .f32⟩
  | 5 => ⟨S4x4608x64, .f32⟩
  | 6 => ⟨S256x4x64, .f32⟩
  | 7 => ⟨S4096x4x64, .f32⟩
  | 8 => ⟨S4608x4x64, .f32⟩
  | 9 => ⟨S4x4608x64, .f32⟩
  | 10 => ⟨S16x1x1, .f32⟩
  | _ => ⟨S4352x16x64, .bf16⟩

abbrev hbmTy (i : Nat) : BufTy := match i / 128 with
  | 0 => hbmTy0_0 i
  | 1 => hbmTy0_1 i
  | _ => ⟨S4352x16x64, .bf16⟩

abbrev bufTy : (tb : Table) → Fin (tcTables nBuf tb) → BufTy
  | .hbm, ⟨i, _⟩ => hbmTy i
  | _, _ => ⟨S4352x16x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_call0_v0 : Ref sig .tc := ⟨.hbm, 36, rfl⟩
abbrev main_v26_1 : Ref sig .tc := ⟨.hbm, 37, rfl⟩
abbrev main_call0_v2 : Ref sig .tc := ⟨.hbm, 38, rfl⟩
abbrev main_v26_0 : Ref sig .tc := ⟨.hbm, 39, rfl⟩
abbrev main_call0_cst : Ref sig .tc := ⟨.hbm, 40, rfl⟩
abbrev main_v26_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_16 : Ref sig .tc := ⟨.hbm, 110, rfl⟩
abbrev main_v82 : Ref sig .tc := ⟨.hbm, 111, rfl⟩
abbrev main_v83 : Ref sig .tc := ⟨.hbm, 112, rfl⟩
abbrev main_cst_17 : Ref sig .tc := ⟨.hbm, 113, rfl⟩
abbrev main_v84 : Ref sig .tc := ⟨.hbm, 114, rfl⟩
abbrev main_call1_cst : Ref sig .tc := ⟨.hbm, 115, rfl⟩
abbrev main_call1_v0 : Ref sig .tc := ⟨.hbm, 116, rfl⟩
abbrev main_v85 : Ref sig .tc := ⟨.hbm, 117, rfl⟩
abbrev main_cst_18 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_19 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩

abbrev nD : Nat := 1
abbrev τ : Topo := Topo.v7x

variable {F : FTy → Type} [FloatOps F]
-- ==== Up.lean ====
abbrev S4352x1024 : Shape := ⟨2, ![4352, 1024]⟩
abbrev S1024x5632 : Shape := ⟨2, ![1024, 5632]⟩
abbrev S4352x5632 : Shape := ⟨2, ![4352, 5632]⟩
abbrev S2176x1024 : Shape := ⟨2, ![2176, 1024]⟩
abbrev S1024x512 : Shape := ⟨2, ![1024, 512]⟩
abbrev S2176x512 : Shape := ⟨2, ![2176, 512]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S1024x5632, .bf16⟩
  | .hbm, ⟨2, _⟩ => ⟨S4352x5632, .f32⟩
  | .local _ .vmem, ⟨0, _⟩ => ⟨S2176x1024, .bf16⟩
  | .local _ .vmem, ⟨1, _⟩ => ⟨S2176x1024, .bf16⟩
  | .local _ .vmem, ⟨2, _⟩ => ⟨S1024x512, .bf16⟩
  | .local _ .vmem, ⟨3, _⟩ => ⟨S1024x512, .bf16⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4352x1024 : Shape := ⟨2, ![4352, 1024]⟩
abbrev S1024x5632 : Shape := ⟨2, ![1024, 5632]⟩
abbrev S4352x5632 : Shape := ⟨2, ![4352, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x5632, .bf16⟩
  | .hbm, ⟨2, _⟩ => ⟨S4352x1024, .f32⟩
  | .hbm, ⟨3, _⟩ => ⟨S1024x5632, .f32⟩
  | .hbm, ⟨4, _⟩ => ⟨S4352x5632, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S4352x2816 : Shape := ⟨2, ![4352, 2816]⟩
abbrev S2816x1024 : Shape := ⟨2, ![2816, 1024]⟩
abbrev S4352x1024 : Shape := ⟨2, ![4352, 1024]⟩
abbrev S2176x1408 : Shape := ⟨2, ![2176, 1408]⟩
abbrev S1408x512 : Shape := ⟨2, ![1408, 512]⟩
abbrev S2176x512 : Shape := ⟨2, ![2176, 512]⟩

abbrev nBuf : Space → Nat
  | .hbm => 3
  | .vmem => 7
  | .smem => 0
  | _ => 0

abbrev bufTy : (tb : Table) → Fin (tcTables nBuf tb) → BufTy
  | .hbm, ⟨0, _⟩ => ⟨S4352x2816, .bf16⟩
  | .hbm, ⟨1, _⟩ => ⟨S2816x1024, .bf16⟩
  | .hbm, ⟨2, _⟩ => ⟨S4352x1024, .f32⟩
  | .local _ .vmem, ⟨0, _⟩ => ⟨S2176x1408, .bf16⟩
  | .local _ .vmem, ⟨1, _⟩ => ⟨S2176x1408, .bf16⟩
  | .local _ .vmem, ⟨2, _⟩ => ⟨S1408x512, .bf16⟩
  | .local _ .vmem, ⟨3, _⟩ => ⟨S1408x512, .bf16⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4352x2816 : Shape := ⟨2, ![4352, 2816]⟩
abbrev S2816x1024 : Shape := ⟨2, ![2816, 1024]⟩
abbrev S4352x1024 : Shape := ⟨2, ![4352, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S2816x1024, .bf16⟩
  | .hbm, ⟨2, _⟩ => ⟨S4352x2816, .f32⟩
  | .hbm, ⟨3, _⟩ => ⟨S2816x1024, .f32⟩
  | .hbm, ⟨4, _⟩ => ⟨S4352x1024, .f32⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownDw.lean ====
abbrev S4352x2816 : Shape := ⟨2, ![4352, 2816]⟩
abbrev S2816x1024 : Shape := ⟨2, ![2816, 1024]⟩
abbrev S4352x1024 : Shape := ⟨2, ![4352, 1024]⟩
abbrev S2816x4352 : Shape := ⟨2, ![2816, 4352]⟩
abbrev S1408x2176 : Shape := ⟨2, ![1408, 2176]⟩
abbrev S2176x1024 : Shape := ⟨2, ![2176, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4352x2816, .bf16⟩
  | .hbm, ⟨1, _⟩ => ⟨S2816x1024, .bf16⟩
  | .hbm, ⟨2, _⟩ => ⟨S4352x1024, .bf16⟩
  | .hbm, ⟨3, _⟩ => ⟨S2816x4352, .bf16⟩
  | .hbm, ⟨4, _⟩ => ⟨S2816x1024, .f32⟩
  | .local _ .vmem, ⟨0, _⟩ => ⟨S1408x2176, .bf16⟩
  | .local _ .vmem, ⟨1, _⟩ => ⟨S1408x2176, .bf16⟩
  | .local _ .vmem, ⟨2, _⟩ => ⟨S2176x1024, .bf16⟩
  | .local _ .vmem, ⟨3, _⟩ => ⟨S2176x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1408x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4352x2816 : Shape := ⟨2, ![4352, 2816]⟩
abbrev S2816x1024 : Shape := ⟨2, ![2816, 1024]⟩
abbrev S4352x1024 : Shape := ⟨2, ![4352, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S2816x1024, .bf16⟩
  | .hbm, ⟨2, _⟩ => ⟨S4352x1024, .bf16⟩
  | .hbm, ⟨3, _⟩ => ⟨S4352x2816, .f32⟩
  | .hbm, ⟨4, _⟩ => ⟨S2816x1024, .f32⟩
  | .hbm, ⟨5, _⟩ => ⟨S4352x1024, .f32⟩
  | .hbm, ⟨6, _⟩ => ⟨S4352x1024, .f32⟩
  | .hbm, ⟨7, _⟩ => ⟨S1024x2816, .f32⟩
  | .hbm, ⟨8, _⟩ => ⟨S2816x1024, .f32⟩
  | .hbm, ⟨9, _⟩ => ⟨S4352x2816, .f32⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDx.lean ====
abbrev S4352x2816 : Shape := ⟨2, ![4352, 2816]⟩
abbrev S2816x1024 : Shape := ⟨2, ![2816, 1024]⟩
abbrev S4352x1024 : Shape := ⟨2, ![4352, 1024]⟩
abbrev S2176x1024 : Shape := ⟨2, ![2176, 1024]⟩
abbrev S256x1024 : Shape := ⟨2, ![256, 1024]⟩
abbrev S2176x256 : Shape := ⟨2, ![2176, 256]⟩

abbrev nBuf : Space → Nat
  | .hbm => 4
  | .vmem => 7
  | .smem => 0
  | _ => 0

abbrev bufTy : (tb : Table) → Fin (tcTables nBuf tb) → BufTy
  | .hbm, ⟨0, _⟩ => ⟨S4352x2816, .bf16⟩
  | .hbm, ⟨1, _⟩ => ⟨S2816x1024, .bf16⟩
  | .hbm, ⟨2, _⟩ => ⟨S4352x1024, .bf16⟩
  | .hbm, ⟨3, _⟩ => ⟨S4352x2816, .f32⟩
  | .local _ .vmem, ⟨0, _⟩ => ⟨S2176x1024, .bf16⟩
  | .local _ .vmem, ⟨1, _⟩ => ⟨S2176x1024, .bf16⟩
  | .local _ .vmem, ⟨2, _⟩ => ⟨S256x1024, .bf16⟩
  | .local _ .vmem, ⟨3, _⟩ => ⟨S256x1024, .bf16⟩
  | .local _ .vmem, ⟨4, _⟩ => ⟨S2176x256, .f32⟩
  | .local _ .vmem, ⟨5, _⟩ => ⟨S2176x256, .f32⟩
  | .local _ .vmem, ⟨6, _⟩ => ⟨S2176x256, .f32⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S4352x2816 : Shape := ⟨2, ![4352, 2816]⟩
abbrev S2816x1024 : Shape := ⟨2, ![2816, 1024]⟩
abbrev S4352x1024 : Shape := ⟨2, ![4352, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S2816x1024, .bf16⟩
  | .hbm, ⟨2, _⟩ => ⟨S4352x1024, .bf16⟩
  | .hbm, ⟨3, _⟩ => ⟨S4352x2816, .f32⟩
  | .hbm, ⟨4, _⟩ => ⟨S2816x1024, .f32⟩
  | .hbm, ⟨5, _⟩ => ⟨S4352x1024, .f32⟩
  | .hbm, ⟨6, _⟩ => ⟨S4352x1024, .f32⟩
  | .hbm, ⟨7, _⟩ => ⟨S1024x2816, .f32⟩
  | .hbm, ⟨8, _⟩ => ⟨S2816x1024, .f32⟩
  | .hbm, ⟨9, _⟩ => ⟨S4352x2816, .f32⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDw.lean ====
abbrev S4352x1024 : Shape := ⟨2, ![4352, 1024]⟩
abbrev S1024x2816 : Shape := ⟨2, ![1024, 2816]⟩
abbrev S4352x2816 : Shape := ⟨2, ![4352, 2816]⟩
abbrev S1024x4352 : Shape := ⟨2, ![1024, 4352]⟩
abbrev S1024x2176 : Shape := ⟨2, ![1024, 2176]⟩
abbrev S2176x1408 : Shape := ⟨2, ![2176, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S1024x2816, .bf16⟩
  | .hbm, ⟨2, _⟩ => ⟨S4352x2816, .bf16⟩
  | .hbm, ⟨3, _⟩ => ⟨S1024x4352, .bf16⟩
  | .hbm, ⟨4, _⟩ => ⟨S1024x2816, .f32⟩
  | .local _ .vmem, ⟨0, _⟩ => ⟨S1024x2176, .bf16⟩
  | .local _ .vmem, ⟨1, _⟩ => ⟨S1024x2176, .bf16⟩
  | .local _ .vmem, ⟨2, _⟩ => ⟨S2176x1408, .bf16⟩
  | .local _ .vmem, ⟨3, _⟩ => ⟨S2176x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2176x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4352x1024 : Shape := ⟨2, ![4352, 1024]⟩
abbrev S1024x2816 : Shape := ⟨2, ![1024, 2816]⟩
abbrev S4352x2816 : Shape := ⟨2, ![4352, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x2816, .bf16⟩
  | .hbm, ⟨2, _⟩ => ⟨S4352x2816, .bf16⟩
  | .hbm, ⟨3, _⟩ => ⟨S4352x1024, .f32⟩
  | .hbm, ⟨4, _⟩ => ⟨S1024x2816, .f32⟩
  | .hbm, ⟨5, _⟩ => ⟨S4352x2816, .f32⟩
  | .hbm, ⟨6, _⟩ => ⟨S4352x2816, .f32⟩
  | .hbm, ⟨7, _⟩ => ⟨S2816x1024, .f32⟩
  | .hbm, ⟨8, _⟩ => ⟨S1024x2816, .f32⟩
  | .hbm, ⟨9, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDxV.lean ====
abbrev S4352x1024 : Shape := ⟨2, ![4352, 1024]⟩
abbrev S1024x5632 : Shape := ⟨2, ![1024, 5632]⟩
abbrev S4352x2816 : Shape := ⟨2, ![4352, 2816]⟩
abbrev S2176x1408 : Shape := ⟨2, ![2176, 1408]⟩
abbrev S512x1408 : Shape := ⟨2, ![512, 1408]⟩
abbrev S2176x512 : Shape := ⟨2, ![2176, 512]⟩

abbrev nBuf : Space → Nat
  | .hbm => 4
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S1024x5632, .bf16⟩
  | .hbm, ⟨2, _⟩ => ⟨S4352x2816, .bf16⟩
  | .hbm, ⟨3, _⟩ => ⟨S4352x1024, .f32⟩
  | .local _ .vmem, ⟨0, _⟩ => ⟨S2176x1408, .bf16⟩
  | .local _ .vmem, ⟨1, _⟩ => ⟨S2176x1408, .bf16⟩
  | .local _ .vmem, ⟨2, _⟩ => ⟨S512x1408, .bf16⟩
  | .local _ .vmem, ⟨3, _⟩ => ⟨S512x1408, .bf16⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxVRefIdeal.lean ====
abbrev S4352x1024 : Shape := ⟨2, ![4352, 1024]⟩
abbrev S1024x5632 : Shape := ⟨2, ![1024, 5632]⟩
abbrev S4352x2816 : Shape := ⟨2, ![4352, 2816]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x5632, .bf16⟩
  | .hbm, ⟨2, _⟩ => ⟨S4352x2816, .bf16⟩
  | .hbm, ⟨3, _⟩ => ⟨S1024x2816, .bf16⟩
  | .hbm, ⟨4, _⟩ => ⟨S4352x1024, .f32⟩
  | .hbm, ⟨5, _⟩ => ⟨S1024x2816, .f32⟩
  | .hbm, ⟨6, _⟩ => ⟨S4352x2816, .f32⟩
  | .hbm, ⟨7, _⟩ => ⟨S4352x2816, .f32⟩
  | .hbm, ⟨8, _⟩ => ⟨S2816x1024, .f32⟩
  | .hbm, ⟨9, _⟩ => ⟨S1024x2816, .f32⟩
  | .hbm, ⟨10, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpDxG.lean ====
abbrev S4352x1024 : Shape := ⟨2, ![4352, 1024]⟩
abbrev S1024x5632 : Shape := ⟨2, ![1024, 5632]⟩
abbrev S4352x2816 : Shape := ⟨2, ![4352, 2816]⟩
abbrev S2176x1408 : Shape := ⟨2, ![2176, 1408]⟩
abbrev S512x1408 : Shape := ⟨2, ![512, 1408]⟩
abbrev S2176x512 : Shape := ⟨2, ![2176, 512]⟩

abbrev nBuf : Space → Nat
  | .hbm => 4
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S1024x5632, .bf16⟩
  | .hbm, ⟨2, _⟩ => ⟨S4352x2816, .bf16⟩
  | .hbm, ⟨3, _⟩ => ⟨S4352x1024, .f32⟩
  | .local _ .vmem, ⟨0, _⟩ => ⟨S2176x1408, .bf16⟩
  | .local _ .vmem, ⟨1, _⟩ => ⟨S2176x1408, .bf16⟩
  | .local _ .vmem, ⟨2, _⟩ => ⟨S512x1408, .bf16⟩
  | .local _ .vmem, ⟨3, _⟩ => ⟨S512x1408, .bf16⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxGRefIdeal.lean ====
abbrev S4352x1024 : Shape := ⟨2, ![4352, 1024]⟩
abbrev S1024x5632 : Shape := ⟨2, ![1024, 5632]⟩
abbrev S4352x2816 : Shape := ⟨2, ![4352, 2816]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x5632, .bf16⟩
  | .hbm, ⟨2, _⟩ => ⟨S4352x2816, .bf16⟩
  | .hbm, ⟨3, _⟩ => ⟨S1024x2816, .bf16⟩
  | .hbm, ⟨4, _⟩ => ⟨S4352x1024, .f32⟩
  | .hbm, ⟨5, _⟩ => ⟨S1024x2816, .f32⟩
  | .hbm, ⟨6, _⟩ => ⟨S4352x2816, .f32⟩
  | .hbm, ⟨7, _⟩ => ⟨S4352x2816, .f32⟩
  | .hbm, ⟨8, _⟩ => ⟨S2816x1024, .f32⟩
  | .hbm, ⟨9, _⟩ => ⟨S1024x2816, .f32⟩
  | .hbm, ⟨10, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Qkv.lean ====
abbrev S4352x1024 : Shape := ⟨2, ![4352, 1024]⟩
abbrev S1024x1536 : Shape := ⟨2, ![1024, 1536]⟩
abbrev S4352x1536 : Shape := ⟨2, ![4352, 1536]⟩
abbrev S2176x1024 : Shape := ⟨2, ![2176, 1024]⟩
abbrev S1024x512 : Shape := ⟨2, ![1024, 512]⟩
abbrev S2176x512 : Shape := ⟨2, ![2176, 512]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S1024x1536, .bf16⟩
  | .hbm, ⟨2, _⟩ => ⟨S4352x1536, .f32⟩
  | .local _ .vmem, ⟨0, _⟩ => ⟨S2176x1024, .bf16⟩
  | .local _ .vmem, ⟨1, _⟩ => ⟨S2176x1024, .bf16⟩
  | .local _ .vmem, ⟨2, _⟩ => ⟨S1024x512, .bf16⟩
  | .local _ .vmem, ⟨3, _⟩ => ⟨S1024x512, .bf16⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S4352x1024 : Shape := ⟨2, ![4352, 1024]⟩
abbrev S1024x1536 : Shape := ⟨2, ![1024, 1536]⟩
abbrev S4352x1536 : Shape := ⟨2, ![4352, 1536]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1536, .bf16⟩
  | .hbm, ⟨2, _⟩ => ⟨S4352x1024, .f32⟩
  | .hbm, ⟨3, _⟩ => ⟨S1024x1536, .f32⟩
  | .hbm, ⟨4, _⟩ => ⟨S4352x1536, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== QkvDw.lean ====
abbrev S4352x1024 : Shape := ⟨2, ![4352, 1024]⟩
abbrev S1024x1536 : Shape := ⟨2, ![1024, 1536]⟩
abbrev S4352x1536 : Shape := ⟨2, ![4352, 1536]⟩
abbrev S1024x4352 : Shape := ⟨2, ![1024, 4352]⟩
abbrev S1024x2176 : Shape := ⟨2, ![1024, 2176]⟩
abbrev S2176x1536 : Shape := ⟨2, ![2176, 1536]⟩

abbrev nBuf : Space → Nat
  | .hbm => 5
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x1536, .bf16⟩
  | .hbm, ⟨2, _⟩ => ⟨S4352x1536, .bf16⟩
  | .hbm, ⟨3, _⟩ => ⟨S1024x4352, .bf16⟩
  | .hbm, ⟨4, _⟩ => ⟨S1024x1536, .f32⟩
  | .local _ .vmem, ⟨0, _⟩ => ⟨S1024x2176, .bf16⟩
  | .local _ .vmem, ⟨1, _⟩ => ⟨S1024x2176, .bf16⟩
  | .local _ .vmem, ⟨2, _⟩ => ⟨S2176x1536, .bf16⟩
  | .local _ .vmem, ⟨3, _⟩ => ⟨S2176x1536, .bf16⟩
  | .local _ .vmem, ⟨4, _⟩ => ⟨S1024x1536, .f32⟩
  | .local _ .vmem, ⟨5, _⟩ => ⟨S1024x1536, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2176x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QkvDwRefIdeal.lean ====
abbrev S4352x1024 : Shape := ⟨2, ![4352, 1024]⟩
abbrev S1024x1536 : Shape := ⟨2, ![1024, 1536]⟩
abbrev S4352x1536 : Shape := ⟨2, ![4352, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1536, .bf16⟩
  | .hbm, ⟨2, _⟩ => ⟨S4352x1536, .bf16⟩
  | .hbm, ⟨3, _⟩ => ⟨S4352x1024, .f32⟩
  | .hbm, ⟨4, _⟩ => ⟨S1024x1536, .f32⟩
  | .hbm, ⟨5, _⟩ => ⟨S4352x1536, .f32⟩
  | .hbm, ⟨6, _⟩ => ⟨S4352x1536, .f32⟩
  | .hbm, ⟨7, _⟩ => ⟨S1536x1024, .f32⟩
  | .hbm, ⟨8, _⟩ => ⟨S1024x1536, .f32⟩
  | .hbm, ⟨9, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QkvDx.lean ====
abbrev S4352x1024 : Shape := ⟨2, ![4352, 1024]⟩
abbrev S1024x1536 : Shape := ⟨2, ![1024, 1536]⟩
abbrev S4352x1536 : Shape := ⟨2, ![4352, 1536]⟩
abbrev S2176x1536 : Shape := ⟨2, ![2176, 1536]⟩
abbrev S512x1536 : Shape := ⟨2, ![512, 1536]⟩
abbrev S2176x512 : Shape := ⟨2, ![2176, 512]⟩

abbrev nBuf : Space → Nat
  | .hbm => 4
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S1024x1536, .bf16⟩
  | .hbm, ⟨2, _⟩ => ⟨S4352x1536, .bf16⟩
  | .hbm, ⟨3, _⟩ => ⟨S4352x1024, .f32⟩
  | .local _ .vmem, ⟨0, _⟩ => ⟨S2176x1536, .bf16⟩
  | .local _ .vmem, ⟨1, _⟩ => ⟨S2176x1536, .bf16⟩
  | .local _ .vmem, ⟨2, _⟩ => ⟨S512x1536, .bf16⟩
  | .local _ .vmem, ⟨3, _⟩ => ⟨S512x1536, .bf16⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2176x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDxRefIdeal.lean ====
abbrev S4352x1024 : Shape := ⟨2, ![4352, 1024]⟩
abbrev S1024x1536 : Shape := ⟨2, ![1024, 1536]⟩
abbrev S4352x1536 : Shape := ⟨2, ![4352, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1536, .bf16⟩
  | .hbm, ⟨2, _⟩ => ⟨S4352x1536, .bf16⟩
  | .hbm, ⟨3, _⟩ => ⟨S4352x1024, .f32⟩
  | .hbm, ⟨4, _⟩ => ⟨S1024x1536, .f32⟩
  | .hbm, ⟨5, _⟩ => ⟨S4352x1536, .f32⟩
  | .hbm, ⟨6, _⟩ => ⟨S4352x1536, .f32⟩
  | .hbm, ⟨7, _⟩ => ⟨S1536x1024, .f32⟩
  | .hbm, ⟨8, _⟩ => ⟨S1024x1536, .f32⟩
  | .hbm, ⟨9, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Out.lean ====
abbrev S4352x1024 : Shape := ⟨2, ![4352, 1024]⟩
abbrev S1024x1024 : Shape := ⟨2, ![1024, 1024]⟩
abbrev S2176x1024 : Shape := ⟨2, ![2176, 1024]⟩
abbrev S1024x512 : Shape := ⟨2, ![1024, 512]⟩
abbrev S2176x512 : Shape := ⟨2, ![2176, 512]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .local _ .vmem, ⟨0, _⟩ => ⟨S2176x1024, .bf16⟩
  | .local _ .vmem, ⟨1, _⟩ => ⟨S2176x1024, .bf16⟩
  | .local _ .vmem, ⟨2, _⟩ => ⟨S1024x512, .bf16⟩
  | .local _ .vmem, ⟨3, _⟩ => ⟨S1024x512, .bf16⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S4352x1024 : Shape := ⟨2, ![4352, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S1024x1024, .f32⟩
  | .hbm, ⟨4, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutDw.lean ====
abbrev S4352x1024 : Shape := ⟨2, ![4352, 1024]⟩
abbrev S1024x1024 : Shape := ⟨2, ![1024, 1024]⟩
abbrev S1024x4352 : Shape := ⟨2, ![1024, 4352]⟩
abbrev S1024x2176 : Shape := ⟨2, ![1024, 2176]⟩
abbrev S2176x1024 : Shape := ⟨2, ![2176, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .bf16⟩
  | .hbm, ⟨3, _⟩ => ⟨S1024x4352, .bf16⟩
  | .hbm, ⟨4, _⟩ => ⟨S1024x1024, .f32⟩
  | .local _ .vmem, ⟨0, _⟩ => ⟨S1024x2176, .bf16⟩
  | .local _ .vmem, ⟨1, _⟩ => ⟨S1024x2176, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .f32⟩
  | .local _ .vmem, ⟨5, _⟩ => ⟨S1024x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S4352x1024 : Shape := ⟨2, ![4352, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .bf16⟩
  | .hbm, ⟨3, _⟩ => ⟨S4352x1024, .f32⟩
  | .hbm, ⟨4, _⟩ => ⟨S1024x1024, .f32⟩
  | .hbm, ⟨5, _⟩ => ⟨S4352x1024, .f32⟩
  | .hbm, ⟨6, _⟩ => ⟨S4352x1024, .f32⟩
  | .hbm, ⟨7, _⟩ => ⟨S1024x1024, .f32⟩
  | .hbm, ⟨8, _⟩ => ⟨S1024x1024, .f32⟩
  | .hbm, ⟨9, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDx.lean ====
abbrev S4352x1024 : Shape := ⟨2, ![4352, 1024]⟩
abbrev S1024x1024 : Shape := ⟨2, ![1024, 1024]⟩
abbrev S2176x1024 : Shape := ⟨2, ![2176, 1024]⟩
abbrev S512x1024 : Shape := ⟨2, ![512, 1024]⟩
abbrev S2176x512 : Shape := ⟨2, ![2176, 512]⟩

abbrev nBuf : Space → Nat
  | .hbm => 4
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .bf16⟩
  | .hbm, ⟨3, _⟩ => ⟨S4352x1024, .bf16⟩
  | .local _ .vmem, ⟨0, _⟩ => ⟨S2176x1024, .bf16⟩
  | .local _ .vmem, ⟨1, _⟩ => ⟨S2176x1024, .bf16⟩
  | .local _ .vmem, ⟨2, _⟩ => ⟨S512x1024, .bf16⟩
  | .local _ .vmem, ⟨3, _⟩ => ⟨S512x1024, .bf16⟩
  | .local _ .vmem, ⟨4, _⟩ => ⟨S2176x512, .bf16⟩
  | .local _ .vmem, ⟨5, _⟩ => ⟨S2176x512, .bf16⟩
  | .local _ .vmem, ⟨6, _⟩ => ⟨S2176x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2176x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4352x1024 : Shape := ⟨2, ![4352, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .bf16⟩
  | .hbm, ⟨3, _⟩ => ⟨S4352x1024, .f32⟩
  | .hbm, ⟨4, _⟩ => ⟨S1024x1024, .f32⟩
  | .hbm, ⟨5, _⟩ => ⟨S4352x1024, .f32⟩
  | .hbm, ⟨6, _⟩ => ⟨S4352x1024, .f32⟩
  | .hbm, ⟨7, _⟩ => ⟨S1024x1024, .f32⟩
  | .hbm, ⟨8, _⟩ => ⟨S1024x1024, .f32⟩
  | .hbm, ⟨9, _⟩ => ⟨S4352x1024, .f32⟩
  | .hbm, ⟨10, _⟩ => ⟨S4352x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GluDx.lean ====
abbrev S4352x1024 : Shape := ⟨2, ![4352, 1024]⟩
abbrev S1024x1024 : Shape := ⟨2, ![1024, 1024]⟩
abbrev S2176x1024 : Shape := ⟨2, ![2176, 1024]⟩
abbrev S512x1024 : Shape := ⟨2, ![512, 1024]⟩
abbrev S2176x512 : Shape := ⟨2, ![2176, 512]⟩

abbrev nBuf : Space → Nat
  | .hbm => 4
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .bf16⟩
  | .hbm, ⟨3, _⟩ => ⟨S4352x1024, .f32⟩
  | .local _ .vmem, ⟨0, _⟩ => ⟨S2176x1024, .bf16⟩
  | .local _ .vmem, ⟨1, _⟩ => ⟨S2176x1024, .bf16⟩
  | .local _ .vmem, ⟨2, _⟩ => ⟨S512x1024, .bf16⟩
  | .local _ .vmem, ⟨3, _⟩ => ⟨S512x1024, .bf16⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluDxRefIdeal.lean ====
abbrev S4352x1024 : Shape := ⟨2, ![4352, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .bf16⟩
  | .hbm, ⟨3, _⟩ => ⟨S4352x1024, .f32⟩
  | .hbm, ⟨4, _⟩ => ⟨S1024x1024, .f32⟩
  | .hbm, ⟨5, _⟩ => ⟨S4352x1024, .f32⟩
  | .hbm, ⟨6, _⟩ => ⟨S4352x1024, .f32⟩
  | .hbm, ⟨7, _⟩ => ⟨S1024x1024, .f32⟩
  | .hbm, ⟨8, _⟩ => ⟨S1024x1024, .f32⟩
  | .hbm, ⟨9, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixIn.lean ====
abbrev S4352x1024 : Shape := ⟨2, ![4352, 1024]⟩
abbrev S1024x4096 : Shape := ⟨2, ![1024, 4096]⟩
abbrev S4352x4096 : Shape := ⟨2, ![4352, 4096]⟩
abbrev S2176x1024 : Shape := ⟨2, ![2176, 1024]⟩
abbrev S1024x512 : Shape := ⟨2, ![1024, 512]⟩
abbrev S2176x512 : Shape := ⟨2, ![2176, 512]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S1024x4096, .bf16⟩
  | .hbm, ⟨2, _⟩ => ⟨S4352x4096, .f32⟩
  | .local _ .vmem, ⟨0, _⟩ => ⟨S2176x1024, .bf16⟩
  | .local _ .vmem, ⟨1, _⟩ => ⟨S2176x1024, .bf16⟩
  | .local _ .vmem, ⟨2, _⟩ => ⟨S1024x512, .bf16⟩
  | .local _ .vmem, ⟨3, _⟩ => ⟨S1024x512, .bf16⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInRefIdeal.lean ====
abbrev S4352x1024 : Shape := ⟨2, ![4352, 1024]⟩
abbrev S1024x4096 : Shape := ⟨2, ![1024, 4096]⟩
abbrev S4352x4096 : Shape := ⟨2, ![4352, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x4096, .bf16⟩
  | .hbm, ⟨2, _⟩ => ⟨S4352x1024, .f32⟩
  | .hbm, ⟨3, _⟩ => ⟨S1024x4096, .f32⟩
  | .hbm, ⟨4, _⟩ => ⟨S4352x4096, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixInDw.lean ====
abbrev S4352x1024 : Shape := ⟨2, ![4352, 1024]⟩
abbrev S1024x4096 : Shape := ⟨2, ![1024, 4096]⟩
abbrev S4352x4096 : Shape := ⟨2, ![4352, 4096]⟩
abbrev S1024x4352 : Shape := ⟨2, ![1024, 4352]⟩
abbrev S1024x2176 : Shape := ⟨2, ![1024, 2176]⟩
abbrev S2176x1024 : Shape := ⟨2, ![2176, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S1024x4096, .bf16⟩
  | .hbm, ⟨2, _⟩ => ⟨S4352x4096, .bf16⟩
  | .hbm, ⟨3, _⟩ => ⟨S1024x4352, .bf16⟩
  | .hbm, ⟨4, _⟩ => ⟨S1024x4096, .f32⟩
  | .local _ .vmem, ⟨0, _⟩ => ⟨S1024x2176, .bf16⟩
  | .local _ .vmem, ⟨1, _⟩ => ⟨S1024x2176, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInDwRefIdeal.lean ====
abbrev S4352x1024 : Shape := ⟨2, ![4352, 1024]⟩
abbrev S1024x4096 : Shape := ⟨2, ![1024, 4096]⟩
abbrev S4352x4096 : Shape := ⟨2, ![4352, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x4096, .bf16⟩
  | .hbm, ⟨2, _⟩ => ⟨S4352x4096, .bf16⟩
  | .hbm, ⟨3, _⟩ => ⟨S4352x1024, .f32⟩
  | .hbm, ⟨4, _⟩ => ⟨S1024x4096, .f32⟩
  | .hbm, ⟨5, _⟩ => ⟨S4352x4096, .f32⟩
  | .hbm, ⟨6, _⟩ => ⟨S4352x4096, .f32⟩
  | .hbm, ⟨7, _⟩ => ⟨S4096x1024, .f32⟩
  | .hbm, ⟨8, _⟩ => ⟨S1024x4096, .f32⟩
  | .hbm, ⟨9, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixInDx.lean ====
abbrev S4352x1024 : Shape := ⟨2, ![4352, 1024]⟩
abbrev S1024x4096 : Shape := ⟨2, ![1024, 4096]⟩
abbrev S4352x4096 : Shape := ⟨2, ![4352, 4096]⟩
abbrev S2176x2048 : Shape := ⟨2, ![2176, 2048]⟩
abbrev S512x2048 : Shape := ⟨2, ![512, 2048]⟩
abbrev S2176x512 : Shape := ⟨2, ![2176, 512]⟩

abbrev nBuf : Space → Nat
  | .hbm => 4
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S1024x4096, .bf16⟩
  | .hbm, ⟨2, _⟩ => ⟨S4352x4096, .bf16⟩
  | .hbm, ⟨3, _⟩ => ⟨S4352x1024, .f32⟩
  | .local _ .vmem, ⟨0, _⟩ => ⟨S2176x2048, .bf16⟩
  | .local _ .vmem, ⟨1, _⟩ => ⟨S2176x2048, .bf16⟩
  | .local _ .vmem, ⟨2, _⟩ => ⟨S512x2048, .bf16⟩
  | .local _ .vmem, ⟨3, _⟩ => ⟨S512x2048, .bf16⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInDxRefIdeal.lean ====
abbrev S4352x1024 : Shape := ⟨2, ![4352, 1024]⟩
abbrev S1024x4096 : Shape := ⟨2, ![1024, 4096]⟩
abbrev S4352x4096 : Shape := ⟨2, ![4352, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x4096, .bf16⟩
  | .hbm, ⟨2, _⟩ => ⟨S4352x4096, .bf16⟩
  | .hbm, ⟨3, _⟩ => ⟨S4352x1024, .f32⟩
  | .hbm, ⟨4, _⟩ => ⟨S1024x4096, .f32⟩
  | .hbm, ⟨5, _⟩ => ⟨S4352x4096, .f32⟩
  | .hbm, ⟨6, _⟩ => ⟨S4352x4096, .f32⟩
  | .hbm, ⟨7, _⟩ => ⟨S4096x1024, .f32⟩
  | .hbm, ⟨8, _⟩ => ⟨S1024x4096, .f32⟩
  | .hbm, ⟨9, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixOut.lean ====
abbrev S4352x2048 : Shape := ⟨2, ![4352, 2048]⟩
abbrev S2048x1024 : Shape := ⟨2, ![2048, 1024]⟩
abbrev S4352x1024 : Shape := ⟨2, ![4352, 1024]⟩
abbrev S2176x2048 : Shape := ⟨2, ![2176, 2048]⟩
abbrev S2048x512 : Shape := ⟨2, ![2048, 512]⟩
abbrev S2176x512 : Shape := ⟨2, ![2176, 512]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S2048x1024, .bf16⟩
  | .hbm, ⟨2, _⟩ => ⟨S4352x1024, .f32⟩
  | .local _ .vmem, ⟨0, _⟩ => ⟨S2176x2048, .bf16⟩
  | .local _ .vmem, ⟨1, _⟩ => ⟨S2176x2048, .bf16⟩
  | .local _ .vmem, ⟨2, _⟩ => ⟨S2048x512, .bf16⟩
  | .local _ .vmem, ⟨3, _⟩ => ⟨S2048x512, .bf16⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutRefIdeal.lean ====
abbrev S4352x2048 : Shape := ⟨2, ![4352, 2048]⟩
abbrev S2048x1024 : Shape := ⟨2, ![2048, 1024]⟩
abbrev S4352x1024 : Shape := ⟨2, ![4352, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x1024, .bf16⟩
  | .hbm, ⟨2, _⟩ => ⟨S4352x2048, .f32⟩
  | .hbm, ⟨3, _⟩ => ⟨S2048x1024, .f32⟩
  | .hbm, ⟨4, _⟩ => ⟨S4352x1024, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixOutDw.lean ====
abbrev S4352x2048 : Shape := ⟨2, ![4352, 2048]⟩
abbrev S2048x1024 : Shape := ⟨2, ![2048, 1024]⟩
abbrev S4352x1024 : Shape := ⟨2, ![4352, 1024]⟩
abbrev S2048x4352 : Shape := ⟨2, ![2048, 4352]⟩
abbrev S2048x2176 : Shape := ⟨2, ![2048, 2176]⟩
abbrev S2176x512 : Shape := ⟨2, ![2176, 512]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S2048x1024, .bf16⟩
  | .hbm, ⟨2, _⟩ => ⟨S4352x1024, .f32⟩
  | .hbm, ⟨3, _⟩ => ⟨S2048x4352, .bf16⟩
  | .hbm, ⟨4, _⟩ => ⟨S2048x1024, .f32⟩
  | .local _ .vmem, ⟨0, _⟩ => ⟨S2048x2176, .bf16⟩
  | .local _ .vmem, ⟨1, _⟩ => ⟨S2048x2176, .bf16⟩
  | .local _ .vmem, ⟨2, _⟩ => ⟨S2176x512, .f32⟩
  | .local _ .vmem, ⟨3, _⟩ => ⟨S2176x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2176x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDwRefIdeal.lean ====
abbrev S4352x2048 : Shape := ⟨2, ![4352, 2048]⟩
abbrev S2048x1024 : Shape := ⟨2, ![2048, 1024]⟩
abbrev S4352x1024 : Shape := ⟨2, ![4352, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x1024, .bf16⟩
  | .hbm, ⟨2, _⟩ => ⟨S4352x1024, .f32⟩
  | .hbm, ⟨3, _⟩ => ⟨S4352x2048, .f32⟩
  | .hbm, ⟨4, _⟩ => ⟨S2048x1024, .f32⟩
  | .hbm, ⟨5, _⟩ => ⟨S4352x1024, .f32⟩
  | .hbm, ⟨6, _⟩ => ⟨S1024x2048, .f32⟩
  | .hbm, ⟨7, _⟩ => ⟨S2048x1024, .f32⟩
  | .hbm, ⟨8, _⟩ => ⟨S4352x2048, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixOutDx.lean ====
abbrev S4352x2048 : Shape := ⟨2, ![4352, 2048]⟩
abbrev S2048x1024 : Shape := ⟨2, ![2048, 1024]⟩
abbrev S4352x1024 : Shape := ⟨2, ![4352, 1024]⟩
abbrev S2176x1024 : Shape := ⟨2, ![2176, 1024]⟩
abbrev S512x1024 : Shape := ⟨2, ![512, 1024]⟩
abbrev S2176x512 : Shape := ⟨2, ![2176, 512]⟩

abbrev nBuf : Space → Nat
  | .hbm => 4
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S2048x1024, .bf16⟩
  | .hbm, ⟨2, _⟩ => ⟨S4352x1024, .f32⟩
  | .hbm, ⟨3, _⟩ => ⟨S4352x2048, .f32⟩
  | .local _ .vmem, ⟨0, _⟩ => ⟨S2176x1024, .f32⟩
  | .local _ .vmem, ⟨1, _⟩ => ⟨S2176x1024, .f32⟩
  | .local _ .vmem, ⟨2, _⟩ => ⟨S512x1024, .bf16⟩
  | .local _ .vmem, ⟨3, _⟩ => ⟨S512x1024, .bf16⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDxRefIdeal.lean ====
abbrev S4352x2048 : Shape := ⟨2, ![4352, 2048]⟩
abbrev S2048x1024 : Shape := ⟨2, ![2048, 1024]⟩
abbrev S4352x1024 : Shape := ⟨2, ![4352, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x1024, .bf16⟩
  | .hbm, ⟨2, _⟩ => ⟨S4352x1024, .f32⟩
  | .hbm, ⟨3, _⟩ => ⟨S4352x2048, .f32⟩
  | .hbm, ⟨4, _⟩ => ⟨S2048x1024, .f32⟩
  | .hbm, ⟨5, _⟩ => ⟨S4352x1024, .f32⟩
  | .hbm, ⟨6, _⟩ => ⟨S1024x2048, .f32⟩
  | .hbm, ⟨7, _⟩ => ⟨S2048x1024, .f32⟩
  | .hbm, ⟨8, _⟩ => ⟨S4352x2048, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdamCCtx.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamCCtxIdeal.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamCCtxRefIdeal.lean ====
abbrev S1024 : Shape := ⟨1, ![1024]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamAdaW.lean ====
abbrev S4x1024x768 : Shape := ⟨3, ![4, 1024, 768]⟩
abbrev S4096x768 : Shape := ⟨2, ![4096, 768]⟩
abbrev S512x768 : Shape := ⟨2, ![512, 768]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaWIdeal.lean ====
abbrev S4x1024x768 : Shape := ⟨3, ![4, 1024, 768]⟩
abbrev S4096x768 : Shape := ⟨2, ![4096, 768]⟩
abbrev S512x768 : Shape := ⟨2, ![512, 768]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaWRefIdeal.lean ====
abbrev S4x1024x768 : Shape := ⟨3, ![4, 1024, 768]⟩
abbrev S_ : Shape := ⟨0, ![]⟩
abbrev S4096x768 : Shape := ⟨2, ![4096, 768]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S_, .f32⟩
  | .hbm, ⟨5, _⟩ => ⟨S4x1024x768, .f32⟩
  | .hbm, ⟨6, _⟩ => ⟨S4x1024x768, .f32⟩
  | .hbm, ⟨7, _⟩ => ⟨S_, .f32⟩
  | .hbm, ⟨8, _⟩ => ⟨S4x1024x768, .f32⟩
  | .hbm, ⟨9, _⟩ => ⟨S4x1024x768, .f32⟩
  | .hbm, ⟨10, _⟩ => ⟨S4x1024x768, .f32⟩
  | .hbm, ⟨11, _⟩ => ⟨S_, .f32⟩
  | .hbm, ⟨12, _⟩ => ⟨S4x1024x768, .f32⟩
  | .hbm, ⟨13, _⟩ => ⟨S4x1024x768, .f32⟩
  | .hbm, ⟨14, _⟩ => ⟨S4x1024x768, .f32⟩
  | .hbm, ⟨15, _⟩ => ⟨S_, .f32⟩
  | .hbm, ⟨16, _⟩ => ⟨S4x1024x768, .f32⟩
  | .hbm, ⟨17, _⟩ => ⟨S4x1024x768, .f32⟩
  | .hbm, ⟨18, _⟩ => ⟨S4x1024x768, .f32⟩
  | .hbm, ⟨19, _⟩ => ⟨S_, .f32⟩
  | .hbm, ⟨20, _⟩ => ⟨S4x1024x768, .f32⟩
  | .hbm, ⟨21, _⟩ => ⟨S4x1024x768, .f32⟩
  | .hbm, ⟨22, _⟩ => ⟨S_, .f32⟩
  | .hbm, ⟨23, _⟩ => ⟨S4x1024x768, .f32⟩
  | .hbm, ⟨24, _⟩ => ⟨S4x1024x768, .f32⟩
  | .hbm, ⟨25, _⟩ => ⟨S4x1024x768, .f32⟩
  | .hbm, ⟨26, _⟩ => ⟨S_, .f32⟩
  | .hbm, ⟨27, _⟩ => ⟨S4x1024x768, .f32⟩
  | .hbm, ⟨28, _⟩ => ⟨S4x1024x768, .f32⟩
  | .hbm, ⟨29, _⟩ => ⟨S4x1024x768, .f32⟩
  | .hbm, ⟨30, _⟩ => ⟨S_, .f32⟩
  | .hbm, ⟨31, _⟩ => ⟨S4x1024x768, .f32⟩
  | .hbm, ⟨32, _⟩ => ⟨S4x1024x768, .f32⟩
  | .hbm, ⟨33, _⟩ => ⟨S4x1024x768, .f32⟩
  | .hbm, ⟨34, _⟩ => ⟨S_, .f32⟩
  | .hbm, ⟨35, _⟩ => ⟨S4x1024x768, .f32⟩
  | .hbm, ⟨36, _⟩ => ⟨S4x1024x768, .f32⟩
  | .hbm, ⟨37, _⟩ => ⟨S4096x768, .f32⟩
  | .hbm, ⟨38, _⟩ => ⟨S4096x768, .f32⟩
  | .hbm, ⟨39, _⟩ => ⟨S4096x768, .f32⟩
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamAdaB.lean ====
abbrev S4x6144 : Shape := ⟨2, ![4, 6144]⟩

abbrev nBuf : Space → Nat
  | .hbm => 7
  | .vmem => 7
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S4x6144, .f32⟩
  | .hbm, ⟨5, _⟩ => ⟨S4x6144, .f32⟩
  | .hbm, ⟨6, _⟩ => ⟨S4x6144, .f32⟩
  | .local _ .vmem, ⟨0, _⟩ => ⟨S4x6144, .f32⟩
  | .local _ .vmem, ⟨1, _⟩ => ⟨S4x6144, .f32⟩
  | .local _ .vmem, ⟨2, _⟩ => ⟨S4x6144, .f32⟩
  | .local _ .vmem, ⟨3, _⟩ => ⟨S4x6144, .f32⟩
  | .local _ .vmem, ⟨4, _⟩ => ⟨S4x6144, .f32⟩
  | .local _ .vmem, ⟨5, _⟩ => ⟨S4x6144, .f32⟩
  | .local _ .vmem, ⟨6, _⟩ => ⟨S4x6144, .f32⟩
  | _, _ => ⟨S4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAdaBIdeal.lean ====
abbrev S4x6144 : Shape := ⟨2, ![4, 6144]⟩

abbrev nBuf : Space → Nat
  | .hbm => 7
  | .vmem => 7
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S4x6144, .f32⟩
  | .hbm, ⟨5, _⟩ => ⟨S4x6144, .f32⟩
  | .hbm, ⟨6, _⟩ => ⟨S4x6144, .f32⟩
  | .local _ .vmem, ⟨0, _⟩ => ⟨S4x6144, .f32⟩
  | .local _ .vmem, ⟨1, _⟩ => ⟨S4x6144, .f32⟩
  | .local _ .vmem, ⟨2, _⟩ => ⟨S4x6144, .f32⟩
  | .local _ .vmem, ⟨3, _⟩ => ⟨S4x6144, .f32⟩
  | .local _ .vmem, ⟨4, _⟩ => ⟨S4x6144, .f32⟩
  | .local _ .vmem, ⟨5, _⟩ => ⟨S4x6144, .f32⟩
  | .local _ .vmem, ⟨6, _⟩ => ⟨S4x6144, .f32⟩
  | _, _ => ⟨S4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAdaBRefIdeal.lean ====
abbrev S4x6144 : Shape := ⟨2, ![4, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S_, .f32⟩
  | .hbm, ⟨5, _⟩ => ⟨S4x6144, .f32⟩
  | .hbm, ⟨6, _⟩ => ⟨S4x6144, .f32⟩
  | .hbm, ⟨7, _⟩ => ⟨S_, .f32⟩
  | .hbm, ⟨8, _⟩ => ⟨S4x6144, .f32⟩
  | .hbm, ⟨9, _⟩ => ⟨S4x6144, .f32⟩
  | .hbm, ⟨10, _⟩ => ⟨S4x6144, .f32⟩
  | .hbm, ⟨11, _⟩ => ⟨S_, .f32⟩
  | .hbm, ⟨12, _⟩ => ⟨S4x6144, .f32⟩
  | .hbm, ⟨13, _⟩ => ⟨S4x6144, .f32⟩
  | .hbm, ⟨14, _⟩ => ⟨S4x6144, .f32⟩
  | .hbm, ⟨15, _⟩ => ⟨S_, .f32⟩
  | .hbm, ⟨16, _⟩ => ⟨S4x6144, .f32⟩
  | .hbm, ⟨17, _⟩ => ⟨S4x6144, .f32⟩
  | .hbm, ⟨18, _⟩ => ⟨S4x6144, .f32⟩
  | .hbm, ⟨19, _⟩ => ⟨S_, .f32⟩
  | .hbm, ⟨20, _⟩ => ⟨S4x6144, .f32⟩
  | .hbm, ⟨21, _⟩ => ⟨S4x6144, .f32⟩
  | .hbm, ⟨22, _⟩ => ⟨S_, .f32⟩
  | .hbm, ⟨23, _⟩ => ⟨S4x6144, .f32⟩
  | .hbm, ⟨24, _⟩ => ⟨S4x6144, .f32⟩
  | .hbm, ⟨25, _⟩ => ⟨S4x6144, .f32⟩
  | .hbm, ⟨26, _⟩ => ⟨S_, .f32⟩
  | .hbm, ⟨27, _⟩ => ⟨S4x6144, .f32⟩
  | .hbm, ⟨28, _⟩ => ⟨S4x6144, .f32⟩
  | .hbm, ⟨29, _⟩ => ⟨S4x6144, .f32⟩
  | .hbm, ⟨30, _⟩ => ⟨S_, .f32⟩
  | .hbm, ⟨31, _⟩ => ⟨S4x6144, .f32⟩
  | .hbm, ⟨32, _⟩ => ⟨S4x6144, .f32⟩
  | .hbm, ⟨33, _⟩ => ⟨S4x6144, .f32⟩
  | .hbm, ⟨34, _⟩ => ⟨S_, .f32⟩
  | .hbm, ⟨35, _⟩ => ⟨S4x6144, .f32⟩
  | .hbm, ⟨36, _⟩ => ⟨S4x6144, .f32⟩
  | _, _ => ⟨S4x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorm.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnUp.lean ====
abbrev S4x1024x704 : Shape := ⟨3, ![4, 1024, 704]⟩
abbrev S4096x704 : Shape := ⟨2, ![4096, 704]⟩
abbrev S512x704 : Shape := ⟨2, ![512, 704]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnUpIdeal.lean ====
abbrev S4x1024x704 : Shape := ⟨3, ![4, 1024, 704]⟩
abbrev S4096x704 : Shape := ⟨2, ![4096, 704]⟩
abbrev S512x704 : Shape := ⟨2, ![512, 704]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnUpRefIdeal.lean ====
abbrev S4x1024x704 : Shape := ⟨3, ![4, 1024, 704]⟩
abbrev S_ : Shape := ⟨0, ![]⟩
abbrev S4096x704 : Shape := ⟨2, ![4096, 704]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S_, .f32⟩
  | .hbm, ⟨5, _⟩ => ⟨S4x1024x704, .f32⟩
  | .hbm, ⟨6, _⟩ => ⟨S4x1024x704, .f32⟩
  | .hbm, ⟨7, _⟩ => ⟨S_, .f32⟩
  | .hbm, ⟨8, _⟩ => ⟨S4x1024x704, .f32⟩
  | .hbm, ⟨9, _⟩ => ⟨S4x1024x704, .f32⟩
  | .hbm, ⟨10, _⟩ => ⟨S4x1024x704, .f32⟩
  | .hbm, ⟨11, _⟩ => ⟨S_, .f32⟩
  | .hbm, ⟨12, _⟩ => ⟨S4x1024x704, .f32⟩
  | .hbm, ⟨13, _⟩ => ⟨S4x1024x704, .f32⟩
  | .hbm, ⟨14, _⟩ => ⟨S4x1024x704, .f32⟩
  | .hbm, ⟨15, _⟩ => ⟨S_, .f32⟩
  | .hbm, ⟨16, _⟩ => ⟨S4x1024x704, .f32⟩
  | .hbm, ⟨17, _⟩ => ⟨S4x1024x704, .f32⟩
  | .hbm, ⟨18, _⟩ => ⟨S4x1024x704, .f32⟩
  | .hbm, ⟨19, _⟩ => ⟨S_, .f32⟩
  | .hbm, ⟨20, _⟩ => ⟨S4x1024x704, .f32⟩
  | .hbm, ⟨21, _⟩ => ⟨S4x1024x704, .f32⟩
  | .hbm, ⟨22, _⟩ => ⟨S_, .f32⟩
  | .hbm, ⟨23, _⟩ => ⟨S4x1024x704, .f32⟩
  | .hbm, ⟨24, _⟩ => ⟨S4x1024x704, .f32⟩
  | .hbm, ⟨25, _⟩ => ⟨S4x1024x704, .f32⟩
  | .hbm, ⟨26, _⟩ => ⟨S_, .f32⟩
  | .hbm, ⟨27, _⟩ => ⟨S4x1024x704, .f32⟩
  | .hbm, ⟨28, _⟩ => ⟨S4x1024x704, .f32⟩
  | .hbm, ⟨29, _⟩ => ⟨S4x1024x704, .f32⟩
  | .hbm, ⟨30, _⟩ => ⟨S_, .f32⟩
  | .hbm, ⟨31, _⟩ => ⟨S4x1024x704, .f32⟩
  | .hbm, ⟨32, _⟩ => ⟨S4x1024x704, .f32⟩
  | .hbm, ⟨33, _⟩ => ⟨S4x1024x704, .f32⟩
  | .hbm, ⟨34, _⟩ => ⟨S_, .f32⟩
  | .hbm, ⟨35, _⟩ => ⟨S4x1024x704, .f32⟩
  | .hbm, ⟨36, _⟩ => ⟨S4x1024x704, .f32⟩
  | .hbm, ⟨37, _⟩ => ⟨S4096x704, .f32⟩
  | .hbm, ⟨38, _⟩ => ⟨S4096x704, .f32⟩
  | .hbm, ⟨39, _⟩ => ⟨S4096x704, .f32⟩
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamConvW.lean ====
abbrev S4x3x704 : Shape := ⟨3, ![4, 3, 704]⟩
abbrev S12x704 : Shape := ⟨2, ![12, 704]⟩

abbrev nBuf : Space → Nat
  | .hbm => 11
  | .vmem => 7
  | .smem => 0
  | _ => 0

abbrev bufTy : (tb : Table) → Fin (tcTables nBuf tb) → BufTy
  | .hbm, ⟨0, _⟩ => ⟨S4x3x704, .f32⟩
  | .hbm, ⟨1, _⟩ => ⟨S4x3x704, .f32⟩
  | .hbm, ⟨2, _⟩ => ⟨S4x3x704, .f32⟩
  | .hbm, ⟨3, _⟩ => ⟨S4x3x704, .f32⟩
  | .hbm, ⟨4, _⟩ => ⟨S12x704, .f32⟩
  | .hbm, ⟨5, _⟩ => ⟨S12x704, .f32⟩
  | .hbm, ⟨6, _⟩ => ⟨S12x704, .f32⟩
  | .hbm, ⟨7, _⟩ => ⟨S12x704, .f32⟩
  | .hbm, ⟨8, _⟩ => ⟨S12x704, .f32⟩
  | .hbm, ⟨9, _⟩ => ⟨S12x704, .f32⟩
  | .hbm, ⟨10, _⟩ => ⟨S12x704, .f32⟩
  | .local _ .vmem, ⟨0, _⟩ => ⟨S12x704, .f32⟩
  | .local _ .vmem, ⟨1, _⟩ => ⟨S12x704, .f32⟩
  | .local _ .vmem, ⟨2, _⟩ => ⟨S12x704, .f32⟩
  | .local _ .vmem, ⟨3, _⟩ => ⟨S12x704, .f32⟩
  | .local _ .vmem, ⟨4, _⟩ => ⟨S12x704, .f32⟩
  | .local _ .vmem, ⟨5, _⟩ => ⟨S12x704, .f32⟩
  | .local _ .vmem, ⟨6, _⟩ => ⟨S12x704, .f32⟩
  | _, _ => ⟨S4x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvWIdeal.lean ====
abbrev S4x3x704 : Shape := ⟨3, ![4, 3, 704]⟩
abbrev S12x704 : Shape := ⟨2, ![12, 704]⟩

abbrev nBuf : Space → Nat
  | .hbm => 11
  | .vmem => 7
  | .smem => 0
  | _ => 0

abbrev bufTy : (tb : Table) → Fin (tcTables nBuf tb) → BufTy
  | .hbm, ⟨0, _⟩ => ⟨S4x3x704, .f32⟩
  | .hbm, ⟨1, _⟩ => ⟨S4x3x704, .f32⟩
  | .hbm, ⟨2, _⟩ => ⟨S4x3x704, .f32⟩
  | .hbm, ⟨3, _⟩ => ⟨S4x3x704, .f32⟩
  | .hbm, ⟨4, _⟩ => ⟨S12x704, .f32⟩
  | .hbm, ⟨5, _⟩ => ⟨S12x704, .f32⟩
  | .hbm, ⟨6, _⟩ => ⟨S12x704, .f32⟩
  | .hbm, ⟨7, _⟩ => ⟨S12x704, .f32⟩
  | .hbm, ⟨8, _⟩ => ⟨S12x704, .f32⟩
  | .hbm, ⟨9, _⟩ => ⟨S12x704, .f32⟩
  | .hbm, ⟨10, _⟩ => ⟨S12x704, .f32⟩
  | .local _ .vmem, ⟨0, _⟩ => ⟨S12x704, .f32⟩
  | .local _ .vmem, ⟨1, _⟩ => ⟨S12x704, .f32⟩
  | .local _ .vmem, ⟨2, _⟩ => ⟨S12x704, .f32⟩
  | .local _ .vmem, ⟨3, _⟩ => ⟨S12x704, .f32⟩
  | .local _ .vmem, ⟨4, _⟩ => ⟨S12x704, .f32⟩
  | .local _ .vmem, ⟨5, _⟩ => ⟨S12x704, .f32⟩
  | .local _ .vmem, ⟨6, _⟩ => ⟨S12x704, .f32⟩
  | _, _ => ⟨S4x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvWRefIdeal.lean ====
abbrev S4x3x704 : Shape := ⟨3, ![4, 3, 704]⟩
abbrev S_ : Shape := ⟨0, ![]⟩
abbrev S12x704 : Shape := ⟨2, ![12, 704]⟩

abbrev nBuf : Space → Nat
  | .hbm => 40
  | .vmem => 0
  | .smem => 0
  | _ => 0

abbrev bufTy : (tb : Table) → Fin (tcTables nBuf tb) → BufTy
  | .hbm, ⟨0, _⟩ => ⟨S4x3x704, .f32⟩
  | .hbm, ⟨1, _⟩ => ⟨S4x3x704, .f32⟩
  | .hbm, ⟨2, _⟩ => ⟨S4x3x704, .f32⟩
  | .hbm, ⟨3, _⟩ => ⟨S4x3x704, .f32⟩
  | .hbm, ⟨4, _⟩ => ⟨S_, .f32⟩
  | .hbm, ⟨5, _⟩ => ⟨S4x3x704, .f32⟩
  | .hbm, ⟨6, _⟩ => ⟨S4x3x704, .f32⟩
  | .hbm, ⟨7, _⟩ => ⟨S_, .f32⟩
  | .hbm, ⟨8, _⟩ => ⟨S4x3x704, .f32⟩
  | .hbm, ⟨9, _⟩ => ⟨S4x3x704, .f32⟩
  | .hbm, ⟨10, _⟩ => ⟨S4x3x704, .f32⟩
  | .hbm, ⟨11, _⟩ => ⟨S_, .f32⟩
  | .hbm, ⟨12, _⟩ => ⟨S4x3x704, .f32⟩
  | .hbm, ⟨13, _⟩ => ⟨S4x3x704, .f32⟩
  | .hbm, ⟨14, _⟩ => ⟨S4x3x704, .f32⟩
  | .hbm, ⟨15, _⟩ => ⟨S_, .f32⟩
  | .hbm, ⟨16, _⟩ => ⟨S4x3x704, .f32⟩
  | .hbm, ⟨17, _⟩ => ⟨S4x3x704, .f32⟩
  | .hbm, ⟨18, _⟩ => ⟨S4x3x704, .f32⟩
  | .hbm, ⟨19, _⟩ => ⟨S_, .f32⟩
  | .hbm, ⟨20, _⟩ => ⟨S4x3x704, .f32⟩
  | .hbm, ⟨21, _⟩ => ⟨S4x3x704, .f32⟩
  | .hbm, ⟨22, _⟩ => ⟨S_, .f32⟩
  | .hbm, ⟨23, _⟩ => ⟨S4x3x704, .f32⟩
  | .hbm, ⟨24, _⟩ => ⟨S4x3x704, .f32⟩
  | .hbm, ⟨25, _⟩ => ⟨S4x3x704, .f32⟩
  | .hbm, ⟨26, _⟩ => ⟨S_, .f32⟩
  | .hbm, ⟨27, _⟩ => ⟨S4x3x704, .f32⟩
  | .hbm, ⟨28, _⟩ => ⟨S4x3x704, .f32⟩
  | .hbm, ⟨29, _⟩ => ⟨S4x3x704, .f32⟩
  | .hbm, ⟨30, _⟩ => ⟨S_, .f32⟩
  | .hbm, ⟨31, _⟩ => ⟨S4x3x704, .f32⟩
  | .hbm, ⟨32, _⟩ => ⟨S4x3x704, .f32⟩
  | .hbm, ⟨33, _⟩ => ⟨S4x3x704, .f32⟩
  | .hbm, ⟨34, _⟩ => ⟨S_, .f32⟩
  | .hbm, ⟨35, _⟩ => ⟨S4x3x704, .f32⟩
  | .hbm, ⟨36, _⟩ => ⟨S4x3x704, .f32⟩
  | .hbm, ⟨37, _⟩ => ⟨S12x704, .f32⟩
  | .hbm, ⟨38, _⟩ => ⟨S12x704, .f32⟩
  | .hbm, ⟨39, _⟩ => ⟨S12x704, .f32⟩
  | _, _ => ⟨S4x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamConvB.lean ====
abbrev S4x5632 : Shape := ⟨2, ![4, 5632]⟩

abbrev nBuf : Space → Nat
  | .hbm => 7
  | .vmem => 7
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S4x5632, .f32⟩
  | .hbm, ⟨5, _⟩ => ⟨S4x5632, .f32⟩
  | .hbm, ⟨6, _⟩ => ⟨S4x5632, .f32⟩
  | .local _ .vmem, ⟨0, _⟩ => ⟨S4x5632, .f32⟩
  | .local _ .vmem, ⟨1, _⟩ => ⟨S4x5632, .f32⟩
  | .local _ .vmem, ⟨2, _⟩ => ⟨S4x5632, .f32⟩
  | .local _ .vmem, ⟨3, _⟩ => ⟨S4x5632, .f32⟩
  | .local _ .vmem, ⟨4, _⟩ => ⟨S4x5632, .f32⟩
  | .local _ .vmem, ⟨5, _⟩ => ⟨S4x5632, .f32⟩
  | .local _ .vmem, ⟨6, _⟩ => ⟨S4x5632, .f32⟩
  | _, _ => ⟨S4x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvBIdeal.lean ====
abbrev S4x5632 : Shape := ⟨2, ![4, 5632]⟩

abbrev nBuf : Space → Nat
  | .hbm => 7
  | .vmem => 7
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S4x5632, .f32⟩
  | .hbm, ⟨5, _⟩ => ⟨S4x5632, .f32⟩
  | .hbm, ⟨6, _⟩ => ⟨S4x5632, .f32⟩
  | .local _ .vmem, ⟨0, _⟩ => ⟨S4x5632, .f32⟩
  | .local _ .vmem, ⟨1, _⟩ => ⟨S4x5632, .f32⟩
  | .local _ .vmem, ⟨2, _⟩ => ⟨S4x5632, .f32⟩
  | .local _ .vmem, ⟨3, _⟩ => ⟨S4x5632, .f32⟩
  | .local _ .vmem, ⟨4, _⟩ => ⟨S4x5632, .f32⟩
  | .local _ .vmem, ⟨5, _⟩ => ⟨S4x5632, .f32⟩
  | .local _ .vmem, ⟨6, _⟩ => ⟨S4x5632, .f32⟩
  | _, _ => ⟨S4x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvBRefIdeal.lean ====
abbrev S4x5632 : Shape := ⟨2, ![4, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S_, .f32⟩
  | .hbm, ⟨5, _⟩ => ⟨S4x5632, .f32⟩
  | .hbm, ⟨6, _⟩ => ⟨S4x5632, .f32⟩
  | .hbm, ⟨7, _⟩ => ⟨S_, .f32⟩
  | .hbm, ⟨8, _⟩ => ⟨S4x5632, .f32⟩
  | .hbm, ⟨9, _⟩ => ⟨S4x5632, .f32⟩
  | .hbm, ⟨10, _⟩ => ⟨S4x5632, .f32⟩
  | .hbm, ⟨11, _⟩ => ⟨S_, .f32⟩
  | .hbm, ⟨12, _⟩ => ⟨S4x5632, .f32⟩
  | .hbm, ⟨13, _⟩ => ⟨S4x5632, .f32⟩
  | .hbm, ⟨14, _⟩ => ⟨S4x5632, .f32⟩
  | .hbm, ⟨15, _⟩ => ⟨S_, .f32⟩
  | .hbm, ⟨16, _⟩ => ⟨S4x5632, .f32⟩
  | .hbm, ⟨17, _⟩ => ⟨S4x5632, .f32⟩
  | .hbm, ⟨18, _⟩ => ⟨S4x5632, .f32⟩
  | .hbm, ⟨19, _⟩ => ⟨S_, .f32⟩
  | .hbm, ⟨20, _⟩ => ⟨S4x5632, .f32⟩
  | .hbm, ⟨21, _⟩ => ⟨S4x5632, .f32⟩
  | .hbm, ⟨22, _⟩ => ⟨S_, .f32⟩
  | .hbm, ⟨23, _⟩ => ⟨S4x5632, .f32⟩
  | .hbm, ⟨24, _⟩ => ⟨S4x5632, .f32⟩
  | .hbm, ⟨25, _⟩ => ⟨S4x5632, .f32⟩
  | .hbm, ⟨26, _⟩ => ⟨S_, .f32⟩
  | .hbm, ⟨27, _⟩ => ⟨S4x5632, .f32⟩
  | .hbm, ⟨28, _⟩ => ⟨S4x5632, .f32⟩
  | .hbm, ⟨29, _⟩ => ⟨S4x5632, .f32⟩
  | .hbm, ⟨30, _⟩ => ⟨S_, .f32⟩
  | .hbm, ⟨31, _⟩ => ⟨S4x5632, .f32⟩
  | .hbm, ⟨32, _⟩ => ⟨S4x5632, .f32⟩
  | .hbm, ⟨33, _⟩ => ⟨S4x5632, .f32⟩
  | .hbm, ⟨34, _⟩ => ⟨S_, .f32⟩
  | .hbm, ⟨35, _⟩ => ⟨S4x5632, .f32⟩
  | .hbm, ⟨36, _⟩ => ⟨S4x5632, .f32⟩
  | _, _ => ⟨S4x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnDown.lean ====
abbrev S4x352x1024 : Shape := ⟨3, ![4, 352, 1024]⟩
abbrev S1408x1024 : Shape := ⟨2, ![1408, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnDownIdeal.lean ====
abbrev S4x352x1024 : Shape := ⟨3, ![4, 352, 1024]⟩
abbrev S1408x1024 : Shape := ⟨2, ![1408, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnDownRefIdeal.lean ====
abbrev S4x352x1024 : Shape := ⟨3, ![4, 352, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S_, .f32⟩
  | .hbm, ⟨5, _⟩ => ⟨S4x352x1024, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S_, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S4x352x1024, .f32⟩
  | .hbm, ⟨26, _⟩ => ⟨S_, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamPoolW.lean ====
abbrev S1x4x32x256 : Shape := ⟨4, ![1, 4, 32, 256]⟩
abbrev S128x256 : Shape := ⟨2, ![128, 256]⟩

abbrev nBuf : Space → Nat
  | .hbm => 11
  | .vmem => 7
  | .smem => 0
  | _ => 0

abbrev bufTy : (tb : Table) → Fin (tcTables nBuf tb) → BufTy
  | .hbm, ⟨0, _⟩ => ⟨S1x4x32x256, .f32⟩
  | .hbm, ⟨1, _⟩ => ⟨S1x4x32x256, .f32⟩
  | .hbm, ⟨2, _⟩ => ⟨S1x4x32x256, .f32⟩
  | .hbm, ⟨3, _⟩ => ⟨S1x4x32x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x256, .f32⟩
  | .hbm, ⟨9, _⟩ => ⟨S128x256, .f32⟩
  | .hbm, ⟨10, _⟩ => ⟨S128x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | _, _ => ⟨S1x4x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolWIdeal.lean ====
abbrev S1x4x32x256 : Shape := ⟨4, ![1, 4, 32, 256]⟩
abbrev S128x256 : Shape := ⟨2, ![128, 256]⟩

abbrev nBuf : Space → Nat
  | .hbm => 11
  | .vmem => 7
  | .smem => 0
  | _ => 0

abbrev bufTy : (tb : Table) → Fin (tcTables nBuf tb) → BufTy
  | .hbm, ⟨0, _⟩ => ⟨S1x4x32x256, .f32⟩
  | .hbm, ⟨1, _⟩ => ⟨S1x4x32x256, .f32⟩
  | .hbm, ⟨2, _⟩ => ⟨S1x4x32x256, .f32⟩
  | .hbm, ⟨3, _⟩ => ⟨S1x4x32x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x256, .f32⟩
  | .hbm, ⟨9, _⟩ => ⟨S128x256, .f32⟩
  | .hbm, ⟨10, _⟩ => ⟨S128x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | _, _ => ⟨S1x4x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolWRefIdeal.lean ====
abbrev S1x4x32x256 : Shape := ⟨4, ![1, 4, 32, 256]⟩
abbrev S_ : Shape := ⟨0, ![]⟩
abbrev S128x256 : Shape := ⟨2, ![128, 256]⟩

abbrev nBuf : Space → Nat
  | .hbm => 40
  | .vmem => 0
  | .smem => 0
  | _ => 0

abbrev bufTy : (tb : Table) → Fin (tcTables nBuf tb) → BufTy
  | .hbm, ⟨0, _⟩ => ⟨S1x4x32x256, .f32⟩
  | .hbm, ⟨1, _⟩ => ⟨S1x4x32x256, .f32⟩
  | .hbm, ⟨2, _⟩ => ⟨S1x4x32x256, .f32⟩
  | .hbm, ⟨3, _⟩ => ⟨S1x4x32x256, .f32⟩
  | .hbm, ⟨4, _⟩ => ⟨S_, .f32⟩
  | .hbm, ⟨5, _⟩ => ⟨S1x4x32x256, .f32⟩
  | .hbm, ⟨6, _⟩ => ⟨S1x4x32x256, .f32⟩
  | .hbm, ⟨7, _⟩ => ⟨S_, .f32⟩
  | .hbm, ⟨8, _⟩ => ⟨S1x4x32x256, .f32⟩
  | .hbm, ⟨9, _⟩ => ⟨S1x4x32x256, .f32⟩
  | .hbm, ⟨10, _⟩ => ⟨S1x4x32x256, .f32⟩
  | .hbm, ⟨11, _⟩ => ⟨S_, .f32⟩
  | .hbm, ⟨12, _⟩ => ⟨S1x4x32x256, .f32⟩
  | .hbm, ⟨13, _⟩ => ⟨S1x4x32x256, .f32⟩
  | .hbm, ⟨14, _⟩ => ⟨S1x4x32x256, .f32⟩
  | .hbm, ⟨15, _⟩ => ⟨S_, .f32⟩
  | .hbm, ⟨16, _⟩ => ⟨S1x4x32x256, .f32⟩
  | .hbm, ⟨17, _⟩ => ⟨S1x4x32x256, .f32⟩
  | .hbm, ⟨18, _⟩ => ⟨S1x4x32x256, .f32⟩
  | .hbm, ⟨19, _⟩ => ⟨S_, .f32⟩
  | .hbm, ⟨20, _⟩ => ⟨S1x4x32x256, .f32⟩
  | .hbm, ⟨21, _⟩ => ⟨S1x4x32x256, .f32⟩
  | .hbm, ⟨22, _⟩ => ⟨S_, .f32⟩
  | .hbm, ⟨23, _⟩ => ⟨S1x4x32x256, .f32⟩
  | .hbm, ⟨24, _⟩ => ⟨S1x4x32x256, .f32⟩
  | .hbm, ⟨25, _⟩ => ⟨S1x4x32x256, .f32⟩
  | .hbm, ⟨26, _⟩ => ⟨S_, .f32⟩
  | .hbm, ⟨27, _⟩ => ⟨S1x4x32x256, .f32⟩
  | .hbm, ⟨28, _⟩ => ⟨S1x4x32x256, .f32⟩
  | .hbm, ⟨29, _⟩ => ⟨S1x4x32x256, .f32⟩
  | .hbm, ⟨30, _⟩ => ⟨S_, .f32⟩
  | .hbm, ⟨31, _⟩ => ⟨S1x4x32x256, .f32⟩
  | .hbm, ⟨32, _⟩ => ⟨S1x4x32x256, .f32⟩
  | .hbm, ⟨33, _⟩ => ⟨S1x4x32x256, .f32⟩
  | .hbm, ⟨34, _⟩ => ⟨S_, .f32⟩
  | .hbm, ⟨35, _⟩ => ⟨S1x4x32x256, .f32⟩
  | .hbm, ⟨36, _⟩ => ⟨S1x4x32x256, .f32⟩
  | .hbm, ⟨37, _⟩ => ⟨S128x256, .f32⟩
  | .hbm, ⟨38, _⟩ => ⟨S128x256, .f32⟩
  | .hbm, ⟨39, _⟩ => ⟨S128x256, .f32⟩
  | _, _ => ⟨S1x4x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamPool.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamQkv.lean ====
abbrev S1x1024x192 : Shape := ⟨3, ![1, 1024, 192]⟩
abbrev S1024x192 : Shape := ⟨2, ![1024, 192]⟩
abbrev S512x192 : Shape := ⟨2, ![512, 192]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x192, .f32⟩
  | .hbm, ⟨1, _⟩ => ⟨S1x1024x192, .f32⟩
  | .hbm, ⟨2, _⟩ => ⟨S1x1024x192, .f32⟩
  | .hbm, ⟨3, _⟩ => ⟨S1x1024x192, .f32⟩
  | .hbm, ⟨4, _⟩ => ⟨S1024x192, .f32⟩
  | .hbm, ⟨5, _⟩ => ⟨S1024x192, .f32⟩
  | .hbm, ⟨6, _⟩ => ⟨S1024x192, .f32⟩
  | .hbm, ⟨7, _⟩ => ⟨S1024x192, .f32⟩
  | .hbm, ⟨8, _⟩ => ⟨S1024x192, .f32⟩
  | .hbm, ⟨9, _⟩ => ⟨S1024x192, .f32⟩
  | .hbm, ⟨10, _⟩ => ⟨S1024x192, .f32⟩
  | .local _ .vmem, ⟨0, _⟩ => ⟨S512x192, .f32⟩
  | .local _ .vmem, ⟨1, _⟩ => ⟨S512x192, .f32⟩
  | .local _ .vmem, ⟨2, _⟩ => ⟨S512x192, .f32⟩
  | .local _ .vmem, ⟨3, _⟩ => ⟨S512x192, .f32⟩
  | .local _ .vmem, ⟨4, _⟩ => ⟨S512x192, .f32⟩
  | .local _ .vmem, ⟨5, _⟩ => ⟨S512x192, .f32⟩
  | .local _ .vmem, ⟨6, _⟩ => ⟨S512x192, .f32⟩
  | .local _ .vmem, ⟨7, _⟩ => ⟨S512x192, .f32⟩
  | .local _ .vmem, ⟨8, _⟩ => ⟨S512x192, .f32⟩
  | .local _ .vmem, ⟨9, _⟩ => ⟨S512x192, .f32⟩
  | .local _ .vmem, ⟨10, _⟩ => ⟨S512x192, .f32⟩
  | .local _ .vmem, ⟨11, _⟩ => ⟨S512x192, .f32⟩
  | .local _ .vmem, ⟨12, _⟩ => ⟨S512x192, .f32⟩
  | .local _ .vmem, ⟨13, _⟩ => ⟨S512x192, .f32⟩
  | _, _ => ⟨S1x1024x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamQkvIdeal.lean ====
abbrev S1x1024x192 : Shape := ⟨3, ![1, 1024, 192]⟩
abbrev S1024x192 : Shape := ⟨2, ![1024, 192]⟩
abbrev S512x192 : Shape := ⟨2, ![512, 192]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x192, .f32⟩
  | .hbm, ⟨1, _⟩ => ⟨S1x1024x192, .f32⟩
  | .hbm, ⟨2, _⟩ => ⟨S1x1024x192, .f32⟩
  | .hbm, ⟨3, _⟩ => ⟨S1x1024x192, .f32⟩
  | .hbm, ⟨4, _⟩ => ⟨S1024x192, .f32⟩
  | .hbm, ⟨5, _⟩ => ⟨S1024x192, .f32⟩
  | .hbm, ⟨6, _⟩ => ⟨S1024x192, .f32⟩
  | .hbm, ⟨7, _⟩ => ⟨S1024x192, .f32⟩
  | .hbm, ⟨8, _⟩ => ⟨S1024x192, .f32⟩
  | .hbm, ⟨9, _⟩ => ⟨S1024x192, .f32⟩
  | .hbm, ⟨10, _⟩ => ⟨S1024x192, .f32⟩
  | .local _ .vmem, ⟨0, _⟩ => ⟨S512x192, .f32⟩
  | .local _ .vmem, ⟨1, _⟩ => ⟨S512x192, .f32⟩
  | .local _ .vmem, ⟨2, _⟩ => ⟨S512x192, .f32⟩
  | .local _ .vmem, ⟨3, _⟩ => ⟨S512x192, .f32⟩
  | .local _ .vmem, ⟨4, _⟩ => ⟨S512x192, .f32⟩
  | .local _ .vmem, ⟨5, _⟩ => ⟨S512x192, .f32⟩
  | .local _ .vmem, ⟨6, _⟩ => ⟨S512x192, .f32⟩
  | .local _ .vmem, ⟨7, _⟩ => ⟨S512x192, .f32⟩
  | .local _ .vmem, ⟨8, _⟩ => ⟨S512x192, .f32⟩
  | .local _ .vmem, ⟨9, _⟩ => ⟨S512x192, .f32⟩
  | .local _ .vmem, ⟨10, _⟩ => ⟨S512x192, .f32⟩
  | .local _ .vmem, ⟨11, _⟩ => ⟨S512x192, .f32⟩
  | .local _ .vmem, ⟨12, _⟩ => ⟨S512x192, .f32⟩
  | .local _ .vmem, ⟨13, _⟩ => ⟨S512x192, .f32⟩
  | _, _ => ⟨S1x1024x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamQkvRefIdeal.lean ====
abbrev S1x1024x192 : Shape := ⟨3, ![1, 1024, 192]⟩
abbrev S_ : Shape := ⟨0, ![]⟩
abbrev S1024x192 : Shape := ⟨2, ![1024, 192]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x192, .f32⟩
  | .hbm, ⟨1, _⟩ => ⟨S1x1024x192, .f32⟩
  | .hbm, ⟨2, _⟩ => ⟨S1x1024x192, .f32⟩
  | .hbm, ⟨3, _⟩ => ⟨S1x1024x192, .f32⟩
  | .hbm, ⟨4, _⟩ => ⟨S_, .f32⟩
  | .hbm, ⟨5, _⟩ => ⟨S1x1024x192, .f32⟩
  | .hbm, ⟨6, _⟩ => ⟨S1x1024x192, .f32⟩
  | .hbm, ⟨7, _⟩ => ⟨S_, .f32⟩
  | .hbm, ⟨8, _⟩ => ⟨S1x1024x192, .f32⟩
  | .hbm, ⟨9, _⟩ => ⟨S1x1024x192, .f32⟩
  | .hbm, ⟨10, _⟩ => ⟨S1x1024x192, .f32⟩
  | .hbm, ⟨11, _⟩ => ⟨S_, .f32⟩
  | .hbm, ⟨12, _⟩ => ⟨S1x1024x192, .f32⟩
  | .hbm, ⟨13, _⟩ => ⟨S1x1024x192, .f32⟩
  | .hbm, ⟨14, _⟩ => ⟨S1x1024x192, .f32⟩
  | .hbm, ⟨15, _⟩ => ⟨S_, .f32⟩
  | .hbm, ⟨16, _⟩ => ⟨S1x1024x192, .f32⟩
  | .hbm, ⟨17, _⟩ => ⟨S1x1024x192, .f32⟩
  | .hbm, ⟨18, _⟩ => ⟨S1x1024x192, .f32⟩
  | .hbm, ⟨19, _⟩ => ⟨S_, .f32⟩
  | .hbm, ⟨20, _⟩ => ⟨S1x1024x192, .f32⟩
  | .hbm, ⟨21, _⟩ => ⟨S1x1024x192, .f32⟩
  | .hbm, ⟨22, _⟩ => ⟨S_, .f32⟩
  | .hbm, ⟨23, _⟩ => ⟨S1x1024x192, .f32⟩
  | .hbm, ⟨24, _⟩ => ⟨S1x1024x192, .f32⟩
  | .hbm, ⟨25, _⟩ => ⟨S1x1024x192, .f32⟩
  | .hbm, ⟨26, _⟩ => ⟨S_, .f32⟩
  | .hbm, ⟨27, _⟩ => ⟨S1x1024x192, .f32⟩
  | .hbm, ⟨28, _⟩ => ⟨S1x1024x192, .f32⟩
  | .hbm, ⟨29, _⟩ => ⟨S1x1024x192, .f32⟩
  | .hbm, ⟨30, _⟩ => ⟨S_, .f32⟩
  | .hbm, ⟨31, _⟩ => ⟨S1x1024x192, .f32⟩
  | .hbm, ⟨32, _⟩ => ⟨S1x1024x192, .f32⟩
  | .hbm, ⟨33, _⟩ => ⟨S1x1024x192, .f32⟩
  | .hbm, ⟨34, _⟩ => ⟨S_, .f32⟩
  | .hbm, ⟨35, _⟩ => ⟨S1x1024x192, .f32⟩
  | .hbm, ⟨36, _⟩ => ⟨S1x1024x192, .f32⟩
  | .hbm, ⟨37, _⟩ => ⟨S1024x192, .f32⟩
  | .hbm, ⟨38, _⟩ => ⟨S1024x192, .f32⟩
  | .hbm, ⟨39, _⟩ => ⟨S1024x192, .f32⟩
  | _, _ => ⟨S1x1024x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOut.lean ====
abbrev S1x128x1024 : Shape := ⟨3, ![1, 128, 1024]⟩
abbrev S128x1024 : Shape := ⟨2, ![128, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutIdeal.lean ====
abbrev S1x128x1024 : Shape := ⟨3, ![1, 128, 1024]⟩
abbrev S128x1024 : Shape := ⟨2, ![128, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutRefIdeal.lean ====
abbrev S1x128x1024 : Shape := ⟨3, ![1, 128, 1024]⟩
abbrev S_ : Shape := ⟨0, ![]⟩
abbrev S128x1024 : Shape := ⟨2, ![128, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S_, .f32⟩
  | .hbm, ⟨5, _⟩ => ⟨S1x128x1024, .f32⟩
  | .hbm, ⟨6, _⟩ => ⟨S1x128x1024, .f32⟩
  | .hbm, ⟨7, _⟩ => ⟨S_, .f32⟩
  | .hbm, ⟨8, _⟩ => ⟨S1x128x1024, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S_, .f32⟩
  | .hbm, ⟨23, _⟩ => ⟨S1x128x1024, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S128x1024, .f32⟩
  | .hbm, ⟨38, _⟩ => ⟨S128x1024, .f32⟩
  | .hbm, ⟨39, _⟩ => ⟨S128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSink.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSinkIdeal.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSinkRefIdeal.lean ====
abbrev S1x16 : Shape := ⟨2, ![1, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S_, .f32⟩
  | .hbm, ⟨5, _⟩ => ⟨S1x16, .f32⟩
  | .hbm, ⟨6, _⟩ => ⟨S1x16, .f32⟩
  | .hbm, ⟨7, _⟩ => ⟨S_, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S_, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S_, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S_, .f32⟩
  | .hbm, ⟨20, _⟩ => ⟨S1x16, .f32⟩
  | .hbm, ⟨21, _⟩ => ⟨S1x16, .f32⟩
  | .hbm, ⟨22, _⟩ => ⟨S_, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S_, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S_, .f32⟩
  | .hbm, ⟨31, _⟩ => ⟨S1x16, .f32⟩
  | .hbm, ⟨32, _⟩ => ⟨S1x16, .f32⟩
  | .hbm, ⟨33, _⟩ => ⟨S1x16, .f32⟩
  | .hbm, ⟨34, _⟩ => ⟨S_, .f32⟩
  | .hbm, ⟨35, _⟩ => ⟨S1x16, .f32⟩
  | .hbm, ⟨36, _⟩ => ⟨S1x16, .f32⟩
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLambda.lean ====
abbrev S1x2x64x64 : Shape := ⟨4, ![1, 2, 64, 64]⟩
abbrev S128x64 : Shape := ⟨2, ![128, 64]⟩

abbrev nBuf : Space → Nat
  | .hbm => 11
  | .vmem => 7
  | .smem => 0
  | _ => 0

abbrev bufTy : (tb : Table) → Fin (tcTables nBuf tb) → BufTy
  | .hbm, ⟨0, _⟩ => ⟨S1x2x64x64, .f32⟩
  | .hbm, ⟨1, _⟩ => ⟨S1x2x64x64, .f32⟩
  | .hbm, ⟨2, _⟩ => ⟨S1x2x64x64, .f32⟩
  | .hbm, ⟨3, _⟩ => ⟨S1x2x64x64, .f32⟩
  | .hbm, ⟨4, _⟩ => ⟨S128x64, .f32⟩
  | .hbm, ⟨5, _⟩ => ⟨S128x64, .f32⟩
  | .hbm, ⟨6, _⟩ => ⟨S128x64, .f32⟩
  | .hbm, ⟨7, _⟩ => ⟨S128x64, .f32⟩
  | .hbm, ⟨8, _⟩ => ⟨S128x64, .f32⟩
  | .hbm, ⟨9, _⟩ => ⟨S128x64, .f32⟩
  | .hbm, ⟨10, _⟩ => ⟨S128x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | _, _ => ⟨S1x2x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLambdaIdeal.lean ====
abbrev S1x2x64x64 : Shape := ⟨4, ![1, 2, 64, 64]⟩
abbrev S128x64 : Shape := ⟨2, ![128, 64]⟩

abbrev nBuf : Space → Nat
  | .hbm => 11
  | .vmem => 7
  | .smem => 0
  | _ => 0

abbrev bufTy : (tb : Table) → Fin (tcTables nBuf tb) → BufTy
  | .hbm, ⟨0, _⟩ => ⟨S1x2x64x64, .f32⟩
  | .hbm, ⟨1, _⟩ => ⟨S1x2x64x64, .f32⟩
  | .hbm, ⟨2, _⟩ => ⟨S1x2x64x64, .f32⟩
  | .hbm, ⟨3, _⟩ => ⟨S1x2x64x64, .f32⟩
  | .hbm, ⟨4, _⟩ => ⟨S128x64, .f32⟩
  | .hbm, ⟨5, _⟩ => ⟨S128x64, .f32⟩
  | .hbm, ⟨6, _⟩ => ⟨S128x64, .f32⟩
  | .hbm, ⟨7, _⟩ => ⟨S128x64, .f32⟩
  | .hbm, ⟨8, _⟩ => ⟨S128x64, .f32⟩
  | .hbm, ⟨9, _⟩ => ⟨S128x64, .f32⟩
  | .hbm, ⟨10, _⟩ => ⟨S128x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | _, _ => ⟨S1x2x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLambdaRefIdeal.lean ====
abbrev S1x2x64x64 : Shape := ⟨4, ![1, 2, 64, 64]⟩
abbrev S_ : Shape := ⟨0, ![]⟩
abbrev S128x64 : Shape := ⟨2, ![128, 64]⟩

abbrev nBuf : Space → Nat
  | .hbm => 40
  | .vmem => 0
  | .smem => 0
  | _ => 0

abbrev bufTy : (tb : Table) → Fin (tcTables nBuf tb) → BufTy
  | .hbm, ⟨0, _⟩ => ⟨S1x2x64x64, .f32⟩
  | .hbm, ⟨1, _⟩ => ⟨S1x2x64x64, .f32⟩
  | .hbm, ⟨2, _⟩ => ⟨S1x2x64x64, .f32⟩
  | .hbm, ⟨3, _⟩ => ⟨S1x2x64x64, .f32⟩
  | .hbm, ⟨4, _⟩ => ⟨S_, .f32⟩
  | .hbm, ⟨5, _⟩ => ⟨S1x2x64x64, .f32⟩
  | .hbm, ⟨6, _⟩ => ⟨S1x2x64x64, .f32⟩
  | .hbm, ⟨7, _⟩ => ⟨S_, .f32⟩
  | .hbm, ⟨8, _⟩ => ⟨S1x2x64x64, .f32⟩
  | .hbm, ⟨9, _⟩ => ⟨S1x2x64x64, .f32⟩
  | .hbm, ⟨10, _⟩ => ⟨S1x2x64x64, .f32⟩
  | .hbm, ⟨11, _⟩ => ⟨S_, .f32⟩
  | .hbm, ⟨12, _⟩ => ⟨S1x2x64x64, .f32⟩
  | .hbm, ⟨13, _⟩ => ⟨S1x2x64x64, .f32⟩
  | .hbm, ⟨14, _⟩ => ⟨S1x2x64x64, .f32⟩
  | .hbm, ⟨15, _⟩ => ⟨S_, .f32⟩
  | .hbm, ⟨16, _⟩ => ⟨S1x2x64x64, .f32⟩
  | .hbm, ⟨17, _⟩ => ⟨S1x2x64x64, .f32⟩
  | .hbm, ⟨18, _⟩ => ⟨S1x2x64x64, .f32⟩
  | .hbm, ⟨19, _⟩ => ⟨S_, .f32⟩
  | .hbm, ⟨20, _⟩ => ⟨S1x2x64x64, .f32⟩
  | .hbm, ⟨21, _⟩ => ⟨S1x2x64x64, .f32⟩
  | .hbm, ⟨22, _⟩ => ⟨S_, .f32⟩
  | .hbm, ⟨23, _⟩ => ⟨S1x2x64x64, .f32⟩
  | .hbm, ⟨24, _⟩ => ⟨S1x2x64x64, .f32⟩
  | .hbm, ⟨25, _⟩ => ⟨S1x2x64x64, .f32⟩
  | .hbm, ⟨26, _⟩ => ⟨S_, .f32⟩
  | .hbm, ⟨27, _⟩ => ⟨S1x2x64x64, .f32⟩
  | .hbm, ⟨28, _⟩ => ⟨S1x2x64x64, .f32⟩
  | .hbm, ⟨29, _⟩ => ⟨S1x2x64x64, .f32⟩
  | .hbm, ⟨30, _⟩ => ⟨S_, .f32⟩
  | .hbm, ⟨31, _⟩ => ⟨S1x2x64x64, .f32⟩
  | .hbm, ⟨32, _⟩ => ⟨S1x2x64x64, .f32⟩
  | .hbm, ⟨33, _⟩ => ⟨S1x2x64x64, .f32⟩
  | .hbm, ⟨34, _⟩ => ⟨S_, .f32⟩
  | .hbm, ⟨35, _⟩ => ⟨S1x2x64x64, .f32⟩
  | .hbm, ⟨36, _⟩ => ⟨S1x2x64x64, .f32⟩
  | .hbm, ⟨37, _⟩ => ⟨S128x64, .f32⟩
  | .hbm, ⟨38, _⟩ => ⟨S128x64, .f32⟩
  | .hbm, ⟨39, _⟩ => ⟨S128x64, .f32⟩
  | _, _ => ⟨S1x2x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamLogDt.lean ====
abbrev S1x2x64 : Shape := ⟨3, ![1, 2, 64]⟩
abbrev S2x64 : Shape := ⟨2, ![2, 64]⟩

abbrev nBuf : Space → Nat
  | .hbm => 11
  | .vmem => 7
  | .smem => 0
  | _ => 0

abbrev bufTy : (tb : Table) → Fin (tcTables nBuf tb) → BufTy
  | .hbm, ⟨0, _⟩ => ⟨S1x2x64, .f32⟩
  | .hbm, ⟨1, _⟩ => ⟨S1x2x64, .f32⟩
  | .hbm, ⟨2, _⟩ => ⟨S1x2x64, .f32⟩
  | .hbm, ⟨3, _⟩ => ⟨S1x2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x64, .f32⟩
  | .hbm, ⟨8, _⟩ => ⟨S2x64, .f32⟩
  | .hbm, ⟨9, _⟩ => ⟨S2x64, .f32⟩
  | .hbm, ⟨10, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | _, _ => ⟨S1x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLogDtIdeal.lean ====
abbrev S1x2x64 : Shape := ⟨3, ![1, 2, 64]⟩
abbrev S2x64 : Shape := ⟨2, ![2, 64]⟩

abbrev nBuf : Space → Nat
  | .hbm => 11
  | .vmem => 7
  | .smem => 0
  | _ => 0

abbrev bufTy : (tb : Table) → Fin (tcTables nBuf tb) → BufTy
  | .hbm, ⟨0, _⟩ => ⟨S1x2x64, .f32⟩
  | .hbm, ⟨1, _⟩ => ⟨S1x2x64, .f32⟩
  | .hbm, ⟨2, _⟩ => ⟨S1x2x64, .f32⟩
  | .hbm, ⟨3, _⟩ => ⟨S1x2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x64, .f32⟩
  | .hbm, ⟨8, _⟩ => ⟨S2x64, .f32⟩
  | .hbm, ⟨9, _⟩ => ⟨S2x64, .f32⟩
  | .hbm, ⟨10, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | _, _ => ⟨S1x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLogDtRefIdeal.lean ====
abbrev S1x2x64 : Shape := ⟨3, ![1, 2, 64]⟩
abbrev S_ : Shape := ⟨0, ![]⟩
abbrev S2x64 : Shape := ⟨2, ![2, 64]⟩

abbrev nBuf : Space → Nat
  | .hbm => 40
  | .vmem => 0
  | .smem => 0
  | _ => 0

abbrev bufTy : (tb : Table) → Fin (tcTables nBuf tb) → BufTy
  | .hbm, ⟨0, _⟩ => ⟨S1x2x64, .f32⟩
  | .hbm, ⟨1, _⟩ => ⟨S1x2x64, .f32⟩
  | .hbm, ⟨2, _⟩ => ⟨S1x2x64, .f32⟩
  | .hbm, ⟨3, _⟩ => ⟨S1x2x64, .f32⟩
  | .hbm, ⟨4, _⟩ => ⟨S_, .f32⟩
  | .hbm, ⟨5, _⟩ => ⟨S1x2x64, .f32⟩
  | .hbm, ⟨6, _⟩ => ⟨S1x2x64, .f32⟩
  | .hbm, ⟨7, _⟩ => ⟨S_, .f32⟩
  | .hbm, ⟨8, _⟩ => ⟨S1x2x64, .f32⟩
  | .hbm, ⟨9, _⟩ => ⟨S1x2x64, .f32⟩
  | .hbm, ⟨10, _⟩ => ⟨S1x2x64, .f32⟩
  | .hbm, ⟨11, _⟩ => ⟨S_, .f32⟩
  | .hbm, ⟨12, _⟩ => ⟨S1x2x64, .f32⟩
  | .hbm, ⟨13, _⟩ => ⟨S1x2x64, .f32⟩
  | .hbm, ⟨14, _⟩ => ⟨S1x2x64, .f32⟩
  | .hbm, ⟨15, _⟩ => ⟨S_, .f32⟩
  | .hbm, ⟨16, _⟩ => ⟨S1x2x64, .f32⟩
  | .hbm, ⟨17, _⟩ => ⟨S1x2x64, .f32⟩
  | .hbm, ⟨18, _⟩ => ⟨S1x2x64, .f32⟩
  | .hbm, ⟨19, _⟩ => ⟨S_, .f32⟩
  | .hbm, ⟨20, _⟩ => ⟨S1x2x64, .f32⟩
  | .hbm, ⟨21, _⟩ => ⟨S1x2x64, .f32⟩
  | .hbm, ⟨22, _⟩ => ⟨S_, .f32⟩
  | .hbm, ⟨23, _⟩ => ⟨S1x2x64, .f32⟩
  | .hbm, ⟨24, _⟩ => ⟨S1x2x64, .f32⟩
  | .hbm, ⟨25, _⟩ => ⟨S1x2x64, .f32⟩
  | .hbm, ⟨26, _⟩ => ⟨S_, .f32⟩
  | .hbm, ⟨27, _⟩ => ⟨S1x2x64, .f32⟩
  | .hbm, ⟨28, _⟩ => ⟨S1x2x64, .f32⟩
  | .hbm, ⟨29, _⟩ => ⟨S1x2x64, .f32⟩
  | .hbm, ⟨30, _⟩ => ⟨S_, .f32⟩
  | .hbm, ⟨31, _⟩ => ⟨S1x2x64, .f32⟩
  | .hbm, ⟨32, _⟩ => ⟨S1x2x64, .f32⟩
  | .hbm, ⟨33, _⟩ => ⟨S1x2x64, .f32⟩
  | .hbm, ⟨34, _⟩ => ⟨S_, .f32⟩
  | .hbm, ⟨35, _⟩ => ⟨S1x2x64, .f32⟩
  | .hbm, ⟨36, _⟩ => ⟨S1x2x64, .f32⟩
  | .hbm, ⟨37, _⟩ => ⟨S2x64, .f32⟩
  | .hbm, ⟨38, _⟩ => ⟨S2x64, .f32⟩
  | .hbm, ⟨39, _⟩ => ⟨S2x64, .f32⟩
  | _, _ => ⟨S1x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSsmB.lean ====
abbrev S1x2x64x64x16 : Shape := ⟨5, ![1, 2, 64, 64, 16]⟩
abbrev S8192x16 : Shape := ⟨2, ![8192, 16]⟩
abbrev S512x16 : Shape := ⟨2, ![512, 16]⟩

abbrev nBuf : Space → Nat
  | .hbm => 11
  | .vmem => 14
  | .smem => 0
  | _ => 0

abbrev bufTy : (tb : Table) → Fin (tcTables nBuf tb) → BufTy
  | .hbm, ⟨0, _⟩ => ⟨S1x2x64x64x16, .f32⟩
  | .hbm, ⟨1, _⟩ => ⟨S1x2x64x64x16, .f32⟩
  | .hbm, ⟨2, _⟩ => ⟨S1x2x64x64x16, .f32⟩
  | .hbm, ⟨3, _⟩ => ⟨S1x2x64x64x16, .f32⟩
  | .hbm, ⟨4, _⟩ => ⟨S8192x16, .f32⟩
  | .hbm, ⟨5, _⟩ => ⟨S8192x16, .f32⟩
  | .hbm, ⟨6, _⟩ => ⟨S8192x16, .f32⟩
  | .hbm, ⟨7, _⟩ => ⟨S8192x16, .f32⟩
  | .hbm, ⟨8, _⟩ => ⟨S8192x16, .f32⟩
  | .hbm, ⟨9, _⟩ => ⟨S8192x16, .f32⟩
  | .hbm, ⟨10, _⟩ => ⟨S8192x16, .f32⟩
  | .local _ .vmem, ⟨0, _⟩ => ⟨S512x16, .f32⟩
  | .local _ .vmem, ⟨1, _⟩ => ⟨S512x16, .f32⟩
  | .local _ .vmem, ⟨2, _⟩ => ⟨S512x16, .f32⟩
  | .local _ .vmem, ⟨3, _⟩ => ⟨S512x16, .f32⟩
  | .local _ .vmem, ⟨4, _⟩ => ⟨S512x16, .f32⟩
  | .local _ .vmem, ⟨5, _⟩ => ⟨S512x16, .f32⟩
  | .local _ .vmem, ⟨6, _⟩ => ⟨S512x16, .f32⟩
  | .local _ .vmem, ⟨7, _⟩ => ⟨S512x16, .f32⟩
  | .local _ .vmem, ⟨8, _⟩ => ⟨S512x16, .f32⟩
  | .local _ .vmem, ⟨9, _⟩ => ⟨S512x16, .f32⟩
  | .local _ .vmem, ⟨10, _⟩ => ⟨S512x16, .f32⟩
  | .local _ .vmem, ⟨11, _⟩ => ⟨S512x16, .f32⟩
  | .local _ .vmem, ⟨12, _⟩ => ⟨S512x16, .f32⟩
  | .local _ .vmem, ⟨13, _⟩ => ⟨S512x16, .f32⟩
  | _, _ => ⟨S1x2x64x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSsmBIdeal.lean ====
abbrev S1x2x64x64x16 : Shape := ⟨5, ![1, 2, 64, 64, 16]⟩
abbrev S8192x16 : Shape := ⟨2, ![8192, 16]⟩
abbrev S512x16 : Shape := ⟨2, ![512, 16]⟩

abbrev nBuf : Space → Nat
  | .hbm => 11
  | .vmem => 14
  | .smem => 0
  | _ => 0

abbrev bufTy : (tb : Table) → Fin (tcTables nBuf tb) → BufTy
  | .hbm, ⟨0, _⟩ => ⟨S1x2x64x64x16, .f32⟩
  | .hbm, ⟨1, _⟩ => ⟨S1x2x64x64x16, .f32⟩
  | .hbm, ⟨2, _⟩ => ⟨S1x2x64x64x16, .f32⟩
  | .hbm, ⟨3, _⟩ => ⟨S1x2x64x64x16, .f32⟩
  | .hbm, ⟨4, _⟩ => ⟨S8192x16, .f32⟩
  | .hbm, ⟨5, _⟩ => ⟨S8192x16, .f32⟩
  | .hbm, ⟨6, _⟩ => ⟨S8192x16, .f32⟩
  | .hbm, ⟨7, _⟩ => ⟨S8192x16, .f32⟩
  | .hbm, ⟨8, _⟩ => ⟨S8192x16, .f32⟩
  | .hbm, ⟨9, _⟩ => ⟨S8192x16, .f32⟩
  | .hbm, ⟨10, _⟩ => ⟨S8192x16, .f32⟩
  | .local _ .vmem, ⟨0, _⟩ => ⟨S512x16, .f32⟩
  | .local _ .vmem, ⟨1, _⟩ => ⟨S512x16, .f32⟩
  | .local _ .vmem, ⟨2, _⟩ => ⟨S512x16, .f32⟩
  | .local _ .vmem, ⟨3, _⟩ => ⟨S512x16, .f32⟩
  | .local _ .vmem, ⟨4, _⟩ => ⟨S512x16, .f32⟩
  | .local _ .vmem, ⟨5, _⟩ => ⟨S512x16, .f32⟩
  | .local _ .vmem, ⟨6, _⟩ => ⟨S512x16, .f32⟩
  | .local _ .vmem, ⟨7, _⟩ => ⟨S512x16, .f32⟩
  | .local _ .vmem, ⟨8, _⟩ => ⟨S512x16, .f32⟩
  | .local _ .vmem, ⟨9, _⟩ => ⟨S512x16, .f32⟩
  | .local _ .vmem, ⟨10, _⟩ => ⟨S512x16, .f32⟩
  | .local _ .vmem, ⟨11, _⟩ => ⟨S512x16, .f32⟩
  | .local _ .vmem, ⟨12, _⟩ => ⟨S512x16, .f32⟩
  | .local _ .vmem, ⟨13, _⟩ => ⟨S512x16, .f32⟩
  | _, _ => ⟨S1x2x64x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSsmBRefIdeal.lean ====
abbrev S1x2x64x64x16 : Shape := ⟨5, ![1, 2, 64, 64, 16]⟩
abbrev S_ : Shape := ⟨0, ![]⟩
abbrev S8192x16 : Shape := ⟨2, ![8192, 16]⟩

abbrev nBuf : Space → Nat
  | .hbm => 40
  | .vmem => 0
  | .smem => 0
  | _ => 0

abbrev bufTy : (tb : Table) → Fin (tcTables nBuf tb) → BufTy
  | .hbm, ⟨0, _⟩ => ⟨S1x2x64x64x16, .f32⟩
  | .hbm, ⟨1, _⟩ => ⟨S1x2x64x64x16, .f32⟩
  | .hbm, ⟨2, _⟩ => ⟨S1x2x64x64x16, .f32⟩
  | .hbm, ⟨3, _⟩ => ⟨S1x2x64x64x16, .f32⟩
  | .hbm, ⟨4, _⟩ => ⟨S_, .f32⟩
  | .hbm, ⟨5, _⟩ => ⟨S1x2x64x64x16, .f32⟩
  | .hbm, ⟨6, _⟩ => ⟨S1x2x64x64x16, .f32⟩
  | .hbm, ⟨7, _⟩ => ⟨S_, .f32⟩
  | .hbm, ⟨8, _⟩ => ⟨S1x2x64x64x16, .f32⟩
  | .hbm, ⟨9, _⟩ => ⟨S1x2x64x64x16, .f32⟩
  | .hbm, ⟨10, _⟩ => ⟨S1x2x64x64x16, .f32⟩
  | .hbm, ⟨11, _⟩ => ⟨S_, .f32⟩
  | .hbm, ⟨12, _⟩ => ⟨S1x2x64x64x16, .f32⟩
  | .hbm, ⟨13, _⟩ => ⟨S1x2x64x64x16, .f32⟩
  | .hbm, ⟨14, _⟩ => ⟨S1x2x64x64x16, .f32⟩
  | .hbm, ⟨15, _⟩ => ⟨S_, .f32⟩
  | .hbm, ⟨16, _⟩ => ⟨S1x2x64x64x16, .f32⟩
  | .hbm, ⟨17, _⟩ => ⟨S1x2x64x64x16, .f32⟩
  | .hbm, ⟨18, _⟩ => ⟨S1x2x64x64x16, .f32⟩
  | .hbm, ⟨19, _⟩ => ⟨S_, .f32⟩
  | .hbm, ⟨20, _⟩ => ⟨S1x2x64x64x16, .f32⟩
  | .hbm, ⟨21, _⟩ => ⟨S1x2x64x64x16, .f32⟩
  | .hbm, ⟨22, _⟩ => ⟨S_, .f32⟩
  | .hbm, ⟨23, _⟩ => ⟨S1x2x64x64x16, .f32⟩
  | .hbm, ⟨24, _⟩ => ⟨S1x2x64x64x16, .f32⟩
  | .hbm, ⟨25, _⟩ => ⟨S1x2x64x64x16, .f32⟩
  | .hbm, ⟨26, _⟩ => ⟨S_, .f32⟩
  | .hbm, ⟨27, _⟩ => ⟨S1x2x64x64x16, .f32⟩
  | .hbm, ⟨28, _⟩ => ⟨S1x2x64x64x16, .f32⟩
  | .hbm, ⟨29, _⟩ => ⟨S1x2x64x64x16, .f32⟩
  | .hbm, ⟨30, _⟩ => ⟨S_, .f32⟩
  | .hbm, ⟨31, _⟩ => ⟨S1x2x64x64x16, .f32⟩
  | .hbm, ⟨32, _⟩ => ⟨S1x2x64x64x16, .f32⟩
  | .hbm, ⟨33, _⟩ => ⟨S1x2x64x64x16, .f32⟩
  | .hbm, ⟨34, _⟩ => ⟨S_, .f32⟩
  | .hbm, ⟨35, _⟩ => ⟨S1x2x64x64x16, .f32⟩
  | .hbm, ⟨36, _⟩ => ⟨S1x2x64x64x16, .f32⟩
  | .hbm, ⟨37, _⟩ => ⟨S8192x16, .f32⟩
  | .hbm, ⟨38, _⟩ => ⟨S8192x16, .f32⟩
  | .hbm, ⟨39, _⟩ => ⟨S8192x16, .f32⟩
  | _, _ => ⟨S1x2x64x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSsmC.lean ====
abbrev S1x2x64x16x64 : Shape := ⟨5, ![1, 2, 64, 16, 64]⟩
abbrev S2048x64 : Shape := ⟨2, ![2048, 64]⟩
abbrev S512x64 : Shape := ⟨2, ![512, 64]⟩

abbrev nBuf : Space → Nat
  | .hbm => 11
  | .vmem => 14
  | .smem => 0
  | _ => 0

abbrev bufTy : (tb : Table) → Fin (tcTables nBuf tb) → BufTy
  | .hbm, ⟨0, _⟩ => ⟨S1x2x64x16x64, .f32⟩
  | .hbm, ⟨1, _⟩ => ⟨S1x2x64x16x64, .f32⟩
  | .hbm, ⟨2, _⟩ => ⟨S1x2x64x16x64, .f32⟩
  | .hbm, ⟨3, _⟩ => ⟨S1x2x64x16x64, .f32⟩
  | .hbm, ⟨4, _⟩ => ⟨S2048x64, .f32⟩
  | .hbm, ⟨5, _⟩ => ⟨S2048x64, .f32⟩
  | .hbm, ⟨6, _⟩ => ⟨S2048x64, .f32⟩
  | .hbm, ⟨7, _⟩ => ⟨S2048x64, .f32⟩
  | .hbm, ⟨8, _⟩ => ⟨S2048x64, .f32⟩
  | .hbm, ⟨9, _⟩ => ⟨S2048x64, .f32⟩
  | .hbm, ⟨10, _⟩ => ⟨S2048x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | _, _ => ⟨S1x2x64x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSsmCIdeal.lean ====
abbrev S1x2x64x16x64 : Shape := ⟨5, ![1, 2, 64, 16, 64]⟩
abbrev S2048x64 : Shape := ⟨2, ![2048, 64]⟩
abbrev S512x64 : Shape := ⟨2, ![512, 64]⟩

abbrev nBuf : Space → Nat
  | .hbm => 11
  | .vmem => 14
  | .smem => 0
  | _ => 0

abbrev bufTy : (tb : Table) → Fin (tcTables nBuf tb) → BufTy
  | .hbm, ⟨0, _⟩ => ⟨S1x2x64x16x64, .f32⟩
  | .hbm, ⟨1, _⟩ => ⟨S1x2x64x16x64, .f32⟩
  | .hbm, ⟨2, _⟩ => ⟨S1x2x64x16x64, .f32⟩
  | .hbm, ⟨3, _⟩ => ⟨S1x2x64x16x64, .f32⟩
  | .hbm, ⟨4, _⟩ => ⟨S2048x64, .f32⟩
  | .hbm, ⟨5, _⟩ => ⟨S2048x64, .f32⟩
  | .hbm, ⟨6, _⟩ => ⟨S2048x64, .f32⟩
  | .hbm, ⟨7, _⟩ => ⟨S2048x64, .f32⟩
  | .hbm, ⟨8, _⟩ => ⟨S2048x64, .f32⟩
  | .hbm, ⟨9, _⟩ => ⟨S2048x64, .f32⟩
  | .hbm, ⟨10, _⟩ => ⟨S2048x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | _, _ => ⟨S1x2x64x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSsmCRefIdeal.lean ====
abbrev S1x2x64x16x64 : Shape := ⟨5, ![1, 2, 64, 16, 64]⟩
abbrev S_ : Shape := ⟨0, ![]⟩
abbrev S2048x64 : Shape := ⟨2, ![2048, 64]⟩

abbrev nBuf : Space → Nat
  | .hbm => 40
  | .vmem => 0
  | .smem => 0
  | _ => 0

abbrev bufTy : (tb : Table) → Fin (tcTables nBuf tb) → BufTy
  | .hbm, ⟨0, _⟩ => ⟨S1x2x64x16x64, .f32⟩
  | .hbm, ⟨1, _⟩ => ⟨S1x2x64x16x64, .f32⟩
  | .hbm, ⟨2, _⟩ => ⟨S1x2x64x16x64, .f32⟩
  | .hbm, ⟨3, _⟩ => ⟨S1x2x64x16x64, .f32⟩
  | .hbm, ⟨4, _⟩ => ⟨S_, .f32⟩
  | .hbm, ⟨5, _⟩ => ⟨S1x2x64x16x64, .f32⟩
  | .hbm, ⟨6, _⟩ => ⟨S1x2x64x16x64, .f32⟩
  | .hbm, ⟨7, _⟩ => ⟨S_, .f32⟩
  | .hbm, ⟨8, _⟩ => ⟨S1x2x64x16x64, .f32⟩
  | .hbm, ⟨9, _⟩ => ⟨S1x2x64x16x64, .f32⟩
  | .hbm, ⟨10, _⟩ => ⟨S1x2x64x16x64, .f32⟩
  | .hbm, ⟨11, _⟩ => ⟨S_, .f32⟩
  | .hbm, ⟨12, _⟩ => ⟨S1x2x64x16x64, .f32⟩
  | .hbm, ⟨13, _⟩ => ⟨S1x2x64x16x64, .f32⟩
  | .hbm, ⟨14, _⟩ => ⟨S1x2x64x16x64, .f32⟩
  | .hbm, ⟨15, _⟩ => ⟨S_, .f32⟩
  | .hbm, ⟨16, _⟩ => ⟨S1x2x64x16x64, .f32⟩
  | .hbm, ⟨17, _⟩ => ⟨S1x2x64x16x64, .f32⟩
  | .hbm, ⟨18, _⟩ => ⟨S1x2x64x16x64, .f32⟩
  | .hbm, ⟨19, _⟩ => ⟨S_, .f32⟩
  | .hbm, ⟨20, _⟩ => ⟨S1x2x64x16x64, .f32⟩
  | .hbm, ⟨21, _⟩ => ⟨S1x2x64x16x64, .f32⟩
  | .hbm, ⟨22, _⟩ => ⟨S_, .f32⟩
  | .hbm, ⟨23, _⟩ => ⟨S1x2x64x16x64, .f32⟩
  | .hbm, ⟨24, _⟩ => ⟨S1x2x64x16x64, .f32⟩
  | .hbm, ⟨25, _⟩ => ⟨S1x2x64x16x64, .f32⟩
  | .hbm, ⟨26, _⟩ => ⟨S_, .f32⟩
  | .hbm, ⟨27, _⟩ => ⟨S1x2x64x16x64, .f32⟩
  | .hbm, ⟨28, _⟩ => ⟨S1x2x64x16x64, .f32⟩
  | .hbm, ⟨29, _⟩ => ⟨S1x2x64x16x64, .f32⟩
  | .hbm, ⟨30, _⟩ => ⟨S_, .f32⟩
  | .hbm, ⟨31, _⟩ => ⟨S1x2x64x16x64, .f32⟩
  | .hbm, ⟨32, _⟩ => ⟨S1x2x64x16x64, .f32⟩
  | .hbm, ⟨33, _⟩ => ⟨S1x2x64x16x64, .f32⟩
  | .hbm, ⟨34, _⟩ => ⟨S_, .f32⟩
  | .hbm, ⟨35, _⟩ => ⟨S1x2x64x16x64, .f32⟩
  | .hbm, ⟨36, _⟩ => ⟨S1x2x64x16x64, .f32⟩
  | .hbm, ⟨37, _⟩ => ⟨S2048x64, .f32⟩
  | .hbm, ⟨38, _⟩ => ⟨S2048x64, .f32⟩
  | .hbm, ⟨39, _⟩ => ⟨S2048x64, .f32⟩
  | _, _ => ⟨S1x2x64x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSsmD.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSsmDIdeal.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSsmDRefIdeal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMixIn.lean ====
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMixInIdeal.lean ====
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMixInRefIdeal.lean ====
abbrev S1x1024x512 : Shape := ⟨3, ![1, 1024, 512]⟩
abbrev S_ : Shape := ⟨0, ![]⟩
abbrev S1024x512 : Shape := ⟨2, ![1024, 512]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S_, .f32⟩
  | .hbm, ⟨5, _⟩ => ⟨S1x1024x512, .f32⟩
  | .hbm, ⟨6, _⟩ => ⟨S1x1024x512, .f32⟩
  | .hbm, ⟨7, _⟩ => ⟨S_, .f32⟩
  | .hbm, ⟨8, _⟩ => ⟨S1x1024x512, .f32⟩
  | .hbm, ⟨9, _⟩ => ⟨S1x1024x512, .f32⟩
  | .hbm, ⟨10, _⟩ => ⟨S1x1024x512, .f32⟩
  | .hbm, ⟨11, _⟩ => ⟨S_, .f32⟩
  | .hbm, ⟨12, _⟩ => ⟨S1x1024x512, .f32⟩
  | .hbm, ⟨13, _⟩ => ⟨S1x1024x512, .f32⟩
  | .hbm, ⟨14, _⟩ => ⟨S1x1024x512, .f32⟩
  | .hbm, ⟨15, _⟩ => ⟨S_, .f32⟩
  | .hbm, ⟨16, _⟩ => ⟨S1x1024x512, .f32⟩
  | .hbm, ⟨17, _⟩ => ⟨S1x1024x512, .f32⟩
  | .hbm, ⟨18, _⟩ => ⟨S1x1024x512, .f32⟩
  | .hbm, ⟨19, _⟩ => ⟨S_, .f32⟩
  | .hbm, ⟨20, _⟩ => ⟨S1x1024x512, .f32⟩
  | .hbm, ⟨21, _⟩ => ⟨S1x1024x512, .f32⟩
  | .hbm, ⟨22, _⟩ => ⟨S_, .f32⟩
  | .hbm, ⟨23, _⟩ => ⟨S1x1024x512, .f32⟩
  | .hbm, ⟨24, _⟩ => ⟨S1x1024x512, .f32⟩
  | .hbm, ⟨25, _⟩ => ⟨S1x1024x512, .f32⟩
  | .hbm, ⟨26, _⟩ => ⟨S_, .f32⟩
  | .hbm, ⟨27, _⟩ => ⟨S1x1024x512, .f32⟩
  | .hbm, ⟨28, _⟩ => ⟨S1x1024x512, .f32⟩
  | .hbm, ⟨29, _⟩ => ⟨S1x1024x512, .f32⟩
  | .hbm, ⟨30, _⟩ => ⟨S_, .f32⟩
  | .hbm, ⟨31, _⟩ => ⟨S1x1024x512, .f32⟩
  | .hbm, ⟨32, _⟩ => ⟨S1x1024x512, .f32⟩
  | .hbm, ⟨33, _⟩ => ⟨S1x1024x512, .f32⟩
  | .hbm, ⟨34, _⟩ => ⟨S_, .f32⟩
  | .hbm, ⟨35, _⟩ => ⟨S1x1024x512, .f32⟩
  | .hbm, ⟨36, _⟩ => ⟨S1x1024x512, .f32⟩
  | .hbm, ⟨37, _⟩ => ⟨S1024x512, .f32⟩
  | .hbm, ⟨38, _⟩ => ⟨S1024x512, .f32⟩
  | .hbm, ⟨39, _⟩ => ⟨S1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamMixBias.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMixBiasIdeal.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMixBiasRefIdeal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMixNorm.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMixNormIdeal.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMixNormRefIdeal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMixW.lean ====
abbrev S1x8x128x128 : Shape := ⟨4, ![1, 8, 128, 128]⟩
abbrev S1024x128 : Shape := ⟨2, ![1024, 128]⟩
abbrev S512x128 : Shape := ⟨2, ![512, 128]⟩

abbrev nBuf : Space → Nat
  | .hbm => 11
  | .vmem => 14
  | .smem => 0
  | _ => 0

abbrev bufTy : (tb : Table) → Fin (tcTables nBuf tb) → BufTy
  | .hbm, ⟨0, _⟩ => ⟨S1x8x128x128, .f32⟩
  | .hbm, ⟨1, _⟩ => ⟨S1x8x128x128, .f32⟩
  | .hbm, ⟨2, _⟩ => ⟨S1x8x128x128, .f32⟩
  | .hbm, ⟨3, _⟩ => ⟨S1x8x128x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S1x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMixWIdeal.lean ====
abbrev S1x8x128x128 : Shape := ⟨4, ![1, 8, 128, 128]⟩
abbrev S1024x128 : Shape := ⟨2, ![1024, 128]⟩
abbrev S512x128 : Shape := ⟨2, ![512, 128]⟩

abbrev nBuf : Space → Nat
  | .hbm => 11
  | .vmem => 14
  | .smem => 0
  | _ => 0

abbrev bufTy : (tb : Table) → Fin (tcTables nBuf tb) → BufTy
  | .hbm, ⟨0, _⟩ => ⟨S1x8x128x128, .f32⟩
  | .hbm, ⟨1, _⟩ => ⟨S1x8x128x128, .f32⟩
  | .hbm, ⟨2, _⟩ => ⟨S1x8x128x128, .f32⟩
  | .hbm, ⟨3, _⟩ => ⟨S1x8x128x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S1x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMixWRefIdeal.lean ====
abbrev S1x8x128x128 : Shape := ⟨4, ![1, 8, 128, 128]⟩
abbrev S_ : Shape := ⟨0, ![]⟩
abbrev S1024x128 : Shape := ⟨2, ![1024, 128]⟩

abbrev nBuf : Space → Nat
  | .hbm => 40
  | .vmem => 0
  | .smem => 0
  | _ => 0

abbrev bufTy : (tb : Table) → Fin (tcTables nBuf tb) → BufTy
  | .hbm, ⟨0, _⟩ => ⟨S1x8x128x128, .f32⟩
  | .hbm, ⟨1, _⟩ => ⟨S1x8x128x128, .f32⟩
  | .hbm, ⟨2, _⟩ => ⟨S1x8x128x128, .f32⟩
  | .hbm, ⟨3, _⟩ => ⟨S1x8x128x128, .f32⟩
  | .hbm, ⟨4, _⟩ => ⟨S_, .f32⟩
  | .hbm, ⟨5, _⟩ => ⟨S1x8x128x128, .f32⟩
  | .hbm, ⟨6, _⟩ => ⟨S1x8x128x128, .f32⟩
  | .hbm, ⟨7, _⟩ => ⟨S_, .f32⟩
  | .hbm, ⟨8, _⟩ => ⟨S1x8x128x128, .f32⟩
  | .hbm, ⟨9, _⟩ => ⟨S1x8x128x128, .f32⟩
  | .hbm, ⟨10, _⟩ => ⟨S1x8x128x128, .f32⟩
  | .hbm, ⟨11, _⟩ => ⟨S_, .f32⟩
  | .hbm, ⟨12, _⟩ => ⟨S1x8x128x128, .f32⟩
  | .hbm, ⟨13, _⟩ => ⟨S1x8x128x128, .f32⟩
  | .hbm, ⟨14, _⟩ => ⟨S1x8x128x128, .f32⟩
  | .hbm, ⟨15, _⟩ => ⟨S_, .f32⟩
  | .hbm, ⟨16, _⟩ => ⟨S1x8x128x128, .f32⟩
  | .hbm, ⟨17, _⟩ => ⟨S1x8x128x128, .f32⟩
  | .hbm, ⟨18, _⟩ => ⟨S1x8x128x128, .f32⟩
  | .hbm, ⟨19, _⟩ => ⟨S_, .f32⟩
  | .hbm, ⟨20, _⟩ => ⟨S1x8x128x128, .f32⟩
  | .hbm, ⟨21, _⟩ => ⟨S1x8x128x128, .f32⟩
  | .hbm, ⟨22, _⟩ => ⟨S_, .f32⟩
  | .hbm, ⟨23, _⟩ => ⟨S1x8x128x128, .f32⟩
  | .hbm, ⟨24, _⟩ => ⟨S1x8x128x128, .f32⟩
  | .hbm, ⟨25, _⟩ => ⟨S1x8x128x128, .f32⟩
  | .hbm, ⟨26, _⟩ => ⟨S_, .f32⟩
  | .hbm, ⟨27, _⟩ => ⟨S1x8x128x128, .f32⟩
  | .hbm, ⟨28, _⟩ => ⟨S1x8x128x128, .f32⟩
  | .hbm, ⟨29, _⟩ => ⟨S1x8x128x128, .f32⟩
  | .hbm, ⟨30, _⟩ => ⟨S_, .f32⟩
  | .hbm, ⟨31, _⟩ => ⟨S1x8x128x128, .f32⟩
  | .hbm, ⟨32, _⟩ => ⟨S1x8x128x128, .f32⟩
  | .hbm, ⟨33, _⟩ => ⟨S1x8x128x128, .f32⟩
  | .hbm, ⟨34, _⟩ => ⟨S_, .f32⟩
  | .hbm, ⟨35, _⟩ => ⟨S1x8x128x128, .f32⟩
  | .hbm, ⟨36, _⟩ => ⟨S1x8x128x128, .f32⟩
  | .hbm, ⟨37, _⟩ => ⟨S1024x128, .f32⟩
  | .hbm, ⟨38, _⟩ => ⟨S1024x128, .f32⟩
  | .hbm, ⟨39, _⟩ => ⟨S1024x128, .f32⟩
  | _, _ => ⟨S1x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamMixB.lean ====
abbrev S1x8x128 : Shape := ⟨3, ![1, 8, 128]⟩
abbrev S8x128 : Shape := ⟨2, ![8, 128]⟩

abbrev nBuf : Space → Nat
  | .hbm => 11
  | .vmem => 7
  | .smem => 0
  | _ => 0

abbrev bufTy : (tb : Table) → Fin (tcTables nBuf tb) → BufTy
  | .hbm, ⟨0, _⟩ => ⟨S1x8x128, .f32⟩
  | .hbm, ⟨1, _⟩ => ⟨S1x8x128, .f32⟩
  | .hbm, ⟨2, _⟩ => ⟨S1x8x128, .f32⟩
  | .hbm, ⟨3, _⟩ => ⟨S1x8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S8x128, .f32⟩
  | .hbm, ⟨10, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S1x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMixBIdeal.lean ====
abbrev S1x8x128 : Shape := ⟨3, ![1, 8, 128]⟩
abbrev S8x128 : Shape := ⟨2, ![8, 128]⟩

abbrev nBuf : Space → Nat
  | .hbm => 11
  | .vmem => 7
  | .smem => 0
  | _ => 0

abbrev bufTy : (tb : Table) → Fin (tcTables nBuf tb) → BufTy
  | .hbm, ⟨0, _⟩ => ⟨S1x8x128, .f32⟩
  | .hbm, ⟨1, _⟩ => ⟨S1x8x128, .f32⟩
  | .hbm, ⟨2, _⟩ => ⟨S1x8x128, .f32⟩
  | .hbm, ⟨3, _⟩ => ⟨S1x8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S8x128, .f32⟩
  | .hbm, ⟨10, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S1x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMixBRefIdeal.lean ====
abbrev S1x8x128 : Shape := ⟨3, ![1, 8, 128]⟩
abbrev S_ : Shape := ⟨0, ![]⟩
abbrev S8x128 : Shape := ⟨2, ![8, 128]⟩

abbrev nBuf : Space → Nat
  | .hbm => 40
  | .vmem => 0
  | .smem => 0
  | _ => 0

abbrev bufTy : (tb : Table) → Fin (tcTables nBuf tb) → BufTy
  | .hbm, ⟨0, _⟩ => ⟨S1x8x128, .f32⟩
  | .hbm, ⟨1, _⟩ => ⟨S1x8x128, .f32⟩
  | .hbm, ⟨2, _⟩ => ⟨S1x8x128, .f32⟩
  | .hbm, ⟨3, _⟩ => ⟨S1x8x128, .f32⟩
  | .hbm, ⟨4, _⟩ => ⟨S_, .f32⟩
  | .hbm, ⟨5, _⟩ => ⟨S1x8x128, .f32⟩
  | .hbm, ⟨6, _⟩ => ⟨S1x8x128, .f32⟩
  | .hbm, ⟨7, _⟩ => ⟨S_, .f32⟩
  | .hbm, ⟨8, _⟩ => ⟨S1x8x128, .f32⟩
  | .hbm, ⟨9, _⟩ => ⟨S1x8x128, .f32⟩
  | .hbm, ⟨10, _⟩ => ⟨S1x8x128, .f32⟩
  | .hbm, ⟨11, _⟩ => ⟨S_, .f32⟩
  | .hbm, ⟨12, _⟩ => ⟨S1x8x128, .f32⟩
  | .hbm, ⟨13, _⟩ => ⟨S1x8x128, .f32⟩
  | .hbm, ⟨14, _⟩ => ⟨S1x8x128, .f32⟩
  | .hbm, ⟨15, _⟩ => ⟨S_, .f32⟩
  | .hbm, ⟨16, _⟩ => ⟨S1x8x128, .f32⟩
  | .hbm, ⟨17, _⟩ => ⟨S1x8x128, .f32⟩
  | .hbm, ⟨18, _⟩ => ⟨S1x8x128, .f32⟩
  | .hbm, ⟨19, _⟩ => ⟨S_, .f32⟩
  | .hbm, ⟨20, _⟩ => ⟨S1x8x128, .f32⟩
  | .hbm, ⟨21, _⟩ => ⟨S1x8x128, .f32⟩
  | .hbm, ⟨22, _⟩ => ⟨S_, .f32⟩
  | .hbm, ⟨23, _⟩ => ⟨S1x8x128, .f32⟩
  | .hbm, ⟨24, _⟩ => ⟨S1x8x128, .f32⟩
  | .hbm, ⟨25, _⟩ => ⟨S1x8x128, .f32⟩
  | .hbm, ⟨26, _⟩ => ⟨S_, .f32⟩
  | .hbm, ⟨27, _⟩ => ⟨S1x8x128, .f32⟩
  | .hbm, ⟨28, _⟩ => ⟨S1x8x128, .f32⟩
  | .hbm, ⟨29, _⟩ => ⟨S1x8x128, .f32⟩
  | .hbm, ⟨30, _⟩ => ⟨S_, .f32⟩
  | .hbm, ⟨31, _⟩ => ⟨S1x8x128, .f32⟩
  | .hbm, ⟨32, _⟩ => ⟨S1x8x128, .f32⟩
  | .hbm, ⟨33, _⟩ => ⟨S1x8x128, .f32⟩
  | .hbm, ⟨34, _⟩ => ⟨S_, .f32⟩
  | .hbm, ⟨35, _⟩ => ⟨S1x8x128, .f32⟩
  | .hbm, ⟨36, _⟩ => ⟨S1x8x128, .f32⟩
  | .hbm, ⟨37, _⟩ => ⟨S8x128, .f32⟩
  | .hbm, ⟨38, _⟩ => ⟨S8x128, .f32⟩
  | .hbm, ⟨39, _⟩ => ⟨S8x128, .f32⟩
  | _, _ => ⟨S1x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamMixOut.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMixOutRefIdeal.lean ====
abbrev S1x256x1024 : Shape := ⟨3, ![1, 256, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdaDw.lean ====
abbrev S16x1024 : Shape := ⟨2, ![16, 1024]⟩
abbrev S1024x768 : Shape := ⟨2, ![1024, 768]⟩
abbrev S768 : Shape := ⟨1, ![768]⟩
abbrev S16x768 : Shape := ⟨2, ![16, 768]⟩
abbrev S_ : Shape := ⟨0, ![]⟩
abbrev S1024x16 : Shape := ⟨2, ![1024, 16]⟩

abbrev nBuf : Space → Nat
  | .hbm => 9
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S768, .f32⟩
  | .hbm, ⟨3, _⟩ => ⟨S16x768, .f32⟩
  | .hbm, ⟨4, _⟩ => ⟨S_, .f32⟩
  | .hbm, ⟨5, _⟩ => ⟨S768, .f32⟩
  | .hbm, ⟨6, _⟩ => ⟨S16x1024, .bf16⟩
  | .hbm, ⟨7, _⟩ => ⟨S1024x16, .bf16⟩
  | .hbm, ⟨8, _⟩ => ⟨S1024x768, .f32⟩
  | .local _ .vmem, ⟨0, _⟩ => ⟨S1024x16, .bf16⟩
  | .local _ .vmem, ⟨1, _⟩ => ⟨S16x768, .f32⟩
  | .local _ .vmem, ⟨2, _⟩ => ⟨S1024x768, .f32⟩
  | .local _ .vmem, ⟨3, _⟩ => ⟨S1024x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S1024x16 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AdaDwRefIdeal.lean ====
abbrev S16x1024 : Shape := ⟨2, ![16, 1024]⟩
abbrev S1024x768 : Shape := ⟨2, ![1024, 768]⟩
abbrev S768 : Shape := ⟨1, ![768]⟩
abbrev S16x768 : Shape := ⟨2, ![16, 768]⟩
abbrev S1x768 : Shape := ⟨2, ![1, 768]⟩
abbrev S_ : Shape := ⟨0, ![]⟩
abbrev S768x1024 : Shape := ⟨2, ![768, 1024]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S768, .f32⟩
  | .hbm, ⟨3, _⟩ => ⟨S16x768, .f32⟩
  | .hbm, ⟨4, _⟩ => ⟨S16x768, .f32⟩
  | .hbm, ⟨5, _⟩ => ⟨S1x768, .f32⟩
  | .hbm, ⟨6, _⟩ => ⟨S16x768, .f32⟩
  | .hbm, ⟨7, _⟩ => ⟨S16x768, .f32⟩
  | .hbm, ⟨8, _⟩ => ⟨S16x768, .f32⟩
  | .hbm, ⟨9, _⟩ => ⟨S_, .f32⟩
  | .hbm, ⟨10, _⟩ => ⟨S768, .f32⟩
  | .hbm, ⟨11, _⟩ => ⟨S1x768, .f32⟩
  | .hbm, ⟨12, _⟩ => ⟨S_, .f32⟩
  | .hbm, ⟨13, _⟩ => ⟨S768, .f32⟩
  | .hbm, ⟨14, _⟩ => ⟨S768x1024, .f32⟩
  | .hbm, ⟨15, _⟩ => ⟨S1024x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== CtxCond.lean ====
abbrev S1024 : Shape := ⟨1, ![1024]⟩
abbrev S1x1024 : Shape := ⟨2, ![1, 1024]⟩
abbrev S8x1024 : Shape := ⟨2, ![8, 1024]⟩

abbrev nBuf : Space → Nat
  | .hbm => 7
  | .vmem => 3
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1x1024, .f32⟩
  | .hbm, ⟨3, _⟩ => ⟨S8x1024, .f32⟩
  | .hbm, ⟨4, _⟩ => ⟨S1x1024, .f32⟩
  | .hbm, ⟨5, _⟩ => ⟨S8x1024, .f32⟩
  | .hbm, ⟨6, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== CtxCondRefIdeal.lean ====
abbrev S1024 : Shape := ⟨1, ![1024]⟩
abbrev S_ : Shape := ⟨0, ![]⟩
abbrev S8x1024 : Shape := ⟨2, ![8, 1024]⟩

abbrev nBuf : Space → Nat
  | .hbm => 20
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S8x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_v0_2 : Ref sig .tc := ⟨.hbm, 9, rfl⟩
abbrev main_call0_cst_1 : Ref sig .tc := ⟨.hbm, 10, rfl⟩
abbrev main_call0_v6 : Ref sig .tc := ⟨.hbm, 11, rfl⟩
abbrev main_call0_v7 : Ref sig .tc := ⟨.hbm, 12, rfl⟩
abbrev main_v0_1 : Ref sig .tc := ⟨.hbm, 13, rfl⟩
abbrev main_v0_0 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_v1 : Ref sig .tc := ⟨.hbm, 18, rfl⟩
abbrev main_v2 : Ref sig .tc := ⟨.hbm, 19, rfl⟩

abbrev nD : Nat := 1
abbrev τ : Topo := Topo.v7x

variable {F : FTy → Type} [FloatOps F]
-- ==== SumFfnUp.lean ====
abbrev S4x4096x704 : Shape := ⟨3, ![4, 4096, 704]⟩
abbrev S4096x704 : Shape := ⟨2, ![4096, 704]⟩
abbrev S4x256x704 : Shape := ⟨3, ![4, 256, 704]⟩
abbrev S256x704 : Shape := ⟨2, ![256, 704]⟩
abbrev S1x256x704 : Shape := ⟨3, ![1, 256, 704]⟩

abbrev nBuf : Space → Nat
  | .hbm => 2
  | .vmem => 4
  | .smem => 0
  | _ => 0

abbrev bufTy : (tb : Table) → Fin (tcTables nBuf tb) → BufTy
  | .hbm, ⟨0, _⟩ => ⟨S4x4096x704, .bf16⟩
  | .hbm, ⟨1, _⟩ => ⟨S4096x704, .f32⟩
  | .local _ .vmem, ⟨0, _⟩ => ⟨S4x256x704, .bf16⟩
  | .local _ .vmem, ⟨1, _⟩ => ⟨S4x256x704, .bf16⟩
  | .local _ .vmem, ⟨2, _⟩ => ⟨S256x704, .f32⟩
  | .local _ .vmem, ⟨3, _⟩ => ⟨S256x704, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumFfnUpIdeal.lean ====
abbrev S4x4096x704 : Shape := ⟨3, ![4, 4096, 704]⟩
abbrev S4096x704 : Shape := ⟨2, ![4096, 704]⟩
abbrev S4x256x704 : Shape := ⟨3, ![4, 256, 704]⟩
abbrev S256x704 : Shape := ⟨2, ![256, 704]⟩
abbrev S1x256x704 : Shape := ⟨3, ![1, 256, 704]⟩

abbrev nBuf : Space → Nat
  | .hbm => 2
  | .vmem => 4
  | .smem => 0
  | _ => 0

abbrev bufTy : (tb : Table) → Fin (tcTables nBuf tb) → BufTy
  | .hbm, ⟨0, _⟩ => ⟨S4x4096x704, .bf16⟩
  | .hbm, ⟨1, _⟩ => ⟨S4096x704, .f32⟩
  | .local _ .vmem, ⟨0, _⟩ => ⟨S4x256x704, .bf16⟩
  | .local _ .vmem, ⟨1, _⟩ => ⟨S4x256x704, .bf16⟩
  | .local _ .vmem, ⟨2, _⟩ => ⟨S256x704, .f32⟩
  | .local _ .vmem, ⟨3, _⟩ => ⟨S256x704, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumFfnUpRefIdeal.lean ====
abbrev S4x4096x704 : Shape := ⟨3, ![4, 4096, 704]⟩
abbrev S_ : Shape := ⟨0, ![]⟩
abbrev S4096x704 : Shape := ⟨2, ![4096, 704]⟩

abbrev nBuf : Space → Nat
  | .hbm => 4
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .f32⟩
  | .hbm, ⟨2, _⟩ => ⟨S_, .f32⟩
  | .hbm, ⟨3, _⟩ => ⟨S4096x704, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumFfnDown.lean ====
abbrev S4x1408x1024 : Shape := ⟨3, ![4, 1408, 1024]⟩
abbrev S1408x1024 : Shape := ⟨2, ![1408, 1024]⟩
abbrev S4x176x1024 : Shape := ⟨3, ![4, 176, 1024]⟩
abbrev S176x1024 : Shape := ⟨2, ![176, 1024]⟩
abbrev S1x176x1024 : Shape := ⟨3, ![1, 176, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x1408x1024, .bf16⟩
  | .hbm, ⟨1, _⟩ => ⟨S1408x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S176x1024, .f32⟩
  | .local _ .vmem, ⟨3, _⟩ => ⟨S176x1024, .f32⟩
  | _, _ => ⟨S4x1408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumFfnDownIdeal.lean ====
abbrev S4x1408x1024 : Shape := ⟨3, ![4, 1408, 1024]⟩
abbrev S1408x1024 : Shape := ⟨2, ![1408, 1024]⟩
abbrev S4x176x1024 : Shape := ⟨3, ![4, 176, 1024]⟩
abbrev S176x1024 : Shape := ⟨2, ![176, 1024]⟩
abbrev S1x176x1024 : Shape := ⟨3, ![1, 176, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x1408x1024, .bf16⟩
  | .hbm, ⟨1, _⟩ => ⟨S1408x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S176x1024, .f32⟩
  | .local _ .vmem, ⟨3, _⟩ => ⟨S176x1024, .f32⟩
  | _, _ => ⟨S4x1408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumFfnDownRefIdeal.lean ====
abbrev S4x1408x1024 : Shape := ⟨3, ![4, 1408, 1024]⟩
abbrev S_ : Shape := ⟨0, ![]⟩
abbrev S1408x1024 : Shape := ⟨2, ![1408, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x1408x1024, .bf16⟩
  | .hbm, ⟨1, _⟩ => ⟨S4x1408x1024, .f32⟩
  | .hbm, ⟨2, _⟩ => ⟨S_, .f32⟩
  | .hbm, ⟨3, _⟩ => ⟨S1408x1024, .f32⟩
  | _, _ => ⟨S4x1408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumPoolW.lean ====
abbrev S4x128x256 : Shape := ⟨3, ![4, 128, 256]⟩
abbrev S128x256 : Shape := ⟨2, ![128, 256]⟩
abbrev S1x128x256 : Shape := ⟨3, ![1, 128, 256]⟩

abbrev nBuf : Space → Nat
  | .hbm => 2
  | .vmem => 2
  | .smem => 0
  | _ => 0

abbrev bufTy : (tb : Table) → Fin (tcTables nBuf tb) → BufTy
  | .hbm, ⟨0, _⟩ => ⟨S4x128x256, .bf16⟩
  | .hbm, ⟨1, _⟩ => ⟨S128x256, .f32⟩
  | .local _ .vmem, ⟨0, _⟩ => ⟨S4x128x256, .bf16⟩
  | .local _ .vmem, ⟨1, _⟩ => ⟨S128x256, .f32⟩
  | _, _ => ⟨S4x128x256, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumPoolWIdeal.lean ====
abbrev S4x128x256 : Shape := ⟨3, ![4, 128, 256]⟩
abbrev S128x256 : Shape := ⟨2, ![128, 256]⟩
abbrev S1x128x256 : Shape := ⟨3, ![1, 128, 256]⟩

abbrev nBuf : Space → Nat
  | .hbm => 2
  | .vmem => 2
  | .smem => 0
  | _ => 0

abbrev bufTy : (tb : Table) → Fin (tcTables nBuf tb) → BufTy
  | .hbm, ⟨0, _⟩ => ⟨S4x128x256, .bf16⟩
  | .hbm, ⟨1, _⟩ => ⟨S128x256, .f32⟩
  | .local _ .vmem, ⟨0, _⟩ => ⟨S4x128x256, .bf16⟩
  | .local _ .vmem, ⟨1, _⟩ => ⟨S128x256, .f32⟩
  | _, _ => ⟨S4x128x256, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumPoolWRefIdeal.lean ====
abbrev S4x128x256 : Shape := ⟨3, ![4, 128, 256]⟩
abbrev S_ : Shape := ⟨0, ![]⟩
abbrev S128x256 : Shape := ⟨2, ![128, 256]⟩

abbrev nBuf : Space → Nat
  | .hbm => 4
  | .vmem => 0
  | .smem => 0
  | _ => 0

abbrev bufTy : (tb : Table) → Fin (tcTables nBuf tb) → BufTy
  | .hbm, ⟨0, _⟩ => ⟨S4x128x256, .bf16⟩
  | .hbm, ⟨1, _⟩ => ⟨S4x128x256, .f32⟩
  | .hbm, ⟨2, _⟩ => ⟨S_, .f32⟩
  | .hbm, ⟨3, _⟩ => ⟨S128x256, .f32⟩
  | _, _ => ⟨S4x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumQkv.lean ====
abbrev S4x1024x192 : Shape := ⟨3, ![4, 1024, 192]⟩
abbrev S1024x192 : Shape := ⟨2, ![1024, 192]⟩
abbrev S4x256x192 : Shape := ⟨3, ![4, 256, 192]⟩
abbrev S256x192 : Shape := ⟨2, ![256, 192]⟩
abbrev S1x256x192 : Shape := ⟨3, ![1, 256, 192]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x192, .bf16⟩
  | .hbm, ⟨1, _⟩ => ⟨S1024x192, .f32⟩
  | .local _ .vmem, ⟨0, _⟩ => ⟨S4x256x192, .bf16⟩
  | .local _ .vmem, ⟨1, _⟩ => ⟨S4x256x192, .bf16⟩
  | .local _ .vmem, ⟨2, _⟩ => ⟨S256x192, .f32⟩
  | .local _ .vmem, ⟨3, _⟩ => ⟨S256x192, .f32⟩
  | _, _ => ⟨S4x1024x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumQkvIdeal.lean ====
abbrev S4x1024x192 : Shape := ⟨3, ![4, 1024, 192]⟩
abbrev S1024x192 : Shape := ⟨2, ![1024, 192]⟩
abbrev S4x256x192 : Shape := ⟨3, ![4, 256, 192]⟩
abbrev S256x192 : Shape := ⟨2, ![256, 192]⟩
abbrev S1x256x192 : Shape := ⟨3, ![1, 256, 192]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x192, .bf16⟩
  | .hbm, ⟨1, _⟩ => ⟨S1024x192, .f32⟩
  | .local _ .vmem, ⟨0, _⟩ => ⟨S4x256x192, .bf16⟩
  | .local _ .vmem, ⟨1, _⟩ => ⟨S4x256x192, .bf16⟩
  | .local _ .vmem, ⟨2, _⟩ => ⟨S256x192, .f32⟩
  | .local _ .vmem, ⟨3, _⟩ => ⟨S256x192, .f32⟩
  | _, _ => ⟨S4x1024x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumQkvRefIdeal.lean ====
abbrev S4x1024x192 : Shape := ⟨3, ![4, 1024, 192]⟩
abbrev S_ : Shape := ⟨0, ![]⟩
abbrev S1024x192 : Shape := ⟨2, ![1024, 192]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x192, .bf16⟩
  | .hbm, ⟨1, _⟩ => ⟨S4x1024x192, .f32⟩
  | .hbm, ⟨2, _⟩ => ⟨S_, .f32⟩
  | .hbm, ⟨3, _⟩ => ⟨S1024x192, .f32⟩
  | _, _ => ⟨S4x1024x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumOut.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .local _ .vmem, ⟨0, _⟩ => ⟨S4x128x1024, .bf16⟩
  | .local _ .vmem, ⟨1, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumOutIdeal.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .local _ .vmem, ⟨0, _⟩ => ⟨S4x128x1024, .bf16⟩
  | .local _ .vmem, ⟨1, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumOutRefIdeal.lean ====
abbrev S4x128x1024 : Shape := ⟨3, ![4, 128, 1024]⟩
abbrev S_ : Shape := ⟨0, ![]⟩
abbrev S128x1024 : Shape := ⟨2, ![128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .f32⟩
  | .hbm, ⟨2, _⟩ => ⟨S_, .f32⟩
  | .hbm, ⟨3, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumMixIn.lean ====
abbrev S4x1024x512 : Shape := ⟨3, ![4, 1024, 512]⟩
abbrev S1024x512 : Shape := ⟨2, ![1024, 512]⟩
abbrev S4x256x512 : Shape := ⟨3, ![4, 256, 512]⟩
abbrev S256x512 : Shape := ⟨2, ![256, 512]⟩
abbrev S1x256x512 : Shape := ⟨3, ![1, 256, 512]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x512, .bf16⟩
  | .hbm, ⟨1, _⟩ => ⟨S1024x512, .f32⟩
  | .local _ .vmem, ⟨0, _⟩ => ⟨S4x256x512, .bf16⟩
  | .local _ .vmem, ⟨1, _⟩ => ⟨S4x256x512, .bf16⟩
  | .local _ .vmem, ⟨2, _⟩ => ⟨S256x512, .f32⟩
  | .local _ .vmem, ⟨3, _⟩ => ⟨S256x512, .f32⟩
  | _, _ => ⟨S4x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumMixInIdeal.lean ====
abbrev S4x1024x512 : Shape := ⟨3, ![4, 1024, 512]⟩
abbrev S1024x512 : Shape := ⟨2, ![1024, 512]⟩
abbrev S4x256x512 : Shape := ⟨3, ![4, 256, 512]⟩
abbrev S256x512 : Shape := ⟨2, ![256, 512]⟩
abbrev S1x256x512 : Shape := ⟨3, ![1, 256, 512]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x512, .bf16⟩
  | .hbm, ⟨1, _⟩ => ⟨S1024x512, .f32⟩
  | .local _ .vmem, ⟨0, _⟩ => ⟨S4x256x512, .bf16⟩
  | .local _ .vmem, ⟨1, _⟩ => ⟨S4x256x512, .bf16⟩
  | .local _ .vmem, ⟨2, _⟩ => ⟨S256x512, .f32⟩
  | .local _ .vmem, ⟨3, _⟩ => ⟨S256x512, .f32⟩
  | _, _ => ⟨S4x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumMixInRefIdeal.lean ====
abbrev S4x1024x512 : Shape := ⟨3, ![4, 1024, 512]⟩
abbrev S_ : Shape := ⟨0, ![]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x512, .bf16⟩
  | .hbm, ⟨1, _⟩ => ⟨S4x1024x512, .f32⟩
  | .hbm, ⟨2, _⟩ => ⟨S_, .f32⟩
  | .hbm, ⟨3, _⟩ => ⟨S1024x512, .f32⟩
  | _, _ => ⟨S4x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumMixOut.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .local _ .vmem, ⟨0, _⟩ => ⟨S4x256x1024, .bf16⟩
  | .local _ .vmem, ⟨1, _⟩ => ⟨S256x1024, .f32⟩
  | _, _ => ⟨S4x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumMixOutIdeal.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .local _ .vmem, ⟨0, _⟩ => ⟨S4x256x1024, .bf16⟩
  | .local _ .vmem, ⟨1, _⟩ => ⟨S256x1024, .f32⟩
  | _, _ => ⟨S4x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumMixOutRefIdeal.lean ====
abbrev S4x256x1024 : Shape := ⟨3, ![4, 256, 1024]⟩
abbrev S_ : Shape := ⟨0, ![]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .f32⟩
  | .hbm, ⟨2, _⟩ => ⟨S_, .f32⟩
  | .hbm, ⟨3, _⟩ => ⟨S256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumSmall.lean ====
abbrev S8x112x1024 : Shape := ⟨3, ![8, 112, 1024]⟩
abbrev S112x1024 : Shape := ⟨2, ![112, 1024]⟩
abbrev S1x112x1024 : Shape := ⟨3, ![1, 112, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x112x1024, .f32⟩
  | .hbm, ⟨1, _⟩ => ⟨S112x1024, .f32⟩
  | .local _ .vmem, ⟨0, _⟩ => ⟨S8x112x1024, .f32⟩
  | .local _ .vmem, ⟨1, _⟩ => ⟨S112x1024, .f32⟩
  | _, _ => ⟨S8x112x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x112x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S112x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallIdeal.lean ====
abbrev S8x112x1024 : Shape := ⟨3, ![8, 112, 1024]⟩
abbrev S112x1024 : Shape := ⟨2, ![112, 1024]⟩
abbrev S1x112x1024 : Shape := ⟨3, ![1, 112, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x112x1024, .f32⟩
  | .hbm, ⟨1, _⟩ => ⟨S112x1024, .f32⟩
  | .local _ .vmem, ⟨0, _⟩ => ⟨S8x112x1024, .f32⟩
  | .local _ .vmem, ⟨1, _⟩ => ⟨S112x1024, .f32⟩
  | _, _ => ⟨S8x112x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x112x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S112x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x112x1024 : Shape := ⟨3, ![8, 112, 1024]⟩
abbrev S_ : Shape := ⟨0, ![]⟩
abbrev S112x1024 : Shape := ⟨2, ![112, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x112x1024, .f32⟩
  | .hbm, ⟨1, _⟩ => ⟨S_, .f32⟩
  | .hbm, ⟨2, _⟩ => ⟨S112x1024, .f32⟩
  | _, _ => ⟨S8x112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumCond.lean ====
abbrev S8x96x1024 : Shape := ⟨3, ![8, 96, 1024]⟩
abbrev S96x1024 : Shape := ⟨2, ![96, 1024]⟩
abbrev S1x96x1024 : Shape := ⟨3, ![1, 96, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x96x1024, .f32⟩
  | .hbm, ⟨1, _⟩ => ⟨S96x1024, .f32⟩
  | .local _ .vmem, ⟨0, _⟩ => ⟨S8x96x1024, .f32⟩
  | .local _ .vmem, ⟨1, _⟩ => ⟨S96x1024, .f32⟩
  | _, _ => ⟨S8x96x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x96x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumCondRefIdeal.lean ====
abbrev S8x96x1024 : Shape := ⟨3, ![8, 96, 1024]⟩
abbrev S_ : Shape := ⟨0, ![]⟩
abbrev S96x1024 : Shape := ⟨2, ![96, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x96x1024, .f32⟩
  | .hbm, ⟨1, _⟩ => ⟨S_, .f32⟩
  | .hbm, ⟨2, _⟩ => ⟨S96x1024, .f32⟩
  | _, _ => ⟨S8x96x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LossHead.lean ====
abbrev S4352x1024 : Shape := ⟨2, ![4352, 1024]⟩
abbrev S4096x1024 : Shape := ⟨2, ![4096, 1024]⟩
abbrev S1x1 : Shape := ⟨2, ![1, 1]⟩
abbrev S256x1024 : Shape := ⟨2, ![256, 1024]⟩
abbrev S256 : Shape := ⟨1, ![256]⟩
abbrev S256x1 : Shape := ⟨2, ![256, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S4352x1024, .f32⟩
  | .hbm, ⟨1, _⟩ => ⟨S4096x1024, .f32⟩
  | .hbm, ⟨2, _⟩ => ⟨S1x1, .f32⟩
  | .hbm, ⟨3, _⟩ => ⟨S4352x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1, .f32⟩
  | .local _ .vmem, ⟨5, _⟩ => ⟨S256x1024, .f32⟩
  | .local _ .vmem, ⟨6, _⟩ => ⟨S256x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v18 : BitVec 1 := Scalar.cmpi .eq arg0 c0_i32
  let v19 : BitVec 32 := Scalar.extui v18
  let c0_i32_10 : BitVec 32 := 0#32
  let v20 : BitVec 1 := Scalar.cmpi .ne v19 c0_i32_10
  v20

def k0_cond2 (i : grid0.Coords) : BitVec 1 :=
  let arg0 : BitVec 32 := BitVec.ofNat 32 (i 0).val
  let c0_i32_11 : BitVec 32 := 0#32
  let v21 : BitVec 1 := Scalar.cmpi .sgt arg0 c0_i32_11
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossHeadRefIdeal.lean ====
abbrev S4352x1024 : Shape := ⟨2, ![4352, 1024]⟩
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 29
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4352x1024, .f32⟩
  | .hbm, ⟨28, _⟩ => ⟨S1x1, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Proof.Sums.lean ====
/-
  A sum over a contraction's axis taken in two equal halves, as a product kept in a scratch between two points takes it.
-/
module

public import Idealize.ShloMosaic.PureOps.Ideal

@[expose] public section

namespace Cert.Products

/-- The sum over the first half and the sum over the second add up to the sum over the whole. -/
theorem sum_halves {K n : ℕ} (h : K = 2 * n) (f : Fin K → EReal) :
    ∑ k : Fin n, f ⟨n * 0 + k.val, by omega⟩ + ∑ k : Fin n, f ⟨n * 1 + k.val, by omega⟩ = ∑ k : Fin K, f k := by
  obtain rfl : K = n + n := by omega
  rw [Fin.sum_univ_add]
  refine congrArg₂ (· + ·) (Finset.sum_congr rfl fun k _ => congrArg f (Fin.ext ?_))
    (Finset.sum_congr rfl fun k _ => congrArg f (Fin.ext ?_))
  · show n * 0 + k.val = k.val
    omega
  · show n * 1 + k.val = n + k.val
    omega

end Cert.Products
-- ==== Proof.Up.lean ====
/-
  The first product of the feed-forward layer: each point writes a block of the result, a sum over all 1024 columns.
-/
module

public import proofs.«01_k».proof.Defs
public import proofs.«01_k».proof.Proof.Sums
public import proofs.«01_k».proof.Proof.Gen.Up.Frame
public import proofs.«01_k».proof.Proof.Gen.UpIdeal.Value
public import proofs.«01_k».proof.Proof.Gen.UpRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Products.Up

open Idealize.ShloMosaic Idealize.ShloMosaic.TcCoe Idealize.SL.Sem Pipeline

section
open Cert.UpIdeal Cert.UpIdeal.Gen

variable (m : (ℓ : Loc nD τ sig) → Buf (Elt Ideal) ℓ) (c : Dev nD)

abbrev argA : FVec Ideal S4352x1024 .bf16 := m ((c.tc : Thread nD τ).loc main_arg0)
abbrev argB : FVec Ideal S1024x5632 .bf16 := m ((c.tc : Thread nD τ).loc main_arg1)

theorem in_a (i : Fin 4352) (k : Fin 1024) : V m c main_arg0 (ix2 i k) = argA m c (ix2 i k) := congrFun (V_main_arg0 m c) _

theorem in_b : V m c main_arg1 = argB m c := V_main_arg1 m c

theorem idx0 : ∀ t : Fin cfg0.N, win0_0.index t = ![t.val % 2, 0] := (by decide +kernel : ∀ t : Fin grid0.N, _)
theorem idx1 : ∀ t : Fin cfg0.N, win0_1.index t = ![0, t.val / 2] := (by decide +kernel : ∀ t : Fin grid0.N, _)
theorem idx2 : ∀ t : Fin cfg0.N, win0_2.index t = ![t.val % 2, t.val / 2] := (by decide +kernel : ∀ t : Fin grid0.N, _)

theorem rd_a (t : Fin cfg0.N) (r : Fin 2176) (k : Fin 1024) : iblk m c 0 t (ix2 r k)
    = V m c main_arg0 (ix2 ⟨2176 * (t.val % 2) + r.val, by have : t.val < 22 := t.isLt; omega⟩ k) := by
  have ht : t.val < 22 := t.isLt
  blk_ext [iblk, idx0 t]

theorem rd_b (t : Fin cfg0.N) (j : Fin 512) (k : Fin 1024) : iblk m c 1 t (ix2 k j)
    = V m c main_arg1 (ix2 k ⟨512 * (t.val / 2) + j.val, by have : t.val < 22 := t.isLt; omega⟩) := by
  have ht : t.val < 22 := t.isLt
  blk_ext [iblk, idx1 t]

theorem pay_ix (x : FVec Ideal S2176x1024 .bf16) (w : FVec Ideal S1024x512 .bf16) (r : Fin 2176) (j : Fin 512) :
    (k0_pay1 x w : FVec Ideal S2176x512 .f32) (ix2 r j) = ∑ k : Fin 1024, x (ix2 r k) * w (ix2 k j) := by
  pointwise [k0_pay1]

/-- The product of a point's two blocks. -/
def part (t : Fin cfg0.N) : FVec Ideal S2176x512 .f32 := k0_pay1 (iblk m c 0 t) (iblk m c 1 t)

/-- The result: the sum over the whole contracted axis. -/
def total (x : FVec Ideal S4352x1024 .bf16) (w : FVec Ideal S1024x5632 .bf16) : FVec Ideal S4352x5632 .f32 :=
  fun y => ∑ k : Fin 1024, x (ix2 (y 0) k) * w (ix2 k (y 1))

/-- What a point writes back. -/
theorem written (t : Fin cfg0.N) : outsAt0 m c t = part m c t := by
  unfold outsAt0
  frame_out
  rfl

theorem part_ix (t : Fin cfg0.N) (r : Fin 2176) (j : Fin 512) : part m c t (ix2 r j)
    = total (argA m c) (argB m c) (ix2 ⟨2176 * (t.val % 2) + r.val, by have : t.val < 22 := t.isLt; omega⟩ ⟨512 * (t.val / 2) + j.val, by have : t.val < 22 := t.isLt; omega⟩) :=
  (pay_ix _ _ r j).trans (Finset.sum_congr rfl fun k _ => congrArg₂ (· * ·) ((rd_a m c t r k).trans (in_a m c _ _))
    ((rd_b m c t j k).trans (congrFun (in_b m c) _)))

theorem final : (dats m 0 c).arrAt 2 cfg0.N = total (argA m c) (argB m c) := by
  refine (dats m 0 c).arrAt_eq_of_covers 2 (total (argA m c) (argB m c)) (by decide +kernel) fun t hf y => ?_
  blk_simp
  rw [after0_2]
  change S2176x512.Idx at y
  idx_vars y
  have ht : t.val < 22 := t.isLt
  have e : (win0_2.blk t).view.emb (ix2 y0 y1) = ix2 ⟨2176 * (t.val % 2) + y0.val, by have : t.val < 22 := t.isLt; omega⟩ ⟨512 * (t.val / 2) + y1.val, by have : t.val < 22 := t.isLt; omega⟩ := by
    blk_ext [idx2 t]
  exact ((congrFun (written m c t) _).trans (part_ix m c t y0 y1)).trans (congrArg (total (argA m c) (argB m c)) e.symm)

end

section
open Cert.UpRefIdeal Cert.UpRefIdeal.Gen

/-- The reference's result is the same sum. -/
theorem ref_eq (x : FVec Ideal S4352x1024 .bf16) (w : FVec Ideal S1024x5632 .bf16) :
    (Host.dotGeneral dot_S4352x1024_S1024x5632_S4352x5632_1_0_0_1_n_n none (extf .f32 x bitsLt_bf16_f32) (extf .f32 w bitsLt_bf16_f32) : FVec Ideal S4352x5632 .f32) = total x w := by
  funext y
  idx_vars y
  refine Eq.trans (b := ∑ k : Fin 1024, x (ix2 y0 k) * w (ix2 k y1)) ?_ ?_
  · pointwise
  · exact Finset.sum_congr rfl fun k _ => rfl

end

/-- The kernel's result is the reference's. -/
theorem algebraic : Cert.algebraic_UpIdeal_UpRefIdeal (hUpIdeal := Cert.UpIdeal.Gen.facts)
    (hUpRefIdeal := Cert.UpRefIdeal.Gen.facts) := by
  intro m g m' g' _ hargs
  refine ⟨fun c => (Cert.UpIdeal.Gen.dats m 0 c).arrAt 2 Cert.UpIdeal.cfg0.N, Cert.UpIdeal.Value.run_blocks m g, ?_⟩
  refine (θ_run _ _ _).mono (fun r h c => ?_) (Cert.UpRefIdeal.Value.run m' g')
  refine ⟨(h c).1.trans ?_, (h c).2⟩
  rw [(hargs c).1, (hargs c).2]
  exact (ref_eq _ _).trans (final m c).symm

/-- The reference runs and keeps its arguments; it declares no semaphore. -/
theorem frame_r : Cert.quiescent_UpRefIdeal (hUpRefIdeal := Cert.UpRefIdeal.Gen.facts) := by
  intro m ρ _
  exact (θ_run Cert.UpRefIdeal.defs _ _).mono (fun r h => ⟨fun c => (h c).2,
      Idealize.ShloMosaic.sem_eq_zero_of_no_sems (by decide) r.2⟩)
    (Cert.UpRefIdeal.Value.run m ρ)

end Cert.Products.Up
-- ==== Proof.Down.lean ====
/-
  The second product of the feed-forward layer: the call sums two blocks of 1408 columns in its scratch and writes each
  block of the result at the second.
-/
module

public import proofs.«01_k».proof.Defs
public import proofs.«01_k».proof.Proof.Sums
public import proofs.«01_k».proof.Proof.Gen.Down.Frame
public import proofs.«01_k».proof.Proof.Gen.DownIdeal.Value
public import proofs.«01_k».proof.Proof.Gen.DownRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Products.Down

open Idealize.ShloMosaic Idealize.ShloMosaic.TcCoe Idealize.SL.Sem Pipeline

section
open Cert.DownIdeal Cert.DownIdeal.Gen

variable (m : (ℓ : Loc nD τ sig) → Buf (Elt Ideal) ℓ) (c : Dev nD)

abbrev argA : FVec Ideal S4352x2816 .bf16 := m ((c.tc : Thread nD τ).loc main_arg0)
abbrev argB : FVec Ideal S2816x1024 .bf16 := m ((c.tc : Thread nD τ).loc main_arg1)

theorem in_a (i : Fin 4352) (k : Fin 2816) : V m c main_arg0 (ix2 i k) = argA m c (ix2 i k) := congrFun (V_main_arg0 m c) _

theorem in_b : V m c main_arg1 = argB m c := V_main_arg1 m c

theorem idx0 : ∀ t : Fin cfg0.N, win0_0.index t = ![t.val / 2 % 2, t.val % 2] := (by decide +kernel : ∀ t : Fin grid0.N, _)
theorem idx1 : ∀ t : Fin cfg0.N, win0_1.index t = ![t.val % 2, t.val / 4] := (by decide +kernel : ∀ t : Fin grid0.N, _)
theorem idx2 : ∀ t : Fin cfg0.N, win0_2.index t = ![t.val / 2 % 2, t.val / 4] := (by decide +kernel : ∀ t : Fin grid0.N, _)

theorem rd_a (t : Fin cfg0.N) (r : Fin 2176) (k : Fin 1408) : iblk m c 0 t (ix2 r k)
    = V m c main_arg0 (ix2 ⟨2176 * (t.val / 2 % 2) + r.val, by have : t.val < 8 := t.isLt; omega⟩ ⟨1408 * (t.val % 2) + k.val, by have : t.val < 8 := t.isLt; omega⟩) := by
  have ht : t.val < 8 := t.isLt
  blk_ext [iblk, idx0 t]

theorem rd_b (t : Fin cfg0.N) (j : Fin 512) (k : Fin 1408) : iblk m c 1 t (ix2 k j)
    = V m c main_arg1 (ix2 ⟨1408 * (t.val % 2) + k.val, by have : t.val < 8 := t.isLt; omega⟩ ⟨512 * (t.val / 4) + j.val, by have : t.val < 8 := t.isLt; omega⟩) := by
  have ht : t.val < 8 := t.isLt
  blk_ext [iblk, idx1 t]

theorem pay_ix (x : FVec Ideal S2176x1408 .bf16) (w : FVec Ideal S1408x512 .bf16) (r : Fin 2176) (j : Fin 512) :
    (k0_pay1 x w : FVec Ideal S2176x512 .f32) (ix2 r j) = ∑ k : Fin 1408, x (ix2 r k) * w (ix2 k j) := by
  pointwise [k0_pay1]

/-- The product of a point's two blocks. -/
def part (t : Fin cfg0.N) : FVec Ideal S2176x512 .f32 := k0_pay1 (iblk m c 0 t) (iblk m c 1 t)

/-- The result: the sum over the whole contracted axis. -/
def total (x : FVec Ideal S4352x2816 .bf16) (w : FVec Ideal S2816x1024 .bf16) : FVec Ideal S4352x1024 .f32 :=
  fun y => ∑ k : Fin 2816, x (ix2 (y 0) k) * w (ix2 k (y 1))

theorem part_ix (t : Fin cfg0.N) (r : Fin 2176) (j : Fin 512) (i : Fin 4352) (j' : Fin 1024) (hi : i.val = 2176 * (t.val / 2 % 2) + r.val)
    (hj : j'.val = 512 * (t.val / 4) + j.val) (e : ℕ) (he : t.val % 2 = e) (hb : ∀ k : Fin 1408, 1408 * e + k.val < 2816) :
    part m c t (ix2 r j) = ∑ k : Fin 1408, argA m c (ix2 i ⟨1408 * e + k.val, hb k⟩) * argB m c (ix2 ⟨1408 * e + k.val, hb k⟩ j') := by
  subst he
  have ht : t.val < 8 := t.isLt
  refine (pay_ix _ _ r j).trans (Finset.sum_congr rfl fun k _ => congrArg₂ (· * ·)
    ((rd_a m c t r k).trans ((in_a m c _ _).trans (congrArg (argA m c) ?_)))
    ((rd_b m c t j k).trans ((congrFun (in_b m c) _).trans (congrArg (argB m c) ?_))))
  all_goals
    refine congrArg₂ ix2 (Fin.ext ?_) (Fin.ext ?_)
    all_goals first | rfl | exact hi.symm | exact hj.symm | (dsimp only; omega)

/-- What the scratch holds after an even point. -/
theorem scratch (t : Fin cfg0.N) (h : t.val % 2 = 0) : (outsAt0 m c t.val t.isLt).2 = part m c t := by
  rw [outsAt0_A m c t h (by omega) (by omega)]
  frame_out
  unfold k0_pay2
  exact shapeCast_self _ _

/-- What is written back at an odd point. -/
theorem written (t : Fin cfg0.N) (h : t.val % 2 = 1) (r : Fin 2176) (j : Fin 512) :
    (outsAt0 m c t.val t.isLt).1 (ix2 r j)
      = part m c ⟨t.val - 1, lt_of_le_of_lt (Nat.sub_le _ _) t.isLt⟩ (ix2 r j) + part m c t (ix2 r j) := by
  rw [outsAt0_B m c t (by omega) h h]
  frame_out
  unfold k0_pay3
  rw [shapeCast_self]
  exact congrArg (· + part m c t (ix2 r j)) (congrFun ((Memref.IsWhole.read_unread (Memref.isWhole_whole cc0_scratch0) _).trans
    (scratch m c ⟨t.val - 1, lt_of_le_of_lt (Nat.sub_le _ _) t.isLt⟩ (by show (t.val - 1) % 2 = 0; omega))) (ix2 r j))

theorem final : (dats m 0 c).arrAt 2 cfg0.N = total (argA m c) (argB m c) := by
  refine (dats m 0 c).arrAt_eq_of_covers 2 (total (argA m c) (argB m c)) (by decide +kernel) fun t hf y => ?_
  blk_simp
  rw [after0_2]
  have hr := (flush0_2 t).mp hf
  change S2176x512.Idx at y
  idx_vars y
  have ht : t.val < 8 := t.isLt
  obtain ⟨i, hi⟩ : ∃ i : Fin 4352, i.val = 2176 * (t.val / 2 % 2) + y0.val := ⟨⟨_, by omega⟩, rfl⟩
  obtain ⟨j, hj⟩ : ∃ j : Fin 1024, j.val = 512 * (t.val / 4) + y1.val := ⟨⟨_, by omega⟩, rfl⟩
  have e : (win0_2.blk t).view.emb (ix2 y0 y1) = ix2 i j := by
    blk_ext [idx2 t]
    all_goals omega
  refine ((written m c t hr y0 y1).trans ?_).trans (congrArg (total (argA m c) (argB m c)) e.symm)
  refine (congrArg₂ (· + ·) (part_ix m c _ y0 y1 i j ?_ ?_ 0 ?_ fun k => by omega)
    (part_ix m c t y0 y1 i j hi hj 1 hr fun k => by omega)).trans ?_
  · (try dsimp only); omega
  · (try dsimp only); omega
  · (try dsimp only); omega
  · exact sum_halves (n := 1408) rfl fun k => argA m c (ix2 i k) * argB m c (ix2 k j)

end

section
open Cert.DownRefIdeal Cert.DownRefIdeal.Gen

/-- The reference's result is the same sum. -/
theorem ref_eq (x : FVec Ideal S4352x2816 .bf16) (w : FVec Ideal S2816x1024 .bf16) :
    (Host.dotGeneral dot_S4352x2816_S2816x1024_S4352x1024_1_0_0_1_n_n none (extf .f32 x bitsLt_bf16_f32) (extf .f32 w bitsLt_bf16_f32) : FVec Ideal S4352x1024 .f32) = total x w := by
  funext y
  idx_vars y
  refine Eq.trans (b := ∑ k : Fin 2816, x (ix2 y0 k) * w (ix2 k y1)) ?_ ?_
  · pointwise
  · exact Finset.sum_congr rfl fun k _ => rfl

end

/-- The kernel's result is the reference's. -/
theorem algebraic : Cert.algebraic_DownIdeal_DownRefIdeal (hDownIdeal := Cert.DownIdeal.Gen.facts)
    (hDownRefIdeal := Cert.DownRefIdeal.Gen.facts) := by
  intro m g m' g' _ hargs
  refine ⟨fun c => (Cert.DownIdeal.Gen.dats m 0 c).arrAt 2 Cert.DownIdeal.cfg0.N, Cert.DownIdeal.Value.run_blocks m g, ?_⟩
  refine (θ_run _ _ _).mono (fun r h c => ?_) (Cert.DownRefIdeal.Value.run m' g')
  refine ⟨(h c).1.trans ?_, (h c).2⟩
  rw [(hargs c).1, (hargs c).2]
  exact (ref_eq _ _).trans (final m c).symm

/-- The reference runs and keeps its arguments; it declares no semaphore. -/
theorem frame_r : Cert.quiescent_DownRefIdeal (hDownRefIdeal := Cert.DownRefIdeal.Gen.facts) := by
  intro m ρ _
  exact (θ_run Cert.DownRefIdeal.defs _ _).mono (fun r h => ⟨fun c => (h c).2,
      Idealize.ShloMosaic.sem_eq_zero_of_no_sems (by decide) r.2⟩)
    (Cert.DownRefIdeal.Value.run m ρ)

end Cert.Products.Down
-- ==== Proof.DownDw.lean ====
/-
  The gradient of the feed-forward layer's second weight: the call sums the products of two blocks of 2176 rows in its
  scratch and writes each block of the result at the second.
-/
module

public import proofs.«01_k».proof.Defs
public import proofs.«01_k».proof.Proof.Sums
public import proofs.«01_k».proof.Proof.Gen.DownDw.Frame
public import proofs.«01_k».proof.Proof.Gen.DownDwIdeal.Value
public import proofs.«01_k».proof.Proof.Gen.DownDwRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Products.DownDw

open Idealize.ShloMosaic Idealize.ShloMosaic.TcCoe Idealize.SL.Sem Pipeline

section
open Cert.DownDwIdeal Cert.DownDwIdeal.Gen

variable (m : (ℓ : Loc nD τ sig) → Buf (Elt Ideal) ℓ) (c : Dev nD)

abbrev argA : FVec Ideal S4352x2816 .bf16 := m ((c.tc : Thread nD τ).loc main_arg0)
abbrev argB : FVec Ideal S4352x1024 .bf16 := m ((c.tc : Thread nD τ).loc main_arg2)

theorem in_a (i : Fin 2816) (k : Fin 4352) : V m c main_v0 (ix2 i k) = argA m c (ix2 k i) := by
  unfold V
  after_reads_at

theorem in_b : V m c main_arg2 = argB m c := V_main_arg2 m c

theorem idx0 : ∀ t : Fin cfg0.N, win0_0.index t = ![t.val / 2, t.val % 2] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, 0] := (by decide +kernel : ∀ t : Fin grid0.N, _)

theorem rd_a (t : Fin cfg0.N) (r : Fin 1408) (k : Fin 2176) : iblk m c 0 t (ix2 r k)
    = V m c main_v0 (ix2 ⟨1408 * (t.val / 2) + r.val, by have : t.val < 4 := t.isLt; omega⟩ ⟨2176 * (t.val % 2) + k.val, by have : t.val < 4 := t.isLt; omega⟩) := by
  have ht : t.val < 4 := t.isLt
  blk_ext [iblk, idx0 t]

theorem rd_b (t : Fin cfg0.N) (j : Fin 1024) (k : Fin 2176) : iblk m c 1 t (ix2 k j)
    = V m c main_arg2 (ix2 ⟨2176 * (t.val % 2) + k.val, by have : t.val < 4 := t.isLt; omega⟩ j) := by
  have ht : t.val < 4 := t.isLt
  blk_ext [iblk, idx1 t]

theorem pay_ix (x : FVec Ideal S1408x2176 .bf16) (w : FVec Ideal S2176x1024 .bf16) (r : Fin 1408) (j : Fin 1024) :
    (k0_pay1 x w : FVec Ideal S1408x1024 .f32) (ix2 r j) = ∑ k : Fin 2176, x (ix2 r k) * w (ix2 k j) := by
  pointwise [k0_pay1]

/-- The product of a point's two blocks. -/
def part (t : Fin cfg0.N) : FVec Ideal S1408x1024 .f32 := k0_pay1 (iblk m c 0 t) (iblk m c 1 t)

/-- The result: the sum over the whole contracted axis. -/
def total (x : FVec Ideal S4352x2816 .bf16) (w : FVec Ideal S4352x1024 .bf16) : FVec Ideal S2816x1024 .f32 :=
  fun y => ∑ k : Fin 4352, x (ix2 k (y 0)) * w (ix2 k (y 1))

theorem part_ix (t : Fin cfg0.N) (r : Fin 1408) (j : Fin 1024) (i : Fin 2816) (j' : Fin 1024) (hi : i.val = 1408 * (t.val / 2) + r.val)
    (hj : j'.val = j.val) (e : ℕ) (he : t.val % 2 = e) (hb : ∀ k : Fin 2176, 2176 * e + k.val < 4352) :
    part m c t (ix2 r j) = ∑ k : Fin 2176, argA m c (ix2 ⟨2176 * e + k.val, hb k⟩ i) * argB m c (ix2 ⟨2176 * e + k.val, hb k⟩ j') := by
  subst he
  have ht : t.val < 4 := t.isLt
  refine (pay_ix _ _ r j).trans (Finset.sum_congr rfl fun k _ => congrArg₂ (· * ·)
    ((rd_a m c t r k).trans ((in_a m c _ _).trans (congrArg (argA m c) ?_)))
    ((rd_b m c t j k).trans ((congrFun (in_b m c) _).trans (congrArg (argB m c) ?_))))
  all_goals
    refine congrArg₂ ix2 (Fin.ext ?_) (Fin.ext ?_)
    all_goals first | rfl | exact hi.symm | exact hj.symm | (dsimp only; omega)

/-- What the scratch holds after an even point. -/
theorem scratch (t : Fin cfg0.N) (h : t.val % 2 = 0) : (outsAt0 m c t.val t.isLt).2 = part m c t := by
  rw [outsAt0_A m c t h (by omega) (by omega)]
  frame_out
  unfold k0_pay2
  exact shapeCast_self _ _

/-- What is written back at an odd point. -/
theorem written (t : Fin cfg0.N) (h : t.val % 2 = 1) (r : Fin 1408) (j : Fin 1024) :
    (outsAt0 m c t.val t.isLt).1 (ix2 r j)
      = part m c ⟨t.val - 1, lt_of_le_of_lt (Nat.sub_le _ _) t.isLt⟩ (ix2 r j) + part m c t (ix2 r j) := by
  rw [outsAt0_B m c t (by omega) h h]
  frame_out
  unfold k0_pay3
  rw [shapeCast_self]
  exact congrArg (· + part m c t (ix2 r j)) (congrFun ((Memref.IsWhole.read_unread (Memref.isWhole_whole cc0_scratch0) _).trans
    (scratch m c ⟨t.val - 1, lt_of_le_of_lt (Nat.sub_le _ _) t.isLt⟩ (by show (t.val - 1) % 2 = 0; omega))) (ix2 r j))

theorem final : (dats m 0 c).arrAt 2 cfg0.N = total (argA m c) (argB m c) := by
  refine (dats m 0 c).arrAt_eq_of_covers 2 (total (argA m c) (argB m c)) (by decide +kernel) fun t hf y => ?_
  blk_simp
  rw [after0_2]
  have hr := (flush0_2 t).mp hf
  change S1408x1024.Idx at y
  idx_vars y
  have ht : t.val < 4 := t.isLt
  obtain ⟨i, hi⟩ : ∃ i : Fin 2816, i.val = 1408 * (t.val / 2) + y0.val := ⟨⟨_, by omega⟩, rfl⟩
  obtain ⟨j, hj⟩ : ∃ j : Fin 1024, j.val = y1.val := ⟨⟨_, by omega⟩, rfl⟩
  have e : (win0_2.blk t).view.emb (ix2 y0 y1) = ix2 i j := by
    blk_ext [idx2 t]
    all_goals omega
  refine ((written m c t hr y0 y1).trans ?_).trans (congrArg (total (argA m c) (argB m c)) e.symm)
  refine (congrArg₂ (· + ·) (part_ix m c _ y0 y1 i j ?_ ?_ 0 ?_ fun k => by omega)
    (part_ix m c t y0 y1 i j hi hj 1 hr fun k => by omega)).trans ?_
  · (try dsimp only); omega
  · (try dsimp only); omega
  · (try dsimp only); omega
  · exact sum_halves (n := 2176) rfl fun k => argA m c (ix2 k i) * argB m c (ix2 k j)

end

section
open Cert.DownDwRefIdeal Cert.DownDwRefIdeal.Gen

/-- The reference's result is the same sum. -/
theorem ref_eq (x : FVec Ideal S4352x2816 .bf16) (w : FVec Ideal S4352x1024 .bf16) :
    (transpose S2816x1024 [1, 0] (Host.dotGeneral dot_S4352x1024_S4352x2816_S1024x2816_0_0_1_1_n_n none (extf .f32 w bitsLt_bf16_f32) (extf .f32 x bitsLt_bf16_f32)) transposes_S1024x2816_S2816x1024_1_0 : FVec Ideal S2816x1024 .f32) = total x w := by
  funext y
  idx_vars y
  refine Eq.trans (b := ∑ k : Fin 4352, w (ix2 k y1) * x (ix2 k y0)) ?_ ?_
  · pointwise
  · exact Finset.sum_congr rfl fun k _ => mul_comm _ _

end

/-- The kernel's result is the reference's. -/
theorem algebraic : Cert.algebraic_DownDwIdeal_DownDwRefIdeal (hDownDwIdeal := Cert.DownDwIdeal.Gen.facts)
    (hDownDwRefIdeal := Cert.DownDwRefIdeal.Gen.facts) := by
  intro m g m' g' _ hargs
  refine ⟨fun c => (Cert.DownDwIdeal.Gen.dats m 0 c).arrAt 2 Cert.DownDwIdeal.cfg0.N, Cert.DownDwIdeal.Value.run_blocks m g, ?_⟩
  refine (θ_run _ _ _).mono (fun r h c => ?_) (Cert.DownDwRefIdeal.Value.run m' g')
  refine ⟨(h c).1.trans ?_, (h c).2⟩
  rw [(hargs c).1, (hargs c).2.2]
  exact (ref_eq _ _).trans (final m c).symm

/-- The reference runs and keeps its arguments; it declares no semaphore. -/
theorem frame_r : Cert.quiescent_DownDwRefIdeal (hDownDwRefIdeal := Cert.DownDwRefIdeal.Gen.facts) := by
  intro m ρ _
  exact (θ_run Cert.DownDwRefIdeal.defs _ _).mono (fun r h => ⟨fun c => (h c).2,
      Idealize.ShloMosaic.sem_eq_zero_of_no_sems (by decide) r.2⟩)
    (Cert.DownDwRefIdeal.Value.run m ρ)

end Cert.Products.DownDw
-- ==== Proof.DownDx.lean ====
/-
  The gradient of the rows that enter the feed-forward layer's second product: each point writes a block of the result,
  a sum over all 1024 columns.
-/
module

public import proofs.«01_k».proof.Defs
public import proofs.«01_k».proof.Proof.Sums
public import proofs.«01_k».proof.Proof.Gen.DownDx.Frame
public import proofs.«01_k».proof.Proof.Gen.DownDxIdeal.Value
public import proofs.«01_k».proof.Proof.Gen.DownDxRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Products.DownDx

open Idealize.ShloMosaic Idealize.ShloMosaic.TcCoe Idealize.SL.Sem Pipeline

section
open Cert.DownDxIdeal Cert.DownDxIdeal.Gen

variable (m : (ℓ : Loc nD τ sig) → Buf (Elt Ideal) ℓ) (c : Dev nD)

abbrev argA : FVec Ideal S4352x1024 .bf16 := m ((c.tc : Thread nD τ).loc main_arg2)
abbrev argB : FVec Ideal S2816x1024 .bf16 := m ((c.tc : Thread nD τ).loc main_arg1)

theorem in_a (i : Fin 4352) (k : Fin 1024) : V m c main_arg2 (ix2 i k) = argA m c (ix2 i k) := congrFun (V_main_arg2 m c) _

theorem in_b : V m c main_arg1 = argB m c := V_main_arg1 m c

theorem idx0 : ∀ t : Fin cfg0.N, win0_0.index t = ![t.val % 2, 0] := (by decide +kernel : ∀ t : Fin grid0.N, _)
theorem idx1 : ∀ t : Fin cfg0.N, win0_1.index t = ![t.val / 2, 0] := (by decide +kernel : ∀ t : Fin grid0.N, _)
theorem idx2 : ∀ t : Fin cfg0.N, win0_2.index t = ![t.val % 2, t.val / 2] := (by decide +kernel : ∀ t : Fin grid0.N, _)

theorem rd_a (t : Fin cfg0.N) (r : Fin 2176) (k : Fin 1024) : iblk m c 0 t (ix2 r k)
    = V m c main_arg2 (ix2 ⟨2176 * (t.val % 2) + r.val, by have : t.val < 22 := t.isLt; omega⟩ k) := by
  have ht : t.val < 22 := t.isLt
  blk_ext [iblk, idx0 t]

theorem rd_b (t : Fin cfg0.N) (j : Fin 256) (k : Fin 1024) : iblk m c 1 t (ix2 j k)
    = V m c main_arg1 (ix2 ⟨256 * (t.val / 2) + j.val, by have : t.val < 22 := t.isLt; omega⟩ k) := by
  have ht : t.val < 22 := t.isLt
  blk_ext [iblk, idx1 t]

theorem pay_ix (x : FVec Ideal S2176x1024 .bf16) (w : FVec Ideal S256x1024 .bf16) (r : Fin 2176) (j : Fin 256) :
    (k0_pay1 x w : FVec Ideal S2176x256 .f32) (ix2 r j) = ∑ k : Fin 1024, x (ix2 r k) * w (ix2 j k) := by
  pointwise [k0_pay1]

/-- The product of a point's two blocks. -/
def part (t : Fin cfg0.N) : FVec Ideal S2176x256 .f32 := k0_pay1 (iblk m c 0 t) (iblk m c 1 t)

/-- The result: the sum over the whole contracted axis. -/
def total (x : FVec Ideal S4352x1024 .bf16) (w : FVec Ideal S2816x1024 .bf16) : FVec Ideal S4352x2816 .f32 :=
  fun y => ∑ k : Fin 1024, x (ix2 (y 0) k) * w (ix2 (y 1) k)

/-- What a point writes back. -/
theorem written (t : Fin cfg0.N) : outsAt0 m c t = part m c t := by
  unfold outsAt0
  frame_out
  rfl

theorem part_ix (t : Fin cfg0.N) (r : Fin 2176) (j : Fin 256) : part m c t (ix2 r j)
    = total (argA m c) (argB m c) (ix2 ⟨2176 * (t.val % 2) + r.val, by have : t.val < 22 := t.isLt; omega⟩ ⟨256 * (t.val / 2) + j.val, by have : t.val < 22 := t.isLt; omega⟩) :=
  (pay_ix _ _ r j).trans (Finset.sum_congr rfl fun k _ => congrArg₂ (· * ·) ((rd_a m c t r k).trans (in_a m c _ _))
    ((rd_b m c t j k).trans (congrFun (in_b m c) _)))

theorem final : (dats m 0 c).arrAt 2 cfg0.N = total (argA m c) (argB m c) := by
  refine (dats m 0 c).arrAt_eq_of_covers 2 (total (argA m c) (argB m c)) (by decide +kernel) fun t hf y => ?_
  blk_simp
  rw [after0_2]
  change S2176x256.Idx at y
  idx_vars y
  have ht : t.val < 22 := t.isLt
  have e : (win0_2.blk t).view.emb (ix2 y0 y1) = ix2 ⟨2176 * (t.val % 2) + y0.val, by have : t.val < 22 := t.isLt; omega⟩ ⟨256 * (t.val / 2) + y1.val, by have : t.val < 22 := t.isLt; omega⟩ := by
    blk_ext [idx2 t]
  exact ((congrFun (written m c t) _).trans (part_ix m c t y0 y1)).trans (congrArg (total (argA m c) (argB m c)) e.symm)

end

section
open Cert.DownDxRefIdeal Cert.DownDxRefIdeal.Gen

/-- The reference's result is the same sum. -/
theorem ref_eq (x : FVec Ideal S4352x1024 .bf16) (w : FVec Ideal S2816x1024 .bf16) :
    (Host.dotGeneral dot_S4352x1024_S2816x1024_S4352x2816_1_1_0_0_n_n none (extf .f32 x bitsLt_bf16_f32) (extf .f32 w bitsLt_bf16_f32) : FVec Ideal S4352x2816 .f32) = total x w := by
  funext y
  idx_vars y
  refine Eq.trans (b := ∑ k : Fin 1024, x (ix2 y0 k) * w (ix2 y1 k)) ?_ ?_
  · pointwise
  · exact Finset.sum_congr rfl fun k _ => rfl

end

/-- The kernel's result is the reference's. -/
theorem algebraic : Cert.algebraic_DownDxIdeal_DownDxRefIdeal (hDownDxIdeal := Cert.DownDxIdeal.Gen.facts)
    (hDownDxRefIdeal := Cert.DownDxRefIdeal.Gen.facts) := by
  intro m g m' g' _ hargs
  refine ⟨fun c => (Cert.DownDxIdeal.Gen.dats m 0 c).arrAt 2 Cert.DownDxIdeal.cfg0.N, Cert.DownDxIdeal.Value.run_blocks m g, ?_⟩
  refine (θ_run _ _ _).mono (fun r h c => ?_) (Cert.DownDxRefIdeal.Value.run m' g')
  refine ⟨(h c).1.trans ?_, (h c).2⟩
  rw [(hargs c).2.2, (hargs c).2.1]
  exact (ref_eq _ _).trans (final m c).symm

/-- The reference runs and keeps its arguments; it declares no semaphore. -/
theorem frame_r : Cert.quiescent_DownDxRefIdeal (hDownDxRefIdeal := Cert.DownDxRefIdeal.Gen.facts) := by
  intro m ρ _
  exact (θ_run Cert.DownDxRefIdeal.defs _ _).mono (fun r h => ⟨fun c => (h c).2,
      Idealize.ShloMosaic.sem_eq_zero_of_no_sems (by decide) r.2⟩)
    (Cert.DownDxRefIdeal.Value.run m ρ)

end Cert.Products.DownDx
-- ==== Proof.UpDw.lean ====
/-
  The gradient of one half of the feed-forward layer's first weight: the call sums the products of two blocks of 2176
  rows in its scratch and writes each block of the result at the second.
-/
module

public import proofs.«01_k».proof.Defs
public import proofs.«01_k».proof.Proof.Sums
public import proofs.«01_k».proof.Proof.Gen.UpDw.Frame
public import proofs.«01_k».proof.Proof.Gen.UpDwIdeal.Value
public import proofs.«01_k».proof.Proof.Gen.UpDwRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Products.UpDw

open Idealize.ShloMosaic Idealize.ShloMosaic.TcCoe Idealize.SL.Sem Pipeline

section
open Cert.UpDwIdeal Cert.UpDwIdeal.Gen

variable (m : (ℓ : Loc nD τ sig) → Buf (Elt Ideal) ℓ) (c : Dev nD)

abbrev argA : FVec Ideal S4352x1024 .bf16 := m ((c.tc : Thread nD τ).loc main_arg0)
abbrev argB : FVec Ideal S4352x2816 .bf16 := m ((c.tc : Thread nD τ).loc main_arg2)

theorem in_a (i : Fin 1024) (k : Fin 4352) : V m c main_v0 (ix2 i k) = argA m c (ix2 k i) := by
  unfold V
  after_reads_at

theorem in_b : V m c main_arg2 = argB m c := V_main_arg2 m c

theorem idx0 : ∀ t : Fin cfg0.N, win0_0.index t = ![0, t.val % 2] := (by decide +kernel : ∀ t : Fin grid0.N, _)
theorem idx1 : ∀ t : Fin cfg0.N, win0_1.index t = ![t.val % 2, t.val / 2] := (by decide +kernel : ∀ t : Fin grid0.N, _)
theorem idx2 : ∀ t : Fin cfg0.N, win0_2.index t = ![0, t.val / 2] := (by decide +kernel : ∀ t : Fin grid0.N, _)

theorem rd_a (t : Fin cfg0.N) (r : Fin 1024) (k : Fin 2176) : iblk m c 0 t (ix2 r k)
    = V m c main_v0 (ix2 r ⟨2176 * (t.val % 2) + k.val, by have : t.val < 4 := t.isLt; omega⟩) := by
  have ht : t.val < 4 := t.isLt
  blk_ext [iblk, idx0 t]

theorem rd_b (t : Fin cfg0.N) (j : Fin 1408) (k : Fin 2176) : iblk m c 1 t (ix2 k j)
    = V m c main_arg2 (ix2 ⟨2176 * (t.val % 2) + k.val, by have : t.val < 4 := t.isLt; omega⟩ ⟨1408 * (t.val / 2) + j.val, by have : t.val < 4 := t.isLt; omega⟩) := by
  have ht : t.val < 4 := t.isLt
  blk_ext [iblk, idx1 t]

theorem pay_ix (x : FVec Ideal S1024x2176 .bf16) (w : FVec Ideal S2176x1408 .bf16) (r : Fin 1024) (j : Fin 1408) :
    (k0_pay1 x w : FVec Ideal S1024x1408 .f32) (ix2 r j) = ∑ k : Fin 2176, x (ix2 r k) * w (ix2 k j) := by
  pointwise [k0_pay1]

/-- The product of a point's two blocks. -/
def part (t : Fin cfg0.N) : FVec Ideal S1024x1408 .f32 := k0_pay1 (iblk m c 0 t) (iblk m c 1 t)

/-- The result: the sum over the whole contracted axis. -/
def total (x : FVec Ideal S4352x1024 .bf16) (w : FVec Ideal S4352x2816 .bf16) : FVec Ideal S1024x2816 .f32 :=
  fun y => ∑ k : Fin 4352, x (ix2 k (y 0)) * w (ix2 k (y 1))

theorem part_ix (t : Fin cfg0.N) (r : Fin 1024) (j : Fin 1408) (i : Fin 1024) (j' : Fin 2816) (hi : i.val = r.val)
    (hj : j'.val = 1408 * (t.val / 2) + j.val) (e : ℕ) (he : t.val % 2 = e) (hb : ∀ k : Fin 2176, 2176 * e + k.val < 4352) :
    part m c t (ix2 r j) = ∑ k : Fin 2176, argA m c (ix2 ⟨2176 * e + k.val, hb k⟩ i) * argB m c (ix2 ⟨2176 * e + k.val, hb k⟩ j') := by
  subst he
  have ht : t.val < 4 := t.isLt
  refine (pay_ix _ _ r j).trans (Finset.sum_congr rfl fun k _ => congrArg₂ (· * ·)
    ((rd_a m c t r k).trans ((in_a m c _ _).trans (congrArg (argA m c) ?_)))
    ((rd_b m c t j k).trans ((congrFun (in_b m c) _).trans (congrArg (argB m c) ?_))))
  all_goals
    refine congrArg₂ ix2 (Fin.ext ?_) (Fin.ext ?_)
    all_goals first | rfl | exact hi.symm | exact hj.symm | (dsimp only; omega)

/-- What the scratch holds after an even point. -/
theorem scratch (t : Fin cfg0.N) (h : t.val % 2 = 0) : (outsAt0 m c t.val t.isLt).2 = part m c t := by
  rw [outsAt0_A m c t h (by omega) (by omega)]
  frame_out
  unfold k0_pay2
  exact shapeCast_self _ _

/-- What is written back at an odd point. -/
theorem written (t : Fin cfg0.N) (h : t.val % 2 = 1) (r : Fin 1024) (j : Fin 1408) :
    (outsAt0 m c t.val t.isLt).1 (ix2 r j)
      = part m c ⟨t.val - 1, lt_of_le_of_lt (Nat.sub_le _ _) t.isLt⟩ (ix2 r j) + part m c t (ix2 r j) := by
  rw [outsAt0_B m c t (by omega) h h]
  frame_out
  unfold k0_pay3
  rw [shapeCast_self]
  exact congrArg (· + part m c t (ix2 r j)) (congrFun ((Memref.IsWhole.read_unread (Memref.isWhole_whole cc0_scratch0) _).trans
    (scratch m c ⟨t.val - 1, lt_of_le_of_lt (Nat.sub_le _ _) t.isLt⟩ (by show (t.val - 1) % 2 = 0; omega))) (ix2 r j))

theorem final : (dats m 0 c).arrAt 2 cfg0.N = total (argA m c) (argB m c) := by
  refine (dats m 0 c).arrAt_eq_of_covers 2 (total (argA m c) (argB m c)) (by decide +kernel) fun t hf y => ?_
  blk_simp
  rw [after0_2]
  have hr := (flush0_2 t).mp hf
  change S1024x1408.Idx at y
  idx_vars y
  have ht : t.val < 4 := t.isLt
  obtain ⟨i, hi⟩ : ∃ i : Fin 1024, i.val = y0.val := ⟨⟨_, by omega⟩, rfl⟩
  obtain ⟨j, hj⟩ : ∃ j : Fin 2816, j.val = 1408 * (t.val / 2) + y1.val := ⟨⟨_, by omega⟩, rfl⟩
  have e : (win0_2.blk t).view.emb (ix2 y0 y1) = ix2 i j := by
    blk_ext [idx2 t]
    all_goals omega
  refine ((written m c t hr y0 y1).trans ?_).trans (congrArg (total (argA m c) (argB m c)) e.symm)
  refine (congrArg₂ (· + ·) (part_ix m c _ y0 y1 i j ?_ ?_ 0 ?_ fun k => by omega)
    (part_ix m c t y0 y1 i j hi hj 1 hr fun k => by omega)).trans ?_
  · (try dsimp only); omega
  · (try dsimp only); omega
  · (try dsimp only); omega
  · exact sum_halves (n := 2176) rfl fun k => argA m c (ix2 k i) * argB m c (ix2 k j)

end

section
open Cert.UpDwRefIdeal Cert.UpDwRefIdeal.Gen

/-- The reference's result is the same sum. -/
theorem ref_eq (x : FVec Ideal S4352x1024 .bf16) (w : FVec Ideal S4352x2816 .bf16) :
    (transpose S1024x2816 [1, 0] (Host.dotGeneral dot_S4352x2816_S4352x1024_S2816x1024_0_0_1_1_n_n none (extf .f32 w bitsLt_bf16_f32) (extf .f32 x bitsLt_bf16_f32)) transposes_S2816x1024_S1024x2816_1_0 : FVec Ideal S1024x2816 .f32) = total x w := by
  funext y
  idx_vars y
  refine Eq.trans (b := ∑ k : Fin 4352, w (ix2 k y1) * x (ix2 k y0)) ?_ ?_
  · pointwise
  · exact Finset.sum_congr rfl fun k _ => mul_comm _ _

end

/-- The kernel's result is the reference's. -/
theorem algebraic : Cert.algebraic_UpDwIdeal_UpDwRefIdeal (hUpDwIdeal := Cert.UpDwIdeal.Gen.facts)
    (hUpDwRefIdeal := Cert.UpDwRefIdeal.Gen.facts) := by
  intro m g m' g' _ hargs
  refine ⟨fun c => (Cert.UpDwIdeal.Gen.dats m 0 c).arrAt 2 Cert.UpDwIdeal.cfg0.N, Cert.UpDwIdeal.Value.run_blocks m g, ?_⟩
  refine (θ_run _ _ _).mono (fun r h c => ?_) (Cert.UpDwRefIdeal.Value.run m' g')
  refine ⟨(h c).1.trans ?_, (h c).2⟩
  rw [(hargs c).1, (hargs c).2.2]
  exact (ref_eq _ _).trans (final m c).symm

/-- The reference runs and keeps its arguments; it declares no semaphore. -/
theorem frame_r : Cert.quiescent_UpDwRefIdeal (hUpDwRefIdeal := Cert.UpDwRefIdeal.Gen.facts) := by
  intro m ρ _
  exact (θ_run Cert.UpDwRefIdeal.defs _ _).mono (fun r h => ⟨fun c => (h c).2,
      Idealize.ShloMosaic.sem_eq_zero_of_no_sems (by decide) r.2⟩)
    (Cert.UpDwRefIdeal.Value.run m ρ)

end Cert.Products.UpDw
-- ==== Proof.UpDxV.lean ====
/-
  The gradient of the rows that enter the feed-forward layer's first product, through its value half: the call sums two
  blocks of 1408 columns in its scratch and writes each block of the result at the second.
-/
module

public import proofs.«01_k».proof.Defs
public import proofs.«01_k».proof.Proof.Sums
public import proofs.«01_k».proof.Proof.Gen.UpDxV.Frame
public import proofs.«01_k».proof.Proof.Gen.UpDxVIdeal.Value
public import proofs.«01_k».proof.Proof.Gen.UpDxVRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Products.UpDxV

open Idealize.ShloMosaic Idealize.ShloMosaic.TcCoe Idealize.SL.Sem Pipeline

section
open Cert.UpDxVIdeal Cert.UpDxVIdeal.Gen

variable (m : (ℓ : Loc nD τ sig) → Buf (Elt Ideal) ℓ) (c : Dev nD)

abbrev argA : FVec Ideal S4352x2816 .bf16 := m ((c.tc : Thread nD τ).loc main_arg2)
abbrev argB : FVec Ideal S1024x5632 .bf16 := m ((c.tc : Thread nD τ).loc main_arg1)

theorem in_a (i : Fin 4352) (k : Fin 2816) : V m c main_arg2 (ix2 i k) = argA m c (ix2 i k) := congrFun (V_main_arg2 m c) _

theorem in_b : V m c main_arg1 = argB m c := V_main_arg1 m c

theorem idx0 : ∀ t : Fin cfg0.N, win0_0.index t = ![t.val / 2 % 2, t.val % 2] := (by decide +kernel : ∀ t : Fin grid0.N, _)
theorem idx1 : ∀ t : Fin cfg0.N, win0_1.index t = ![t.val / 4, t.val % 2] := (by decide +kernel : ∀ t : Fin grid0.N, _)
theorem idx2 : ∀ t : Fin cfg0.N, win0_2.index t = ![t.val / 2 % 2, t.val / 4] := (by decide +kernel : ∀ t : Fin grid0.N, _)

theorem rd_a (t : Fin cfg0.N) (r : Fin 2176) (k : Fin 1408) : iblk m c 0 t (ix2 r k)
    = V m c main_arg2 (ix2 ⟨2176 * (t.val / 2 % 2) + r.val, by have : t.val < 8 := t.isLt; omega⟩ ⟨1408 * (t.val % 2) + k.val, by have : t.val < 8 := t.isLt; omega⟩) := by
  have ht : t.val < 8 := t.isLt
  blk_ext [iblk, idx0 t]

theorem rd_b (t : Fin cfg0.N) (j : Fin 512) (k : Fin 1408) : iblk m c 1 t (ix2 j k)
    = V m c main_arg1 (ix2 ⟨512 * (t.val / 4) + j.val, by have : t.val < 8 := t.isLt; omega⟩ ⟨1408 * (t.val % 2) + k.val, by have : t.val < 8 := t.isLt; omega⟩) := by
  have ht : t.val < 8 := t.isLt
  blk_ext [iblk, idx1 t]

theorem pay_ix (x : FVec Ideal S2176x1408 .bf16) (w : FVec Ideal S512x1408 .bf16) (r : Fin 2176) (j : Fin 512) :
    (k0_pay1 x w : FVec Ideal S2176x512 .f32) (ix2 r j) = ∑ k : Fin 1408, x (ix2 r k) * w (ix2 j k) := by
  pointwise [k0_pay1]

/-- The product of a point's two blocks. -/
def part (t : Fin cfg0.N) : FVec Ideal S2176x512 .f32 := k0_pay1 (iblk m c 0 t) (iblk m c 1 t)

/-- The result: the sum over the whole contracted axis. -/
def total (x : FVec Ideal S4352x2816 .bf16) (w : FVec Ideal S1024x5632 .bf16) : FVec Ideal S4352x1024 .f32 :=
  fun y => ∑ k : Fin 2816, x (ix2 (y 0) k) * w (ix2 (y 1) ⟨k.val, by omega⟩)

theorem part_ix (t : Fin cfg0.N) (r : Fin 2176) (j : Fin 512) (i : Fin 4352) (j' : Fin 1024) (hi : i.val = 2176 * (t.val / 2 % 2) + r.val)
    (hj : j'.val = 512 * (t.val / 4) + j.val) (e : ℕ) (he : t.val % 2 = e) (hb : ∀ k : Fin 1408, 1408 * e + k.val < 2816) :
    part m c t (ix2 r j) = ∑ k : Fin 1408, argA m c (ix2 i ⟨1408 * e + k.val, hb k⟩) * argB m c (ix2 j' ⟨1408 * e + k.val, by have := hb k; omega⟩) := by
  subst he
  have ht : t.val < 8 := t.isLt
  refine (pay_ix _ _ r j).trans (Finset.sum_congr rfl fun k _ => congrArg₂ (· * ·)
    ((rd_a m c t r k).trans ((in_a m c _ _).trans (congrArg (argA m c) ?_)))
    ((rd_b m c t j k).trans ((congrFun (in_b m c) _).trans (congrArg (argB m c) ?_))))
  all_goals
    refine congrArg₂ ix2 (Fin.ext ?_) (Fin.ext ?_)
    all_goals first | rfl | exact hi.symm | exact hj.symm | (dsimp only; omega)

/-- What the scratch holds after an even point. -/
theorem scratch (t : Fin cfg0.N) (h : t.val % 2 = 0) : (outsAt0 m c t.val t.isLt).2 = part m c t := by
  rw [outsAt0_A m c t h (by omega) (by omega)]
  frame_out
  unfold k0_pay2
  exact shapeCast_self _ _

/-- What is written back at an odd point. -/
theorem written (t : Fin cfg0.N) (h : t.val % 2 = 1) (r : Fin 2176) (j : Fin 512) :
    (outsAt0 m c t.val t.isLt).1 (ix2 r j)
      = part m c ⟨t.val - 1, lt_of_le_of_lt (Nat.sub_le _ _) t.isLt⟩ (ix2 r j) + part m c t (ix2 r j) := by
  rw [outsAt0_B m c t (by omega) h h]
  frame_out
  unfold k0_pay3
  rw [shapeCast_self]
  exact congrArg (· + part m c t (ix2 r j)) (congrFun ((Memref.IsWhole.read_unread (Memref.isWhole_whole cc0_scratch0) _).trans
    (scratch m c ⟨t.val - 1, lt_of_le_of_lt (Nat.sub_le _ _) t.isLt⟩ (by show (t.val - 1) % 2 = 0; omega))) (ix2 r j))

theorem final : (dats m 0 c).arrAt 2 cfg0.N = total (argA m c) (argB m c) := by
  refine (dats m 0 c).arrAt_eq_of_covers 2 (total (argA m c) (argB m c)) (by decide +kernel) fun t hf y => ?_
  blk_simp
  rw [after0_2]
  have hr := (flush0_2 t).mp hf
  change S2176x512.Idx at y
  idx_vars y
  have ht : t.val < 8 := t.isLt
  obtain ⟨i, hi⟩ : ∃ i : Fin 4352, i.val = 2176 * (t.val / 2 % 2) + y0.val := ⟨⟨_, by omega⟩, rfl⟩
  obtain ⟨j, hj⟩ : ∃ j : Fin 1024, j.val = 512 * (t.val / 4) + y1.val := ⟨⟨_, by omega⟩, rfl⟩
  have e : (win0_2.blk t).view.emb (ix2 y0 y1) = ix2 i j := by
    blk_ext [idx2 t]
    all_goals omega
  refine ((written m c t hr y0 y1).trans ?_).trans (congrArg (total (argA m c) (argB m c)) e.symm)
  refine (congrArg₂ (· + ·) (part_ix m c _ y0 y1 i j ?_ ?_ 0 ?_ fun k => by omega)
    (part_ix m c t y0 y1 i j hi hj 1 hr fun k => by omega)).trans ?_
  · (try dsimp only); omega
  · (try dsimp only); omega
  · (try dsimp only); omega
  · exact sum_halves (n := 1408) rfl fun k => argA m c (ix2 i k) * argB m c (ix2 j ⟨k.val, by omega⟩)

end

section
open Cert.UpDxVRefIdeal Cert.UpDxVRefIdeal.Gen

/-- The reference's result is the same sum. -/
theorem ref_eq (x : FVec Ideal S4352x2816 .bf16) (w : FVec Ideal S1024x5632 .bf16) :
    (Host.dotGeneral dot_S4352x2816_S1024x2816_S4352x1024_1_1_0_0_n_n none (extf .f32 x bitsLt_bf16_f32) (extf .f32 (extractStridedSlice S1024x2816 ![0, 0] w slices_S1024x5632_S1024x2816_0_0) bitsLt_bf16_f32) : FVec Ideal S4352x1024 .f32) = total x w := by
  funext y
  idx_vars y
  refine Eq.trans (b := ∑ k : Fin 2816, x (ix2 y0 k) * w (ix2 y1 ⟨k.val, by omega⟩)) ?_ ?_
  · pointwise
  · exact Finset.sum_congr rfl fun k _ => rfl

end

/-- The kernel's result is the reference's. -/
theorem algebraic : Cert.algebraic_UpDxVIdeal_UpDxVRefIdeal (hUpDxVIdeal := Cert.UpDxVIdeal.Gen.facts)
    (hUpDxVRefIdeal := Cert.UpDxVRefIdeal.Gen.facts) := by
  intro m g m' g' _ hargs
  refine ⟨fun c => (Cert.UpDxVIdeal.Gen.dats m 0 c).arrAt 2 Cert.UpDxVIdeal.cfg0.N, Cert.UpDxVIdeal.Value.run_blocks m g, ?_⟩
  refine (θ_run _ _ _).mono (fun r h c => ?_) (Cert.UpDxVRefIdeal.Value.run m' g')
  refine ⟨(h c).1.trans ?_, (h c).2⟩
  rw [(hargs c).2.2, (hargs c).2.1]
  exact (ref_eq _ _).trans (final m c).symm

/-- The reference runs and keeps its arguments; it declares no semaphore. -/
theorem frame_r : Cert.quiescent_UpDxVRefIdeal (hUpDxVRefIdeal := Cert.UpDxVRefIdeal.Gen.facts) := by
  intro m ρ _
  exact (θ_run Cert.UpDxVRefIdeal.defs _ _).mono (fun r h => ⟨fun c => (h c).2,
      Idealize.ShloMosaic.sem_eq_zero_of_no_sems (by decide) r.2⟩)
    (Cert.UpDxVRefIdeal.Value.run m ρ)

end Cert.Products.UpDxV
-- ==== Proof.UpDxG.lean ====
/-
  The gradient of the rows that enter the feed-forward layer's first product, through its gate half: the call sums two
  blocks of 1408 columns in its scratch and writes each block of the result at the second.
-/
module

public import proofs.«01_k».proof.Defs
public import proofs.«01_k».proof.Proof.Sums
public import proofs.«01_k».proof.Proof.Gen.UpDxG.Frame
public import proofs.«01_k».proof.Proof.Gen.UpDxGIdeal.Value
public import proofs.«01_k».proof.Proof.Gen.UpDxGRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Products.UpDxG

open Idealize.ShloMosaic Idealize.ShloMosaic.TcCoe Idealize.SL.Sem Pipeline

section
open Cert.UpDxGIdeal Cert.UpDxGIdeal.Gen

variable (m : (ℓ : Loc nD τ sig) → Buf (Elt Ideal) ℓ) (c : Dev nD)

abbrev argA : FVec Ideal S4352x2816 .bf16 := m ((c.tc : Thread nD τ).loc main_arg2)
abbrev argB : FVec Ideal S1024x5632 .bf16 := m ((c.tc : Thread nD τ).loc main_arg1)

theorem in_a (i : Fin 4352) (k : Fin 2816) : V m c main_arg2 (ix2 i k) = argA m c (ix2 i k) := congrFun (V_main_arg2 m c) _

theorem in_b : V m c main_arg1 = argB m c := V_main_arg1 m c

theorem idx0 : ∀ t : Fin cfg0.N, win0_0.index t = ![t.val / 2 % 2, t.val % 2] := (by decide +kernel : ∀ t : Fin grid0.N, _)
theorem idx1 : ∀ t : Fin cfg0.N, win0_1.index t = ![t.val / 4, t.val % 2 + 2] := (by decide +kernel : ∀ t : Fin grid0.N, _)
theorem idx2 : ∀ t : Fin cfg0.N, win0_2.index t = ![t.val / 2 % 2, t.val / 4] := (by decide +kernel : ∀ t : Fin grid0.N, _)

theorem rd_a (t : Fin cfg0.N) (r : Fin 2176) (k : Fin 1408) : iblk m c 0 t (ix2 r k)
    = V m c main_arg2 (ix2 ⟨2176 * (t.val / 2 % 2) + r.val, by have : t.val < 8 := t.isLt; omega⟩ ⟨1408 * (t.val % 2) + k.val, by have : t.val < 8 := t.isLt; omega⟩) := by
  have ht : t.val < 8 := t.isLt
  blk_ext [iblk, idx0 t]

theorem rd_b (t : Fin cfg0.N) (j : Fin 512) (k : Fin 1408) : iblk m c 1 t (ix2 j k)
    = V m c main_arg1 (ix2 ⟨512 * (t.val / 4) + j.val, by have : t.val < 8 := t.isLt; omega⟩ ⟨1408 * (t.val % 2 + 2) + k.val, by have : t.val < 8 := t.isLt; omega⟩) := by
  have ht : t.val < 8 := t.isLt
  blk_ext [iblk, idx1 t]

theorem pay_ix (x : FVec Ideal S2176x1408 .bf16) (w : FVec Ideal S512x1408 .bf16) (r : Fin 2176) (j : Fin 512) :
    (k0_pay1 x w : FVec Ideal S2176x512 .f32) (ix2 r j) = ∑ k : Fin 1408, x (ix2 r k) * w (ix2 j k) := by
  pointwise [k0_pay1]

/-- The product of a point's two blocks. -/
def part (t : Fin cfg0.N) : FVec Ideal S2176x512 .f32 := k0_pay1 (iblk m c 0 t) (iblk m c 1 t)

/-- The result: the sum over the whole contracted axis. -/
def total (x : FVec Ideal S4352x2816 .bf16) (w : FVec Ideal S1024x5632 .bf16) : FVec Ideal S4352x1024 .f32 :=
  fun y => ∑ k : Fin 2816, x (ix2 (y 0) k) * w (ix2 (y 1) ⟨2816 + k.val, by omega⟩)

theorem part_ix (t : Fin cfg0.N) (r : Fin 2176) (j : Fin 512) (i : Fin 4352) (j' : Fin 1024) (hi : i.val = 2176 * (t.val / 2 % 2) + r.val)
    (hj : j'.val = 512 * (t.val / 4) + j.val) (e : ℕ) (he : t.val % 2 = e) (hb : ∀ k : Fin 1408, 1408 * e + k.val < 2816) :
    part m c t (ix2 r j) = ∑ k : Fin 1408, argA m c (ix2 i ⟨1408 * e + k.val, hb k⟩) * argB m c (ix2 j' ⟨2816 + (1408 * e + k.val), by have := hb k; omega⟩) := by
  subst he
  have ht : t.val < 8 := t.isLt
  refine (pay_ix _ _ r j).trans (Finset.sum_congr rfl fun k _ => congrArg₂ (· * ·)
    ((rd_a m c t r k).trans ((in_a m c _ _).trans (congrArg (argA m c) ?_)))
    ((rd_b m c t j k).trans ((congrFun (in_b m c) _).trans (congrArg (argB m c) ?_))))
  all_goals
    refine congrArg₂ ix2 (Fin.ext ?_) (Fin.ext ?_)
    all_goals first | rfl | exact hi.symm | exact hj.symm | (dsimp only; omega)

/-- What the scratch holds after an even point. -/
theorem scratch (t : Fin cfg0.N) (h : t.val % 2 = 0) : (outsAt0 m c t.val t.isLt).2 = part m c t := by
  rw [outsAt0_A m c t h (by omega) (by omega)]
  frame_out
  unfold k0_pay2
  exact shapeCast_self _ _

/-- What is written back at an odd point. -/
theorem written (t : Fin cfg0.N) (h : t.val % 2 = 1) (r : Fin 2176) (j : Fin 512) :
    (outsAt0 m c t.val t.isLt).1 (ix2 r j)
      = part m c ⟨t.val - 1, lt_of_le_of_lt (Nat.sub_le _ _) t.isLt⟩ (ix2 r j) + part m c t (ix2 r j) := by
  rw [outsAt0_B m c t (by omega) h h]
  frame_out
  unfold k0_pay3
  rw [shapeCast_self]
  exact congrArg (· + part m c t (ix2 r j)) (congrFun ((Memref.IsWhole.read_unread (Memref.isWhole_whole cc0_scratch0) _).trans
    (scratch m c ⟨t.val - 1, lt_of_le_of_lt (Nat.sub_le _ _) t.isLt⟩ (by show (t.val - 1) % 2 = 0; omega))) (ix2 r j))

theorem final : (dats m 0 c).arrAt 2 cfg0.N = total (argA m c) (argB m c) := by
  refine (dats m 0 c).arrAt_eq_of_covers 2 (total (argA m c) (argB m c)) (by decide +kernel) fun t hf y => ?_
  blk_simp
  rw [after0_2]
  have hr := (flush0_2 t).mp hf
  change S2176x512.Idx at y
  idx_vars y
  have ht : t.val < 8 := t.isLt
  obtain ⟨i, hi⟩ : ∃ i : Fin 4352, i.val = 2176 * (t.val / 2 % 2) + y0.val := ⟨⟨_, by omega⟩, rfl⟩
  obtain ⟨j, hj⟩ : ∃ j : Fin 1024, j.val = 512 * (t.val / 4) + y1.val := ⟨⟨_, by omega⟩, rfl⟩
  have e : (win0_2.blk t).view.emb (ix2 y0 y1) = ix2 i j := by
    blk_ext [idx2 t]
    all_goals omega
  refine ((written m c t hr y0 y1).trans ?_).trans (congrArg (total (argA m c) (argB m c)) e.symm)
  refine (congrArg₂ (· + ·) (part_ix m c _ y0 y1 i j ?_ ?_ 0 ?_ fun k => by omega)
    (part_ix m c t y0 y1 i j hi hj 1 hr fun k => by omega)).trans ?_
  · (try dsimp only); omega
  · (try dsimp only); omega
  · (try dsimp only); omega
  · exact sum_halves (n := 1408) rfl fun k => argA m c (ix2 i k) * argB m c (ix2 j ⟨2816 + k.val, by omega⟩)

end

section
open Cert.UpDxGRefIdeal Cert.UpDxGRefIdeal.Gen

/-- The reference's result is the same sum. -/
theorem ref_eq (x : FVec Ideal S4352x2816 .bf16) (w : FVec Ideal S1024x5632 .bf16) :
    (Host.dotGeneral dot_S4352x2816_S1024x2816_S4352x1024_1_1_0_0_n_n none (extf .f32 x bitsLt_bf16_f32) (extf .f32 (extractStridedSlice S1024x2816 ![0, 2816] w slices_S1024x5632_S1024x2816_0_2816) bitsLt_bf16_f32) : FVec Ideal S4352x1024 .f32) = total x w := by
  funext y
  idx_vars y
  refine Eq.trans (b := ∑ k : Fin 2816, x (ix2 y0 k) * w (ix2 y1 ⟨2816 + k.val, by omega⟩)) ?_ ?_
  · pointwise
  · exact Finset.sum_congr rfl fun k _ => rfl

end

/-- The kernel's result is the reference's. -/
theorem algebraic : Cert.algebraic_UpDxGIdeal_UpDxGRefIdeal (hUpDxGIdeal := Cert.UpDxGIdeal.Gen.facts)
    (hUpDxGRefIdeal := Cert.UpDxGRefIdeal.Gen.facts) := by
  intro m g m' g' _ hargs
  refine ⟨fun c => (Cert.UpDxGIdeal.Gen.dats m 0 c).arrAt 2 Cert.UpDxGIdeal.cfg0.N, Cert.UpDxGIdeal.Value.run_blocks m g, ?_⟩
  refine (θ_run _ _ _).mono (fun r h c => ?_) (Cert.UpDxGRefIdeal.Value.run m' g')
  refine ⟨(h c).1.trans ?_, (h c).2⟩
  rw [(hargs c).2.2, (hargs c).2.1]
  exact (ref_eq _ _).trans (final m c).symm

/-- The reference runs and keeps its arguments; it declares no semaphore. -/
theorem frame_r : Cert.quiescent_UpDxGRefIdeal (hUpDxGRefIdeal := Cert.UpDxGRefIdeal.Gen.facts) := by
  intro m ρ _
  exact (θ_run Cert.UpDxGRefIdeal.defs _ _).mono (fun r h => ⟨fun c => (h c).2,
      Idealize.ShloMosaic.sem_eq_zero_of_no_sems (by decide) r.2⟩)
    (Cert.UpDxGRefIdeal.Value.run m ρ)

end Cert.Products.UpDxG
-- ==== Proof.Qkv.lean ====
/-
  The attention layer's first product: each point writes a block of the
  result, a sum over the whole contracted axis.
-/
module

public import proofs.«01_k».proof.Defs
public import proofs.«01_k».proof.Proof.Sums
public import proofs.«01_k».proof.Proof.Gen.Qkv.Frame
public import proofs.«01_k».proof.Proof.Gen.QkvIdeal.Value
public import proofs.«01_k».proof.Proof.Gen.QkvRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Products.Qkv

open Idealize.ShloMosaic Idealize.ShloMosaic.TcCoe Idealize.SL.Sem Pipeline

section
open Cert.QkvIdeal Cert.QkvIdeal.Gen

variable (m : (ℓ : Loc nD τ sig) → Buf (Elt Ideal) ℓ) (c : Dev nD)

abbrev argA : FVec Ideal S4352x1024 .bf16 := m ((c.tc : Thread nD τ).loc main_arg0)
abbrev argB : FVec Ideal S1024x1536 .bf16 := m ((c.tc : Thread nD τ).loc main_arg1)

theorem in_a (i : Fin 4352) (k : Fin 1024) : V m c main_arg0 (ix2 i k) = argA m c (ix2 i k) := congrFun (V_main_arg0 m c) _

theorem in_b : V m c main_arg1 = argB m c := V_main_arg1 m c

theorem idx0 : ∀ t : Fin cfg0.N, win0_0.index t = ![t.val % 2, 0] := (by decide +kernel : ∀ t : Fin grid0.N, _)
theorem idx1 : ∀ t : Fin cfg0.N, win0_1.index t = ![0, t.val / 2] := (by decide +kernel : ∀ t : Fin grid0.N, _)
theorem idx2 : ∀ t : Fin cfg0.N, win0_2.index t = ![t.val % 2, t.val / 2] := (by decide +kernel : ∀ t : Fin grid0.N, _)

theorem rd_a (t : Fin cfg0.N) (r : Fin 2176) (k : Fin 1024) : iblk m c 0 t (ix2 r k)
    = V m c main_arg0 (ix2 ⟨2176 * (t.val % 2) + r.val, by have : t.val < 6 := t.isLt; omega⟩ k) := by
  have ht : t.val < 6 := t.isLt
  blk_ext [iblk, idx0 t]

theorem rd_b (t : Fin cfg0.N) (j : Fin 512) (k : Fin 1024) : iblk m c 1 t (ix2 k j)
    = V m c main_arg1 (ix2 k ⟨512 * (t.val / 2) + j.val, by have : t.val < 6 := t.isLt; omega⟩) := by
  have ht : t.val < 6 := t.isLt
  blk_ext [iblk, idx1 t]

theorem pay_ix (x : FVec Ideal S2176x1024 .bf16) (w : FVec Ideal S1024x512 .bf16) (r : Fin 2176) (j : Fin 512) :
    (k0_pay1 x w : FVec Ideal S2176x512 .f32) (ix2 r j) = ∑ k : Fin 1024, x (ix2 r k) * w (ix2 k j) := by
  pointwise [k0_pay1]

/-- The product of a point's two blocks. -/
def part (t : Fin cfg0.N) : FVec Ideal S2176x512 .f32 := k0_pay1 (iblk m c 0 t) (iblk m c 1 t)

/-- The result: the sum over the whole contracted axis. -/
def total (x : FVec Ideal S4352x1024 .bf16) (w : FVec Ideal S1024x1536 .bf16) : FVec Ideal S4352x1536 .f32 :=
  fun y => ∑ k : Fin 1024, x (ix2 (y 0) k) * w (ix2 k (y 1))

/-- What a point writes back. -/
theorem written (t : Fin cfg0.N) : outsAt0 m c t = part m c t := by
  unfold outsAt0
  frame_out
  rfl

theorem part_ix (t : Fin cfg0.N) (r : Fin 2176) (j : Fin 512) : part m c t (ix2 r j)
    = total (argA m c) (argB m c) (ix2 ⟨2176 * (t.val % 2) + r.val, by have : t.val < 6 := t.isLt; omega⟩ ⟨512 * (t.val / 2) + j.val, by have : t.val < 6 := t.isLt; omega⟩) :=
  (pay_ix _ _ r j).trans (Finset.sum_congr rfl fun k _ => congrArg₂ (· * ·) ((rd_a m c t r k).trans (in_a m c _ _))
    ((rd_b m c t j k).trans (congrFun (in_b m c) _)))

theorem final : (dats m 0 c).arrAt 2 cfg0.N = total (argA m c) (argB m c) := by
  refine (dats m 0 c).arrAt_eq_of_covers 2 (total (argA m c) (argB m c)) (by decide +kernel) fun t hf y => ?_
  blk_simp
  rw [after0_2]
  change S2176x512.Idx at y
  idx_vars y
  have ht : t.val < 6 := t.isLt
  have e : (win0_2.blk t).view.emb (ix2 y0 y1) = ix2 ⟨2176 * (t.val % 2) + y0.val, by have : t.val < 6 := t.isLt; omega⟩ ⟨512 * (t.val / 2) + y1.val, by have : t.val < 6 := t.isLt; omega⟩ := by
    blk_ext [idx2 t]
  exact ((congrFun (written m c t) _).trans (part_ix m c t y0 y1)).trans (congrArg (total (argA m c) (argB m c)) e.symm)

end

section
open Cert.QkvRefIdeal Cert.QkvRefIdeal.Gen

/-- The reference's result is the same sum. -/
theorem ref_eq (x : FVec Ideal S4352x1024 .bf16) (w : FVec Ideal S1024x1536 .bf16) :
    (Host.dotGeneral dot_S4352x1024_S1024x1536_S4352x1536_1_0_0_1_n_n none (extf .f32 x bitsLt_bf16_f32) (extf .f32 w bitsLt_bf16_f32) : FVec Ideal S4352x1536 .f32) = total x w := by
  funext y
  idx_vars y
  refine Eq.trans (b := ∑ k : Fin 1024, x (ix2 y0 k) * w (ix2 k y1)) ?_ ?_
  · pointwise
  · exact Finset.sum_congr rfl fun k _ => rfl

end

/-- The kernel's result is the reference's. -/
theorem algebraic : Cert.algebraic_QkvIdeal_QkvRefIdeal (hQkvIdeal := Cert.QkvIdeal.Gen.facts)
    (hQkvRefIdeal := Cert.QkvRefIdeal.Gen.facts) := by
  intro m g m' g' _ hargs
  refine ⟨fun c => (Cert.QkvIdeal.Gen.dats m 0 c).arrAt 2 Cert.QkvIdeal.cfg0.N, Cert.QkvIdeal.Value.run_blocks m g, ?_⟩
  refine (θ_run _ _ _).mono (fun r h c => ?_) (Cert.QkvRefIdeal.Value.run m' g')
  refine ⟨(h c).1.trans ?_, (h c).2⟩
  rw [(hargs c).1, (hargs c).2]
  exact (ref_eq _ _).trans (final m c).symm

/-- The reference runs and keeps its arguments; it declares no semaphore. -/
theorem frame_r : Cert.quiescent_QkvRefIdeal (hQkvRefIdeal := Cert.QkvRefIdeal.Gen.facts) := by
  intro m ρ _
  exact (θ_run Cert.QkvRefIdeal.defs _ _).mono (fun r h => ⟨fun c => (h c).2,
      Idealize.ShloMosaic.sem_eq_zero_of_no_sems (by decide) r.2⟩)
    (Cert.QkvRefIdeal.Value.run m ρ)

end Cert.Products.Qkv
-- ==== Proof.QkvDw.lean ====
/-
  The gradient of the attention layer's first weight: the call sums two blocks of 2176 rows
  in its scratch and writes each block of the result at the second.
-/
module

public import proofs.«01_k».proof.Defs
public import proofs.«01_k».proof.Proof.Sums
public import proofs.«01_k».proof.Proof.Gen.QkvDw.Frame
public import proofs.«01_k».proof.Proof.Gen.QkvDwIdeal.Value
public import proofs.«01_k».proof.Proof.Gen.QkvDwRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Products.QkvDw

open Idealize.ShloMosaic Idealize.ShloMosaic.TcCoe Idealize.SL.Sem Pipeline

section
open Cert.QkvDwIdeal Cert.QkvDwIdeal.Gen

variable (m : (ℓ : Loc nD τ sig) → Buf (Elt Ideal) ℓ) (c : Dev nD)

abbrev argA : FVec Ideal S4352x1024 .bf16 := m ((c.tc : Thread nD τ).loc main_arg0)
abbrev argB : FVec Ideal S4352x1536 .bf16 := m ((c.tc : Thread nD τ).loc main_arg2)

theorem in_a (i : Fin 1024) (k : Fin 4352) : V m c main_v0 (ix2 i k) = argA m c (ix2 k i) := by
  unfold V
  after_reads_at

theorem in_b : V m c main_arg2 = argB m c := V_main_arg2 m c

theorem idx0 : ∀ t : Fin cfg0.N, win0_0.index t = ![0, t.val % 2] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![0, 0] := (by decide +kernel : ∀ t : Fin grid0.N, _)

theorem rd_a (t : Fin cfg0.N) (r : Fin 1024) (k : Fin 2176) : iblk m c 0 t (ix2 r k)
    = V m c main_v0 (ix2 r ⟨2176 * (t.val % 2) + k.val, by have : t.val < 2 := t.isLt; omega⟩) := by
  have ht : t.val < 2 := t.isLt
  blk_ext [iblk, idx0 t]

theorem rd_b (t : Fin cfg0.N) (j : Fin 1536) (k : Fin 2176) : iblk m c 1 t (ix2 k j)
    = V m c main_arg2 (ix2 ⟨2176 * (t.val % 2) + k.val, by have : t.val < 2 := t.isLt; omega⟩ j) := by
  have ht : t.val < 2 := t.isLt
  blk_ext [iblk, idx1 t]

theorem pay_ix (x : FVec Ideal S1024x2176 .bf16) (w : FVec Ideal S2176x1536 .bf16) (r : Fin 1024) (j : Fin 1536) :
    (k0_pay1 x w : FVec Ideal S1024x1536 .f32) (ix2 r j) = ∑ k : Fin 2176, x (ix2 r k) * w (ix2 k j) := by
  pointwise [k0_pay1]

/-- The product of a point's two blocks. -/
def part (t : Fin cfg0.N) : FVec Ideal S1024x1536 .f32 := k0_pay1 (iblk m c 0 t) (iblk m c 1 t)

/-- The result: the sum over the whole contracted axis. -/
def total (x : FVec Ideal S4352x1024 .bf16) (w : FVec Ideal S4352x1536 .bf16) : FVec Ideal S1024x1536 .f32 :=
  fun y => ∑ k : Fin 4352, x (ix2 k (y 0)) * w (ix2 k (y 1))

theorem part_ix (t : Fin cfg0.N) (r : Fin 1024) (j : Fin 1536) (i : Fin 1024) (j' : Fin 1536) (hi : i.val = r.val)
    (hj : j'.val = j.val) (e : ℕ) (he : t.val % 2 = e) (hb : ∀ k : Fin 2176, 2176 * e + k.val < 4352) :
    part m c t (ix2 r j) = ∑ k : Fin 2176, argA m c (ix2 ⟨2176 * e + k.val, hb k⟩ i) * argB m c (ix2 ⟨2176 * e + k.val, hb k⟩ j') := by
  subst he
  have ht : t.val < 2 := t.isLt
  refine (pay_ix _ _ r j).trans (Finset.sum_congr rfl fun k _ => congrArg₂ (· * ·)
    ((rd_a m c t r k).trans ((in_a m c _ _).trans (congrArg (argA m c) ?_)))
    ((rd_b m c t j k).trans ((congrFun (in_b m c) _).trans (congrArg (argB m c) ?_))))
  all_goals
    refine congrArg₂ ix2 (Fin.ext ?_) (Fin.ext ?_)
    all_goals first | rfl | exact hi.symm | exact hj.symm | (dsimp only; omega)

/-- What the scratch holds after an even point. -/
theorem scratch (t : Fin cfg0.N) (h : t.val % 2 = 0) : (outsAt0 m c t.val t.isLt).2 = part m c t := by
  rw [outsAt0_A m c t h (by omega) (by omega)]
  frame_out
  unfold k0_pay2
  exact shapeCast_self _ _

/-- What is written back at an odd point. -/
theorem written (t : Fin cfg0.N) (h : t.val % 2 = 1) (r : Fin 1024) (j : Fin 1536) :
    (outsAt0 m c t.val t.isLt).1 (ix2 r j)
      = part m c ⟨t.val - 1, lt_of_le_of_lt (Nat.sub_le _ _) t.isLt⟩ (ix2 r j) + part m c t (ix2 r j) := by
  rw [outsAt0_B m c t (by omega) h h]
  frame_out
  unfold k0_pay3
  rw [shapeCast_self]
  exact congrArg (· + part m c t (ix2 r j)) (congrFun ((Memref.IsWhole.read_unread (Memref.isWhole_whole cc0_scratch0) _).trans
    (scratch m c ⟨t.val - 1, lt_of_le_of_lt (Nat.sub_le _ _) t.isLt⟩ (by show (t.val - 1) % 2 = 0; omega))) (ix2 r j))

theorem final : (dats m 0 c).arrAt 2 cfg0.N = total (argA m c) (argB m c) := by
  refine (dats m 0 c).arrAt_eq_of_covers 2 (total (argA m c) (argB m c)) (by decide +kernel) fun t hf y => ?_
  blk_simp
  rw [after0_2]
  have hr := (flush0_2 t).mp hf
  change S1024x1536.Idx at y
  idx_vars y
  have ht : t.val < 2 := t.isLt
  obtain ⟨i, hi⟩ : ∃ i : Fin 1024, i.val = y0.val := ⟨⟨_, by omega⟩, rfl⟩
  obtain ⟨j, hj⟩ : ∃ j : Fin 1536, j.val = y1.val := ⟨⟨_, by omega⟩, rfl⟩
  have e : (win0_2.blk t).view.emb (ix2 y0 y1) = ix2 i j := by
    blk_ext [idx2 t]
    all_goals omega
  refine ((written m c t hr y0 y1).trans ?_).trans (congrArg (total (argA m c) (argB m c)) e.symm)
  refine (congrArg₂ (· + ·) (part_ix m c _ y0 y1 i j ?_ ?_ 0 ?_ fun k => by omega)
    (part_ix m c t y0 y1 i j hi hj 1 hr fun k => by omega)).trans ?_
  · (try dsimp only); omega
  · (try dsimp only); omega
  · (try dsimp only); omega
  · exact sum_halves (n := 2176) rfl fun k => argA m c (ix2 k i) * argB m c (ix2 k j)

end

section
open Cert.QkvDwRefIdeal Cert.QkvDwRefIdeal.Gen

/-- The reference's result is the same sum. -/
theorem ref_eq (x : FVec Ideal S4352x1024 .bf16) (w : FVec Ideal S4352x1536 .bf16) :
    (transpose S1024x1536 [1, 0] (Host.dotGeneral dot_S4352x1536_S4352x1024_S1536x1024_0_0_1_1_n_n none (extf .f32 w bitsLt_bf16_f32) (extf .f32 x bitsLt_bf16_f32)) transposes_S1536x1024_S1024x1536_1_0 : FVec Ideal S1024x1536 .f32) = total x w := by
  funext y
  idx_vars y
  refine Eq.trans (b := ∑ k : Fin 4352, w (ix2 k y1) * x (ix2 k y0)) ?_ ?_
  · pointwise
  · exact Finset.sum_congr rfl fun k _ => mul_comm _ _

end

/-- The kernel's result is the reference's. -/
theorem algebraic : Cert.algebraic_QkvDwIdeal_QkvDwRefIdeal (hQkvDwIdeal := Cert.QkvDwIdeal.Gen.facts)
    (hQkvDwRefIdeal := Cert.QkvDwRefIdeal.Gen.facts) := by
  intro m g m' g' _ hargs
  refine ⟨fun c => (Cert.QkvDwIdeal.Gen.dats m 0 c).arrAt 2 Cert.QkvDwIdeal.cfg0.N, Cert.QkvDwIdeal.Value.run_blocks m g, ?_⟩
  refine (θ_run _ _ _).mono (fun r h c => ?_) (Cert.QkvDwRefIdeal.Value.run m' g')
  refine ⟨(h c).1.trans ?_, (h c).2⟩
  rw [(hargs c).1, (hargs c).2.2]
  exact (ref_eq _ _).trans (final m c).symm

/-- The reference runs and keeps its arguments; it declares no semaphore. -/
theorem frame_r : Cert.quiescent_QkvDwRefIdeal (hQkvDwRefIdeal := Cert.QkvDwRefIdeal.Gen.facts) := by
  intro m ρ _
  exact (θ_run Cert.QkvDwRefIdeal.defs _ _).mono (fun r h => ⟨fun c => (h c).2,
      Idealize.ShloMosaic.sem_eq_zero_of_no_sems (by decide) r.2⟩)
    (Cert.QkvDwRefIdeal.Value.run m ρ)

end Cert.Products.QkvDw
-- ==== Proof.QkvDx.lean ====
/-
  The gradient of the rows that enter the attention layer's first product: each point writes a block of the
  result, a sum over the whole contracted axis.
-/
module

public import proofs.«01_k».proof.Defs
public import proofs.«01_k».proof.Proof.Sums
public import proofs.«01_k».proof.Proof.Gen.QkvDx.Frame
public import proofs.«01_k».proof.Proof.Gen.QkvDxIdeal.Value
public import proofs.«01_k».proof.Proof.Gen.QkvDxRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Products.QkvDx

open Idealize.ShloMosaic Idealize.ShloMosaic.TcCoe Idealize.SL.Sem Pipeline

section
open Cert.QkvDxIdeal Cert.QkvDxIdeal.Gen

variable (m : (ℓ : Loc nD τ sig) → Buf (Elt Ideal) ℓ) (c : Dev nD)

abbrev argA : FVec Ideal S4352x1536 .bf16 := m ((c.tc : Thread nD τ).loc main_arg2)
abbrev argB : FVec Ideal S1024x1536 .bf16 := m ((c.tc : Thread nD τ).loc main_arg1)

theorem in_a (i : Fin 4352) (k : Fin 1536) : V m c main_arg2 (ix2 i k) = argA m c (ix2 i k) := congrFun (V_main_arg2 m c) _

theorem in_b : V m c main_arg1 = argB m c := V_main_arg1 m c

theorem idx0 : ∀ t : Fin cfg0.N, win0_0.index t = ![t.val % 2, 0] := (by decide +kernel : ∀ t : Fin grid0.N, _)
theorem idx1 : ∀ t : Fin cfg0.N, win0_1.index t = ![t.val / 2, 0] := (by decide +kernel : ∀ t : Fin grid0.N, _)
theorem idx2 : ∀ t : Fin cfg0.N, win0_2.index t = ![t.val % 2, t.val / 2] := (by decide +kernel : ∀ t : Fin grid0.N, _)

theorem rd_a (t : Fin cfg0.N) (r : Fin 2176) (k : Fin 1536) : iblk m c 0 t (ix2 r k)
    = V m c main_arg2 (ix2 ⟨2176 * (t.val % 2) + r.val, by have : t.val < 4 := t.isLt; omega⟩ k) := by
  have ht : t.val < 4 := t.isLt
  blk_ext [iblk, idx0 t]

theorem rd_b (t : Fin cfg0.N) (j : Fin 512) (k : Fin 1536) : iblk m c 1 t (ix2 j k)
    = V m c main_arg1 (ix2 ⟨512 * (t.val / 2) + j.val, by have : t.val < 4 := t.isLt; omega⟩ k) := by
  have ht : t.val < 4 := t.isLt
  blk_ext [iblk, idx1 t]

theorem pay_ix (x : FVec Ideal S2176x1536 .bf16) (w : FVec Ideal S512x1536 .bf16) (r : Fin 2176) (j : Fin 512) :
    (k0_pay1 x w : FVec Ideal S2176x512 .f32) (ix2 r j) = ∑ k : Fin 1536, x (ix2 r k) * w (ix2 j k) := by
  pointwise [k0_pay1]

/-- The product of a point's two blocks. -/
def part (t : Fin cfg0.N) : FVec Ideal S2176x512 .f32 := k0_pay1 (iblk m c 0 t) (iblk m c 1 t)

/-- The result: the sum over the whole contracted axis. -/
def total (x : FVec Ideal S4352x1536 .bf16) (w : FVec Ideal S1024x1536 .bf16) : FVec Ideal S4352x1024 .f32 :=
  fun y => ∑ k : Fin 1536, x (ix2 (y 0) k) * w (ix2 (y 1) k)

/-- What a point writes back. -/
theorem written (t : Fin cfg0.N) : outsAt0 m c t = part m c t := by
  unfold outsAt0
  frame_out
  rfl

theorem part_ix (t : Fin cfg0.N) (r : Fin 2176) (j : Fin 512) : part m c t (ix2 r j)
    = total (argA m c) (argB m c) (ix2 ⟨2176 * (t.val % 2) + r.val, by have : t.val < 4 := t.isLt; omega⟩ ⟨512 * (t.val / 2) + j.val, by have : t.val < 4 := t.isLt; omega⟩) :=
  (pay_ix _ _ r j).trans (Finset.sum_congr rfl fun k _ => congrArg₂ (· * ·) ((rd_a m c t r k).trans (in_a m c _ _))
    ((rd_b m c t j k).trans (congrFun (in_b m c) _)))

theorem final : (dats m 0 c).arrAt 2 cfg0.N = total (argA m c) (argB m c) := by
  refine (dats m 0 c).arrAt_eq_of_covers 2 (total (argA m c) (argB m c)) (by decide +kernel) fun t hf y => ?_
  blk_simp
  rw [after0_2]
  change S2176x512.Idx at y
  idx_vars y
  have ht : t.val < 4 := t.isLt
  have e : (win0_2.blk t).view.emb (ix2 y0 y1) = ix2 ⟨2176 * (t.val % 2) + y0.val, by have : t.val < 4 := t.isLt; omega⟩ ⟨512 * (t.val / 2) + y1.val, by have : t.val < 4 := t.isLt; omega⟩ := by
    blk_ext [idx2 t]
  exact ((congrFun (written m c t) _).trans (part_ix m c t y0 y1)).trans (congrArg (total (argA m c) (argB m c)) e.symm)

end

section
open Cert.QkvDxRefIdeal Cert.QkvDxRefIdeal.Gen

/-- The reference's result is the same sum. -/
theorem ref_eq (x : FVec Ideal S4352x1536 .bf16) (w : FVec Ideal S1024x1536 .bf16) :
    (Host.dotGeneral dot_S4352x1536_S1024x1536_S4352x1024_1_1_0_0_n_n none (extf .f32 x bitsLt_bf16_f32) (extf .f32 w bitsLt_bf16_f32) : FVec Ideal S4352x1024 .f32) = total x w := by
  funext y
  idx_vars y
  refine Eq.trans (b := ∑ k : Fin 1536, x (ix2 y0 k) * w (ix2 y1 k)) ?_ ?_
  · pointwise
  · exact Finset.sum_congr rfl fun k _ => rfl

end

/-- The kernel's result is the reference's. -/
theorem algebraic : Cert.algebraic_QkvDxIdeal_QkvDxRefIdeal (hQkvDxIdeal := Cert.QkvDxIdeal.Gen.facts)
    (hQkvDxRefIdeal := Cert.QkvDxRefIdeal.Gen.facts) := by
  intro m g m' g' _ hargs
  refine ⟨fun c => (Cert.QkvDxIdeal.Gen.dats m 0 c).arrAt 2 Cert.QkvDxIdeal.cfg0.N, Cert.QkvDxIdeal.Value.run_blocks m g, ?_⟩
  refine (θ_run _ _ _).mono (fun r h c => ?_) (Cert.QkvDxRefIdeal.Value.run m' g')
  refine ⟨(h c).1.trans ?_, (h c).2⟩
  rw [(hargs c).2.2, (hargs c).2.1]
  exact (ref_eq _ _).trans (final m c).symm

/-- The reference runs and keeps its arguments; it declares no semaphore. -/
theorem frame_r : Cert.quiescent_QkvDxRefIdeal (hQkvDxRefIdeal := Cert.QkvDxRefIdeal.Gen.facts) := by
  intro m ρ _
  exact (θ_run Cert.QkvDxRefIdeal.defs _ _).mono (fun r h => ⟨fun c => (h c).2,
      Idealize.ShloMosaic.sem_eq_zero_of_no_sems (by decide) r.2⟩)
    (Cert.QkvDxRefIdeal.Value.run m ρ)

end Cert.Products.QkvDx
-- ==== Proof.Out.lean ====
/-
  The attention layer's second product; the state-space layer's two gates are the same call: each point writes a block of the
  result, a sum over the whole contracted axis.
-/
module

public import proofs.«01_k».proof.Defs
public import proofs.«01_k».proof.Proof.Sums
public import proofs.«01_k».proof.Proof.Gen.Out.Frame
public import proofs.«01_k».proof.Proof.Gen.OutIdeal.Value
public import proofs.«01_k».proof.Proof.Gen.OutRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Products.Out

open Idealize.ShloMosaic Idealize.ShloMosaic.TcCoe Idealize.SL.Sem Pipeline

section
open Cert.OutIdeal Cert.OutIdeal.Gen

variable (m : (ℓ : Loc nD τ sig) → Buf (Elt Ideal) ℓ) (c : Dev nD)

abbrev argA : FVec Ideal S4352x1024 .bf16 := m ((c.tc : Thread nD τ).loc main_arg0)
abbrev argB : FVec Ideal S1024x1024 .bf16 := m ((c.tc : Thread nD τ).loc main_arg1)

theorem in_a (i : Fin 4352) (k : Fin 1024) : V m c main_arg0 (ix2 i k) = argA m c (ix2 i k) := congrFun (V_main_arg0 m c) _

theorem in_b : V m c main_arg1 = argB m c := V_main_arg1 m c

theorem idx0 : ∀ t : Fin cfg0.N, win0_0.index t = ![t.val % 2, 0] := (by decide +kernel : ∀ t : Fin grid0.N, _)
theorem idx1 : ∀ t : Fin cfg0.N, win0_1.index t = ![0, t.val / 2] := (by decide +kernel : ∀ t : Fin grid0.N, _)
theorem idx2 : ∀ t : Fin cfg0.N, win0_2.index t = ![t.val % 2, t.val / 2] := (by decide +kernel : ∀ t : Fin grid0.N, _)

theorem rd_a (t : Fin cfg0.N) (r : Fin 2176) (k : Fin 1024) : iblk m c 0 t (ix2 r k)
    = V m c main_arg0 (ix2 ⟨2176 * (t.val % 2) + r.val, by have : t.val < 4 := t.isLt; omega⟩ k) := by
  have ht : t.val < 4 := t.isLt
  blk_ext [iblk, idx0 t]

theorem rd_b (t : Fin cfg0.N) (j : Fin 512) (k : Fin 1024) : iblk m c 1 t (ix2 k j)
    = V m c main_arg1 (ix2 k ⟨512 * (t.val / 2) + j.val, by have : t.val < 4 := t.isLt; omega⟩) := by
  have ht : t.val < 4 := t.isLt
  blk_ext [iblk, idx1 t]

theorem pay_ix (x : FVec Ideal S2176x1024 .bf16) (w : FVec Ideal S1024x512 .bf16) (r : Fin 2176) (j : Fin 512) :
    (k0_pay1 x w : FVec Ideal S2176x512 .f32) (ix2 r j) = ∑ k : Fin 1024, x (ix2 r k) * w (ix2 k j) := by
  pointwise [k0_pay1]

/-- The product of a point's two blocks. -/
def part (t : Fin cfg0.N) : FVec Ideal S2176x512 .f32 := k0_pay1 (iblk m c 0 t) (iblk m c 1 t)

/-- The result: the sum over the whole contracted axis. -/
def total (x : FVec Ideal S4352x1024 .bf16) (w : FVec Ideal S1024x1024 .bf16) : FVec Ideal S4352x1024 .f32 :=
  fun y => ∑ k : Fin 1024, x (ix2 (y 0) k) * w (ix2 k (y 1))

/-- What a point writes back. -/
theorem written (t : Fin cfg0.N) : outsAt0 m c t = part m c t := by
  unfold outsAt0
  frame_out
  rfl

theorem part_ix (t : Fin cfg0.N) (r : Fin 2176) (j : Fin 512) : part m c t (ix2 r j)
    = total (argA m c) (argB m c) (ix2 ⟨2176 * (t.val % 2) + r.val, by have : t.val < 4 := t.isLt; omega⟩ ⟨512 * (t.val / 2) + j.val, by have : t.val < 4 := t.isLt; omega⟩) :=
  (pay_ix _ _ r j).trans (Finset.sum_congr rfl fun k _ => congrArg₂ (· * ·) ((rd_a m c t r k).trans (in_a m c _ _))
    ((rd_b m c t j k).trans (congrFun (in_b m c) _)))

theorem final : (dats m 0 c).arrAt 2 cfg0.N = total (argA m c) (argB m c) := by
  refine (dats m 0 c).arrAt_eq_of_covers 2 (total (argA m c) (argB m c)) (by decide +kernel) fun t hf y => ?_
  blk_simp
  rw [after0_2]
  change S2176x512.Idx at y
  idx_vars y
  have ht : t.val < 4 := t.isLt
  have e : (win0_2.blk t).view.emb (ix2 y0 y1) = ix2 ⟨2176 * (t.val % 2) + y0.val, by have : t.val < 4 := t.isLt; omega⟩ ⟨512 * (t.val / 2) + y1.val, by have : t.val < 4 := t.isLt; omega⟩ := by
    blk_ext [idx2 t]
  exact ((congrFun (written m c t) _).trans (part_ix m c t y0 y1)).trans (congrArg (total (argA m c) (argB m c)) e.symm)

end

section
open Cert.OutRefIdeal Cert.OutRefIdeal.Gen

/-- The reference's result is the same sum. -/
theorem ref_eq (x : FVec Ideal S4352x1024 .bf16) (w : FVec Ideal S1024x1024 .bf16) :
    (Host.dotGeneral dot_S4352x1024_S1024x1024_S4352x1024_1_0_0_1_n_n none (extf .f32 x bitsLt_bf16_f32) (extf .f32 w bitsLt_bf16_f32) : FVec Ideal S4352x1024 .f32) = total x w := by
  funext y
  idx_vars y
  refine Eq.trans (b := ∑ k : Fin 1024, x (ix2 y0 k) * w (ix2 k y1)) ?_ ?_
  · pointwise
  · exact Finset.sum_congr rfl fun k _ => rfl

end

/-- The kernel's result is the reference's. -/
theorem algebraic : Cert.algebraic_OutIdeal_OutRefIdeal (hOutIdeal := Cert.OutIdeal.Gen.facts)
    (hOutRefIdeal := Cert.OutRefIdeal.Gen.facts) := by
  intro m g m' g' _ hargs
  refine ⟨fun c => (Cert.OutIdeal.Gen.dats m 0 c).arrAt 2 Cert.OutIdeal.cfg0.N, Cert.OutIdeal.Value.run_blocks m g, ?_⟩
  refine (θ_run _ _ _).mono (fun r h c => ?_) (Cert.OutRefIdeal.Value.run m' g')
  refine ⟨(h c).1.trans ?_, (h c).2⟩
  rw [(hargs c).1, (hargs c).2]
  exact (ref_eq _ _).trans (final m c).symm

/-- The reference runs and keeps its arguments; it declares no semaphore. -/
theorem frame_r : Cert.quiescent_OutRefIdeal (hOutRefIdeal := Cert.OutRefIdeal.Gen.facts) := by
  intro m ρ _
  exact (θ_run Cert.OutRefIdeal.defs _ _).mono (fun r h => ⟨fun c => (h c).2,
      Idealize.ShloMosaic.sem_eq_zero_of_no_sems (by decide) r.2⟩)
    (Cert.OutRefIdeal.Value.run m ρ)

end Cert.Products.Out
-- ==== Proof.OutDw.lean ====
/-
  The gradient of the attention layer's second weight; those of the state-space layer's two gates are the same call: the call sums two blocks of 2176 rows
  in its scratch and writes each block of the result at the second.
-/
module

public import proofs.«01_k».proof.Defs
public import proofs.«01_k».proof.Proof.Sums
public import proofs.«01_k».proof.Proof.Gen.OutDw.Frame
public import proofs.«01_k».proof.Proof.Gen.OutDwIdeal.Value
public import proofs.«01_k».proof.Proof.Gen.OutDwRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Products.OutDw

open Idealize.ShloMosaic Idealize.ShloMosaic.TcCoe Idealize.SL.Sem Pipeline

section
open Cert.OutDwIdeal Cert.OutDwIdeal.Gen

variable (m : (ℓ : Loc nD τ sig) → Buf (Elt Ideal) ℓ) (c : Dev nD)

abbrev argA : FVec Ideal S4352x1024 .bf16 := m ((c.tc : Thread nD τ).loc main_arg0)
abbrev argB : FVec Ideal S4352x1024 .bf16 := m ((c.tc : Thread nD τ).loc main_arg2)

theorem in_a (i : Fin 1024) (k : Fin 4352) : V m c main_v0 (ix2 i k) = argA m c (ix2 k i) := by
  unfold V
  after_reads_at

theorem in_b : V m c main_arg2 = argB m c := V_main_arg2 m c

theorem idx0 : ∀ t : Fin cfg0.N, win0_0.index t = ![0, t.val % 2] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![0, 0] := (by decide +kernel : ∀ t : Fin grid0.N, _)

theorem rd_a (t : Fin cfg0.N) (r : Fin 1024) (k : Fin 2176) : iblk m c 0 t (ix2 r k)
    = V m c main_v0 (ix2 r ⟨2176 * (t.val % 2) + k.val, by have : t.val < 2 := t.isLt; omega⟩) := by
  have ht : t.val < 2 := t.isLt
  blk_ext [iblk, idx0 t]

theorem rd_b (t : Fin cfg0.N) (j : Fin 1024) (k : Fin 2176) : iblk m c 1 t (ix2 k j)
    = V m c main_arg2 (ix2 ⟨2176 * (t.val % 2) + k.val, by have : t.val < 2 := t.isLt; omega⟩ j) := by
  have ht : t.val < 2 := t.isLt
  blk_ext [iblk, idx1 t]

theorem pay_ix (x : FVec Ideal S1024x2176 .bf16) (w : FVec Ideal S2176x1024 .bf16) (r : Fin 1024) (j : Fin 1024) :
    (k0_pay1 x w : FVec Ideal S1024x1024 .f32) (ix2 r j) = ∑ k : Fin 2176, x (ix2 r k) * w (ix2 k j) := by
  pointwise [k0_pay1]

/-- The product of a point's two blocks. -/
def part (t : Fin cfg0.N) : FVec Ideal S1024x1024 .f32 := k0_pay1 (iblk m c 0 t) (iblk m c 1 t)

/-- The result: the sum over the whole contracted axis. -/
def total (x : FVec Ideal S4352x1024 .bf16) (w : FVec Ideal S4352x1024 .bf16) : FVec Ideal S1024x1024 .f32 :=
  fun y => ∑ k : Fin 4352, x (ix2 k (y 0)) * w (ix2 k (y 1))

theorem part_ix (t : Fin cfg0.N) (r : Fin 1024) (j : Fin 1024) (i : Fin 1024) (j' : Fin 1024) (hi : i.val = r.val)
    (hj : j'.val = j.val) (e : ℕ) (he : t.val % 2 = e) (hb : ∀ k : Fin 2176, 2176 * e + k.val < 4352) :
    part m c t (ix2 r j) = ∑ k : Fin 2176, argA m c (ix2 ⟨2176 * e + k.val, hb k⟩ i) * argB m c (ix2 ⟨2176 * e + k.val, hb k⟩ j') := by
  subst he
  have ht : t.val < 2 := t.isLt
  refine (pay_ix _ _ r j).trans (Finset.sum_congr rfl fun k _ => congrArg₂ (· * ·)
    ((rd_a m c t r k).trans ((in_a m c _ _).trans (congrArg (argA m c) ?_)))
    ((rd_b m c t j k).trans ((congrFun (in_b m c) _).trans (congrArg (argB m c) ?_))))
  all_goals
    refine congrArg₂ ix2 (Fin.ext ?_) (Fin.ext ?_)
    all_goals first | rfl | exact hi.symm | exact hj.symm | (dsimp only; omega)

/-- What the scratch holds after an even point. -/
theorem scratch (t : Fin cfg0.N) (h : t.val % 2 = 0) : (outsAt0 m c t.val t.isLt).2 = part m c t := by
  rw [outsAt0_A m c t h (by omega) (by omega)]
  frame_out
  unfold k0_pay2
  exact shapeCast_self _ _

/-- What is written back at an odd point. -/
theorem written (t : Fin cfg0.N) (h : t.val % 2 = 1) (r : Fin 1024) (j : Fin 1024) :
    (outsAt0 m c t.val t.isLt).1 (ix2 r j)
      = part m c ⟨t.val - 1, lt_of_le_of_lt (Nat.sub_le _ _) t.isLt⟩ (ix2 r j) + part m c t (ix2 r j) := by
  rw [outsAt0_B m c t (by omega) h h]
  frame_out
  unfold k0_pay3
  rw [shapeCast_self]
  exact congrArg (· + part m c t (ix2 r j)) (congrFun ((Memref.IsWhole.read_unread (Memref.isWhole_whole cc0_scratch0) _).trans
    (scratch m c ⟨t.val - 1, lt_of_le_of_lt (Nat.sub_le _ _) t.isLt⟩ (by show (t.val - 1) % 2 = 0; omega))) (ix2 r j))

theorem final : (dats m 0 c).arrAt 2 cfg0.N = total (argA m c) (argB m c) := by
  refine (dats m 0 c).arrAt_eq_of_covers 2 (total (argA m c) (argB m c)) (by decide +kernel) fun t hf y => ?_
  blk_simp
  rw [after0_2]
  have hr := (flush0_2 t).mp hf
  change S1024x1024.Idx at y
  idx_vars y
  have ht : t.val < 2 := t.isLt
  obtain ⟨i, hi⟩ : ∃ i : Fin 1024, i.val = y0.val := ⟨⟨_, by omega⟩, rfl⟩
  obtain ⟨j, hj⟩ : ∃ j : Fin 1024, j.val = y1.val := ⟨⟨_, by omega⟩, rfl⟩
  have e : (win0_2.blk t).view.emb (ix2 y0 y1) = ix2 i j := by
    blk_ext [idx2 t]
    all_goals omega
  refine ((written m c t hr y0 y1).trans ?_).trans (congrArg (total (argA m c) (argB m c)) e.symm)
  refine (congrArg₂ (· + ·) (part_ix m c _ y0 y1 i j ?_ ?_ 0 ?_ fun k => by omega)
    (part_ix m c t y0 y1 i j hi hj 1 hr fun k => by omega)).trans ?_
  · (try dsimp only); omega
  · (try dsimp only); omega
  · (try dsimp only); omega
  · exact sum_halves (n := 2176) rfl fun k => argA m c (ix2 k i) * argB m c (ix2 k j)

end

section
open Cert.OutDwRefIdeal Cert.OutDwRefIdeal.Gen

/-- The reference's result is the same sum. -/
theorem ref_eq (x : FVec Ideal S4352x1024 .bf16) (w : FVec Ideal S4352x1024 .bf16) :
    (transpose S1024x1024 [1, 0] (Host.dotGeneral dot_S4352x1024_S4352x1024_S1024x1024_0_0_1_1_n_n none (extf .f32 w bitsLt_bf16_f32) (extf .f32 x bitsLt_bf16_f32)) transposes_S1024x1024_S1024x1024_1_0 : FVec Ideal S1024x1024 .f32) = total x w := by
  funext y
  idx_vars y
  refine Eq.trans (b := ∑ k : Fin 4352, w (ix2 k y1) * x (ix2 k y0)) ?_ ?_
  · pointwise
  · exact Finset.sum_congr rfl fun k _ => mul_comm _ _

end

/-- The kernel's result is the reference's. -/
theorem algebraic : Cert.algebraic_OutDwIdeal_OutDwRefIdeal (hOutDwIdeal := Cert.OutDwIdeal.Gen.facts)
    (hOutDwRefIdeal := Cert.OutDwRefIdeal.Gen.facts) := by
  intro m g m' g' _ hargs
  refine ⟨fun c => (Cert.OutDwIdeal.Gen.dats m 0 c).arrAt 2 Cert.OutDwIdeal.cfg0.N, Cert.OutDwIdeal.Value.run_blocks m g, ?_⟩
  refine (θ_run _ _ _).mono (fun r h c => ?_) (Cert.OutDwRefIdeal.Value.run m' g')
  refine ⟨(h c).1.trans ?_, (h c).2⟩
  rw [(hargs c).1, (hargs c).2.2]
  exact (ref_eq _ _).trans (final m c).symm

/-- The reference runs and keeps its arguments; it declares no semaphore. -/
theorem frame_r : Cert.quiescent_OutDwRefIdeal (hOutDwRefIdeal := Cert.OutDwRefIdeal.Gen.facts) := by
  intro m ρ _
  exact (θ_run Cert.OutDwRefIdeal.defs _ _).mono (fun r h => ⟨fun c => (h c).2,
      Idealize.ShloMosaic.sem_eq_zero_of_no_sems (by decide) r.2⟩)
    (Cert.OutDwRefIdeal.Value.run m ρ)

end Cert.Products.OutDw
-- ==== Proof.OutDx.lean ====
/-
  The gradient of the rows that enter the attention layer's second product, rounded: each point writes a block of the
  result, a sum over the whole contracted axis.
-/
module

public import proofs.«01_k».proof.Defs
public import proofs.«01_k».proof.Proof.Sums
public import proofs.«01_k».proof.Proof.Gen.OutDx.Frame
public import proofs.«01_k».proof.Proof.Gen.OutDxIdeal.Value
public import proofs.«01_k».proof.Proof.Gen.OutDxRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Products.OutDx

open Idealize.ShloMosaic Idealize.ShloMosaic.TcCoe Idealize.SL.Sem Pipeline

section
open Cert.OutDxIdeal Cert.OutDxIdeal.Gen

variable (m : (ℓ : Loc nD τ sig) → Buf (Elt Ideal) ℓ) (c : Dev nD)

abbrev argA : FVec Ideal S4352x1024 .bf16 := m ((c.tc : Thread nD τ).loc main_arg2)
abbrev argB : FVec Ideal S1024x1024 .bf16 := m ((c.tc : Thread nD τ).loc main_arg1)

theorem in_a (i : Fin 4352) (k : Fin 1024) : V m c main_arg2 (ix2 i k) = argA m c (ix2 i k) := congrFun (V_main_arg2 m c) _

theorem in_b : V m c main_arg1 = argB m c := V_main_arg1 m c

theorem idx0 : ∀ t : Fin cfg0.N, win0_0.index t = ![t.val % 2, 0] := (by decide +kernel : ∀ t : Fin grid0.N, _)
theorem idx1 : ∀ t : Fin cfg0.N, win0_1.index t = ![t.val / 2, 0] := (by decide +kernel : ∀ t : Fin grid0.N, _)
theorem idx2 : ∀ t : Fin cfg0.N, win0_2.index t = ![t.val % 2, t.val / 2] := (by decide +kernel : ∀ t : Fin grid0.N, _)

theorem rd_a (t : Fin cfg0.N) (r : Fin 2176) (k : Fin 1024) : iblk m c 0 t (ix2 r k)
    = V m c main_arg2 (ix2 ⟨2176 * (t.val % 2) + r.val, by have : t.val < 4 := t.isLt; omega⟩ k) := by
  have ht : t.val < 4 := t.isLt
  blk_ext [iblk, idx0 t]

theorem rd_b (t : Fin cfg0.N) (j : Fin 512) (k : Fin 1024) : iblk m c 1 t (ix2 j k)
    = V m c main_arg1 (ix2 ⟨512 * (t.val / 2) + j.val, by have : t.val < 4 := t.isLt; omega⟩ k) := by
  have ht : t.val < 4 := t.isLt
  blk_ext [iblk, idx1 t]

theorem pay_ix (x : FVec Ideal S2176x1024 .bf16) (w : FVec Ideal S512x1024 .bf16) (r : Fin 2176) (j : Fin 512) :
    (k0_pay1 x w : FVec Ideal S2176x512 .bf16) (ix2 r j) = ∑ k : Fin 1024, x (ix2 r k) * w (ix2 j k) := by
  pointwise [k0_pay1]

/-- The product of a point's two blocks. -/
def part (t : Fin cfg0.N) : FVec Ideal S2176x512 .bf16 := k0_pay1 (iblk m c 0 t) (iblk m c 1 t)

/-- The result: the sum over the whole contracted axis. -/
def total (x : FVec Ideal S4352x1024 .bf16) (w : FVec Ideal S1024x1024 .bf16) : FVec Ideal S4352x1024 .bf16 :=
  fun y => ∑ k : Fin 1024, x (ix2 (y 0) k) * w (ix2 (y 1) k)

/-- What a point writes back. -/
theorem written (t : Fin cfg0.N) : outsAt0 m c t = part m c t := by
  unfold outsAt0
  frame_out
  rfl

theorem part_ix (t : Fin cfg0.N) (r : Fin 2176) (j : Fin 512) : part m c t (ix2 r j)
    = total (argA m c) (argB m c) (ix2 ⟨2176 * (t.val % 2) + r.val, by have : t.val < 4 := t.isLt; omega⟩ ⟨512 * (t.val / 2) + j.val, by have : t.val < 4 := t.isLt; omega⟩) :=
  (pay_ix _ _ r j).trans (Finset.sum_congr rfl fun k _ => congrArg₂ (· * ·) ((rd_a m c t r k).trans (in_a m c _ _))
    ((rd_b m c t j k).trans (congrFun (in_b m c) _)))

theorem final : (dats m 0 c).arrAt 2 cfg0.N = total (argA m c) (argB m c) := by
  refine (dats m 0 c).arrAt_eq_of_covers 2 (total (argA m c) (argB m c)) (by decide +kernel) fun t hf y => ?_
  blk_simp
  rw [after0_2]
  change S2176x512.Idx at y
  idx_vars y
  have ht : t.val < 4 := t.isLt
  have e : (win0_2.blk t).view.emb (ix2 y0 y1) = ix2 ⟨2176 * (t.val % 2) + y0.val, by have : t.val < 4 := t.isLt; omega⟩ ⟨512 * (t.val / 2) + y1.val, by have : t.val < 4 := t.isLt; omega⟩ := by
    blk_ext [idx2 t]
  exact ((congrFun (written m c t) _).trans (part_ix m c t y0 y1)).trans (congrArg (total (argA m c) (argB m c)) e.symm)

end

section
open Cert.OutDxRefIdeal Cert.OutDxRefIdeal.Gen

/-- The reference's result is the same sum. -/
theorem ref_eq (x : FVec Ideal S4352x1024 .bf16) (w : FVec Ideal S1024x1024 .bf16) :
    (truncf .bf16 (Host.dotGeneral dot_S4352x1024_S1024x1024_S4352x1024_1_1_0_0_n_n none (extf .f32 x bitsLt_bf16_f32) (extf .f32 w bitsLt_bf16_f32)) bitsLt_bf16_f32 : FVec Ideal S4352x1024 .bf16) = total x w := by
  funext y
  idx_vars y
  refine Eq.trans (b := ∑ k : Fin 1024, x (ix2 y0 k) * w (ix2 y1 k)) ?_ ?_
  · pointwise
  · exact Finset.sum_congr rfl fun k _ => rfl

end

/-- The kernel's result is the reference's. -/
theorem algebraic : Cert.algebraic_OutDxIdeal_OutDxRefIdeal (hOutDxIdeal := Cert.OutDxIdeal.Gen.facts)
    (hOutDxRefIdeal := Cert.OutDxRefIdeal.Gen.facts) := by
  intro m g m' g' _ hargs
  refine ⟨fun c => (Cert.OutDxIdeal.Gen.dats m 0 c).arrAt 2 Cert.OutDxIdeal.cfg0.N, Cert.OutDxIdeal.Value.run_blocks m g, ?_⟩
  refine (θ_run _ _ _).mono (fun r h c => ?_) (Cert.OutDxRefIdeal.Value.run m' g')
  refine ⟨(h c).1.trans ?_, (h c).2⟩
  rw [(hargs c).2.2, (hargs c).2.1]
  exact (ref_eq _ _).trans (final m c).symm

/-- The reference runs and keeps its arguments; it declares no semaphore. -/
theorem frame_r : Cert.quiescent_OutDxRefIdeal (hOutDxRefIdeal := Cert.OutDxRefIdeal.Gen.facts) := by
  intro m ρ _
  exact (θ_run Cert.OutDxRefIdeal.defs _ _).mono (fun r h => ⟨fun c => (h c).2,
      Idealize.ShloMosaic.sem_eq_zero_of_no_sems (by decide) r.2⟩)
    (Cert.OutDxRefIdeal.Value.run m ρ)

end Cert.Products.OutDx
-- ==== Proof.GluDx.lean ====
/-
  The gradient of the rows that enter a gate of the state-space layer: each point writes a block of the
  result, a sum over the whole contracted axis.
-/
module

public import proofs.«01_k».proof.Defs
public import proofs.«01_k».proof.Proof.Sums
public import proofs.«01_k».proof.Proof.Gen.GluDx.Frame
public import proofs.«01_k».proof.Proof.Gen.GluDxIdeal.Value
public import proofs.«01_k».proof.Proof.Gen.GluDxRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Products.GluDx

open Idealize.ShloMosaic Idealize.ShloMosaic.TcCoe Idealize.SL.Sem Pipeline

section
open Cert.GluDxIdeal Cert.GluDxIdeal.Gen

variable (m : (ℓ : Loc nD τ sig) → Buf (Elt Ideal) ℓ) (c : Dev nD)

abbrev argA : FVec Ideal S4352x1024 .bf16 := m ((c.tc : Thread nD τ).loc main_arg2)
abbrev argB : FVec Ideal S1024x1024 .bf16 := m ((c.tc : Thread nD τ).loc main_arg1)

theorem in_a (i : Fin 4352) (k : Fin 1024) : V m c main_arg2 (ix2 i k) = argA m c (ix2 i k) := congrFun (V_main_arg2 m c) _

theorem in_b : V m c main_arg1 = argB m c := V_main_arg1 m c

theorem idx0 : ∀ t : Fin cfg0.N, win0_0.index t = ![t.val % 2, 0] := (by decide +kernel : ∀ t : Fin grid0.N, _)
theorem idx1 : ∀ t : Fin cfg0.N, win0_1.index t = ![t.val / 2, 0] := (by decide +kernel : ∀ t : Fin grid0.N, _)
theorem idx2 : ∀ t : Fin cfg0.N, win0_2.index t = ![t.val % 2, t.val / 2] := (by decide +kernel : ∀ t : Fin grid0.N, _)

theorem rd_a (t : Fin cfg0.N) (r : Fin 2176) (k : Fin 1024) : iblk m c 0 t (ix2 r k)
    = V m c main_arg2 (ix2 ⟨2176 * (t.val % 2) + r.val, by have : t.val < 4 := t.isLt; omega⟩ k) := by
  have ht : t.val < 4 := t.isLt
  blk_ext [iblk, idx0 t]

theorem rd_b (t : Fin cfg0.N) (j : Fin 512) (k : Fin 1024) : iblk m c 1 t (ix2 j k)
    = V m c main_arg1 (ix2 ⟨512 * (t.val / 2) + j.val, by have : t.val < 4 := t.isLt; omega⟩ k) := by
  have ht : t.val < 4 := t.isLt
  blk_ext [iblk, idx1 t]

theorem pay_ix (x : FVec Ideal S2176x1024 .bf16) (w : FVec Ideal S512x1024 .bf16) (r : Fin 2176) (j : Fin 512) :
    (k0_pay1 x w : FVec Ideal S2176x512 .f32) (ix2 r j) = ∑ k : Fin 1024, x (ix2 r k) * w (ix2 j k) := by
  pointwise [k0_pay1]

/-- The product of a point's two blocks. -/
def part (t : Fin cfg0.N) : FVec Ideal S2176x512 .f32 := k0_pay1 (iblk m c 0 t) (iblk m c 1 t)

/-- The result: the sum over the whole contracted axis. -/
def total (x : FVec Ideal S4352x1024 .bf16) (w : FVec Ideal S1024x1024 .bf16) : FVec Ideal S4352x1024 .f32 :=
  fun y => ∑ k : Fin 1024, x (ix2 (y 0) k) * w (ix2 (y 1) k)

/-- What a point writes back. -/
theorem written (t : Fin cfg0.N) : outsAt0 m c t = part m c t := by
  unfold outsAt0
  frame_out
  rfl

theorem part_ix (t : Fin cfg0.N) (r : Fin 2176) (j : Fin 512) : part m c t (ix2 r j)
    = total (argA m c) (argB m c) (ix2 ⟨2176 * (t.val % 2) + r.val, by have : t.val < 4 := t.isLt; omega⟩ ⟨512 * (t.val / 2) + j.val, by have : t.val < 4 := t.isLt; omega⟩) :=
  (pay_ix _ _ r j).trans (Finset.sum_congr rfl fun k _ => congrArg₂ (· * ·) ((rd_a m c t r k).trans (in_a m c _ _))
    ((rd_b m c t j k).trans (congrFun (in_b m c) _)))

theorem final : (dats m 0 c).arrAt 2 cfg0.N = total (argA m c) (argB m c) := by
  refine (dats m 0 c).arrAt_eq_of_covers 2 (total (argA m c) (argB m c)) (by decide +kernel) fun t hf y => ?_
  blk_simp
  rw [after0_2]
  change S2176x512.Idx at y
  idx_vars y
  have ht : t.val < 4 := t.isLt
  have e : (win0_2.blk t).view.emb (ix2 y0 y1) = ix2 ⟨2176 * (t.val % 2) + y0.val, by have : t.val < 4 := t.isLt; omega⟩ ⟨512 * (t.val / 2) + y1.val, by have : t.val < 4 := t.isLt; omega⟩ := by
    blk_ext [idx2 t]
  exact ((congrFun (written m c t) _).trans (part_ix m c t y0 y1)).trans (congrArg (total (argA m c) (argB m c)) e.symm)

end

section
open Cert.GluDxRefIdeal Cert.GluDxRefIdeal.Gen

/-- The reference's result is the same sum. -/
theorem ref_eq (x : FVec Ideal S4352x1024 .bf16) (w : FVec Ideal S1024x1024 .bf16) :
    (Host.dotGeneral dot_S4352x1024_S1024x1024_S4352x1024_1_1_0_0_n_n none (extf .f32 x bitsLt_bf16_f32) (extf .f32 w bitsLt_bf16_f32) : FVec Ideal S4352x1024 .f32) = total x w := by
  funext y
  idx_vars y
  refine Eq.trans (b := ∑ k : Fin 1024, x (ix2 y0 k) * w (ix2 y1 k)) ?_ ?_
  · pointwise
  · exact Finset.sum_congr rfl fun k _ => rfl

end

/-- The kernel's result is the reference's. -/
theorem algebraic : Cert.algebraic_GluDxIdeal_GluDxRefIdeal (hGluDxIdeal := Cert.GluDxIdeal.Gen.facts)
    (hGluDxRefIdeal := Cert.GluDxRefIdeal.Gen.facts) := by
  intro m g m' g' _ hargs
  refine ⟨fun c => (Cert.GluDxIdeal.Gen.dats m 0 c).arrAt 2 Cert.GluDxIdeal.cfg0.N, Cert.GluDxIdeal.Value.run_blocks m g, ?_⟩
  refine (θ_run _ _ _).mono (fun r h c => ?_) (Cert.GluDxRefIdeal.Value.run m' g')
  refine ⟨(h c).1.trans ?_, (h c).2⟩
  rw [(hargs c).2.2, (hargs c).2.1]
  exact (ref_eq _ _).trans (final m c).symm

/-- The reference runs and keeps its arguments; it declares no semaphore. -/
theorem frame_r : Cert.quiescent_GluDxRefIdeal (hGluDxRefIdeal := Cert.GluDxRefIdeal.Gen.facts) := by
  intro m ρ _
  exact (θ_run Cert.GluDxRefIdeal.defs _ _).mono (fun r h => ⟨fun c => (h c).2,
      Idealize.ShloMosaic.sem_eq_zero_of_no_sems (by decide) r.2⟩)
    (Cert.GluDxRefIdeal.Value.run m ρ)

end Cert.Products.GluDx
-- ==== Proof.MixIn.lean ====
/-
  The gated spatial layer's first product: each point writes a block of the
  result, a sum over the whole contracted axis.
-/
module

public import proofs.«01_k».proof.Defs
public import proofs.«01_k».proof.Proof.Sums
public import proofs.«01_k».proof.Proof.Gen.MixIn.Frame
public import proofs.«01_k».proof.Proof.Gen.MixInIdeal.Value
public import proofs.«01_k».proof.Proof.Gen.MixInRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Products.MixIn

open Idealize.ShloMosaic Idealize.ShloMosaic.TcCoe Idealize.SL.Sem Pipeline

section
open Cert.MixInIdeal Cert.MixInIdeal.Gen

variable (m : (ℓ : Loc nD τ sig) → Buf (Elt Ideal) ℓ) (c : Dev nD)

abbrev argA : FVec Ideal S4352x1024 .bf16 := m ((c.tc : Thread nD τ).loc main_arg0)
abbrev argB : FVec Ideal S1024x4096 .bf16 := m ((c.tc : Thread nD τ).loc main_arg1)

theorem in_a (i : Fin 4352) (k : Fin 1024) : V m c main_arg0 (ix2 i k) = argA m c (ix2 i k) := congrFun (V_main_arg0 m c) _

theorem in_b : V m c main_arg1 = argB m c := V_main_arg1 m c

theorem idx0 : ∀ t : Fin cfg0.N, win0_0.index t = ![t.val % 2, 0] := (by decide +kernel : ∀ t : Fin grid0.N, _)
theorem idx1 : ∀ t : Fin cfg0.N, win0_1.index t = ![0, t.val / 2] := (by decide +kernel : ∀ t : Fin grid0.N, _)
theorem idx2 : ∀ t : Fin cfg0.N, win0_2.index t = ![t.val % 2, t.val / 2] := (by decide +kernel : ∀ t : Fin grid0.N, _)

theorem rd_a (t : Fin cfg0.N) (r : Fin 2176) (k : Fin 1024) : iblk m c 0 t (ix2 r k)
    = V m c main_arg0 (ix2 ⟨2176 * (t.val % 2) + r.val, by have : t.val < 16 := t.isLt; omega⟩ k) := by
  have ht : t.val < 16 := t.isLt
  blk_ext [iblk, idx0 t]

theorem rd_b (t : Fin cfg0.N) (j : Fin 512) (k : Fin 1024) : iblk m c 1 t (ix2 k j)
    = V m c main_arg1 (ix2 k ⟨512 * (t.val / 2) + j.val, by have : t.val < 16 := t.isLt; omega⟩) := by
  have ht : t.val < 16 := t.isLt
  blk_ext [iblk, idx1 t]

theorem pay_ix (x : FVec Ideal S2176x1024 .bf16) (w : FVec Ideal S1024x512 .bf16) (r : Fin 2176) (j : Fin 512) :
    (k0_pay1 x w : FVec Ideal S2176x512 .f32) (ix2 r j) = ∑ k : Fin 1024, x (ix2 r k) * w (ix2 k j) := by
  pointwise [k0_pay1]

/-- The product of a point's two blocks. -/
def part (t : Fin cfg0.N) : FVec Ideal S2176x512 .f32 := k0_pay1 (iblk m c 0 t) (iblk m c 1 t)

/-- The result: the sum over the whole contracted axis. -/
def total (x : FVec Ideal S4352x1024 .bf16) (w : FVec Ideal S1024x4096 .bf16) : FVec Ideal S4352x4096 .f32 :=
  fun y => ∑ k : Fin 1024, x (ix2 (y 0) k) * w (ix2 k (y 1))

/-- What a point writes back. -/
theorem written (t : Fin cfg0.N) : outsAt0 m c t = part m c t := by
  unfold outsAt0
  frame_out
  rfl

theorem part_ix (t : Fin cfg0.N) (r : Fin 2176) (j : Fin 512) : part m c t (ix2 r j)
    = total (argA m c) (argB m c) (ix2 ⟨2176 * (t.val % 2) + r.val, by have : t.val < 16 := t.isLt; omega⟩ ⟨512 * (t.val / 2) + j.val, by have : t.val < 16 := t.isLt; omega⟩) :=
  (pay_ix _ _ r j).trans (Finset.sum_congr rfl fun k _ => congrArg₂ (· * ·) ((rd_a m c t r k).trans (in_a m c _ _))
    ((rd_b m c t j k).trans (congrFun (in_b m c) _)))

theorem final : (dats m 0 c).arrAt 2 cfg0.N = total (argA m c) (argB m c) := by
  refine (dats m 0 c).arrAt_eq_of_covers 2 (total (argA m c) (argB m c)) (by decide +kernel) fun t hf y => ?_
  blk_simp
  rw [after0_2]
  change S2176x512.Idx at y
  idx_vars y
  have ht : t.val < 16 := t.isLt
  have e : (win0_2.blk t).view.emb (ix2 y0 y1) = ix2 ⟨2176 * (t.val % 2) + y0.val, by have : t.val < 16 := t.isLt; omega⟩ ⟨512 * (t.val / 2) + y1.val, by have : t.val < 16 := t.isLt; omega⟩ := by
    blk_ext [idx2 t]
  exact ((congrFun (written m c t) _).trans (part_ix m c t y0 y1)).trans (congrArg (total (argA m c) (argB m c)) e.symm)

end

section
open Cert.MixInRefIdeal Cert.MixInRefIdeal.Gen

/-- The reference's result is the same sum. -/
theorem ref_eq (x : FVec Ideal S4352x1024 .bf16) (w : FVec Ideal S1024x4096 .bf16) :
    (Host.dotGeneral dot_S4352x1024_S1024x4096_S4352x4096_1_0_0_1_n_n none (extf .f32 x bitsLt_bf16_f32) (extf .f32 w bitsLt_bf16_f32) : FVec Ideal S4352x4096 .f32) = total x w := by
  funext y
  idx_vars y
  refine Eq.trans (b := ∑ k : Fin 1024, x (ix2 y0 k) * w (ix2 k y1)) ?_ ?_
  · pointwise
  · exact Finset.sum_congr rfl fun k _ => rfl

end

/-- The kernel's result is the reference's. -/
theorem algebraic : Cert.algebraic_MixInIdeal_MixInRefIdeal (hMixInIdeal := Cert.MixInIdeal.Gen.facts)
    (hMixInRefIdeal := Cert.MixInRefIdeal.Gen.facts) := by
  intro m g m' g' _ hargs
  refine ⟨fun c => (Cert.MixInIdeal.Gen.dats m 0 c).arrAt 2 Cert.MixInIdeal.cfg0.N, Cert.MixInIdeal.Value.run_blocks m g, ?_⟩
  refine (θ_run _ _ _).mono (fun r h c => ?_) (Cert.MixInRefIdeal.Value.run m' g')
  refine ⟨(h c).1.trans ?_, (h c).2⟩
  rw [(hargs c).1, (hargs c).2]
  exact (ref_eq _ _).trans (final m c).symm

/-- The reference runs and keeps its arguments; it declares no semaphore. -/
theorem frame_r : Cert.quiescent_MixInRefIdeal (hMixInRefIdeal := Cert.MixInRefIdeal.Gen.facts) := by
  intro m ρ _
  exact (θ_run Cert.MixInRefIdeal.defs _ _).mono (fun r h => ⟨fun c => (h c).2,
      Idealize.ShloMosaic.sem_eq_zero_of_no_sems (by decide) r.2⟩)
    (Cert.MixInRefIdeal.Value.run m ρ)

end Cert.Products.MixIn
-- ==== Proof.MixInDw.lean ====
/-
  The gradient of the gated spatial layer's first weight: the call sums two blocks of 2176 rows
  in its scratch and writes each block of the result at the second.
-/
module

public import proofs.«01_k».proof.Defs
public import proofs.«01_k».proof.Proof.Sums
public import proofs.«01_k».proof.Proof.Gen.MixInDw.Frame
public import proofs.«01_k».proof.Proof.Gen.MixInDwIdeal.Value
public import proofs.«01_k».proof.Proof.Gen.MixInDwRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Products.MixInDw

open Idealize.ShloMosaic Idealize.ShloMosaic.TcCoe Idealize.SL.Sem Pipeline

section
open Cert.MixInDwIdeal Cert.MixInDwIdeal.Gen

variable (m : (ℓ : Loc nD τ sig) → Buf (Elt Ideal) ℓ) (c : Dev nD)

abbrev argA : FVec Ideal S4352x1024 .bf16 := m ((c.tc : Thread nD τ).loc main_arg0)
abbrev argB : FVec Ideal S4352x4096 .bf16 := m ((c.tc : Thread nD τ).loc main_arg2)

theorem in_a (i : Fin 1024) (k : Fin 4352) : V m c main_v0 (ix2 i k) = argA m c (ix2 k i) := by
  unfold V
  after_reads_at

theorem in_b : V m c main_arg2 = argB m c := V_main_arg2 m c

theorem idx0 : ∀ t : Fin cfg0.N, win0_0.index t = ![0, t.val % 2] := (by decide +kernel : ∀ t : Fin grid0.N, _)
theorem idx1 : ∀ t : Fin cfg0.N, win0_1.index t = ![t.val % 2, t.val / 2] := (by decide +kernel : ∀ t : Fin grid0.N, _)
theorem idx2 : ∀ t : Fin cfg0.N, win0_2.index t = ![0, t.val / 2] := (by decide +kernel : ∀ t : Fin grid0.N, _)

theorem rd_a (t : Fin cfg0.N) (r : Fin 1024) (k : Fin 2176) : iblk m c 0 t (ix2 r k)
    = V m c main_v0 (ix2 r ⟨2176 * (t.val % 2) + k.val, by have : t.val < 8 := t.isLt; omega⟩) := by
  have ht : t.val < 8 := t.isLt
  blk_ext [iblk, idx0 t]

theorem rd_b (t : Fin cfg0.N) (j : Fin 1024) (k : Fin 2176) : iblk m c 1 t (ix2 k j)
    = V m c main_arg2 (ix2 ⟨2176 * (t.val % 2) + k.val, by have : t.val < 8 := t.isLt; omega⟩ ⟨1024 * (t.val / 2) + j.val, by have : t.val < 8 := t.isLt; omega⟩) := by
  have ht : t.val < 8 := t.isLt
  blk_ext [iblk, idx1 t]

theorem pay_ix (x : FVec Ideal S1024x2176 .bf16) (w : FVec Ideal S2176x1024 .bf16) (r : Fin 1024) (j : Fin 1024) :
    (k0_pay1 x w : FVec Ideal S1024x1024 .f32) (ix2 r j) = ∑ k : Fin 2176, x (ix2 r k) * w (ix2 k j) := by
  pointwise [k0_pay1]

/-- The product of a point's two blocks. -/
def part (t : Fin cfg0.N) : FVec Ideal S1024x1024 .f32 := k0_pay1 (iblk m c 0 t) (iblk m c 1 t)

/-- The result: the sum over the whole contracted axis. -/
def total (x : FVec Ideal S4352x1024 .bf16) (w : FVec Ideal S4352x4096 .bf16) : FVec Ideal S1024x4096 .f32 :=
  fun y => ∑ k : Fin 4352, x (ix2 k (y 0)) * w (ix2 k (y 1))

theorem part_ix (t : Fin cfg0.N) (r : Fin 1024) (j : Fin 1024) (i : Fin 1024) (j' : Fin 4096) (hi : i.val = r.val)
    (hj : j'.val = 1024 * (t.val / 2) + j.val) (e : ℕ) (he : t.val % 2 = e) (hb : ∀ k : Fin 2176, 2176 * e + k.val < 4352) :
    part m c t (ix2 r j) = ∑ k : Fin 2176, argA m c (ix2 ⟨2176 * e + k.val, hb k⟩ i) * argB m c (ix2 ⟨2176 * e + k.val, hb k⟩ j') := by
  subst he
  have ht : t.val < 8 := t.isLt
  refine (pay_ix _ _ r j).trans (Finset.sum_congr rfl fun k _ => congrArg₂ (· * ·)
    ((rd_a m c t r k).trans ((in_a m c _ _).trans (congrArg (argA m c) ?_)))
    ((rd_b m c t j k).trans ((congrFun (in_b m c) _).trans (congrArg (argB m c) ?_))))
  all_goals
    refine congrArg₂ ix2 (Fin.ext ?_) (Fin.ext ?_)
    all_goals first | rfl | exact hi.symm | exact hj.symm | (dsimp only; omega)

/-- What the scratch holds after an even point. -/
theorem scratch (t : Fin cfg0.N) (h : t.val % 2 = 0) : (outsAt0 m c t.val t.isLt).2 = part m c t := by
  rw [outsAt0_A m c t h (by omega) (by omega)]
  frame_out
  unfold k0_pay2
  exact shapeCast_self _ _

/-- What is written back at an odd point. -/
theorem written (t : Fin cfg0.N) (h : t.val % 2 = 1) (r : Fin 1024) (j : Fin 1024) :
    (outsAt0 m c t.val t.isLt).1 (ix2 r j)
      = part m c ⟨t.val - 1, lt_of_le_of_lt (Nat.sub_le _ _) t.isLt⟩ (ix2 r j) + part m c t (ix2 r j) := by
  rw [outsAt0_B m c t (by omega) h h]
  frame_out
  unfold k0_pay3
  rw [shapeCast_self]
  exact congrArg (· + part m c t (ix2 r j)) (congrFun ((Memref.IsWhole.read_unread (Memref.isWhole_whole cc0_scratch0) _).trans
    (scratch m c ⟨t.val - 1, lt_of_le_of_lt (Nat.sub_le _ _) t.isLt⟩ (by show (t.val - 1) % 2 = 0; omega))) (ix2 r j))

theorem final : (dats m 0 c).arrAt 2 cfg0.N = total (argA m c) (argB m c) := by
  refine (dats m 0 c).arrAt_eq_of_covers 2 (total (argA m c) (argB m c)) (by decide +kernel) fun t hf y => ?_
  blk_simp
  rw [after0_2]
  have hr := (flush0_2 t).mp hf
  change S1024x1024.Idx at y
  idx_vars y
  have ht : t.val < 8 := t.isLt
  obtain ⟨i, hi⟩ : ∃ i : Fin 1024, i.val = y0.val := ⟨⟨_, by omega⟩, rfl⟩
  obtain ⟨j, hj⟩ : ∃ j : Fin 4096, j.val = 1024 * (t.val / 2) + y1.val := ⟨⟨_, by omega⟩, rfl⟩
  have e : (win0_2.blk t).view.emb (ix2 y0 y1) = ix2 i j := by
    blk_ext [idx2 t]
    all_goals omega
  refine ((written m c t hr y0 y1).trans ?_).trans (congrArg (total (argA m c) (argB m c)) e.symm)
  refine (congrArg₂ (· + ·) (part_ix m c _ y0 y1 i j ?_ ?_ 0 ?_ fun k => by omega)
    (part_ix m c t y0 y1 i j hi hj 1 hr fun k => by omega)).trans ?_
  · (try dsimp only); omega
  · (try dsimp only); omega
  · (try dsimp only); omega
  · exact sum_halves (n := 2176) rfl fun k => argA m c (ix2 k i) * argB m c (ix2 k j)

end

section
open Cert.MixInDwRefIdeal Cert.MixInDwRefIdeal.Gen

/-- The reference's result is the same sum. -/
theorem ref_eq (x : FVec Ideal S4352x1024 .bf16) (w : FVec Ideal S4352x4096 .bf16) :
    (transpose S1024x4096 [1, 0] (Host.dotGeneral dot_S4352x4096_S4352x1024_S4096x1024_0_0_1_1_n_n none (extf .f32 w bitsLt_bf16_f32) (extf .f32 x bitsLt_bf16_f32)) transposes_S4096x1024_S1024x4096_1_0 : FVec Ideal S1024x4096 .f32) = total x w := by
  funext y
  idx_vars y
  refine Eq.trans (b := ∑ k : Fin 4352, w (ix2 k y1) * x (ix2 k y0)) ?_ ?_
  · pointwise
  · exact Finset.sum_congr rfl fun k _ => mul_comm _ _

end

/-- The kernel's result is the reference's. -/
theorem algebraic : Cert.algebraic_MixInDwIdeal_MixInDwRefIdeal (hMixInDwIdeal := Cert.MixInDwIdeal.Gen.facts)
    (hMixInDwRefIdeal := Cert.MixInDwRefIdeal.Gen.facts) := by
  intro m g m' g' _ hargs
  refine ⟨fun c => (Cert.MixInDwIdeal.Gen.dats m 0 c).arrAt 2 Cert.MixInDwIdeal.cfg0.N, Cert.MixInDwIdeal.Value.run_blocks m g, ?_⟩
  refine (θ_run _ _ _).mono (fun r h c => ?_) (Cert.MixInDwRefIdeal.Value.run m' g')
  refine ⟨(h c).1.trans ?_, (h c).2⟩
  rw [(hargs c).1, (hargs c).2.2]
  exact (ref_eq _ _).trans (final m c).symm

/-- The reference runs and keeps its arguments; it declares no semaphore. -/
theorem frame_r : Cert.quiescent_MixInDwRefIdeal (hMixInDwRefIdeal := Cert.MixInDwRefIdeal.Gen.facts) := by
  intro m ρ _
  exact (θ_run Cert.MixInDwRefIdeal.defs _ _).mono (fun r h => ⟨fun c => (h c).2,
      Idealize.ShloMosaic.sem_eq_zero_of_no_sems (by decide) r.2⟩)
    (Cert.MixInDwRefIdeal.Value.run m ρ)

end Cert.Products.MixInDw
-- ==== Proof.MixInDx.lean ====
/-
  The gradient of the rows that enter the gated spatial layer's first product: the call sums two blocks of 2048 columns
  in its scratch and writes each block of the result at the second.
-/
module

public import proofs.«01_k».proof.Defs
public import proofs.«01_k».proof.Proof.Sums
public import proofs.«01_k».proof.Proof.Gen.MixInDx.Frame
public import proofs.«01_k».proof.Proof.Gen.MixInDxIdeal.Value
public import proofs.«01_k».proof.Proof.Gen.MixInDxRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Products.MixInDx

open Idealize.ShloMosaic Idealize.ShloMosaic.TcCoe Idealize.SL.Sem Pipeline

section
open Cert.MixInDxIdeal Cert.MixInDxIdeal.Gen

variable (m : (ℓ : Loc nD τ sig) → Buf (Elt Ideal) ℓ) (c : Dev nD)

abbrev argA : FVec Ideal S4352x4096 .bf16 := m ((c.tc : Thread nD τ).loc main_arg2)
abbrev argB : FVec Ideal S1024x4096 .bf16 := m ((c.tc : Thread nD τ).loc main_arg1)

theorem in_a (i : Fin 4352) (k : Fin 4096) : V m c main_arg2 (ix2 i k) = argA m c (ix2 i k) := congrFun (V_main_arg2 m c) _

theorem in_b : V m c main_arg1 = argB m c := V_main_arg1 m c

theorem idx0 : ∀ t : Fin cfg0.N, win0_0.index t = ![t.val / 2 % 2, t.val % 2] := (by decide +kernel : ∀ t : Fin grid0.N, _)
theorem idx1 : ∀ t : Fin cfg0.N, win0_1.index t = ![t.val / 4, t.val % 2] := (by decide +kernel : ∀ t : Fin grid0.N, _)
theorem idx2 : ∀ t : Fin cfg0.N, win0_2.index t = ![t.val / 2 % 2, t.val / 4] := (by decide +kernel : ∀ t : Fin grid0.N, _)

theorem rd_a (t : Fin cfg0.N) (r : Fin 2176) (k : Fin 2048) : iblk m c 0 t (ix2 r k)
    = V m c main_arg2 (ix2 ⟨2176 * (t.val / 2 % 2) + r.val, by have : t.val < 8 := t.isLt; omega⟩ ⟨2048 * (t.val % 2) + k.val, by have : t.val < 8 := t.isLt; omega⟩) := by
  have ht : t.val < 8 := t.isLt
  blk_ext [iblk, idx0 t]

theorem rd_b (t : Fin cfg0.N) (j : Fin 512) (k : Fin 2048) : iblk m c 1 t (ix2 j k)
    = V m c main_arg1 (ix2 ⟨512 * (t.val / 4) + j.val, by have : t.val < 8 := t.isLt; omega⟩ ⟨2048 * (t.val % 2) + k.val, by have : t.val < 8 := t.isLt; omega⟩) := by
  have ht : t.val < 8 := t.isLt
  blk_ext [iblk, idx1 t]

theorem pay_ix (x : FVec Ideal S2176x2048 .bf16) (w : FVec Ideal S512x2048 .bf16) (r : Fin 2176) (j : Fin 512) :
    (k0_pay1 x w : FVec Ideal S2176x512 .f32) (ix2 r j) = ∑ k : Fin 2048, x (ix2 r k) * w (ix2 j k) := by
  pointwise [k0_pay1]

/-- The product of a point's two blocks. -/
def part (t : Fin cfg0.N) : FVec Ideal S2176x512 .f32 := k0_pay1 (iblk m c 0 t) (iblk m c 1 t)

/-- The result: the sum over the whole contracted axis. -/
def total (x : FVec Ideal S4352x4096 .bf16) (w : FVec Ideal S1024x4096 .bf16) : FVec Ideal S4352x1024 .f32 :=
  fun y => ∑ k : Fin 4096, x (ix2 (y 0) k) * w (ix2 (y 1) k)

theorem part_ix (t : Fin cfg0.N) (r : Fin 2176) (j : Fin 512) (i : Fin 4352) (j' : Fin 1024) (hi : i.val = 2176 * (t.val / 2 % 2) + r.val)
    (hj : j'.val = 512 * (t.val / 4) + j.val) (e : ℕ) (he : t.val % 2 = e) (hb : ∀ k : Fin 2048, 2048 * e + k.val < 4096) :
    part m c t (ix2 r j) = ∑ k : Fin 2048, argA m c (ix2 i ⟨2048 * e + k.val, hb k⟩) * argB m c (ix2 j' ⟨2048 * e + k.val, hb k⟩) := by
  subst he
  have ht : t.val < 8 := t.isLt
  refine (pay_ix _ _ r j).trans (Finset.sum_congr rfl fun k _ => congrArg₂ (· * ·)
    ((rd_a m c t r k).trans ((in_a m c _ _).trans (congrArg (argA m c) ?_)))
    ((rd_b m c t j k).trans ((congrFun (in_b m c) _).trans (congrArg (argB m c) ?_))))
  all_goals
    refine congrArg₂ ix2 (Fin.ext ?_) (Fin.ext ?_)
    all_goals first | rfl | exact hi.symm | exact hj.symm | (dsimp only; omega)

/-- What the scratch holds after an even point. -/
theorem scratch (t : Fin cfg0.N) (h : t.val % 2 = 0) : (outsAt0 m c t.val t.isLt).2 = part m c t := by
  rw [outsAt0_A m c t h (by omega) (by omega)]
  frame_out
  unfold k0_pay2
  exact shapeCast_self _ _

/-- What is written back at an odd point. -/
theorem written (t : Fin cfg0.N) (h : t.val % 2 = 1) (r : Fin 2176) (j : Fin 512) :
    (outsAt0 m c t.val t.isLt).1 (ix2 r j)
      = part m c ⟨t.val - 1, lt_of_le_of_lt (Nat.sub_le _ _) t.isLt⟩ (ix2 r j) + part m c t (ix2 r j) := by
  rw [outsAt0_B m c t (by omega) h h]
  frame_out
  unfold k0_pay3
  rw [shapeCast_self]
  exact congrArg (· + part m c t (ix2 r j)) (congrFun ((Memref.IsWhole.read_unread (Memref.isWhole_whole cc0_scratch0) _).trans
    (scratch m c ⟨t.val - 1, lt_of_le_of_lt (Nat.sub_le _ _) t.isLt⟩ (by show (t.val - 1) % 2 = 0; omega))) (ix2 r j))

theorem final : (dats m 0 c).arrAt 2 cfg0.N = total (argA m c) (argB m c) := by
  refine (dats m 0 c).arrAt_eq_of_covers 2 (total (argA m c) (argB m c)) (by decide +kernel) fun t hf y => ?_
  blk_simp
  rw [after0_2]
  have hr := (flush0_2 t).mp hf
  change S2176x512.Idx at y
  idx_vars y
  have ht : t.val < 8 := t.isLt
  obtain ⟨i, hi⟩ : ∃ i : Fin 4352, i.val = 2176 * (t.val / 2 % 2) + y0.val := ⟨⟨_, by omega⟩, rfl⟩
  obtain ⟨j, hj⟩ : ∃ j : Fin 1024, j.val = 512 * (t.val / 4) + y1.val := ⟨⟨_, by omega⟩, rfl⟩
  have e : (win0_2.blk t).view.emb (ix2 y0 y1) = ix2 i j := by
    blk_ext [idx2 t]
    all_goals omega
  refine ((written m c t hr y0 y1).trans ?_).trans (congrArg (total (argA m c) (argB m c)) e.symm)
  refine (congrArg₂ (· + ·) (part_ix m c _ y0 y1 i j ?_ ?_ 0 ?_ fun k => by omega)
    (part_ix m c t y0 y1 i j hi hj 1 hr fun k => by omega)).trans ?_
  · (try dsimp only); omega
  · (try dsimp only); omega
  · (try dsimp only); omega
  · exact sum_halves (n := 2048) rfl fun k => argA m c (ix2 i k) * argB m c (ix2 j k)

end

section
open Cert.MixInDxRefIdeal Cert.MixInDxRefIdeal.Gen

/-- The reference's result is the same sum. -/
theorem ref_eq (x : FVec Ideal S4352x4096 .bf16) (w : FVec Ideal S1024x4096 .bf16) :
    (Host.dotGeneral dot_S4352x4096_S1024x4096_S4352x1024_1_1_0_0_n_n none (extf .f32 x bitsLt_bf16_f32) (extf .f32 w bitsLt_bf16_f32) : FVec Ideal S4352x1024 .f32) = total x w := by
  funext y
  idx_vars y
  refine Eq.trans (b := ∑ k : Fin 4096, x (ix2 y0 k) * w (ix2 y1 k)) ?_ ?_
  · pointwise
  · exact Finset.sum_congr rfl fun k _ => rfl

end

/-- The kernel's result is the reference's. -/
theorem algebraic : Cert.algebraic_MixInDxIdeal_MixInDxRefIdeal (hMixInDxIdeal := Cert.MixInDxIdeal.Gen.facts)
    (hMixInDxRefIdeal := Cert.MixInDxRefIdeal.Gen.facts) := by
  intro m g m' g' _ hargs
  refine ⟨fun c => (Cert.MixInDxIdeal.Gen.dats m 0 c).arrAt 2 Cert.MixInDxIdeal.cfg0.N, Cert.MixInDxIdeal.Value.run_blocks m g, ?_⟩
  refine (θ_run _ _ _).mono (fun r h c => ?_) (Cert.MixInDxRefIdeal.Value.run m' g')
  refine ⟨(h c).1.trans ?_, (h c).2⟩
  rw [(hargs c).2.2, (hargs c).2.1]
  exact (ref_eq _ _).trans (final m c).symm

/-- The reference runs and keeps its arguments; it declares no semaphore. -/
theorem frame_r : Cert.quiescent_MixInDxRefIdeal (hMixInDxRefIdeal := Cert.MixInDxRefIdeal.Gen.facts) := by
  intro m ρ _
  exact (θ_run Cert.MixInDxRefIdeal.defs _ _).mono (fun r h => ⟨fun c => (h c).2,
      Idealize.ShloMosaic.sem_eq_zero_of_no_sems (by decide) r.2⟩)
    (Cert.MixInDxRefIdeal.Value.run m ρ)

end Cert.Products.MixInDx
-- ==== Proof.MixOut.lean ====
/-
  The gated spatial layer's second product: each point writes a block of the
  result, a sum over the whole contracted axis.
-/
module

public import proofs.«01_k».proof.Defs
public import proofs.«01_k».proof.Proof.Sums
public import proofs.«01_k».proof.Proof.Gen.MixOut.Frame
public import proofs.«01_k».proof.Proof.Gen.MixOutIdeal.Value
public import proofs.«01_k».proof.Proof.Gen.MixOutRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Products.MixOut

open Idealize.ShloMosaic Idealize.ShloMosaic.TcCoe Idealize.SL.Sem Pipeline

section
open Cert.MixOutIdeal Cert.MixOutIdeal.Gen

variable (m : (ℓ : Loc nD τ sig) → Buf (Elt Ideal) ℓ) (c : Dev nD)

abbrev argA : FVec Ideal S4352x2048 .bf16 := m ((c.tc : Thread nD τ).loc main_arg0)
abbrev argB : FVec Ideal S2048x1024 .bf16 := m ((c.tc : Thread nD τ).loc main_arg1)

theorem in_a (i : Fin 4352) (k : Fin 2048) : V m c main_arg0 (ix2 i k) = argA m c (ix2 i k) := congrFun (V_main_arg0 m c) _

theorem in_b : V m c main_arg1 = argB m c := V_main_arg1 m c

theorem idx0 : ∀ t : Fin cfg0.N, win0_0.index t = ![t.val % 2, 0] := (by decide +kernel : ∀ t : Fin grid0.N, _)
theorem idx1 : ∀ t : Fin cfg0.N, win0_1.index t = ![0, t.val / 2] := (by decide +kernel : ∀ t : Fin grid0.N, _)
theorem idx2 : ∀ t : Fin cfg0.N, win0_2.index t = ![t.val % 2, t.val / 2] := (by decide +kernel : ∀ t : Fin grid0.N, _)

theorem rd_a (t : Fin cfg0.N) (r : Fin 2176) (k : Fin 2048) : iblk m c 0 t (ix2 r k)
    = V m c main_arg0 (ix2 ⟨2176 * (t.val % 2) + r.val, by have : t.val < 4 := t.isLt; omega⟩ k) := by
  have ht : t.val < 4 := t.isLt
  blk_ext [iblk, idx0 t]

theorem rd_b (t : Fin cfg0.N) (j : Fin 512) (k : Fin 2048) : iblk m c 1 t (ix2 k j)
    = V m c main_arg1 (ix2 k ⟨512 * (t.val / 2) + j.val, by have : t.val < 4 := t.isLt; omega⟩) := by
  have ht : t.val < 4 := t.isLt
  blk_ext [iblk, idx1 t]

theorem pay_ix (x : FVec Ideal S2176x2048 .bf16) (w : FVec Ideal S2048x512 .bf16) (r : Fin 2176) (j : Fin 512) :
    (k0_pay1 x w : FVec Ideal S2176x512 .f32) (ix2 r j) = ∑ k : Fin 2048, x (ix2 r k) * w (ix2 k j) := by
  pointwise [k0_pay1]

/-- The product of a point's two blocks. -/
def part (t : Fin cfg0.N) : FVec Ideal S2176x512 .f32 := k0_pay1 (iblk m c 0 t) (iblk m c 1 t)

/-- The result: the sum over the whole contracted axis. -/
def total (x : FVec Ideal S4352x2048 .bf16) (w : FVec Ideal S2048x1024 .bf16) : FVec Ideal S4352x1024 .f32 :=
  fun y => ∑ k : Fin 2048, x (ix2 (y 0) k) * w (ix2 k (y 1))

/-- What a point writes back. -/
theorem written (t : Fin cfg0.N) : outsAt0 m c t = part m c t := by
  unfold outsAt0
  frame_out
  rfl

theorem part_ix (t : Fin cfg0.N) (r : Fin 2176) (j : Fin 512) : part m c t (ix2 r j)
    = total (argA m c) (argB m c) (ix2 ⟨2176 * (t.val % 2) + r.val, by have : t.val < 4 := t.isLt; omega⟩ ⟨512 * (t.val / 2) + j.val, by have : t.val < 4 := t.isLt; omega⟩) :=
  (pay_ix _ _ r j).trans (Finset.sum_congr rfl fun k _ => congrArg₂ (· * ·) ((rd_a m c t r k).trans (in_a m c _ _))
    ((rd_b m c t j k).trans (congrFun (in_b m c) _)))

theorem final : (dats m 0 c).arrAt 2 cfg0.N = total (argA m c) (argB m c) := by
  refine (dats m 0 c).arrAt_eq_of_covers 2 (total (argA m c) (argB m c)) (by decide +kernel) fun t hf y => ?_
  blk_simp
  rw [after0_2]
  change S2176x512.Idx at y
  idx_vars y
  have ht : t.val < 4 := t.isLt
  have e : (win0_2.blk t).view.emb (ix2 y0 y1) = ix2 ⟨2176 * (t.val % 2) + y0.val, by have : t.val < 4 := t.isLt; omega⟩ ⟨512 * (t.val / 2) + y1.val, by have : t.val < 4 := t.isLt; omega⟩ := by
    blk_ext [idx2 t]
  exact ((congrFun (written m c t) _).trans (part_ix m c t y0 y1)).trans (congrArg (total (argA m c) (argB m c)) e.symm)

end

section
open Cert.MixOutRefIdeal Cert.MixOutRefIdeal.Gen

/-- The reference's result is the same sum. -/
theorem ref_eq (x : FVec Ideal S4352x2048 .bf16) (w : FVec Ideal S2048x1024 .bf16) :
    (Host.dotGeneral dot_S4352x2048_S2048x1024_S4352x1024_1_0_0_1_n_n none (extf .f32 x bitsLt_bf16_f32) (extf .f32 w bitsLt_bf16_f32) : FVec Ideal S4352x1024 .f32) = total x w := by
  funext y
  idx_vars y
  refine Eq.trans (b := ∑ k : Fin 2048, x (ix2 y0 k) * w (ix2 k y1)) ?_ ?_
  · pointwise
  · exact Finset.sum_congr rfl fun k _ => rfl

end

/-- The kernel's result is the reference's. -/
theorem algebraic : Cert.algebraic_MixOutIdeal_MixOutRefIdeal (hMixOutIdeal := Cert.MixOutIdeal.Gen.facts)
    (hMixOutRefIdeal := Cert.MixOutRefIdeal.Gen.facts) := by
  intro m g m' g' _ hargs
  refine ⟨fun c => (Cert.MixOutIdeal.Gen.dats m 0 c).arrAt 2 Cert.MixOutIdeal.cfg0.N, Cert.MixOutIdeal.Value.run_blocks m g, ?_⟩
  refine (θ_run _ _ _).mono (fun r h c => ?_) (Cert.MixOutRefIdeal.Value.run m' g')
  refine ⟨(h c).1.trans ?_, (h c).2⟩
  rw [(hargs c).1, (hargs c).2]
  exact (ref_eq _ _).trans (final m c).symm

/-- The reference runs and keeps its arguments; it declares no semaphore. -/
theorem frame_r : Cert.quiescent_MixOutRefIdeal (hMixOutRefIdeal := Cert.MixOutRefIdeal.Gen.facts) := by
  intro m ρ _
  exact (θ_run Cert.MixOutRefIdeal.defs _ _).mono (fun r h => ⟨fun c => (h c).2,
      Idealize.ShloMosaic.sem_eq_zero_of_no_sems (by decide) r.2⟩)
    (Cert.MixOutRefIdeal.Value.run m ρ)

end Cert.Products.MixOut
-- ==== Proof.MixOutDw.lean ====
/-
  The gradient of the gated spatial layer's second weight: the call sums two blocks of 2176 rows
  in its scratch and writes each block of the result at the second.
-/
module

public import proofs.«01_k».proof.Defs
public import proofs.«01_k».proof.Proof.Sums
public import proofs.«01_k».proof.Proof.Gen.MixOutDw.Frame
public import proofs.«01_k».proof.Proof.Gen.MixOutDwIdeal.Value
public import proofs.«01_k».proof.Proof.Gen.MixOutDwRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Products.MixOutDw

open Idealize.ShloMosaic Idealize.ShloMosaic.TcCoe Idealize.SL.Sem Pipeline

section
open Cert.MixOutDwIdeal Cert.MixOutDwIdeal.Gen

variable (m : (ℓ : Loc nD τ sig) → Buf (Elt Ideal) ℓ) (c : Dev nD)

abbrev argA : FVec Ideal S4352x2048 .bf16 := m ((c.tc : Thread nD τ).loc main_arg0)
abbrev argB : FVec Ideal S4352x1024 .f32 := m ((c.tc : Thread nD τ).loc main_arg2)

theorem in_a (i : Fin 2048) (k : Fin 4352) : V m c main_v0 (ix2 i k) = argA m c (ix2 k i) := by
  unfold V
  after_reads_at

theorem in_b : V m c main_arg2 = argB m c := V_main_arg2 m c

theorem idx0 : ∀ t : Fin cfg0.N, win0_0.index t = ![0, t.val % 2] := (by decide +kernel : ∀ t : Fin grid0.N, _)
theorem idx1 : ∀ t : Fin cfg0.N, win0_1.index t = ![t.val % 2, t.val / 2] := (by decide +kernel : ∀ t : Fin grid0.N, _)
theorem idx2 : ∀ t : Fin cfg0.N, win0_2.index t = ![0, t.val / 2] := (by decide +kernel : ∀ t : Fin grid0.N, _)

theorem rd_a (t : Fin cfg0.N) (r : Fin 2048) (k : Fin 2176) : iblk m c 0 t (ix2 r k)
    = V m c main_v0 (ix2 r ⟨2176 * (t.val % 2) + k.val, by have : t.val < 4 := t.isLt; omega⟩) := by
  have ht : t.val < 4 := t.isLt
  blk_ext [iblk, idx0 t]

theorem rd_b (t : Fin cfg0.N) (j : Fin 512) (k : Fin 2176) : iblk m c 1 t (ix2 k j)
    = V m c main_arg2 (ix2 ⟨2176 * (t.val % 2) + k.val, by have : t.val < 4 := t.isLt; omega⟩ ⟨512 * (t.val / 2) + j.val, by have : t.val < 4 := t.isLt; omega⟩) := by
  have ht : t.val < 4 := t.isLt
  blk_ext [iblk, idx1 t]

theorem pay_ix (x : FVec Ideal S2048x2176 .bf16) (w : FVec Ideal S2176x512 .f32) (r : Fin 2048) (j : Fin 512) :
    (k0_pay1 x w : FVec Ideal S2048x512 .f32) (ix2 r j) = ∑ k : Fin 2176, x (ix2 r k) * w (ix2 k j) := by
  pointwise [k0_pay1]

/-- The product of a point's two blocks. -/
def part (t : Fin cfg0.N) : FVec Ideal S2048x512 .f32 := k0_pay1 (iblk m c 0 t) (iblk m c 1 t)

/-- The result: the sum over the whole contracted axis. -/
def total (x : FVec Ideal S4352x2048 .bf16) (w : FVec Ideal S4352x1024 .f32) : FVec Ideal S2048x1024 .f32 :=
  fun y => ∑ k : Fin 4352, x (ix2 k (y 0)) * w (ix2 k (y 1))

theorem part_ix (t : Fin cfg0.N) (r : Fin 2048) (j : Fin 512) (i : Fin 2048) (j' : Fin 1024) (hi : i.val = r.val)
    (hj : j'.val = 512 * (t.val / 2) + j.val) (e : ℕ) (he : t.val % 2 = e) (hb : ∀ k : Fin 2176, 2176 * e + k.val < 4352) :
    part m c t (ix2 r j) = ∑ k : Fin 2176, argA m c (ix2 ⟨2176 * e + k.val, hb k⟩ i) * argB m c (ix2 ⟨2176 * e + k.val, hb k⟩ j') := by
  subst he
  have ht : t.val < 4 := t.isLt
  refine (pay_ix _ _ r j).trans (Finset.sum_congr rfl fun k _ => congrArg₂ (· * ·)
    ((rd_a m c t r k).trans ((in_a m c _ _).trans (congrArg (argA m c) ?_)))
    ((rd_b m c t j k).trans ((congrFun (in_b m c) _).trans (congrArg (argB m c) ?_))))
  all_goals
    refine congrArg₂ ix2 (Fin.ext ?_) (Fin.ext ?_)
    all_goals first | rfl | exact hi.symm | exact hj.symm | (dsimp only; omega)

/-- What the scratch holds after an even point. -/
theorem scratch (t : Fin cfg0.N) (h : t.val % 2 = 0) : (outsAt0 m c t.val t.isLt).2 = part m c t := by
  rw [outsAt0_A m c t h (by omega) (by omega)]
  frame_out
  unfold k0_pay2
  exact shapeCast_self _ _

/-- What is written back at an odd point. -/
theorem written (t : Fin cfg0.N) (h : t.val % 2 = 1) (r : Fin 2048) (j : Fin 512) :
    (outsAt0 m c t.val t.isLt).1 (ix2 r j)
      = part m c ⟨t.val - 1, lt_of_le_of_lt (Nat.sub_le _ _) t.isLt⟩ (ix2 r j) + part m c t (ix2 r j) := by
  rw [outsAt0_B m c t (by omega) h h]
  frame_out
  unfold k0_pay3
  rw [shapeCast_self]
  exact congrArg (· + part m c t (ix2 r j)) (congrFun ((Memref.IsWhole.read_unread (Memref.isWhole_whole cc0_scratch0) _).trans
    (scratch m c ⟨t.val - 1, lt_of_le_of_lt (Nat.sub_le _ _) t.isLt⟩ (by show (t.val - 1) % 2 = 0; omega))) (ix2 r j))

theorem final : (dats m 0 c).arrAt 2 cfg0.N = total (argA m c) (argB m c) := by
  refine (dats m 0 c).arrAt_eq_of_covers 2 (total (argA m c) (argB m c)) (by decide +kernel) fun t hf y => ?_
  blk_simp
  rw [after0_2]
  have hr := (flush0_2 t).mp hf
  change S2048x512.Idx at y
  idx_vars y
  have ht : t.val < 4 := t.isLt
  obtain ⟨i, hi⟩ : ∃ i : Fin 2048, i.val = y0.val := ⟨⟨_, by omega⟩, rfl⟩
  obtain ⟨j, hj⟩ : ∃ j : Fin 1024, j.val = 512 * (t.val / 2) + y1.val := ⟨⟨_, by omega⟩, rfl⟩
  have e : (win0_2.blk t).view.emb (ix2 y0 y1) = ix2 i j := by
    blk_ext [idx2 t]
    all_goals omega
  refine ((written m c t hr y0 y1).trans ?_).trans (congrArg (total (argA m c) (argB m c)) e.symm)
  refine (congrArg₂ (· + ·) (part_ix m c _ y0 y1 i j ?_ ?_ 0 ?_ fun k => by omega)
    (part_ix m c t y0 y1 i j hi hj 1 hr fun k => by omega)).trans ?_
  · (try dsimp only); omega
  · (try dsimp only); omega
  · (try dsimp only); omega
  · exact sum_halves (n := 2176) rfl fun k => argA m c (ix2 k i) * argB m c (ix2 k j)

end

section
open Cert.MixOutDwRefIdeal Cert.MixOutDwRefIdeal.Gen

/-- The reference's result is the same sum. -/
theorem ref_eq (x : FVec Ideal S4352x2048 .bf16) (w : FVec Ideal S4352x1024 .f32) :
    (transpose S2048x1024 [1, 0] (Host.dotGeneral dot_S4352x1024_S4352x2048_S1024x2048_0_0_1_1_n_n none w (extf .f32 x bitsLt_bf16_f32)) transposes_S1024x2048_S2048x1024_1_0 : FVec Ideal S2048x1024 .f32) = total x w := by
  funext y
  idx_vars y
  refine Eq.trans (b := ∑ k : Fin 4352, w (ix2 k y1) * x (ix2 k y0)) ?_ ?_
  · pointwise
  · exact Finset.sum_congr rfl fun k _ => mul_comm _ _

end

/-- The kernel's result is the reference's. -/
theorem algebraic : Cert.algebraic_MixOutDwIdeal_MixOutDwRefIdeal (hMixOutDwIdeal := Cert.MixOutDwIdeal.Gen.facts)
    (hMixOutDwRefIdeal := Cert.MixOutDwRefIdeal.Gen.facts) := by
  intro m g m' g' _ hargs
  refine ⟨fun c => (Cert.MixOutDwIdeal.Gen.dats m 0 c).arrAt 2 Cert.MixOutDwIdeal.cfg0.N, Cert.MixOutDwIdeal.Value.run_blocks m g, ?_⟩
  refine (θ_run _ _ _).mono (fun r h c => ?_) (Cert.MixOutDwRefIdeal.Value.run m' g')
  refine ⟨(h c).1.trans ?_, (h c).2⟩
  rw [(hargs c).1, (hargs c).2.2]
  exact (ref_eq _ _).trans (final m c).symm

/-- The reference runs and keeps its arguments; it declares no semaphore. -/
theorem frame_r : Cert.quiescent_MixOutDwRefIdeal (hMixOutDwRefIdeal := Cert.MixOutDwRefIdeal.Gen.facts) := by
  intro m ρ _
  exact (θ_run Cert.MixOutDwRefIdeal.defs _ _).mono (fun r h => ⟨fun c => (h c).2,
      Idealize.ShloMosaic.sem_eq_zero_of_no_sems (by decide) r.2⟩)
    (Cert.MixOutDwRefIdeal.Value.run m ρ)

end Cert.Products.MixOutDw
-- ==== Proof.MixOutDx.lean ====
/-
  The gradient of the rows that enter the gated spatial layer's second product: each point writes a block of the
  result, a sum over the whole contracted axis.
-/
module

public import proofs.«01_k».proof.Defs
public import proofs.«01_k».proof.Proof.Sums
public import proofs.«01_k».proof.Proof.Gen.MixOutDx.Frame
public import proofs.«01_k».proof.Proof.Gen.MixOutDxIdeal.Value
public import proofs.«01_k».proof.Proof.Gen.MixOutDxRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Products.MixOutDx

open Idealize.ShloMosaic Idealize.ShloMosaic.TcCoe Idealize.SL.Sem Pipeline

section
open Cert.MixOutDxIdeal Cert.MixOutDxIdeal.Gen

variable (m : (ℓ : Loc nD τ sig) → Buf (Elt Ideal) ℓ) (c : Dev nD)

abbrev argA : FVec Ideal S4352x1024 .f32 := m ((c.tc : Thread nD τ).loc main_arg2)
abbrev argB : FVec Ideal S2048x1024 .bf16 := m ((c.tc : Thread nD τ).loc main_arg1)

theorem in_a (i : Fin 4352) (k : Fin 1024) : V m c main_arg2 (ix2 i k) = argA m c (ix2 i k) := congrFun (V_main_arg2 m c) _

theorem in_b : V m c main_arg1 = argB m c := V_main_arg1 m c

theorem idx0 : ∀ t : Fin cfg0.N, win0_0.index t = ![t.val % 2, 0] := (by decide +kernel : ∀ t : Fin grid0.N, _)
theorem idx1 : ∀ t : Fin cfg0.N, win0_1.index t = ![t.val / 2, 0] := (by decide +kernel : ∀ t : Fin grid0.N, _)
theorem idx2 : ∀ t : Fin cfg0.N, win0_2.index t = ![t.val % 2, t.val / 2] := (by decide +kernel : ∀ t : Fin grid0.N, _)

theorem rd_a (t : Fin cfg0.N) (r : Fin 2176) (k : Fin 1024) : iblk m c 0 t (ix2 r k)
    = V m c main_arg2 (ix2 ⟨2176 * (t.val % 2) + r.val, by have : t.val < 8 := t.isLt; omega⟩ k) := by
  have ht : t.val < 8 := t.isLt
  blk_ext [iblk, idx0 t]

theorem rd_b (t : Fin cfg0.N) (j : Fin 512) (k : Fin 1024) : iblk m c 1 t (ix2 j k)
    = V m c main_arg1 (ix2 ⟨512 * (t.val / 2) + j.val, by have : t.val < 8 := t.isLt; omega⟩ k) := by
  have ht : t.val < 8 := t.isLt
  blk_ext [iblk, idx1 t]

theorem pay_ix (x : FVec Ideal S2176x1024 .f32) (w : FVec Ideal S512x1024 .bf16) (r : Fin 2176) (j : Fin 512) :
    (k0_pay1 x w : FVec Ideal S2176x512 .f32) (ix2 r j) = ∑ k : Fin 1024, x (ix2 r k) * w (ix2 j k) := by
  pointwise [k0_pay1]

/-- The product of a point's two blocks. -/
def part (t : Fin cfg0.N) : FVec Ideal S2176x512 .f32 := k0_pay1 (iblk m c 0 t) (iblk m c 1 t)

/-- The result: the sum over the whole contracted axis. -/
def total (x : FVec Ideal S4352x1024 .f32) (w : FVec Ideal S2048x1024 .bf16) : FVec Ideal S4352x2048 .f32 :=
  fun y => ∑ k : Fin 1024, x (ix2 (y 0) k) * w (ix2 (y 1) k)

/-- What a point writes back. -/
theorem written (t : Fin cfg0.N) : outsAt0 m c t = part m c t := by
  unfold outsAt0
  frame_out
  rfl

theorem part_ix (t : Fin cfg0.N) (r : Fin 2176) (j : Fin 512) : part m c t (ix2 r j)
    = total (argA m c) (argB m c) (ix2 ⟨2176 * (t.val % 2) + r.val, by have : t.val < 8 := t.isLt; omega⟩ ⟨512 * (t.val / 2) + j.val, by have : t.val < 8 := t.isLt; omega⟩) :=
  (pay_ix _ _ r j).trans (Finset.sum_congr rfl fun k _ => congrArg₂ (· * ·) ((rd_a m c t r k).trans (in_a m c _ _))
    ((rd_b m c t j k).trans (congrFun (in_b m c) _)))

theorem final : (dats m 0 c).arrAt 2 cfg0.N = total (argA m c) (argB m c) := by
  refine (dats m 0 c).arrAt_eq_of_covers 2 (total (argA m c) (argB m c)) (by decide +kernel) fun t hf y => ?_
  blk_simp
  rw [after0_2]
  change S2176x512.Idx at y
  idx_vars y
  have ht : t.val < 8 := t.isLt
  have e : (win0_2.blk t).view.emb (ix2 y0 y1) = ix2 ⟨2176 * (t.val % 2) + y0.val, by have : t.val < 8 := t.isLt; omega⟩ ⟨512 * (t.val / 2) + y1.val, by have : t.val < 8 := t.isLt; omega⟩ := by
    blk_ext [idx2 t]
  exact ((congrFun (written m c t) _).trans (part_ix m c t y0 y1)).trans (congrArg (total (argA m c) (argB m c)) e.symm)

end

section
open Cert.MixOutDxRefIdeal Cert.MixOutDxRefIdeal.Gen

/-- The reference's result is the same sum. -/
theorem ref_eq (x : FVec Ideal S4352x1024 .f32) (w : FVec Ideal S2048x1024 .bf16) :
    (Host.dotGeneral dot_S4352x1024_S2048x1024_S4352x2048_1_1_0_0_n_n none x (extf .f32 w bitsLt_bf16_f32) : FVec Ideal S4352x2048 .f32) = total x w := by
  funext y
  idx_vars y
  refine Eq.trans (b := ∑ k : Fin 1024, x (ix2 y0 k) * w (ix2 y1 k)) ?_ ?_
  · pointwise
  · exact Finset.sum_congr rfl fun k _ => rfl

end

/-- The kernel's result is the reference's. -/
theorem algebraic : Cert.algebraic_MixOutDxIdeal_MixOutDxRefIdeal (hMixOutDxIdeal := Cert.MixOutDxIdeal.Gen.facts)
    (hMixOutDxRefIdeal := Cert.MixOutDxRefIdeal.Gen.facts) := by
  intro m g m' g' _ hargs
  refine ⟨fun c => (Cert.MixOutDxIdeal.Gen.dats m 0 c).arrAt 2 Cert.MixOutDxIdeal.cfg0.N, Cert.MixOutDxIdeal.Value.run_blocks m g, ?_⟩
  refine (θ_run _ _ _).mono (fun r h c => ?_) (Cert.MixOutDxRefIdeal.Value.run m' g')
  refine ⟨(h c).1.trans ?_, (h c).2⟩
  rw [(hargs c).2.2, (hargs c).2.1]
  exact (ref_eq _ _).trans (final m c).symm

/-- The reference runs and keeps its arguments; it declares no semaphore. -/
theorem frame_r : Cert.quiescent_MixOutDxRefIdeal (hMixOutDxRefIdeal := Cert.MixOutDxRefIdeal.Gen.facts) := by
  intro m ρ _
  exact (θ_run Cert.MixOutDxRefIdeal.defs _ _).mono (fun r h => ⟨fun c => (h c).2,
      Idealize.ShloMosaic.sem_eq_zero_of_no_sems (by decide) r.2⟩)
    (Cert.MixOutDxRefIdeal.Value.run m ρ)

end Cert.Products.MixOutDx
-- ==== Proof.Adam.lean ====
/-
  One entry of the AdamW step: the new first moment, the new second moment and the weight's change, with the constants
  as the two programs print them.
-/
module

public import Idealize.ShloMosaic.PureOps
public import Idealize.ShloMosaic.Lib.Pipeline.ValueKit

@[expose] public section

noncomputable section

namespace Cert.Adam

open Idealize.ShloMosaic

/-- An entry's value. -/
abbrev E := Ideal .f32

/-- The moving average of the gradient: weights 0.9 and 0.1. -/
def newM (g m : E) : E :=
  FloatOps.addf (FloatOps.mulf (Scalar.ofBits .f32 0x3F666666#32) m) (FloatOps.mulf (Scalar.ofBits .f32 0x3DCCCCCD#32) g)

/-- The moving average of the gradient's square: weights 0.999 and 0.001. -/
def newV (g v : E) : E :=
  FloatOps.addf (FloatOps.mulf (Scalar.ofBits .f32 0x3F7FBE77#32) v)
    (FloatOps.mulf (Scalar.ofBits .f32 0x3A83126F#32) (FloatOps.mulf g g))

/-- The change of the weight: both averages freed of their bias at step 10, their quotient, and the decay. -/
def delta (w g m v : E) : E :=
  FloatOps.mulf (Scalar.ofBits .f32 0xBA83126F#32)
    (FloatOps.addf
      (FloatOps.divf (FloatOps.divf (newM g m) (Scalar.ofBits .f32 0x3F26BD02#32))
        (FloatOps.addf (FloatOps.sqrt (FloatOps.divf (newV g v) (Scalar.ofBits .f32 0x3C231ACC#32)))
          (Scalar.ofBits .f32 0x322BCC77#32)))
      (FloatOps.mulf (Scalar.ofBits .f32 0x3C23D70A#32) w))

theorem zero2 : (![0, 0] : Fin 2 → Nat) = fun _ => 0 := funext fun a => by fin_cases a <;> rfl

end Cert.Adam
-- ==== Proof.AdamCCtx.lean ====
/-
  The AdamW step of the learnt context vector: an array of shape 1024 on a device.
-/
module

public import proofs.«01_k».proof.Defs
public import proofs.«01_k».proof.Proof.Adam
public import proofs.«01_k».proof.Proof.Gen.AdamCCtx.Frame
public import proofs.«01_k».proof.Proof.Gen.AdamCCtxIdeal.Value
public import proofs.«01_k».proof.Proof.Gen.AdamCCtxRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Adam.AdamCCtx

open Idealize.ShloMosaic Idealize.ShloMosaic.TcCoe Idealize.SL.Sem Pipeline

section
open Cert.AdamCCtxIdeal Cert.AdamCCtxIdeal.Gen

variable (m : (ℓ : Loc nD τ sig) → Buf (Elt Ideal) ℓ) (c : Dev nD)

/-- An argument as rows of its last axis. -/
abbrev flat (x : FVec Ideal S1024 .f32) : FVec Ideal S1x1024 .f32 := shapeCast S1x1024 x shapeCasts_S1024_S1x1024

theorem in_0 : V m c main_v0 = flat (m ((c.tc : Thread nD τ).loc main_arg0)) := by
  unfold V
  after_reads_simp
  rfl

theorem in_1 : V m c main_v1 = flat (m ((c.tc : Thread nD τ).loc main_arg1)) := by
  unfold V
  after_reads_simp
  rfl

theorem in_2 : V m c main_v2 = flat (m ((c.tc : Thread nD τ).loc main_arg2)) := by
  unfold V
  after_reads_simp
  rfl

theorem in_3 : V m c main_v3 = flat (m ((c.tc : Thread nD τ).loc main_arg3)) := by
  unfold V
  after_reads_simp
  rfl

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

theorem rd_0 (t : Fin cfg0.N) (r : Fin 1) (j : Fin 1024) : iblk m c 0 t (ix2 r j)
    = V m c main_v0 (ix2 r j) := by
  have ht : t.val < 1 := t.isLt
  blk_ext [iblk, idx0 t]

theorem rd_1 (t : Fin cfg0.N) (r : Fin 1) (j : Fin 1024) : iblk m c 1 t (ix2 r j)
    = V m c main_v1 (ix2 r j) := by
  have ht : t.val < 1 := t.isLt
  blk_ext [iblk, idx1 t]

theorem rd_2 (t : Fin cfg0.N) (r : Fin 1) (j : Fin 1024) : iblk m c 2 t (ix2 r j)
    = V m c main_v2 (ix2 r j) := by
  have ht : t.val < 1 := t.isLt
  blk_ext [iblk, idx2 t]

theorem rd_3 (t : Fin cfg0.N) (r : Fin 1) (j : Fin 1024) : iblk m c 3 t (ix2 r j)
    = V m c main_v3 (ix2 r j) := by
  have ht : t.val < 1 := t.isLt
  blk_ext [iblk, idx3 t]

theorem block_4 (x0 x1 x2 x3 : FVec Ideal S1x1024 .f32) (y : S1x1024.Idx) :
    out0_4 x0 x1 x2 x3 y = delta (x0 y) (x1 y) (x2 y) (x3 y) := by
  unfold out0_4
  rw [View.canon_unit_zero zero2]
  simp only [View.ld_unit_zero (S := S1x1024) zero2, k0_pay1, k0_pay2, k0_pay3, k0_pay4, shapeCast_self]
  rfl

theorem final_4 : (dats m 0 c).arrAt 4 cfg0.N
    = fun y => delta (V m c main_v0 y) (V m c main_v1 y) (V m c main_v2 y) (V m c main_v3 y) := by
  refine (dats m 0 c).arrAt_eq_of_covers 4 (fun y => delta (V m c main_v0 y) (V m c main_v1 y) (V m c main_v2 y) (V m c main_v3 y)) (by decide +kernel) fun t hf y => ?_
  blk_simp
  rw [after0_4]
  change S1x1024.Idx at y
  idx_vars y
  have ht : t.val < 1 := t.isLt
  have e : (win0_4.blk t).view.emb (ix2 y0 y1) = ix2 y0 y1 := by
    blk_ext [idx4 t]
  refine ((block_4 _ _ _ _ _).trans ?_).trans (congrArg (fun y => delta (V m c main_v0 y) (V m c main_v1 y) (V m c main_v2 y) (V m c main_v3 y)) e.symm)
  simp only [rd_0, rd_1, rd_2, rd_3]

theorem block_5 (x0 x1 x2 x3 : FVec Ideal S1x1024 .f32) (y : S1x1024.Idx) :
    out0_5 x0 x1 x2 x3 y = newM (x1 y) (x2 y) := by
  unfold out0_5
  rw [View.canon_unit_zero zero2]
  simp only [View.ld_unit_zero (S := S1x1024) zero2, k0_pay1, k0_pay2, k0_pay3, k0_pay4, shapeCast_self]
  rfl

theorem final_5 : (dats m 0 c).arrAt 5 cfg0.N
    = fun y => newM (V m c main_v1 y) (V m c main_v2 y) := by
  refine (dats m 0 c).arrAt_eq_of_covers 5 (fun y => newM (V m c main_v1 y) (V m c main_v2 y)) (by decide +kernel) fun t hf y => ?_
  blk_simp
  rw [after0_5]
  change S1x1024.Idx at y
  idx_vars y
  have ht : t.val < 1 := t.isLt
  have e : (win0_5.blk t).view.emb (ix2 y0 y1) = ix2 y0 y1 := by
    blk_ext [idx5 t]
  refine ((block_5 _ _ _ _ _).trans ?_).trans (congrArg (fun y => newM (V m c main_v1 y) (V m c main_v2 y)) e.symm)
  simp only [rd_1, rd_2]

theorem block_6 (x0 x1 x2 x3 : FVec Ideal S1x1024 .f32) (y : S1x1024.Idx) :
    out0_6 x0 x1 x2 x3 y = newV (x1 y) (x3 y) := by
  unfold out0_6
  rw [View.canon_unit_zero zero2]
  simp only [View.ld_unit_zero (S := S1x1024) zero2, k0_pay1, k0_pay2, k0_pay3, k0_pay4, shapeCast_self]
  rfl

theorem final_6 : (dats m 0 c).arrAt 6 cfg0.N
    = fun y => newV (V m c main_v1 y) (V m c main_v3 y) := by
  refine (dats m 0 c).arrAt_eq_of_covers 6 (fun y => newV (V m c main_v1 y) (V m c main_v3 y)) (by decide +kernel) fun t hf y => ?_
  blk_simp
  rw [after0_6]
  change S1x1024.Idx at y
  idx_vars y
  have ht : t.val < 1 := t.isLt
  have e : (win0_6.blk t).view.emb (ix2 y0 y1) = ix2 y0 y1 := by
    blk_ext [idx6 t]
  refine ((block_6 _ _ _ _ _).trans ?_).trans (congrArg (fun y => newV (V m c main_v1 y) (V m c main_v3 y)) e.symm)
  simp only [rd_1, rd_3]

end

/-- The call's three results are the reference's. -/
theorem algebraic : Cert.algebraic_AdamCCtxIdeal_AdamCCtxRefIdeal (hAdamCCtxIdeal := Cert.AdamCCtxIdeal.Gen.facts)
    (hAdamCCtxRefIdeal := Cert.AdamCCtxRefIdeal.Gen.facts) := by
  intro m g m' g' _ hargs
  refine ⟨_, _, _, Cert.AdamCCtxIdeal.Value.run_blocks m g, ?_⟩
  refine (θ_run _ _ _).mono (fun r h c => ?_) (Cert.AdamCCtxRefIdeal.Value.run m' g')
  refine ⟨(h c).1.trans ?_, (h c).2.1.trans ?_, (h c).2.2.1.trans ?_, (h c).2.2.2⟩
  · rw [final_4, in_0, in_1, in_2, in_3, (hargs c).1, (hargs c).2.1, (hargs c).2.2.1, (hargs c).2.2.2]
    rfl
  · rw [final_5, in_1, in_2, (hargs c).2.1, (hargs c).2.2.1]
    rfl
  · rw [final_6, in_1, in_3, (hargs c).2.1, (hargs c).2.2.2]
    rfl

/-- The reference runs and keeps its arguments; it declares no semaphore. -/
theorem frame_r : Cert.quiescent_AdamCCtxRefIdeal (hAdamCCtxRefIdeal := Cert.AdamCCtxRefIdeal.Gen.facts) := by
  intro m ρ _
  exact (θ_run Cert.AdamCCtxRefIdeal.defs _ _).mono (fun r h => ⟨fun c => (h c).2.2.2,
      Idealize.ShloMosaic.sem_eq_zero_of_no_sems (by decide) r.2⟩)
    (Cert.AdamCCtxRefIdeal.Value.run m ρ)

end Cert.Adam.AdamCCtx
-- ==== Proof.AdamAdaW.lean ====
/-
  The AdamW step of the modulations' weight: an array of shape 4x1024x768 on a device.
-/
module

public import proofs.«01_k».proof.Defs
public import proofs.«01_k».proof.Proof.Adam
public import proofs.«01_k».proof.Proof.Gen.AdamAdaW.Frame
public import proofs.«01_k».proof.Proof.Gen.AdamAdaWIdeal.Value
public import proofs.«01_k».proof.Proof.Gen.AdamAdaWRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Adam.AdamAdaW

open Idealize.ShloMosaic Idealize.ShloMosaic.TcCoe Idealize.SL.Sem Pipeline

section
open Cert.AdamAdaWIdeal Cert.AdamAdaWIdeal.Gen

variable (m : (ℓ : Loc nD τ sig) → Buf (Elt Ideal) ℓ) (c : Dev nD)

/-- An argument as rows of its last axis. -/
abbrev flat (x : FVec Ideal S4x1024x768 .f32) : FVec Ideal S4096x768 .f32 := shapeCast S4096x768 x shapeCasts_S4x1024x768_S4096x768

theorem in_0 : V m c main_v0 = flat (m ((c.tc : Thread nD τ).loc main_arg0)) := by
  unfold V
  after_reads_simp
  rfl

theorem in_1 : V m c main_v1 = flat (m ((c.tc : Thread nD τ).loc main_arg1)) := by
  unfold V
  after_reads_simp
  rfl

theorem in_2 : V m c main_v2 = flat (m ((c.tc : Thread nD τ).loc main_arg2)) := by
  unfold V
  after_reads_simp
  rfl

theorem in_3 : V m c main_v3 = flat (m ((c.tc : Thread nD τ).loc main_arg3)) := by
  unfold V
  after_reads_simp
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

theorem rd_0 (t : Fin cfg0.N) (r : Fin 512) (j : Fin 768) : iblk m c 0 t (ix2 r j)
    = V m c main_v0 (ix2 ⟨512 * t.val + r.val, by have : t.val < 8 := t.isLt; omega⟩ j) := by
  have ht : t.val < 8 := t.isLt
  blk_ext [iblk, idx0 t]

theorem rd_1 (t : Fin cfg0.N) (r : Fin 512) (j : Fin 768) : iblk m c 1 t (ix2 r j)
    = V m c main_v1 (ix2 ⟨512 * t.val + r.val, by have : t.val < 8 := t.isLt; omega⟩ j) := by
  have ht : t.val < 8 := t.isLt
  blk_ext [iblk, idx1 t]

theorem rd_2 (t : Fin cfg0.N) (r : Fin 512) (j : Fin 768) : iblk m c 2 t (ix2 r j)
    = V m c main_v2 (ix2 ⟨512 * t.val + r.val, by have : t.val < 8 := t.isLt; omega⟩ j) := by
  have ht : t.val < 8 := t.isLt
  blk_ext [iblk, idx2 t]

theorem rd_3 (t : Fin cfg0.N) (r : Fin 512) (j : Fin 768) : iblk m c 3 t (ix2 r j)
    = V m c main_v3 (ix2 ⟨512 * t.val + r.val, by have : t.val < 8 := t.isLt; omega⟩ j) := by
  have ht : t.val < 8 := t.isLt
  blk_ext [iblk, idx3 t]

theorem block_4 (x0 x1 x2 x3 : FVec Ideal S512x768 .f32) (y : S512x768.Idx) :
    out0_4 x0 x1 x2 x3 y = delta (x0 y) (x1 y) (x2 y) (x3 y) := by
  unfold out0_4
  rw [View.canon_unit_zero zero2]
  simp only [View.ld_unit_zero (S := S512x768) zero2, k0_pay1, k0_pay2, k0_pay3, k0_pay4, shapeCast_self]
  rfl

theorem final_4 : (dats m 0 c).arrAt 4 cfg0.N
    = fun y => delta (V m c main_v0 y) (V m c main_v1 y) (V m c main_v2 y) (V m c main_v3 y) := by
  refine (dats m 0 c).arrAt_eq_of_covers 4 (fun y => delta (V m c main_v0 y) (V m c main_v1 y) (V m c main_v2 y) (V m c main_v3 y)) (by decide +kernel) fun t hf y => ?_
  blk_simp
  rw [after0_4]
  change S512x768.Idx at y
  idx_vars y
  have ht : t.val < 8 := t.isLt
  have e : (win0_4.blk t).view.emb (ix2 y0 y1) = ix2 ⟨512 * t.val + y0.val, by have : t.val < 8 := t.isLt; omega⟩ y1 := by
    blk_ext [idx4 t]
  refine ((block_4 _ _ _ _ _).trans ?_).trans (congrArg (fun y => delta (V m c main_v0 y) (V m c main_v1 y) (V m c main_v2 y) (V m c main_v3 y)) e.symm)
  simp only [rd_0, rd_1, rd_2, rd_3]

theorem block_5 (x0 x1 x2 x3 : FVec Ideal S512x768 .f32) (y : S512x768.Idx) :
    out0_5 x0 x1 x2 x3 y = newM (x1 y) (x2 y) := by
  unfold out0_5
  rw [View.canon_unit_zero zero2]
  simp only [View.ld_unit_zero (S := S512x768) zero2, k0_pay1, k0_pay2, k0_pay3, k0_pay4, shapeCast_self]
  rfl

theorem final_5 : (dats m 0 c).arrAt 5 cfg0.N
    = fun y => newM (V m c main_v1 y) (V m c main_v2 y) := by
  refine (dats m 0 c).arrAt_eq_of_covers 5 (fun y => newM (V m c main_v1 y) (V m c main_v2 y)) (by decide +kernel) fun t hf y => ?_
  blk_simp
  rw [after0_5]
  change S512x768.Idx at y
  idx_vars y
  have ht : t.val < 8 := t.isLt
  have e : (win0_5.blk t).view.emb (ix2 y0 y1) = ix2 ⟨512 * t.val + y0.val, by have : t.val < 8 := t.isLt; omega⟩ y1 := by
    blk_ext [idx5 t]
  refine ((block_5 _ _ _ _ _).trans ?_).trans (congrArg (fun y => newM (V m c main_v1 y) (V m c main_v2 y)) e.symm)
  simp only [rd_1, rd_2]

theorem block_6 (x0 x1 x2 x3 : FVec Ideal S512x768 .f32) (y : S512x768.Idx) :
    out0_6 x0 x1 x2 x3 y = newV (x1 y) (x3 y) := by
  unfold out0_6
  rw [View.canon_unit_zero zero2]
  simp only [View.ld_unit_zero (S := S512x768) zero2, k0_pay1, k0_pay2, k0_pay3, k0_pay4, shapeCast_self]
  rfl

theorem final_6 : (dats m 0 c).arrAt 6 cfg0.N
    = fun y => newV (V m c main_v1 y) (V m c main_v3 y) := by
  refine (dats m 0 c).arrAt_eq_of_covers 6 (fun y => newV (V m c main_v1 y) (V m c main_v3 y)) (by decide +kernel) fun t hf y => ?_
  blk_simp
  rw [after0_6]
  change S512x768.Idx at y
  idx_vars y
  have ht : t.val < 8 := t.isLt
  have e : (win0_6.blk t).view.emb (ix2 y0 y1) = ix2 ⟨512 * t.val + y0.val, by have : t.val < 8 := t.isLt; omega⟩ y1 := by
    blk_ext [idx6 t]
  refine ((block_6 _ _ _ _ _).trans ?_).trans (congrArg (fun y => newV (V m c main_v1 y) (V m c main_v3 y)) e.symm)
  simp only [rd_1, rd_3]

end

/-- The call's three results are the reference's. -/
theorem algebraic : Cert.algebraic_AdamAdaWIdeal_AdamAdaWRefIdeal (hAdamAdaWIdeal := Cert.AdamAdaWIdeal.Gen.facts)
    (hAdamAdaWRefIdeal := Cert.AdamAdaWRefIdeal.Gen.facts) := by
  intro m g m' g' _ hargs
  refine ⟨_, _, _, Cert.AdamAdaWIdeal.Value.run_blocks m g, ?_⟩
  refine (θ_run _ _ _).mono (fun r h c => ?_) (Cert.AdamAdaWRefIdeal.Value.run m' g')
  refine ⟨(h c).1.trans ?_, (h c).2.1.trans ?_, (h c).2.2.1.trans ?_, (h c).2.2.2⟩
  · rw [final_4, in_0, in_1, in_2, in_3, (hargs c).1, (hargs c).2.1, (hargs c).2.2.1, (hargs c).2.2.2]
    rfl
  · rw [final_5, in_1, in_2, (hargs c).2.1, (hargs c).2.2.1]
    rfl
  · rw [final_6, in_1, in_3, (hargs c).2.1, (hargs c).2.2.2]
    rfl

/-- The reference runs and keeps its arguments; it declares no semaphore. -/
theorem frame_r : Cert.quiescent_AdamAdaWRefIdeal (hAdamAdaWRefIdeal := Cert.AdamAdaWRefIdeal.Gen.facts) := by
  intro m ρ _
  exact (θ_run Cert.AdamAdaWRefIdeal.defs _ _).mono (fun r h => ⟨fun c => (h c).2.2.2,
      Idealize.ShloMosaic.sem_eq_zero_of_no_sems (by decide) r.2⟩)
    (Cert.AdamAdaWRefIdeal.Value.run m ρ)

end Cert.Adam.AdamAdaW
-- ==== Proof.AdamAdaB.lean ====
/-
  The AdamW step of the modulations' bias: an array of shape 4x6144 on a device.
-/
module

public import proofs.«01_k».proof.Defs
public import proofs.«01_k».proof.Proof.Adam
public import proofs.«01_k».proof.Proof.Gen.AdamAdaB.Frame
public import proofs.«01_k».proof.Proof.Gen.AdamAdaBIdeal.Value
public import proofs.«01_k».proof.Proof.Gen.AdamAdaBRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Adam.AdamAdaB

open Idealize.ShloMosaic Idealize.ShloMosaic.TcCoe Idealize.SL.Sem Pipeline

/-- The call's three results are the reference's. -/
theorem algebraic : Cert.algebraic_AdamAdaBIdeal_AdamAdaBRefIdeal (hAdamAdaBIdeal := Cert.AdamAdaBIdeal.Gen.facts)
    (hAdamAdaBRefIdeal := Cert.AdamAdaBRefIdeal.Gen.facts) := by
  intro m g m' g' _ hargs
  refine ⟨_, _, _, Cert.AdamAdaBIdeal.Value.run m g, ?_⟩
  refine (θ_run _ _ _).mono (fun r h c => ?_) (Cert.AdamAdaBRefIdeal.Value.run m' g')
  refine ⟨(h c).1.trans ?_, (h c).2.1.trans ?_, (h c).2.2.1.trans ?_, (h c).2.2.2⟩
  all_goals
    (try rw [(hargs c).1])
    (try rw [(hargs c).2.1])
    (try rw [(hargs c).2.2.1])
    (try rw [(hargs c).2.2.2])
    rfl

/-- The reference runs and keeps its arguments; it declares no semaphore. -/
theorem frame_r : Cert.quiescent_AdamAdaBRefIdeal (hAdamAdaBRefIdeal := Cert.AdamAdaBRefIdeal.Gen.facts) := by
  intro m ρ _
  exact (θ_run Cert.AdamAdaBRefIdeal.defs _ _).mono (fun r h => ⟨fun c => (h c).2.2.2,
      Idealize.ShloMosaic.sem_eq_zero_of_no_sems (by decide) r.2⟩)
    (Cert.AdamAdaBRefIdeal.Value.run m ρ)

end Cert.Adam.AdamAdaB
-- ==== Proof.AdamNorm.lean ====
/-
  The AdamW step of the norms' scales and shifts (four weights): an array of shape 4x1024 on a device.
-/
module

public import proofs.«01_k».proof.Defs
public import proofs.«01_k».proof.Proof.Adam
public import proofs.«01_k».proof.Proof.Gen.AdamNorm.Frame
public import proofs.«01_k».proof.Proof.Gen.AdamNormIdeal.Value
public import proofs.«01_k».proof.Proof.Gen.AdamNormRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Adam.AdamNorm

open Idealize.ShloMosaic Idealize.ShloMosaic.TcCoe Idealize.SL.Sem Pipeline

/-- The call's three results are the reference's. -/
theorem algebraic : Cert.algebraic_AdamNormIdeal_AdamNormRefIdeal (hAdamNormIdeal := Cert.AdamNormIdeal.Gen.facts)
    (hAdamNormRefIdeal := Cert.AdamNormRefIdeal.Gen.facts) := by
  intro m g m' g' _ hargs
  refine ⟨_, _, _, Cert.AdamNormIdeal.Value.run m g, ?_⟩
  refine (θ_run _ _ _).mono (fun r h c => ?_) (Cert.AdamNormRefIdeal.Value.run m' g')
  refine ⟨(h c).1.trans ?_, (h c).2.1.trans ?_, (h c).2.2.1.trans ?_, (h c).2.2.2⟩
  all_goals
    (try rw [(hargs c).1])
    (try rw [(hargs c).2.1])
    (try rw [(hargs c).2.2.1])
    (try rw [(hargs c).2.2.2])
    rfl

/-- The reference runs and keeps its arguments; it declares no semaphore. -/
theorem frame_r : Cert.quiescent_AdamNormRefIdeal (hAdamNormRefIdeal := Cert.AdamNormRefIdeal.Gen.facts) := by
  intro m ρ _
  exact (θ_run Cert.AdamNormRefIdeal.defs _ _).mono (fun r h => ⟨fun c => (h c).2.2.2,
      Idealize.ShloMosaic.sem_eq_zero_of_no_sems (by decide) r.2⟩)
    (Cert.AdamNormRefIdeal.Value.run m ρ)

end Cert.Adam.AdamNorm
-- ==== Proof.AdamFfnUp.lean ====
/-
  The AdamW step of the feed-forward layer's first weight: an array of shape 4x1024x704 on a device.
-/
module

public import proofs.«01_k».proof.Defs
public import proofs.«01_k».proof.Proof.Adam
public import proofs.«01_k».proof.Proof.Gen.AdamFfnUp.Frame
public import proofs.«01_k».proof.Proof.Gen.AdamFfnUpIdeal.Value
public import proofs.«01_k».proof.Proof.Gen.AdamFfnUpRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Adam.AdamFfnUp

open Idealize.ShloMosaic Idealize.ShloMosaic.TcCoe Idealize.SL.Sem Pipeline

section
open Cert.AdamFfnUpIdeal Cert.AdamFfnUpIdeal.Gen

variable (m : (ℓ : Loc nD τ sig) → Buf (Elt Ideal) ℓ) (c : Dev nD)

/-- An argument as rows of its last axis. -/
abbrev flat (x : FVec Ideal S4x1024x704 .f32) : FVec Ideal S4096x704 .f32 := shapeCast S4096x704 x shapeCasts_S4x1024x704_S4096x704

theorem in_0 : V m c main_v0 = flat (m ((c.tc : Thread nD τ).loc main_arg0)) := by
  unfold V
  after_reads_simp
  rfl

theorem in_1 : V m c main_v1 = flat (m ((c.tc : Thread nD τ).loc main_arg1)) := by
  unfold V
  after_reads_simp
  rfl

theorem in_2 : V m c main_v2 = flat (m ((c.tc : Thread nD τ).loc main_arg2)) := by
  unfold V
  after_reads_simp
  rfl

theorem in_3 : V m c main_v3 = flat (m ((c.tc : Thread nD τ).loc main_arg3)) := by
  unfold V
  after_reads_simp
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

theorem rd_0 (t : Fin cfg0.N) (r : Fin 512) (j : Fin 704) : iblk m c 0 t (ix2 r j)
    = V m c main_v0 (ix2 ⟨512 * t.val + r.val, by have : t.val < 8 := t.isLt; omega⟩ j) := by
  have ht : t.val < 8 := t.isLt
  blk_ext [iblk, idx0 t]

theorem rd_1 (t : Fin cfg0.N) (r : Fin 512) (j : Fin 704) : iblk m c 1 t (ix2 r j)
    = V m c main_v1 (ix2 ⟨512 * t.val + r.val, by have : t.val < 8 := t.isLt; omega⟩ j) := by
  have ht : t.val < 8 := t.isLt
  blk_ext [iblk, idx1 t]

theorem rd_2 (t : Fin cfg0.N) (r : Fin 512) (j : Fin 704) : iblk m c 2 t (ix2 r j)
    = V m c main_v2 (ix2 ⟨512 * t.val + r.val, by have : t.val < 8 := t.isLt; omega⟩ j) := by
  have ht : t.val < 8 := t.isLt
  blk_ext [iblk, idx2 t]

theorem rd_3 (t : Fin cfg0.N) (r : Fin 512) (j : Fin 704) : iblk m c 3 t (ix2 r j)
    = V m c main_v3 (ix2 ⟨512 * t.val + r.val, by have : t.val < 8 := t.isLt; omega⟩ j) := by
  have ht : t.val < 8 := t.isLt
  blk_ext [iblk, idx3 t]

theorem block_4 (x0 x1 x2 x3 : FVec Ideal S512x704 .f32) (y : S512x704.Idx) :
    out0_4 x0 x1 x2 x3 y = delta (x0 y) (x1 y) (x2 y) (x3 y) := by
  unfold out0_4
  rw [View.canon_unit_zero zero2]
  simp only [View.ld_unit_zero (S := S512x704) zero2, k0_pay1, k0_pay2, k0_pay3, k0_pay4, shapeCast_self]
  rfl

theorem final_4 : (dats m 0 c).arrAt 4 cfg0.N
    = fun y => delta (V m c main_v0 y) (V m c main_v1 y) (V m c main_v2 y) (V m c main_v3 y) := by
  refine (dats m 0 c).arrAt_eq_of_covers 4 (fun y => delta (V m c main_v0 y) (V m c main_v1 y) (V m c main_v2 y) (V m c main_v3 y)) (by decide +kernel) fun t hf y => ?_
  blk_simp
  rw [after0_4]
  change S512x704.Idx at y
  idx_vars y
  have ht : t.val < 8 := t.isLt
  have e : (win0_4.blk t).view.emb (ix2 y0 y1) = ix2 ⟨512 * t.val + y0.val, by have : t.val < 8 := t.isLt; omega⟩ y1 := by
    blk_ext [idx4 t]
  refine ((block_4 _ _ _ _ _).trans ?_).trans (congrArg (fun y => delta (V m c main_v0 y) (V m c main_v1 y) (V m c main_v2 y) (V m c main_v3 y)) e.symm)
  simp only [rd_0, rd_1, rd_2, rd_3]

theorem block_5 (x0 x1 x2 x3 : FVec Ideal S512x704 .f32) (y : S512x704.Idx) :
    out0_5 x0 x1 x2 x3 y = newM (x1 y) (x2 y) := by
  unfold out0_5
  rw [View.canon_unit_zero zero2]
  simp only [View.ld_unit_zero (S := S512x704) zero2, k0_pay1, k0_pay2, k0_pay3, k0_pay4, shapeCast_self]
  rfl

theorem final_5 : (dats m 0 c).arrAt 5 cfg0.N
    = fun y => newM (V m c main_v1 y) (V m c main_v2 y) := by
  refine (dats m 0 c).arrAt_eq_of_covers 5 (fun y => newM (V m c main_v1 y) (V m c main_v2 y)) (by decide +kernel) fun t hf y => ?_
  blk_simp
  rw [after0_5]
  change S512x704.Idx at y
  idx_vars y
  have ht : t.val < 8 := t.isLt
  have e : (win0_5.blk t).view.emb (ix2 y0 y1) = ix2 ⟨512 * t.val + y0.val, by have : t.val < 8 := t.isLt; omega⟩ y1 := by
    blk_ext [idx5 t]
  refine ((block_5 _ _ _ _ _).trans ?_).trans (congrArg (fun y => newM (V m c main_v1 y) (V m c main_v2 y)) e.symm)
  simp only [rd_1, rd_2]

theorem block_6 (x0 x1 x2 x3 : FVec Ideal S512x704 .f32) (y : S512x704.Idx) :
    out0_6 x0 x1 x2 x3 y = newV (x1 y) (x3 y) := by
  unfold out0_6
  rw [View.canon_unit_zero zero2]
  simp only [View.ld_unit_zero (S := S512x704) zero2, k0_pay1, k0_pay2, k0_pay3, k0_pay4, shapeCast_self]
  rfl

theorem final_6 : (dats m 0 c).arrAt 6 cfg0.N
    = fun y => newV (V m c main_v1 y) (V m c main_v3 y) := by
  refine (dats m 0 c).arrAt_eq_of_covers 6 (fun y => newV (V m c main_v1 y) (V m c main_v3 y)) (by decide +kernel) fun t hf y => ?_
  blk_simp
  rw [after0_6]
  change S512x704.Idx at y
  idx_vars y
  have ht : t.val < 8 := t.isLt
  have e : (win0_6.blk t).view.emb (ix2 y0 y1) = ix2 ⟨512 * t.val + y0.val, by have : t.val < 8 := t.isLt; omega⟩ y1 := by
    blk_ext [idx6 t]
  refine ((block_6 _ _ _ _ _).trans ?_).trans (congrArg (fun y => newV (V m c main_v1 y) (V m c main_v3 y)) e.symm)
  simp only [rd_1, rd_3]

end

/-- The call's three results are the reference's. -/
theorem algebraic : Cert.algebraic_AdamFfnUpIdeal_AdamFfnUpRefIdeal (hAdamFfnUpIdeal := Cert.AdamFfnUpIdeal.Gen.facts)
    (hAdamFfnUpRefIdeal := Cert.AdamFfnUpRefIdeal.Gen.facts) := by
  intro m g m' g' _ hargs
  refine ⟨_, _, _, Cert.AdamFfnUpIdeal.Value.run_blocks m g, ?_⟩
  refine (θ_run _ _ _).mono (fun r h c => ?_) (Cert.AdamFfnUpRefIdeal.Value.run m' g')
  refine ⟨(h c).1.trans ?_, (h c).2.1.trans ?_, (h c).2.2.1.trans ?_, (h c).2.2.2⟩
  · rw [final_4, in_0, in_1, in_2, in_3, (hargs c).1, (hargs c).2.1, (hargs c).2.2.1, (hargs c).2.2.2]
    rfl
  · rw [final_5, in_1, in_2, (hargs c).2.1, (hargs c).2.2.1]
    rfl
  · rw [final_6, in_1, in_3, (hargs c).2.1, (hargs c).2.2.2]
    rfl

/-- The reference runs and keeps its arguments; it declares no semaphore. -/
theorem frame_r : Cert.quiescent_AdamFfnUpRefIdeal (hAdamFfnUpRefIdeal := Cert.AdamFfnUpRefIdeal.Gen.facts) := by
  intro m ρ _
  exact (θ_run Cert.AdamFfnUpRefIdeal.defs _ _).mono (fun r h => ⟨fun c => (h c).2.2.2,
      Idealize.ShloMosaic.sem_eq_zero_of_no_sems (by decide) r.2⟩)
    (Cert.AdamFfnUpRefIdeal.Value.run m ρ)

end Cert.Adam.AdamFfnUp
-- ==== Proof.AdamConvW.lean ====
/-
  The AdamW step of the convolution's weight: an array of shape 4x3x704 on a device.
-/
module

public import proofs.«01_k».proof.Defs
public import proofs.«01_k».proof.Proof.Adam
public import proofs.«01_k».proof.Proof.Gen.AdamConvW.Frame
public import proofs.«01_k».proof.Proof.Gen.AdamConvWIdeal.Value
public import proofs.«01_k».proof.Proof.Gen.AdamConvWRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Adam.AdamConvW

open Idealize.ShloMosaic Idealize.ShloMosaic.TcCoe Idealize.SL.Sem Pipeline

section
open Cert.AdamConvWIdeal Cert.AdamConvWIdeal.Gen

variable (m : (ℓ : Loc nD τ sig) → Buf (Elt Ideal) ℓ) (c : Dev nD)

/-- An argument as rows of its last axis. -/
abbrev flat (x : FVec Ideal S4x3x704 .f32) : FVec Ideal S12x704 .f32 := shapeCast S12x704 x shapeCasts_S4x3x704_S12x704

theorem in_0 : V m c main_v0 = flat (m ((c.tc : Thread nD τ).loc main_arg0)) := by
  unfold V
  after_reads_simp
  rfl

theorem in_1 : V m c main_v1 = flat (m ((c.tc : Thread nD τ).loc main_arg1)) := by
  unfold V
  after_reads_simp
  rfl

theorem in_2 : V m c main_v2 = flat (m ((c.tc : Thread nD τ).loc main_arg2)) := by
  unfold V
  after_reads_simp
  rfl

theorem in_3 : V m c main_v3 = flat (m ((c.tc : Thread nD τ).loc main_arg3)) := by
  unfold V
  after_reads_simp
  rfl

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

theorem rd_0 (t : Fin cfg0.N) (r : Fin 12) (j : Fin 704) : iblk m c 0 t (ix2 r j)
    = V m c main_v0 (ix2 r j) := by
  have ht : t.val < 1 := t.isLt
  blk_ext [iblk, idx0 t]

theorem rd_1 (t : Fin cfg0.N) (r : Fin 12) (j : Fin 704) : iblk m c 1 t (ix2 r j)
    = V m c main_v1 (ix2 r j) := by
  have ht : t.val < 1 := t.isLt
  blk_ext [iblk, idx1 t]

theorem rd_2 (t : Fin cfg0.N) (r : Fin 12) (j : Fin 704) : iblk m c 2 t (ix2 r j)
    = V m c main_v2 (ix2 r j) := by
  have ht : t.val < 1 := t.isLt
  blk_ext [iblk, idx2 t]

theorem rd_3 (t : Fin cfg0.N) (r : Fin 12) (j : Fin 704) : iblk m c 3 t (ix2 r j)
    = V m c main_v3 (ix2 r j) := by
  have ht : t.val < 1 := t.isLt
  blk_ext [iblk, idx3 t]

theorem block_4 (x0 x1 x2 x3 : FVec Ideal S12x704 .f32) (y : S12x704.Idx) :
    out0_4 x0 x1 x2 x3 y = delta (x0 y) (x1 y) (x2 y) (x3 y) := by
  unfold out0_4
  rw [View.canon_unit_zero zero2]
  simp only [View.ld_unit_zero (S := S12x704) zero2, k0_pay1, k0_pay2, k0_pay3, k0_pay4, shapeCast_self]
  rfl

theorem final_4 : (dats m 0 c).arrAt 4 cfg0.N
    = fun y => delta (V m c main_v0 y) (V m c main_v1 y) (V m c main_v2 y) (V m c main_v3 y) := by
  refine (dats m 0 c).arrAt_eq_of_covers 4 (fun y => delta (V m c main_v0 y) (V m c main_v1 y) (V m c main_v2 y) (V m c main_v3 y)) (by decide +kernel) fun t hf y => ?_
  blk_simp
  rw [after0_4]
  change S12x704.Idx at y
  idx_vars y
  have ht : t.val < 1 := t.isLt
  have e : (win0_4.blk t).view.emb (ix2 y0 y1) = ix2 y0 y1 := by
    blk_ext [idx4 t]
  refine ((block_4 _ _ _ _ _).trans ?_).trans (congrArg (fun y => delta (V m c main_v0 y) (V m c main_v1 y) (V m c main_v2 y) (V m c main_v3 y)) e.symm)
  simp only [rd_0, rd_1, rd_2, rd_3]

theorem block_5 (x0 x1 x2 x3 : FVec Ideal S12x704 .f32) (y : S12x704.Idx) :
    out0_5 x0 x1 x2 x3 y = newM (x1 y) (x2 y) := by
  unfold out0_5
  rw [View.canon_unit_zero zero2]
  simp only [View.ld_unit_zero (S := S12x704) zero2, k0_pay1, k0_pay2, k0_pay3, k0_pay4, shapeCast_self]
  rfl

theorem final_5 : (dats m 0 c).arrAt 5 cfg0.N
    = fun y => newM (V m c main_v1 y) (V m c main_v2 y) := by
  refine (dats m 0 c).arrAt_eq_of_covers 5 (fun y => newM (V m c main_v1 y) (V m c main_v2 y)) (by decide +kernel) fun t hf y => ?_
  blk_simp
  rw [after0_5]
  change S12x704.Idx at y
  idx_vars y
  have ht : t.val < 1 := t.isLt
  have e : (win0_5.blk t).view.emb (ix2 y0 y1) = ix2 y0 y1 := by
    blk_ext [idx5 t]
  refine ((block_5 _ _ _ _ _).trans ?_).trans (congrArg (fun y => newM (V m c main_v1 y) (V m c main_v2 y)) e.symm)
  simp only [rd_1, rd_2]

theorem block_6 (x0 x1 x2 x3 : FVec Ideal S12x704 .f32) (y : S12x704.Idx) :
    out0_6 x0 x1 x2 x3 y = newV (x1 y) (x3 y) := by
  unfold out0_6
  rw [View.canon_unit_zero zero2]
  simp only [View.ld_unit_zero (S := S12x704) zero2, k0_pay1, k0_pay2, k0_pay3, k0_pay4, shapeCast_self]
  rfl

theorem final_6 : (dats m 0 c).arrAt 6 cfg0.N
    = fun y => newV (V m c main_v1 y) (V m c main_v3 y) := by
  refine (dats m 0 c).arrAt_eq_of_covers 6 (fun y => newV (V m c main_v1 y) (V m c main_v3 y)) (by decide +kernel) fun t hf y => ?_
  blk_simp
  rw [after0_6]
  change S12x704.Idx at y
  idx_vars y
  have ht : t.val < 1 := t.isLt
  have e : (win0_6.blk t).view.emb (ix2 y0 y1) = ix2 y0 y1 := by
    blk_ext [idx6 t]
  refine ((block_6 _ _ _ _ _).trans ?_).trans (congrArg (fun y => newV (V m c main_v1 y) (V m c main_v3 y)) e.symm)
  simp only [rd_1, rd_3]

end

/-- The call's three results are the reference's. -/
theorem algebraic : Cert.algebraic_AdamConvWIdeal_AdamConvWRefIdeal (hAdamConvWIdeal := Cert.AdamConvWIdeal.Gen.facts)
    (hAdamConvWRefIdeal := Cert.AdamConvWRefIdeal.Gen.facts) := by
  intro m g m' g' _ hargs
  refine ⟨_, _, _, Cert.AdamConvWIdeal.Value.run_blocks m g, ?_⟩
  refine (θ_run _ _ _).mono (fun r h c => ?_) (Cert.AdamConvWRefIdeal.Value.run m' g')
  refine ⟨(h c).1.trans ?_, (h c).2.1.trans ?_, (h c).2.2.1.trans ?_, (h c).2.2.2⟩
  · rw [final_4, in_0, in_1, in_2, in_3, (hargs c).1, (hargs c).2.1, (hargs c).2.2.1, (hargs c).2.2.2]
    rfl
  · rw [final_5, in_1, in_2, (hargs c).2.1, (hargs c).2.2.1]
    rfl
  · rw [final_6, in_1, in_3, (hargs c).2.1, (hargs c).2.2.2]
    rfl

/-- The reference runs and keeps its arguments; it declares no semaphore. -/
theorem frame_r : Cert.quiescent_AdamConvWRefIdeal (hAdamConvWRefIdeal := Cert.AdamConvWRefIdeal.Gen.facts) := by
  intro m ρ _
  exact (θ_run Cert.AdamConvWRefIdeal.defs _ _).mono (fun r h => ⟨fun c => (h c).2.2.2,
      Idealize.ShloMosaic.sem_eq_zero_of_no_sems (by decide) r.2⟩)
    (Cert.AdamConvWRefIdeal.Value.run m ρ)

end Cert.Adam.AdamConvW
-- ==== Proof.AdamConvB.lean ====
/-
  The AdamW step of the convolution's bias: an array of shape 4x5632 on a device.
-/
module

public import proofs.«01_k».proof.Defs
public import proofs.«01_k».proof.Proof.Adam
public import proofs.«01_k».proof.Proof.Gen.AdamConvB.Frame
public import proofs.«01_k».proof.Proof.Gen.AdamConvBIdeal.Value
public import proofs.«01_k».proof.Proof.Gen.AdamConvBRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Adam.AdamConvB

open Idealize.ShloMosaic Idealize.ShloMosaic.TcCoe Idealize.SL.Sem Pipeline

/-- The call's three results are the reference's. -/
theorem algebraic : Cert.algebraic_AdamConvBIdeal_AdamConvBRefIdeal (hAdamConvBIdeal := Cert.AdamConvBIdeal.Gen.facts)
    (hAdamConvBRefIdeal := Cert.AdamConvBRefIdeal.Gen.facts) := by
  intro m g m' g' _ hargs
  refine ⟨_, _, _, Cert.AdamConvBIdeal.Value.run m g, ?_⟩
  refine (θ_run _ _ _).mono (fun r h c => ?_) (Cert.AdamConvBRefIdeal.Value.run m' g')
  refine ⟨(h c).1.trans ?_, (h c).2.1.trans ?_, (h c).2.2.1.trans ?_, (h c).2.2.2⟩
  all_goals
    (try rw [(hargs c).1])
    (try rw [(hargs c).2.1])
    (try rw [(hargs c).2.2.1])
    (try rw [(hargs c).2.2.2])
    rfl

/-- The reference runs and keeps its arguments; it declares no semaphore. -/
theorem frame_r : Cert.quiescent_AdamConvBRefIdeal (hAdamConvBRefIdeal := Cert.AdamConvBRefIdeal.Gen.facts) := by
  intro m ρ _
  exact (θ_run Cert.AdamConvBRefIdeal.defs _ _).mono (fun r h => ⟨fun c => (h c).2.2.2,
      Idealize.ShloMosaic.sem_eq_zero_of_no_sems (by decide) r.2⟩)
    (Cert.AdamConvBRefIdeal.Value.run m ρ)

end Cert.Adam.AdamConvB
-- ==== Proof.AdamFfnDown.lean ====
/-
  The AdamW step of the feed-forward layer's second weight: an array of shape 4x352x1024 on a device.
-/
module

public import proofs.«01_k».proof.Defs
public import proofs.«01_k».proof.Proof.Adam
public import proofs.«01_k».proof.Proof.Gen.AdamFfnDown.Frame
public import proofs.«01_k».proof.Proof.Gen.AdamFfnDownIdeal.Value
public import proofs.«01_k».proof.Proof.Gen.AdamFfnDownRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Adam.AdamFfnDown

open Idealize.ShloMosaic Idealize.ShloMosaic.TcCoe Idealize.SL.Sem Pipeline

section
open Cert.AdamFfnDownIdeal Cert.AdamFfnDownIdeal.Gen

variable (m : (ℓ : Loc nD τ sig) → Buf (Elt Ideal) ℓ) (c : Dev nD)

/-- An argument as rows of its last axis. -/
abbrev flat (x : FVec Ideal S4x352x1024 .f32) : FVec Ideal S1408x1024 .f32 := shapeCast S1408x1024 x shapeCasts_S4x352x1024_S1408x1024

theorem in_0 : V m c main_v0 = flat (m ((c.tc : Thread nD τ).loc main_arg0)) := by
  unfold V
  after_reads_simp
  rfl

theorem in_1 : V m c main_v1 = flat (m ((c.tc : Thread nD τ).loc main_arg1)) := by
  unfold V
  after_reads_simp
  rfl

theorem in_2 : V m c main_v2 = flat (m ((c.tc : Thread nD τ).loc main_arg2)) := by
  unfold V
  after_reads_simp
  rfl

theorem in_3 : V m c main_v3 = flat (m ((c.tc : Thread nD τ).loc main_arg3)) := by
  unfold V
  after_reads_simp
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

theorem rd_0 (t : Fin cfg0.N) (r : Fin 352) (j : Fin 1024) : iblk m c 0 t (ix2 r j)
    = V m c main_v0 (ix2 ⟨352 * t.val + r.val, by have : t.val < 4 := t.isLt; omega⟩ j) := by
  have ht : t.val < 4 := t.isLt
  blk_ext [iblk, idx0 t]

theorem rd_1 (t : Fin cfg0.N) (r : Fin 352) (j : Fin 1024) : iblk m c 1 t (ix2 r j)
    = V m c main_v1 (ix2 ⟨352 * t.val + r.val, by have : t.val < 4 := t.isLt; omega⟩ j) := by
  have ht : t.val < 4 := t.isLt
  blk_ext [iblk, idx1 t]

theorem rd_2 (t : Fin cfg0.N) (r : Fin 352) (j : Fin 1024) : iblk m c 2 t (ix2 r j)
    = V m c main_v2 (ix2 ⟨352 * t.val + r.val, by have : t.val < 4 := t.isLt; omega⟩ j) := by
  have ht : t.val < 4 := t.isLt
  blk_ext [iblk, idx2 t]

theorem rd_3 (t : Fin cfg0.N) (r : Fin 352) (j : Fin 1024) : iblk m c 3 t (ix2 r j)
    = V m c main_v3 (ix2 ⟨352 * t.val + r.val, by have : t.val < 4 := t.isLt; omega⟩ j) := by
  have ht : t.val < 4 := t.isLt
  blk_ext [iblk, idx3 t]

theorem block_4 (x0 x1 x2 x3 : FVec Ideal S352x1024 .f32) (y : S352x1024.Idx) :
    out0_4 x0 x1 x2 x3 y = delta (x0 y) (x1 y) (x2 y) (x3 y) := by
  unfold out0_4
  rw [View.canon_unit_zero zero2]
  simp only [View.ld_unit_zero (S := S352x1024) zero2, k0_pay1, k0_pay2, k0_pay3, k0_pay4, shapeCast_self]
  rfl

theorem final_4 : (dats m 0 c).arrAt 4 cfg0.N
    = fun y => delta (V m c main_v0 y) (V m c main_v1 y) (V m c main_v2 y) (V m c main_v3 y) := by
  refine (dats m 0 c).arrAt_eq_of_covers 4 (fun y => delta (V m c main_v0 y) (V m c main_v1 y) (V m c main_v2 y) (V m c main_v3 y)) (by decide +kernel) fun t hf y => ?_
  blk_simp
  rw [after0_4]
  change S352x1024.Idx at y
  idx_vars y
  have ht : t.val < 4 := t.isLt
  have e : (win0_4.blk t).view.emb (ix2 y0 y1) = ix2 ⟨352 * t.val + y0.val, by have : t.val < 4 := t.isLt; omega⟩ y1 := by
    blk_ext [idx4 t]
  refine ((block_4 _ _ _ _ _).trans ?_).trans (congrArg (fun y => delta (V m c main_v0 y) (V m c main_v1 y) (V m c main_v2 y) (V m c main_v3 y)) e.symm)
  simp only [rd_0, rd_1, rd_2, rd_3]

theorem block_5 (x0 x1 x2 x3 : FVec Ideal S352x1024 .f32) (y : S352x1024.Idx) :
    out0_5 x0 x1 x2 x3 y = newM (x1 y) (x2 y) := by
  unfold out0_5
  rw [View.canon_unit_zero zero2]
  simp only [View.ld_unit_zero (S := S352x1024) zero2, k0_pay1, k0_pay2, k0_pay3, k0_pay4, shapeCast_self]
  rfl

theorem final_5 : (dats m 0 c).arrAt 5 cfg0.N
    = fun y => newM (V m c main_v1 y) (V m c main_v2 y) := by
  refine (dats m 0 c).arrAt_eq_of_covers 5 (fun y => newM (V m c main_v1 y) (V m c main_v2 y)) (by decide +kernel) fun t hf y => ?_
  blk_simp
  rw [after0_5]
  change S352x1024.Idx at y
  idx_vars y
  have ht : t.val < 4 := t.isLt
  have e : (win0_5.blk t).view.emb (ix2 y0 y1) = ix2 ⟨352 * t.val + y0.val, by have : t.val < 4 := t.isLt; omega⟩ y1 := by
    blk_ext [idx5 t]
  refine ((block_5 _ _ _ _ _).trans ?_).trans (congrArg (fun y => newM (V m c main_v1 y) (V m c main_v2 y)) e.symm)
  simp only [rd_1, rd_2]

theorem block_6 (x0 x1 x2 x3 : FVec Ideal S352x1024 .f32) (y : S352x1024.Idx) :
    out0_6 x0 x1 x2 x3 y = newV (x1 y) (x3 y) := by
  unfold out0_6
  rw [View.canon_unit_zero zero2]
  simp only [View.ld_unit_zero (S := S352x1024) zero2, k0_pay1, k0_pay2, k0_pay3, k0_pay4, shapeCast_self]
  rfl

theorem final_6 : (dats m 0 c).arrAt 6 cfg0.N
    = fun y => newV (V m c main_v1 y) (V m c main_v3 y) := by
  refine (dats m 0 c).arrAt_eq_of_covers 6 (fun y => newV (V m c main_v1 y) (V m c main_v3 y)) (by decide +kernel) fun t hf y => ?_
  blk_simp
  rw [after0_6]
  change S352x1024.Idx at y
  idx_vars y
  have ht : t.val < 4 := t.isLt
  have e : (win0_6.blk t).view.emb (ix2 y0 y1) = ix2 ⟨352 * t.val + y0.val, by have : t.val < 4 := t.isLt; omega⟩ y1 := by
    blk_ext [idx6 t]
  refine ((block_6 _ _ _ _ _).trans ?_).trans (congrArg (fun y => newV (V m c main_v1 y) (V m c main_v3 y)) e.symm)
  simp only [rd_1, rd_3]

end

/-- The call's three results are the reference's. -/
theorem algebraic : Cert.algebraic_AdamFfnDownIdeal_AdamFfnDownRefIdeal (hAdamFfnDownIdeal := Cert.AdamFfnDownIdeal.Gen.facts)
    (hAdamFfnDownRefIdeal := Cert.AdamFfnDownRefIdeal.Gen.facts) := by
  intro m g m' g' _ hargs
  refine ⟨_, _, _, Cert.AdamFfnDownIdeal.Value.run_blocks m g, ?_⟩
  refine (θ_run _ _ _).mono (fun r h c => ?_) (Cert.AdamFfnDownRefIdeal.Value.run m' g')
  refine ⟨(h c).1.trans ?_, (h c).2.1.trans ?_, (h c).2.2.1.trans ?_, (h c).2.2.2⟩
  · rw [final_4, in_0, in_1, in_2, in_3, (hargs c).1, (hargs c).2.1, (hargs c).2.2.1, (hargs c).2.2.2]
    rfl
  · rw [final_5, in_1, in_2, (hargs c).2.1, (hargs c).2.2.1]
    rfl
  · rw [final_6, in_1, in_3, (hargs c).2.1, (hargs c).2.2.2]
    rfl

/-- The reference runs and keeps its arguments; it declares no semaphore. -/
theorem frame_r : Cert.quiescent_AdamFfnDownRefIdeal (hAdamFfnDownRefIdeal := Cert.AdamFfnDownRefIdeal.Gen.facts) := by
  intro m ρ _
  exact (θ_run Cert.AdamFfnDownRefIdeal.defs _ _).mono (fun r h => ⟨fun c => (h c).2.2.2,
      Idealize.ShloMosaic.sem_eq_zero_of_no_sems (by decide) r.2⟩)
    (Cert.AdamFfnDownRefIdeal.Value.run m ρ)

end Cert.Adam.AdamFfnDown
-- ==== Proof.AdamPoolW.lean ====
/-
  The AdamW step of the pooling's weight: an array of shape 1x4x32x256 on a device.
-/
module

public import proofs.«01_k».proof.Defs
public import proofs.«01_k».proof.Proof.Adam
public import proofs.«01_k».proof.Proof.Gen.AdamPoolW.Frame
public import proofs.«01_k».proof.Proof.Gen.AdamPoolWIdeal.Value
public import proofs.«01_k».proof.Proof.Gen.AdamPoolWRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Adam.AdamPoolW

open Idealize.ShloMosaic Idealize.ShloMosaic.TcCoe Idealize.SL.Sem Pipeline

section
open Cert.AdamPoolWIdeal Cert.AdamPoolWIdeal.Gen

variable (m : (ℓ : Loc nD τ sig) → Buf (Elt Ideal) ℓ) (c : Dev nD)

/-- An argument as rows of its last axis. -/
abbrev flat (x : FVec Ideal S1x4x32x256 .f32) : FVec Ideal S128x256 .f32 := shapeCast S128x256 x shapeCasts_S1x4x32x256_S128x256

theorem in_0 : V m c main_v0 = flat (m ((c.tc : Thread nD τ).loc main_arg0)) := by
  unfold V
  after_reads_simp
  rfl

theorem in_1 : V m c main_v1 = flat (m ((c.tc : Thread nD τ).loc main_arg1)) := by
  unfold V
  after_reads_simp
  rfl

theorem in_2 : V m c main_v2 = flat (m ((c.tc : Thread nD τ).loc main_arg2)) := by
  unfold V
  after_reads_simp
  rfl

theorem in_3 : V m c main_v3 = flat (m ((c.tc : Thread nD τ).loc main_arg3)) := by
  unfold V
  after_reads_simp
  rfl

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

theorem rd_0 (t : Fin cfg0.N) (r : Fin 128) (j : Fin 256) : iblk m c 0 t (ix2 r j)
    = V m c main_v0 (ix2 r j) := by
  have ht : t.val < 1 := t.isLt
  blk_ext [iblk, idx0 t]

theorem rd_1 (t : Fin cfg0.N) (r : Fin 128) (j : Fin 256) : iblk m c 1 t (ix2 r j)
    = V m c main_v1 (ix2 r j) := by
  have ht : t.val < 1 := t.isLt
  blk_ext [iblk, idx1 t]

theorem rd_2 (t : Fin cfg0.N) (r : Fin 128) (j : Fin 256) : iblk m c 2 t (ix2 r j)
    = V m c main_v2 (ix2 r j) := by
  have ht : t.val < 1 := t.isLt
  blk_ext [iblk, idx2 t]

theorem rd_3 (t : Fin cfg0.N) (r : Fin 128) (j : Fin 256) : iblk m c 3 t (ix2 r j)
    = V m c main_v3 (ix2 r j) := by
  have ht : t.val < 1 := t.isLt
  blk_ext [iblk, idx3 t]

theorem block_4 (x0 x1 x2 x3 : FVec Ideal S128x256 .f32) (y : S128x256.Idx) :
    out0_4 x0 x1 x2 x3 y = delta (x0 y) (x1 y) (x2 y) (x3 y) := by
  unfold out0_4
  rw [View.canon_unit_zero zero2]
  simp only [View.ld_unit_zero (S := S128x256) zero2, k0_pay1, k0_pay2, k0_pay3, k0_pay4, shapeCast_self]
  rfl

theorem final_4 : (dats m 0 c).arrAt 4 cfg0.N
    = fun y => delta (V m c main_v0 y) (V m c main_v1 y) (V m c main_v2 y) (V m c main_v3 y) := by
  refine (dats m 0 c).arrAt_eq_of_covers 4 (fun y => delta (V m c main_v0 y) (V m c main_v1 y) (V m c main_v2 y) (V m c main_v3 y)) (by decide +kernel) fun t hf y => ?_
  blk_simp
  rw [after0_4]
  change S128x256.Idx at y
  idx_vars y
  have ht : t.val < 1 := t.isLt
  have e : (win0_4.blk t).view.emb (ix2 y0 y1) = ix2 y0 y1 := by
    blk_ext [idx4 t]
  refine ((block_4 _ _ _ _ _).trans ?_).trans (congrArg (fun y => delta (V m c main_v0 y) (V m c main_v1 y) (V m c main_v2 y) (V m c main_v3 y)) e.symm)
  simp only [rd_0, rd_1, rd_2, rd_3]

theorem block_5 (x0 x1 x2 x3 : FVec Ideal S128x256 .f32) (y : S128x256.Idx) :
    out0_5 x0 x1 x2 x3 y = newM (x1 y) (x2 y) := by
  unfold out0_5
  rw [View.canon_unit_zero zero2]
  simp only [View.ld_unit_zero (S := S128x256) zero2, k0_pay1, k0_pay2, k0_pay3, k0_pay4, shapeCast_self]
  rfl

theorem final_5 : (dats m 0 c).arrAt 5 cfg0.N
    = fun y => newM (V m c main_v1 y) (V m c main_v2 y) := by
  refine (dats m 0 c).arrAt_eq_of_covers 5 (fun y => newM (V m c main_v1 y) (V m c main_v2 y)) (by decide +kernel) fun t hf y => ?_
  blk_simp
  rw [after0_5]
  change S128x256.Idx at y
  idx_vars y
  have ht : t.val < 1 := t.isLt
  have e : (win0_5.blk t).view.emb (ix2 y0 y1) = ix2 y0 y1 := by
    blk_ext [idx5 t]
  refine ((block_5 _ _ _ _ _).trans ?_).trans (congrArg (fun y => newM (V m c main_v1 y) (V m c main_v2 y)) e.symm)
  simp only [rd_1, rd_2]

theorem block_6 (x0 x1 x2 x3 : FVec Ideal S128x256 .f32) (y : S128x256.Idx) :
    out0_6 x0 x1 x2 x3 y = newV (x1 y) (x3 y) := by
  unfold out0_6
  rw [View.canon_unit_zero zero2]
  simp only [View.ld_unit_zero (S := S128x256) zero2, k0_pay1, k0_pay2, k0_pay3, k0_pay4, shapeCast_self]
  rfl

theorem final_6 : (dats m 0 c).arrAt 6 cfg0.N
    = fun y => newV (V m c main_v1 y) (V m c main_v3 y) := by
  refine (dats m 0 c).arrAt_eq_of_covers 6 (fun y => newV (V m c main_v1 y) (V m c main_v3 y)) (by decide +kernel) fun t hf y => ?_
  blk_simp
  rw [after0_6]
  change S128x256.Idx at y
  idx_vars y
  have ht : t.val < 1 := t.isLt
  have e : (win0_6.blk t).view.emb (ix2 y0 y1) = ix2 y0 y1 := by
    blk_ext [idx6 t]
  refine ((block_6 _ _ _ _ _).trans ?_).trans (congrArg (fun y => newV (V m c main_v1 y) (V m c main_v3 y)) e.symm)
  simp only [rd_1, rd_3]

end

/-- The call's three results are the reference's. -/
theorem algebraic : Cert.algebraic_AdamPoolWIdeal_AdamPoolWRefIdeal (hAdamPoolWIdeal := Cert.AdamPoolWIdeal.Gen.facts)
    (hAdamPoolWRefIdeal := Cert.AdamPoolWRefIdeal.Gen.facts) := by
  intro m g m' g' _ hargs
  refine ⟨_, _, _, Cert.AdamPoolWIdeal.Value.run_blocks m g, ?_⟩
  refine (θ_run _ _ _).mono (fun r h c => ?_) (Cert.AdamPoolWRefIdeal.Value.run m' g')
  refine ⟨(h c).1.trans ?_, (h c).2.1.trans ?_, (h c).2.2.1.trans ?_, (h c).2.2.2⟩
  · rw [final_4, in_0, in_1, in_2, in_3, (hargs c).1, (hargs c).2.1, (hargs c).2.2.1, (hargs c).2.2.2]
    rfl
  · rw [final_5, in_1, in_2, (hargs c).2.1, (hargs c).2.2.1]
    rfl
  · rw [final_6, in_1, in_3, (hargs c).2.1, (hargs c).2.2.2]
    rfl

/-- The reference runs and keeps its arguments; it declares no semaphore. -/
theorem frame_r : Cert.quiescent_AdamPoolWRefIdeal (hAdamPoolWRefIdeal := Cert.AdamPoolWRefIdeal.Gen.facts) := by
  intro m ρ _
  exact (θ_run Cert.AdamPoolWRefIdeal.defs _ _).mono (fun r h => ⟨fun c => (h c).2.2.2,
      Idealize.ShloMosaic.sem_eq_zero_of_no_sems (by decide) r.2⟩)
    (Cert.AdamPoolWRefIdeal.Value.run m ρ)

end Cert.Adam.AdamPoolW
-- ==== Proof.AdamPool.lean ====
/-
  The AdamW step of the pooling's bias and scale: an array of shape 1x1024 on a device.
-/
module

public import proofs.«01_k».proof.Defs
public import proofs.«01_k».proof.Proof.Adam
public import proofs.«01_k».proof.Proof.Gen.AdamPool.Frame
public import proofs.«01_k».proof.Proof.Gen.AdamPoolIdeal.Value
public import proofs.«01_k».proof.Proof.Gen.AdamPoolRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Adam.AdamPool

open Idealize.ShloMosaic Idealize.ShloMosaic.TcCoe Idealize.SL.Sem Pipeline

/-- The call's three results are the reference's. -/
theorem algebraic : Cert.algebraic_AdamPoolIdeal_AdamPoolRefIdeal (hAdamPoolIdeal := Cert.AdamPoolIdeal.Gen.facts)
    (hAdamPoolRefIdeal := Cert.AdamPoolRefIdeal.Gen.facts) := by
  intro m g m' g' _ hargs
  refine ⟨_, _, _, Cert.AdamPoolIdeal.Value.run m g, ?_⟩
  refine (θ_run _ _ _).mono (fun r h c => ?_) (Cert.AdamPoolRefIdeal.Value.run m' g')
  refine ⟨(h c).1.trans ?_, (h c).2.1.trans ?_, (h c).2.2.1.trans ?_, (h c).2.2.2⟩
  all_goals
    (try rw [(hargs c).1])
    (try rw [(hargs c).2.1])
    (try rw [(hargs c).2.2.1])
    (try rw [(hargs c).2.2.2])
    rfl

/-- The reference runs and keeps its arguments; it declares no semaphore. -/
theorem frame_r : Cert.quiescent_AdamPoolRefIdeal (hAdamPoolRefIdeal := Cert.AdamPoolRefIdeal.Gen.facts) := by
  intro m ρ _
  exact (θ_run Cert.AdamPoolRefIdeal.defs _ _).mono (fun r h => ⟨fun c => (h c).2.2.2,
      Idealize.ShloMosaic.sem_eq_zero_of_no_sems (by decide) r.2⟩)
    (Cert.AdamPoolRefIdeal.Value.run m ρ)

end Cert.Adam.AdamPool
-- ==== Proof.AdamQkv.lean ====
/-
  The AdamW step of the attention's first weight: an array of shape 1x1024x192 on a device.
-/
module

public import proofs.«01_k».proof.Defs
public import proofs.«01_k».proof.Proof.Adam
public import proofs.«01_k».proof.Proof.Gen.AdamQkv.Frame
public import proofs.«01_k».proof.Proof.Gen.AdamQkvIdeal.Value
public import proofs.«01_k».proof.Proof.Gen.AdamQkvRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Adam.AdamQkv

open Idealize.ShloMosaic Idealize.ShloMosaic.TcCoe Idealize.SL.Sem Pipeline

section
open Cert.AdamQkvIdeal Cert.AdamQkvIdeal.Gen

variable (m : (ℓ : Loc nD τ sig) → Buf (Elt Ideal) ℓ) (c : Dev nD)

/-- An argument as rows of its last axis. -/
abbrev flat (x : FVec Ideal S1x1024x192 .f32) : FVec Ideal S1024x192 .f32 := shapeCast S1024x192 x shapeCasts_S1x1024x192_S1024x192

theorem in_0 : V m c main_v0 = flat (m ((c.tc : Thread nD τ).loc main_arg0)) := by
  unfold V
  after_reads_simp
  rfl

theorem in_1 : V m c main_v1 = flat (m ((c.tc : Thread nD τ).loc main_arg1)) := by
  unfold V
  after_reads_simp
  rfl

theorem in_2 : V m c main_v2 = flat (m ((c.tc : Thread nD τ).loc main_arg2)) := by
  unfold V
  after_reads_simp
  rfl

theorem in_3 : V m c main_v3 = flat (m ((c.tc : Thread nD τ).loc main_arg3)) := by
  unfold V
  after_reads_simp
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

theorem rd_0 (t : Fin cfg0.N) (r : Fin 512) (j : Fin 192) : iblk m c 0 t (ix2 r j)
    = V m c main_v0 (ix2 ⟨512 * t.val + r.val, by have : t.val < 2 := t.isLt; omega⟩ j) := by
  have ht : t.val < 2 := t.isLt
  blk_ext [iblk, idx0 t]

theorem rd_1 (t : Fin cfg0.N) (r : Fin 512) (j : Fin 192) : iblk m c 1 t (ix2 r j)
    = V m c main_v1 (ix2 ⟨512 * t.val + r.val, by have : t.val < 2 := t.isLt; omega⟩ j) := by
  have ht : t.val < 2 := t.isLt
  blk_ext [iblk, idx1 t]

theorem rd_2 (t : Fin cfg0.N) (r : Fin 512) (j : Fin 192) : iblk m c 2 t (ix2 r j)
    = V m c main_v2 (ix2 ⟨512 * t.val + r.val, by have : t.val < 2 := t.isLt; omega⟩ j) := by
  have ht : t.val < 2 := t.isLt
  blk_ext [iblk, idx2 t]

theorem rd_3 (t : Fin cfg0.N) (r : Fin 512) (j : Fin 192) : iblk m c 3 t (ix2 r j)
    = V m c main_v3 (ix2 ⟨512 * t.val + r.val, by have : t.val < 2 := t.isLt; omega⟩ j) := by
  have ht : t.val < 2 := t.isLt
  blk_ext [iblk, idx3 t]

theorem block_4 (x0 x1 x2 x3 : FVec Ideal S512x192 .f32) (y : S512x192.Idx) :
    out0_4 x0 x1 x2 x3 y = delta (x0 y) (x1 y) (x2 y) (x3 y) := by
  unfold out0_4
  rw [View.canon_unit_zero zero2]
  simp only [View.ld_unit_zero (S := S512x192) zero2, k0_pay1, k0_pay2, k0_pay3, k0_pay4, shapeCast_self]
  rfl

theorem final_4 : (dats m 0 c).arrAt 4 cfg0.N
    = fun y => delta (V m c main_v0 y) (V m c main_v1 y) (V m c main_v2 y) (V m c main_v3 y) := by
  refine (dats m 0 c).arrAt_eq_of_covers 4 (fun y => delta (V m c main_v0 y) (V m c main_v1 y) (V m c main_v2 y) (V m c main_v3 y)) (by decide +kernel) fun t hf y => ?_
  blk_simp
  rw [after0_4]
  change S512x192.Idx at y
  idx_vars y
  have ht : t.val < 2 := t.isLt
  have e : (win0_4.blk t).view.emb (ix2 y0 y1) = ix2 ⟨512 * t.val + y0.val, by have : t.val < 2 := t.isLt; omega⟩ y1 := by
    blk_ext [idx4 t]
  refine ((block_4 _ _ _ _ _).trans ?_).trans (congrArg (fun y => delta (V m c main_v0 y) (V m c main_v1 y) (V m c main_v2 y) (V m c main_v3 y)) e.symm)
  simp only [rd_0, rd_1, rd_2, rd_3]

theorem block_5 (x0 x1 x2 x3 : FVec Ideal S512x192 .f32) (y : S512x192.Idx) :
    out0_5 x0 x1 x2 x3 y = newM (x1 y) (x2 y) := by
  unfold out0_5
  rw [View.canon_unit_zero zero2]
  simp only [View.ld_unit_zero (S := S512x192) zero2, k0_pay1, k0_pay2, k0_pay3, k0_pay4, shapeCast_self]
  rfl

theorem final_5 : (dats m 0 c).arrAt 5 cfg0.N
    = fun y => newM (V m c main_v1 y) (V m c main_v2 y) := by
  refine (dats m 0 c).arrAt_eq_of_covers 5 (fun y => newM (V m c main_v1 y) (V m c main_v2 y)) (by decide +kernel) fun t hf y => ?_
  blk_simp
  rw [after0_5]
  change S512x192.Idx at y
  idx_vars y
  have ht : t.val < 2 := t.isLt
  have e : (win0_5.blk t).view.emb (ix2 y0 y1) = ix2 ⟨512 * t.val + y0.val, by have : t.val < 2 := t.isLt; omega⟩ y1 := by
    blk_ext [idx5 t]
  refine ((block_5 _ _ _ _ _).trans ?_).trans (congrArg (fun y => newM (V m c main_v1 y) (V m c main_v2 y)) e.symm)
  simp only [rd_1, rd_2]

theorem block_6 (x0 x1 x2 x3 : FVec Ideal S512x192 .f32) (y : S512x192.Idx) :
    out0_6 x0 x1 x2 x3 y = newV (x1 y) (x3 y) := by
  unfold out0_6
  rw [View.canon_unit_zero zero2]
  simp only [View.ld_unit_zero (S := S512x192) zero2, k0_pay1, k0_pay2, k0_pay3, k0_pay4, shapeCast_self]
  rfl

theorem final_6 : (dats m 0 c).arrAt 6 cfg0.N
    = fun y => newV (V m c main_v1 y) (V m c main_v3 y) := by
  refine (dats m 0 c).arrAt_eq_of_covers 6 (fun y => newV (V m c main_v1 y) (V m c main_v3 y)) (by decide +kernel) fun t hf y => ?_
  blk_simp
  rw [after0_6]
  change S512x192.Idx at y
  idx_vars y
  have ht : t.val < 2 := t.isLt
  have e : (win0_6.blk t).view.emb (ix2 y0 y1) = ix2 ⟨512 * t.val + y0.val, by have : t.val < 2 := t.isLt; omega⟩ y1 := by
    blk_ext [idx6 t]
  refine ((block_6 _ _ _ _ _).trans ?_).trans (congrArg (fun y => newV (V m c main_v1 y) (V m c main_v3 y)) e.symm)
  simp only [rd_1, rd_3]

end

/-- The call's three results are the reference's. -/
theorem algebraic : Cert.algebraic_AdamQkvIdeal_AdamQkvRefIdeal (hAdamQkvIdeal := Cert.AdamQkvIdeal.Gen.facts)
    (hAdamQkvRefIdeal := Cert.AdamQkvRefIdeal.Gen.facts) := by
  intro m g m' g' _ hargs
  refine ⟨_, _, _, Cert.AdamQkvIdeal.Value.run_blocks m g, ?_⟩
  refine (θ_run _ _ _).mono (fun r h c => ?_) (Cert.AdamQkvRefIdeal.Value.run m' g')
  refine ⟨(h c).1.trans ?_, (h c).2.1.trans ?_, (h c).2.2.1.trans ?_, (h c).2.2.2⟩
  · rw [final_4, in_0, in_1, in_2, in_3, (hargs c).1, (hargs c).2.1, (hargs c).2.2.1, (hargs c).2.2.2]
    rfl
  · rw [final_5, in_1, in_2, (hargs c).2.1, (hargs c).2.2.1]
    rfl
  · rw [final_6, in_1, in_3, (hargs c).2.1, (hargs c).2.2.2]
    rfl

/-- The reference runs and keeps its arguments; it declares no semaphore. -/
theorem frame_r : Cert.quiescent_AdamQkvRefIdeal (hAdamQkvRefIdeal := Cert.AdamQkvRefIdeal.Gen.facts) := by
  intro m ρ _
  exact (θ_run Cert.AdamQkvRefIdeal.defs _ _).mono (fun r h => ⟨fun c => (h c).2.2.2,
      Idealize.ShloMosaic.sem_eq_zero_of_no_sems (by decide) r.2⟩)
    (Cert.AdamQkvRefIdeal.Value.run m ρ)

end Cert.Adam.AdamQkv
-- ==== Proof.AdamOut.lean ====
/-
  The AdamW step of the attention's second weight and the state-space layer's two gates: an array of shape 1x128x1024 on a device.
-/
module

public import proofs.«01_k».proof.Defs
public import proofs.«01_k».proof.Proof.Adam
public import proofs.«01_k».proof.Proof.Gen.AdamOut.Frame
public import proofs.«01_k».proof.Proof.Gen.AdamOutIdeal.Value
public import proofs.«01_k».proof.Proof.Gen.AdamOutRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Adam.AdamOut

open Idealize.ShloMosaic Idealize.ShloMosaic.TcCoe Idealize.SL.Sem Pipeline

section
open Cert.AdamOutIdeal Cert.AdamOutIdeal.Gen

variable (m : (ℓ : Loc nD τ sig) → Buf (Elt Ideal) ℓ) (c : Dev nD)

/-- An argument as rows of its last axis. -/
abbrev flat (x : FVec Ideal S1x128x1024 .f32) : FVec Ideal S128x1024 .f32 := shapeCast S128x1024 x shapeCasts_S1x128x1024_S128x1024

theorem in_0 : V m c main_v0 = flat (m ((c.tc : Thread nD τ).loc main_arg0)) := by
  unfold V
  after_reads_simp
  rfl

theorem in_1 : V m c main_v1 = flat (m ((c.tc : Thread nD τ).loc main_arg1)) := by
  unfold V
  after_reads_simp
  rfl

theorem in_2 : V m c main_v2 = flat (m ((c.tc : Thread nD τ).loc main_arg2)) := by
  unfold V
  after_reads_simp
  rfl

theorem in_3 : V m c main_v3 = flat (m ((c.tc : Thread nD τ).loc main_arg3)) := by
  unfold V
  after_reads_simp
  rfl

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

theorem rd_0 (t : Fin cfg0.N) (r : Fin 128) (j : Fin 1024) : iblk m c 0 t (ix2 r j)
    = V m c main_v0 (ix2 r j) := by
  have ht : t.val < 1 := t.isLt
  blk_ext [iblk, idx0 t]

theorem rd_1 (t : Fin cfg0.N) (r : Fin 128) (j : Fin 1024) : iblk m c 1 t (ix2 r j)
    = V m c main_v1 (ix2 r j) := by
  have ht : t.val < 1 := t.isLt
  blk_ext [iblk, idx1 t]

theorem rd_2 (t : Fin cfg0.N) (r : Fin 128) (j : Fin 1024) : iblk m c 2 t (ix2 r j)
    = V m c main_v2 (ix2 r j) := by
  have ht : t.val < 1 := t.isLt
  blk_ext [iblk, idx2 t]

theorem rd_3 (t : Fin cfg0.N) (r : Fin 128) (j : Fin 1024) : iblk m c 3 t (ix2 r j)
    = V m c main_v3 (ix2 r j) := by
  have ht : t.val < 1 := t.isLt
  blk_ext [iblk, idx3 t]

theorem block_4 (x0 x1 x2 x3 : FVec Ideal S128x1024 .f32) (y : S128x1024.Idx) :
    out0_4 x0 x1 x2 x3 y = delta (x0 y) (x1 y) (x2 y) (x3 y) := by
  unfold out0_4
  rw [View.canon_unit_zero zero2]
  simp only [View.ld_unit_zero (S := S128x1024) zero2, k0_pay1, k0_pay2, k0_pay3, k0_pay4, shapeCast_self]
  rfl

theorem final_4 : (dats m 0 c).arrAt 4 cfg0.N
    = fun y => delta (V m c main_v0 y) (V m c main_v1 y) (V m c main_v2 y) (V m c main_v3 y) := by
  refine (dats m 0 c).arrAt_eq_of_covers 4 (fun y => delta (V m c main_v0 y) (V m c main_v1 y) (V m c main_v2 y) (V m c main_v3 y)) (by decide +kernel) fun t hf y => ?_
  blk_simp
  rw [after0_4]
  change S128x1024.Idx at y
  idx_vars y
  have ht : t.val < 1 := t.isLt
  have e : (win0_4.blk t).view.emb (ix2 y0 y1) = ix2 y0 y1 := by
    blk_ext [idx4 t]
  refine ((block_4 _ _ _ _ _).trans ?_).trans (congrArg (fun y => delta (V m c main_v0 y) (V m c main_v1 y) (V m c main_v2 y) (V m c main_v3 y)) e.symm)
  simp only [rd_0, rd_1, rd_2, rd_3]

theorem block_5 (x0 x1 x2 x3 : FVec Ideal S128x1024 .f32) (y : S128x1024.Idx) :
    out0_5 x0 x1 x2 x3 y = newM (x1 y) (x2 y) := by
  unfold out0_5
  rw [View.canon_unit_zero zero2]
  simp only [View.ld_unit_zero (S := S128x1024) zero2, k0_pay1, k0_pay2, k0_pay3, k0_pay4, shapeCast_self]
  rfl

theorem final_5 : (dats m 0 c).arrAt 5 cfg0.N
    = fun y => newM (V m c main_v1 y) (V m c main_v2 y) := by
  refine (dats m 0 c).arrAt_eq_of_covers 5 (fun y => newM (V m c main_v1 y) (V m c main_v2 y)) (by decide +kernel) fun t hf y => ?_
  blk_simp
  rw [after0_5]
  change S128x1024.Idx at y
  idx_vars y
  have ht : t.val < 1 := t.isLt
  have e : (win0_5.blk t).view.emb (ix2 y0 y1) = ix2 y0 y1 := by
    blk_ext [idx5 t]
  refine ((block_5 _ _ _ _ _).trans ?_).trans (congrArg (fun y => newM (V m c main_v1 y) (V m c main_v2 y)) e.symm)
  simp only [rd_1, rd_2]

theorem block_6 (x0 x1 x2 x3 : FVec Ideal S128x1024 .f32) (y : S128x1024.Idx) :
    out0_6 x0 x1 x2 x3 y = newV (x1 y) (x3 y) := by
  unfold out0_6
  rw [View.canon_unit_zero zero2]
  simp only [View.ld_unit_zero (S := S128x1024) zero2, k0_pay1, k0_pay2, k0_pay3, k0_pay4, shapeCast_self]
  rfl

theorem final_6 : (dats m 0 c).arrAt 6 cfg0.N
    = fun y => newV (V m c main_v1 y) (V m c main_v3 y) := by
  refine (dats m 0 c).arrAt_eq_of_covers 6 (fun y => newV (V m c main_v1 y) (V m c main_v3 y)) (by decide +kernel) fun t hf y => ?_
  blk_simp
  rw [after0_6]
  change S128x1024.Idx at y
  idx_vars y
  have ht : t.val < 1 := t.isLt
  have e : (win0_6.blk t).view.emb (ix2 y0 y1) = ix2 y0 y1 := by
    blk_ext [idx6 t]
  refine ((block_6 _ _ _ _ _).trans ?_).trans (congrArg (fun y => newV (V m c main_v1 y) (V m c main_v3 y)) e.symm)
  simp only [rd_1, rd_3]

end

/-- The call's three results are the reference's. -/
theorem algebraic : Cert.algebraic_AdamOutIdeal_AdamOutRefIdeal (hAdamOutIdeal := Cert.AdamOutIdeal.Gen.facts)
    (hAdamOutRefIdeal := Cert.AdamOutRefIdeal.Gen.facts) := by
  intro m g m' g' _ hargs
  refine ⟨_, _, _, Cert.AdamOutIdeal.Value.run_blocks m g, ?_⟩
  refine (θ_run _ _ _).mono (fun r h c => ?_) (Cert.AdamOutRefIdeal.Value.run m' g')
  refine ⟨(h c).1.trans ?_, (h c).2.1.trans ?_, (h c).2.2.1.trans ?_, (h c).2.2.2⟩
  · rw [final_4, in_0, in_1, in_2, in_3, (hargs c).1, (hargs c).2.1, (hargs c).2.2.1, (hargs c).2.2.2]
    rfl
  · rw [final_5, in_1, in_2, (hargs c).2.1, (hargs c).2.2.1]
    rfl
  · rw [final_6, in_1, in_3, (hargs c).2.1, (hargs c).2.2.2]
    rfl

/-- The reference runs and keeps its arguments; it declares no semaphore. -/
theorem frame_r : Cert.quiescent_AdamOutRefIdeal (hAdamOutRefIdeal := Cert.AdamOutRefIdeal.Gen.facts) := by
  intro m ρ _
  exact (θ_run Cert.AdamOutRefIdeal.defs _ _).mono (fun r h => ⟨fun c => (h c).2.2.2,
      Idealize.ShloMosaic.sem_eq_zero_of_no_sems (by decide) r.2⟩)
    (Cert.AdamOutRefIdeal.Value.run m ρ)

end Cert.Adam.AdamOut
-- ==== Proof.AdamSink.lean ====
/-
  The AdamW step of the attention's sinks: an array of shape 1x16 on a device.
-/
module

public import proofs.«01_k».proof.Defs
public import proofs.«01_k».proof.Proof.Adam
public import proofs.«01_k».proof.Proof.Gen.AdamSink.Frame
public import proofs.«01_k».proof.Proof.Gen.AdamSinkIdeal.Value
public import proofs.«01_k».proof.Proof.Gen.AdamSinkRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Adam.AdamSink

open Idealize.ShloMosaic Idealize.ShloMosaic.TcCoe Idealize.SL.Sem Pipeline

/-- The call's three results are the reference's. -/
theorem algebraic : Cert.algebraic_AdamSinkIdeal_AdamSinkRefIdeal (hAdamSinkIdeal := Cert.AdamSinkIdeal.Gen.facts)
    (hAdamSinkRefIdeal := Cert.AdamSinkRefIdeal.Gen.facts) := by
  intro m g m' g' _ hargs
  refine ⟨_, _, _, Cert.AdamSinkIdeal.Value.run m g, ?_⟩
  refine (θ_run _ _ _).mono (fun r h c => ?_) (Cert.AdamSinkRefIdeal.Value.run m' g')
  refine ⟨(h c).1.trans ?_, (h c).2.1.trans ?_, (h c).2.2.1.trans ?_, (h c).2.2.2⟩
  all_goals
    (try rw [(hargs c).1])
    (try rw [(hargs c).2.1])
    (try rw [(hargs c).2.2.1])
    (try rw [(hargs c).2.2.2])
    rfl

/-- The reference runs and keeps its arguments; it declares no semaphore. -/
theorem frame_r : Cert.quiescent_AdamSinkRefIdeal (hAdamSinkRefIdeal := Cert.AdamSinkRefIdeal.Gen.facts) := by
  intro m ρ _
  exact (θ_run Cert.AdamSinkRefIdeal.defs _ _).mono (fun r h => ⟨fun c => (h c).2.2.2,
      Idealize.ShloMosaic.sem_eq_zero_of_no_sems (by decide) r.2⟩)
    (Cert.AdamSinkRefIdeal.Value.run m ρ)

end Cert.Adam.AdamSink
-- ==== Proof.AdamLambda.lean ====
/-
  The AdamW step of the two parts of the state-space layer's poles: an array of shape 1x2x64x64 on a device.
-/
module

public import proofs.«01_k».proof.Defs
public import proofs.«01_k».proof.Proof.Adam
public import proofs.«01_k».proof.Proof.Gen.AdamLambda.Frame
public import proofs.«01_k».proof.Proof.Gen.AdamLambdaIdeal.Value
public import proofs.«01_k».proof.Proof.Gen.AdamLambdaRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Adam.AdamLambda

open Idealize.ShloMosaic Idealize.ShloMosaic.TcCoe Idealize.SL.Sem Pipeline

section
open Cert.AdamLambdaIdeal Cert.AdamLambdaIdeal.Gen

variable (m : (ℓ : Loc nD τ sig) → Buf (Elt Ideal) ℓ) (c : Dev nD)

/-- An argument as rows of its last axis. -/
abbrev flat (x : FVec Ideal S1x2x64x64 .f32) : FVec Ideal S128x64 .f32 := shapeCast S128x64 x shapeCasts_S1x2x64x64_S128x64

theorem in_0 : V m c main_v0 = flat (m ((c.tc : Thread nD τ).loc main_arg0)) := by
  unfold V
  after_reads_simp
  rfl

theorem in_1 : V m c main_v1 = flat (m ((c.tc : Thread nD τ).loc main_arg1)) := by
  unfold V
  after_reads_simp
  rfl

theorem in_2 : V m c main_v2 = flat (m ((c.tc : Thread nD τ).loc main_arg2)) := by
  unfold V
  after_reads_simp
  rfl

theorem in_3 : V m c main_v3 = flat (m ((c.tc : Thread nD τ).loc main_arg3)) := by
  unfold V
  after_reads_simp
  rfl

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

theorem rd_0 (t : Fin cfg0.N) (r : Fin 128) (j : Fin 64) : iblk m c 0 t (ix2 r j)
    = V m c main_v0 (ix2 r j) := by
  have ht : t.val < 1 := t.isLt
  blk_ext [iblk, idx0 t]

theorem rd_1 (t : Fin cfg0.N) (r : Fin 128) (j : Fin 64) : iblk m c 1 t (ix2 r j)
    = V m c main_v1 (ix2 r j) := by
  have ht : t.val < 1 := t.isLt
  blk_ext [iblk, idx1 t]

theorem rd_2 (t : Fin cfg0.N) (r : Fin 128) (j : Fin 64) : iblk m c 2 t (ix2 r j)
    = V m c main_v2 (ix2 r j) := by
  have ht : t.val < 1 := t.isLt
  blk_ext [iblk, idx2 t]

theorem rd_3 (t : Fin cfg0.N) (r : Fin 128) (j : Fin 64) : iblk m c 3 t (ix2 r j)
    = V m c main_v3 (ix2 r j) := by
  have ht : t.val < 1 := t.isLt
  blk_ext [iblk, idx3 t]

theorem block_4 (x0 x1 x2 x3 : FVec Ideal S128x64 .f32) (y : S128x64.Idx) :
    out0_4 x0 x1 x2 x3 y = delta (x0 y) (x1 y) (x2 y) (x3 y) := by
  unfold out0_4
  rw [View.canon_unit_zero zero2]
  simp only [View.ld_unit_zero (S := S128x64) zero2, k0_pay1, k0_pay2, k0_pay3, k0_pay4, shapeCast_self]
  rfl

theorem final_4 : (dats m 0 c).arrAt 4 cfg0.N
    = fun y => delta (V m c main_v0 y) (V m c main_v1 y) (V m c main_v2 y) (V m c main_v3 y) := by
  refine (dats m 0 c).arrAt_eq_of_covers 4 (fun y => delta (V m c main_v0 y) (V m c main_v1 y) (V m c main_v2 y) (V m c main_v3 y)) (by decide +kernel) fun t hf y => ?_
  blk_simp
  rw [after0_4]
  change S128x64.Idx at y
  idx_vars y
  have ht : t.val < 1 := t.isLt
  have e : (win0_4.blk t).view.emb (ix2 y0 y1) = ix2 y0 y1 := by
    blk_ext [idx4 t]
  refine ((block_4 _ _ _ _ _).trans ?_).trans (congrArg (fun y => delta (V m c main_v0 y) (V m c main_v1 y) (V m c main_v2 y) (V m c main_v3 y)) e.symm)
  simp only [rd_0, rd_1, rd_2, rd_3]

theorem block_5 (x0 x1 x2 x3 : FVec Ideal S128x64 .f32) (y : S128x64.Idx) :
    out0_5 x0 x1 x2 x3 y = newM (x1 y) (x2 y) := by
  unfold out0_5
  rw [View.canon_unit_zero zero2]
  simp only [View.ld_unit_zero (S := S128x64) zero2, k0_pay1, k0_pay2, k0_pay3, k0_pay4, shapeCast_self]
  rfl

theorem final_5 : (dats m 0 c).arrAt 5 cfg0.N
    = fun y => newM (V m c main_v1 y) (V m c main_v2 y) := by
  refine (dats m 0 c).arrAt_eq_of_covers 5 (fun y => newM (V m c main_v1 y) (V m c main_v2 y)) (by decide +kernel) fun t hf y => ?_
  blk_simp
  rw [after0_5]
  change S128x64.Idx at y
  idx_vars y
  have ht : t.val < 1 := t.isLt
  have e : (win0_5.blk t).view.emb (ix2 y0 y1) = ix2 y0 y1 := by
    blk_ext [idx5 t]
  refine ((block_5 _ _ _ _ _).trans ?_).trans (congrArg (fun y => newM (V m c main_v1 y) (V m c main_v2 y)) e.symm)
  simp only [rd_1, rd_2]

theorem block_6 (x0 x1 x2 x3 : FVec Ideal S128x64 .f32) (y : S128x64.Idx) :
    out0_6 x0 x1 x2 x3 y = newV (x1 y) (x3 y) := by
  unfold out0_6
  rw [View.canon_unit_zero zero2]
  simp only [View.ld_unit_zero (S := S128x64) zero2, k0_pay1, k0_pay2, k0_pay3, k0_pay4, shapeCast_self]
  rfl

theorem final_6 : (dats m 0 c).arrAt 6 cfg0.N
    = fun y => newV (V m c main_v1 y) (V m c main_v3 y) := by
  refine (dats m 0 c).arrAt_eq_of_covers 6 (fun y => newV (V m c main_v1 y) (V m c main_v3 y)) (by decide +kernel) fun t hf y => ?_
  blk_simp
  rw [after0_6]
  change S128x64.Idx at y
  idx_vars y
  have ht : t.val < 1 := t.isLt
  have e : (win0_6.blk t).view.emb (ix2 y0 y1) = ix2 y0 y1 := by
    blk_ext [idx6 t]
  refine ((block_6 _ _ _ _ _).trans ?_).trans (congrArg (fun y => newV (V m c main_v1 y) (V m c main_v3 y)) e.symm)
  simp only [rd_1, rd_3]

end

/-- The call's three results are the reference's. -/
theorem algebraic : Cert.algebraic_AdamLambdaIdeal_AdamLambdaRefIdeal (hAdamLambdaIdeal := Cert.AdamLambdaIdeal.Gen.facts)
    (hAdamLambdaRefIdeal := Cert.AdamLambdaRefIdeal.Gen.facts) := by
  intro m g m' g' _ hargs
  refine ⟨_, _, _, Cert.AdamLambdaIdeal.Value.run_blocks m g, ?_⟩
  refine (θ_run _ _ _).mono (fun r h c => ?_) (Cert.AdamLambdaRefIdeal.Value.run m' g')
  refine ⟨(h c).1.trans ?_, (h c).2.1.trans ?_, (h c).2.2.1.trans ?_, (h c).2.2.2⟩
  · rw [final_4, in_0, in_1, in_2, in_3, (hargs c).1, (hargs c).2.1, (hargs c).2.2.1, (hargs c).2.2.2]
    rfl
  · rw [final_5, in_1, in_2, (hargs c).2.1, (hargs c).2.2.1]
    rfl
  · rw [final_6, in_1, in_3, (hargs c).2.1, (hargs c).2.2.2]
    rfl

/-- The reference runs and keeps its arguments; it declares no semaphore. -/
theorem frame_r : Cert.quiescent_AdamLambdaRefIdeal (hAdamLambdaRefIdeal := Cert.AdamLambdaRefIdeal.Gen.facts) := by
  intro m ρ _
  exact (θ_run Cert.AdamLambdaRefIdeal.defs _ _).mono (fun r h => ⟨fun c => (h c).2.2.2,
      Idealize.ShloMosaic.sem_eq_zero_of_no_sems (by decide) r.2⟩)
    (Cert.AdamLambdaRefIdeal.Value.run m ρ)

end Cert.Adam.AdamLambda
-- ==== Proof.AdamLogDt.lean ====
/-
  The AdamW step of the state-space layer's step: an array of shape 1x2x64 on a device.
-/
module

public import proofs.«01_k».proof.Defs
public import proofs.«01_k».proof.Proof.Adam
public import proofs.«01_k».proof.Proof.Gen.AdamLogDt.Frame
public import proofs.«01_k».proof.Proof.Gen.AdamLogDtIdeal.Value
public import proofs.«01_k».proof.Proof.Gen.AdamLogDtRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Adam.AdamLogDt

open Idealize.ShloMosaic Idealize.ShloMosaic.TcCoe Idealize.SL.Sem Pipeline

section
open Cert.AdamLogDtIdeal Cert.AdamLogDtIdeal.Gen

variable (m : (ℓ : Loc nD τ sig) → Buf (Elt Ideal) ℓ) (c : Dev nD)

/-- An argument as rows of its last axis. -/
abbrev flat (x : FVec Ideal S1x2x64 .f32) : FVec Ideal S2x64 .f32 := shapeCast S2x64 x shapeCasts_S1x2x64_S2x64

theorem in_0 : V m c main_v0 = flat (m ((c.tc : Thread nD τ).loc main_arg0)) := by
  unfold V
  after_reads_simp
  rfl

theorem in_1 : V m c main_v1 = flat (m ((c.tc : Thread nD τ).loc main_arg1)) := by
  unfold V
  after_reads_simp
  rfl

theorem in_2 : V m c main_v2 = flat (m ((c.tc : Thread nD τ).loc main_arg2)) := by
  unfold V
  after_reads_simp
  rfl

theorem in_3 : V m c main_v3 = flat (m ((c.tc : Thread nD τ).loc main_arg3)) := by
  unfold V
  after_reads_simp
  rfl

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

theorem rd_0 (t : Fin cfg0.N) (r : Fin 2) (j : Fin 64) : iblk m c 0 t (ix2 r j)
    = V m c main_v0 (ix2 r j) := by
  have ht : t.val < 1 := t.isLt
  blk_ext [iblk, idx0 t]

theorem rd_1 (t : Fin cfg0.N) (r : Fin 2) (j : Fin 64) : iblk m c 1 t (ix2 r j)
    = V m c main_v1 (ix2 r j) := by
  have ht : t.val < 1 := t.isLt
  blk_ext [iblk, idx1 t]

theorem rd_2 (t : Fin cfg0.N) (r : Fin 2) (j : Fin 64) : iblk m c 2 t (ix2 r j)
    = V m c main_v2 (ix2 r j) := by
  have ht : t.val < 1 := t.isLt
  blk_ext [iblk, idx2 t]

theorem rd_3 (t : Fin cfg0.N) (r : Fin 2) (j : Fin 64) : iblk m c 3 t (ix2 r j)
    = V m c main_v3 (ix2 r j) := by
  have ht : t.val < 1 := t.isLt
  blk_ext [iblk, idx3 t]

theorem block_4 (x0 x1 x2 x3 : FVec Ideal S2x64 .f32) (y : S2x64.Idx) :
    out0_4 x0 x1 x2 x3 y = delta (x0 y) (x1 y) (x2 y) (x3 y) := by
  unfold out0_4
  rw [View.canon_unit_zero zero2]
  simp only [View.ld_unit_zero (S := S2x64) zero2, k0_pay1, k0_pay2, k0_pay3, k0_pay4, shapeCast_self]
  rfl

theorem final_4 : (dats m 0 c).arrAt 4 cfg0.N
    = fun y => delta (V m c main_v0 y) (V m c main_v1 y) (V m c main_v2 y) (V m c main_v3 y) := by
  refine (dats m 0 c).arrAt_eq_of_covers 4 (fun y => delta (V m c main_v0 y) (V m c main_v1 y) (V m c main_v2 y) (V m c main_v3 y)) (by decide +kernel) fun t hf y => ?_
  blk_simp
  rw [after0_4]
  change S2x64.Idx at y
  idx_vars y
  have ht : t.val < 1 := t.isLt
  have e : (win0_4.blk t).view.emb (ix2 y0 y1) = ix2 y0 y1 := by
    blk_ext [idx4 t]
  refine ((block_4 _ _ _ _ _).trans ?_).trans (congrArg (fun y => delta (V m c main_v0 y) (V m c main_v1 y) (V m c main_v2 y) (V m c main_v3 y)) e.symm)
  simp only [rd_0, rd_1, rd_2, rd_3]

theorem block_5 (x0 x1 x2 x3 : FVec Ideal S2x64 .f32) (y : S2x64.Idx) :
    out0_5 x0 x1 x2 x3 y = newM (x1 y) (x2 y) := by
  unfold out0_5
  rw [View.canon_unit_zero zero2]
  simp only [View.ld_unit_zero (S := S2x64) zero2, k0_pay1, k0_pay2, k0_pay3, k0_pay4, shapeCast_self]
  rfl

theorem final_5 : (dats m 0 c).arrAt 5 cfg0.N
    = fun y => newM (V m c main_v1 y) (V m c main_v2 y) := by
  refine (dats m 0 c).arrAt_eq_of_covers 5 (fun y => newM (V m c main_v1 y) (V m c main_v2 y)) (by decide +kernel) fun t hf y => ?_
  blk_simp
  rw [after0_5]
  change S2x64.Idx at y
  idx_vars y
  have ht : t.val < 1 := t.isLt
  have e : (win0_5.blk t).view.emb (ix2 y0 y1) = ix2 y0 y1 := by
    blk_ext [idx5 t]
  refine ((block_5 _ _ _ _ _).trans ?_).trans (congrArg (fun y => newM (V m c main_v1 y) (V m c main_v2 y)) e.symm)
  simp only [rd_1, rd_2]

theorem block_6 (x0 x1 x2 x3 : FVec Ideal S2x64 .f32) (y : S2x64.Idx) :
    out0_6 x0 x1 x2 x3 y = newV (x1 y) (x3 y) := by
  unfold out0_6
  rw [View.canon_unit_zero zero2]
  simp only [View.ld_unit_zero (S := S2x64) zero2, k0_pay1, k0_pay2, k0_pay3, k0_pay4, shapeCast_self]
  rfl

theorem final_6 : (dats m 0 c).arrAt 6 cfg0.N
    = fun y => newV (V m c main_v1 y) (V m c main_v3 y) := by
  refine (dats m 0 c).arrAt_eq_of_covers 6 (fun y => newV (V m c main_v1 y) (V m c main_v3 y)) (by decide +kernel) fun t hf y => ?_
  blk_simp
  rw [after0_6]
  change S2x64.Idx at y
  idx_vars y
  have ht : t.val < 1 := t.isLt
  have e : (win0_6.blk t).view.emb (ix2 y0 y1) = ix2 y0 y1 := by
    blk_ext [idx6 t]
  refine ((block_6 _ _ _ _ _).trans ?_).trans (congrArg (fun y => newV (V m c main_v1 y) (V m c main_v3 y)) e.symm)
  simp only [rd_1, rd_3]

end

/-- The call's three results are the reference's. -/
theorem algebraic : Cert.algebraic_AdamLogDtIdeal_AdamLogDtRefIdeal (hAdamLogDtIdeal := Cert.AdamLogDtIdeal.Gen.facts)
    (hAdamLogDtRefIdeal := Cert.AdamLogDtRefIdeal.Gen.facts) := by
  intro m g m' g' _ hargs
  refine ⟨_, _, _, Cert.AdamLogDtIdeal.Value.run_blocks m g, ?_⟩
  refine (θ_run _ _ _).mono (fun r h c => ?_) (Cert.AdamLogDtRefIdeal.Value.run m' g')
  refine ⟨(h c).1.trans ?_, (h c).2.1.trans ?_, (h c).2.2.1.trans ?_, (h c).2.2.2⟩
  · rw [final_4, in_0, in_1, in_2, in_3, (hargs c).1, (hargs c).2.1, (hargs c).2.2.1, (hargs c).2.2.2]
    rfl
  · rw [final_5, in_1, in_2, (hargs c).2.1, (hargs c).2.2.1]
    rfl
  · rw [final_6, in_1, in_3, (hargs c).2.1, (hargs c).2.2.2]
    rfl

/-- The reference runs and keeps its arguments; it declares no semaphore. -/
theorem frame_r : Cert.quiescent_AdamLogDtRefIdeal (hAdamLogDtRefIdeal := Cert.AdamLogDtRefIdeal.Gen.facts) := by
  intro m ρ _
  exact (θ_run Cert.AdamLogDtRefIdeal.defs _ _).mono (fun r h => ⟨fun c => (h c).2.2.2,
      Idealize.ShloMosaic.sem_eq_zero_of_no_sems (by decide) r.2⟩)
    (Cert.AdamLogDtRefIdeal.Value.run m ρ)

end Cert.Adam.AdamLogDt
-- ==== Proof.AdamSsmB.lean ====
/-
  The AdamW step of the two parts of the state-space layer's input weight: an array of shape 1x2x64x64x16 on a device.
-/
module

public import proofs.«01_k».proof.Defs
public import proofs.«01_k».proof.Proof.Adam
public import proofs.«01_k».proof.Proof.Gen.AdamSsmB.Frame
public import proofs.«01_k».proof.Proof.Gen.AdamSsmBIdeal.Value
public import proofs.«01_k».proof.Proof.Gen.AdamSsmBRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Adam.AdamSsmB

open Idealize.ShloMosaic Idealize.ShloMosaic.TcCoe Idealize.SL.Sem Pipeline

section
open Cert.AdamSsmBIdeal Cert.AdamSsmBIdeal.Gen

variable (m : (ℓ : Loc nD τ sig) → Buf (Elt Ideal) ℓ) (c : Dev nD)

/-- An argument as rows of its last axis. -/
abbrev flat (x : FVec Ideal S1x2x64x64x16 .f32) : FVec Ideal S8192x16 .f32 := shapeCast S8192x16 x shapeCasts_S1x2x64x64x16_S8192x16

theorem in_0 : V m c main_v0 = flat (m ((c.tc : Thread nD τ).loc main_arg0)) := by
  unfold V
  after_reads_simp
  rfl

theorem in_1 : V m c main_v1 = flat (m ((c.tc : Thread nD τ).loc main_arg1)) := by
  unfold V
  after_reads_simp
  rfl

theorem in_2 : V m c main_v2 = flat (m ((c.tc : Thread nD τ).loc main_arg2)) := by
  unfold V
  after_reads_simp
  rfl

theorem in_3 : V m c main_v3 = flat (m ((c.tc : Thread nD τ).loc main_arg3)) := by
  unfold V
  after_reads_simp
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

theorem rd_0 (t : Fin cfg0.N) (r : Fin 512) (j : Fin 16) : iblk m c 0 t (ix2 r j)
    = V m c main_v0 (ix2 ⟨512 * t.val + r.val, by have : t.val < 16 := t.isLt; omega⟩ j) := by
  have ht : t.val < 16 := t.isLt
  blk_ext [iblk, idx0 t]

theorem rd_1 (t : Fin cfg0.N) (r : Fin 512) (j : Fin 16) : iblk m c 1 t (ix2 r j)
    = V m c main_v1 (ix2 ⟨512 * t.val + r.val, by have : t.val < 16 := t.isLt; omega⟩ j) := by
  have ht : t.val < 16 := t.isLt
  blk_ext [iblk, idx1 t]

theorem rd_2 (t : Fin cfg0.N) (r : Fin 512) (j : Fin 16) : iblk m c 2 t (ix2 r j)
    = V m c main_v2 (ix2 ⟨512 * t.val + r.val, by have : t.val < 16 := t.isLt; omega⟩ j) := by
  have ht : t.val < 16 := t.isLt
  blk_ext [iblk, idx2 t]

theorem rd_3 (t : Fin cfg0.N) (r : Fin 512) (j : Fin 16) : iblk m c 3 t (ix2 r j)
    = V m c main_v3 (ix2 ⟨512 * t.val + r.val, by have : t.val < 16 := t.isLt; omega⟩ j) := by
  have ht : t.val < 16 := t.isLt
  blk_ext [iblk, idx3 t]

theorem block_4 (x0 x1 x2 x3 : FVec Ideal S512x16 .f32) (y : S512x16.Idx) :
    out0_4 x0 x1 x2 x3 y = delta (x0 y) (x1 y) (x2 y) (x3 y) := by
  unfold out0_4
  rw [View.canon_unit_zero zero2]
  simp only [View.ld_unit_zero (S := S512x16) zero2, k0_pay1, k0_pay2, k0_pay3, k0_pay4, shapeCast_self]
  rfl

theorem final_4 : (dats m 0 c).arrAt 4 cfg0.N
    = fun y => delta (V m c main_v0 y) (V m c main_v1 y) (V m c main_v2 y) (V m c main_v3 y) := by
  refine (dats m 0 c).arrAt_eq_of_covers 4 (fun y => delta (V m c main_v0 y) (V m c main_v1 y) (V m c main_v2 y) (V m c main_v3 y)) (by decide +kernel) fun t hf y => ?_
  blk_simp
  rw [after0_4]
  change S512x16.Idx at y
  idx_vars y
  have ht : t.val < 16 := t.isLt
  have e : (win0_4.blk t).view.emb (ix2 y0 y1) = ix2 ⟨512 * t.val + y0.val, by have : t.val < 16 := t.isLt; omega⟩ y1 := by
    blk_ext [idx4 t]
  refine ((block_4 _ _ _ _ _).trans ?_).trans (congrArg (fun y => delta (V m c main_v0 y) (V m c main_v1 y) (V m c main_v2 y) (V m c main_v3 y)) e.symm)
  simp only [rd_0, rd_1, rd_2, rd_3]

theorem block_5 (x0 x1 x2 x3 : FVec Ideal S512x16 .f32) (y : S512x16.Idx) :
    out0_5 x0 x1 x2 x3 y = newM (x1 y) (x2 y) := by
  unfold out0_5
  rw [View.canon_unit_zero zero2]
  simp only [View.ld_unit_zero (S := S512x16) zero2, k0_pay1, k0_pay2, k0_pay3, k0_pay4, shapeCast_self]
  rfl

theorem final_5 : (dats m 0 c).arrAt 5 cfg0.N
    = fun y => newM (V m c main_v1 y) (V m c main_v2 y) := by
  refine (dats m 0 c).arrAt_eq_of_covers 5 (fun y => newM (V m c main_v1 y) (V m c main_v2 y)) (by decide +kernel) fun t hf y => ?_
  blk_simp
  rw [after0_5]
  change S512x16.Idx at y
  idx_vars y
  have ht : t.val < 16 := t.isLt
  have e : (win0_5.blk t).view.emb (ix2 y0 y1) = ix2 ⟨512 * t.val + y0.val, by have : t.val < 16 := t.isLt; omega⟩ y1 := by
    blk_ext [idx5 t]
  refine ((block_5 _ _ _ _ _).trans ?_).trans (congrArg (fun y => newM (V m c main_v1 y) (V m c main_v2 y)) e.symm)
  simp only [rd_1, rd_2]

theorem block_6 (x0 x1 x2 x3 : FVec Ideal S512x16 .f32) (y : S512x16.Idx) :
    out0_6 x0 x1 x2 x3 y = newV (x1 y) (x3 y) := by
  unfold out0_6
  rw [View.canon_unit_zero zero2]
  simp only [View.ld_unit_zero (S := S512x16) zero2, k0_pay1, k0_pay2, k0_pay3, k0_pay4, shapeCast_self]
  rfl

theorem final_6 : (dats m 0 c).arrAt 6 cfg0.N
    = fun y => newV (V m c main_v1 y) (V m c main_v3 y) := by
  refine (dats m 0 c).arrAt_eq_of_covers 6 (fun y => newV (V m c main_v1 y) (V m c main_v3 y)) (by decide +kernel) fun t hf y => ?_
  blk_simp
  rw [after0_6]
  change S512x16.Idx at y
  idx_vars y
  have ht : t.val < 16 := t.isLt
  have e : (win0_6.blk t).view.emb (ix2 y0 y1) = ix2 ⟨512 * t.val + y0.val, by have : t.val < 16 := t.isLt; omega⟩ y1 := by
    blk_ext [idx6 t]
  refine ((block_6 _ _ _ _ _).trans ?_).trans (congrArg (fun y => newV (V m c main_v1 y) (V m c main_v3 y)) e.symm)
  simp only [rd_1, rd_3]

end

/-- The call's three results are the reference's. -/
theorem algebraic : Cert.algebraic_AdamSsmBIdeal_AdamSsmBRefIdeal (hAdamSsmBIdeal := Cert.AdamSsmBIdeal.Gen.facts)
    (hAdamSsmBRefIdeal := Cert.AdamSsmBRefIdeal.Gen.facts) := by
  intro m g m' g' _ hargs
  refine ⟨_, _, _, Cert.AdamSsmBIdeal.Value.run_blocks m g, ?_⟩
  refine (θ_run _ _ _).mono (fun r h c => ?_) (Cert.AdamSsmBRefIdeal.Value.run m' g')
  refine ⟨(h c).1.trans ?_, (h c).2.1.trans ?_, (h c).2.2.1.trans ?_, (h c).2.2.2⟩
  · rw [final_4, in_0, in_1, in_2, in_3, (hargs c).1, (hargs c).2.1, (hargs c).2.2.1, (hargs c).2.2.2]
    rfl
  · rw [final_5, in_1, in_2, (hargs c).2.1, (hargs c).2.2.1]
    rfl
  · rw [final_6, in_1, in_3, (hargs c).2.1, (hargs c).2.2.2]
    rfl

/-- The reference runs and keeps its arguments; it declares no semaphore. -/
theorem frame_r : Cert.quiescent_AdamSsmBRefIdeal (hAdamSsmBRefIdeal := Cert.AdamSsmBRefIdeal.Gen.facts) := by
  intro m ρ _
  exact (θ_run Cert.AdamSsmBRefIdeal.defs _ _).mono (fun r h => ⟨fun c => (h c).2.2.2,
      Idealize.ShloMosaic.sem_eq_zero_of_no_sems (by decide) r.2⟩)
    (Cert.AdamSsmBRefIdeal.Value.run m ρ)

end Cert.Adam.AdamSsmB
-- ==== Proof.AdamSsmC.lean ====
/-
  The AdamW step of the two parts of the state-space layer's output weight: an array of shape 1x2x64x16x64 on a device.
-/
module

public import proofs.«01_k».proof.Defs
public import proofs.«01_k».proof.Proof.Adam
public import proofs.«01_k».proof.Proof.Gen.AdamSsmC.Frame
public import proofs.«01_k».proof.Proof.Gen.AdamSsmCIdeal.Value
public import proofs.«01_k».proof.Proof.Gen.AdamSsmCRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Adam.AdamSsmC

open Idealize.ShloMosaic Idealize.ShloMosaic.TcCoe Idealize.SL.Sem Pipeline

section
open Cert.AdamSsmCIdeal Cert.AdamSsmCIdeal.Gen

variable (m : (ℓ : Loc nD τ sig) → Buf (Elt Ideal) ℓ) (c : Dev nD)

/-- An argument as rows of its last axis. -/
abbrev flat (x : FVec Ideal S1x2x64x16x64 .f32) : FVec Ideal S2048x64 .f32 := shapeCast S2048x64 x shapeCasts_S1x2x64x16x64_S2048x64

theorem in_0 : V m c main_v0 = flat (m ((c.tc : Thread nD τ).loc main_arg0)) := by
  unfold V
  after_reads_simp
  rfl

theorem in_1 : V m c main_v1 = flat (m ((c.tc : Thread nD τ).loc main_arg1)) := by
  unfold V
  after_reads_simp
  rfl

theorem in_2 : V m c main_v2 = flat (m ((c.tc : Thread nD τ).loc main_arg2)) := by
  unfold V
  after_reads_simp
  rfl

theorem in_3 : V m c main_v3 = flat (m ((c.tc : Thread nD τ).loc main_arg3)) := by
  unfold V
  after_reads_simp
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

theorem rd_0 (t : Fin cfg0.N) (r : Fin 512) (j : Fin 64) : iblk m c 0 t (ix2 r j)
    = V m c main_v0 (ix2 ⟨512 * t.val + r.val, by have : t.val < 4 := t.isLt; omega⟩ j) := by
  have ht : t.val < 4 := t.isLt
  blk_ext [iblk, idx0 t]

theorem rd_1 (t : Fin cfg0.N) (r : Fin 512) (j : Fin 64) : iblk m c 1 t (ix2 r j)
    = V m c main_v1 (ix2 ⟨512 * t.val + r.val, by have : t.val < 4 := t.isLt; omega⟩ j) := by
  have ht : t.val < 4 := t.isLt
  blk_ext [iblk, idx1 t]

theorem rd_2 (t : Fin cfg0.N) (r : Fin 512) (j : Fin 64) : iblk m c 2 t (ix2 r j)
    = V m c main_v2 (ix2 ⟨512 * t.val + r.val, by have : t.val < 4 := t.isLt; omega⟩ j) := by
  have ht : t.val < 4 := t.isLt
  blk_ext [iblk, idx2 t]

theorem rd_3 (t : Fin cfg0.N) (r : Fin 512) (j : Fin 64) : iblk m c 3 t (ix2 r j)
    = V m c main_v3 (ix2 ⟨512 * t.val + r.val, by have : t.val < 4 := t.isLt; omega⟩ j) := by
  have ht : t.val < 4 := t.isLt
  blk_ext [iblk, idx3 t]

theorem block_4 (x0 x1 x2 x3 : FVec Ideal S512x64 .f32) (y : S512x64.Idx) :
    out0_4 x0 x1 x2 x3 y = delta (x0 y) (x1 y) (x2 y) (x3 y) := by
  unfold out0_4
  rw [View.canon_unit_zero zero2]
  simp only [View.ld_unit_zero (S := S512x64) zero2, k0_pay1, k0_pay2, k0_pay3, k0_pay4, shapeCast_self]
  rfl

theorem final_4 : (dats m 0 c).arrAt 4 cfg0.N
    = fun y => delta (V m c main_v0 y) (V m c main_v1 y) (V m c main_v2 y) (V m c main_v3 y) := by
  refine (dats m 0 c).arrAt_eq_of_covers 4 (fun y => delta (V m c main_v0 y) (V m c main_v1 y) (V m c main_v2 y) (V m c main_v3 y)) (by decide +kernel) fun t hf y => ?_
  blk_simp
  rw [after0_4]
  change S512x64.Idx at y
  idx_vars y
  have ht : t.val < 4 := t.isLt
  have e : (win0_4.blk t).view.emb (ix2 y0 y1) = ix2 ⟨512 * t.val + y0.val, by have : t.val < 4 := t.isLt; omega⟩ y1 := by
    blk_ext [idx4 t]
  refine ((block_4 _ _ _ _ _).trans ?_).trans (congrArg (fun y => delta (V m c main_v0 y) (V m c main_v1 y) (V m c main_v2 y) (V m c main_v3 y)) e.symm)
  simp only [rd_0, rd_1, rd_2, rd_3]

theorem block_5 (x0 x1 x2 x3 : FVec Ideal S512x64 .f32) (y : S512x64.Idx) :
    out0_5 x0 x1 x2 x3 y = newM (x1 y) (x2 y) := by
  unfold out0_5
  rw [View.canon_unit_zero zero2]
  simp only [View.ld_unit_zero (S := S512x64) zero2, k0_pay1, k0_pay2, k0_pay3, k0_pay4, shapeCast_self]
  rfl

theorem final_5 : (dats m 0 c).arrAt 5 cfg0.N
    = fun y => newM (V m c main_v1 y) (V m c main_v2 y) := by
  refine (dats m 0 c).arrAt_eq_of_covers 5 (fun y => newM (V m c main_v1 y) (V m c main_v2 y)) (by decide +kernel) fun t hf y => ?_
  blk_simp
  rw [after0_5]
  change S512x64.Idx at y
  idx_vars y
  have ht : t.val < 4 := t.isLt
  have e : (win0_5.blk t).view.emb (ix2 y0 y1) = ix2 ⟨512 * t.val + y0.val, by have : t.val < 4 := t.isLt; omega⟩ y1 := by
    blk_ext [idx5 t]
  refine ((block_5 _ _ _ _ _).trans ?_).trans (congrArg (fun y => newM (V m c main_v1 y) (V m c main_v2 y)) e.symm)
  simp only [rd_1, rd_2]

theorem block_6 (x0 x1 x2 x3 : FVec Ideal S512x64 .f32) (y : S512x64.Idx) :
    out0_6 x0 x1 x2 x3 y = newV (x1 y) (x3 y) := by
  unfold out0_6
  rw [View.canon_unit_zero zero2]
  simp only [View.ld_unit_zero (S := S512x64) zero2, k0_pay1, k0_pay2, k0_pay3, k0_pay4, shapeCast_self]
  rfl

theorem final_6 : (dats m 0 c).arrAt 6 cfg0.N
    = fun y => newV (V m c main_v1 y) (V m c main_v3 y) := by
  refine (dats m 0 c).arrAt_eq_of_covers 6 (fun y => newV (V m c main_v1 y) (V m c main_v3 y)) (by decide +kernel) fun t hf y => ?_
  blk_simp
  rw [after0_6]
  change S512x64.Idx at y
  idx_vars y
  have ht : t.val < 4 := t.isLt
  have e : (win0_6.blk t).view.emb (ix2 y0 y1) = ix2 ⟨512 * t.val + y0.val, by have : t.val < 4 := t.isLt; omega⟩ y1 := by
    blk_ext [idx6 t]
  refine ((block_6 _ _ _ _ _).trans ?_).trans (congrArg (fun y => newV (V m c main_v1 y) (V m c main_v3 y)) e.symm)
  simp only [rd_1, rd_3]

end

/-- The call's three results are the reference's. -/
theorem algebraic : Cert.algebraic_AdamSsmCIdeal_AdamSsmCRefIdeal (hAdamSsmCIdeal := Cert.AdamSsmCIdeal.Gen.facts)
    (hAdamSsmCRefIdeal := Cert.AdamSsmCRefIdeal.Gen.facts) := by
  intro m g m' g' _ hargs
  refine ⟨_, _, _, Cert.AdamSsmCIdeal.Value.run_blocks m g, ?_⟩
  refine (θ_run _ _ _).mono (fun r h c => ?_) (Cert.AdamSsmCRefIdeal.Value.run m' g')
  refine ⟨(h c).1.trans ?_, (h c).2.1.trans ?_, (h c).2.2.1.trans ?_, (h c).2.2.2⟩
  · rw [final_4, in_0, in_1, in_2, in_3, (hargs c).1, (hargs c).2.1, (hargs c).2.2.1, (hargs c).2.2.2]
    rfl
  · rw [final_5, in_1, in_2, (hargs c).2.1, (hargs c).2.2.1]
    rfl
  · rw [final_6, in_1, in_3, (hargs c).2.1, (hargs c).2.2.2]
    rfl

/-- The reference runs and keeps its arguments; it declares no semaphore. -/
theorem frame_r : Cert.quiescent_AdamSsmCRefIdeal (hAdamSsmCRefIdeal := Cert.AdamSsmCRefIdeal.Gen.facts) := by
  intro m ρ _
  exact (θ_run Cert.AdamSsmCRefIdeal.defs _ _).mono (fun r h => ⟨fun c => (h c).2.2.2,
      Idealize.ShloMosaic.sem_eq_zero_of_no_sems (by decide) r.2⟩)
    (Cert.AdamSsmCRefIdeal.Value.run m ρ)

end Cert.Adam.AdamSsmC
-- ==== Proof.AdamSsmD.lean ====
/-
  The AdamW step of the state-space layer's skip: an array of shape 1x128 on a device.
-/
module

public import proofs.«01_k».proof.Defs
public import proofs.«01_k».proof.Proof.Adam
public import proofs.«01_k».proof.Proof.Gen.AdamSsmD.Frame
public import proofs.«01_k».proof.Proof.Gen.AdamSsmDIdeal.Value
public import proofs.«01_k».proof.Proof.Gen.AdamSsmDRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Adam.AdamSsmD

open Idealize.ShloMosaic Idealize.ShloMosaic.TcCoe Idealize.SL.Sem Pipeline

/-- The call's three results are the reference's. -/
theorem algebraic : Cert.algebraic_AdamSsmDIdeal_AdamSsmDRefIdeal (hAdamSsmDIdeal := Cert.AdamSsmDIdeal.Gen.facts)
    (hAdamSsmDRefIdeal := Cert.AdamSsmDRefIdeal.Gen.facts) := by
  intro m g m' g' _ hargs
  refine ⟨_, _, _, Cert.AdamSsmDIdeal.Value.run m g, ?_⟩
  refine (θ_run _ _ _).mono (fun r h c => ?_) (Cert.AdamSsmDRefIdeal.Value.run m' g')
  refine ⟨(h c).1.trans ?_, (h c).2.1.trans ?_, (h c).2.2.1.trans ?_, (h c).2.2.2⟩
  all_goals
    (try rw [(hargs c).1])
    (try rw [(hargs c).2.1])
    (try rw [(hargs c).2.2.1])
    (try rw [(hargs c).2.2.2])
    rfl

/-- The reference runs and keeps its arguments; it declares no semaphore. -/
theorem frame_r : Cert.quiescent_AdamSsmDRefIdeal (hAdamSsmDRefIdeal := Cert.AdamSsmDRefIdeal.Gen.facts) := by
  intro m ρ _
  exact (θ_run Cert.AdamSsmDRefIdeal.defs _ _).mono (fun r h => ⟨fun c => (h c).2.2.2,
      Idealize.ShloMosaic.sem_eq_zero_of_no_sems (by decide) r.2⟩)
    (Cert.AdamSsmDRefIdeal.Value.run m ρ)

end Cert.Adam.AdamSsmD
-- ==== Proof.AdamMixIn.lean ====
/-
  The AdamW step of the gated spatial layer's first weight: an array of shape 1x1024x512 on a device.
-/
module

public import proofs.«01_k».proof.Defs
public import proofs.«01_k».proof.Proof.Adam
public import proofs.«01_k».proof.Proof.Gen.AdamMixIn.Frame
public import proofs.«01_k».proof.Proof.Gen.AdamMixInIdeal.Value
public import proofs.«01_k».proof.Proof.Gen.AdamMixInRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Adam.AdamMixIn

open Idealize.ShloMosaic Idealize.ShloMosaic.TcCoe Idealize.SL.Sem Pipeline

section
open Cert.AdamMixInIdeal Cert.AdamMixInIdeal.Gen

variable (m : (ℓ : Loc nD τ sig) → Buf (Elt Ideal) ℓ) (c : Dev nD)

/-- An argument as rows of its last axis. -/
abbrev flat (x : FVec Ideal S1x1024x512 .f32) : FVec Ideal S1024x512 .f32 := shapeCast S1024x512 x shapeCasts_S1x1024x512_S1024x512

theorem in_0 : V m c main_v0 = flat (m ((c.tc : Thread nD τ).loc main_arg0)) := by
  unfold V
  after_reads_simp
  rfl

theorem in_1 : V m c main_v1 = flat (m ((c.tc : Thread nD τ).loc main_arg1)) := by
  unfold V
  after_reads_simp
  rfl

theorem in_2 : V m c main_v2 = flat (m ((c.tc : Thread nD τ).loc main_arg2)) := by
  unfold V
  after_reads_simp
  rfl

theorem in_3 : V m c main_v3 = flat (m ((c.tc : Thread nD τ).loc main_arg3)) := by
  unfold V
  after_reads_simp
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

theorem rd_0 (t : Fin cfg0.N) (r : Fin 512) (j : Fin 512) : iblk m c 0 t (ix2 r j)
    = V m c main_v0 (ix2 ⟨512 * t.val + r.val, by have : t.val < 2 := t.isLt; omega⟩ j) := by
  have ht : t.val < 2 := t.isLt
  blk_ext [iblk, idx0 t]

theorem rd_1 (t : Fin cfg0.N) (r : Fin 512) (j : Fin 512) : iblk m c 1 t (ix2 r j)
    = V m c main_v1 (ix2 ⟨512 * t.val + r.val, by have : t.val < 2 := t.isLt; omega⟩ j) := by
  have ht : t.val < 2 := t.isLt
  blk_ext [iblk, idx1 t]

theorem rd_2 (t : Fin cfg0.N) (r : Fin 512) (j : Fin 512) : iblk m c 2 t (ix2 r j)
    = V m c main_v2 (ix2 ⟨512 * t.val + r.val, by have : t.val < 2 := t.isLt; omega⟩ j) := by
  have ht : t.val < 2 := t.isLt
  blk_ext [iblk, idx2 t]

theorem rd_3 (t : Fin cfg0.N) (r : Fin 512) (j : Fin 512) : iblk m c 3 t (ix2 r j)
    = V m c main_v3 (ix2 ⟨512 * t.val + r.val, by have : t.val < 2 := t.isLt; omega⟩ j) := by
  have ht : t.val < 2 := t.isLt
  blk_ext [iblk, idx3 t]

theorem block_4 (x0 x1 x2 x3 : FVec Ideal S512x512 .f32) (y : S512x512.Idx) :
    out0_4 x0 x1 x2 x3 y = delta (x0 y) (x1 y) (x2 y) (x3 y) := by
  unfold out0_4
  rw [View.canon_unit_zero zero2]
  simp only [View.ld_unit_zero (S := S512x512) zero2, k0_pay1, k0_pay2, k0_pay3, k0_pay4, shapeCast_self]
  rfl

theorem final_4 : (dats m 0 c).arrAt 4 cfg0.N
    = fun y => delta (V m c main_v0 y) (V m c main_v1 y) (V m c main_v2 y) (V m c main_v3 y) := by
  refine (dats m 0 c).arrAt_eq_of_covers 4 (fun y => delta (V m c main_v0 y) (V m c main_v1 y) (V m c main_v2 y) (V m c main_v3 y)) (by decide +kernel) fun t hf y => ?_
  blk_simp
  rw [after0_4]
  change S512x512.Idx at y
  idx_vars y
  have ht : t.val < 2 := t.isLt
  have e : (win0_4.blk t).view.emb (ix2 y0 y1) = ix2 ⟨512 * t.val + y0.val, by have : t.val < 2 := t.isLt; omega⟩ y1 := by
    blk_ext [idx4 t]
  refine ((block_4 _ _ _ _ _).trans ?_).trans (congrArg (fun y => delta (V m c main_v0 y) (V m c main_v1 y) (V m c main_v2 y) (V m c main_v3 y)) e.symm)
  simp only [rd_0, rd_1, rd_2, rd_3]

theorem block_5 (x0 x1 x2 x3 : FVec Ideal S512x512 .f32) (y : S512x512.Idx) :
    out0_5 x0 x1 x2 x3 y = newM (x1 y) (x2 y) := by
  unfold out0_5
  rw [View.canon_unit_zero zero2]
  simp only [View.ld_unit_zero (S := S512x512) zero2, k0_pay1, k0_pay2, k0_pay3, k0_pay4, shapeCast_self]
  rfl

theorem final_5 : (dats m 0 c).arrAt 5 cfg0.N
    = fun y => newM (V m c main_v1 y) (V m c main_v2 y) := by
  refine (dats m 0 c).arrAt_eq_of_covers 5 (fun y => newM (V m c main_v1 y) (V m c main_v2 y)) (by decide +kernel) fun t hf y => ?_
  blk_simp
  rw [after0_5]
  change S512x512.Idx at y
  idx_vars y
  have ht : t.val < 2 := t.isLt
  have e : (win0_5.blk t).view.emb (ix2 y0 y1) = ix2 ⟨512 * t.val + y0.val, by have : t.val < 2 := t.isLt; omega⟩ y1 := by
    blk_ext [idx5 t]
  refine ((block_5 _ _ _ _ _).trans ?_).trans (congrArg (fun y => newM (V m c main_v1 y) (V m c main_v2 y)) e.symm)
  simp only [rd_1, rd_2]

theorem block_6 (x0 x1 x2 x3 : FVec Ideal S512x512 .f32) (y : S512x512.Idx) :
    out0_6 x0 x1 x2 x3 y = newV (x1 y) (x3 y) := by
  unfold out0_6
  rw [View.canon_unit_zero zero2]
  simp only [View.ld_unit_zero (S := S512x512) zero2, k0_pay1, k0_pay2, k0_pay3, k0_pay4, shapeCast_self]
  rfl

theorem final_6 : (dats m 0 c).arrAt 6 cfg0.N
    = fun y => newV (V m c main_v1 y) (V m c main_v3 y) := by
  refine (dats m 0 c).arrAt_eq_of_covers 6 (fun y => newV (V m c main_v1 y) (V m c main_v3 y)) (by decide +kernel) fun t hf y => ?_
  blk_simp
  rw [after0_6]
  change S512x512.Idx at y
  idx_vars y
  have ht : t.val < 2 := t.isLt
  have e : (win0_6.blk t).view.emb (ix2 y0 y1) = ix2 ⟨512 * t.val + y0.val, by have : t.val < 2 := t.isLt; omega⟩ y1 := by
    blk_ext [idx6 t]
  refine ((block_6 _ _ _ _ _).trans ?_).trans (congrArg (fun y => newV (V m c main_v1 y) (V m c main_v3 y)) e.symm)
  simp only [rd_1, rd_3]

end

/-- The call's three results are the reference's. -/
theorem algebraic : Cert.algebraic_AdamMixInIdeal_AdamMixInRefIdeal (hAdamMixInIdeal := Cert.AdamMixInIdeal.Gen.facts)
    (hAdamMixInRefIdeal := Cert.AdamMixInRefIdeal.Gen.facts) := by
  intro m g m' g' _ hargs
  refine ⟨_, _, _, Cert.AdamMixInIdeal.Value.run_blocks m g, ?_⟩
  refine (θ_run _ _ _).mono (fun r h c => ?_) (Cert.AdamMixInRefIdeal.Value.run m' g')
  refine ⟨(h c).1.trans ?_, (h c).2.1.trans ?_, (h c).2.2.1.trans ?_, (h c).2.2.2⟩
  · rw [final_4, in_0, in_1, in_2, in_3, (hargs c).1, (hargs c).2.1, (hargs c).2.2.1, (hargs c).2.2.2]
    rfl
  · rw [final_5, in_1, in_2, (hargs c).2.1, (hargs c).2.2.1]
    rfl
  · rw [final_6, in_1, in_3, (hargs c).2.1, (hargs c).2.2.2]
    rfl

/-- The reference runs and keeps its arguments; it declares no semaphore. -/
theorem frame_r : Cert.quiescent_AdamMixInRefIdeal (hAdamMixInRefIdeal := Cert.AdamMixInRefIdeal.Gen.facts) := by
  intro m ρ _
  exact (θ_run Cert.AdamMixInRefIdeal.defs _ _).mono (fun r h => ⟨fun c => (h c).2.2.2,
      Idealize.ShloMosaic.sem_eq_zero_of_no_sems (by decide) r.2⟩)
    (Cert.AdamMixInRefIdeal.Value.run m ρ)

end Cert.Adam.AdamMixIn
-- ==== Proof.AdamMixBias.lean ====
/-
  The AdamW step of the gated spatial layer's first bias: an array of shape 1x512 on a device.
-/
module

public import proofs.«01_k».proof.Defs
public import proofs.«01_k».proof.Proof.Adam
public import proofs.«01_k».proof.Proof.Gen.AdamMixBias.Frame
public import proofs.«01_k».proof.Proof.Gen.AdamMixBiasIdeal.Value
public import proofs.«01_k».proof.Proof.Gen.AdamMixBiasRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Adam.AdamMixBias

open Idealize.ShloMosaic Idealize.ShloMosaic.TcCoe Idealize.SL.Sem Pipeline

/-- The call's three results are the reference's. -/
theorem algebraic : Cert.algebraic_AdamMixBiasIdeal_AdamMixBiasRefIdeal (hAdamMixBiasIdeal := Cert.AdamMixBiasIdeal.Gen.facts)
    (hAdamMixBiasRefIdeal := Cert.AdamMixBiasRefIdeal.Gen.facts) := by
  intro m g m' g' _ hargs
  refine ⟨_, _, _, Cert.AdamMixBiasIdeal.Value.run m g, ?_⟩
  refine (θ_run _ _ _).mono (fun r h c => ?_) (Cert.AdamMixBiasRefIdeal.Value.run m' g')
  refine ⟨(h c).1.trans ?_, (h c).2.1.trans ?_, (h c).2.2.1.trans ?_, (h c).2.2.2⟩
  all_goals
    (try rw [(hargs c).1])
    (try rw [(hargs c).2.1])
    (try rw [(hargs c).2.2.1])
    (try rw [(hargs c).2.2.2])
    rfl

/-- The reference runs and keeps its arguments; it declares no semaphore. -/
theorem frame_r : Cert.quiescent_AdamMixBiasRefIdeal (hAdamMixBiasRefIdeal := Cert.AdamMixBiasRefIdeal.Gen.facts) := by
  intro m ρ _
  exact (θ_run Cert.AdamMixBiasRefIdeal.defs _ _).mono (fun r h => ⟨fun c => (h c).2.2.2,
      Idealize.ShloMosaic.sem_eq_zero_of_no_sems (by decide) r.2⟩)
    (Cert.AdamMixBiasRefIdeal.Value.run m ρ)

end Cert.Adam.AdamMixBias
-- ==== Proof.AdamMixNorm.lean ====
/-
  The AdamW step of the scale and shift of the gated spatial layer's norm: an array of shape 1x256 on a device.
-/
module

public import proofs.«01_k».proof.Defs
public import proofs.«01_k».proof.Proof.Adam
public import proofs.«01_k».proof.Proof.Gen.AdamMixNorm.Frame
public import proofs.«01_k».proof.Proof.Gen.AdamMixNormIdeal.Value
public import proofs.«01_k».proof.Proof.Gen.AdamMixNormRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Adam.AdamMixNorm

open Idealize.ShloMosaic Idealize.ShloMosaic.TcCoe Idealize.SL.Sem Pipeline

/-- The call's three results are the reference's. -/
theorem algebraic : Cert.algebraic_AdamMixNormIdeal_AdamMixNormRefIdeal (hAdamMixNormIdeal := Cert.AdamMixNormIdeal.Gen.facts)
    (hAdamMixNormRefIdeal := Cert.AdamMixNormRefIdeal.Gen.facts) := by
  intro m g m' g' _ hargs
  refine ⟨_, _, _, Cert.AdamMixNormIdeal.Value.run m g, ?_⟩
  refine (θ_run _ _ _).mono (fun r h c => ?_) (Cert.AdamMixNormRefIdeal.Value.run m' g')
  refine ⟨(h c).1.trans ?_, (h c).2.1.trans ?_, (h c).2.2.1.trans ?_, (h c).2.2.2⟩
  all_goals
    (try rw [(hargs c).1])
    (try rw [(hargs c).2.1])
    (try rw [(hargs c).2.2.1])
    (try rw [(hargs c).2.2.2])
    rfl

/-- The reference runs and keeps its arguments; it declares no semaphore. -/
theorem frame_r : Cert.quiescent_AdamMixNormRefIdeal (hAdamMixNormRefIdeal := Cert.AdamMixNormRefIdeal.Gen.facts) := by
  intro m ρ _
  exact (θ_run Cert.AdamMixNormRefIdeal.defs _ _).mono (fun r h => ⟨fun c => (h c).2.2.2,
      Idealize.ShloMosaic.sem_eq_zero_of_no_sems (by decide) r.2⟩)
    (Cert.AdamMixNormRefIdeal.Value.run m ρ)

end Cert.Adam.AdamMixNorm
-- ==== Proof.AdamMixW.lean ====
/-
  The AdamW step of the gated spatial layer's mixing weight: an array of shape 1x8x128x128 on a device.
-/
module

public import proofs.«01_k».proof.Defs
public import proofs.«01_k».proof.Proof.Adam
public import proofs.«01_k».proof.Proof.Gen.AdamMixW.Frame
public import proofs.«01_k».proof.Proof.Gen.AdamMixWIdeal.Value
public import proofs.«01_k».proof.Proof.Gen.AdamMixWRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Adam.AdamMixW

open Idealize.ShloMosaic Idealize.ShloMosaic.TcCoe Idealize.SL.Sem Pipeline

section
open Cert.AdamMixWIdeal Cert.AdamMixWIdeal.Gen

variable (m : (ℓ : Loc nD τ sig) → Buf (Elt Ideal) ℓ) (c : Dev nD)

/-- An argument as rows of its last axis. -/
abbrev flat (x : FVec Ideal S1x8x128x128 .f32) : FVec Ideal S1024x128 .f32 := shapeCast S1024x128 x shapeCasts_S1x8x128x128_S1024x128

theorem in_0 : V m c main_v0 = flat (m ((c.tc : Thread nD τ).loc main_arg0)) := by
  unfold V
  after_reads_simp
  rfl

theorem in_1 : V m c main_v1 = flat (m ((c.tc : Thread nD τ).loc main_arg1)) := by
  unfold V
  after_reads_simp
  rfl

theorem in_2 : V m c main_v2 = flat (m ((c.tc : Thread nD τ).loc main_arg2)) := by
  unfold V
  after_reads_simp
  rfl

theorem in_3 : V m c main_v3 = flat (m ((c.tc : Thread nD τ).loc main_arg3)) := by
  unfold V
  after_reads_simp
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

theorem rd_0 (t : Fin cfg0.N) (r : Fin 512) (j : Fin 128) : iblk m c 0 t (ix2 r j)
    = V m c main_v0 (ix2 ⟨512 * t.val + r.val, by have : t.val < 2 := t.isLt; omega⟩ j) := by
  have ht : t.val < 2 := t.isLt
  blk_ext [iblk, idx0 t]

theorem rd_1 (t : Fin cfg0.N) (r : Fin 512) (j : Fin 128) : iblk m c 1 t (ix2 r j)
    = V m c main_v1 (ix2 ⟨512 * t.val + r.val, by have : t.val < 2 := t.isLt; omega⟩ j) := by
  have ht : t.val < 2 := t.isLt
  blk_ext [iblk, idx1 t]

theorem rd_2 (t : Fin cfg0.N) (r : Fin 512) (j : Fin 128) : iblk m c 2 t (ix2 r j)
    = V m c main_v2 (ix2 ⟨512 * t.val + r.val, by have : t.val < 2 := t.isLt; omega⟩ j) := by
  have ht : t.val < 2 := t.isLt
  blk_ext [iblk, idx2 t]

theorem rd_3 (t : Fin cfg0.N) (r : Fin 512) (j : Fin 128) : iblk m c 3 t (ix2 r j)
    = V m c main_v3 (ix2 ⟨512 * t.val + r.val, by have : t.val < 2 := t.isLt; omega⟩ j) := by
  have ht : t.val < 2 := t.isLt
  blk_ext [iblk, idx3 t]

theorem block_4 (x0 x1 x2 x3 : FVec Ideal S512x128 .f32) (y : S512x128.Idx) :
    out0_4 x0 x1 x2 x3 y = delta (x0 y) (x1 y) (x2 y) (x3 y) := by
  unfold out0_4
  rw [View.canon_unit_zero zero2]
  simp only [View.ld_unit_zero (S := S512x128) zero2, k0_pay1, k0_pay2, k0_pay3, k0_pay4, shapeCast_self]
  rfl

theorem final_4 : (dats m 0 c).arrAt 4 cfg0.N
    = fun y => delta (V m c main_v0 y) (V m c main_v1 y) (V m c main_v2 y) (V m c main_v3 y) := by
  refine (dats m 0 c).arrAt_eq_of_covers 4 (fun y => delta (V m c main_v0 y) (V m c main_v1 y) (V m c main_v2 y) (V m c main_v3 y)) (by decide +kernel) fun t hf y => ?_
  blk_simp
  rw [after0_4]
  change S512x128.Idx at y
  idx_vars y
  have ht : t.val < 2 := t.isLt
  have e : (win0_4.blk t).view.emb (ix2 y0 y1) = ix2 ⟨512 * t.val + y0.val, by have : t.val < 2 := t.isLt; omega⟩ y1 := by
    blk_ext [idx4 t]
  refine ((block_4 _ _ _ _ _).trans ?_).trans (congrArg (fun y => delta (V m c main_v0 y) (V m c main_v1 y) (V m c main_v2 y) (V m c main_v3 y)) e.symm)
  simp only [rd_0, rd_1, rd_2, rd_3]

theorem block_5 (x0 x1 x2 x3 : FVec Ideal S512x128 .f32) (y : S512x128.Idx) :
    out0_5 x0 x1 x2 x3 y = newM (x1 y) (x2 y) := by
  unfold out0_5
  rw [View.canon_unit_zero zero2]
  simp only [View.ld_unit_zero (S := S512x128) zero2, k0_pay1, k0_pay2, k0_pay3, k0_pay4, shapeCast_self]
  rfl

theorem final_5 : (dats m 0 c).arrAt 5 cfg0.N
    = fun y => newM (V m c main_v1 y) (V m c main_v2 y) := by
  refine (dats m 0 c).arrAt_eq_of_covers 5 (fun y => newM (V m c main_v1 y) (V m c main_v2 y)) (by decide +kernel) fun t hf y => ?_
  blk_simp
  rw [after0_5]
  change S512x128.Idx at y
  idx_vars y
  have ht : t.val < 2 := t.isLt
  have e : (win0_5.blk t).view.emb (ix2 y0 y1) = ix2 ⟨512 * t.val + y0.val, by have : t.val < 2 := t.isLt; omega⟩ y1 := by
    blk_ext [idx5 t]
  refine ((block_5 _ _ _ _ _).trans ?_).trans (congrArg (fun y => newM (V m c main_v1 y) (V m c main_v2 y)) e.symm)
  simp only [rd_1, rd_2]

theorem block_6 (x0 x1 x2 x3 : FVec Ideal S512x128 .f32) (y : S512x128.Idx) :
    out0_6 x0 x1 x2 x3 y = newV (x1 y) (x3 y) := by
  unfold out0_6
  rw [View.canon_unit_zero zero2]
  simp only [View.ld_unit_zero (S := S512x128) zero2, k0_pay1, k0_pay2, k0_pay3, k0_pay4, shapeCast_self]
  rfl

theorem final_6 : (dats m 0 c).arrAt 6 cfg0.N
    = fun y => newV (V m c main_v1 y) (V m c main_v3 y) := by
  refine (dats m 0 c).arrAt_eq_of_covers 6 (fun y => newV (V m c main_v1 y) (V m c main_v3 y)) (by decide +kernel) fun t hf y => ?_
  blk_simp
  rw [after0_6]
  change S512x128.Idx at y
  idx_vars y
  have ht : t.val < 2 := t.isLt
  have e : (win0_6.blk t).view.emb (ix2 y0 y1) = ix2 ⟨512 * t.val + y0.val, by have : t.val < 2 := t.isLt; omega⟩ y1 := by
    blk_ext [idx6 t]
  refine ((block_6 _ _ _ _ _).trans ?_).trans (congrArg (fun y => newV (V m c main_v1 y) (V m c main_v3 y)) e.symm)
  simp only [rd_1, rd_3]

end

/-- The call's three results are the reference's. -/
theorem algebraic : Cert.algebraic_AdamMixWIdeal_AdamMixWRefIdeal (hAdamMixWIdeal := Cert.AdamMixWIdeal.Gen.facts)
    (hAdamMixWRefIdeal := Cert.AdamMixWRefIdeal.Gen.facts) := by
  intro m g m' g' _ hargs
  refine ⟨_, _, _, Cert.AdamMixWIdeal.Value.run_blocks m g, ?_⟩
  refine (θ_run _ _ _).mono (fun r h c => ?_) (Cert.AdamMixWRefIdeal.Value.run m' g')
  refine ⟨(h c).1.trans ?_, (h c).2.1.trans ?_, (h c).2.2.1.trans ?_, (h c).2.2.2⟩
  · rw [final_4, in_0, in_1, in_2, in_3, (hargs c).1, (hargs c).2.1, (hargs c).2.2.1, (hargs c).2.2.2]
    rfl
  · rw [final_5, in_1, in_2, (hargs c).2.1, (hargs c).2.2.1]
    rfl
  · rw [final_6, in_1, in_3, (hargs c).2.1, (hargs c).2.2.2]
    rfl

/-- The reference runs and keeps its arguments; it declares no semaphore. -/
theorem frame_r : Cert.quiescent_AdamMixWRefIdeal (hAdamMixWRefIdeal := Cert.AdamMixWRefIdeal.Gen.facts) := by
  intro m ρ _
  exact (θ_run Cert.AdamMixWRefIdeal.defs _ _).mono (fun r h => ⟨fun c => (h c).2.2.2,
      Idealize.ShloMosaic.sem_eq_zero_of_no_sems (by decide) r.2⟩)
    (Cert.AdamMixWRefIdeal.Value.run m ρ)

end Cert.Adam.AdamMixW
-- ==== Proof.AdamMixB.lean ====
/-
  The AdamW step of the gated spatial layer's mixing bias: an array of shape 1x8x128 on a device.
-/
module

public import proofs.«01_k».proof.Defs
public import proofs.«01_k».proof.Proof.Adam
public import proofs.«01_k».proof.Proof.Gen.AdamMixB.Frame
public import proofs.«01_k».proof.Proof.Gen.AdamMixBIdeal.Value
public import proofs.«01_k».proof.Proof.Gen.AdamMixBRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Adam.AdamMixB

open Idealize.ShloMosaic Idealize.ShloMosaic.TcCoe Idealize.SL.Sem Pipeline

section
open Cert.AdamMixBIdeal Cert.AdamMixBIdeal.Gen

variable (m : (ℓ : Loc nD τ sig) → Buf (Elt Ideal) ℓ) (c : Dev nD)

/-- An argument as rows of its last axis. -/
abbrev flat (x : FVec Ideal S1x8x128 .f32) : FVec Ideal S8x128 .f32 := shapeCast S8x128 x shapeCasts_S1x8x128_S8x128

theorem in_0 : V m c main_v0 = flat (m ((c.tc : Thread nD τ).loc main_arg0)) := by
  unfold V
  after_reads_simp
  rfl

theorem in_1 : V m c main_v1 = flat (m ((c.tc : Thread nD τ).loc main_arg1)) := by
  unfold V
  after_reads_simp
  rfl

theorem in_2 : V m c main_v2 = flat (m ((c.tc : Thread nD τ).loc main_arg2)) := by
  unfold V
  after_reads_simp
  rfl

theorem in_3 : V m c main_v3 = flat (m ((c.tc : Thread nD τ).loc main_arg3)) := by
  unfold V
  after_reads_simp
  rfl

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

theorem rd_0 (t : Fin cfg0.N) (r : Fin 8) (j : Fin 128) : iblk m c 0 t (ix2 r j)
    = V m c main_v0 (ix2 r j) := by
  have ht : t.val < 1 := t.isLt
  blk_ext [iblk, idx0 t]

theorem rd_1 (t : Fin cfg0.N) (r : Fin 8) (j : Fin 128) : iblk m c 1 t (ix2 r j)
    = V m c main_v1 (ix2 r j) := by
  have ht : t.val < 1 := t.isLt
  blk_ext [iblk, idx1 t]

theorem rd_2 (t : Fin cfg0.N) (r : Fin 8) (j : Fin 128) : iblk m c 2 t (ix2 r j)
    = V m c main_v2 (ix2 r j) := by
  have ht : t.val < 1 := t.isLt
  blk_ext [iblk, idx2 t]

theorem rd_3 (t : Fin cfg0.N) (r : Fin 8) (j : Fin 128) : iblk m c 3 t (ix2 r j)
    = V m c main_v3 (ix2 r j) := by
  have ht : t.val < 1 := t.isLt
  blk_ext [iblk, idx3 t]

theorem block_4 (x0 x1 x2 x3 : FVec Ideal S8x128 .f32) (y : S8x128.Idx) :
    out0_4 x0 x1 x2 x3 y = delta (x0 y) (x1 y) (x2 y) (x3 y) := by
  unfold out0_4
  rw [View.canon_unit_zero zero2]
  simp only [View.ld_unit_zero (S := S8x128) zero2, k0_pay1, k0_pay2, k0_pay3, k0_pay4, shapeCast_self]
  rfl

theorem final_4 : (dats m 0 c).arrAt 4 cfg0.N
    = fun y => delta (V m c main_v0 y) (V m c main_v1 y) (V m c main_v2 y) (V m c main_v3 y) := by
  refine (dats m 0 c).arrAt_eq_of_covers 4 (fun y => delta (V m c main_v0 y) (V m c main_v1 y) (V m c main_v2 y) (V m c main_v3 y)) (by decide +kernel) fun t hf y => ?_
  blk_simp
  rw [after0_4]
  change S8x128.Idx at y
  idx_vars y
  have ht : t.val < 1 := t.isLt
  have e : (win0_4.blk t).view.emb (ix2 y0 y1) = ix2 y0 y1 := by
    blk_ext [idx4 t]
  refine ((block_4 _ _ _ _ _).trans ?_).trans (congrArg (fun y => delta (V m c main_v0 y) (V m c main_v1 y) (V m c main_v2 y) (V m c main_v3 y)) e.symm)
  simp only [rd_0, rd_1, rd_2, rd_3]

theorem block_5 (x0 x1 x2 x3 : FVec Ideal S8x128 .f32) (y : S8x128.Idx) :
    out0_5 x0 x1 x2 x3 y = newM (x1 y) (x2 y) := by
  unfold out0_5
  rw [View.canon_unit_zero zero2]
  simp only [View.ld_unit_zero (S := S8x128) zero2, k0_pay1, k0_pay2, k0_pay3, k0_pay4, shapeCast_self]
  rfl

theorem final_5 : (dats m 0 c).arrAt 5 cfg0.N
    = fun y => newM (V m c main_v1 y) (V m c main_v2 y) := by
  refine (dats m 0 c).arrAt_eq_of_covers 5 (fun y => newM (V m c main_v1 y) (V m c main_v2 y)) (by decide +kernel) fun t hf y => ?_
  blk_simp
  rw [after0_5]
  change S8x128.Idx at y
  idx_vars y
  have ht : t.val < 1 := t.isLt
  have e : (win0_5.blk t).view.emb (ix2 y0 y1) = ix2 y0 y1 := by
    blk_ext [idx5 t]
  refine ((block_5 _ _ _ _ _).trans ?_).trans (congrArg (fun y => newM (V m c main_v1 y) (V m c main_v2 y)) e.symm)
  simp only [rd_1, rd_2]

theorem block_6 (x0 x1 x2 x3 : FVec Ideal S8x128 .f32) (y : S8x128.Idx) :
    out0_6 x0 x1 x2 x3 y = newV (x1 y) (x3 y) := by
  unfold out0_6
  rw [View.canon_unit_zero zero2]
  simp only [View.ld_unit_zero (S := S8x128) zero2, k0_pay1, k0_pay2, k0_pay3, k0_pay4, shapeCast_self]
  rfl

theorem final_6 : (dats m 0 c).arrAt 6 cfg0.N
    = fun y => newV (V m c main_v1 y) (V m c main_v3 y) := by
  refine (dats m 0 c).arrAt_eq_of_covers 6 (fun y => newV (V m c main_v1 y) (V m c main_v3 y)) (by decide +kernel) fun t hf y => ?_
  blk_simp
  rw [after0_6]
  change S8x128.Idx at y
  idx_vars y
  have ht : t.val < 1 := t.isLt
  have e : (win0_6.blk t).view.emb (ix2 y0 y1) = ix2 y0 y1 := by
    blk_ext [idx6 t]
  refine ((block_6 _ _ _ _ _).trans ?_).trans (congrArg (fun y => newV (V m c main_v1 y) (V m c main_v3 y)) e.symm)
  simp only [rd_1, rd_3]

end

/-- The call's three results are the reference's. -/
theorem algebraic : Cert.algebraic_AdamMixBIdeal_AdamMixBRefIdeal (hAdamMixBIdeal := Cert.AdamMixBIdeal.Gen.facts)
    (hAdamMixBRefIdeal := Cert.AdamMixBRefIdeal.Gen.facts) := by
  intro m g m' g' _ hargs
  refine ⟨_, _, _, Cert.AdamMixBIdeal.Value.run_blocks m g, ?_⟩
  refine (θ_run _ _ _).mono (fun r h c => ?_) (Cert.AdamMixBRefIdeal.Value.run m' g')
  refine ⟨(h c).1.trans ?_, (h c).2.1.trans ?_, (h c).2.2.1.trans ?_, (h c).2.2.2⟩
  · rw [final_4, in_0, in_1, in_2, in_3, (hargs c).1, (hargs c).2.1, (hargs c).2.2.1, (hargs c).2.2.2]
    rfl
  · rw [final_5, in_1, in_2, (hargs c).2.1, (hargs c).2.2.1]
    rfl
  · rw [final_6, in_1, in_3, (hargs c).2.1, (hargs c).2.2.2]
    rfl

/-- The reference runs and keeps its arguments; it declares no semaphore. -/
theorem frame_r : Cert.quiescent_AdamMixBRefIdeal (hAdamMixBRefIdeal := Cert.AdamMixBRefIdeal.Gen.facts) := by
  intro m ρ _
  exact (θ_run Cert.AdamMixBRefIdeal.defs _ _).mono (fun r h => ⟨fun c => (h c).2.2.2,
      Idealize.ShloMosaic.sem_eq_zero_of_no_sems (by decide) r.2⟩)
    (Cert.AdamMixBRefIdeal.Value.run m ρ)

end Cert.Adam.AdamMixB
-- ==== Proof.AdamMixOut.lean ====
/-
  The AdamW step of the gated spatial layer's second weight: an array of shape 1x256x1024 on a device.
-/
module

public import proofs.«01_k».proof.Defs
public import proofs.«01_k».proof.Proof.Adam
public import proofs.«01_k».proof.Proof.Gen.AdamMixOut.Frame
public import proofs.«01_k».proof.Proof.Gen.AdamMixOutIdeal.Value
public import proofs.«01_k».proof.Proof.Gen.AdamMixOutRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Adam.AdamMixOut

open Idealize.ShloMosaic Idealize.ShloMosaic.TcCoe Idealize.SL.Sem Pipeline

section
open Cert.AdamMixOutIdeal Cert.AdamMixOutIdeal.Gen

variable (m : (ℓ : Loc nD τ sig) → Buf (Elt Ideal) ℓ) (c : Dev nD)

/-- An argument as rows of its last axis. -/
abbrev flat (x : FVec Ideal S1x256x1024 .f32) : FVec Ideal S256x1024 .f32 := shapeCast S256x1024 x shapeCasts_S1x256x1024_S256x1024

theorem in_0 : V m c main_v0 = flat (m ((c.tc : Thread nD τ).loc main_arg0)) := by
  unfold V
  after_reads_simp
  rfl

theorem in_1 : V m c main_v1 = flat (m ((c.tc : Thread nD τ).loc main_arg1)) := by
  unfold V
  after_reads_simp
  rfl

theorem in_2 : V m c main_v2 = flat (m ((c.tc : Thread nD τ).loc main_arg2)) := by
  unfold V
  after_reads_simp
  rfl

theorem in_3 : V m c main_v3 = flat (m ((c.tc : Thread nD τ).loc main_arg3)) := by
  unfold V
  after_reads_simp
  rfl

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

theorem rd_0 (t : Fin cfg0.N) (r : Fin 256) (j : Fin 1024) : iblk m c 0 t (ix2 r j)
    = V m c main_v0 (ix2 r j) := by
  have ht : t.val < 1 := t.isLt
  blk_ext [iblk, idx0 t]

theorem rd_1 (t : Fin cfg0.N) (r : Fin 256) (j : Fin 1024) : iblk m c 1 t (ix2 r j)
    = V m c main_v1 (ix2 r j) := by
  have ht : t.val < 1 := t.isLt
  blk_ext [iblk, idx1 t]

theorem rd_2 (t : Fin cfg0.N) (r : Fin 256) (j : Fin 1024) : iblk m c 2 t (ix2 r j)
    = V m c main_v2 (ix2 r j) := by
  have ht : t.val < 1 := t.isLt
  blk_ext [iblk, idx2 t]

theorem rd_3 (t : Fin cfg0.N) (r : Fin 256) (j : Fin 1024) : iblk m c 3 t (ix2 r j)
    = V m c main_v3 (ix2 r j) := by
  have ht : t.val < 1 := t.isLt
  blk_ext [iblk, idx3 t]

theorem block_4 (x0 x1 x2 x3 : FVec Ideal S256x1024 .f32) (y : S256x1024.Idx) :
    out0_4 x0 x1 x2 x3 y = delta (x0 y) (x1 y) (x2 y) (x3 y) := by
  unfold out0_4
  rw [View.canon_unit_zero zero2]
  simp only [View.ld_unit_zero (S := S256x1024) zero2, k0_pay1, k0_pay2, k0_pay3, k0_pay4, shapeCast_self]
  rfl

theorem final_4 : (dats m 0 c).arrAt 4 cfg0.N
    = fun y => delta (V m c main_v0 y) (V m c main_v1 y) (V m c main_v2 y) (V m c main_v3 y) := by
  refine (dats m 0 c).arrAt_eq_of_covers 4 (fun y => delta (V m c main_v0 y) (V m c main_v1 y) (V m c main_v2 y) (V m c main_v3 y)) (by decide +kernel) fun t hf y => ?_
  blk_simp
  rw [after0_4]
  change S256x1024.Idx at y
  idx_vars y
  have ht : t.val < 1 := t.isLt
  have e : (win0_4.blk t).view.emb (ix2 y0 y1) = ix2 y0 y1 := by
    blk_ext [idx4 t]
  refine ((block_4 _ _ _ _ _).trans ?_).trans (congrArg (fun y => delta (V m c main_v0 y) (V m c main_v1 y) (V m c main_v2 y) (V m c main_v3 y)) e.symm)
  simp only [rd_0, rd_1, rd_2, rd_3]

theorem block_5 (x0 x1 x2 x3 : FVec Ideal S256x1024 .f32) (y : S256x1024.Idx) :
    out0_5 x0 x1 x2 x3 y = newM (x1 y) (x2 y) := by
  unfold out0_5
  rw [View.canon_unit_zero zero2]
  simp only [View.ld_unit_zero (S := S256x1024) zero2, k0_pay1, k0_pay2, k0_pay3, k0_pay4, shapeCast_self]
  rfl

theorem final_5 : (dats m 0 c).arrAt 5 cfg0.N
    = fun y => newM (V m c main_v1 y) (V m c main_v2 y) := by
  refine (dats m 0 c).arrAt_eq_of_covers 5 (fun y => newM (V m c main_v1 y) (V m c main_v2 y)) (by decide +kernel) fun t hf y => ?_
  blk_simp
  rw [after0_5]
  change S256x1024.Idx at y
  idx_vars y
  have ht : t.val < 1 := t.isLt
  have e : (win0_5.blk t).view.emb (ix2 y0 y1) = ix2 y0 y1 := by
    blk_ext [idx5 t]
  refine ((block_5 _ _ _ _ _).trans ?_).trans (congrArg (fun y => newM (V m c main_v1 y) (V m c main_v2 y)) e.symm)
  simp only [rd_1, rd_2]

theorem block_6 (x0 x1 x2 x3 : FVec Ideal S256x1024 .f32) (y : S256x1024.Idx) :
    out0_6 x0 x1 x2 x3 y = newV (x1 y) (x3 y) := by
  unfold out0_6
  rw [View.canon_unit_zero zero2]
  simp only [View.ld_unit_zero (S := S256x1024) zero2, k0_pay1, k0_pay2, k0_pay3, k0_pay4, shapeCast_self]
  rfl

theorem final_6 : (dats m 0 c).arrAt 6 cfg0.N
    = fun y => newV (V m c main_v1 y) (V m c main_v3 y) := by
  refine (dats m 0 c).arrAt_eq_of_covers 6 (fun y => newV (V m c main_v1 y) (V m c main_v3 y)) (by decide +kernel) fun t hf y => ?_
  blk_simp
  rw [after0_6]
  change S256x1024.Idx at y
  idx_vars y
  have ht : t.val < 1 := t.isLt
  have e : (win0_6.blk t).view.emb (ix2 y0 y1) = ix2 y0 y1 := by
    blk_ext [idx6 t]
  refine ((block_6 _ _ _ _ _).trans ?_).trans (congrArg (fun y => newV (V m c main_v1 y) (V m c main_v3 y)) e.symm)
  simp only [rd_1, rd_3]

end

/-- The call's three results are the reference's. -/
theorem algebraic : Cert.algebraic_AdamMixOutIdeal_AdamMixOutRefIdeal (hAdamMixOutIdeal := Cert.AdamMixOutIdeal.Gen.facts)
    (hAdamMixOutRefIdeal := Cert.AdamMixOutRefIdeal.Gen.facts) := by
  intro m g m' g' _ hargs
  refine ⟨_, _, _, Cert.AdamMixOutIdeal.Value.run_blocks m g, ?_⟩
  refine (θ_run _ _ _).mono (fun r h c => ?_) (Cert.AdamMixOutRefIdeal.Value.run m' g')
  refine ⟨(h c).1.trans ?_, (h c).2.1.trans ?_, (h c).2.2.1.trans ?_, (h c).2.2.2⟩
  · rw [final_4, in_0, in_1, in_2, in_3, (hargs c).1, (hargs c).2.1, (hargs c).2.2.1, (hargs c).2.2.2]
    rfl
  · rw [final_5, in_1, in_2, (hargs c).2.1, (hargs c).2.2.1]
    rfl
  · rw [final_6, in_1, in_3, (hargs c).2.1, (hargs c).2.2.2]
    rfl

/-- The reference runs and keeps its arguments; it declares no semaphore. -/
theorem frame_r : Cert.quiescent_AdamMixOutRefIdeal (hAdamMixOutRefIdeal := Cert.AdamMixOutRefIdeal.Gen.facts) := by
  intro m ρ _
  exact (θ_run Cert.AdamMixOutRefIdeal.defs _ _).mono (fun r h => ⟨fun c => (h c).2.2.2,
      Idealize.ShloMosaic.sem_eq_zero_of_no_sems (by decide) r.2⟩)
    (Cert.AdamMixOutRefIdeal.Value.run m ρ)

end Cert.Adam.AdamMixOut
-- ==== Proof.AdaDw.lean ====
/-
  The gradients of one layer's modulation weight and bias: one point writes the whole of the first, a sum over the
  conditions; the second is the host's sum over them.
-/
module

public import proofs.«01_k».proof.Defs
public import proofs.«01_k».proof.Proof.Sums
public import proofs.«01_k».proof.Proof.Gen.AdaDw.Frame
public import proofs.«01_k».proof.Proof.Gen.AdaDwIdeal.Value
public import proofs.«01_k».proof.Proof.Gen.AdaDwRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Products.AdaDw

open Idealize.ShloMosaic Idealize.ShloMosaic.TcCoe Idealize.SL.Sem Pipeline

section
open Cert.AdaDwIdeal Cert.AdaDwIdeal.Gen

variable (m : (ℓ : Loc nD τ sig) → Buf (Elt Ideal) ℓ) (c : Dev nD)

abbrev argA : FVec Ideal S16x1024 .f32 := m ((c.tc : Thread nD τ).loc main_arg0)
abbrev argB : FVec Ideal S16x768 .f32 := m ((c.tc : Thread nD τ).loc main_arg3)

theorem in_a (i : Fin 1024) (k : Fin 16) : V m c main_v2 (ix2 i k) = argA m c (ix2 k i) := by
  unfold V
  after_reads_at

theorem in_b : V m c main_arg3 = argB m c := V_main_arg3 m c

/-- The host's sum of the conditions' rows. -/
theorem in_s (j : Fin 768) : (V m c main_v0 (ix1 j) : EReal) = ∑ k : Fin 16, argB m c (ix2 k j) := by
  unfold V
  after_reads_at

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)

theorem rd_a (t : Fin cfg0.N) (r : Fin 1024) (k : Fin 16) : iblk m c 0 t (ix2 r k)
    = V m c main_v2 (ix2 r k) := by
  have ht : t.val < 1 := t.isLt
  blk_ext [iblk, idx0 t]

theorem rd_b (t : Fin cfg0.N) (j : Fin 768) (k : Fin 16) : iblk m c 1 t (ix2 k j)
    = V m c main_arg3 (ix2 k j) := by
  have ht : t.val < 1 := t.isLt
  blk_ext [iblk, idx1 t]

theorem pay_ix (x : FVec Ideal S1024x16 .bf16) (w : FVec Ideal S16x768 .f32) (r : Fin 1024) (j : Fin 768) :
    (k0_pay1 x w : FVec Ideal S1024x768 .f32) (ix2 r j) = ∑ k : Fin 16, x (ix2 r k) * w (ix2 k j) := by
  pointwise [k0_pay1]

/-- The product of a point's two blocks. -/
def part (t : Fin cfg0.N) : FVec Ideal S1024x768 .f32 := k0_pay1 (iblk m c 0 t) (iblk m c 1 t)

/-- The result: the sum over the whole contracted axis. -/
def total (x : FVec Ideal S16x1024 .f32) (w : FVec Ideal S16x768 .f32) : FVec Ideal S1024x768 .f32 :=
  fun y => ∑ k : Fin 16, x (ix2 k (y 0)) * w (ix2 k (y 1))

/-- What a point writes back. -/
theorem written (t : Fin cfg0.N) : outsAt0 m c t = part m c t := by
  unfold outsAt0
  frame_out
  rfl

theorem part_ix (t : Fin cfg0.N) (r : Fin 1024) (j : Fin 768) : part m c t (ix2 r j)
    = total (argA m c) (argB m c) (ix2 r j) :=
  (pay_ix _ _ r j).trans (Finset.sum_congr rfl fun k _ => congrArg₂ (· * ·) ((rd_a m c t r k).trans (in_a m c _ _))
    ((rd_b m c t j k).trans (congrFun (in_b m c) _)))

theorem final : (dats m 0 c).arrAt 2 cfg0.N = total (argA m c) (argB m c) := by
  refine (dats m 0 c).arrAt_eq_of_covers 2 (total (argA m c) (argB m c)) (by decide +kernel) fun t hf y => ?_
  blk_simp
  rw [after0_2]
  change S1024x768.Idx at y
  idx_vars y
  have ht : t.val < 1 := t.isLt
  have e : (win0_2.blk t).view.emb (ix2 y0 y1) = ix2 y0 y1 := by
    blk_ext [idx2 t]
  exact ((congrFun (written m c t) _).trans (part_ix m c t y0 y1)).trans (congrArg (total (argA m c) (argB m c)) e.symm)

end

section
open Cert.AdaDwRefIdeal Cert.AdaDwRefIdeal.Gen

/-- The reference's weight gradient is the same sum. -/
theorem ref_eq (x : FVec Ideal S16x1024 .f32) (w : FVec Ideal S16x768 .f32) :
    (transpose S1024x768 [1, 0] (Host.dotGeneral dot_S16x768_S16x1024_S768x1024_0_0_1_1_n_n none (shapeCast _ w shapeCasts_S16x768_S16x768) x) transposes_S768x1024_S1024x768_1_0 : FVec Ideal S1024x768 .f32) = total x w := by
  rw [shapeCast_self]
  funext y
  idx_vars y
  refine Eq.trans (b := ∑ k : Fin 16, w (ix2 k y1) * x (ix2 k y0)) ?_ ?_
  · pointwise
  · exact Finset.sum_congr rfl fun k _ => mul_comm _ _

/-- Its bias gradient: the sum over the conditions. -/
theorem ref_sum (w : FVec Ideal S16x768 .f32) (j : Fin 768) :
    (Host.reduceAdd (shapeCast _ (Host.reduceAdd w (constant S_ .f32 0x00000000#32) reducesTo_S16x768_S768_d0 h_S_) shapeCasts_S768_S1x768) (constant S_ .f32 0x00000000#32) reducesTo_S1x768_S768_d0 h_S_ : FVec Ideal S768 .f32) (ix1 j)
      = ∑ k : Fin 16, w (ix2 k j) := by
  pointwise
  exact Fin.sum_univ_one _

end

/-- The kernel's run, with the host's sum beside the call's result. -/
theorem run_k (m : (ℓ : Loc Cert.AdaDwIdeal.nD Cert.AdaDwIdeal.τ Cert.AdaDwIdeal.sig) → Buf (Elt Ideal) ℓ)
    (g : Dev Cert.AdaDwIdeal.nD → PrngReg) :
    θ_run (Cert.AdaDwIdeal.defs (F := Ideal)) (onTc (τ := Cert.AdaDwIdeal.τ) (Cert.AdaDwIdeal.main (F := Ideal))) ⟨m, fun _ => 0, g⟩ fun r => ∀ c : Dev Cert.AdaDwIdeal.nD,
      r.2.mem ((c.tc : Thread Cert.AdaDwIdeal.nD Cert.AdaDwIdeal.τ).loc Cert.AdaDwIdeal.main_v3) = (Cert.AdaDwIdeal.Gen.dats m 0 c).arrAt 2 Cert.AdaDwIdeal.cfg0.N
      ∧ r.2.mem ((c.tc : Thread Cert.AdaDwIdeal.nD Cert.AdaDwIdeal.τ).loc Cert.AdaDwIdeal.main_v0) = Cert.AdaDwIdeal.Gen.V m c Cert.AdaDwIdeal.main_v0
      ∧ r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
      ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1)
      ∧ r.2.mem ((c.tc : Thread Cert.AdaDwIdeal.nD Cert.AdaDwIdeal.τ).loc Cert.AdaDwIdeal.main_arg2) = m ((c.tc : Thread Cert.AdaDwIdeal.nD Cert.AdaDwIdeal.τ).loc Cert.AdaDwIdeal.main_arg2)
      ∧ r.2.mem ((c.tc : Thread Cert.AdaDwIdeal.nD Cert.AdaDwIdeal.τ).loc Cert.AdaDwIdeal.main_arg3) = m ((c.tc : Thread Cert.AdaDwIdeal.nD Cert.AdaDwIdeal.τ).loc Cert.AdaDwIdeal.main_arg3) :=
  (θ_run Cert.AdaDwIdeal.defs _ _).mono (fun r h c => ⟨Cert.AdaDwIdeal.Value.post2 m r h c,
      (h c).2 Cert.AdaDwIdeal.main_v0 (Pipeline.mem_restRefs_of Cert.AdaDwIdeal.main_v0 (by decide) (by decide)),
      Cert.AdaDwIdeal.Value.kept_main_arg0 m r h c, Cert.AdaDwIdeal.Value.kept_main_arg1 m r h c,
      Cert.AdaDwIdeal.Value.kept_main_arg2 m r h c, Cert.AdaDwIdeal.Value.kept_main_arg3 m r h c⟩)
    (Cert.AdaDwIdeal.Gen.run_main m g)

/-- The kernel's results are the reference's. -/
theorem algebraic : Cert.algebraic_AdaDwIdeal_AdaDwRefIdeal (hAdaDwIdeal := Cert.AdaDwIdeal.Gen.facts)
    (hAdaDwRefIdeal := Cert.AdaDwRefIdeal.Gen.facts) := by
  intro m g m' g' _ hargs
  refine ⟨fun c => (Cert.AdaDwIdeal.Gen.dats m 0 c).arrAt 2 Cert.AdaDwIdeal.cfg0.N,
    fun c => Cert.AdaDwIdeal.Gen.V m c Cert.AdaDwIdeal.main_v0, run_k m g, ?_⟩
  refine (θ_run _ _ _).mono (fun r h c => ?_) (Cert.AdaDwRefIdeal.Value.run m' g')
  refine ⟨(h c).1.trans ?_, (h c).2.1.trans ?_, (h c).2.2⟩
  · rw [(hargs c).1, (hargs c).2.2.2]
    exact (ref_eq _ _).trans (final m c).symm
  · rw [(hargs c).2.2.2]
    funext y
    change Cert.AdaDwIdeal.S768.Idx at y
    idx_vars y
    exact (ref_sum _ _).trans (in_s m c y0).symm

/-- The reference runs and keeps its arguments; it declares no semaphore. -/
theorem frame_r : Cert.quiescent_AdaDwRefIdeal (hAdaDwRefIdeal := Cert.AdaDwRefIdeal.Gen.facts) := by
  intro m ρ _
  exact (θ_run Cert.AdaDwRefIdeal.defs _ _).mono (fun r h => ⟨fun c => (h c).2.2,
      Idealize.ShloMosaic.sem_eq_zero_of_no_sems (by decide) r.2⟩)
    (Cert.AdaDwRefIdeal.Value.run m ρ)

end Cert.Products.AdaDw
-- ==== Proof.CtxCond.lean ====
/-
  The gradient that reaches the context's condition through `silu`: one point computes the call's eight equal rows.
-/
module

public import proofs.«01_k».proof.Defs
public import proofs.«01_k».proof.Proof.Gen.CtxCond.Frame
public import proofs.«01_k».proof.Proof.Gen.CtxCondIdeal.Value
public import proofs.«01_k».proof.Proof.Gen.CtxCondRefIdeal.Run
public import Idealize.ShloMosaic.Lib.Pointwise
public import Idealize.ShloMosaic.Lib.Pipeline.ValueKit
public import Idealize.ShloMosaic.Lib.StableHlo.ReadAt
public import Idealize.ShloMosaic.Lib.IdealHost

@[expose] public section

set_option maxRecDepth 16384

noncomputable section

namespace Cert.Products.CtxCond

open Idealize.ShloMosaic Idealize.ShloMosaic.TcCoe Idealize.SL.Sem Pipeline

/-- The derivative of `silu` at `x`, times the incoming gradient `d`, with `l` for the logistic of `x`. -/
def dsiluOf (l x d : Ideal .f32) : Ideal .f32 :=
  FloatOps.addf (FloatOps.mulf d l) (FloatOps.mulf (FloatOps.mulf x d)
    (FloatOps.mulf l (FloatOps.subf (Scalar.ofBits .f32 0x3F800000#32) l)))

/-- The derivative of `silu` at `x`, times the incoming gradient `d`. -/
def dsilu (x d : Ideal .f32) : Ideal .f32 := dsiluOf (FloatOps.logistic x) x d

/-- The logistic function as the reference spells it: one over one plus the exponential of `-x`. -/
def spelled (x : Ideal .f32) : Ideal .f32 :=
  FloatOps.hostDivf (Scalar.ofBits .f32 0x3F800000#32)
    (FloatOps.addf (Scalar.ofBits .f32 0x3F800000#32) (FloatOps.hostUnary .exp (FloatOps.hostNegf x)))

/-- The two spellings are one function. -/
theorem spelled_eq (x : Ideal .f32) : spelled x = FloatOps.logistic x := by
  have h : (Scalar.ofBits .f32 0x3F800000#32 : Ideal .f32) = (1 : EReal) := Ideal.ofBits_one_f32
  unfold spelled
  rw [h]
  rfl

section
open Cert.CtxCondIdeal Cert.CtxCondIdeal.Gen

variable (m : (ℓ : Loc nD τ sig) → Buf (Elt Ideal) ℓ) (c : Dev nD)

abbrev argX : FVec Ideal S1024 .f32 := m ((c.tc : Thread nD τ).loc main_arg0)
abbrev argD : FVec Ideal S1024 .f32 := m ((c.tc : Thread nD τ).loc main_arg1)

theorem in_x (i : Fin 8) (j : Fin 1024) : V m c main_v1 (ix2 i j) = argX m c (ix1 j) := by
  unfold V
  after_reads_at

theorem in_d (i : Fin 8) (j : Fin 1024) : V m c main_v3 (ix2 i j) = argD m c (ix1 j) := by
  unfold V
  after_reads_at

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)

theorem rd_x (t : Fin cfg0.N) (r : Fin 8) (j : Fin 1024) : iblk m c 0 t (ix2 r j) = V m c main_v1 (ix2 r j) := by
  have ht : t.val < 1 := t.isLt
  blk_ext [iblk, idx0 t]

theorem rd_d (t : Fin cfg0.N) (r : Fin 8) (j : Fin 1024) : iblk m c 1 t (ix2 r j) = V m c main_v3 (ix2 r j) := by
  have ht : t.val < 1 := t.isLt
  blk_ext [iblk, idx1 t]

theorem zero2 : (![0, 0] : Fin 2 → ℕ) = 0 := by
  funext a
  match a with
  | ⟨0, _⟩ => rfl
  | ⟨1, _⟩ => rfl

theorem block (x d : FVec Ideal S8x1024 .f32) (y : S8x1024.Idx) : out0_2 (F := Ideal) x d y = dsilu (x y) (d y) := by
  unfold out0_2
  rw [View.canon_unit_zero zero2]
  simp only [View.ld_unit_zero (S := S8x1024) zero2, k0_pay1, shapeCast_self]
  rfl

/-- The rows that the call returns. -/
def total (x d : FVec Ideal S1024 .f32) : FVec Ideal S8x1024 .f32 := fun y => dsilu (x (ix1 (y 1))) (d (ix1 (y 1)))

theorem final : (dats m 0 c).arrAt 2 cfg0.N = total (argX m c) (argD m c) := by
  refine (dats m 0 c).arrAt_eq_of_covers 2 (total (argX m c) (argD m c)) (by decide +kernel) fun t hf y => ?_
  blk_simp
  rw [after0_2]
  change S8x1024.Idx at y
  idx_vars y
  have ht : t.val < 1 := t.isLt
  have e : (win0_2.blk t).view.emb (ix2 y0 y1) = ix2 y0 y1 := by
    blk_ext [idx2 t]
  refine ((block _ _ _).trans ?_).trans (congrArg (total (argX m c) (argD m c)) e.symm)
  exact congrArg₂ dsilu ((rd_x m c t y0 y1).trans (in_x m c _ _)) ((rd_d m c t y0 y1).trans (in_d m c _ _))

end

/-- The kernel's result is the reference's. -/
theorem algebraic : Cert.algebraic_CtxCondIdeal_CtxCondRefIdeal (hCtxCondIdeal := Cert.CtxCondIdeal.Gen.facts)
    (hCtxCondRefIdeal := Cert.CtxCondRefIdeal.Gen.facts) := by
  intro m g m' g' _ hargs
  refine ⟨fun c => (Cert.CtxCondIdeal.Gen.dats m 0 c).arrAt 2 Cert.CtxCondIdeal.cfg0.N, Cert.CtxCondIdeal.Value.run_blocks m g, ?_⟩
  refine (θ_run _ _ _).mono (fun r h c => ?_) (Cert.CtxCondRefIdeal.Value.run m' g')
  refine ⟨(h c).1.trans ?_, (h c).2⟩
  rw [(hargs c).1, (hargs c).2]
  refine Eq.trans ?_ (final m c).symm
  funext y
  idx_vars y
  refine (Idealize.ShloMosaic.broadcastInDim_apply _ _ _ (ix2 y0 y1) (ix1 y1) (fun a => ?_)).trans ?_
  · match a with
    | ⟨0, _⟩ => rfl
  exact congrArg (fun l => dsiluOf l (argX m c (ix1 y1)) (argD m c (ix1 y1))) (spelled_eq (argX m c (ix1 y1)))

/-- The reference runs and keeps its arguments; it declares no semaphore. -/
theorem frame_r : Cert.quiescent_CtxCondRefIdeal (hCtxCondRefIdeal := Cert.CtxCondRefIdeal.Gen.facts) := by
  intro m ρ _
  exact (θ_run Cert.CtxCondRefIdeal.defs _ _).mono (fun r h => ⟨fun c => (h c).2,
      Idealize.ShloMosaic.sem_eq_zero_of_no_sems (by decide) r.2⟩)
    (Cert.CtxCondRefIdeal.Value.run m ρ)

end Cert.Products.CtxCond
-- ==== Proof.SumFfnUp.lean ====
/-
  The sum of four shares of a weight's gradient, of 4096 rows by 704: each point adds the four shares of 256 rows.
-/
module

public import proofs.«01_k».proof.Defs
public import proofs.«01_k».proof.Proof.Gen.SumFfnUp.Frame
public import proofs.«01_k».proof.Proof.Gen.SumFfnUpIdeal.Value
public import proofs.«01_k».proof.Proof.Gen.SumFfnUpRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Shares.SumFfnUp

open Idealize.ShloMosaic Idealize.ShloMosaic.TcCoe Idealize.SL.Sem Pipeline

/-- The sum over the four shares. -/
def total (x : FVec Ideal Cert.SumFfnUpIdeal.S4x4096x704 .bf16) : FVec Ideal Cert.SumFfnUpIdeal.S4096x704 .f32 :=
  fun y => ∑ d : Fin 4, x (ix3 d (y 0) (y 1))

section
open Cert.SumFfnUpIdeal Cert.SumFfnUpIdeal.Gen

variable (m : (ℓ : Loc nD τ sig) → Buf (Elt Ideal) ℓ) (c : Dev nD)

abbrev argX : FVec Ideal S4x4096x704 .bf16 := m ((c.tc : Thread nD τ).loc main_arg0)

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)

theorem rd (t : Fin cfg0.N) (d : Fin 4) (r : Fin 256) (j : Fin 704) : iblk m c 0 t (ix3 d r j)
    = argX m c (ix3 d ⟨256 * t.val + r.val, by have : t.val < 16 := t.isLt; omega⟩ j) := by
  have ht : t.val < 16 := t.isLt
  refine Eq.trans (b := V m c main_arg0 (ix3 d ⟨256 * t.val + r.val, by omega⟩ j)) ?_ (congrFun (V_main_arg0 m c) _)
  blk_ext [iblk, idx0 t]

/-- What a point writes back: the sum of its block's four shares. -/
theorem block (x : FVec Ideal S4x256x704 .bf16) (r : Fin 256) (j : Fin 704) :
    (out0_1 (F := Ideal) x (ix2 r j) : EReal) = ∑ d : Fin 4, (x (ix3 d r j) : EReal) := by
  unfold out0_1
  rw [Cert.SumFfnUpIdeal.Value.canon1_eq, Fin.sum_univ_four]
  refine congrArg₂ (· + ·) (congrArg₂ (· + ·) (congrArg₂ (· + ·) ?_ ?_) ?_) ?_
  all_goals
    refine congrArg x (funext fun a => Fin.ext ?_)
    match a with
    | ⟨0, _⟩ => rfl
    | ⟨1, _⟩ => show 0 + 1 * r.val = r.val; omega
    | ⟨2, _⟩ => show 0 + 1 * j.val = j.val; omega

theorem final : (dats m 0 c).arrAt 1 cfg0.N = total (argX m c) := by
  refine (dats m 0 c).arrAt_eq_of_covers 1 (total (argX m c)) (by decide +kernel) fun t hf y => ?_
  blk_simp
  rw [after0_1]
  change S256x704.Idx at y
  idx_vars y
  have ht : t.val < 16 := t.isLt
  have e : (win0_1.blk t).view.emb (ix2 y0 y1) = ix2 ⟨256 * t.val + y0.val, by omega⟩ y1 := by
    blk_ext [idx1 t]
  exact ((block _ y0 y1).trans (Finset.sum_congr rfl fun d _ => rd m c t d y0 y1)).trans (congrArg (total (argX m c)) e.symm)

end

section
open Cert.SumFfnUpRefIdeal Cert.SumFfnUpRefIdeal.Gen

/-- The reference's result is the same sum. -/
theorem ref_eq (x : FVec Ideal S4x4096x704 .bf16) :
    (Host.reduceAdd (extf .f32 x bitsLt_bf16_f32) (constant S_ .f32 0x00000000#32) reducesTo_S4x4096x704_S4096x704_d0 h_S_ : FVec Ideal S4096x704 .f32) = total x := by
  funext y
  idx_vars y
  refine Eq.trans (b := ∑ d : Fin 4, x (ix3 d y0 y1)) ?_ rfl
  pointwise

end

/-- The kernel's result is the reference's. -/
theorem algebraic : Cert.algebraic_SumFfnUpIdeal_SumFfnUpRefIdeal (hSumFfnUpIdeal := Cert.SumFfnUpIdeal.Gen.facts)
    (hSumFfnUpRefIdeal := Cert.SumFfnUpRefIdeal.Gen.facts) := by
  intro m g m' g' _ hargs
  refine ⟨fun c => (Cert.SumFfnUpIdeal.Gen.dats m 0 c).arrAt 1 Cert.SumFfnUpIdeal.cfg0.N, Cert.SumFfnUpIdeal.Value.run_blocks m g, ?_⟩
  refine (θ_run _ _ _).mono (fun r h c => ?_) (Cert.SumFfnUpRefIdeal.Value.run m' g')
  refine ⟨(h c).1.trans ?_, (h c).2⟩
  rw [hargs c]
  exact (ref_eq _).trans (final m c).symm

/-- The reference runs and keeps its argument; it declares no semaphore. -/
theorem frame_r : Cert.quiescent_SumFfnUpRefIdeal (hSumFfnUpRefIdeal := Cert.SumFfnUpRefIdeal.Gen.facts) := by
  intro m ρ _
  exact (θ_run Cert.SumFfnUpRefIdeal.defs _ _).mono (fun r h => ⟨fun c => (h c).2,
      Idealize.ShloMosaic.sem_eq_zero_of_no_sems (by decide) r.2⟩)
    (Cert.SumFfnUpRefIdeal.Value.run m ρ)

end Cert.Shares.SumFfnUp
-- ==== Proof.SumFfnDown.lean ====
/-
  The sum of four shares of a weight's gradient, of 1408 rows by 1024: each point adds the four shares of 176 rows.
-/
module

public import proofs.«01_k».proof.Defs
public import proofs.«01_k».proof.Proof.Gen.SumFfnDown.Frame
public import proofs.«01_k».proof.Proof.Gen.SumFfnDownIdeal.Value
public import proofs.«01_k».proof.Proof.Gen.SumFfnDownRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Shares.SumFfnDown

open Idealize.ShloMosaic Idealize.ShloMosaic.TcCoe Idealize.SL.Sem Pipeline

/-- The sum over the four shares. -/
def total (x : FVec Ideal Cert.SumFfnDownIdeal.S4x1408x1024 .bf16) : FVec Ideal Cert.SumFfnDownIdeal.S1408x1024 .f32 :=
  fun y => ∑ d : Fin 4, x (ix3 d (y 0) (y 1))

section
open Cert.SumFfnDownIdeal Cert.SumFfnDownIdeal.Gen

variable (m : (ℓ : Loc nD τ sig) → Buf (Elt Ideal) ℓ) (c : Dev nD)

abbrev argX : FVec Ideal S4x1408x1024 .bf16 := m ((c.tc : Thread nD τ).loc main_arg0)

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)

theorem rd (t : Fin cfg0.N) (d : Fin 4) (r : Fin 176) (j : Fin 1024) : iblk m c 0 t (ix3 d r j)
    = argX m c (ix3 d ⟨176 * t.val + r.val, by have : t.val < 8 := t.isLt; omega⟩ j) := by
  have ht : t.val < 8 := t.isLt
  refine Eq.trans (b := V m c main_arg0 (ix3 d ⟨176 * t.val + r.val, by omega⟩ j)) ?_ (congrFun (V_main_arg0 m c) _)
  blk_ext [iblk, idx0 t]

/-- What a point writes back: the sum of its block's four shares. -/
theorem block (x : FVec Ideal S4x176x1024 .bf16) (r : Fin 176) (j : Fin 1024) :
    (out0_1 (F := Ideal) x (ix2 r j) : EReal) = ∑ d : Fin 4, (x (ix3 d r j) : EReal) := by
  unfold out0_1
  rw [Cert.SumFfnDownIdeal.Value.canon1_eq, Fin.sum_univ_four]
  refine congrArg₂ (· + ·) (congrArg₂ (· + ·) (congrArg₂ (· + ·) ?_ ?_) ?_) ?_
  all_goals
    refine congrArg x (funext fun a => Fin.ext ?_)
    match a with
    | ⟨0, _⟩ => rfl
    | ⟨1, _⟩ => show 0 + 1 * r.val = r.val; omega
    | ⟨2, _⟩ => show 0 + 1 * j.val = j.val; omega

theorem final : (dats m 0 c).arrAt 1 cfg0.N = total (argX m c) := by
  refine (dats m 0 c).arrAt_eq_of_covers 1 (total (argX m c)) (by decide +kernel) fun t hf y => ?_
  blk_simp
  rw [after0_1]
  change S176x1024.Idx at y
  idx_vars y
  have ht : t.val < 8 := t.isLt
  have e : (win0_1.blk t).view.emb (ix2 y0 y1) = ix2 ⟨176 * t.val + y0.val, by omega⟩ y1 := by
    blk_ext [idx1 t]
  exact ((block _ y0 y1).trans (Finset.sum_congr rfl fun d _ => rd m c t d y0 y1)).trans (congrArg (total (argX m c)) e.symm)

end

section
open Cert.SumFfnDownRefIdeal Cert.SumFfnDownRefIdeal.Gen

/-- The reference's result is the same sum. -/
theorem ref_eq (x : FVec Ideal S4x1408x1024 .bf16) :
    (Host.reduceAdd (extf .f32 x bitsLt_bf16_f32) (constant S_ .f32 0x00000000#32) reducesTo_S4x1408x1024_S1408x1024_d0 h_S_ : FVec Ideal S1408x1024 .f32) = total x := by
  funext y
  idx_vars y
  refine Eq.trans (b := ∑ d : Fin 4, x (ix3 d y0 y1)) ?_ rfl
  pointwise

end

/-- The kernel's result is the reference's. -/
theorem algebraic : Cert.algebraic_SumFfnDownIdeal_SumFfnDownRefIdeal (hSumFfnDownIdeal := Cert.SumFfnDownIdeal.Gen.facts)
    (hSumFfnDownRefIdeal := Cert.SumFfnDownRefIdeal.Gen.facts) := by
  intro m g m' g' _ hargs
  refine ⟨fun c => (Cert.SumFfnDownIdeal.Gen.dats m 0 c).arrAt 1 Cert.SumFfnDownIdeal.cfg0.N, Cert.SumFfnDownIdeal.Value.run_blocks m g, ?_⟩
  refine (θ_run _ _ _).mono (fun r h c => ?_) (Cert.SumFfnDownRefIdeal.Value.run m' g')
  refine ⟨(h c).1.trans ?_, (h c).2⟩
  rw [hargs c]
  exact (ref_eq _).trans (final m c).symm

/-- The reference runs and keeps its argument; it declares no semaphore. -/
theorem frame_r : Cert.quiescent_SumFfnDownRefIdeal (hSumFfnDownRefIdeal := Cert.SumFfnDownRefIdeal.Gen.facts) := by
  intro m ρ _
  exact (θ_run Cert.SumFfnDownRefIdeal.defs _ _).mono (fun r h => ⟨fun c => (h c).2,
      Idealize.ShloMosaic.sem_eq_zero_of_no_sems (by decide) r.2⟩)
    (Cert.SumFfnDownRefIdeal.Value.run m ρ)

end Cert.Shares.SumFfnDown
-- ==== Proof.SumPoolW.lean ====
/-
  The sum of four shares of a weight's gradient, of 128 rows by 256: each point adds the four shares of 128 rows.
-/
module

public import proofs.«01_k».proof.Defs
public import proofs.«01_k».proof.Proof.Gen.SumPoolW.Frame
public import proofs.«01_k».proof.Proof.Gen.SumPoolWIdeal.Value
public import proofs.«01_k».proof.Proof.Gen.SumPoolWRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Shares.SumPoolW

open Idealize.ShloMosaic Idealize.ShloMosaic.TcCoe Idealize.SL.Sem Pipeline

/-- The sum over the four shares. -/
def total (x : FVec Ideal Cert.SumPoolWIdeal.S4x128x256 .bf16) : FVec Ideal Cert.SumPoolWIdeal.S128x256 .f32 :=
  fun y => ∑ d : Fin 4, x (ix3 d (y 0) (y 1))

section
open Cert.SumPoolWIdeal Cert.SumPoolWIdeal.Gen

variable (m : (ℓ : Loc nD τ sig) → Buf (Elt Ideal) ℓ) (c : Dev nD)

abbrev argX : FVec Ideal S4x128x256 .bf16 := m ((c.tc : Thread nD τ).loc main_arg0)

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)

theorem rd (t : Fin cfg0.N) (d : Fin 4) (r : Fin 128) (j : Fin 256) : iblk m c 0 t (ix3 d r j)
    = argX m c (ix3 d ⟨128 * t.val + r.val, by have : t.val < 1 := t.isLt; omega⟩ j) := by
  have ht : t.val < 1 := t.isLt
  refine Eq.trans (b := V m c main_arg0 (ix3 d ⟨128 * t.val + r.val, by omega⟩ j)) ?_ (congrFun (V_main_arg0 m c) _)
  blk_ext [iblk, idx0 t]

/-- What a point writes back: the sum of its block's four shares. -/
theorem block (x : FVec Ideal S4x128x256 .bf16) (r : Fin 128) (j : Fin 256) :
    (out0_1 (F := Ideal) x (ix2 r j) : EReal) = ∑ d : Fin 4, (x (ix3 d r j) : EReal) := by
  unfold out0_1
  rw [Cert.SumPoolWIdeal.Value.canon1_eq, Fin.sum_univ_four]
  refine congrArg₂ (· + ·) (congrArg₂ (· + ·) (congrArg₂ (· + ·) ?_ ?_) ?_) ?_
  all_goals
    refine congrArg x (funext fun a => Fin.ext ?_)
    match a with
    | ⟨0, _⟩ => rfl
    | ⟨1, _⟩ => show 0 + 1 * r.val = r.val; omega
    | ⟨2, _⟩ => show 0 + 1 * j.val = j.val; omega

theorem final : (dats m 0 c).arrAt 1 cfg0.N = total (argX m c) := by
  refine (dats m 0 c).arrAt_eq_of_covers 1 (total (argX m c)) (by decide +kernel) fun t hf y => ?_
  blk_simp
  rw [after0_1]
  change S128x256.Idx at y
  idx_vars y
  have ht : t.val < 1 := t.isLt
  have e : (win0_1.blk t).view.emb (ix2 y0 y1) = ix2 ⟨128 * t.val + y0.val, by omega⟩ y1 := by
    blk_ext [idx1 t]
  exact ((block _ y0 y1).trans (Finset.sum_congr rfl fun d _ => rd m c t d y0 y1)).trans (congrArg (total (argX m c)) e.symm)

end

section
open Cert.SumPoolWRefIdeal Cert.SumPoolWRefIdeal.Gen

/-- The reference's result is the same sum. -/
theorem ref_eq (x : FVec Ideal S4x128x256 .bf16) :
    (Host.reduceAdd (extf .f32 x bitsLt_bf16_f32) (constant S_ .f32 0x00000000#32) reducesTo_S4x128x256_S128x256_d0 h_S_ : FVec Ideal S128x256 .f32) = total x := by
  funext y
  idx_vars y
  refine Eq.trans (b := ∑ d : Fin 4, x (ix3 d y0 y1)) ?_ rfl
  pointwise

end

/-- The kernel's result is the reference's. -/
theorem algebraic : Cert.algebraic_SumPoolWIdeal_SumPoolWRefIdeal (hSumPoolWIdeal := Cert.SumPoolWIdeal.Gen.facts)
    (hSumPoolWRefIdeal := Cert.SumPoolWRefIdeal.Gen.facts) := by
  intro m g m' g' _ hargs
  refine ⟨fun c => (Cert.SumPoolWIdeal.Gen.dats m 0 c).arrAt 1 Cert.SumPoolWIdeal.cfg0.N, Cert.SumPoolWIdeal.Value.run_blocks m g, ?_⟩
  refine (θ_run _ _ _).mono (fun r h c => ?_) (Cert.SumPoolWRefIdeal.Value.run m' g')
  refine ⟨(h c).1.trans ?_, (h c).2⟩
  rw [hargs c]
  exact (ref_eq _).trans (final m c).symm

/-- The reference runs and keeps its argument; it declares no semaphore. -/
theorem frame_r : Cert.quiescent_SumPoolWRefIdeal (hSumPoolWRefIdeal := Cert.SumPoolWRefIdeal.Gen.facts) := by
  intro m ρ _
  exact (θ_run Cert.SumPoolWRefIdeal.defs _ _).mono (fun r h => ⟨fun c => (h c).2,
      Idealize.ShloMosaic.sem_eq_zero_of_no_sems (by decide) r.2⟩)
    (Cert.SumPoolWRefIdeal.Value.run m ρ)

end Cert.Shares.SumPoolW
-- ==== Proof.SumQkv.lean ====
/-
  The sum of four shares of a weight's gradient, of 1024 rows by 192: each point adds the four shares of 256 rows.
-/
module

public import proofs.«01_k».proof.Defs
public import proofs.«01_k».proof.Proof.Gen.SumQkv.Frame
public import proofs.«01_k».proof.Proof.Gen.SumQkvIdeal.Value
public import proofs.«01_k».proof.Proof.Gen.SumQkvRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Shares.SumQkv

open Idealize.ShloMosaic Idealize.ShloMosaic.TcCoe Idealize.SL.Sem Pipeline

/-- The sum over the four shares. -/
def total (x : FVec Ideal Cert.SumQkvIdeal.S4x1024x192 .bf16) : FVec Ideal Cert.SumQkvIdeal.S1024x192 .f32 :=
  fun y => ∑ d : Fin 4, x (ix3 d (y 0) (y 1))

section
open Cert.SumQkvIdeal Cert.SumQkvIdeal.Gen

variable (m : (ℓ : Loc nD τ sig) → Buf (Elt Ideal) ℓ) (c : Dev nD)

abbrev argX : FVec Ideal S4x1024x192 .bf16 := m ((c.tc : Thread nD τ).loc main_arg0)

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)

theorem rd (t : Fin cfg0.N) (d : Fin 4) (r : Fin 256) (j : Fin 192) : iblk m c 0 t (ix3 d r j)
    = argX m c (ix3 d ⟨256 * t.val + r.val, by have : t.val < 4 := t.isLt; omega⟩ j) := by
  have ht : t.val < 4 := t.isLt
  refine Eq.trans (b := V m c main_arg0 (ix3 d ⟨256 * t.val + r.val, by omega⟩ j)) ?_ (congrFun (V_main_arg0 m c) _)
  blk_ext [iblk, idx0 t]

/-- What a point writes back: the sum of its block's four shares. -/
theorem block (x : FVec Ideal S4x256x192 .bf16) (r : Fin 256) (j : Fin 192) :
    (out0_1 (F := Ideal) x (ix2 r j) : EReal) = ∑ d : Fin 4, (x (ix3 d r j) : EReal) := by
  unfold out0_1
  rw [Cert.SumQkvIdeal.Value.canon1_eq, Fin.sum_univ_four]
  refine congrArg₂ (· + ·) (congrArg₂ (· + ·) (congrArg₂ (· + ·) ?_ ?_) ?_) ?_
  all_goals
    refine congrArg x (funext fun a => Fin.ext ?_)
    match a with
    | ⟨0, _⟩ => rfl
    | ⟨1, _⟩ => show 0 + 1 * r.val = r.val; omega
    | ⟨2, _⟩ => show 0 + 1 * j.val = j.val; omega

theorem final : (dats m 0 c).arrAt 1 cfg0.N = total (argX m c) := by
  refine (dats m 0 c).arrAt_eq_of_covers 1 (total (argX m c)) (by decide +kernel) fun t hf y => ?_
  blk_simp
  rw [after0_1]
  change S256x192.Idx at y
  idx_vars y
  have ht : t.val < 4 := t.isLt
  have e : (win0_1.blk t).view.emb (ix2 y0 y1) = ix2 ⟨256 * t.val + y0.val, by omega⟩ y1 := by
    blk_ext [idx1 t]
  exact ((block _ y0 y1).trans (Finset.sum_congr rfl fun d _ => rd m c t d y0 y1)).trans (congrArg (total (argX m c)) e.symm)

end

section
open Cert.SumQkvRefIdeal Cert.SumQkvRefIdeal.Gen

/-- The reference's result is the same sum. -/
theorem ref_eq (x : FVec Ideal S4x1024x192 .bf16) :
    (Host.reduceAdd (extf .f32 x bitsLt_bf16_f32) (constant S_ .f32 0x00000000#32) reducesTo_S4x1024x192_S1024x192_d0 h_S_ : FVec Ideal S1024x192 .f32) = total x := by
  funext y
  idx_vars y
  refine Eq.trans (b := ∑ d : Fin 4, x (ix3 d y0 y1)) ?_ rfl
  pointwise

end

/-- The kernel's result is the reference's. -/
theorem algebraic : Cert.algebraic_SumQkvIdeal_SumQkvRefIdeal (hSumQkvIdeal := Cert.SumQkvIdeal.Gen.facts)
    (hSumQkvRefIdeal := Cert.SumQkvRefIdeal.Gen.facts) := by
  intro m g m' g' _ hargs
  refine ⟨fun c => (Cert.SumQkvIdeal.Gen.dats m 0 c).arrAt 1 Cert.SumQkvIdeal.cfg0.N, Cert.SumQkvIdeal.Value.run_blocks m g, ?_⟩
  refine (θ_run _ _ _).mono (fun r h c => ?_) (Cert.SumQkvRefIdeal.Value.run m' g')
  refine ⟨(h c).1.trans ?_, (h c).2⟩
  rw [hargs c]
  exact (ref_eq _).trans (final m c).symm

/-- The reference runs and keeps its argument; it declares no semaphore. -/
theorem frame_r : Cert.quiescent_SumQkvRefIdeal (hSumQkvRefIdeal := Cert.SumQkvRefIdeal.Gen.facts) := by
  intro m ρ _
  exact (θ_run Cert.SumQkvRefIdeal.defs _ _).mono (fun r h => ⟨fun c => (h c).2,
      Idealize.ShloMosaic.sem_eq_zero_of_no_sems (by decide) r.2⟩)
    (Cert.SumQkvRefIdeal.Value.run m ρ)

end Cert.Shares.SumQkv
-- ==== Proof.SumOut.lean ====
/-
  The sum of four shares of a weight's gradient, of 128 rows by 1024: each point adds the four shares of 128 rows.
-/
module

public import proofs.«01_k».proof.Defs
public import proofs.«01_k».proof.Proof.Gen.SumOut.Frame
public import proofs.«01_k».proof.Proof.Gen.SumOutIdeal.Value
public import proofs.«01_k».proof.Proof.Gen.SumOutRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Shares.SumOut

open Idealize.ShloMosaic Idealize.ShloMosaic.TcCoe Idealize.SL.Sem Pipeline

/-- The sum over the four shares. -/
def total (x : FVec Ideal Cert.SumOutIdeal.S4x128x1024 .bf16) : FVec Ideal Cert.SumOutIdeal.S128x1024 .f32 :=
  fun y => ∑ d : Fin 4, x (ix3 d (y 0) (y 1))

section
open Cert.SumOutIdeal Cert.SumOutIdeal.Gen

variable (m : (ℓ : Loc nD τ sig) → Buf (Elt Ideal) ℓ) (c : Dev nD)

abbrev argX : FVec Ideal S4x128x1024 .bf16 := m ((c.tc : Thread nD τ).loc main_arg0)

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)

theorem rd (t : Fin cfg0.N) (d : Fin 4) (r : Fin 128) (j : Fin 1024) : iblk m c 0 t (ix3 d r j)
    = argX m c (ix3 d ⟨128 * t.val + r.val, by have : t.val < 1 := t.isLt; omega⟩ j) := by
  have ht : t.val < 1 := t.isLt
  refine Eq.trans (b := V m c main_arg0 (ix3 d ⟨128 * t.val + r.val, by omega⟩ j)) ?_ (congrFun (V_main_arg0 m c) _)
  blk_ext [iblk, idx0 t]

/-- What a point writes back: the sum of its block's four shares. -/
theorem block (x : FVec Ideal S4x128x1024 .bf16) (r : Fin 128) (j : Fin 1024) :
    (out0_1 (F := Ideal) x (ix2 r j) : EReal) = ∑ d : Fin 4, (x (ix3 d r j) : EReal) := by
  unfold out0_1
  rw [Cert.SumOutIdeal.Value.canon1_eq, Fin.sum_univ_four]
  refine congrArg₂ (· + ·) (congrArg₂ (· + ·) (congrArg₂ (· + ·) ?_ ?_) ?_) ?_
  all_goals
    refine congrArg x (funext fun a => Fin.ext ?_)
    match a with
    | ⟨0, _⟩ => rfl
    | ⟨1, _⟩ => show 0 + 1 * r.val = r.val; omega
    | ⟨2, _⟩ => show 0 + 1 * j.val = j.val; omega

theorem final : (dats m 0 c).arrAt 1 cfg0.N = total (argX m c) := by
  refine (dats m 0 c).arrAt_eq_of_covers 1 (total (argX m c)) (by decide +kernel) fun t hf y => ?_
  blk_simp
  rw [after0_1]
  change S128x1024.Idx at y
  idx_vars y
  have ht : t.val < 1 := t.isLt
  have e : (win0_1.blk t).view.emb (ix2 y0 y1) = ix2 ⟨128 * t.val + y0.val, by omega⟩ y1 := by
    blk_ext [idx1 t]
  exact ((block _ y0 y1).trans (Finset.sum_congr rfl fun d _ => rd m c t d y0 y1)).trans (congrArg (total (argX m c)) e.symm)

end

section
open Cert.SumOutRefIdeal Cert.SumOutRefIdeal.Gen

/-- The reference's result is the same sum. -/
theorem ref_eq (x : FVec Ideal S4x128x1024 .bf16) :
    (Host.reduceAdd (extf .f32 x bitsLt_bf16_f32) (constant S_ .f32 0x00000000#32) reducesTo_S4x128x1024_S128x1024_d0 h_S_ : FVec Ideal S128x1024 .f32) = total x := by
  funext y
  idx_vars y
  refine Eq.trans (b := ∑ d : Fin 4, x (ix3 d y0 y1)) ?_ rfl
  pointwise

end

/-- The kernel's result is the reference's. -/
theorem algebraic : Cert.algebraic_SumOutIdeal_SumOutRefIdeal (hSumOutIdeal := Cert.SumOutIdeal.Gen.facts)
    (hSumOutRefIdeal := Cert.SumOutRefIdeal.Gen.facts) := by
  intro m g m' g' _ hargs
  refine ⟨fun c => (Cert.SumOutIdeal.Gen.dats m 0 c).arrAt 1 Cert.SumOutIdeal.cfg0.N, Cert.SumOutIdeal.Value.run_blocks m g, ?_⟩
  refine (θ_run _ _ _).mono (fun r h c => ?_) (Cert.SumOutRefIdeal.Value.run m' g')
  refine ⟨(h c).1.trans ?_, (h c).2⟩
  rw [hargs c]
  exact (ref_eq _).trans (final m c).symm

/-- The reference runs and keeps its argument; it declares no semaphore. -/
theorem frame_r : Cert.quiescent_SumOutRefIdeal (hSumOutRefIdeal := Cert.SumOutRefIdeal.Gen.facts) := by
  intro m ρ _
  exact (θ_run Cert.SumOutRefIdeal.defs _ _).mono (fun r h => ⟨fun c => (h c).2,
      Idealize.ShloMosaic.sem_eq_zero_of_no_sems (by decide) r.2⟩)
    (Cert.SumOutRefIdeal.Value.run m ρ)

end Cert.Shares.SumOut
-- ==== Proof.SumMixIn.lean ====
/-
  The sum of four shares of a weight's gradient, of 1024 rows by 512: each point adds the four shares of 256 rows.
-/
module

public import proofs.«01_k».proof.Defs
public import proofs.«01_k».proof.Proof.Gen.SumMixIn.Frame
public import proofs.«01_k».proof.Proof.Gen.SumMixInIdeal.Value
public import proofs.«01_k».proof.Proof.Gen.SumMixInRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Shares.SumMixIn

open Idealize.ShloMosaic Idealize.ShloMosaic.TcCoe Idealize.SL.Sem Pipeline

/-- The sum over the four shares. -/
def total (x : FVec Ideal Cert.SumMixInIdeal.S4x1024x512 .bf16) : FVec Ideal Cert.SumMixInIdeal.S1024x512 .f32 :=
  fun y => ∑ d : Fin 4, x (ix3 d (y 0) (y 1))

section
open Cert.SumMixInIdeal Cert.SumMixInIdeal.Gen

variable (m : (ℓ : Loc nD τ sig) → Buf (Elt Ideal) ℓ) (c : Dev nD)

abbrev argX : FVec Ideal S4x1024x512 .bf16 := m ((c.tc : Thread nD τ).loc main_arg0)

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)

theorem rd (t : Fin cfg0.N) (d : Fin 4) (r : Fin 256) (j : Fin 512) : iblk m c 0 t (ix3 d r j)
    = argX m c (ix3 d ⟨256 * t.val + r.val, by have : t.val < 4 := t.isLt; omega⟩ j) := by
  have ht : t.val < 4 := t.isLt
  refine Eq.trans (b := V m c main_arg0 (ix3 d ⟨256 * t.val + r.val, by omega⟩ j)) ?_ (congrFun (V_main_arg0 m c) _)
  blk_ext [iblk, idx0 t]

/-- What a point writes back: the sum of its block's four shares. -/
theorem block (x : FVec Ideal S4x256x512 .bf16) (r : Fin 256) (j : Fin 512) :
    (out0_1 (F := Ideal) x (ix2 r j) : EReal) = ∑ d : Fin 4, (x (ix3 d r j) : EReal) := by
  unfold out0_1
  rw [Cert.SumMixInIdeal.Value.canon1_eq, Fin.sum_univ_four]
  refine congrArg₂ (· + ·) (congrArg₂ (· + ·) (congrArg₂ (· + ·) ?_ ?_) ?_) ?_
  all_goals
    refine congrArg x (funext fun a => Fin.ext ?_)
    match a with
    | ⟨0, _⟩ => rfl
    | ⟨1, _⟩ => show 0 + 1 * r.val = r.val; omega
    | ⟨2, _⟩ => show 0 + 1 * j.val = j.val; omega

theorem final : (dats m 0 c).arrAt 1 cfg0.N = total (argX m c) := by
  refine (dats m 0 c).arrAt_eq_of_covers 1 (total (argX m c)) (by decide +kernel) fun t hf y => ?_
  blk_simp
  rw [after0_1]
  change S256x512.Idx at y
  idx_vars y
  have ht : t.val < 4 := t.isLt
  have e : (win0_1.blk t).view.emb (ix2 y0 y1) = ix2 ⟨256 * t.val + y0.val, by omega⟩ y1 := by
    blk_ext [idx1 t]
  exact ((block _ y0 y1).trans (Finset.sum_congr rfl fun d _ => rd m c t d y0 y1)).trans (congrArg (total (argX m c)) e.symm)

end

section
open Cert.SumMixInRefIdeal Cert.SumMixInRefIdeal.Gen

/-- The reference's result is the same sum. -/
theorem ref_eq (x : FVec Ideal S4x1024x512 .bf16) :
    (Host.reduceAdd (extf .f32 x bitsLt_bf16_f32) (constant S_ .f32 0x00000000#32) reducesTo_S4x1024x512_S1024x512_d0 h_S_ : FVec Ideal S1024x512 .f32) = total x := by
  funext y
  idx_vars y
  refine Eq.trans (b := ∑ d : Fin 4, x (ix3 d y0 y1)) ?_ rfl
  pointwise

end

/-- The kernel's result is the reference's. -/
theorem algebraic : Cert.algebraic_SumMixInIdeal_SumMixInRefIdeal (hSumMixInIdeal := Cert.SumMixInIdeal.Gen.facts)
    (hSumMixInRefIdeal := Cert.SumMixInRefIdeal.Gen.facts) := by
  intro m g m' g' _ hargs
  refine ⟨fun c => (Cert.SumMixInIdeal.Gen.dats m 0 c).arrAt 1 Cert.SumMixInIdeal.cfg0.N, Cert.SumMixInIdeal.Value.run_blocks m g, ?_⟩
  refine (θ_run _ _ _).mono (fun r h c => ?_) (Cert.SumMixInRefIdeal.Value.run m' g')
  refine ⟨(h c).1.trans ?_, (h c).2⟩
  rw [hargs c]
  exact (ref_eq _).trans (final m c).symm

/-- The reference runs and keeps its argument; it declares no semaphore. -/
theorem frame_r : Cert.quiescent_SumMixInRefIdeal (hSumMixInRefIdeal := Cert.SumMixInRefIdeal.Gen.facts) := by
  intro m ρ _
  exact (θ_run Cert.SumMixInRefIdeal.defs _ _).mono (fun r h => ⟨fun c => (h c).2,
      Idealize.ShloMosaic.sem_eq_zero_of_no_sems (by decide) r.2⟩)
    (Cert.SumMixInRefIdeal.Value.run m ρ)

end Cert.Shares.SumMixIn
-- ==== Proof.SumMixOut.lean ====
/-
  The sum of four shares of a weight's gradient, of 256 rows by 1024: each point adds the four shares of 256 rows.
-/
module

public import proofs.«01_k».proof.Defs
public import proofs.«01_k».proof.Proof.Gen.SumMixOut.Frame
public import proofs.«01_k».proof.Proof.Gen.SumMixOutIdeal.Value
public import proofs.«01_k».proof.Proof.Gen.SumMixOutRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Shares.SumMixOut

open Idealize.ShloMosaic Idealize.ShloMosaic.TcCoe Idealize.SL.Sem Pipeline

/-- The sum over the four shares. -/
def total (x : FVec Ideal Cert.SumMixOutIdeal.S4x256x1024 .bf16) : FVec Ideal Cert.SumMixOutIdeal.S256x1024 .f32 :=
  fun y => ∑ d : Fin 4, x (ix3 d (y 0) (y 1))

section
open Cert.SumMixOutIdeal Cert.SumMixOutIdeal.Gen

variable (m : (ℓ : Loc nD τ sig) → Buf (Elt Ideal) ℓ) (c : Dev nD)

abbrev argX : FVec Ideal S4x256x1024 .bf16 := m ((c.tc : Thread nD τ).loc main_arg0)

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)

theorem rd (t : Fin cfg0.N) (d : Fin 4) (r : Fin 256) (j : Fin 1024) : iblk m c 0 t (ix3 d r j)
    = argX m c (ix3 d ⟨256 * t.val + r.val, by have : t.val < 1 := t.isLt; omega⟩ j) := by
  have ht : t.val < 1 := t.isLt
  refine Eq.trans (b := V m c main_arg0 (ix3 d ⟨256 * t.val + r.val, by omega⟩ j)) ?_ (congrFun (V_main_arg0 m c) _)
  blk_ext [iblk, idx0 t]

/-- What a point writes back: the sum of its block's four shares. -/
theorem block (x : FVec Ideal S4x256x1024 .bf16) (r : Fin 256) (j : Fin 1024) :
    (out0_1 (F := Ideal) x (ix2 r j) : EReal) = ∑ d : Fin 4, (x (ix3 d r j) : EReal) := by
  unfold out0_1
  rw [Cert.SumMixOutIdeal.Value.canon1_eq, Fin.sum_univ_four]
  refine congrArg₂ (· + ·) (congrArg₂ (· + ·) (congrArg₂ (· + ·) ?_ ?_) ?_) ?_
  all_goals
    refine congrArg x (funext fun a => Fin.ext ?_)
    match a with
    | ⟨0, _⟩ => rfl
    | ⟨1, _⟩ => show 0 + 1 * r.val = r.val; omega
    | ⟨2, _⟩ => show 0 + 1 * j.val = j.val; omega

theorem final : (dats m 0 c).arrAt 1 cfg0.N = total (argX m c) := by
  refine (dats m 0 c).arrAt_eq_of_covers 1 (total (argX m c)) (by decide +kernel) fun t hf y => ?_
  blk_simp
  rw [after0_1]
  change S256x1024.Idx at y
  idx_vars y
  have ht : t.val < 1 := t.isLt
  have e : (win0_1.blk t).view.emb (ix2 y0 y1) = ix2 ⟨256 * t.val + y0.val, by omega⟩ y1 := by
    blk_ext [idx1 t]
  exact ((block _ y0 y1).trans (Finset.sum_congr rfl fun d _ => rd m c t d y0 y1)).trans (congrArg (total (argX m c)) e.symm)

end

section
open Cert.SumMixOutRefIdeal Cert.SumMixOutRefIdeal.Gen

/-- The reference's result is the same sum. -/
theorem ref_eq (x : FVec Ideal S4x256x1024 .bf16) :
    (Host.reduceAdd (extf .f32 x bitsLt_bf16_f32) (constant S_ .f32 0x00000000#32) reducesTo_S4x256x1024_S256x1024_d0 h_S_ : FVec Ideal S256x1024 .f32) = total x := by
  funext y
  idx_vars y
  refine Eq.trans (b := ∑ d : Fin 4, x (ix3 d y0 y1)) ?_ rfl
  pointwise

end

/-- The kernel's result is the reference's. -/
theorem algebraic : Cert.algebraic_SumMixOutIdeal_SumMixOutRefIdeal (hSumMixOutIdeal := Cert.SumMixOutIdeal.Gen.facts)
    (hSumMixOutRefIdeal := Cert.SumMixOutRefIdeal.Gen.facts) := by
  intro m g m' g' _ hargs
  refine ⟨fun c => (Cert.SumMixOutIdeal.Gen.dats m 0 c).arrAt 1 Cert.SumMixOutIdeal.cfg0.N, Cert.SumMixOutIdeal.Value.run_blocks m g, ?_⟩
  refine (θ_run _ _ _).mono (fun r h c => ?_) (Cert.SumMixOutRefIdeal.Value.run m' g')
  refine ⟨(h c).1.trans ?_, (h c).2⟩
  rw [hargs c]
  exact (ref_eq _).trans (final m c).symm

/-- The reference runs and keeps its argument; it declares no semaphore. -/
theorem frame_r : Cert.quiescent_SumMixOutRefIdeal (hSumMixOutRefIdeal := Cert.SumMixOutRefIdeal.Gen.facts) := by
  intro m ρ _
  exact (θ_run Cert.SumMixOutRefIdeal.defs _ _).mono (fun r h => ⟨fun c => (h c).2,
      Idealize.ShloMosaic.sem_eq_zero_of_no_sems (by decide) r.2⟩)
    (Cert.SumMixOutRefIdeal.Value.run m ρ)

end Cert.Shares.SumMixOut
-- ==== Proof.SumSmall.lean ====
/-
  The sum of eight shares of packed small gradients, of 112 rows by 1024: each point adds the eight shares of 112 rows.
-/
module

public import proofs.«01_k».proof.Defs
public import proofs.«01_k».proof.Proof.Gen.SumSmall.Frame
public import proofs.«01_k».proof.Proof.Gen.SumSmallIdeal.Value
public import proofs.«01_k».proof.Proof.Gen.SumSmallRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Shares.SumSmall

open Idealize.ShloMosaic Idealize.ShloMosaic.TcCoe Idealize.SL.Sem Pipeline

/-- The sum over the eight shares. -/
def total (x : FVec Ideal Cert.SumSmallIdeal.S8x112x1024 .f32) : FVec Ideal Cert.SumSmallIdeal.S112x1024 .f32 :=
  fun y => ∑ d : Fin 8, x (ix3 d (y 0) (y 1))

section
open Cert.SumSmallIdeal Cert.SumSmallIdeal.Gen

variable (m : (ℓ : Loc nD τ sig) → Buf (Elt Ideal) ℓ) (c : Dev nD)

abbrev argX : FVec Ideal S8x112x1024 .f32 := m ((c.tc : Thread nD τ).loc main_arg0)

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)

theorem rd (t : Fin cfg0.N) (d : Fin 8) (r : Fin 112) (j : Fin 1024) : iblk m c 0 t (ix3 d r j)
    = argX m c (ix3 d ⟨112 * t.val + r.val, by have : t.val < 1 := t.isLt; omega⟩ j) := by
  have ht : t.val < 1 := t.isLt
  refine Eq.trans (b := V m c main_arg0 (ix3 d ⟨112 * t.val + r.val, by omega⟩ j)) ?_ (congrFun (V_main_arg0 m c) _)
  blk_ext [iblk, idx0 t]

/-- What a point writes back: the sum of its block's eight shares. -/
theorem block (x : FVec Ideal S8x112x1024 .f32) (r : Fin 112) (j : Fin 1024) :
    (out0_1 (F := Ideal) x (ix2 r j) : EReal) = ∑ d : Fin 8, (x (ix3 d r j) : EReal) := by
  unfold out0_1
  rw [Cert.SumSmallIdeal.Value.canon1_eq, Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals
    refine congrArg x (funext fun a => Fin.ext ?_)
    match a with
    | ⟨0, _⟩ => rfl
    | ⟨1, _⟩ => show 0 + 1 * r.val = r.val; omega
    | ⟨2, _⟩ => show 0 + 1 * j.val = j.val; omega

theorem final : (dats m 0 c).arrAt 1 cfg0.N = total (argX m c) := by
  refine (dats m 0 c).arrAt_eq_of_covers 1 (total (argX m c)) (by decide +kernel) fun t hf y => ?_
  blk_simp
  rw [after0_1]
  change S112x1024.Idx at y
  idx_vars y
  have ht : t.val < 1 := t.isLt
  have e : (win0_1.blk t).view.emb (ix2 y0 y1) = ix2 ⟨112 * t.val + y0.val, by omega⟩ y1 := by
    blk_ext [idx1 t]
  exact ((block _ y0 y1).trans (Finset.sum_congr rfl fun d _ => rd m c t d y0 y1)).trans (congrArg (total (argX m c)) e.symm)

end

section
open Cert.SumSmallRefIdeal Cert.SumSmallRefIdeal.Gen

/-- The reference's result is the same sum. -/
theorem ref_eq (x : FVec Ideal S8x112x1024 .f32) :
    (Host.reduceAdd x (constant S_ .f32 0x00000000#32) reducesTo_S8x112x1024_S112x1024_d0 h_S_ : FVec Ideal S112x1024 .f32) = total x := by
  funext y
  idx_vars y
  refine Eq.trans (b := ∑ d : Fin 8, x (ix3 d y0 y1)) ?_ rfl
  pointwise

end

/-- The kernel's result is the reference's. -/
theorem algebraic : Cert.algebraic_SumSmallIdeal_SumSmallRefIdeal (hSumSmallIdeal := Cert.SumSmallIdeal.Gen.facts)
    (hSumSmallRefIdeal := Cert.SumSmallRefIdeal.Gen.facts) := by
  intro m g m' g' _ hargs
  refine ⟨fun c => (Cert.SumSmallIdeal.Gen.dats m 0 c).arrAt 1 Cert.SumSmallIdeal.cfg0.N, Cert.SumSmallIdeal.Value.run_blocks m g, ?_⟩
  refine (θ_run _ _ _).mono (fun r h c => ?_) (Cert.SumSmallRefIdeal.Value.run m' g')
  refine ⟨(h c).1.trans ?_, (h c).2⟩
  rw [hargs c]
  exact (ref_eq _).trans (final m c).symm

/-- The reference runs and keeps its argument; it declares no semaphore. -/
theorem frame_r : Cert.quiescent_SumSmallRefIdeal (hSumSmallRefIdeal := Cert.SumSmallRefIdeal.Gen.facts) := by
  intro m ρ _
  exact (θ_run Cert.SumSmallRefIdeal.defs _ _).mono (fun r h => ⟨fun c => (h c).2,
      Idealize.ShloMosaic.sem_eq_zero_of_no_sems (by decide) r.2⟩)
    (Cert.SumSmallRefIdeal.Value.run m ρ)

end Cert.Shares.SumSmall
-- ==== Proof.SumCond.lean ====
/-
  The sum of eight shares of the packed rows with the condition's cotangent, of 96 rows by 1024: each point adds the eight shares of 96 rows.
-/
module

public import proofs.«01_k».proof.Defs
public import proofs.«01_k».proof.Proof.Gen.SumCond.Frame
public import proofs.«01_k».proof.Proof.Gen.SumCondIdeal.Value
public import proofs.«01_k».proof.Proof.Gen.SumCondRefIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Shares.SumCond

open Idealize.ShloMosaic Idealize.ShloMosaic.TcCoe Idealize.SL.Sem Pipeline

/-- The sum over the eight shares. -/
def total (x : FVec Ideal Cert.SumCondIdeal.S8x96x1024 .f32) : FVec Ideal Cert.SumCondIdeal.S96x1024 .f32 :=
  fun y => ∑ d : Fin 8, x (ix3 d (y 0) (y 1))

section
open Cert.SumCondIdeal Cert.SumCondIdeal.Gen

variable (m : (ℓ : Loc nD τ sig) → Buf (Elt Ideal) ℓ) (c : Dev nD)

abbrev argX : FVec Ideal S8x96x1024 .f32 := m ((c.tc : Thread nD τ).loc main_arg0)

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)

theorem rd (t : Fin cfg0.N) (d : Fin 8) (r : Fin 96) (j : Fin 1024) : iblk m c 0 t (ix3 d r j)
    = argX m c (ix3 d ⟨96 * t.val + r.val, by have : t.val < 1 := t.isLt; omega⟩ j) := by
  have ht : t.val < 1 := t.isLt
  refine Eq.trans (b := V m c main_arg0 (ix3 d ⟨96 * t.val + r.val, by omega⟩ j)) ?_ (congrFun (V_main_arg0 m c) _)
  blk_ext [iblk, idx0 t]

/-- What a point writes back: the sum of its block's eight shares. -/
theorem block (x : FVec Ideal S8x96x1024 .f32) (r : Fin 96) (j : Fin 1024) :
    (out0_1 (F := Ideal) x (ix2 r j) : EReal) = ∑ d : Fin 8, (x (ix3 d r j) : EReal) := by
  unfold out0_1
  rw [Cert.SumCondIdeal.Value.canon1_eq, Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals
    refine congrArg x (funext fun a => Fin.ext ?_)
    match a with
    | ⟨0, _⟩ => rfl
    | ⟨1, _⟩ => show 0 + 1 * r.val = r.val; omega
    | ⟨2, _⟩ => show 0 + 1 * j.val = j.val; omega

theorem final : (dats m 0 c).arrAt 1 cfg0.N = total (argX m c) := by
  refine (dats m 0 c).arrAt_eq_of_covers 1 (total (argX m c)) (by decide +kernel) fun t hf y => ?_
  blk_simp
  rw [after0_1]
  change S96x1024.Idx at y
  idx_vars y
  have ht : t.val < 1 := t.isLt
  have e : (win0_1.blk t).view.emb (ix2 y0 y1) = ix2 ⟨96 * t.val + y0.val, by omega⟩ y1 := by
    blk_ext [idx1 t]
  exact ((block _ y0 y1).trans (Finset.sum_congr rfl fun d _ => rd m c t d y0 y1)).trans (congrArg (total (argX m c)) e.symm)

end

section
open Cert.SumCondRefIdeal Cert.SumCondRefIdeal.Gen

/-- The reference's result is the same sum. -/
theorem ref_eq (x : FVec Ideal S8x96x1024 .f32) :
    (Host.reduceAdd x (constant S_ .f32 0x00000000#32) reducesTo_S8x96x1024_S96x1024_d0 h_S_ : FVec Ideal S96x1024 .f32) = total x := by
  funext y
  idx_vars y
  refine Eq.trans (b := ∑ d : Fin 8, x (ix3 d y0 y1)) ?_ rfl
  pointwise

end

/-- The kernel's result is the reference's. -/
theorem algebraic : Cert.algebraic_SumCondIdeal_SumCondRefIdeal (hSumCondIdeal := Cert.SumCondIdeal.Gen.facts)
    (hSumCondRefIdeal := Cert.SumCondRefIdeal.Gen.facts) := by
  intro m g m' g' _ hargs
  refine ⟨fun c => (Cert.SumCondIdeal.Gen.dats m 0 c).arrAt 1 Cert.SumCondIdeal.cfg0.N, Cert.SumCondIdeal.Value.run_blocks m g, ?_⟩
  refine (θ_run _ _ _).mono (fun r h c => ?_) (Cert.SumCondRefIdeal.Value.run m' g')
  refine ⟨(h c).1.trans ?_, (h c).2⟩
  rw [hargs c]
  exact (ref_eq _).trans (final m c).symm

/-- The reference runs and keeps its argument; it declares no semaphore. -/
theorem frame_r : Cert.quiescent_SumCondRefIdeal (hSumCondRefIdeal := Cert.SumCondRefIdeal.Gen.facts) := by
  intro m ρ _
  exact (θ_run Cert.SumCondRefIdeal.defs _ _).mono (fun r h => ⟨fun c => (h c).2,
      Idealize.ShloMosaic.sem_eq_zero_of_no_sems (by decide) r.2⟩)
    (Cert.SumCondRefIdeal.Value.run m ρ)

end Cert.Shares.SumCond
-- ==== Proof.LossSums.lean ====
/-
  The loss over the extended reals: its constants, and the sum of half the rows' mean squares, block by block.
-/
module

public import Idealize.ShloMosaic.PureOps.Ideal
public import Idealize.ShloMosaic.Lib.IdealHost

@[expose] public section

noncomputable section

namespace Cert.Loss

open Idealize.ShloMosaic Finset

/-- One half, one over 1024, 1024 and two, as the programs write them. -/
abbrev half : EReal := Ideal.ofBits .f32 0x3F000000#32
abbrev per : EReal := Ideal.ofBits .f32 0x3A800000#32
abbrev many : EReal := Ideal.ofBits .f32 0x44800000#32
abbrev two : EReal := Ideal.ofBits .f32 0x40000000#32

theorem half_eq : half = ((1 / 2 : ℝ) : EReal) := by
  simp [half, Ideal.ofBits, Ideal.ieee, -EReal.coe_mul]; norm_num

theorem per_eq : per = ((1 / 1024 : ℝ) : EReal) := by
  simp [per, Ideal.ofBits, Ideal.ieee, -EReal.coe_mul]; norm_num

theorem many_eq : many = ((1024 : ℝ) : EReal) := by
  simp [many, Ideal.ofBits, Ideal.ieee, -EReal.coe_mul]; norm_num

theorem two_eq : two = ((2 : ℝ) : EReal) := by
  simp [two, Ideal.ofBits, Ideal.ieee, -EReal.coe_mul]; norm_num

/-- A division by 1024 is a product with one over 1024. -/
theorem div_many (x : EReal) : Ideal.div x many = x * per := by
  have h : many ≠ 0 := by
    rw [many_eq]
    exact_mod_cast (by norm_num : (1024 : ℝ) ≠ 0)
  unfold Ideal.div
  rw [if_neg h, many_eq, per_eq, ← EReal.coe_inv]
  norm_num

/-- The factor of the derivative of half a mean square. -/
theorem factor (e : EReal) : Ideal.div (half * 1) many * (two * e) = e * per := by
  rw [div_many, mul_one, ← mul_assoc, mul_comm _ e]
  refine congrArg (e * ·) ?_
  rw [half_eq, per_eq, two_eq, ← EReal.coe_mul, ← EReal.coe_mul]
  norm_num

theorem square_nonneg (a : EReal) : 0 ≤ a * a := by
  rcases le_total 0 a with h | h
  · exact mul_nonneg h h
  · rw [← neg_mul_neg]
    exact mul_nonneg (EReal.neg_nonneg.mpr h) (EReal.neg_nonneg.mpr h)

theorem per_nonneg : 0 ≤ per := by
  rw [per_eq]
  exact_mod_cast (by norm_num : (0 : ℝ) ≤ 1 / 1024)

variable (E : Fin 4096 → Fin 1024 → EReal)

/-- The mean square of the errors of a latent position. -/
def row (p : ℕ) : EReal := if h : p < 4096 then (∑ j, E ⟨p, h⟩ j * E ⟨p, h⟩ j) * per else 0

theorem row_nonneg (p : ℕ) : 0 ≤ row E p := by
  unfold row
  split
  · exact mul_nonneg (Finset.sum_nonneg fun j _ => square_nonneg _) per_nonneg
  · exact le_refl _

/-- Half the sum of the first `n` positions' mean squares. -/
def upTo (n : ℕ) : EReal := half * ∑ p ∈ range n, row E p

theorem upTo_zero : upTo E 0 = 0 := by
  unfold upTo
  rw [Finset.range_zero, Finset.sum_empty, mul_zero]

/-- A further block of 256 positions. -/
theorem upTo_block (n : ℕ) : upTo E n + half * ∑ r : Fin 256, row E (n + r.val) = upTo E (n + 256) := by
  unfold upTo
  rw [Finset.sum_range_add, Fin.sum_univ_eq_sum_range (fun r => row E (n + r)) 256]
  exact (EReal.left_distrib_of_nonneg (Finset.sum_nonneg fun p _ => row_nonneg E p)
    (Finset.sum_nonneg fun p _ => row_nonneg E _)).symm

/-- The sum over all positions. -/
theorem upTo_all : upTo E 4096 = half * ∑ p : Fin 4096, (∑ j, E p j * E p j) * per := by
  unfold upTo
  rw [← Fin.sum_univ_eq_sum_range (fun p => row E p) 4096]
  refine congrArg (half * ·) (Finset.sum_congr rfl fun p _ => ?_)
  unfold row
  exact dif_pos p.isLt

end Cert.Loss
-- ==== Proof.LossHead.lean ====
/-
  The loss and its gradient: a point per 256 positions writes their gradient and adds their share of the loss to one
  element; the context's point writes zeros.
-/
module

public import proofs.«01_k».proof.Defs
public import proofs.«01_k».proof.Proof.LossSums
public import proofs.«01_k».proof.Proof.Gen.LossHead.Frame
public import proofs.«01_k».proof.Proof.Gen.LossHeadIdeal.Value
public import proofs.«01_k».proof.Proof.Gen.LossHeadRefIdeal.Run
public import Idealize.ShloMosaic.Lib.Pointwise
public import Idealize.ShloMosaic.Lib.Pipeline.ValueKit
public import Idealize.ShloMosaic.Lib.StableHlo.ReadAt
public import Idealize.ShloMosaic.Lib.KernelVsHost

@[expose] public section

set_option maxRecDepth 16384

noncomputable section

namespace Cert.Loss.LossHead

open Idealize.ShloMosaic Idealize.ShloMosaic.TcCoe Idealize.SL.Sem Pipeline

/-- The error at a latent position. -/
def err (x : FVec Ideal Cert.LossHeadIdeal.S4352x1024 .f32) (z : FVec Ideal Cert.LossHeadIdeal.S4096x1024 .f32) (p : Fin 4096)
    (j : Fin 1024) : EReal := x (ix2 ⟨256 + p.val, by omega⟩ j) - z (ix2 p j)

/-- The loss. -/
def lossOf (x : FVec Ideal Cert.LossHeadIdeal.S4352x1024 .f32) (z : FVec Ideal Cert.LossHeadIdeal.S4096x1024 .f32) :
    FVec Ideal Cert.LossHeadIdeal.S1x1 .f32 := fun _ => upTo (err x z) 4096

/-- The gradient at a position: none in the context. -/
def gradAt (x : FVec Ideal Cert.LossHeadIdeal.S4352x1024 .f32) (z : FVec Ideal Cert.LossHeadIdeal.S4096x1024 .f32) (i : Fin 4352)
    (j : Fin 1024) : EReal := if h : 256 ≤ i.val then err x z ⟨i.val - 256, by omega⟩ j * per else 0

def gradOf (x : FVec Ideal Cert.LossHeadIdeal.S4352x1024 .f32) (z : FVec Ideal Cert.LossHeadIdeal.S4096x1024 .f32) :
    FVec Ideal Cert.LossHeadIdeal.S4352x1024 .f32 := fun y => gradAt x z (y 0) (y 1)

section
open Cert.LossHeadIdeal Cert.LossHeadIdeal.Gen

variable (m : (ℓ : Loc nD τ sig) → Buf (Elt Ideal) ℓ) (c : Dev nD)

abbrev argX : FVec Ideal S4352x1024 .f32 := m ((c.tc : Thread nD τ).loc main_arg0)
abbrev argZ : FVec Ideal S4096x1024 .f32 := m ((c.tc : Thread nD τ).loc main_arg1)

theorem idx0 : ∀ t : Fin cfg0.N, win0_0.index t = ![t.val, 0] := (by decide +kernel : ∀ t : Fin grid0.N, _)
theorem idx1 : ∀ t : Fin cfg0.N, win0_1.index t = ![t.val - 1, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

/-- The points past the context's. -/
theorem latent : ∀ t : Fin cfg0.N, Scalar.cmpi .sge (BitVec.ofNat 32 (grid0.coords t 0).val) 1#32 = if 1 ≤ t.val then 1#1 else 0#1 :=
  (by decide +kernel : ∀ t : Fin grid0.N, _)

theorem rd_x (t : Fin cfg0.N) (r : Fin 256) (j : Fin 1024) : iblk m c 0 t (ix2 r j)
    = argX m c (ix2 ⟨256 * t.val + r.val, by have : t.val < 17 := t.isLt; omega⟩ j) := by
  have ht : t.val < 17 := t.isLt
  refine Eq.trans (b := V m c main_arg0 (ix2 ⟨256 * t.val + r.val, by omega⟩ j)) ?_ (congrFun (V_main_arg0 m c) _)
  blk_ext [iblk, idx0 t]

theorem rd_z (t : Fin cfg0.N) (r : Fin 256) (j : Fin 1024) : iblk m c 1 t (ix2 r j)
    = argZ m c (ix2 ⟨256 * (t.val - 1) + r.val, by have : t.val < 17 := t.isLt; omega⟩ j) := by
  have ht : t.val < 17 := t.isLt
  refine Eq.trans (b := V m c main_arg1 (ix2 ⟨256 * (t.val - 1) + r.val, by omega⟩ j)) ?_ (congrFun (V_main_arg1 m c) _)
  blk_ext [iblk, idx1 t]

/-- The errors of a point's positions, zero in the context. -/
def errs (t : Fin cfg0.N) : FVec Ideal S256x1024 .f32 := k0_pay1 (grid0.coords t) (iblk m c 0 t) (iblk m c 1 t)

theorem errs_latent (t : Fin cfg0.N) (h : 1 ≤ t.val) (r : Fin 256) (j : Fin 1024) : errs m c t (ix2 r j)
    = err (argX m c) (argZ m c) ⟨256 * (t.val - 1) + r.val, by have : t.val < 17 := t.isLt; omega⟩ j := by
  have ht : t.val < 17 := t.isLt
  show Scalar.select (Scalar.cmpi .sge (BitVec.ofNat 32 (grid0.coords t 0).val) 1#32) (subf _ _) _ (ix2 r j) = _
  rw [latent t, if_pos h]
  refine Eq.trans (b := @HSub.hSub EReal EReal EReal _ (iblk m c 0 t (ix2 r j)) (iblk m c 1 t (ix2 r j))) rfl ?_
  rw [rd_x m c t r j, rd_z m c t r j]
  exact congrArg (fun i => (argX m c (ix2 i j) : EReal) - _) (Fin.ext (by dsimp only; omega))

theorem errs_context (t : Fin cfg0.N) (h : t.val = 0) (y : S256x1024.Idx) : errs m c t y = (0 : EReal) := by
  show Scalar.select (Scalar.cmpi .sge (BitVec.ofNat 32 (grid0.coords t 0).val) 1#32) (subf _ _) _ y = _
  rw [latent t, if_neg (by omega)]
  exact Ideal.ofBits_zero_f32

/-- What a point writes back of the gradient. -/
theorem grad_block (t : Fin cfg0.N) (r : Fin 256) (j : Fin 1024) :
    ((outsAt0 m c t.val t.isLt).2 (ix2 r j) : EReal) = errs m c t (ix2 r j) * per := by
  by_cases h : 1 ≤ t.val
  · rw [outsAt0_B m c t (by have : t.val < 17 := t.isLt; omega) h]
    frame_out
    rfl
  · rw [outsAt0_A m c t (by omega) h]
    frame_out
    rfl

/-- A point's share of the loss. -/
theorem share_eq (i : grid0.Coords) (a b : FVec Ideal S256x1024 .f32) :
    ((k0_pay3 i a b : FVec Ideal S1x1 .f32) (ix2 0 0) : EReal)
      = half * ∑ r : Fin 256, (∑ j : Fin 1024, ((k0_pay1 (F := Ideal) i a b : FVec Ideal S256x1024 .f32) (ix2 r j) : EReal)
        * (k0_pay1 (F := Ideal) i a b : FVec Ideal S256x1024 .f32) (ix2 r j)) * per := by
  unfold k0_pay3
  generalize k0_pay1 (F := Ideal) i a b = e
  pointwise

def share (t : Fin cfg0.N) : FVec Ideal S1x1 .f32 := k0_pay3 (grid0.coords t) (iblk m c 0 t) (iblk m c 1 t)

theorem share_latent (t : Fin cfg0.N) (h : 1 ≤ t.val) : (share m c t (ix2 0 0) : EReal)
    = half * ∑ r : Fin 256, row (err (argX m c) (argZ m c)) (256 * (t.val - 1) + r.val) := by
  have ht : t.val < 17 := t.isLt
  refine (share_eq _ _ _).trans (congrArg (half * ·) (Finset.sum_congr rfl fun r _ => ?_))
  unfold row
  rw [dif_pos (by omega)]
  refine congrArg (· * per) (Finset.sum_congr rfl fun j _ => ?_)
  exact congrArg₂ (· * ·) (errs_latent m c t h r j) (errs_latent m c t h r j)

theorem share_context (t : Fin cfg0.N) (h : t.val = 0) : (share m c t (ix2 0 0) : EReal) = 0 := by
  refine (share_eq _ _ _).trans ?_
  refine (congrArg (half * ·) (Finset.sum_eq_zero fun r _ => ?_)).trans (mul_zero _)
  refine (congrArg (· * per) (Finset.sum_eq_zero fun j _ => ?_)).trans (zero_mul _)
  exact (congrArg (· * _) (errs_context m c t h (ix2 r j))).trans (zero_mul _)

/-- What the element holds after a point: the loss of the positions so far. -/
theorem sofar : ∀ (n : ℕ) (hn : n < cfg0.N), ((outsAt0 m c n hn).1 (ix2 0 0) : EReal) = upTo (err (argX m c) (argZ m c)) (256 * n)
  | 0, hn => by
    rw [outsAt0_A m c ⟨0, hn⟩ rfl (by show ¬1 ≤ 0; omega)]
    frame_out
    refine (share_context m c ⟨0, hn⟩ rfl).trans (upTo_zero _).symm
  | n + 1, hn => by
    have hN : n + 1 < 17 := hn
    rw [outsAt0_B m c ⟨n + 1, hn⟩ (by show ¬(n + 1) % 17 = 0; omega) (by show 1 ≤ n + 1; omega)]
    frame_out
    unfold k0_pay4
    rw [shapeCast_self]
    refine Eq.trans (b := upTo (err (argX m c) (argZ m c)) (256 * n) + share m c ⟨n + 1, hn⟩ (ix2 0 0)) ?_ ?_
    · exact congrArg (· + share m c ⟨n + 1, hn⟩ (ix2 0 0)) (sofar n (Nat.lt_of_succ_lt hn))
    · rw [share_latent m c ⟨n + 1, hn⟩ (by show 1 ≤ n + 1; omega)]
      exact upTo_block _ (256 * n)

theorem final_loss : (dats m 0 c).arrAt 2 cfg0.N = lossOf (argX m c) (argZ m c) := by
  refine (dats m 0 c).arrAt_eq_of_covers 2 (lossOf (argX m c) (argZ m c)) (by decide +kernel) fun t hf y => ?_
  blk_simp
  rw [after0_2]
  have hr := (flush0_2 t).mp hf
  change S1x1.Idx at y
  idx_vars y
  have ht : t.val < 17 := t.isLt
  obtain rfl : y0 = 0 := Subsingleton.elim _ _
  obtain rfl : y1 = 0 := Subsingleton.elim _ _
  refine (sofar m c t.val t.isLt).trans ?_
  rw [show t.val = 16 by omega]
  rfl

theorem final_grad : (dats m 0 c).arrAt 3 cfg0.N = gradOf (argX m c) (argZ m c) := by
  refine (dats m 0 c).arrAt_eq_of_covers 3 (gradOf (argX m c) (argZ m c)) (by decide +kernel) fun t hf y => ?_
  blk_simp
  rw [after0_3]
  change S256x1024.Idx at y
  idx_vars y
  have ht : t.val < 17 := t.isLt
  have e : (win0_3.blk t).view.emb (ix2 y0 y1) = ix2 ⟨256 * t.val + y0.val, by omega⟩ y1 := by
    blk_ext [idx3 t]
  refine ((grad_block m c t y0 y1).trans ?_).trans (congrArg (gradOf (argX m c) (argZ m c)) e.symm)
  show _ = gradAt (argX m c) (argZ m c) ⟨256 * t.val + y0.val, by omega⟩ y1
  unfold gradAt
  by_cases h : 1 ≤ t.val
  · rw [dif_pos (by dsimp only; omega), errs_latent m c t h]
    exact congrArg (fun i => err (argX m c) (argZ m c) i y1 * per) (Fin.ext (by dsimp only; omega))
  · rw [dif_neg (by dsimp only; omega), errs_context m c t (by omega), zero_mul]

end

section
open Cert.LossHeadRefIdeal Cert.LossHeadRefIdeal.Gen

variable (x : FVec Ideal S4352x1024 .f32) (z : FVec Ideal S4096x1024 .f32)

/-- The reference's errors. -/
def refErrs : FVec Ideal S4096x1024 .f32 := subf (extractStridedSlice S4096x1024 ![256, 0] x slices_S4352x1024_S4096x1024_256_0) z

theorem refErrs_ix (p : Fin 4096) (j : Fin 1024) : refErrs x z (ix2 p j) = err x z p j := by
  unfold refErrs err
  pointwise

/-- The reference's loss. -/
theorem ref_loss : (shapeCast _ (mulf (constant S_ .f32 0x3F000000#32) (Host.reduceAdd (Host.divf (Host.reduceAdd (mulf (refErrs x z) (refErrs x z)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) shapeCasts_S_S1x1 : FVec Ideal S1x1 .f32) = lossOf x z := by
  funext y
  idx_vars y
  refine Eq.trans (b := half * ∑ p : Fin 4096, Ideal.div (∑ j : Fin 1024, refErrs x z (ix2 p j) * refErrs x z (ix2 p j)) many) ?_ ?_
  · generalize refErrs x z = e
    pointwise
  · refine Eq.trans (congrArg (half * ·) (Finset.sum_congr rfl fun p _ => ?_)) (upTo_all (err x z)).symm
    rw [div_many]
    exact congrArg (· * per) (Finset.sum_congr rfl fun j _ => congrArg₂ (· * ·) (refErrs_ix x z p j) (refErrs_ix x z p j))

/-- The reference's gradient at the latent positions. -/
def inner : FVec Ideal S4096x1024 .f32 := mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (refErrs x z))

theorem inner_ix (p : Fin 4096) (j : Fin 1024) : inner x z (ix2 p j) = err x z p j * per := by
  refine Eq.trans (b := Ideal.div (half * 1) many * (two * refErrs x z (ix2 p j))) ?_ ((factor _).trans (congrArg (· * per) (refErrs_ix x z p j)))
  unfold inner
  generalize refErrs x z = e
  pointwise

/-- The reference's gradient. -/
theorem ref_grad : (pad S4352x1024 ![256, 0] ![0, 0] ![0, 0] (inner x z) (constant S_ .f32 0x00000000#32) pads_S4096x1024_S4352x1024_25600_000 h_S_ : FVec Ideal S4352x1024 .f32) = gradOf x z := by
  funext y
  idx_vars y
  show _ = gradAt x z y0 y1
  unfold gradAt
  by_cases h : 256 ≤ y0.val
  · rw [dif_pos h, ← inner_ix]
    refine pad_apply_of_inside _ _ _ _ _ _ _ _ _ fun a => ?_
    match a with
    | ⟨0, _⟩ => show y0.val = 256 + (y0.val - 256) * (0 + 1); omega
    | ⟨1, _⟩ => show y1.val = 0 + y1.val * (0 + 1); omega
  · rw [dif_neg h]
    refine (pad_apply_of_not_inside _ _ _ _ _ _ _ _ (0 : Fin 2) fun hin => h hin.1).trans ?_
    exact Ideal.ofBits_zero_f32

end

/-- The kernel's results are the reference's. -/
theorem algebraic : Cert.algebraic_LossHeadIdeal_LossHeadRefIdeal (hLossHeadIdeal := Cert.LossHeadIdeal.Gen.facts)
    (hLossHeadRefIdeal := Cert.LossHeadRefIdeal.Gen.facts) := by
  intro m g m' g' _ hargs
  refine ⟨fun c => (Cert.LossHeadIdeal.Gen.dats m 0 c).arrAt 2 Cert.LossHeadIdeal.cfg0.N,
    fun c => (Cert.LossHeadIdeal.Gen.dats m 0 c).arrAt 3 Cert.LossHeadIdeal.cfg0.N, Cert.LossHeadIdeal.Value.run_blocks m g, ?_⟩
  refine (θ_run _ _ _).mono (fun r h c => ?_) (Cert.LossHeadRefIdeal.Value.run m' g')
  refine ⟨(h c).1.trans ?_, (h c).2.1.trans ?_, (h c).2.2⟩
  · rw [(hargs c).1, (hargs c).2]
    exact (ref_loss _ _).trans (final_loss m c).symm
  · rw [(hargs c).1, (hargs c).2]
    exact (ref_grad _ _).trans (final_grad m c).symm

/-- The reference runs and keeps its arguments; it declares no semaphore. -/
theorem frame_r : Cert.quiescent_LossHeadRefIdeal (hLossHeadRefIdeal := Cert.LossHeadRefIdeal.Gen.facts) := by
  intro m ρ _
  exact (θ_run Cert.LossHeadRefIdeal.defs _ _).mono (fun r h => ⟨fun c => (h c).2.2,
      Idealize.ShloMosaic.sem_eq_zero_of_no_sems (by decide) r.2⟩)
    (Cert.LossHeadRefIdeal.Value.run m ρ)

end Cert.Loss.LossHead
-- ==== Proof.RefTerms.lean ====
/-
  The reference's stages, each named as a function of the stages before it: which key a query sees, the scores, the
  masked scores with the sink as last column, their softmax, and the derivative of the softmax. Each of the four
  results of the reference is one of these functions of the five arguments (`out_q` … `out_sink`), by unfolding.
-/
module

public import proofs.«01_k».proof.Proof.Gen.ReferenceIdeal.Run
public import Idealize.ShloMosaic.Lib.Pointwise

@[expose] public section

set_option maxRecDepth 16384

noncomputable section

namespace Cert.Attn.Ref

open Cert.ReferenceIdeal Cert.ReferenceIdeal.Gen Idealize.ShloMosaic Idealize.ShloMosaic.TcCoe

/-- Which key (second axis) a query (first axis) sees. -/
def seen : IVec S4352x4352 1 :=
  ori (broadcastInDim S4352x4352 ![0, 1] bcast_S1x4352_S4352x4352_0_1
        (cmpi .slt (broadcastInDim S1x4352 ![1] bcast_S4352_S1x4352_1 (iotaInDim S4352 32 0))
          (broadcastInDim S1x4352 ![] bcast_S_S1x4352 (constantI S_ 32 256#32))))
    (andi (broadcastInDim S4352x4352 ![0, 1] bcast_S4352x1_S4352x4352_0_1
        (cmpi .sge (broadcastInDim S4352x1 ![0] bcast_S4352_S4352x1_0 (iotaInDim S4352 32 0))
          (broadcastInDim S4352x1 ![] bcast_S_S4352x1 (constantI S_ 32 256#32))))
      (cmpi .sle
        (absi (subi
          (broadcastInDim S4352x4352 ![0, 1] bcast_S1x4352_S4352x4352_0_1
            (broadcastInDim S1x4352 ![1] bcast_S4352_S1x4352_1 (iotaInDim S4352 32 0)))
          (broadcastInDim S4352x4352 ![0, 1] bcast_S4352x1_S4352x4352_0_1
            (broadcastInDim S4352x1 ![0] bcast_S4352_S4352x1_0 (iotaInDim S4352 32 0)))))
        (broadcastInDim S4352x4352 ![] bcast_S_S4352x4352 (constantI S_ 32 128#32))))

/-- The same for every head. -/
def seenAll : IVec S4x4x4352x4352 1 :=
  broadcastInDim S4x4x4352x4352 ![0, 1, 2, 3] bcast_S1x1x4352x4352_S4x4x4352x4352_0_1_2_3
    (broadcastInDim S1x1x4352x4352 ![2, 3] bcast_S4352x4352_S1x1x4352x4352_2_3 seen)

/-- The sixteen heads of an array as four groups of four. -/
def heads (x : FVec Ideal S4352x16x64 .bf16) : FVec Ideal S4352x4x4x64 .f32 :=
  shapeCast _ (extf .f32 x bitsLt_bf16_f32) shapeCasts_S4352x16x64_S4352x4x4x64

/-- The scaled scores, per key head, group, query and key. -/
def scores (q : FVec Ideal S4352x4x4x64 .f32) (k : FVec Ideal S4352x4x64 .bf16) : FVec Ideal S4x4x4352x4352 .f32 :=
  mulf (transpose S4x4x4352x4352 [0, 3, 2, 1]
      (Host.dotGeneral dot_S4352x4x64_S4352x4x4x64_S4x4352x4352x4_2_3_0_02_1_1 none
        (extf .f32 k bitsLt_bf16_f32) q)
      transposes_S4x4352x4352x4_S4x4x4352x4352_0_3_2_1)
    (broadcastInDim S4x4x4352x4352 ![] bcast_S_S4x4x4352x4352 (constant S_ .f32 0x3E000000#32))

/-- The scores with −∞ where the key is not seen and the sink's logit as a last column. -/
def full (sc : FVec Ideal S4x4x4352x4352 .f32) (s : FVec Ideal S4x4 .f32) : FVec Ideal S4x4x4352x4353 .f32 :=
  concatenate S4x4x4352x4353 3
    [⟨S4x4x4352x4352, select seenAll sc
        (broadcastInDim S4x4x4352x4352 ![] bcast_S_S4x4x4352x4352 (constant S_ .f32 0xFF800000#32))⟩,
     ⟨S4x4x4352x1, broadcastInDim S4x4x4352x1 ![0, 1, 2, 3] bcast_S4x4x1x1_S4x4x4352x1_0_1_2_3
        (broadcastInDim S4x4x1x1 ![0, 1] bcast_S4x4_S4x4x1x1_0_1 s)⟩]
    concatenates_S4x4x4352x4352_S4x4x4352x1_S4x4x4352x4353_d3

/-- Each row's largest score. -/
def top (f : FVec Ideal S4x4x4352x4353 .f32) : FVec Ideal S4x4x4352 .f32 :=
  maximumf (broadcastInDim S4x4x4352 ![] bcast_S_S4x4x4352 (constant S_ .f32 0xFF800000#32))
    (Host.reduce FloatOps.maximumf f (constant S_ .f32 0xFF800000#32) reducesTo_S4x4x4352x4353_S4x4x4352_d3 h_S_)

/-- The exponentials of the scores less the row's largest. -/
def expo (f : FVec Ideal S4x4x4352x4353 .f32) (mx : FVec Ideal S4x4x4352 .f32) : FVec Ideal S4x4x4352x4353 .f32 :=
  Host.exp (subf f (broadcastInDim S4x4x4352x4353 ![0, 1, 2, 3] bcast_S4x4x4352x1_S4x4x4352x4353_0_1_2_3
    (broadcastInDim S4x4x4352x1 ![0, 1, 2] bcast_S4x4x4352_S4x4x4352x1_0_1_2 mx)))

/-- Each row's sum of exponentials. -/
def norm (e : FVec Ideal S4x4x4352x4353 .f32) : FVec Ideal S4x4x4352x1 .f32 :=
  broadcastInDim S4x4x4352x1 ![0, 1, 2] bcast_S4x4x4352_S4x4x4352x1_0_1_2
    (Host.reduceAdd e (constant S_ .f32 0x00000000#32) reducesTo_S4x4x4352x4353_S4x4x4352_d3 h_S_)

/-- Each row's largest score, as the kernel's host lines take it. -/
def peak (f : FVec Ideal S4x4x4352x4353 .f32) : FVec Ideal S4x4x4352 .f32 :=
  Host.reduce FloatOps.maximumf f (constant S_ .f32 0xFF800000#32) reducesTo_S4x4x4352x4353_S4x4x4352_d3 h_S_

/-- Each row's logarithm of the sum of the exponentials, as the kernel's host lines take it. -/
def lse (f : FVec Ideal S4x4x4352x4353 .f32) : FVec Ideal S4x4x4352 .f32 :=
  addf (peak f)
    (Host.log (Host.reduceAdd (expo f (peak f)) (constant S_ .f32 0x00000000#32)
      reducesTo_S4x4x4352x4353_S4x4x4352_d3 h_S_))

/-- A row's number for each of its columns. -/
def wide (x : FVec Ideal S4x4x4352x1 .f32) : FVec Ideal S4x4x4352x4353 .f32 :=
  broadcastInDim S4x4x4352x4353 ![0, 1, 2, 3] bcast_S4x4x4352x1_S4x4x4352x4353_0_1_2_3 x

/-- The softmax's weights on the keys, the sink's left out. -/
def probs (e : FVec Ideal S4x4x4352x4353 .f32) (l : FVec Ideal S4x4x4352x1 .f32) : FVec Ideal S4x4x4352x4352 .f32 :=
  extractStridedSlice S4x4x4352x4352 ![0, 0, 0, 0] (Host.divf e (wide l)) slices_S4x4x4352x4353_S4x4x4352x4352_0_0_0_0

/-- The output's gradient, the feature axis in front of group and query. -/
def gradOut (g : FVec Ideal S4352x4x4x64 .f32) : FVec Ideal S4x64x4x4352 .f32 :=
  transpose S4x64x4x4352 [1, 3, 2, 0] g transposes_S4352x4x4x64_S4x64x4x4352_1_3_2_0

/-- The gradient of the weights, with a zero for the sink's. -/
def gradProbs (g : FVec Ideal S4x64x4x4352 .f32) (v : FVec Ideal S4352x4x64 .bf16) : FVec Ideal S4x4x4352x4353 .f32 :=
  pad S4x4x4352x4353 ![0, 0, 0, 0] ![0, 0, 0, 1] ![0, 0, 0, 0]
    (Host.dotGeneral dot_S4x64x4x4352_S4352x4x64_S4x4x4352x4352_1_2_23_0_0_1 none g (extf .f32 v bitsLt_bf16_f32))
    (constant S_ .f32 0x00000000#32) pads_S4x4x4352x4352_S4x4x4352x4353_000_000_000_010 h_S_

/-- What a row's gradients share: minus the sum of `gradient × e / l²`. -/
def share (dp e : FVec Ideal S4x4x4352x4353 .f32) (l : FVec Ideal S4x4x4352x1 .f32) : FVec Ideal S4x4x4352 .f32 :=
  Host.reduceAdd
    (Host.negf (shapeCast S4x4x4352x1
      (Host.reduceAdd
        (mulf (mulf dp (wide (Host.divf
            (broadcastInDim S4x4x4352x1 ![] bcast_S_S4x4x4352x1 (constant S_ .f32 0x3F800000#32)) (mulf l l)))) e)
        (constant S_ .f32 0x00000000#32) reducesTo_S4x4x4352x4353_S4x4x4352_d3 h_S_)
      shapeCasts_S4x4x4352_S4x4x4352x1))
    (constant S_ .f32 0x00000000#32) reducesTo_S4x4x4352x1_S4x4x4352_d3 h_S_

/-- The gradient of the masked scores. -/
def gradFull (dp e : FVec Ideal S4x4x4352x4353 .f32) (l : FVec Ideal S4x4x4352x1 .f32) (sh : FVec Ideal S4x4x4352 .f32) :
    FVec Ideal S4x4x4352x4353 .f32 :=
  mulf (addf (Host.divf dp (wide l))
    (broadcastInDim S4x4x4352x4353 ![0, 1, 2] bcast_S4x4x4352_S4x4x4352x4353_0_1_2 sh)) e

/-- The gradient of the products `q · k`, per key head, key, query and group. -/
def gradScores (ds : FVec Ideal S4x4x4352x4353 .f32) : FVec Ideal S4x4352x4352x4 .f32 :=
  transpose S4x4352x4352x4 [0, 3, 2, 1]
    (mulf (select seenAll
        (extractStridedSlice S4x4x4352x4352 ![0, 0, 0, 0] ds slices_S4x4x4352x4353_S4x4x4352x4352_0_0_0_0)
        (broadcastInDim S4x4x4352x4352 ![] bcast_S_S4x4x4352x4352 (constant S_ .f32 0x00000000#32)))
      (broadcastInDim S4x4x4352x4352 ![] bcast_S_S4x4x4352x4352 (constant S_ .f32 0x3E000000#32)))
    transposes_S4x4x4352x4352_S4x4352x4352x4_0_3_2_1

/-- The gradient of the queries, a head's block in front. -/
def gradQ (ds : FVec Ideal S4x4352x4352x4 .f32) (k : FVec Ideal S4352x4x64 .bf16) : FVec Ideal S16x4352x64 .f32 :=
  transpose S16x4352x64 [1, 0, 2]
    (shapeCast S4352x16x64
      (transpose S4352x4x4x64 [1, 0, 2, 3]
        (Host.dotGeneral dot_S4x4352x4352x4_S4352x4x64_S4x4352x4x64_1_0_23_2_0_1 none ds (extf .f32 k bitsLt_bf16_f32))
        transposes_S4x4352x4x64_S4352x4x4x64_1_0_2_3)
      shapeCasts_S4352x4x4x64_S4352x16x64)
    transposes_S4352x16x64_S16x4352x64_1_0_2

/-- Rows of keys in the kernel's order: context, a gap of zeros, latents, a gap of zeros; heads in front. -/
def rows (x : FVec Ideal S4352x4x64 .f32) : FVec Ideal S4x4608x64 .f32 :=
  transpose S4x4608x64 [1, 0, 2]
    (concatenate S4608x4x64 0
      [⟨S256x4x64, extractStridedSlice S256x4x64 ![0, 0, 0] x slices_S4352x4x64_S256x4x64_0_0_0⟩,
       ⟨S128x4x64, broadcastInDim S128x4x64 ![] bcast_S_S128x4x64 (constant S_ .f32 0x00000000#32)⟩,
       ⟨S4096x4x64, extractStridedSlice S4096x4x64 ![256, 0, 0] x slices_S4352x4x64_S4096x4x64_256_0_0⟩,
       ⟨S128x4x64, broadcastInDim S128x4x64 ![] bcast_S_S128x4x64 (constant S_ .f32 0x00000000#32)⟩]
      concatenates_S256x4x64_S128x4x64_S4096x4x64_S128x4x64_S4608x4x64_d0)
    transposes_S4608x4x64_S4x4608x64_1_0_2

/-- The gradient of the keys. -/
def gradK (ds : FVec Ideal S4x4352x4352x4 .f32) (q : FVec Ideal S4352x4x4x64 .f32) : FVec Ideal S4352x4x64 .f32 :=
  transpose S4352x4x64 [1, 0, 2]
    (Host.dotGeneral dot_S4x4352x4352x4_S4352x4x4x64_S4x4352x64_23_02_1_3_0_1 none ds q)
    transposes_S4x4352x64_S4352x4x64_1_0_2

/-- The gradient of the values. -/
def gradV (g : FVec Ideal S4x64x4x4352 .f32) (p : FVec Ideal S4x4x4352x4352 .f32) : FVec Ideal S4352x4x64 .f32 :=
  transpose S4352x4x64 [2, 0, 1]
    (Host.dotGeneral dot_S4x64x4x4352_S4x4x4352x4352_S4x64x4352_23_12_1_3_0_0 none g p)
    transposes_S4x64x4352_S4352x4x64_2_0_1

/-- The gradient of the sinks. -/
def gradSink (ds : FVec Ideal S4x4x4352x4353 .f32) : FVec Ideal S16x1x1 .f32 :=
  shapeCast S16x1x1
    (Host.reduceAdd
      (broadcastInDim S4x4x1x1 ![0, 1] bcast_S4x4_S4x4x1x1_0_1
        (Host.reduceAdd
          (extractStridedSlice S4x4x4352x1 ![0, 0, 0, 4352] ds slices_S4x4x4352x4353_S4x4x4352x1_0_0_0_4352)
          (constant S_ .f32 0x00000000#32) reducesTo_S4x4x4352x1_S4x4_d2_3 h_S_))
      (constant S_ .f32 0x00000000#32) reducesTo_S4x4x1x1_S4x4_d2_3 h_S_)
    shapeCasts_S4x4_S16x1x1

section
variable (q : FVec Ideal S4352x16x64 .bf16) (k v : FVec Ideal S4352x4x64 .bf16) (s : FVec Ideal S4x4 .f32)
  (g : FVec Ideal S4352x16x64 .bf16)

/-- The masked scores of the arguments. -/
def fullOf : FVec Ideal S4x4x4352x4353 .f32 := full (scores (heads q) k) s
/-- The exponentials of the arguments. -/
def expoOf : FVec Ideal S4x4x4352x4353 .f32 := expo (fullOf q k s) (top (fullOf q k s))
/-- The rows' sums of the arguments. -/
def normOf : FVec Ideal S4x4x4352x1 .f32 := norm (expoOf q k s)
/-- The gradient of the weights of the arguments. -/
def gradProbsOf : FVec Ideal S4x4x4352x4353 .f32 := gradProbs (gradOut (heads g)) v
/-- The gradient of the masked scores of the arguments. -/
def gradFullOf : FVec Ideal S4x4x4352x4353 .f32 :=
  gradFull (gradProbsOf v g) (expoOf q k s) (normOf q k s) (share (gradProbsOf v g) (expoOf q k s) (normOf q k s))
end

variable (m : (ℓ : Loc nD τ sig) → Buf (Elt Ideal) ℓ) (c : Dev nD)

/-- The memory's first argument as an array, and so on. -/
abbrev argQ : FVec Ideal S4352x16x64 .bf16 := m ((c.tc : Thread nD τ).loc main_arg0)
abbrev argK : FVec Ideal S4352x4x64 .bf16 := m ((c.tc : Thread nD τ).loc main_arg1)
abbrev argV : FVec Ideal S4352x4x64 .bf16 := m ((c.tc : Thread nD τ).loc main_arg2)
abbrev argS : FVec Ideal S4x4 .f32 := m ((c.tc : Thread nD τ).loc main_arg3)
abbrev argG : FVec Ideal S4352x16x64 .bf16 := m ((c.tc : Thread nD τ).loc main_arg4)

theorem out_q : Value.res_main_v95 m c =
    gradQ (gradScores (gradFullOf (argQ m c) (argK m c) (argV m c) (argS m c) (argG m c))) (argK m c) := rfl

theorem out_k : Value.res_main_v99 m c =
    rows (gradK (gradScores (gradFullOf (argQ m c) (argK m c) (argV m c) (argS m c) (argG m c))) (heads (argQ m c))) :=
  rfl

theorem out_v : Value.res_main_v103 m c =
    rows (gradV (gradOut (heads (argG m c)))
      (probs (expoOf (argQ m c) (argK m c) (argS m c)) (normOf (argQ m c) (argK m c) (argS m c)))) := rfl

theorem out_sink : Value.res_main_v104 m c =
    gradSink (gradFullOf (argQ m c) (argK m c) (argV m c) (argS m c) (argG m c)) := rfl

end Cert.Attn.Ref
-- ==== Proof.Entry.lean ====
/-
  What the kernel's call is given: each operand the host prepares, entry by entry, over the five arguments.
-/
module

public import proofs.«01_k».proof.Proof.RefTerms
public import proofs.«01_k».proof.Proof.Gen.KernelIdeal.Frame
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Attn.Entry

open Cert.KernelIdeal Cert.KernelIdeal.Gen Idealize.ShloMosaic Idealize.ShloMosaic.TcCoe Idealize.SL.Sem

variable (m : (ℓ : Loc nD τ sig) → Buf (Elt Ideal) ℓ) (c : Dev nD)

abbrev argQ : FVec Ideal S4352x16x64 .bf16 := m ((c.tc : Thread nD τ).loc main_arg0)
abbrev argK : FVec Ideal S4352x4x64 .bf16 := m ((c.tc : Thread nD τ).loc main_arg1)
abbrev argV : FVec Ideal S4352x4x64 .bf16 := m ((c.tc : Thread nD τ).loc main_arg2)
abbrev argS : FVec Ideal S4x4 .f32 := m ((c.tc : Thread nD τ).loc main_arg3)
abbrev argG : FVec Ideal S4352x16x64 .bf16 := m ((c.tc : Thread nD τ).loc main_arg4)

/-- The keys of a head in the padded order. -/
def padded (x : FVec Ideal S4352x4x64 .bf16) (h : Fin 4) (ρ : Fin 4608) (d : Fin 64) : EReal :=
  if h1 : ρ.val < 256 then x (ix3 ⟨ρ.val, by omega⟩ h d)
  else if h2 : 384 ≤ ρ.val ∧ ρ.val < 4480 then x (ix3 ⟨ρ.val - 128, by omega⟩ h d) else 0

theorem in_q (a : Fin 16) (n : Fin 4352) (d : Fin 64) :
    V m c main_v37 (ix3 a n d) = argQ m c (ix3 n a d) := by
  unfold V
  after_reads_at

theorem in_g (a : Fin 16) (n : Fin 4352) (d : Fin 64) :
    V m c main_v50 (ix3 a n d) = argG m c (ix3 n a d) := by
  unfold V
  after_reads_at

theorem in_k (h : Fin 4) (ρ : Fin 4608) (d : Fin 64) :
    V m c main_v42 (ix3 h ρ d) = padded (argK m c) h ρ d := by
  unfold V
  after_reads_at
  after_reads_at
  unfold padded
  split_ifs
  all_goals first | rfl | (exfalso; omega) | skip
  rw [dif_pos (show 384 ≤ ρ.val ∧ ρ.val < 4480 by omega)]
  refine congrArg (m (c, _)) ?_
  congr 1
  ext
  simp
  omega

theorem in_v (h : Fin 4) (ρ : Fin 4608) (d : Fin 64) :
    V m c main_v47 (ix3 h ρ d) = padded (argV m c) h ρ d := by
  unfold V
  after_reads_at
  after_reads_at
  unfold padded
  split_ifs
  all_goals first | rfl | (exfalso; omega) | skip
  rw [dif_pos (show 384 ≤ ρ.val ∧ ρ.val < 4480 by omega)]
  refine congrArg (m (c, _)) ?_
  congr 1
  ext
  simp
  omega

theorem in_s (a : Fin 16) :
    V m c main_v48 (ix3 a 0 0) = argS m c (ix2 ⟨a.val / 4, by omega⟩ ⟨a.val % 4, Nat.mod_lt _ (by decide)⟩) := by
  unfold V
  after_reads_at

/-- The masked scores among the host's operands. -/
theorem in_v25 : StableHlo.upto [hostOps0, hostOps0_1, hostOps0_2].flatten (fun b => m (c, b)) 36 (Proc.tc.devRef main_v25)
    = (select Ref.seenAll (Ref.scores (Ref.heads (argQ m c)) (argK m c))
        (broadcastInDim S4x4x4352x4352 ![] bcast_S_S4x4x4352x4352 (constant S_ .f32 0xFF800000#32)) : FVec Ideal S4x4x4352x4352 .f32) := by
  after_reads_simp
  try simp -implicitDefEqProofs only [StableHlo.TRef.toBuf, StableHlo.TRef.ofBuf, cast_cast, cast_eq]
  rfl

/-- The sink's column among the host's operands. -/
theorem in_v27 : StableHlo.upto [hostOps0, hostOps0_1, hostOps0_2].flatten (fun b => m (c, b)) 36 (Proc.tc.devRef main_v27)
    = (broadcastInDim S4x4x4352x1 ![0, 1, 2, 3] bcast_S4x4x1x1_S4x4x4352x1_0_1_2_3
        (broadcastInDim S4x4x1x1 ![0, 1] bcast_S4x4_S4x4x1x1_0_1 (argS m c)) : FVec Ideal S4x4x4352x1 .f32) := by
  after_reads_simp

/-- The log-sum-exp operand is the reference's. -/
theorem in_l0 : (V m c main_v49 : FVec Ideal S16x4352x1 .f32) =
    shapeCast S16x4352x1 (Ref.lse (Ref.fullOf (argQ m c) (argK m c) (argS m c))) shapeCasts_S4x4x4352_S16x4352x1 := by
  unfold V
  after_reads_simp
  try simp -implicitDefEqProofs only [StableHlo.TRef.toBuf, StableHlo.TRef.ofBuf, cast_cast, cast_eq]
  rw [in_v25, in_v27]
  rfl

theorem in_l (a : Fin 16) (n : Fin 4352) :
    V m c main_v49 (ix3 a n 0) = Ref.lse (Ref.fullOf (argQ m c) (argK m c) (argS m c))
      (ix3 ⟨a.val / 4, by omega⟩ ⟨a.val % 4, Nat.mod_lt _ (by decide)⟩ n) := by
  refine (congrFun (in_l0 m c) (ix3 a n 0)).trans ?_
  generalize Ref.lse _ = L
  pointwise

end Cert.Attn.Entry
-- ==== Proof.Words.lean ====
/-
  Integer words read as integers: the magnitude of a word, and the lane's place within its head.
-/
module

public import Idealize.ShloMosaic.Lib.Pointwise
public import Idealize.ShloMosaic.Lib.Affine

@[expose] public section

namespace Cert.Attn.Words

open Idealize.ShloMosaic

theorem toInt_absi {x : BitVec 32} (h : -2 ^ 31 < x.toInt) : (IntOp.absi x).toInt = |x.toInt| := by
  have h2 := x.isLt
  unfold IntOp.absi
  rcases hm : x.msb with _ | _
  · rw [if_neg (by simp)]
    rw [abs_of_nonneg]
    by_contra hc
    have := BitVec.msb_eq_toInt (x := x)
    simp_all
  · rw [if_pos rfl]
    have h0 : x.toInt < 0 := by
      have := BitVec.msb_eq_toInt (x := x)
      simp_all
    have h3 := BitVec.le_toInt x
    rw [BitVec.toInt_neg, abs_of_neg h0, Int.bmod_def]
    omega

theorem toInt_of {x : BitVec 32} {e : Int} (h : Affine.IsInt x e) : x.toInt = e := by
  unfold Affine.IsInt at h
  exact h

theorem remsi_128 (u : ArithUnit) (r : ℕ) (h : r < 2 ^ 31) :
    IntOp.remsi u (BitVec.ofNat 32 r) 128#32 = BitVec.ofNat 32 (r % 128) := by
  rw [← BitVec.toNat_inj]
  have hN : (BitVec.ofNat 32 r).toNat = r := by rw [BitVec.toNat_ofNat]; omega
  have := IntOp.toNat_remsi u (x := BitVec.ofNat 32 r) (by omega) 128 (by omega) (by omega)
  rw [this, hN, BitVec.toNat_ofNat]
  omega

end Cert.Attn.Words
-- ==== Proof.BlockStages.lean ====
/-
  The stages of the kernel's body at one grid point, each named as a function of the blocks it reads: which key a row
  sees, the stacked queries, keys and values, the weights, the row's `delta`, and the gradient of the scores. A row is
  one of four heads' 128 queries; a column is one of 256 context keys or of the 384 keys of the window.
-/
module

public import proofs.«01_k».proof.Proof.Gen.KernelIdeal.Value
public import Idealize.ShloMosaic.Lib.Pointwise
public import proofs.«01_k».proof.Proof.Words
public import Idealize.ShloMosaic.Lib.Pipeline.ValueKit

@[expose] public section

set_option maxRecDepth 16384

noncomputable section

namespace Cert.Attn.Blk

open Cert.KernelIdeal Cert.KernelIdeal.Gen Idealize.ShloMosaic Idealize.ShloMosaic.TcCoe Idealize.SL.Sem

/-- Which column (second axis) a row (first axis) sees at a grid point. -/
def mask (i : grid0.Coords) : IVec S512x640 1 :=
  k0_pay10 (iota .tc S512x640 32 [1] iota_S512x640_d1_w32) (Scalar.subi (BitVec.ofNat 32 (i 1).val) 2#32)
    (k0_pay8 i) (k0_pay9 i)

theorem mask_ix (i : grid0.Coords) (r : Fin 512) (j : Fin 640) :
    mask i (ix2 r j) = 1#1 ↔ (j.val < 256 ∨ (2 ≤ (i 1).val ∧ 384 ≤ (i 1).val * 128 + (j.val - 256) ∧
      (i 1).val * 128 + (j.val - 256) < 4480 ∧
      (i 1).val * 128 + r.val % 128 ≤ (i 1).val * 128 + (j.val - 256) ∧
      (i 1).val * 128 + (j.val - 256) ≤ (i 1).val * 128 + r.val % 128 + 256)) := by
  have hi : (i 1).val < 34 := (i 1).isLt
  pointwise [mask, k0_pay10, k0_pay8, k0_pay9]
  generalize (i 1).val = I at *
  have hr := r.isLt
  have hj := j.isLt
  have h128 : Scalar.select (Scalar.cmpi CmpIPredicate.eq 128#32 0#32) 1#32 128#32 = 128#32 := by decide
  rw [h128, Words.remsi_128 _ _ (by omega)]
  have hlane : Affine.IsInt (BitVec.ofNat 32 (r.val % 128)) ((r.val % 128 : ℕ) : Int) := Affine.ofNat _ ⟨rfl, by omega⟩
  have hcol : Affine.IsInt (BitVec.ofNat 32 j.val) (j.val : Int) := Affine.ofNat _ ⟨rfl, by omega⟩
  have hn : Affine.IsInt (Scalar.subi (BitVec.ofNat 32 I) 2#32) ((I : Int) - 2) :=
    Affine.subi (Affine.ofNat _ ⟨rfl, by omega⟩) (Affine.ofNat 2 ⟨rfl, by omega⟩) (by omega)
  have hkey := Affine.addi (e := ((I : Int) - 3) * 128 + (j.val - 256)) (Affine.muli (e := ((I : Int) - 3) * 128)
      (Affine.subi (e := (I : Int) - 3) hn (Affine.ofNat 1 ⟨rfl, by omega⟩) (by omega))
      (Affine.ofNat 128 ⟨rfl, by omega⟩) (by omega))
    (Affine.subi (e := (j.val : Int) - 256) hcol (Affine.ofNat 256 ⟨rfl, by omega⟩) (by omega)) (by omega)
  have hcmp : ∀ x, IntOp.cmpi .slt (BitVec.ofNat 32 (r.val % 128)) 0#32 = x → x = 0#1 := by
    rintro x rfl
    have : ¬ IntOp.cmpi .slt (BitVec.ofNat 32 (r.val % 128)) 0#32 = 1#1 := by
      rw [IntOp.cmpi_slt, Words.toInt_of hlane]
      simp only [BitVec.toInt_zero]
      omega
    exact (BitVec.eq_zero_or_eq_one _).resolve_right this
  rw [hcmp _ rfl]
  have hsel : ∀ a : BitVec 1, ∀ x y : BitVec 32,
      Scalar.select (IntOp.andi (IntOp.xori 0#1 (Scalar.cmpi CmpIPredicate.slt 128#32 0#32)) a) x y = y := by
    intro a x y
    have : IntOp.andi (IntOp.xori 0#1 (Scalar.cmpi CmpIPredicate.slt 128#32 0#32)) a = 0#1 := by revert a; decide
    rw [this]; rfl
  rw [hsel]
  have hq := Affine.addi (e := ((I : Int) - 2) * 128 + (r.val % 128 : ℕ)) (Affine.muli (e := ((I : Int) - 2) * 128) hn
      (Affine.ofNat 128 ⟨rfl, by omega⟩) (by omega)) hlane (by omega)
  have hd := Affine.subi (e := ((I : Int) - 3) * 128 + (j.val - 256) - (((I : Int) - 2) * 128 + (r.val % 128 : ℕ))) hkey hq
    (by omega)
  have hd' := Words.toInt_of hd
  have hkey' := Words.toInt_of hkey
  have hn' := Words.toInt_of hn
  have hcol' := Words.toInt_of hcol
  simp only [IntOp.ori_eq_one, IntOp.andi_eq_one, IntOp.cmpi_slt, IntOp.cmpi_sle, IntOp.cmpi_sge]
  have hs : Scalar.cmpi CmpIPredicate.sge (Scalar.subi (BitVec.ofNat 32 I) 2#32) 0#32 = 1#1 ↔
      (0#32).toInt ≤ (Scalar.subi (BitVec.ofNat 32 I) 2#32).toInt := IntOp.cmpi_sge
  have habs := Words.toInt_absi (x := IntOp.subi (IntOp.addi (Scalar.muli (Scalar.subi (Scalar.subi (BitVec.ofNat 32 I) 2#32) 1#32) 128#32)
      (IntOp.subi (BitVec.ofNat 32 j.val) 256#32)) (IntOp.addi (Scalar.muli (Scalar.subi (BitVec.ofNat 32 I) 2#32) 128#32)
      (BitVec.ofNat 32 (r.val % 128)))) (by erw [hd']; omega)
  erw [habs, hs, hd', hkey', hn', hcol']
  have e1 : (256#32).toInt = 256 := by decide
  have e2 : (128#32).toInt = 128 := by decide
  have e3 : (0#32).toInt = 0 := by decide
  have e4 : (4096#32).toInt = 4096 := by decide
  rw [e1, e2, e3, e4, abs_le]
  omega

section
variable (i : grid0.Coords) (x0 : FVec Ideal S4x128x64 .bf16) (x1 : FVec Ideal S1x256x64 .bf16)
  (x2 x3 x4 : FVec Ideal S1x128x64 .bf16) (x5 : FVec Ideal S1x256x64 .bf16) (x6 x7 x8 : FVec Ideal S1x128x64 .bf16)
  (x9 : FVec Ideal S4x1x1 .f32) (x10 : FVec Ideal S4x128x1 .f32) (x11 : FVec Ideal S4x128x64 .bf16)

/-- The context keys (or values) and the three blocks of the window, one under the other. -/
def stack : FVec Ideal S640x64 .bf16 := k0_pay11 x1 x2 x3 x4

/-- Four heads' queries, one under the other. -/
def queries : FVec Ideal S512x64 .bf16 :=
  k0_pay14
    (k0_pay13 (View.ld (Val := Elt Ideal) (e' := .bf16) x0 (Rect.unit ![0, 0, 0] ![1, 128, 64] inb_S4x128x64_S1x128x64_0_0_0)))
    (View.ld (Val := Elt Ideal) (e' := .bf16) x0 (Rect.unit ![1, 0, 0] ![1, 128, 64] inb_S4x128x64_S1x128x64_1_0_0))
    (View.ld (Val := Elt Ideal) (e' := .bf16) x0 (Rect.unit ![2, 0, 0] ![1, 128, 64] inb_S4x128x64_S1x128x64_2_0_0))
    (View.ld (Val := Elt Ideal) (e' := .bf16) x0 (Rect.unit ![3, 0, 0] ![1, 128, 64] inb_S4x128x64_S1x128x64_3_0_0))

/-- Four heads' gradients, one under the other. -/
def grads : FVec Ideal S512x64 .bf16 :=
  k0_pay15
    (View.ld (Val := Elt Ideal) (e' := .bf16) x11 (Rect.unit ![0, 0, 0] ![1, 128, 64] inb_S4x128x64_S1x128x64_0_0_0))
    (View.ld (Val := Elt Ideal) (e' := .bf16) x11 (Rect.unit ![1, 0, 0] ![1, 128, 64] inb_S4x128x64_S1x128x64_1_0_0))
    (View.ld (Val := Elt Ideal) (e' := .bf16) x11 (Rect.unit ![2, 0, 0] ![1, 128, 64] inb_S4x128x64_S1x128x64_2_0_0))
    (View.ld (Val := Elt Ideal) (e' := .bf16) x11 (Rect.unit ![3, 0, 0] ![1, 128, 64] inb_S4x128x64_S1x128x64_3_0_0))

/-- Four heads' logarithms of the softmax's sum, one under the other. -/
def lses : FVec Ideal S512x1 .f32 :=
  k0_pay16
    (View.ld (Val := Elt Ideal) (e' := .f32) x10 (Rect.unit ![0, 0, 0] ![1, 128, 1] inb_S4x128x1_S1x128x1_0_0_0))
    (View.ld (Val := Elt Ideal) (e' := .f32) x10 (Rect.unit ![1, 0, 0] ![1, 128, 1] inb_S4x128x1_S1x128x1_1_0_0))
    (View.ld (Val := Elt Ideal) (e' := .f32) x10 (Rect.unit ![2, 0, 0] ![1, 128, 1] inb_S4x128x1_S1x128x1_2_0_0))
    (View.ld (Val := Elt Ideal) (e' := .f32) x10 (Rect.unit ![3, 0, 0] ![1, 128, 1] inb_S4x128x1_S1x128x1_3_0_0))

theorem stack_ix (j : Fin 640) (d : Fin 64) : stack x1 x2 x3 x4 (ix2 j d) =
    if h : j.val < 256 then x1 (ix3 0 ⟨j.val, h⟩ d) else
    if h : j.val - 256 < 128 then x2 (ix3 0 ⟨j.val - 256, h⟩ d) else
    if h : j.val - 256 - 128 < 128 then x3 (ix3 0 ⟨j.val - 256 - 128, h⟩ d) else
    x4 (ix3 0 ⟨j.val - 256 - 128 - 128, by omega⟩ d) := by
  pointwise [stack, k0_pay11]

theorem queries_ix (r : Fin 512) (d : Fin 64) : queries x0 (ix2 r d) =
    x0 (ix3 ⟨r.val / 128, by omega⟩ ⟨r.val % 128, by omega⟩ d) := by
  pointwise [queries, k0_pay14, k0_pay13]
  split_ifs <;> first | (exfalso; omega) | rfl | (congr 2 <;> ext <;> simp <;> omega)

theorem grads_ix (r : Fin 512) (d : Fin 64) : grads x11 (ix2 r d) =
    x11 (ix3 ⟨r.val / 128, by omega⟩ ⟨r.val % 128, by omega⟩ d) := by
  pointwise [grads, k0_pay15]
  split_ifs <;> first | (exfalso; omega) | rfl | (congr 2 <;> ext <;> simp <;> omega)

theorem lses_ix (r : Fin 512) : lses x10 (ix2 r 0) =
    x10 (ix3 ⟨r.val / 128, by omega⟩ ⟨r.val % 128, by omega⟩ 0) := by
  pointwise [lses, k0_pay16]
  split_ifs <;> first | (exfalso; omega) | rfl | (congr 2 <;> ext <;> simp <;> omega)

end

end Cert.Attn.Blk
-- ==== Proof.BlockValues.lean ====
/-
  The stages of the kernel's body read at a row and a column.
-/
module

public import proofs.«01_k».proof.Proof.BlockStages

@[expose] public section

set_option maxRecDepth 16384

noncomputable section

namespace Cert.Attn.Blk

open Cert.KernelIdeal Cert.KernelIdeal.Gen Idealize.ShloMosaic Idealize.ShloMosaic.TcCoe Idealize.SL.Sem

section
variable (x0 : FVec Ideal S4x128x64 .bf16) (M : IVec S512x640 1) (K V : FVec Ideal S640x64 .bf16)
  (Q G : FVec Ideal S512x64 .bf16) (L : FVec Ideal S512x1 .f32) (S : FVec Ideal S512x640 .f32) (P : FVec Ideal S512x640 .f32)
  (D : FVec Ideal S512x640 .bf16) (x9 : FVec Ideal S4x1x1 .f32)

/-- The products of the queries and the keys. -/
def score : FVec Ideal S512x640 .f32 :=
  k0_pay17 K
    (k0_pay13 (View.ld (Val := Elt Ideal) (e' := .bf16) x0 (Rect.unit ![0, 0, 0] ![1, 128, 64] inb_S4x128x64_S1x128x64_0_0_0)))
    (View.ld (Val := Elt Ideal) (e' := .bf16) x0 (Rect.unit ![1, 0, 0] ![1, 128, 64] inb_S4x128x64_S1x128x64_1_0_0))
    (View.ld (Val := Elt Ideal) (e' := .bf16) x0 (Rect.unit ![2, 0, 0] ![1, 128, 64] inb_S4x128x64_S1x128x64_2_0_0))
    (View.ld (Val := Elt Ideal) (e' := .bf16) x0 (Rect.unit ![3, 0, 0] ![1, 128, 64] inb_S4x128x64_S1x128x64_3_0_0))

/-- A row's weights. -/
def prob : FVec Ideal S512x640 .f32 := k0_pay18 M L S (FloatOps.ofBits .f32 0x3E000000#32)

/-- A row's sum of weight times gradient of the weight. -/
def delta : FVec Ideal S512x1 .f32 := k0_pay20 M V G L S (FloatOps.ofBits .f32 0x3E000000#32)

/-- The gradient of the products of queries and keys. -/
def dscore : FVec Ideal S512x640 .bf16 := k0_pay22 M V G L S (FloatOps.ofBits .f32 0x3E000000#32)

/-- The weight of the row's sink, times the row's `delta`. -/
def dsink : FVec Ideal S512x1 .f32 := k0_pay21 M V G L S (FloatOps.ofBits .f32 0x3E000000#32)
    (View.ld (Val := Elt Ideal) (e' := .f32) x9 (Rect.unit ![0, 0, 0] ![1, 1, 1] inb_S4x1x1_S1x1x1_0_0_0))
    (View.ld (Val := Elt Ideal) (e' := .f32) x9 (Rect.unit ![1, 0, 0] ![1, 1, 1] inb_S4x1x1_S1x1x1_1_0_0))
    (View.ld (Val := Elt Ideal) (e' := .f32) x9 (Rect.unit ![2, 0, 0] ![1, 1, 1] inb_S4x1x1_S1x1x1_2_0_0))
    (View.ld (Val := Elt Ideal) (e' := .f32) x9 (Rect.unit ![3, 0, 0] ![1, 1, 1] inb_S4x1x1_S1x1x1_3_0_0))

theorem score_ix (r : Fin 512) (j : Fin 640) : score x0 K (ix2 r j) =
    ∑ d : Fin 64, queries x0 (ix2 r d) * K (ix2 j d) := by
  unfold score k0_pay17
  show (matmul dot_S512x64_S640x64_S512x640_1_1_0_0_n_n none (queries x0) K (constant S512x640 .f32 0x00000000#32)) (ix2 r j) = _
  generalize queries x0 = Y
  pointwise

theorem prob_ix (r : Fin 512) (j : Fin 640) : prob M L S (ix2 r j) =
    Ideal.exp (Scalar.select (M (ix2 r j)) (S (ix2 r j) * Ideal.ofBits .f32 0x3E000000#32) ⊥ - L (ix2 r 0)) := by
  pointwise [prob, k0_pay18]
  rfl

theorem delta_ix (r : Fin 512) : delta M V G L S (ix2 r 0) =
    ∑ j : Fin 640, prob M L S (ix2 r j) * ∑ d : Fin 64, G (ix2 r d) * V (ix2 j d) := by
  show (k0_pay20 M V G L S (FloatOps.ofBits .f32 0x3E000000#32) : FVec Ideal S512x1 .f32) (ix2 r 0) = _
  unfold k0_pay20
  rw [show (k0_pay18 M L S (FloatOps.ofBits .f32 0x3E000000#32) : FVec Ideal S512x640 .f32) = prob M L S from rfl]
  generalize prob M L S = Y
  pointwise [k0_pay19]

theorem dscore_ix (r : Fin 512) (j : Fin 640) : dscore M V G L S (ix2 r j) =
    prob M L S (ix2 r j) * (∑ d : Fin 64, G (ix2 r d) * V (ix2 j d) - delta M V G L S (ix2 r 0)) *
      Ideal.ofBits .f32 0x3E000000#32 := by
  unfold dscore k0_pay22
  rw [show (k0_pay18 M L S (FloatOps.ofBits .f32 0x3E000000#32) : FVec Ideal S512x640 .f32) = prob M L S from rfl,
    show (k0_pay20 M V G L S (FloatOps.ofBits .f32 0x3E000000#32) : FVec Ideal S512x1 .f32) = delta M V G L S from rfl]
  generalize prob M L S = Y
  generalize delta M V G L S = Z
  pointwise [k0_pay19]

theorem dsink_ix (r : Fin 512) : dsink M V G L S x9 (ix2 r 0) =
    Ideal.exp (x9 (ix3 ⟨r.val / 128, by omega⟩ 0 0) - L (ix2 r 0)) * delta M V G L S (ix2 r 0) := by
  unfold dsink k0_pay21
  rw [show (k0_pay20 M V G L S (FloatOps.ofBits .f32 0x3E000000#32) : FVec Ideal S512x1 .f32) = delta M V G L S from rfl]
  generalize delta M V G L S = Z
  pointwise
  congr 2
  split_ifs <;> (congr 2; congr 1; ext; simp; omega)

theorem dkeys_ix (j : Fin 640) (d : Fin 64) : k0_pay33 Q D (ix2 j d) = ∑ r : Fin 512, D (ix2 r j) * Q (ix2 r d) := by
  pointwise [k0_pay33]

theorem dvals_ix (j : Fin 640) (d : Fin 64) : k0_pay34 G P (ix2 j d) = ∑ r : Fin 512, P (ix2 r j) * G (ix2 r d) := by
  pointwise [k0_pay34]

end

end Cert.Attn.Blk
-- ==== Proof.Blocks.lean ====
/-
  What one grid point leaves in each of the four output blocks, in terms of the stages of the body.
-/
module

public import proofs.«01_k».proof.Proof.BlockValues
public import Idealize.ShloMosaic.Lib.WritesUnit

@[expose] public section

set_option maxRecDepth 16384

noncomputable section

namespace Cert.Attn.Blk

open Cert.KernelIdeal Cert.KernelIdeal.Gen Idealize.ShloMosaic Idealize.ShloMosaic.TcCoe Idealize.SL.Sem

variable (m : (ℓ : Loc nD τ sig) → Buf (Elt Ideal) ℓ)

section
variable (c : Dev nD) (t : Fin cfg0.N)

/-- The stages on the blocks that a grid point reads. -/
def bM : IVec S512x640 1 := mask (grid0.coords t)
def bK : FVec Ideal S640x64 .bf16 := stack (iblk m c 1 t) (iblk m c 2 t) (iblk m c 3 t) (iblk m c 4 t)
def bV : FVec Ideal S640x64 .bf16 := stack (iblk m c 5 t) (iblk m c 6 t) (iblk m c 7 t) (iblk m c 8 t)
def bQ : FVec Ideal S512x64 .bf16 := queries (iblk m c 0 t)
def bG : FVec Ideal S512x64 .bf16 := grads (iblk m c 11 t)
def bL : FVec Ideal S512x1 .f32 := lses (iblk m c 10 t)
def bS : FVec Ideal S512x640 .f32 := score (iblk m c 0 t) (bK m c t)
def bP : FVec Ideal S512x640 .f32 := prob (bM t) (bL m c t) (bS m c t)
def bD : FVec Ideal S512x640 .bf16 := dscore (bM t) (bV m c t) (bG m c t) (bL m c t) (bS m c t)
def bE : FVec Ideal S512x1 .f32 := dsink (bM t) (bV m c t) (bG m c t) (bL m c t) (bS m c t) (iblk m c 9 t)
/-- What the point adds to the gradient of keys and values. -/
def bDK : FVec Ideal S640x64 .f32 := k0_pay33 (bQ m c t) (bD m c t)
def bDV : FVec Ideal S640x64 .f32 := k0_pay34 (bG m c t) (bP m c t)
/-- The gradient of the queries at the point. -/
def bDQ : FVec Ideal S512x64 .f32 := k0_pay23 (bM t) (bK m c t) (bV m c t) (bG m c t) (bL m c t) (bS m c t)
    (FloatOps.ofBits .f32 0x3E000000#32)
end

theorem bDQ_ix (c : Dev nD) (t : Fin cfg0.N) (r : Fin 512) (d : Fin 64) : bDQ m c t (ix2 r d) =
    ∑ j : Fin 640, bD m c t (ix2 r j) * bK m c t (ix2 j d) := by
  unfold bDQ k0_pay23
  rw [show (k0_pay22 (bM t) (bV m c t) (bG m c t) (bL m c t) (bS m c t) (FloatOps.ofBits .f32 0x3E000000#32) :
    FVec Ideal S512x640 .bf16) = bD m c t from rfl]
  generalize bD m c t = Y
  generalize bK m c t = Z
  pointwise

/-- A block's own 128 rows of a head. -/
abbrev row (g : Fin 4) (r : Fin 128) : Fin 512 := ⟨128 * g.val + r.val, by omega⟩

/-- The queries' gradient that the point leaves (a head's first point). -/
theorem dq_A (c : Dev nD) (t : Fin cfg0.N) (h0 : t.val % 34 = 0) (g : Fin 4) (r : Fin 128) (d : Fin 64) :
    (outsAt0 m c t.val t.isLt).1 (ix3 g r d) = bDQ m c t (ix2 (row g r) d) := by
  rw [outsAt0_A m c t h0]
  frame_out
  canon_tiles x h
  · idx_vars x
    show (k0_pay31 (bDQ m c t)) _ = _
    generalize bDQ m c t = Y
    pointwise [k0_pay31]
    exact congrArg Y (by congr 1 <;> ext <;> (try simp) <;> omega)
  · idx_vars x
    show (k0_pay29 (bDQ m c t)) _ = _
    generalize bDQ m c t = Y
    pointwise [k0_pay29]
    exact congrArg Y (by congr 1 <;> ext <;> (try simp) <;> omega)
  · idx_vars x
    show (k0_pay27 (bDQ m c t)) _ = _
    generalize bDQ m c t = Y
    pointwise [k0_pay27]
    exact congrArg Y (by congr 1 <;> ext <;> (try simp) <;> omega)
  · idx_vars x
    show (k0_pay25 (extractStridedSlice S128x64 ![0, 0] (bDQ m c t) slices_S512x64_o0_0_S128x64)) _ = _
    generalize bDQ m c t = Y
    pointwise [k0_pay25]
    exact congrArg Y (by congr 1 <;> ext <;> (try simp) <;> omega)

/-- The queries' gradient that the point leaves (any later point). -/
theorem dq_B (c : Dev nD) (t : Fin cfg0.N) (h0 : ¬t.val % 34 = 0) (g : Fin 4) (r : Fin 128) (d : Fin 64) :
    (outsAt0 m c t.val t.isLt).1 (ix3 g r d) = bDQ m c t (ix2 (row g r) d) := by
  rw [outsAt0_B m c t h0]
  frame_out
  canon_tiles x h
  · idx_vars x
    show (k0_pay31 (bDQ m c t)) _ = _
    generalize bDQ m c t = Y
    pointwise [k0_pay31]
    exact congrArg Y (by congr 1 <;> ext <;> (try simp) <;> omega)
  · idx_vars x
    show (k0_pay29 (bDQ m c t)) _ = _
    generalize bDQ m c t = Y
    pointwise [k0_pay29]
    exact congrArg Y (by congr 1 <;> ext <;> (try simp) <;> omega)
  · idx_vars x
    show (k0_pay27 (bDQ m c t)) _ = _
    generalize bDQ m c t = Y
    pointwise [k0_pay27]
    exact congrArg Y (by congr 1 <;> ext <;> (try simp) <;> omega)
  · idx_vars x
    show (k0_pay25 (extractStridedSlice S128x64 ![0, 0] (bDQ m c t) slices_S512x64_o0_0_S128x64)) _ = _
    generalize bDQ m c t = Y
    pointwise [k0_pay25]
    exact congrArg Y (by congr 1 <;> ext <;> (try simp) <;> omega)

/-- Two stores that each add to what is there, the second over rows that may meet the first's: a row holds what it
    held, plus the first's addend if the row is among the first 256, plus the second's if it is in the window. -/
theorem step {κ : Kind} {sp : Space} (v : View sig κ sp S1x4608x64 .f32) (f : BufTy.Contents (Elt Ideal) v.ty)
    (L : List (View.Piece (Elt Ideal) S1x4608x64 .f32)) (D : FVec Ideal S640x64 .f32)
    (off : Fin 3 → ℕ) (o : ℕ) (hoff : off = ![0, o, 0]) (ho : o + 384 ≤ 4608)
    (inb1 : ∀ a : Fin S1x4608x64.rank, (![0, 0, 0] : Fin 3 → ℕ) a + (![1, 256, 64] : Fin 3 → ℕ) a ≤ S1x4608x64.size a)
    (inb3 : ∀ a : Fin S1x4608x64.rank, off a + (![1, 384, 64] : Fin 3 → ℕ) a ≤ S1x4608x64.size a)
    (W1 : Vec Ideal S1x256x64 .f32) (W3 : Vec Ideal S1x384x64 .f32)
    (h1 : ∀ (j : Fin 256) (d : Fin 64), W1 (ix3 0 j d) =
      View.read (Elt Ideal) v (v.writes (Elt Ideal) f L) (ix3 0 ⟨j.val, by omega⟩ d) + D (ix2 ⟨j.val, by omega⟩ d))
    (h3 : ∀ (j : Fin 384) (d : Fin 64), W3 (ix3 0 j d) =
      View.read (Elt Ideal) v (v.writes (Elt Ideal) f (⟨Rect.unit ![0, 0, 0] ![1, 256, 64] inb1, W1⟩ :: L))
        (ix3 0 ⟨o + j.val, by omega⟩ d) + D (ix2 ⟨256 + j.val, by omega⟩ d))
    (ρ : Fin 4608) (d : Fin 64) :
    View.read (Elt Ideal) v (v.writes (Elt Ideal) f (⟨Rect.unit off ![1, 384, 64] inb3, W3⟩ ::
        ⟨Rect.unit ![0, 0, 0] ![1, 256, 64] inb1, W1⟩ :: L)) (ix3 0 ρ d) =
      View.read (Elt Ideal) v (v.writes (Elt Ideal) f L) (ix3 0 ρ d) +
        (if h : ρ.val < 256 then D (ix2 ⟨ρ.val, by omega⟩ d) else 0) +
        (if h : o ≤ ρ.val ∧ ρ.val < o + 384 then D (ix2 ⟨256 + (ρ.val - o), by omega⟩ d) else 0) := by
  have inner : ∀ ρ' : Fin 4608, View.read (Elt Ideal) v (v.writes (Elt Ideal) f
      (⟨Rect.unit ![0, 0, 0] ![1, 256, 64] inb1, W1⟩ :: L)) (ix3 0 ρ' d) =
      View.read (Elt Ideal) v (v.writes (Elt Ideal) f L) (ix3 0 ρ' d) +
        (if h : ρ'.val < 256 then D (ix2 ⟨ρ'.val, by omega⟩ d) else 0) := by
    intro ρ'
    by_cases h : ρ'.val < 256
    · rw [dif_pos h]
      refine (View.read_writes_cons_unit_of_mem v f inb1 W1 L (ix3 0 ρ' d)
        (ix3 (n0 := 1) (n1 := 256) (n2 := 64) 0 ⟨ρ'.val, h⟩ d) rfl ?_).trans (h1 ⟨ρ'.val, h⟩ d)
      intro a
      fin_cases a <;> simp
    · rw [dif_neg h, add_zero]
      refine View.read_writes_cons_unit_of_not_mem v f inb1 W1 L (ix3 0 ρ' d) rfl 1 (.inr ?_)
      simp
      omega
  by_cases h : o ≤ ρ.val ∧ ρ.val < o + 384
  · rw [dif_pos h]
    refine (View.read_writes_cons_unit_of_mem v f inb3 W3 _ (ix3 0 ρ d)
      (ix3 (n0 := 1) (n1 := 384) (n2 := 64) 0 ⟨ρ.val - o, by omega⟩ d) hoff ?_).trans ((h3 ⟨ρ.val - o, by omega⟩ d).trans ?_)
    · intro a
      fin_cases a <;> simp
      omega
    · have e : (⟨o + (ρ.val - o), by omega⟩ : Fin 4608) = ρ := Fin.ext (by simp; omega)
      refine congrArg (· + _) ((congrArg (fun z => View.read (Elt Ideal) v (v.writes (Elt Ideal) f
        (⟨Rect.unit ![0, 0, 0] ![1, 256, 64] inb1, W1⟩ :: L)) (ix3 0 z d)) e).trans (inner ρ))
  · rw [dif_neg h, add_zero, ← inner]
    refine View.read_writes_cons_unit_of_not_mem v f inb3 W3 _ (ix3 0 ρ d) hoff 1 ?_
    simp
    omega

end Cert.Attn.Blk
-- ==== Proof.BlockSums.lean ====
/-
  What one grid point leaves in the accumulated output blocks: what it found there (zero at a head's first point) and
  the point's own addend.
-/
module

public import proofs.«01_k».proof.Proof.Blocks
public import Idealize.ShloMosaic.Lib.Pipeline.ReadBack

@[expose] public section

set_option maxRecDepth 16384
set_option maxHeartbeats 2000000

noncomputable section

namespace Cert.Attn.Blk

open Cert.KernelIdeal Cert.KernelIdeal.Gen Idealize.ShloMosaic Idealize.ShloMosaic.TcCoe Idealize.SL.Sem

variable (m : (ℓ : Loc nD τ sig) → Buf (Elt Ideal) ℓ)

theorem pay1_ix (D : FVec Ideal S640x64 .f32) (X : Vec Ideal S1x256x64 .f32) (j : Fin 256) (d : Fin 64) :
    k0_pay1 D (k0_pay35 X) (ix3 0 j d) = X (ix3 0 j d) + D (ix2 ⟨j.val, by omega⟩ d) := by
  pointwise [k0_pay1, k0_pay35]

theorem pay2_ix (D : FVec Ideal S640x64 .f32) (X : Vec Ideal S1x256x64 .f32) (j : Fin 256) (d : Fin 64) :
    k0_pay2 D X (ix3 0 j d) = X (ix3 0 j d) + D (ix2 ⟨j.val, by omega⟩ d) := by
  pointwise [k0_pay2]

theorem pay3_ix (D : FVec Ideal S640x64 .f32) (X : Vec Ideal S1x384x64 .f32) (j : Fin 384) (d : Fin 64) :
    k0_pay3 D X (ix3 0 j d) = X (ix3 0 j d) + D (ix2 ⟨256 + j.val, by omega⟩ d) := by
  pointwise [k0_pay3]

theorem pay4_ix (D : FVec Ideal S640x64 .f32) (X : Vec Ideal S1x384x64 .f32) (j : Fin 384) (d : Fin 64) :
    k0_pay4 D X (ix3 0 j d) = X (ix3 0 j d) + D (ix2 ⟨256 + j.val, by omega⟩ d) := by
  pointwise [k0_pay4]

/-- A load of the first 256 rows, and of the window's rows, read at a row. -/
theorem idx_first (inb : ∀ a : Fin S1x4608x64.rank, (![0, 0, 0] : Fin 3 → ℕ) a + (![1, 256, 64] : Fin 3 → ℕ) a ≤ S1x4608x64.size a)
    (j : Fin 256) (d : Fin 64) : (Rect.unit (s := S1x4608x64) ![0, 0, 0] ![1, 256, 64] inb).idx
      (ix3 (n0 := 1) (n1 := 256) (n2 := 64) 0 j d) = ix3 0 ⟨j.val, by omega⟩ d := by
  funext a
  apply Fin.ext
  fin_cases a <;> simp [Rect.idx_unit_val]

theorem idx_window (off : Fin 3 → ℕ) (o : ℕ) (hoff : off = ![0, o, 0]) (ho : o + 384 ≤ 4608)
    (inb : ∀ a : Fin S1x4608x64.rank, off a + (![1, 384, 64] : Fin 3 → ℕ) a ≤ S1x4608x64.size a)
    (j : Fin 384) (d : Fin 64) : (Rect.unit (s := S1x4608x64) off ![1, 384, 64] inb).idx
      (ix3 (n0 := 1) (n1 := 384) (n2 := 64) 0 j d) = ix3 0 ⟨o + j.val, by omega⟩ d := by
  subst hoff
  funext a
  apply Fin.ext
  fin_cases a <;> simp [Rect.idx_unit_val]

theorem dk_A (c : Dev nD) (t : Fin cfg0.N) (h0 : t.val % 34 = 0) (ρ : Fin 4608) (d : Fin 64) :
    (outsAt0 m c t.val t.isLt).2.1 (ix3 0 ρ d) =
      (if h : ρ.val < 256 then bDK m c t (ix2 ⟨ρ.val, by omega⟩ d) else 0) +
        (if h : 128 * (grid0.coords t 1).val ≤ ρ.val ∧ ρ.val < 128 * (grid0.coords t 1).val + 384 then
          bDK m c t (ix2 ⟨256 + (ρ.val - 128 * (grid0.coords t 1).val), by omega⟩ d) else 0) := by
  have hi : (grid0.coords t 1).val < 34 := (grid0.coords t 1).isLt
  rw [outsAt0_A m c t h0]
  frame_out
  refine (congrFun (View.read_writes_junk_eq_canon (ms0_13 t).view _) _).symm.trans ?_
  have hz : ∀ y, View.read (Elt Ideal) (ms0_13 t).view ((ms0_13 t).view.writes (Elt Ideal) (ms0_13 t).view.junk
      [⟨Rect.unit ![0, 0, 0] ![1, 4608, 64] inb_S1x4608x64_S1x4608x64_0_0_0, k0_pay5 (F := Ideal)⟩]) y = (0 : EReal) := by
    intro y
    rw [View.read_writes_junk_eq_canon, View.canon_cons_unit_lit _ _ _ (by decide)]
    idx_vars y
    pointwise [k0_pay5]
  refine (step _ _ _ (bDK m c t) _ (128 * (grid0.coords t 1).val) (k0_off1_eq _) (by omega) _ _ _ _ ?_ ?_ ρ d).trans ?_
  · intro j d
    refine (pay1_ix _ _ j d).trans (congrArg (· + _) ?_)
    rw [View.readCov_eq_canon', ← View.read_writes_junk_eq_canon (ms0_13 t).view]
    exact (hz _).trans (hz _).symm
  · intro j d
    refine (pay3_ix _ _ j d).trans (congrArg (· + _) ?_)
    rw [View.readCov_eq_canon', ← View.read_writes_junk_eq_canon (ms0_13 t).view]
    exact congrArg _ (idx_window _ _ (k0_off1_eq _) (by omega) _ j d)
  · rw [hz, zero_add]

theorem dk_B (c : Dev nD) (t : Fin cfg0.N) (h0 : ¬t.val % 34 = 0) (ρ : Fin 4608) (d : Fin 64) :
    (outsAt0 m c t.val t.isLt).2.1 (ix3 0 ρ d) =
      (outsAt0 m c (t.val - 1) (by omega)).2.1 (ix3 0 ρ d) +
        (if h : ρ.val < 256 then bDK m c t (ix2 ⟨ρ.val, by omega⟩ d) else 0) +
        (if h : 128 * (grid0.coords t 1).val ≤ ρ.val ∧ ρ.val < 128 * (grid0.coords t 1).val + 384 then
          bDK m c t (ix2 ⟨256 + (ρ.val - 128 * (grid0.coords t 1).val), by omega⟩ d) else 0) := by
  have hi : (grid0.coords t 1).val < 34 := (grid0.coords t 1).isLt
  rw [outsAt0_B m c t h0]
  frame_out
  refine (step _ _ _ (bDK m c t) _ (128 * (grid0.coords t 1).val) (k0_off1_eq _) (by omega) _ _ _ _ ?_ ?_ ρ d).trans ?_
  · intro j d
    refine (pay1_ix _ _ j d).trans (congrArg (· + _) ?_)
    rw [View.ld_apply, idx_first]
    exact (congrFun (Memref.IsWhole.read_unread _ _) _).symm
  · intro j d
    refine (pay3_ix _ _ j d).trans (congrArg (· + _) ?_)
    rw [View.ld_apply, idx_window _ _ (k0_off1_eq _) (by omega)]
  · exact congrArg (fun z => z + _ + _) (congrFun (Memref.IsWhole.read_unread _ _) _)

theorem dv_A (c : Dev nD) (t : Fin cfg0.N) (h0 : t.val % 34 = 0) (ρ : Fin 4608) (d : Fin 64) :
    (outsAt0 m c t.val t.isLt).2.2.1 (ix3 0 ρ d) =
      (if h : ρ.val < 256 then bDV m c t (ix2 ⟨ρ.val, by omega⟩ d) else 0) +
        (if h : 128 * (grid0.coords t 1).val ≤ ρ.val ∧ ρ.val < 128 * (grid0.coords t 1).val + 384 then
          bDV m c t (ix2 ⟨256 + (ρ.val - 128 * (grid0.coords t 1).val), by omega⟩ d) else 0) := by
  have hi : (grid0.coords t 1).val < 34 := (grid0.coords t 1).isLt
  rw [outsAt0_A m c t h0]
  frame_out
  refine (congrFun (View.read_writes_junk_eq_canon (ms0_14 t).view _) _).symm.trans ?_
  have hz : ∀ y, View.read (Elt Ideal) (ms0_14 t).view ((ms0_14 t).view.writes (Elt Ideal) (ms0_14 t).view.junk
      [⟨Rect.unit ![0, 0, 0] ![1, 4608, 64] inb_S1x4608x64_S1x4608x64_0_0_0, k0_pay6 (F := Ideal)⟩]) y = (0 : EReal) := by
    intro y
    rw [View.read_writes_junk_eq_canon, View.canon_cons_unit_lit _ _ _ (by decide)]
    idx_vars y
    pointwise [k0_pay6]
  refine (step _ _ _ (bDV m c t) _ (128 * (grid0.coords t 1).val) (k0_off1_eq _) (by omega) _ _ _ _ ?_ ?_ ρ d).trans ?_
  · intro j d
    refine (pay2_ix _ _ j d).trans (congrArg (· + _) ?_)
    rw [View.readCov_eq_canon', ← View.read_writes_junk_eq_canon (ms0_14 t).view]
    exact (hz _).trans (hz _).symm
  · intro j d
    refine (pay4_ix _ _ j d).trans (congrArg (· + _) ?_)
    rw [View.readCov_eq_canon', ← View.read_writes_junk_eq_canon (ms0_14 t).view]
    exact congrArg _ (idx_window _ _ (k0_off1_eq _) (by omega) _ j d)
  · rw [hz, zero_add]

theorem dv_B (c : Dev nD) (t : Fin cfg0.N) (h0 : ¬t.val % 34 = 0) (ρ : Fin 4608) (d : Fin 64) :
    (outsAt0 m c t.val t.isLt).2.2.1 (ix3 0 ρ d) =
      (outsAt0 m c (t.val - 1) (by omega)).2.2.1 (ix3 0 ρ d) +
        (if h : ρ.val < 256 then bDV m c t (ix2 ⟨ρ.val, by omega⟩ d) else 0) +
        (if h : 128 * (grid0.coords t 1).val ≤ ρ.val ∧ ρ.val < 128 * (grid0.coords t 1).val + 384 then
          bDV m c t (ix2 ⟨256 + (ρ.val - 128 * (grid0.coords t 1).val), by omega⟩ d) else 0) := by
  have hi : (grid0.coords t 1).val < 34 := (grid0.coords t 1).isLt
  rw [outsAt0_B m c t h0]
  frame_out
  refine (step _ _ _ (bDV m c t) _ (128 * (grid0.coords t 1).val) (k0_off1_eq _) (by omega) _ _ _ _ ?_ ?_ ρ d).trans ?_
  · intro j d
    refine (pay2_ix _ _ j d).trans (congrArg (· + _) ?_)
    rw [View.ld_apply, idx_first]
    exact (congrFun (Memref.IsWhole.read_unread _ _) _).symm
  · intro j d
    refine (pay4_ix _ _ j d).trans (congrArg (· + _) ?_)
    rw [View.ld_apply, idx_window _ _ (k0_off1_eq _) (by omega)]
  · exact congrArg (fun z => z + _ + _) (congrFun (Memref.IsWhole.read_unread _ _) _)

end Cert.Attn.Blk
-- ==== Proof.BlockSinks.lean ====
/-
  What one grid point leaves in the accumulated output blocks: what it found there (zero at a head's first point) and
  the point's own addend.
-/
module

public import proofs.«01_k».proof.Proof.Blocks
public import Idealize.ShloMosaic.Lib.Pipeline.ReadBack

@[expose] public section

set_option maxRecDepth 16384
set_option maxHeartbeats 2000000

noncomputable section

namespace Cert.Attn.Blk

open Cert.KernelIdeal Cert.KernelIdeal.Gen Idealize.ShloMosaic Idealize.ShloMosaic.TcCoe Idealize.SL.Sem

variable (m : (ℓ : Loc nD τ sig) → Buf (Elt Ideal) ℓ)

theorem k0_pay32_ix (E : FVec Ideal S512x1 .f32) (X : Vec Ideal S1x1x1 .f32) (x : S1x1x1.Idx) : k0_pay32 E X x =
    X (ix3 0 0 0) + (0 - ∑ r : Fin 128, E (ix2 (row 3 r) 0)) := by
  idx_vars x
  pointwise [k0_pay32]
  refine congrArg (fun z => _ + (0 - z)) (Finset.sum_congr rfl fun r _ => congrArg E ?_)
  congr 1
  all_goals (ext; simp)

theorem k0_pay30_ix (E : FVec Ideal S512x1 .f32) (X : Vec Ideal S1x1x1 .f32) (x : S1x1x1.Idx) : k0_pay30 E X x =
    X (ix3 0 0 0) + (0 - ∑ r : Fin 128, E (ix2 (row 2 r) 0)) := by
  idx_vars x
  pointwise [k0_pay30]
  refine congrArg (fun z => _ + (0 - z)) (Finset.sum_congr rfl fun r _ => congrArg E ?_)
  congr 1
  all_goals (ext; simp)

theorem k0_pay28_ix (E : FVec Ideal S512x1 .f32) (X : Vec Ideal S1x1x1 .f32) (x : S1x1x1.Idx) : k0_pay28 E X x =
    X (ix3 0 0 0) + (0 - ∑ r : Fin 128, E (ix2 (row 1 r) 0)) := by
  idx_vars x
  pointwise [k0_pay28]
  refine congrArg (fun z => _ + (0 - z)) (Finset.sum_congr rfl fun r _ => congrArg E ?_)
  congr 1
  all_goals (ext; simp)

theorem k0_pay26_ix (E : FVec Ideal S512x1 .f32) (X : Vec Ideal S1x1x1 .f32) (x : S1x1x1.Idx) : k0_pay26 E X x =
    X (ix3 0 0 0) + (0 - ∑ r : Fin 128, E (ix2 (row 0 r) 0)) := by
  idx_vars x
  pointwise [k0_pay26]
  refine congrArg (fun z => _ + (0 - z)) (Finset.sum_congr rfl fun r _ => congrArg E ?_)
  congr 1
  all_goals (ext; simp)

theorem ds_B (c : Dev nD) (t : Fin cfg0.N) (h0 : ¬t.val % 34 = 0) (g : Fin 4) :
    (outsAt0 m c t.val t.isLt).2.2.2 (ix3 g 0 0) = (outsAt0 m c (t.val - 1) (by omega)).2.2.2 (ix3 g 0 0) + (0 - ∑ r : Fin 128, bE m c t (ix2 (row g r) 0)) := by
  rw [outsAt0_B m c t h0]
  frame_out
  canon_tiles x h
  · idx_vars x
    obtain rfl : g = 3 := Fin.ext (by simp; omega)
    show k0_pay32 (bE m c t) _ _ = _
    refine (k0_pay32_ix (bE m c t) _ _).trans ?_
    refine congrArg (· + _) (congrArg (outsAt0 m c (t.val - 1) _).2.2.2 ?_)
    funext a
    apply Fin.ext
    fin_cases a <;> simp
  · idx_vars x
    obtain rfl : g = 2 := Fin.ext (by simp; omega)
    show k0_pay30 (bE m c t) _ _ = _
    refine (k0_pay30_ix (bE m c t) _ _).trans ?_
    refine congrArg (· + _) (congrArg (outsAt0 m c (t.val - 1) _).2.2.2 ?_)
    funext a
    apply Fin.ext
    fin_cases a <;> simp
  · idx_vars x
    obtain rfl : g = 1 := Fin.ext (by simp; omega)
    show k0_pay28 (bE m c t) _ _ = _
    refine (k0_pay28_ix (bE m c t) _ _).trans ?_
    refine congrArg (· + _) (congrArg (outsAt0 m c (t.val - 1) _).2.2.2 ?_)
    funext a
    apply Fin.ext
    fin_cases a <;> simp
  · idx_vars x
    obtain rfl : g = 0 := Fin.ext (by simp; omega)
    show k0_pay26 (bE m c t) _ _ = _
    refine (k0_pay26_ix (bE m c t) _ _).trans ?_
    refine congrArg (· + _) (congrArg (outsAt0 m c (t.val - 1) _).2.2.2 ?_)
    funext a
    apply Fin.ext
    fin_cases a <;> simp

theorem ds_A (c : Dev nD) (t : Fin cfg0.N) (h0 : t.val % 34 = 0) (g : Fin 4) :
    (outsAt0 m c t.val t.isLt).2.2.2 (ix3 g 0 0) = (0 - ∑ r : Fin 128, bE m c t (ix2 (row g r) 0)) := by
  rw [outsAt0_A m c t h0]
  frame_out
  refine (congrFun (View.read_writes_junk_eq_canon (ms0_15 t).view _) _).symm.trans ?_
  fin_cases g
  · show View.read (e := .f32) (Elt Ideal) _ _ (ix3 0 0 0) = 0 - ∑ r : Fin 128, bE m c t (ix2 (row 0 r) 0)
    refine (View.read_writes_cons_unit_of_not_mem _ _ _ _ _ _ rfl 0 (.inl (by simp))).trans ?_
    refine (View.read_writes_cons_unit_of_not_mem _ _ _ _ _ _ rfl 0 (.inl (by simp))).trans ?_
    refine (View.read_writes_cons_unit_of_not_mem _ _ _ _ _ _ rfl 0 (.inl (by simp))).trans ?_
    refine (View.read_writes_cons_unit_of_mem _ _ _ _ _ _ (ix3 (n0 := 1) (n1 := 1) (n2 := 1) 0 0 0) rfl
      (by intro a; fin_cases a <;> simp)).trans ?_
    show k0_pay26 (bE m c t) _ _ = _
    refine (k0_pay26_ix (bE m c t) _ _).trans ?_
    rw [View.readCov_fill _ _ _ _ _ (by decide)]
    refine (congrArg (· + _) ?_).trans (zero_add _)
    rw [View.ld_apply]
    exact Ideal.ofBits_zero_f32
  · show View.read (e := .f32) (Elt Ideal) _ _ (ix3 1 0 0) = 0 - ∑ r : Fin 128, bE m c t (ix2 (row 1 r) 0)
    refine (View.read_writes_cons_unit_of_not_mem _ _ _ _ _ _ rfl 0 (.inl (by simp))).trans ?_
    refine (View.read_writes_cons_unit_of_not_mem _ _ _ _ _ _ rfl 0 (.inl (by simp))).trans ?_
    refine (View.read_writes_cons_unit_of_mem _ _ _ _ _ _ (ix3 (n0 := 1) (n1 := 1) (n2 := 1) 0 0 0) rfl
      (by intro a; fin_cases a <;> simp)).trans ?_
    show k0_pay28 (bE m c t) _ _ = _
    refine (k0_pay28_ix (bE m c t) _ _).trans ?_
    rw [View.readCov_skip _ _ _ _ _ (by decide), View.readCov_fill _ _ _ _ _ (by decide)]
    refine (congrArg (· + _) ?_).trans (zero_add _)
    rw [View.ld_apply]
    exact Ideal.ofBits_zero_f32
  · show View.read (e := .f32) (Elt Ideal) _ _ (ix3 2 0 0) = 0 - ∑ r : Fin 128, bE m c t (ix2 (row 2 r) 0)
    refine (View.read_writes_cons_unit_of_not_mem _ _ _ _ _ _ rfl 0 (.inl (by simp))).trans ?_
    refine (View.read_writes_cons_unit_of_mem _ _ _ _ _ _ (ix3 (n0 := 1) (n1 := 1) (n2 := 1) 0 0 0) rfl
      (by intro a; fin_cases a <;> simp)).trans ?_
    show k0_pay30 (bE m c t) _ _ = _
    refine (k0_pay30_ix (bE m c t) _ _).trans ?_
    rw [View.readCov_skip _ _ _ _ _ (by decide), View.readCov_skip _ _ _ _ _ (by decide), View.readCov_fill _ _ _ _ _ (by decide)]
    refine (congrArg (· + _) ?_).trans (zero_add _)
    rw [View.ld_apply]
    exact Ideal.ofBits_zero_f32
  · show View.read (e := .f32) (Elt Ideal) _ _ (ix3 3 0 0) = 0 - ∑ r : Fin 128, bE m c t (ix2 (row 3 r) 0)
    refine (View.read_writes_cons_unit_of_mem _ _ _ _ _ _ (ix3 (n0 := 1) (n1 := 1) (n2 := 1) 0 0 0) rfl
      (by intro a; fin_cases a <;> simp)).trans ?_
    show k0_pay32 (bE m c t) _ _ = _
    refine (k0_pay32_ix (bE m c t) _ _).trans ?_
    rw [View.readCov_skip _ _ _ _ _ (by decide), View.readCov_skip _ _ _ _ _ (by decide), View.readCov_skip _ _ _ _ _ (by decide), View.readCov_fill _ _ _ _ _ (by decide)]
    refine (congrArg (· + _) ?_).trans (zero_add _)
    rw [View.ld_apply]
    exact Ideal.ofBits_zero_f32

end Cert.Attn.Blk
-- ==== Proof.Accum.lean ====
/-
  The kernel's result arrays, entry by entry. The grid is four key/value heads of 34 steps; the point of head `h` and
  step `i` is `34 * h + i`. The query gradient is written step by step, the other three results are summed over
  the 34 steps of a head.
-/
module

public import proofs.«01_k».proof.Proof.BlockSums
public import proofs.«01_k».proof.Proof.BlockSinks
public import proofs.«01_k».proof.Proof.Gen.KernelIdeal.Value

@[expose] public section

set_option maxRecDepth 16384
set_option maxHeartbeats 1000000

noncomputable section

namespace Cert.Attn.Blk

open Cert.KernelIdeal Cert.KernelIdeal.Gen Idealize.ShloMosaic Idealize.ShloMosaic.TcCoe Idealize.SL.Sem Pipeline

variable (m : (ℓ : Loc nD τ sig) → Buf (Elt Ideal) ℓ) (c : Dev nD)

/-- The grid point of head `h`, step `i`. -/
def pt (h : Fin 4) (i : Fin 34) : Fin cfg0.N := ⟨34 * h.val + i.val, by have := h.isLt; have := i.isLt; show _ < 136; omega⟩

/-- What one point adds to a row of the padded key gradient: its context columns, and its window columns. -/
def addend (B : FVec Ideal S640x64 .f32) (i : Nat) (ρ : Fin 4608) (d : Fin 64) : Ideal .f32 :=
  (if h : ρ.val < 256 then B (ix2 ⟨ρ.val, by omega⟩ d) else 0)
    + (if h : 128 * i ≤ ρ.val ∧ ρ.val < 128 * i + 384 then B (ix2 ⟨256 + (ρ.val - 128 * i), by omega⟩ d) else 0)

theorem coord0 : ∀ t : Fin cfg0.N, (grid0.coords t 0).val = t.val / 34 := (by decide +kernel : ∀ t : Fin grid0.N, _)
theorem coord1 : ∀ t : Fin cfg0.N, (grid0.coords t 1).val = t.val % 34 := (by decide +kernel : ∀ t : Fin grid0.N, _)

/-- The head a point works for. -/
def headOf (t : Fin cfg0.N) : Fin 4 := ⟨t.val / 34, by have : t.val < 136 := t.isLt; omega⟩

theorem idx12 : ∀ t : Fin cfg0.N, win0_12.index t = ![t.val / 34, t.val % 34, 0] := (by decide +kernel : ∀ t : Fin grid0.N, _)
theorem idx13 : ∀ t : Fin cfg0.N, win0_13.index t = ![t.val / 34, 0, 0] := (by decide +kernel : ∀ t : Fin grid0.N, _)
theorem idx14 : ∀ t : Fin cfg0.N, win0_14.index t = ![t.val / 34, 0, 0] := (by decide +kernel : ∀ t : Fin grid0.N, _)
theorem idx15 : ∀ t : Fin cfg0.N, win0_15.index t = ![t.val / 34, 0, 0] := (by decide +kernel : ∀ t : Fin grid0.N, _)

/-- The key gradient of a head over the padded rows. -/
def totK (h : Fin 4) (ρ : Fin 4608) (d : Fin 64) : Ideal .f32 := ∑ i : Fin 34, addend (bDK m c (pt h i)) i.val ρ d

/-- The value gradient of a head over the padded rows. -/
def totV (h : Fin 4) (ρ : Fin 4608) (d : Fin 64) : Ideal .f32 := ∑ i : Fin 34, addend (bDV m c (pt h i)) i.val ρ d

/-- The sink gradient of a query head of a key/value head. -/
def totS (h : Fin 4) (g : Fin 4) : Ideal .f32 := ∑ i : Fin 34, (0 - ∑ r : Fin 128, bE m c (pt h i) (ix2 (row g r) 0))

theorem run_k (t : Fin cfg0.N) (hr : t.val % 34 = 33) (ρ : Fin 4608) (d : Fin 64) :
    (outsAt0 m c t.val t.isLt).2.1 (ix3 0 ρ d) = totK m c (headOf t) ρ d := by
  have key := eq_sum_fin_of_reset_step_apply_of_flush (ι := Fin 4608 × Fin 64) (M := EReal)
    (fun n hn x => (outsAt0 m c n hn).2.1 (ix3 0 x.1 x.2)) 34 (fun _ => 0)
    (fun t x => addend (bDK m c t) (t.val % 34) x.1 x.2)
    (fun t h0 x => (dk_A m c t h0 x.1 x.2).trans (by rw [← coord1 t]; exact (zero_add _).symm))
    (fun t h0 x => (dk_B m c t h0 x.1 x.2).trans (by rw [← coord1 t]; exact add_assoc _ _ _)) t hr (ρ, d)
  refine key.trans ((zero_add _).trans (Finset.sum_congr rfl fun s _ => ?_))
  have e : (34 * (t.val / 34) + s.val) % 34 = s.val := by omega
  simp only [e]
  rfl

theorem run_v (t : Fin cfg0.N) (hr : t.val % 34 = 33) (ρ : Fin 4608) (d : Fin 64) :
    (outsAt0 m c t.val t.isLt).2.2.1 (ix3 0 ρ d) = totV m c (headOf t) ρ d := by
  have key := eq_sum_fin_of_reset_step_apply_of_flush (ι := Fin 4608 × Fin 64) (M := EReal)
    (fun n hn x => (outsAt0 m c n hn).2.2.1 (ix3 0 x.1 x.2)) 34 (fun _ => 0)
    (fun t x => addend (bDV m c t) (t.val % 34) x.1 x.2)
    (fun t h0 x => (dv_A m c t h0 x.1 x.2).trans (by rw [← coord1 t]; exact (zero_add _).symm))
    (fun t h0 x => (dv_B m c t h0 x.1 x.2).trans (by rw [← coord1 t]; exact add_assoc _ _ _)) t hr (ρ, d)
  refine key.trans ((zero_add _).trans (Finset.sum_congr rfl fun s _ => ?_))
  have e : (34 * (t.val / 34) + s.val) % 34 = s.val := by omega
  simp only [e]
  rfl

theorem run_s (t : Fin cfg0.N) (hr : t.val % 34 = 33) (g : Fin 4) :
    (outsAt0 m c t.val t.isLt).2.2.2 (ix3 g 0 0) = totS m c (headOf t) g := by
  have key := eq_sum_fin_of_reset_step_apply_of_flush (ι := Fin 4) (M := EReal)
    (fun n hn x => (outsAt0 m c n hn).2.2.2 (ix3 x 0 0)) 34 (fun _ => 0)
    (fun t x => 0 - ∑ r : Fin 128, bE m c t (ix2 (row x r) 0))
    (fun t h0 x => (ds_A m c t h0 x).trans (zero_add _).symm) (fun t h0 x => ds_B m c t h0 x) t hr g
  exact key.trans (zero_add _)

theorem dq_at (t : Fin cfg0.N) (g : Fin 4) (r : Fin 128) (d : Fin 64) :
    (outsAt0 m c t.val t.isLt).1 (ix3 g r d) = bDQ m c t (ix2 (row g r) d) := by
  by_cases h0 : t.val % 34 = 0
  · exact dq_A m c t h0 g r d
  · exact dq_B m c t h0 g r d

/-- The query gradient of head `n0` at row `n1`: the row of the step that works on it. -/
def totQ (n0 : Fin 16) (n1 : Fin 4352) (d : Fin 64) : Ideal .f32 :=
  bDQ m c (pt ⟨n0.val / 4, by omega⟩ ⟨n1.val / 128, by omega⟩)
    (ix2 (row ⟨n0.val % 4, Nat.mod_lt _ (by decide)⟩ ⟨n1.val % 128, Nat.mod_lt _ (by decide)⟩) d)

end Cert.Attn.Blk
-- ==== Proof.BlockReads.lean ====
/-
  What a grid point reads, entry by entry, over the five arguments: the point of head `h`, step `i` works on the query
  rows `128 * i …` of the four heads `4 * h …`, on the 256 context keys of head `h` and on the 384 padded rows from
  `128 * i` on.
-/
module

public import proofs.«01_k».proof.Proof.Entry
public import proofs.«01_k».proof.Proof.Accum
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Attn.Blk

open Cert.KernelIdeal Cert.KernelIdeal.Gen Idealize.ShloMosaic Idealize.ShloMosaic.TcCoe Idealize.SL.Sem
open Cert.Attn.Entry

variable (m : (ℓ : Loc nD τ sig) → Buf (Elt Ideal) ℓ) (c : Dev nD)

/-- The query head, the query row and the padded key row under a point's own coordinates. -/
def qhead (t : Fin cfg0.N) (a : Fin 4) : Fin 16 := ⟨4 * (t.val / 34) + a.val, by have : t.val < 136 := t.isLt; omega⟩
def qrow (t : Fin cfg0.N) (r : Fin 128) : Fin 4352 := ⟨128 * (t.val % 34) + r.val, by omega⟩
def krow (t : Fin cfg0.N) (j : Fin 384) : Fin 4608 := ⟨128 * (t.val % 34) + j.val, by omega⟩

/-- The padded row under a column of a point's scores. -/
def colRow (t : Fin cfg0.N) (j : Fin 640) : Fin 4608 :=
  if h : j.val < 256 then ⟨j.val, by omega⟩ else krow t ⟨j.val - 256, by omega⟩

theorem idx0 : ∀ t : Fin cfg0.N, win0_0.index t = ![t.val / 34, t.val % 34, 0] := (by decide +kernel : ∀ t : Fin grid0.N, _)

theorem rd_q (t : Fin cfg0.N) (a : Fin 4) (r : Fin 128) (d : Fin 64) :
    iblk m c 0 t (ix3 a r d) = V m c main_v37 (ix3 (qhead t a) (qrow t r) d) := by
  have ht : t.val < 136 := t.isLt
  blk_ext [iblk, qhead, qrow, krow, headOf, idx0 t]

theorem idx11 : ∀ t : Fin cfg0.N, win0_11.index t = ![t.val / 34, t.val % 34, 0] := (by decide +kernel : ∀ t : Fin grid0.N, _)

theorem rd_g (t : Fin cfg0.N) (a : Fin 4) (r : Fin 128) (d : Fin 64) :
    iblk m c 11 t (ix3 a r d) = V m c main_v50 (ix3 (qhead t a) (qrow t r) d) := by
  have ht : t.val < 136 := t.isLt
  blk_ext [iblk, qhead, qrow, krow, headOf, idx11 t]

theorem idx10 : ∀ t : Fin cfg0.N, win0_10.index t = ![t.val / 34, t.val % 34, 0] := (by decide +kernel : ∀ t : Fin grid0.N, _)

theorem rd_l' (A : FVec Ideal S16x4352x1 .f32) (t : Fin cfg0.N) (a : Fin 4) (r : Fin 128) :
    ((cfg0.win 10).blk t).view.read (Elt Ideal) A (ix3 a r 0) = A (ix3 (qhead t a) (qrow t r) 0) := by
  have ht : t.val < 136 := t.isLt
  blk_ext [qhead, qrow, idx10 t]

theorem rd_l (t : Fin cfg0.N) (a : Fin 4) (r : Fin 128) :
    iblk m c 10 t (ix3 a r 0) = V m c main_v49 (ix3 (qhead t a) (qrow t r) 0) := by
  unfold iblk
  exact rd_l' (V m c main_v49) t a r

theorem idx9 : ∀ t : Fin cfg0.N, win0_9.index t = ![t.val / 34, 0, 0] := (by decide +kernel : ∀ t : Fin grid0.N, _)

theorem rd_s (t : Fin cfg0.N) (a : Fin 4) :
    iblk m c 9 t (ix3 a 0 0) = V m c main_v48 (ix3 (qhead t a) 0 0) := by
  have ht : t.val < 136 := t.isLt
  blk_ext [iblk, qhead, qrow, krow, headOf, idx9 t]

theorem idx1 : ∀ t : Fin cfg0.N, win0_1.index t = ![t.val / 34, 0, 0] := (by decide +kernel : ∀ t : Fin grid0.N, _)

theorem rd_kc (t : Fin cfg0.N) (j : Fin 256) (d : Fin 64) :
    iblk m c 1 t (ix3 0 j d) = V m c main_v42 (ix3 (headOf t) ⟨j.val, by omega⟩ d) := by
  have ht : t.val < 136 := t.isLt
  blk_ext [iblk, qhead, qrow, krow, headOf, idx1 t]

theorem idx2 : ∀ t : Fin cfg0.N, win0_2.index t = ![t.val / 34, t.val % 34 + 0, 0] := (by decide +kernel : ∀ t : Fin grid0.N, _)

theorem rd_k0 (t : Fin cfg0.N) (j : Fin 128) (d : Fin 64) :
    iblk m c 2 t (ix3 0 j d) = V m c main_v42 (ix3 (headOf t) (krow t ⟨0 + j.val, by omega⟩) d) := by
  have ht : t.val < 136 := t.isLt
  blk_ext [iblk, qhead, qrow, krow, headOf, idx2 t]

theorem idx3 : ∀ t : Fin cfg0.N, win0_3.index t = ![t.val / 34, t.val % 34 + 1, 0] := (by decide +kernel : ∀ t : Fin grid0.N, _)

theorem rd_k1 (t : Fin cfg0.N) (j : Fin 128) (d : Fin 64) :
    iblk m c 3 t (ix3 0 j d) = V m c main_v42 (ix3 (headOf t) (krow t ⟨128 + j.val, by omega⟩) d) := by
  have ht : t.val < 136 := t.isLt
  blk_ext [iblk, qhead, qrow, krow, headOf, idx3 t]

theorem idx4 : ∀ t : Fin cfg0.N, win0_4.index t = ![t.val / 34, t.val % 34 + 2, 0] := (by decide +kernel : ∀ t : Fin grid0.N, _)

theorem rd_k2 (t : Fin cfg0.N) (j : Fin 128) (d : Fin 64) :
    iblk m c 4 t (ix3 0 j d) = V m c main_v42 (ix3 (headOf t) (krow t ⟨256 + j.val, by omega⟩) d) := by
  have ht : t.val < 136 := t.isLt
  blk_ext [iblk, qhead, qrow, krow, headOf, idx4 t]

theorem idx5 : ∀ t : Fin cfg0.N, win0_5.index t = ![t.val / 34, 0, 0] := (by decide +kernel : ∀ t : Fin grid0.N, _)

theorem rd_vc (t : Fin cfg0.N) (j : Fin 256) (d : Fin 64) :
    iblk m c 5 t (ix3 0 j d) = V m c main_v47 (ix3 (headOf t) ⟨j.val, by omega⟩ d) := by
  have ht : t.val < 136 := t.isLt
  blk_ext [iblk, qhead, qrow, krow, headOf, idx5 t]

theorem idx6 : ∀ t : Fin cfg0.N, win0_6.index t = ![t.val / 34, t.val % 34 + 0, 0] := (by decide +kernel : ∀ t : Fin grid0.N, _)

theorem rd_v0 (t : Fin cfg0.N) (j : Fin 128) (d : Fin 64) :
    iblk m c 6 t (ix3 0 j d) = V m c main_v47 (ix3 (headOf t) (krow t ⟨0 + j.val, by omega⟩) d) := by
  have ht : t.val < 136 := t.isLt
  blk_ext [iblk, qhead, qrow, krow, headOf, idx6 t]

theorem idx7 : ∀ t : Fin cfg0.N, win0_7.index t = ![t.val / 34, t.val % 34 + 1, 0] := (by decide +kernel : ∀ t : Fin grid0.N, _)

theorem rd_v1 (t : Fin cfg0.N) (j : Fin 128) (d : Fin 64) :
    iblk m c 7 t (ix3 0 j d) = V m c main_v47 (ix3 (headOf t) (krow t ⟨128 + j.val, by omega⟩) d) := by
  have ht : t.val < 136 := t.isLt
  blk_ext [iblk, qhead, qrow, krow, headOf, idx7 t]

theorem idx8 : ∀ t : Fin cfg0.N, win0_8.index t = ![t.val / 34, t.val % 34 + 2, 0] := (by decide +kernel : ∀ t : Fin grid0.N, _)

theorem rd_v2 (t : Fin cfg0.N) (j : Fin 128) (d : Fin 64) :
    iblk m c 8 t (ix3 0 j d) = V m c main_v47 (ix3 (headOf t) (krow t ⟨256 + j.val, by omega⟩) d) := by
  have ht : t.val < 136 := t.isLt
  blk_ext [iblk, qhead, qrow, krow, headOf, idx8 t]

/-- The point's keys: a context column reads its own row, a window column the padded row under it. -/
theorem bK_ix (t : Fin cfg0.N) (j : Fin 640) (d : Fin 64) :
    bK m c t (ix2 j d) = padded (argK m c) (headOf t) (colRow t j) d := by
  unfold bK
  rw [stack_ix]
  unfold colRow
  split_ifs with h1 h2 h3
  · rw [rd_kc, in_k]
  · rw [rd_k0, in_k]
    congr 1
    apply Fin.ext
    show 128 * (t.val % 34) + (0 + (j.val - 256)) = 128 * (t.val % 34) + (j.val - 256)
    omega
  · rw [rd_k1, in_k]
    congr 1
    apply Fin.ext
    show 128 * (t.val % 34) + (128 + (j.val - 256 - 128)) = 128 * (t.val % 34) + (j.val - 256)
    omega
  · rw [rd_k2, in_k]
    congr 1
    apply Fin.ext
    show 128 * (t.val % 34) + (256 + (j.val - 256 - 128 - 128)) = 128 * (t.val % 34) + (j.val - 256)
    omega

/-- The point's values: a context column reads its own row, a window column the padded row under it. -/
theorem bV_ix (t : Fin cfg0.N) (j : Fin 640) (d : Fin 64) :
    bV m c t (ix2 j d) = padded (argV m c) (headOf t) (colRow t j) d := by
  unfold bV
  rw [stack_ix]
  unfold colRow
  split_ifs with h1 h2 h3
  · rw [rd_vc, in_v]
  · rw [rd_v0, in_v]
    congr 1
    apply Fin.ext
    show 128 * (t.val % 34) + (0 + (j.val - 256)) = 128 * (t.val % 34) + (j.val - 256)
    omega
  · rw [rd_v1, in_v]
    congr 1
    apply Fin.ext
    show 128 * (t.val % 34) + (128 + (j.val - 256 - 128)) = 128 * (t.val % 34) + (j.val - 256)
    omega
  · rw [rd_v2, in_v]
    congr 1
    apply Fin.ext
    show 128 * (t.val % 34) + (256 + (j.val - 256 - 128 - 128)) = 128 * (t.val % 34) + (j.val - 256)
    omega

/-- The point's queries. -/
theorem bQ_ix (t : Fin cfg0.N) (g : Fin 4) (r : Fin 128) (d : Fin 64) :
    bQ m c t (ix2 (row g r) d) = argQ m c (ix3 (qrow t r) (qhead t g) d) := by
  unfold bQ
  rw [queries_ix, rd_q, in_q]
  congr 2 <;> apply Fin.ext <;> simp [qrow, qhead, row] <;> omega

/-- The point's output gradients. -/
theorem bG_ix (t : Fin cfg0.N) (g : Fin 4) (r : Fin 128) (d : Fin 64) :
    bG m c t (ix2 (row g r) d) = argG m c (ix3 (qrow t r) (qhead t g) d) := by
  unfold bG
  rw [grads_ix, rd_g, in_g]
  congr 2 <;> apply Fin.ext <;> simp [qrow, qhead, row] <;> omega

/-- The point's log-sum-exp. -/
theorem bL_ix (t : Fin cfg0.N) (g : Fin 4) (r : Fin 128) :
    bL m c t (ix2 (row g r) 0) = Ref.lse (Ref.fullOf (argQ m c) (argK m c) (argS m c)) (ix3 (headOf t) g (qrow t r)) := by
  unfold bL
  rw [lses_ix, rd_l, in_l]
  congr 2 <;> apply Fin.ext <;> simp [qrow, qhead, row, headOf] <;> omega

/-- The point's sinks. -/
theorem bSink_ix (t : Fin cfg0.N) (g : Fin 4) (r : Fin 128) :
    iblk m c 9 t (ix3 ⟨(row g r).val / 128, by omega⟩ 0 0) = argS m c (ix2 (headOf t) g) := by
  rw [rd_s, in_s]
  congr 2 <;> apply Fin.ext <;> simp [qhead, row, headOf] <;> omega

end Cert.Attn.Blk
-- ==== Proof.RowMath.lean ====
/-
  One row of the attention, over the extended reals: a masked softmax with one more column (the sink) and its
  derivative. `F` are the row's masked scores (−∞ where a key is not seen), `p` the gradients of the weights, `M` any
  real number in place of the row's largest score. The kernel takes the weights as `exp (F - (M + log L))`; the
  reference divides by `L`, and writes the derivative as `(p / L - ∑ p * (1 / L²) * E) * E`.
-/
module

public import Idealize.ShloMosaic.PureOps.Ideal
public import Idealize.ShloMosaic.Lib.Pointwise
public import Mathlib.Analysis.SpecialFunctions.Log.Basic

@[expose] public section

noncomputable section

namespace Cert.Attn.Row

open Idealize.ShloMosaic

/-- A number that is not infinite. -/
def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩

theorem IsReal.add {x y : EReal} : IsReal x → IsReal y → IsReal (x + y)
  | ⟨a, ha⟩, ⟨b, hb⟩ => ⟨a + b, by rw [ha, hb, EReal.coe_add]⟩

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} {s : Finset ι} {f : ι → EReal} (h : ∀ i, IsReal (f i)) : IsReal (∑ i ∈ s, f i) := by
  choose g hg using h
  exact ⟨∑ i ∈ s, g i, by rw [← coe_sum]; exact Finset.sum_congr rfl fun i _ => hg i⟩

theorem IsReal.of_ne {x : EReal} (h1 : x ≠ ⊤) (h2 : x ≠ ⊥) : IsReal x := ⟨x.toReal, (EReal.coe_toReal h1 h2).symm⟩

theorem IsReal.zero : IsReal 0 := ⟨0, rfl⟩

/-- The negative of a sum of real numbers. -/
theorem neg_sum {ι : Type*} (s : Finset ι) {f : ι → EReal} (h : ∀ i, IsReal (f i)) :
    0 - ∑ i ∈ s, f i = ∑ i ∈ s, -f i := by
  choose g hg using h
  rw [Finset.sum_congr rfl fun i _ => hg i, coe_sum, Finset.sum_congr rfl fun i _ => congrArg Neg.neg (hg i),
    Finset.sum_congr rfl fun i _ => (EReal.coe_neg (g i)).symm, coe_sum, zero_sub, ← EReal.coe_neg,
    Finset.sum_neg_distrib]

theorem exp_bot_sub (M : ℝ) : Ideal.exp (⊥ - (M : EReal)) = 0 := by
  rw [sub_eq_add_neg, EReal.bot_add, Ideal.exp_bot]

theorem exp_sub (x M : ℝ) : Ideal.exp ((x : EReal) - (M : EReal)) = ((Real.exp (x - M) : ℝ) : EReal) := by
  rw [← EReal.coe_sub, Ideal.exp_coe]

section
variable {n : ℕ} (F p : Fin (n + 1) → EReal) (M : EReal)

/-- The exponentials, their sum, the weights, and the gradients' mean under the weights. -/
def ex (j : Fin (n + 1)) : EReal := Ideal.exp (F j - M)
def total : EReal := ∑ j, ex F M j
def weight (j : Fin (n + 1)) : EReal := Ideal.div (ex F M j) (total F M)
def mean : EReal := ∑ k : Fin n, weight F M k.castSucc * p k.castSucc

/-- The derivative as the reference writes it. -/
def slope (j : Fin (n + 1)) : EReal :=
  (Ideal.div (p j) (total F M) + -∑ k, p k * Ideal.div 1 (total F M * total F M) * ex F M k) * ex F M j

variable (hF : ∀ j, F j ≠ ⊤) (hs : F (Fin.last n) ≠ ⊥) (hM : IsReal M)
include hF hs hM

/-- The exponentials are real and not negative, their sum is positive. -/
theorem real_ex : ∃ (e : Fin (n + 1) → ℝ) (l : ℝ), (∀ j, ex F M j = (e j : EReal)) ∧ total F M = (l : EReal) ∧ 0 < l := by
  obtain ⟨r, rfl⟩ := hM
  have h : ∀ j, ∃ e : ℝ, ex F r j = (e : EReal) ∧ 0 ≤ e := by
    intro j
    by_cases hj : F j = ⊥
    · exact ⟨0, by rw [ex, hj, exp_bot_sub, EReal.coe_zero], le_rfl⟩
    · obtain ⟨x, hx⟩ := IsReal.of_ne (hF j) hj
      exact ⟨Real.exp (x - r), by rw [ex, hx, exp_sub], (Real.exp_pos _).le⟩
  choose e he h0 using h
  have hl : 0 < e (Fin.last n) := by
    obtain ⟨x, hx⟩ := IsReal.of_ne (hF (Fin.last n)) hs
    have h1 : (e (Fin.last n) : EReal) = ((Real.exp (x - r) : ℝ) : EReal) := by rw [← he, ex, hx, exp_sub]
    rw [EReal.coe_eq_coe_iff.mp h1]
    exact Real.exp_pos _
  refine ⟨e, ∑ j, e j, he, ?_, ?_⟩
  · rw [total, Finset.sum_congr rfl fun j _ => he j, coe_sum]
  · exact lt_of_lt_of_le hl (Finset.single_le_sum (f := e) (fun j _ => h0 j) (Finset.mem_univ _))

/-- The kernel's weights are the reference's. -/
theorem weight_eq (j : Fin (n + 1)) : Ideal.exp (F j - (M + Ideal.log (total F M))) = weight F M j := by
  obtain ⟨e, l, he, hl, h0⟩ := real_ex F M hF hs hM
  have hne : l ≠ 0 := h0.ne'
  rw [weight, he, hl, Ideal.div_coe hne, Ideal.log_coe, if_neg (not_le.mpr h0)]
  obtain ⟨r, rfl⟩ := hM
  rw [← EReal.coe_add]
  by_cases hj : F j = ⊥
  · have h1 := he j
    rw [ex, hj, exp_bot_sub] at h1
    rw [hj, exp_bot_sub, ← h1, zero_mul]
  · obtain ⟨x, hx⟩ := IsReal.of_ne (hF j) hj
    have h1 := he j
    rw [ex, hx, exp_sub] at h1
    rw [hx, exp_sub, ← h1, ← EReal.coe_mul, EReal.coe_eq_coe_iff, ← sub_sub, Real.exp_sub, Real.exp_log h0]
    ring

theorem weight_real (j : Fin (n + 1)) : IsReal (weight F M j) := by
  obtain ⟨e, l, he, hl, h0⟩ := real_ex F M hF hs hM
  exact ⟨e j * (1 / l), by rw [weight, he, hl, Ideal.div_coe h0.ne', EReal.coe_mul]⟩

variable (hp : ∀ j, IsReal (p j)) (hp0 : p (Fin.last n) = 0)
include hp

theorem mean_real : IsReal (mean F p M) := IsReal.sum fun k => (weight_real F M hF hs hM _).mul (hp _)

include hp0

/-- The kernel's derivative is the reference's. -/
theorem slope_eq (j : Fin (n + 1)) : slope F p M j = weight F M j * (p j - mean F p M) := by
  obtain ⟨e, l, he, hl, h0⟩ := real_ex F M hF hs hM
  choose q hq using hp
  have hne : l ≠ 0 := h0.ne'
  have hq0 : q (Fin.last n) = 0 := by
    have := hq (Fin.last n)
    rw [hp0] at this
    exact (EReal.coe_eq_zero.mp this.symm)
  have hw : ∀ k, weight F M k = ((e k * (1 / l) : ℝ) : EReal) := fun k => by
    rw [weight, he, hl, Ideal.div_coe hne, EReal.coe_mul]
  have hm : mean F p M = ((∑ k : Fin n, e k.castSucc * (1 / l) * q k.castSucc : ℝ) : EReal) := by
    rw [mean, ← coe_sum]
    exact Finset.sum_congr rfl fun k _ => by rw [hw, hq, EReal.coe_mul (_ * _)]
  have hsh : ∑ k, p k * Ideal.div 1 (total F M * total F M) * ex F M k
      = ((∑ k, q k * (1 / (l * l)) * e k : ℝ) : EReal) := by
    rw [← coe_sum]
    refine Finset.sum_congr rfl fun k _ => ?_
    rw [hl, ← EReal.coe_mul, Ideal.div_coe (mul_ne_zero hne hne), one_mul, hq, he, EReal.coe_mul, EReal.coe_mul]
  rw [slope, hsh, hw, hm, he, hl, hq, Ideal.div_coe hne, ← EReal.coe_neg, ← EReal.coe_mul, ← EReal.coe_add,
    ← EReal.coe_mul, ← EReal.coe_sub, ← EReal.coe_mul, EReal.coe_eq_coe_iff, Fin.sum_univ_castSucc, hq0]
  have h2 : ∑ k : Fin n, q k.castSucc * (1 / (l * l)) * e k.castSucc
      = (∑ k : Fin n, e k.castSucc * (1 / l) * q k.castSucc) * (1 / l) := by
    rw [Finset.sum_mul]
    refine Finset.sum_congr rfl fun k _ => ?_
    field_simp
  rw [h2]
  ring

end

/-- The largest of numbers below +∞, one of them above −∞, is real. -/
theorem top_real {ι : Type*} [Fintype ι] (f : ι → EReal) (h : ∀ i, f i ≠ ⊤) {i : ι} (hi : f i ≠ ⊥) :
    IsReal (Finset.univ.fold max ⊥ f) := by
  refine IsReal.of_ne (ne_of_lt (Finset.fold_max_lt _ |>.mpr ⟨bot_lt_top, fun x _ => lt_top_iff_ne_top.mpr (h x)⟩)) ?_
  exact ne_of_gt (lt_of_lt_of_le (bot_lt_iff_ne_bot.mpr hi) (Finset.le_fold_max _ |>.mpr (Or.inr ⟨i, Finset.mem_univ _, le_rfl⟩)))

end Cert.Attn.Row
-- ==== Proof.RefReads.lean ====
/-
  The reference's stages at an index, and their rows as the rows of RowMath.
-/
module

public import proofs.«01_k».proof.Proof.RefTerms
public import proofs.«01_k».proof.Proof.RowMath
public import proofs.«01_k».proof.Proof.Words

@[expose] public section

set_option maxRecDepth 16384

noncomputable section

namespace Cert.Attn.Ref

open Cert.ReferenceIdeal Cert.ReferenceIdeal.Gen Idealize.ShloMosaic Idealize.ShloMosaic.TcCoe
open Cert.Attn.Row

/-- A query sees the context keys and, if it is latent, the latent keys at most 128 away. -/
def Sees (n k : Fin 4352) : Prop := k.val < 256 ∨ (256 ≤ n.val ∧ n.val ≤ k.val + 128 ∧ k.val ≤ n.val + 128)

instance (n k : Fin 4352) : Decidable (Sees n k) := by unfold Sees; infer_instance

theorem seen_ix (h g : Fin 4) (n k : Fin 4352) : seenAll (ix4 h g n k) = 1#1 ↔ Sees n k := by
  pointwise [seenAll, seen]
  have hk : Affine.IsInt (BitVec.ofNat 32 k.val) (k.val : ℤ) := Affine.ofNat _ ⟨rfl, by omega⟩
  have hn : Affine.IsInt (BitVec.ofNat 32 n.val) (n.val : ℤ) := Affine.ofNat _ ⟨rfl, by omega⟩
  have hs : Affine.IsInt (IntOp.subi (BitVec.ofNat 32 k.val) (BitVec.ofNat 32 n.val)) ((k.val : ℤ) - n.val) :=
    Affine.subi hk hn (by omega)
  have e1 := Words.toInt_of hk
  have e2 := Words.toInt_of hn
  have e3 := Words.toInt_of hs
  have e4 := Words.toInt_absi (x := IntOp.subi (BitVec.ofNat 32 k.val) (BitVec.ofNat 32 n.val)) (by omega)
  rw [IntOp.ori_eq_one, IntOp.andi_eq_one, IntOp.cmpi_slt, IntOp.cmpi_sge, IntOp.cmpi_sle]
  erw [e1, e2, e4]
  rw [e3]
  have c1 : (256#32 : BitVec 32).toInt = 256 := by decide
  have c2 : (128#32 : BitVec 32).toInt = 128 := by decide
  rw [c1, c2, abs_le]
  unfold Sees
  omega

theorem heads_ix (q : FVec Ideal S4352x16x64 .bf16) (n : Fin 4352) (h g : Fin 4) (d : Fin 64) :
    heads q (ix4 n h g d) = q (ix3 n ⟨h.val * 4 + g.val, by omega⟩ d) := by
  pointwise [heads]

theorem scores_ix (q k) (h g : Fin 4) (n j : Fin 4352) : scores q k (ix4 h g n j) =
    (∑ d : Fin 64, k (ix3 j h d) * q (ix4 n h g d)) * Ideal.ofBits .f32 0x3E000000#32 := by
  pointwise [scores]

theorem full_ix (sc s) (h g : Fin 4) (n : Fin 4352) (j : Fin 4353) : full sc s (ix4 h g n j) =
    if h1 : j.val < 4352 then Scalar.select (seenAll (ix4 h g n ⟨j.val, h1⟩)) (sc (ix4 h g n ⟨j.val, h1⟩)) ⊥
    else s (ix2 h g) := by
  pointwise [full]
  have e : Ideal.ofBits .f32 0xFF800000#32 = ⊥ := by simp [Ideal.ofBits, Ideal.ieee]
  rw [e]

theorem expo_ix (f M) (h g : Fin 4) (n : Fin 4352) (j : Fin 4353) : expo f M (ix4 h g n j) =
    Ideal.exp (f (ix4 h g n j) - M (ix3 h g n)) := by
  pointwise [expo]

theorem norm_ix (e) (h g : Fin 4) (n : Fin 4352) : norm e (ix4 h g n 0) = ∑ j : Fin 4353, e (ix4 h g n j) := by
  pointwise [norm]

theorem probs_ix (e l) (h g : Fin 4) (n j : Fin 4352) : probs e l (ix4 h g n j) =
    Ideal.div (e (ix4 h g n ⟨j.val, by omega⟩)) (l (ix4 h g n 0)) := by
  pointwise [probs, wide]

theorem gradProbs_ix (g' v) (h g : Fin 4) (n : Fin 4352) (j : Fin 4353) : gradProbs g' v (ix4 h g n j) =
    if h1 : j.val < 4352 then ∑ d : Fin 64, g' (ix4 h d g n) * v (ix3 ⟨j.val, h1⟩ h d) else 0 := by
  pointwise [gradProbs]

theorem gradOut_ix (g') (h g : Fin 4) (n : Fin 4352) (d : Fin 64) : gradOut g' (ix4 h d g n) = g' (ix4 n h g d) := by
  pointwise [gradOut]

theorem share_ix (dp e l) (h g : Fin 4) (n : Fin 4352) : share dp e l (ix3 h g n) =
    -∑ j : Fin 4353, dp (ix4 h g n j) * Ideal.div 1 (l (ix4 h g n 0) * l (ix4 h g n 0)) * e (ix4 h g n j) := by
  pointwise [share, wide]
  simp

theorem gradFull_ix (dp e l sh) (h g : Fin 4) (n : Fin 4352) (j : Fin 4353) : gradFull dp e l sh (ix4 h g n j) =
    (Ideal.div (dp (ix4 h g n j)) (l (ix4 h g n 0)) + sh (ix3 h g n)) * e (ix4 h g n j) := by
  pointwise [gradFull, wide]

theorem gradScores_ix (ds) (h g : Fin 4) (n j : Fin 4352) : gradScores ds (ix4 h j n g) =
    Scalar.select (seenAll (ix4 h g n j)) (ds (ix4 h g n ⟨j.val, by omega⟩) * Ideal.ofBits .f32 0x3E000000#32) 0 := by
  pointwise [gradScores]

theorem gradQ_ix (ds k) (a : Fin 16) (n : Fin 4352) (d : Fin 64) : gradQ ds k (ix3 a n d) =
    ∑ j : Fin 4352, ds (ix4 ⟨a.val / 4, by omega⟩ j n ⟨a.val % 4, by omega⟩) * k (ix3 j ⟨a.val / 4, by omega⟩ d) := by
  pointwise [gradQ]

theorem rows_ix (x) (h : Fin 4) (ρ : Fin 4608) (d : Fin 64) : rows x (ix3 h ρ d) =
    if h1 : ρ.val < 256 then x (ix3 ⟨ρ.val, by omega⟩ h d)
    else if h2 : 384 ≤ ρ.val ∧ ρ.val < 4480 then x (ix3 ⟨ρ.val - 128, by omega⟩ h d) else 0 := by
  pointwise [rows]
  split_ifs
  all_goals first | rfl | (exfalso; omega) | skip
  rw [dif_pos (show 384 ≤ ρ.val ∧ ρ.val < 4480 by omega)]
  congr 2
  apply Fin.ext
  show 256 + (ρ.val - 256 - 128) = ρ.val - 128
  omega

theorem gradK_ix (ds q) (h : Fin 4) (j : Fin 4352) (d : Fin 64) : gradK ds q (ix3 j h d) =
    ∑ n : Fin 4352, ∑ g : Fin 4, ds (ix4 h j n g) * q (ix4 n h g d) := by
  pointwise [gradK]

theorem gradV_ix (g' p) (h : Fin 4) (j : Fin 4352) (d : Fin 64) : gradV g' p (ix3 j h d) =
    ∑ g : Fin 4, ∑ n : Fin 4352, g' (ix4 h d g n) * p (ix4 h g n j) := by
  pointwise [gradV]

theorem gradSink_ix (ds) (a : Fin 16) : gradSink ds (ix3 a 0 0) =
    ∑ n : Fin 4352, ds (ix4 ⟨a.val / 4, by omega⟩ ⟨a.val % 4, by omega⟩ n 4352) := by
  pointwise [gradSink]
  simp

end Cert.Attn.Ref
-- ==== Proof.Window.lean ====
/-
  Where a point's columns stand among the keys. A point of step `i` sees 256 context columns and 384 window columns, the
  padded rows from `128 * i` on; the columns its mask lets through at a row are exactly the keys that row's query
  sees, each once.
-/
module

public import proofs.«01_k».proof.Proof.BlockReads
public import proofs.«01_k».proof.Proof.RefReads

@[expose] public section

set_option maxRecDepth 16384

noncomputable section

namespace Cert.Attn.Blk

open Cert.KernelIdeal Cert.KernelIdeal.Gen Idealize.ShloMosaic Idealize.ShloMosaic.TcCoe Idealize.SL.Sem
open Cert.Attn.Entry Cert.Attn.Ref

/-- The key under a padded row (of use at the rows that hold one). -/
def rowKey (ρ : Fin 4608) : Fin 4352 := ⟨if ρ.val < 256 then ρ.val else (ρ.val - 128) % 4352, by split_ifs <;> omega⟩

/-- The padded rows that hold a key. -/
def Live (ρ : Fin 4608) : Prop := ρ.val < 256 ∨ (384 ≤ ρ.val ∧ ρ.val < 4480)

instance (ρ : Fin 4608) : Decidable (Live ρ) := by unfold Live; infer_instance

theorem padded_live (x : FVec Ideal S4352x4x64 .bf16) (h : Fin 4) (ρ : Fin 4608) (d : Fin 64) (hl : Live ρ) :
    padded x h ρ d = x (ix3 (rowKey ρ) h d) := by
  unfold padded Live at *
  have e : ∀ a : Fin 4352, a = rowKey ρ → x (ix3 a h d) = x (ix3 (rowKey ρ) h d) := fun a ha => by rw [ha]
  by_cases h1 : ρ.val < 256
  · rw [dif_pos h1]
    exact e _ (Fin.ext (by simp [rowKey, h1]))
  · have h2 : 384 ≤ ρ.val ∧ ρ.val < 4480 := by omega
    rw [dif_neg h1, dif_pos h2]
    refine e _ (Fin.ext ?_)
    simp only [rowKey, if_neg h1]
    omega

/-- The columns a point's mask lets through at row `r` of a head. -/
def Open (t : Fin cfg0.N) (r : Fin 128) (j : Fin 640) : Prop :=
  j.val < 256 ∨ (2 ≤ t.val % 34 ∧ 384 ≤ 128 * (t.val % 34) + (j.val - 256) ∧
    128 * (t.val % 34) + (j.val - 256) < 4480 ∧ 128 * (t.val % 34) + r.val ≤ 128 * (t.val % 34) + (j.val - 256) ∧
    128 * (t.val % 34) + (j.val - 256) ≤ 128 * (t.val % 34) + r.val + 256)

instance (t : Fin cfg0.N) (r : Fin 128) (j : Fin 640) : Decidable (Open t r j) := by unfold Open; infer_instance

theorem bM_ix (t : Fin cfg0.N) (g : Fin 4) (r : Fin 128) (j : Fin 640) : bM t (ix2 (row g r) j) = 1#1 ↔ Open t r j := by
  unfold bM
  rw [mask_ix, coord1]
  unfold Open
  have : (row g r).val = 128 * g.val + r.val := rfl
  omega

theorem open_live {t : Fin cfg0.N} {r : Fin 128} {j : Fin 640} (h : Open t r j) : Live (colRow t j) := by
  unfold Open at h
  unfold Live colRow krow
  split_ifs
  · left; assumption
  · right
    show 384 ≤ 128 * (t.val % 34) + (j.val - 256) ∧ 128 * (t.val % 34) + (j.val - 256) < 4480
    omega

theorem open_sees {t : Fin cfg0.N} {r : Fin 128} {j : Fin 640} (h : Open t r j) :
    Sees (qrow t r) (rowKey (colRow t j)) := by
  unfold Open at h
  unfold Sees
  show (if (colRow t j).val < 256 then (colRow t j).val else ((colRow t j).val - 128) % 4352) < 256 ∨
    (256 ≤ 128 * (t.val % 34) + r.val ∧
    128 * (t.val % 34) + r.val ≤ (if (colRow t j).val < 256 then (colRow t j).val else ((colRow t j).val - 128) % 4352) + 128
    ∧ (if (colRow t j).val < 256 then (colRow t j).val else ((colRow t j).val - 128) % 4352) ≤ 128 * (t.val % 34) + r.val + 128)
  by_cases hj : j.val < 256
  · have e : (colRow t j).val = j.val := by unfold colRow; rw [dif_pos hj]
    rw [e, if_pos hj]
    exact Or.inl hj
  · have e : (colRow t j).val = 128 * (t.val % 34) + (j.val - 256) := by unfold colRow; rw [dif_neg hj]; rfl
    rw [e]
    split_ifs <;> omega

/-- The column of a key that a row's query sees. -/
def colOf (t : Fin cfg0.N) (k : Fin 4352) : Fin 640 :=
  ⟨if k.val < 256 then k.val else (256 + (k.val + 128 - 128 * (t.val % 34))) % 640, by split_ifs <;> omega⟩

theorem colRow_val (t : Fin cfg0.N) (j : Fin 640) :
    (colRow t j).val = if j.val < 256 then j.val else 128 * (t.val % 34) + (j.val - 256) := by
  unfold colRow
  split_ifs <;> rfl

/-- A sum over a point's open columns is the sum over the keys that the row's query sees. -/
theorem sum_open (t : Fin cfg0.N) (r : Fin 128) (f : Fin 4352 → EReal) (hf : ∀ k, ¬Sees (qrow t r) k → f k = 0) :
    ∑ j : Fin 640, (if Open t r j then f (rowKey (colRow t j)) else 0) = ∑ k, f k := by
  rw [← Finset.sum_filter]
  have e : ∑ k, f k = ∑ k ∈ Finset.univ.filter (fun k => Sees (qrow t r) k), f k := by
    rw [Finset.sum_filter]
    exact Finset.sum_congr rfl fun k _ => by split_ifs with h; · rfl
                                             · exact hf k h
  rw [e]
  refine Finset.sum_nbij' (fun j => rowKey (colRow t j)) (colOf t) ?_ ?_ ?_ ?_ ?_
  · intro j hj
    rw [Finset.mem_filter] at hj ⊢
    exact ⟨Finset.mem_univ _, open_sees hj.2⟩
  · intro k hk
    rw [Finset.mem_filter] at hk ⊢
    refine ⟨Finset.mem_univ _, ?_⟩
    have h1 := hk.2
    unfold Sees qrow at h1
    unfold Open colOf
    simp only at h1 ⊢
    have := r.isLt
    have := k.isLt
    split_ifs <;> omega
  · intro j hj
    rw [Finset.mem_filter] at hj
    have h1 := hj.2
    unfold Open at h1
    apply Fin.ext
    simp only [colOf, rowKey, colRow_val]
    have := r.isLt
    have := j.isLt
    split_ifs <;> omega
  · intro k hk
    rw [Finset.mem_filter] at hk
    have h1 := hk.2
    unfold Sees qrow at h1
    simp only at h1
    apply Fin.ext
    simp only [rowKey, colRow_val, colOf]
    have := r.isLt
    have := k.isLt
    split_ifs <;> omega
  · intro j _
    rfl

/-- A point's 512 rows are 128 rows of each of four heads. -/
theorem sum_rows (f : Fin 512 → EReal) : ∑ x, f x = ∑ g : Fin 4, ∑ r : Fin 128, f (row g r) := by
  rw [← Fintype.sum_prod_type' (f := fun g r => f (row g r))]
  refine (Fintype.sum_equiv (finProdFinEquiv (m := 4) (n := 128)) _ _ fun x => congrArg f (Fin.ext ?_)).symm
  show 128 * x.1.val + x.2.val = x.2.val + 128 * x.1.val
  omega

/-- The 4352 query rows are 128 rows of each of 34 steps. -/
theorem sum_steps (h : Fin 4) (f : Fin 4352 → EReal) : ∑ n, f n = ∑ i : Fin 34, ∑ r : Fin 128, f (qrow (pt h i) r) := by
  rw [← Fintype.sum_prod_type' (f := fun i r => f (qrow (pt h i) r))]
  refine (Fintype.sum_equiv (finProdFinEquiv (m := 34) (n := 128)) _ _ fun x => congrArg f (Fin.ext ?_)).symm
  show 128 * ((34 * h.val + x.1.val) % 34) + x.2.val = x.2.val + 128 * x.1.val
  have := x.1.isLt
  omega

theorem headOf_pt (h : Fin 4) (i : Fin 34) : headOf (pt h i) = h := by
  apply Fin.ext
  show (34 * h.val + i.val) / 34 = h.val
  omega

/-- What a point adds to a padded row, when its addend's columns are products summed over its rows with a factor that
    vanishes at closed columns and at keys not seen. -/
theorem addend_eq (t : Fin cfg0.N) (B : FVec Ideal S640x64 .f32) (A : Fin 512 → Fin 640 → EReal) (Q : Fin 512 → EReal)
    (G : Fin 4 → Fin 4352 → Fin 4352 → EReal) (ρ : Fin 4608) (d : Fin 64)
    (hB : ∀ j, B (ix2 j d) = ∑ x, A x j * Q x)
    (hA : ∀ g r j, A (row g r) j = if Open t r j then G g (qrow t r) (rowKey (colRow t j)) else 0)
    (hG : ∀ g n k, ¬Sees n k → G g n k = 0) :
    addend B (t.val % 34) ρ d
      = if Live ρ then ∑ g : Fin 4, ∑ r : Fin 128, G g (qrow t r) (rowKey ρ) * Q (row g r) else 0 := by
  have hcol : ∀ j : Fin 640, B (ix2 j d) = ∑ g : Fin 4, ∑ r : Fin 128,
      (if Open t r j then G g (qrow t r) (rowKey (colRow t j)) else 0) * Q (row g r) := fun j => by
    rw [hB, sum_rows]
    exact Finset.sum_congr rfl fun g _ => Finset.sum_congr rfl fun r _ => by rw [hA]
  have hzero : ∀ j : Fin 640, (∀ r, ¬Open t r j) → B (ix2 j d) = 0 := fun j hj => by
    rw [hcol]
    exact Finset.sum_eq_zero fun g _ => Finset.sum_eq_zero fun r _ => by rw [if_neg (hj r), zero_mul]
  unfold addend
  by_cases h1 : ρ.val < 256
  · have hl : Live ρ := Or.inl h1
    rw [dif_pos h1, if_pos hl]
    have h2 : (if h : 128 * (t.val % 34) ≤ ρ.val ∧ ρ.val < 128 * (t.val % 34) + 384 then
        B (ix2 ⟨256 + (ρ.val - 128 * (t.val % 34)), by omega⟩ d) else 0) = 0 := by
      split_ifs with h
      · refine hzero _ fun r ho => ?_
        unfold Open at ho
        simp only at ho
        omega
      · rfl
    rw [h2, add_zero, hcol]
    refine Finset.sum_congr rfl fun g _ => Finset.sum_congr rfl fun r _ => ?_
    have ho : Open t r ⟨ρ.val, by omega⟩ := Or.inl h1
    have e : colRow t ⟨ρ.val, by omega⟩ = ρ := Fin.ext (by rw [colRow_val]; exact if_pos h1)
    rw [if_pos ho, e]
  · rw [dif_neg h1, zero_add]
    by_cases hw : 128 * (t.val % 34) ≤ ρ.val ∧ ρ.val < 128 * (t.val % 34) + 384
    · rw [dif_pos hw]
      have e : colRow t ⟨256 + (ρ.val - 128 * (t.val % 34)), by omega⟩ = ρ := Fin.ext (by
        rw [colRow_val]
        show (if 256 + (ρ.val - 128 * (t.val % 34)) < 256 then _ else _) = _
        rw [if_neg (by omega)]
        show 128 * (t.val % 34) + (256 + (ρ.val - 128 * (t.val % 34)) - 256) = ρ.val
        omega)
      by_cases hl : Live ρ
      · rw [if_pos hl, hcol]
        refine Finset.sum_congr rfl fun g _ => Finset.sum_congr rfl fun r _ => ?_
        rw [e]
        split_ifs with ho
        · rfl
        · rw [hG g (qrow t r) (rowKey ρ) fun hs => ho ?_]
          unfold Sees qrow rowKey at hs
          unfold Live at hl
          unfold Open
          simp only [if_neg h1] at hs ⊢
          omega
      · rw [if_neg hl]
        refine hzero _ fun r ho => hl ?_
        rw [← e]
        exact open_live ho
    · rw [dif_neg hw]
      by_cases hl : Live ρ
      · rw [if_pos hl]
        refine (Finset.sum_eq_zero fun g _ => Finset.sum_eq_zero fun r _ => ?_).symm
        rw [hG g (qrow t r) (rowKey ρ) fun hs => ?_, zero_mul]
        unfold Sees qrow rowKey at hs
        unfold Live at hl
        simp only [if_neg h1] at hs
        have := r.isLt
        omega
      · rw [if_neg hl]

end Cert.Attn.Blk
-- ==== Proof.Weights.lean ====
/-
  The reference's weights and its derivative of the softmax at finite arguments, and the kernel's forms of them: a
  row of the reference is a row of RowMath.
-/
module

public import proofs.«01_k».proof.Proof.RefReads

@[expose] public section

set_option maxRecDepth 16384

noncomputable section

namespace Cert.Attn.Ref

open Cert.ReferenceIdeal Cert.ReferenceIdeal.Gen Idealize.ShloMosaic Idealize.ShloMosaic.TcCoe
open Cert.Attn.Row

theorem neg_inf : Ideal.ofBits .f32 0xFF800000#32 = ⊥ := by simp [Ideal.ofBits, Ideal.ieee]

theorem max_at (Y : FVec Ideal S4x4x4352 .f32) (x : S4x4x4352.Idx) :
    maximumf (broadcastInDim S4x4x4352 ![] bcast_S_S4x4x4352 (constant S_ .f32 0xFF800000#32)) Y x = Y x := by
  idx_vars x
  pointwise
  rw [neg_inf]
  exact max_eq_right bot_le

theorem addlog_at (Y Z : FVec Ideal S4x4x4352 .f32) (x : S4x4x4352.Idx) :
    addf Y (Host.log Z) x = Y x + Ideal.log (Z x) := by
  idx_vars x
  pointwise

theorem widen_at (Z : FVec Ideal S4x4x4352 .f32) (h g : Fin 4) (n : Fin 4352) :
    broadcastInDim S4x4x4352x1 ![0, 1, 2] bcast_S4x4x4352_S4x4x4352x1_0_1_2 Z (ix4 h g n 0) = Z (ix3 h g n) := by
  pointwise

theorem top_eq (f : FVec Ideal S4x4x4352x4353 .f32) (x : S4x4x4352.Idx) : top f x = peak f x := max_at _ x

theorem lse_at (f : FVec Ideal S4x4x4352x4353 .f32) (h g : Fin 4) (n : Fin 4352) :
    lse f (ix3 h g n) = peak f (ix3 h g n) + Ideal.log (norm (expo f (peak f)) (ix4 h g n 0)) := by
  unfold lse norm
  generalize Host.reduceAdd (expo f (peak f)) (constant (F := Ideal) S_ .f32 0x00000000#32)
    reducesTo_S4x4x4352x4353_S4x4x4352_d3 h_S_ = Z
  generalize peak f = Y
  rw [addlog_at, widen_at]

theorem peak_fold (f : FVec Ideal S4x4x4352x4353 .f32) (hr : S4x4x4352x4353.Reduces [3] S4x4x4352) (x : S4x4x4352.Idx) :
    peak f x = (Finset.univ : Finset (Fin 4353)).fold FloatOps.maximumf (FloatOps.ofBits .f32 0xFF800000#32) (f ∘ hr.lift x) :=
  Host.reduce_eq_fold_single FloatOps.maximumf f (constant (F := Ideal) S_ .f32 0xFF800000#32)
      reducesTo_S4x4x4352x4353_S4x4x4352_d3 hr h_S_ x

theorem peak_real (f : FVec Ideal S4x4x4352x4353 .f32) (h1 : ∀ x, f x ≠ ⊤) (h2 : ∀ x, (x 3).val = 4352 → f x ≠ ⊥)
    (x : S4x4x4352.Idx) : IsReal (peak f x) := by
  have hr : S4x4x4352x4353.Reduces [3] S4x4x4352 := by decide
  rw [peak_fold f hr x]
  show IsReal ((Finset.univ : Finset (Fin 4353)).fold max (Ideal.ofBits .f32 0xFF800000#32) (f ∘ hr.lift x))
  rw [neg_inf]
  exact top_real (f ∘ hr.lift x) (fun i => h1 _) (i := (4352 : Fin 4353)) (h2 _ rfl)

theorem scale_real : IsReal (Ideal.ofBits .f32 0x3E000000#32) :=
  ⟨8388608 * (1 / 67108864), by rw [EReal.coe_mul]; simp [Ideal.ofBits, Ideal.ieee]; norm_num⟩

section
variable (q : FVec Ideal S4352x16x64 .bf16) (k v : FVec Ideal S4352x4x64 .bf16) (s : FVec Ideal S4x4 .f32)
  (g' : FVec Ideal S4352x16x64 .bf16)

/-- A row's masked scores, its largest one, and the gradients of its weights. -/
def rowF (h g : Fin 4) (n : Fin 4352) (j : Fin 4353) : EReal := fullOf q k s (ix4 h g n j)
def rowM (h g : Fin 4) (n : Fin 4352) : EReal := peak (fullOf q k s) (ix3 h g n)
def rowP (h g : Fin 4) (n : Fin 4352) (j : Fin 4353) : EReal := gradProbsOf v g' (ix4 h g n j)

theorem expoOf_ix (h g : Fin 4) (n : Fin 4352) (j : Fin 4353) :
    expoOf q k s (ix4 h g n j) = ex (rowF q k s h g n) (rowM q k s h g n) j := by
  unfold expoOf
  rw [expo_ix, top_eq]
  rfl

theorem normOf_ix (h g : Fin 4) (n : Fin 4352) :
    normOf q k s (ix4 h g n 0) = total (rowF q k s h g n) (rowM q k s h g n) := by
  unfold normOf
  rw [norm_ix]
  exact Finset.sum_congr rfl fun j _ => expoOf_ix q k s h g n j

theorem probsOf_ix (h g : Fin 4) (n j : Fin 4352) : probs (expoOf q k s) (normOf q k s) (ix4 h g n j)
    = weight (rowF q k s h g n) (rowM q k s h g n) (Fin.castSucc j) := by
  rw [probs_ix, normOf_ix, expoOf_ix]
  rfl

theorem gradFullOf_ix (h g : Fin 4) (n : Fin 4352) (j : Fin 4353) : gradFullOf q k v s g' (ix4 h g n j)
    = slope (rowF q k s h g n) (rowP v g' h g n) (rowM q k s h g n) j := by
  unfold gradFullOf
  rw [gradFull_ix, share_ix, normOf_ix]
  simp only [expoOf_ix, Row.slope, rowP]

theorem lse_ix (h g : Fin 4) (n : Fin 4352) : lse (fullOf q k s) (ix3 h g n)
    = rowM q k s h g n + Ideal.log (total (rowF q k s h g n) (rowM q k s h g n)) := by
  rw [lse_at, norm_ix]
  simp only [expo_ix]
  simp only [rowM, rowF, Row.total, Row.ex]

theorem rowP_last (h g : Fin 4) (n : Fin 4352) : rowP v g' h g n (Fin.last 4352) = 0 := by
  unfold rowP gradProbsOf
  rw [gradProbs_ix]
  exact dif_neg (by simp)

theorem rowP_key (h g : Fin 4) (n j : Fin 4352) : rowP v g' h g n (Fin.castSucc j)
    = ∑ d : Fin 64, g' (ix3 n ⟨h.val * 4 + g.val, by omega⟩ d) * v (ix3 j h d) := by
  unfold rowP gradProbsOf
  rw [gradProbs_ix, dif_pos (show (Fin.castSucc j).val < 4352 from j.isLt)]
  exact Finset.sum_congr rfl fun d _ => by rw [gradOut_ix, heads_ix]; rfl

theorem rowF_last (h g : Fin 4) (n : Fin 4352) : rowF q k s h g n (Fin.last 4352) = s (ix2 h g) := by
  unfold rowF fullOf
  rw [full_ix]
  exact dif_neg (by simp)

theorem rowF_key (h g : Fin 4) (n j : Fin 4352) : rowF q k s h g n (Fin.castSucc j)
    = if Sees n j then (∑ d : Fin 64, q (ix3 n ⟨h.val * 4 + g.val, by omega⟩ d) * k (ix3 j h d))
        * Ideal.ofBits .f32 0x3E000000#32 else ⊥ := by
  unfold rowF fullOf
  rw [full_ix, dif_pos (show (Fin.castSucc j).val < 4352 from j.isLt), scores_ix]
  have e : ∑ d : Fin 64, k (ix3 j h d) * heads q (ix4 n h g d)
      = ∑ d : Fin 64, q (ix3 n ⟨h.val * 4 + g.val, by omega⟩ d) * k (ix3 j h d) :=
    Finset.sum_congr rfl fun d _ => by rw [heads_ix, mul_comm]
  by_cases hs : Sees n j
  · rw [if_pos hs, ← e]
    have := (seen_ix h g n j).mpr hs
    show Scalar.select (seenAll (ix4 h g n j)) _ _ = _
    rw [this]
    rfl
  · rw [if_neg hs]
    have : seenAll (ix4 h g n j) ≠ 1#1 := fun hh => hs ((seen_ix h g n j).mp hh)
    show Scalar.select (seenAll (ix4 h g n j)) _ _ = _
    exact if_neg this

variable (hq : ∀ x, IsReal (q x)) (hk : ∀ x, IsReal (k x)) (hv : ∀ x, IsReal (v x)) (hs : ∀ x, IsReal (s x))
  (hg : ∀ x, IsReal (g' x))

include hq hk hs in
theorem rowF_top (h g : Fin 4) (n : Fin 4352) (j : Fin 4353) : rowF q k s h g n j ≠ ⊤ := by
  induction j using Fin.lastCases with
  | last =>
    rw [rowF_last]
    obtain ⟨r, hr⟩ := hs (ix2 h g)
    rw [hr]
    exact EReal.coe_ne_top r
  | cast j =>
    rw [rowF_key]
    split_ifs
    · obtain ⟨r, hr⟩ := (IsReal.sum (s := Finset.univ) fun d : Fin 64 => (hq (ix3 n ⟨h.val * 4 + g.val, by omega⟩ d)).mul (hk (ix3 j h d))).mul scale_real
      rw [hr]
      exact EReal.coe_ne_top r
    · exact bot_ne_top

include hs in
theorem rowF_sink (h g : Fin 4) (n : Fin 4352) : rowF q k s h g n (Fin.last 4352) ≠ ⊥ := by
  rw [rowF_last]
  obtain ⟨r, hr⟩ := hs (ix2 h g)
  rw [hr]
  exact EReal.coe_ne_bot r

include hq hk hs in
theorem rowM_real (h g : Fin 4) (n : Fin 4352) : IsReal (rowM q k s h g n) := by
  refine peak_real _ (fun x => ?_) (fun x hx => ?_) _
  · idx_vars x
    exact rowF_top q k s hq hk hs _ _ _ _
  · idx_vars x
    have : x3 = Fin.last 4352 := Fin.ext hx
    rw [this]
    exact rowF_sink q k s hs _ _ _

include hv hg in
theorem rowP_real (h g : Fin 4) (n : Fin 4352) (j : Fin 4353) : IsReal (rowP v g' h g n j) := by
  induction j using Fin.lastCases with
  | last => rw [rowP_last]; exact IsReal.zero
  | cast j => rw [rowP_key]; exact IsReal.sum fun d => (hg _).mul (hv _)

include hq hk hs in
/-- The kernel's weight from the log-sum-exp. -/
theorem kernel_weight (h g : Fin 4) (n : Fin 4352) (j : Fin 4353) :
    Ideal.exp (rowF q k s h g n j - lse (fullOf q k s) (ix3 h g n))
      = weight (rowF q k s h g n) (rowM q k s h g n) j := by
  rw [lse_ix]
  exact weight_eq _ _ (rowF_top q k s hq hk hs h g n) (rowF_sink q k s hs h g n) (rowM_real q k s hq hk hs h g n) j

include hq hk hv hs hg in
/-- The kernel's derivative of the masked scores. -/
theorem kernel_slope (h g : Fin 4) (n : Fin 4352) (j : Fin 4353) : gradFullOf q k v s g' (ix4 h g n j)
    = weight (rowF q k s h g n) (rowM q k s h g n) j
      * (rowP v g' h g n j - mean (rowF q k s h g n) (rowP v g' h g n) (rowM q k s h g n)) := by
  rw [gradFullOf_ix]
  exact slope_eq _ _ _ (rowF_top q k s hq hk hs h g n) (rowF_sink q k s hs h g n) (rowM_real q k s hq hk hs h g n)
    (rowP_real v g' hv hg h g n) (rowP_last v g' h g n) j

include hq hk hs in
theorem unseen_weight (h g : Fin 4) (n j : Fin 4352) (hj : ¬Sees n j) :
    weight (rowF q k s h g n) (rowM q k s h g n) (Fin.castSucc j) = 0 := by
  rw [← kernel_weight q k s hq hk hs, rowF_key, if_neg hj, sub_eq_add_neg, EReal.bot_add, Ideal.exp_bot]

end

end Cert.Attn.Ref
-- ==== Proof.Match.lean ====
/-
  The kernel's tiles of weights and of the derivative of the scores, at finite arguments: at an open column they hold
  the reference's value at the row's query and the column's key, and at a closed one zero.
-/
module

public import proofs.«01_k».proof.Proof.Window
public import proofs.«01_k».proof.Proof.Weights

@[expose] public section

set_option maxRecDepth 16384

noncomputable section

namespace Cert.Attn.Blk

open Cert.KernelIdeal Cert.KernelIdeal.Gen Idealize.ShloMosaic Idealize.ShloMosaic.TcCoe Idealize.SL.Sem
open Cert.Attn.Entry Cert.Attn.Ref Cert.Attn.Row

variable (m : (ℓ : Loc nD τ sig) → Buf (Elt Ideal) ℓ) (c : Dev nD)

/-- The reference's weight of a key for a query's head. -/
def wgt (h g : Fin 4) (n k : Fin 4352) : EReal :=
  weight (rowF (argQ m c) (argK m c) (argS m c) h g n) (rowM (argQ m c) (argK m c) (argS m c) h g n) (Fin.castSucc k)

/-- The reference's gradient of a product of query and key. -/
def gsc (h g : Fin 4) (n k : Fin 4352) : EReal :=
  gradScores (gradFullOf (argQ m c) (argK m c) (argV m c) (argS m c) (argG m c)) (ix4 h k n g)

/-- The reference's gradient of the sink's score at a row. -/
def gsk (h g : Fin 4) (n : Fin 4352) : EReal :=
  gradFullOf (argQ m c) (argK m c) (argV m c) (argS m c) (argG m c) (ix4 h g n (Fin.last 4352))

/-- The mean of a row's gradients under its weights. -/
def avg (h g : Fin 4) (n : Fin 4352) : EReal :=
  mean (rowF (argQ m c) (argK m c) (argS m c) h g n) (rowP (argV m c) (argG m c) h g n)
    (rowM (argQ m c) (argK m c) (argS m c) h g n)

variable (hq : ∀ x, IsReal (argQ m c x)) (hk : ∀ x, IsReal (argK m c x)) (hv : ∀ x, IsReal (argV m c x))
  (hs : ∀ x, IsReal (argS m c x)) (hg : ∀ x, IsReal (argG m c x))

include hq hk hs in
theorem wgt_unseen (h g : Fin 4) (n k : Fin 4352) (hn : ¬Sees n k) : wgt m c h g n k = 0 :=
  unseen_weight _ _ _ hq hk hs h g n k hn

theorem gsc_unseen (h g : Fin 4) (n k : Fin 4352) (hn : ¬Sees n k) : gsc m c h g n k = 0 := by
  unfold gsc
  rw [gradScores_ix]
  exact if_neg fun hh => hn ((seen_ix h g n k).mp hh)

include hq hk hv hs hg in
theorem gsc_seen (h g : Fin 4) (n k : Fin 4352) (hn : Sees n k) : gsc m c h g n k =
    wgt m c h g n k * (rowP (argV m c) (argG m c) h g n (Fin.castSucc k) - avg m c h g n)
      * Ideal.ofBits .f32 0x3E000000#32 := by
  unfold gsc
  rw [gradScores_ix]
  refine (if_pos ((seen_ix h g n k).mpr hn)).trans ?_
  exact congrArg (· * Ideal.ofBits .f32 0x3E000000#32)
    (kernel_slope (argQ m c) (argK m c) (argV m c) (argS m c) (argG m c) hq hk hv hs hg h g n (Fin.castSucc k))

theorem qhead_eq (t : Fin cfg0.N) (g : Fin 4) (hb : (headOf t).val * 4 + g.val < 16) :
    qhead t g = ⟨(headOf t).val * 4 + g.val, hb⟩ := by
  apply Fin.ext
  show 4 * (t.val / 34) + g.val = t.val / 34 * 4 + g.val
  omega

/-- The product of a row's query and an open column's key. -/
theorem bS_open (t : Fin cfg0.N) (g : Fin 4) (r : Fin 128) (j : Fin 640) (ho : Open t r j) :
    bS m c t (ix2 (row g r) j) * Ideal.ofBits .f32 0x3E000000#32 =
      rowF (argQ m c) (argK m c) (argS m c) (headOf t) g (qrow t r) (Fin.castSucc (rowKey (colRow t j))) := by
  rw [rowF_key, if_pos (open_sees ho)]
  unfold bS
  rw [score_ix]
  refine congrArg (· * Ideal.ofBits .f32 0x3E000000#32) (Finset.sum_congr rfl fun d _ => ?_)
  rw [bK_ix, padded_live _ _ _ _ (open_live ho)]
  exact congrArg (· * argK m c (ix3 (rowKey (colRow t j)) (headOf t) d))
    ((bQ_ix m c t g r d).trans (by rw [qhead_eq]))

/-- The product of a row's gradient and an open column's value. -/
theorem gv_open (t : Fin cfg0.N) (g : Fin 4) (r : Fin 128) (j : Fin 640) (ho : Open t r j) :
    ∑ d : Fin 64, bG m c t (ix2 (row g r) d) * bV m c t (ix2 j d) =
      rowP (argV m c) (argG m c) (headOf t) g (qrow t r) (Fin.castSucc (rowKey (colRow t j))) := by
  rw [rowP_key]
  refine Finset.sum_congr rfl fun d _ => ?_
  rw [bV_ix, padded_live _ _ _ _ (open_live ho), bG_ix, qhead_eq]

include hq hk hs in
theorem bP_ix (t : Fin cfg0.N) (g : Fin 4) (r : Fin 128) (j : Fin 640) : bP m c t (ix2 (row g r) j) =
    if Open t r j then wgt m c (headOf t) g (qrow t r) (rowKey (colRow t j)) else 0 := by
  unfold bP
  rw [prob_ix, bL_ix]
  split_ifs with ho
  · have hm : bM t (ix2 (row g r) j) = 1#1 := (bM_ix t g r j).mpr ho
    rw [hm, bS_open m c t g r j ho]
    exact kernel_weight (argQ m c) (argK m c) (argS m c) hq hk hs (headOf t) g (qrow t r) _
  · have hm : bM t (ix2 (row g r) j) ≠ 1#1 := fun h => ho ((bM_ix t g r j).mp h)
    rw [show Scalar.select (bM t (ix2 (row g r) j)) (bS m c t (ix2 (row g r) j) * Ideal.ofBits .f32 0x3E000000#32)
      (⊥ : EReal) = ⊥ from if_neg hm, sub_eq_add_neg, EReal.bot_add, Ideal.exp_bot]

include hq hk hs in
/-- The kernel's `delta` is the mean of the row's gradients. -/
theorem delta_eq (t : Fin cfg0.N) (g : Fin 4) (r : Fin 128) :
    delta (bM t) (bV m c t) (bG m c t) (bL m c t) (bS m c t) (ix2 (row g r) 0) = avg m c (headOf t) g (qrow t r) := by
  rw [delta_ix]
  have e := sum_open t r (fun k => wgt m c (headOf t) g (qrow t r) k *
    rowP (argV m c) (argG m c) (headOf t) g (qrow t r) (Fin.castSucc k))
    (fun k hn => by rw [wgt_unseen m c hq hk hs _ _ _ _ hn, zero_mul])
  refine Eq.trans (Finset.sum_congr rfl fun j _ => ?_) e
  refine (congrArg (· * _) (bP_ix m c hq hk hs t g r j)).trans ?_
  split_ifs with ho
  · rw [gv_open m c t g r j ho]
  · exact zero_mul _

include hq hk hv hs hg in
theorem bD_ix (t : Fin cfg0.N) (g : Fin 4) (r : Fin 128) (j : Fin 640) : bD m c t (ix2 (row g r) j) =
    if Open t r j then gsc m c (headOf t) g (qrow t r) (rowKey (colRow t j)) else 0 := by
  unfold bD
  rw [dscore_ix, delta_eq m c hq hk hs]
  refine (congrArg (fun p => p * _ * _) (bP_ix m c hq hk hs t g r j)).trans ?_
  split_ifs with ho
  · rw [gv_open m c t g r j ho, gsc_seen m c hq hk hv hs hg _ _ _ _ (open_sees ho)]
  · rw [zero_mul, zero_mul]

include hq hk hv hs hg in
/-- The sink's part of a row. -/
theorem bE_ix (t : Fin cfg0.N) (g : Fin 4) (r : Fin 128) :
    bE m c t (ix2 (row g r) 0) = -gsk m c (headOf t) g (qrow t r) ∧ IsReal (bE m c t (ix2 (row g r) 0)) := by
  have hw := kernel_weight (argQ m c) (argK m c) (argS m c) hq hk hs (headOf t) g (qrow t r) (Fin.last 4352)
  rw [rowF_last] at hw
  have e : bE m c t (ix2 (row g r) 0) =
      weight (rowF (argQ m c) (argK m c) (argS m c) (headOf t) g (qrow t r))
        (rowM (argQ m c) (argK m c) (argS m c) (headOf t) g (qrow t r)) (Fin.last 4352)
        * avg m c (headOf t) g (qrow t r) := by
    unfold bE
    rw [dsink_ix, delta_eq m c hq hk hs, bL_ix, bSink_ix]
    refine Eq.trans ?_ (congrArg (fun w => w * avg m c (headOf t) g (qrow t r)) hw)
    with_reducible rfl
  have rw1 : IsReal (weight (rowF (argQ m c) (argK m c) (argS m c) (headOf t) g (qrow t r))
        (rowM (argQ m c) (argK m c) (argS m c) (headOf t) g (qrow t r)) (Fin.last 4352)) :=
    weight_real _ _ (rowF_top _ _ _ hq hk hs _ _ _) (rowF_sink _ _ _ hs _ _ _) (rowM_real _ _ _ hq hk hs _ _ _) _
  have rw2 : IsReal (avg m c (headOf t) g (qrow t r)) :=
    mean_real _ _ _ (rowF_top _ _ _ hq hk hs _ _ _) (rowF_sink _ _ _ hs _ _ _) (rowM_real _ _ _ hq hk hs _ _ _)
      (rowP_real _ _ hv hg _ _ _)
  refine ⟨?_, by rw [e]; exact rw1.mul rw2⟩
  rw [e]
  unfold gsk
  have hsl := kernel_slope (argQ m c) (argK m c) (argV m c) (argS m c) (argG m c) hq hk hv hs hg (headOf t) g (qrow t r)
    (Fin.last 4352)
  rw [hsl, rowP_last]
  show _ = -(_ * (0 - avg m c (headOf t) g (qrow t r)))
  rw [zero_sub, mul_neg, neg_neg]

end Cert.Attn.Blk
-- ==== Proof.Finals.lean ====
/-
  The kernel's result arrays after the last point, entry by entry: the blocks written back cover each array.
-/
module

public import proofs.«01_k».proof.Proof.Accum

@[expose] public section

set_option maxRecDepth 16384
set_option maxHeartbeats 200000

noncomputable section

namespace Cert.Attn.Blk

open Cert.KernelIdeal Cert.KernelIdeal.Gen Idealize.ShloMosaic Idealize.ShloMosaic.TcCoe Idealize.SL.Sem Pipeline

variable (m : (ℓ : Loc nD τ sig) → Buf (Elt Ideal) ℓ) (c : Dev nD)

attribute [local irreducible] totK totV totS

theorem final_dk (h : Fin 4) (ρ : Fin 4608) (d : Fin 64) :
    (dats m 0 c).arrAt 13 cfg0.N (ix3 h ρ d) = totK m c h ρ d := by
  refine congrFun ((dats m 0 c).arrAt_eq_of_covers 13 (fun x => totK m c (x 0) (x 1) (x 2))
    (by decide +kernel) fun t hf y => ?_) (ix3 h ρ d)
  blk_simp
  rw [after0_13]
  have hr := (flush0_13 t).mp hf
  change S1x4608x64.Idx at y
  idx_vars y
  have e : (win0_13.blk t).view.emb (ix3 0 y1 y2) = ix3 (headOf t) y1 y2 := by
    blk_ext [idx13 t, headOf]
  obtain rfl : y0 = 0 := Subsingleton.elim _ _
  exact (run_k m c t hr y1 y2).trans (congrArg (fun x : S4x4608x64.Idx => totK m c (x 0) (x 1) (x 2)) e.symm)

theorem final_dv (h : Fin 4) (ρ : Fin 4608) (d : Fin 64) :
    (dats m 0 c).arrAt 14 cfg0.N (ix3 h ρ d) = totV m c h ρ d := by
  refine congrFun ((dats m 0 c).arrAt_eq_of_covers 14 (fun x => totV m c (x 0) (x 1) (x 2))
    (by decide +kernel) fun t hf y => ?_) (ix3 h ρ d)
  blk_simp
  rw [after0_14]
  have hr := (flush0_14 t).mp hf
  change S1x4608x64.Idx at y
  idx_vars y
  have e : (win0_14.blk t).view.emb (ix3 0 y1 y2) = ix3 (headOf t) y1 y2 := by
    blk_ext [idx14 t, headOf]
  obtain rfl : y0 = 0 := Subsingleton.elim _ _
  exact (run_v m c t hr y1 y2).trans (congrArg (fun x : S4x4608x64.Idx => totV m c (x 0) (x 1) (x 2)) e.symm)

theorem final_ds (h g : Fin 4) :
    (dats m 0 c).arrAt 15 cfg0.N (ix3 ⟨4 * h.val + g.val, by omega⟩ 0 0) = totS m c h g := by
  have key := congrFun ((dats m 0 c).arrAt_eq_of_covers 15
    (fun x => totS m c ⟨(x 0).val / 4, by have : (x 0).val < 16 := (x 0).isLt; omega⟩ ⟨(x 0).val % 4, Nat.mod_lt _ (by decide)⟩)
    (by decide +kernel) fun t hf y => ?_) (ix3 ⟨4 * h.val + g.val, by omega⟩ 0 0)
  · refine key.trans (congrArg₂ (totS m c) (Fin.ext ?_) (Fin.ext ?_))
    · show (4 * h.val + g.val) / 4 = h.val
      omega
    · show (4 * h.val + g.val) % 4 = g.val
      omega
  · rw [after0_15]
    have hr := (flush0_15 t).mp hf
    change S4x1x1.Idx at y
    idx_vars y
    have e : (win0_15.blk t).view.emb (ix3 y0 0 0) = ix3 ⟨4 * (headOf t).val + y0.val, by omega⟩ 0 0 := by
      blk_ext [idx15 t, headOf]
    obtain rfl : y1 = 0 := Subsingleton.elim _ _
    obtain rfl : y2 = 0 := Subsingleton.elim _ _
    have e0 : (((win0_15.blk t).view.emb (ix3 y0 0 0) 0 : Fin 16) : ℕ) = 4 * (headOf t).val + y0.val := by rw [e]; rfl
    refine (run_s m c t hr y0).trans (congrArg₂ (totS m c) (Fin.ext ?_) (Fin.ext ?_))
    · show _ = (((win0_15.blk t).view.emb (ix3 y0 0 0) 0 : Fin 16) : ℕ) / 4
      omega
    · show _ = (((win0_15.blk t).view.emb (ix3 y0 0 0) 0 : Fin 16) : ℕ) % 4
      omega

theorem final_dq (n0 : Fin 16) (n1 : Fin 4352) (d : Fin 64) :
    (dats m 0 c).arrAt 12 cfg0.N (ix3 n0 n1 d) = totQ m c n0 n1 d := by
  refine congrFun ((dats m 0 c).arrAt_eq_of_covers 12 (fun x => totQ m c (x 0) (x 1) (x 2))
    (by decide +kernel) fun t hf y => ?_) (ix3 n0 n1 d)
  blk_simp
  rw [after0_12]
  change S4x128x64.Idx at y
  idx_vars y
  have ht : t.val < 136 := t.isLt
  have e : (win0_12.blk t).view.emb (ix3 y0 y1 y2)
      = ix3 ⟨4 * (t.val / 34) + y0.val, by omega⟩ ⟨128 * (t.val % 34) + y1.val, by omega⟩ y2 := by
    blk_ext [idx12 t]
  refine Eq.trans ((dq_at m c t y0 y1 y2).trans ?_) (congrArg (fun x : S16x4352x64.Idx => totQ m c (x 0) (x 1) (x 2)) e.symm)
  have e1 : pt ⟨(4 * (t.val / 34) + y0.val) / 4, by omega⟩ ⟨(128 * (t.val % 34) + y1.val) / 128, by omega⟩ = t := by
    apply Fin.ext
    show 34 * ((4 * (t.val / 34) + y0.val) / 4) + (128 * (t.val % 34) + y1.val) / 128 = t.val
    omega
  have e2 : row ⟨(4 * (t.val / 34) + y0.val) % 4, Nat.mod_lt _ (by decide)⟩
      ⟨(128 * (t.val % 34) + y1.val) % 128, Nat.mod_lt _ (by decide)⟩ = row y0 y1 := by
    apply Fin.ext
    show 128 * ((4 * (t.val / 34) + y0.val) % 4) + (128 * (t.val % 34) + y1.val) % 128 = 128 * y0.val + y1.val
    omega
  show _ = bDQ m c (pt ⟨(4 * (t.val / 34) + y0.val) / 4, _⟩ ⟨(128 * (t.val % 34) + y1.val) / 128, _⟩)
    (ix2 (row ⟨(4 * (t.val / 34) + y0.val) % 4, _⟩ ⟨(128 * (t.val % 34) + y1.val) % 128, _⟩) y2)
  rw [e1, e2]

end Cert.Attn.Blk
-- ==== Proof.Results.lean ====
/-
  The kernel's four results at an index are the reference's, at finite arguments.
-/
module

public import proofs.«01_k».proof.Proof.Match
public import proofs.«01_k».proof.Proof.Finals

@[expose] public section

set_option maxRecDepth 16384

noncomputable section

namespace Cert.Attn.Blk

open Cert.KernelIdeal Cert.KernelIdeal.Gen Idealize.ShloMosaic Idealize.ShloMosaic.TcCoe Idealize.SL.Sem
open Cert.Attn.Entry Cert.Attn.Ref Cert.Attn.Row

variable (m : (ℓ : Loc nD τ sig) → Buf (Elt Ideal) ℓ) (c : Dev nD)

/-- The reference's derivative of the masked scores at the kernel's arguments. -/
abbrev dfull := gradFullOf (argQ m c) (argK m c) (argV m c) (argS m c) (argG m c)

variable (hq : ∀ x, IsReal (argQ m c x)) (hk : ∀ x, IsReal (argK m c x)) (hv : ∀ x, IsReal (argV m c x))
  (hs : ∀ x, IsReal (argS m c x)) (hg : ∀ x, IsReal (argG m c x))

include hq hk hv hs hg in
theorem res_q (a : Fin 16) (n : Fin 4352) (d : Fin 64) :
    totQ m c a n d = gradQ (gradScores (dfull m c)) (argK m c) (ix3 a n d) := by
  rw [gradQ_ix]
  unfold totQ
  rw [bDQ_ix]
  have en : qrow (pt ⟨a.val / 4, by omega⟩ ⟨n.val / 128, by omega⟩) ⟨n.val % 128, by omega⟩ = n := by
    apply Fin.ext
    show 128 * ((34 * (a.val / 4) + n.val / 128) % 34) + n.val % 128 = n.val
    omega
  have e := sum_open (pt ⟨a.val / 4, by omega⟩ ⟨n.val / 128, by omega⟩) ⟨n.val % 128, by omega⟩
    (fun k => gsc m c ⟨a.val / 4, by omega⟩ ⟨a.val % 4, by omega⟩ n k * argK m c (ix3 k ⟨a.val / 4, by omega⟩ d))
    (fun k hn => by rw [en] at hn; rw [gsc_unseen m c _ _ _ _ hn, zero_mul])
  refine Eq.trans (Finset.sum_congr rfl fun j _ => ?_) e
  rw [bD_ix m c hq hk hv hs hg, en, headOf_pt]
  split_ifs with ho
  · rw [bK_ix, padded_live _ _ _ _ (open_live ho), headOf_pt]
  · exact zero_mul _

theorem rows_live (x) (h : Fin 4) (ρ : Fin 4608) (d : Fin 64) :
    rows x (ix3 h ρ d) = if Live ρ then x (ix3 (rowKey ρ) h d) else 0 := by
  rw [rows_ix]
  have e : ∀ a : Fin 4352, a = rowKey ρ → x (ix3 a h d) = x (ix3 (rowKey ρ) h d) := fun a ha => by rw [ha]
  by_cases h1 : ρ.val < 256
  · rw [dif_pos h1, if_pos (show Live ρ from Or.inl h1)]
    exact e _ (Fin.ext (by simp [rowKey, h1]))
  · rw [dif_neg h1]
    by_cases h2 : 384 ≤ ρ.val ∧ ρ.val < 4480
    · rw [dif_pos h2, if_pos (show Live ρ from Or.inr h2)]
      refine e _ (Fin.ext ?_)
      simp only [rowKey, if_neg h1]
      omega
    · rw [dif_neg h2, if_neg (show ¬Live ρ from fun hl => hl.elim h1 h2)]

/-- Sums of the points' addends to a padded row, as sums over the query rows. -/
theorem sum_addends (h : Fin 4) (ρ : Fin 4608) (d : Fin 64) (B : Fin 34 → FVec Ideal S640x64 .f32)
    (A : Fin 34 → Fin 512 → Fin 640 → EReal) (Q : Fin 34 → Fin 512 → EReal)
    (G : Fin 4 → Fin 4352 → Fin 4352 → EReal) (W : Fin 4 → Fin 4352 → EReal)
    (hB : ∀ i j, B i (ix2 j d) = ∑ x, A i x j * Q i x)
    (hA : ∀ i g r j, A i (row g r) j =
      if Open (pt h i) r j then G g (qrow (pt h i) r) (rowKey (colRow (pt h i) j)) else 0)
    (hQ : ∀ i g r, Q i (row g r) = W g (qrow (pt h i) r))
    (hG : ∀ g n k, ¬Sees n k → G g n k = 0) :
    ∑ i : Fin 34, addend (B i) i.val ρ d
      = if Live ρ then ∑ g : Fin 4, ∑ n, G g n (rowKey ρ) * W g n else 0 := by
  have e : ∀ i : Fin 34, addend (B i) i.val ρ d =
      if Live ρ then ∑ g : Fin 4, ∑ r : Fin 128, G g (qrow (pt h i) r) (rowKey ρ) * W g (qrow (pt h i) r) else 0 := by
    intro i
    have ei : (pt h i).val % 34 = i.val := by
      show (34 * h.val + i.val) % 34 = i.val
      omega
    rw [← ei, addend_eq (pt h i) (B i) (A i) (Q i) G ρ d (hB i) (hA i) hG]
    split_ifs
    · exact Finset.sum_congr rfl fun g _ => Finset.sum_congr rfl fun r _ => by rw [hQ]
    · rfl
  rw [Finset.sum_congr rfl fun i _ => e i]
  split_ifs
  · rw [Finset.sum_comm]
    exact Finset.sum_congr rfl fun g _ => (sum_steps h fun n => G g n (rowKey ρ) * W g n).symm
  · exact Finset.sum_const_zero

include hq hk hv hs hg in
theorem res_k (h : Fin 4) (ρ : Fin 4608) (d : Fin 64) :
    totK m c h ρ d = rows (gradK (gradScores (dfull m c)) (heads (argQ m c))) (ix3 h ρ d) := by
  rw [rows_live]
  unfold totK
  rw [sum_addends h ρ d (fun i => bDK m c (pt h i)) (fun i x j => bD m c (pt h i) (ix2 x j))
    (fun i x => bQ m c (pt h i) (ix2 x d)) (fun g n k => gsc m c h g n k)
    (fun g n => argQ m c (ix3 n ⟨h.val * 4 + g.val, by omega⟩ d))
    (fun i j => dkeys_ix (bQ m c (pt h i)) (bD m c (pt h i)) j d)
    (fun i g r j => by rw [bD_ix m c hq hk hv hs hg, headOf_pt])
    (fun i g r => by
      have := (headOf (pt h i)).isLt
      rw [bQ_ix, qhead_eq (pt h i) g (by omega)]
      simp only [headOf_pt])
    (fun g n k hn => gsc_unseen m c h g n k hn)]
  split_ifs
  · rw [gradK_ix, Finset.sum_comm]
    exact Finset.sum_congr rfl fun n _ => Finset.sum_congr rfl fun g _ => by rw [heads_ix]; rfl
  · rfl

include hq hk hs in
theorem res_v (h : Fin 4) (ρ : Fin 4608) (d : Fin 64) :
    totV m c h ρ d = rows (gradV (gradOut (heads (argG m c))) (probs (expoOf (argQ m c) (argK m c) (argS m c))
      (normOf (argQ m c) (argK m c) (argS m c)))) (ix3 h ρ d) := by
  rw [rows_live]
  unfold totV
  rw [sum_addends h ρ d (fun i => bDV m c (pt h i)) (fun i x j => bP m c (pt h i) (ix2 x j))
    (fun i x => bG m c (pt h i) (ix2 x d)) (fun g n k => wgt m c h g n k)
    (fun g n => argG m c (ix3 n ⟨h.val * 4 + g.val, by omega⟩ d))
    (fun i j => dvals_ix (bG m c (pt h i)) (bP m c (pt h i)) j d)
    (fun i g r j => by rw [bP_ix m c hq hk hs, headOf_pt])
    (fun i g r => by
      have := (headOf (pt h i)).isLt
      rw [bG_ix, qhead_eq (pt h i) g (by omega)]
      simp only [headOf_pt])
    (fun g n k hn => wgt_unseen m c hq hk hs h g n k hn)]
  split_ifs
  · rw [gradV_ix]
    refine Finset.sum_congr rfl fun g _ => Finset.sum_congr rfl fun n _ => ?_
    rw [gradOut_ix, heads_ix, probsOf_ix, mul_comm]
    rfl
  · rfl

include hq hk hv hs hg in
theorem res_s (h g : Fin 4) : totS m c h g = gradSink (dfull m c) (ix3 ⟨4 * h.val + g.val, by omega⟩ 0 0) := by
  rw [gradSink_ix]
  unfold totS
  have e1 : (⟨(4 * h.val + g.val) / 4, by omega⟩ : Fin 4) = h := Fin.ext (by show (4 * h.val + g.val) / 4 = h.val; omega)
  have e2 : (⟨(4 * h.val + g.val) % 4, by omega⟩ : Fin 4) = g := Fin.ext (by show (4 * h.val + g.val) % 4 = g.val; omega)
  rw [show (∑ n : Fin 4352, dfull m c (ix4 ⟨(4 * h.val + g.val) / 4, by omega⟩ ⟨(4 * h.val + g.val) % 4, by omega⟩ n 4352))
    = ∑ n : Fin 4352, gsk m c h g n from Finset.sum_congr rfl fun n _ => by rw [e1, e2]; rfl, sum_steps h]
  refine Finset.sum_congr rfl fun i _ => ?_
  rw [neg_sum _ fun r => (bE_ix m c hq hk hv hs hg (pt h i) g r).2]
  refine Finset.sum_congr rfl fun r _ => ?_
  rw [(bE_ix m c hq hk hv hs hg (pt h i) g r).1, neg_neg, headOf_pt]

end Cert.Attn.Blk
-- ==== Proof.Finite.lean ====
/-
  The precondition read: every element of the five arguments is a real number.
-/
module

public import proofs.«01_k».proof.Proof.RowMath
public import proofs.«01_k».proof.Proof.Gen.Pre_finite
public import Idealize.ShloMosaic.Lib.ReduceAll

@[expose] public section

set_option maxRecDepth 16384

noncomputable section

namespace Cert.Attn.Row

open Cert.Pre_finite Cert.Pre_finite.Gen Idealize.ShloMosaic

instance : Subsingleton S_.Idx := ⟨fun a b => funext fun i => i.elim0⟩

theorem pos_inf : Ideal.ofBits .f32 0x7F800000#32 = ⊤ := by simp [Ideal.ofBits, Ideal.ieee]

theorem real_of_abs (x : EReal) (h : Ideal.cmp .olt (max x (-x)) ⊤ = 1#1) : IsReal x := by
  have h1 : max x (-x) < ⊤ := by
    by_contra hn
    simp [Ideal.cmp, hn] at h
  rw [max_lt_iff] at h1
  refine IsReal.of_ne h1.1.ne fun hb => ?_
  rw [hb, EReal.neg_bot] at h1
  exact lt_irrefl _ h1.2

/-- What a conjunction over an array of the comparisons with infinity says. -/
theorem all_real {s : Shape} {axes : List (Fin s.rank)} (x : FVec Ideal s .f32)
    (hb : S_.BroadcastsInDim s (![] : Fin 0 → Fin s.rank)) (hr : s.ReducesTo axes S_) (hu : 0 < S_.numel) (c : IVec S_ 1)
    (j : S_.Idx)
    (h : Host.reduce IntOp.andi (cmpf .olt (Host.absf x)
      (broadcastInDim s ![] hb (constant (F := Ideal) S_ .f32 0x7F800000#32))) c hr hu j = 1#1) (i : s.Idx) :
    IsReal (x i) := by
  have h1 := Host.reduce_andi_all _ _ hr hu j h i
  refine real_of_abs _ ?_
  rw [← pos_inf]
  exact h1

theorem finite_real (q : FVec Ideal S4352x16x64 .bf16) (k v : FVec Ideal S4352x4x64 .bf16) (s : FVec Ideal S4x4 .f32)
    (g : FVec Ideal S4352x16x64 .bf16) (h : fn (F := Ideal) q k v s g = fun _ => 1#1) :
    (∀ x, IsReal (q x)) ∧ (∀ x, IsReal (k x)) ∧ (∀ x, IsReal (v x)) ∧ (∀ x, IsReal (s x)) ∧ (∀ x, IsReal (g x)) := by
  have h0 := congrFun h (fun i => i.elim0)
  simp only [fn, fn_part1] at h0
  obtain ⟨h1, hg⟩ := IntOp.andi_eq_one.mp h0
  obtain ⟨h2, hs⟩ := IntOp.andi_eq_one.mp h1
  obtain ⟨h3, hv⟩ := IntOp.andi_eq_one.mp h2
  obtain ⟨hq, hk⟩ := IntOp.andi_eq_one.mp h3
  exact ⟨all_real _ _ _ _ _ _ hq, all_real _ _ _ _ _ _ hk, all_real _ _ _ _ _ _ hv, all_real _ _ _ _ _ _ hs,
    all_real _ _ _ _ _ _ hg⟩

end Cert.Attn.Row
-- ==== Proof.lean ====
/-
  The proof of `Cert.Claim`. For the attention's backward call: the frames, the one named constant of its ideal form, and
  the equality of its four results with the reference's at finite arguments (their entries are equal by `Results`; here
  the two runs are set side by side). For each further call: its frames, and the equality proved in the module of its name.
-/
module

public import proofs.«01_k».proof.Proof.Gen.Up.Frame
public import proofs.«01_k».proof.Proof.Gen.UpIdeal.Value
public import proofs.«01_k».proof.Proof.Gen.UpRefIdeal.Run
public import proofs.«01_k».proof.Proof.Gen.Down.Frame
public import proofs.«01_k».proof.Proof.Gen.DownIdeal.Value
public import proofs.«01_k».proof.Proof.Gen.DownRefIdeal.Run
public import proofs.«01_k».proof.Proof.Gen.DownDw.Frame
public import proofs.«01_k».proof.Proof.Gen.DownDwIdeal.Value
public import proofs.«01_k».proof.Proof.Gen.DownDwRefIdeal.Run
public import proofs.«01_k».proof.Proof.Gen.DownDx.Frame
public import proofs.«01_k».proof.Proof.Gen.DownDxIdeal.Value
public import proofs.«01_k».proof.Proof.Gen.DownDxRefIdeal.Run
public import proofs.«01_k».proof.Proof.Gen.UpDw.Frame
public import proofs.«01_k».proof.Proof.Gen.UpDwIdeal.Value
public import proofs.«01_k».proof.Proof.Gen.UpDwRefIdeal.Run
public import proofs.«01_k».proof.Proof.Gen.UpDxV.Frame
public import proofs.«01_k».proof.Proof.Gen.UpDxVIdeal.Value
public import proofs.«01_k».proof.Proof.Gen.UpDxVRefIdeal.Run
public import proofs.«01_k».proof.Proof.Gen.UpDxG.Frame
public import proofs.«01_k».proof.Proof.Gen.UpDxGIdeal.Value
public import proofs.«01_k».proof.Proof.Gen.UpDxGRefIdeal.Run
public import proofs.«01_k».proof.Proof.Gen.Qkv.Frame
public import proofs.«01_k».proof.Proof.Gen.QkvIdeal.Value
public import proofs.«01_k».proof.Proof.Gen.QkvRefIdeal.Run
public import proofs.«01_k».proof.Proof.Gen.QkvDw.Frame
public import proofs.«01_k».proof.Proof.Gen.QkvDwIdeal.Value
public import proofs.«01_k».proof.Proof.Gen.QkvDwRefIdeal.Run
public import proofs.«01_k».proof.Proof.Gen.QkvDx.Frame
public import proofs.«01_k».proof.Proof.Gen.QkvDxIdeal.Value
public import proofs.«01_k».proof.Proof.Gen.QkvDxRefIdeal.Run
public import proofs.«01_k».proof.Proof.Gen.Out.Frame
public import proofs.«01_k».proof.Proof.Gen.OutIdeal.Value
public import proofs.«01_k».proof.Proof.Gen.OutRefIdeal.Run
public import proofs.«01_k».proof.Proof.Gen.OutDw.Frame
public import proofs.«01_k».proof.Proof.Gen.OutDwIdeal.Value
public import proofs.«01_k».proof.Proof.Gen.OutDwRefIdeal.Run
public import proofs.«01_k».proof.Proof.Gen.OutDx.Frame
public import proofs.«01_k».proof.Proof.Gen.OutDxIdeal.Value
public import proofs.«01_k».proof.Proof.Gen.OutDxRefIdeal.Run
public import proofs.«01_k».proof.Proof.Gen.GluDx.Frame
public import proofs.«01_k».proof.Proof.Gen.GluDxIdeal.Value
public import proofs.«01_k».proof.Proof.Gen.GluDxRefIdeal.Run
public import proofs.«01_k».proof.Proof.Gen.MixIn.Frame
public import proofs.«01_k».proof.Proof.Gen.MixInIdeal.Value
public import proofs.«01_k».proof.Proof.Gen.MixInRefIdeal.Run
public import proofs.«01_k».proof.Proof.Gen.MixInDw.Frame
public import proofs.«01_k».proof.Proof.Gen.MixInDwIdeal.Value
public import proofs.«01_k».proof.Proof.Gen.MixInDwRefIdeal.Run
public import proofs.«01_k».proof.Proof.Gen.MixInDx.Frame
public import proofs.«01_k».proof.Proof.Gen.MixInDxIdeal.Value
public import proofs.«01_k».proof.Proof.Gen.MixInDxRefIdeal.Run
public import proofs.«01_k».proof.Proof.Gen.MixOut.Frame
public import proofs.«01_k».proof.Proof.Gen.MixOutIdeal.Value
public import proofs.«01_k».proof.Proof.Gen.MixOutRefIdeal.Run
public import proofs.«01_k».proof.Proof.Gen.MixOutDw.Frame
public import proofs.«01_k».proof.Proof.Gen.MixOutDwIdeal.Value
public import proofs.«01_k».proof.Proof.Gen.MixOutDwRefIdeal.Run
public import proofs.«01_k».proof.Proof.Gen.MixOutDx.Frame
public import proofs.«01_k».proof.Proof.Gen.MixOutDxIdeal.Value
public import proofs.«01_k».proof.Proof.Gen.MixOutDxRefIdeal.Run
public import proofs.«01_k».proof.Proof.Gen.AdamCCtx.Frame
public import proofs.«01_k».proof.Proof.Gen.AdamCCtxIdeal.Value
public import proofs.«01_k».proof.Proof.Gen.AdamCCtxRefIdeal.Run
public import proofs.«01_k».proof.Proof.Gen.AdamAdaW.Frame
public import proofs.«01_k».proof.Proof.Gen.AdamAdaWIdeal.Value
public import proofs.«01_k».proof.Proof.Gen.AdamAdaWRefIdeal.Run
public import proofs.«01_k».proof.Proof.Gen.AdamAdaB.Frame
public import proofs.«01_k».proof.Proof.Gen.AdamAdaBIdeal.Value
public import proofs.«01_k».proof.Proof.Gen.AdamAdaBRefIdeal.Run
public import proofs.«01_k».proof.Proof.Gen.AdamNorm.Frame
public import proofs.«01_k».proof.Proof.Gen.AdamNormIdeal.Value
public import proofs.«01_k».proof.Proof.Gen.AdamNormRefIdeal.Run
public import proofs.«01_k».proof.Proof.Gen.AdamFfnUp.Frame
public import proofs.«01_k».proof.Proof.Gen.AdamFfnUpIdeal.Value
public import proofs.«01_k».proof.Proof.Gen.AdamFfnUpRefIdeal.Run
public import proofs.«01_k».proof.Proof.Gen.AdamConvW.Frame
public import proofs.«01_k».proof.Proof.Gen.AdamConvWIdeal.Value
public import proofs.«01_k».proof.Proof.Gen.AdamConvWRefIdeal.Run
public import proofs.«01_k».proof.Proof.Gen.AdamConvB.Frame
public import proofs.«01_k».proof.Proof.Gen.AdamConvBIdeal.Value
public import proofs.«01_k».proof.Proof.Gen.AdamConvBRefIdeal.Run
public import proofs.«01_k».proof.Proof.Gen.AdamFfnDown.Frame
public import proofs.«01_k».proof.Proof.Gen.AdamFfnDownIdeal.Value
public import proofs.«01_k».proof.Proof.Gen.AdamFfnDownRefIdeal.Run
public import proofs.«01_k».proof.Proof.Gen.AdamPoolW.Frame
public import proofs.«01_k».proof.Proof.Gen.AdamPoolWIdeal.Value
public import proofs.«01_k».proof.Proof.Gen.AdamPoolWRefIdeal.Run
public import proofs.«01_k».proof.Proof.Gen.AdamPool.Frame
public import proofs.«01_k».proof.Proof.Gen.AdamPoolIdeal.Value
public import proofs.«01_k».proof.Proof.Gen.AdamPoolRefIdeal.Run
public import proofs.«01_k».proof.Proof.Gen.AdamQkv.Frame
public import proofs.«01_k».proof.Proof.Gen.AdamQkvIdeal.Value
public import proofs.«01_k».proof.Proof.Gen.AdamQkvRefIdeal.Run
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamSink.Frame
public import proofs.«01_k».proof.Proof.Gen.AdamSinkIdeal.Value
public import proofs.«01_k».proof.Proof.Gen.AdamSinkRefIdeal.Run
public import proofs.«01_k».proof.Proof.Gen.AdamLambda.Frame
public import proofs.«01_k».proof.Proof.Gen.AdamLambdaIdeal.Value
public import proofs.«01_k».proof.Proof.Gen.AdamLambdaRefIdeal.Run
public import proofs.«01_k».proof.Proof.Gen.AdamLogDt.Frame
public import proofs.«01_k».proof.Proof.Gen.AdamLogDtIdeal.Value
public import proofs.«01_k».proof.Proof.Gen.AdamLogDtRefIdeal.Run
public import proofs.«01_k».proof.Proof.Gen.AdamSsmB.Frame
public import proofs.«01_k».proof.Proof.Gen.AdamSsmBIdeal.Value
public import proofs.«01_k».proof.Proof.Gen.AdamSsmBRefIdeal.Run
public import proofs.«01_k».proof.Proof.Gen.AdamSsmC.Frame
public import proofs.«01_k».proof.Proof.Gen.AdamSsmCIdeal.Value
public import proofs.«01_k».proof.Proof.Gen.AdamSsmCRefIdeal.Run
public import proofs.«01_k».proof.Proof.Gen.AdamSsmD.Frame
public import proofs.«01_k».proof.Proof.Gen.AdamSsmDIdeal.Value
public import proofs.«01_k».proof.Proof.Gen.AdamSsmDRefIdeal.Run
public import proofs.«01_k».proof.Proof.Gen.AdamMixIn.Frame
public import proofs.«01_k».proof.Proof.Gen.AdamMixInIdeal.Value
public import proofs.«01_k».proof.Proof.Gen.AdamMixInRefIdeal.Run
public import proofs.«01_k».proof.Proof.Gen.AdamMixBias.Frame
public import proofs.«01_k».proof.Proof.Gen.AdamMixBiasIdeal.Value
public import proofs.«01_k».proof.Proof.Gen.AdamMixBiasRefIdeal.Run
public import proofs.«01_k».proof.Proof.Gen.AdamMixNorm.Frame
public import proofs.«01_k».proof.Proof.Gen.AdamMixNormIdeal.Value
public import proofs.«01_k».proof.Proof.Gen.AdamMixNormRefIdeal.Run
public import proofs.«01_k».proof.Proof.Gen.AdamMixW.Frame
public import proofs.«01_k».proof.Proof.Gen.AdamMixWIdeal.Value
public import proofs.«01_k».proof.Proof.Gen.AdamMixWRefIdeal.Run
public import proofs.«01_k».proof.Proof.Gen.AdamMixB.Frame
public import proofs.«01_k».proof.Proof.Gen.AdamMixBIdeal.Value
public import proofs.«01_k».proof.Proof.Gen.AdamMixBRefIdeal.Run
public import proofs.«01_k».proof.Proof.Gen.AdamMixOut.Frame
public import proofs.«01_k».proof.Proof.Gen.AdamMixOutIdeal.Value
public import proofs.«01_k».proof.Proof.Gen.AdamMixOutRefIdeal.Run
public import proofs.«01_k».proof.Proof.Gen.AdaDw.Frame
public import proofs.«01_k».proof.Proof.Gen.AdaDwIdeal.Value
public import proofs.«01_k».proof.Proof.Gen.AdaDwRefIdeal.Run
public import proofs.«01_k».proof.Proof.Gen.CtxCond.Frame
public import proofs.«01_k».proof.Proof.Gen.CtxCondIdeal.Value
public import proofs.«01_k».proof.Proof.Gen.CtxCondRefIdeal.Run
public import proofs.«01_k».proof.Proof.Gen.SumFfnUp.Frame
public import proofs.«01_k».proof.Proof.Gen.SumFfnUpIdeal.Value
public import proofs.«01_k».proof.Proof.Gen.SumFfnUpRefIdeal.Run
public import proofs.«01_k».proof.Proof.Gen.SumFfnDown.Frame
public import proofs.«01_k».proof.Proof.Gen.SumFfnDownIdeal.Value
public import proofs.«01_k».proof.Proof.Gen.SumFfnDownRefIdeal.Run
public import proofs.«01_k».proof.Proof.Gen.SumPoolW.Frame
public import proofs.«01_k».proof.Proof.Gen.SumPoolWIdeal.Value
public import proofs.«01_k».proof.Proof.Gen.SumPoolWRefIdeal.Run
public import proofs.«01_k».proof.Proof.Gen.SumQkv.Frame
public import proofs.«01_k».proof.Proof.Gen.SumQkvIdeal.Value
public import proofs.«01_k».proof.Proof.Gen.SumQkvRefIdeal.Run
public import proofs.«01_k».proof.Proof.Gen.SumOut.Frame
public import proofs.«01_k».proof.Proof.Gen.SumOutIdeal.Value
public import proofs.«01_k».proof.Proof.Gen.SumOutRefIdeal.Run
public import proofs.«01_k».proof.Proof.Gen.SumMixIn.Frame
public import proofs.«01_k».proof.Proof.Gen.SumMixInIdeal.Value
public import proofs.«01_k».proof.Proof.Gen.SumMixInRefIdeal.Run
public import proofs.«01_k».proof.Proof.Gen.SumMixOut.Frame
public import proofs.«01_k».proof.Proof.Gen.SumMixOutIdeal.Value
public import proofs.«01_k».proof.Proof.Gen.SumMixOutRefIdeal.Run
public import proofs.«01_k».proof.Proof.Gen.SumSmall.Frame
public import proofs.«01_k».proof.Proof.Gen.SumSmallIdeal.Value
public import proofs.«01_k».proof.Proof.Gen.SumSmallRefIdeal.Run
public import proofs.«01_k».proof.Proof.Gen.SumCond.Frame
public import proofs.«01_k».proof.Proof.Gen.SumCondIdeal.Value
public import proofs.«01_k».proof.Proof.Gen.SumCondRefIdeal.Run
public import proofs.«01_k».proof.Proof.Gen.LossHead.Frame
public import proofs.«01_k».proof.Proof.Gen.LossHeadIdeal.Value
public import proofs.«01_k».proof.Proof.Gen.LossHeadRefIdeal.Run
public import proofs.«01_k».proof.Proof.Up
public import proofs.«01_k».proof.Proof.Down
public import proofs.«01_k».proof.Proof.DownDw
public import proofs.«01_k».proof.Proof.DownDx
public import proofs.«01_k».proof.Proof.UpDw
public import proofs.«01_k».proof.Proof.UpDxV
public import proofs.«01_k».proof.Proof.UpDxG
public import proofs.«01_k».proof.Proof.Qkv
public import proofs.«01_k».proof.Proof.QkvDw
public import proofs.«01_k».proof.Proof.QkvDx
public import proofs.«01_k».proof.Proof.Out
public import proofs.«01_k».proof.Proof.OutDw
public import proofs.«01_k».proof.Proof.OutDx
public import proofs.«01_k».proof.Proof.GluDx
public import proofs.«01_k».proof.Proof.MixIn
public import proofs.«01_k».proof.Proof.MixInDw
public import proofs.«01_k».proof.Proof.MixInDx
public import proofs.«01_k».proof.Proof.MixOut
public import proofs.«01_k».proof.Proof.MixOutDw
public import proofs.«01_k».proof.Proof.MixOutDx
public import proofs.«01_k».proof.Proof.AdamCCtx
public import proofs.«01_k».proof.Proof.AdamAdaW
public import proofs.«01_k».proof.Proof.AdamAdaB
public import proofs.«01_k».proof.Proof.AdamNorm
public import proofs.«01_k».proof.Proof.AdamFfnUp
public import proofs.«01_k».proof.Proof.AdamConvW
public import proofs.«01_k».proof.Proof.AdamConvB
public import proofs.«01_k».proof.Proof.AdamFfnDown
public import proofs.«01_k».proof.Proof.AdamPoolW
public import proofs.«01_k».proof.Proof.AdamPool
public import proofs.«01_k».proof.Proof.AdamQkv
public import proofs.«01_k».proof.Proof.AdamOut
public import proofs.«01_k».proof.Proof.AdamSink
public import proofs.«01_k».proof.Proof.AdamLambda
public import proofs.«01_k».proof.Proof.AdamLogDt
public import proofs.«01_k».proof.Proof.AdamSsmB
public import proofs.«01_k».proof.Proof.AdamSsmC
public import proofs.«01_k».proof.Proof.AdamSsmD
public import proofs.«01_k».proof.Proof.AdamMixIn
public import proofs.«01_k».proof.Proof.AdamMixBias
public import proofs.«01_k».proof.Proof.AdamMixNorm
public import proofs.«01_k».proof.Proof.AdamMixW
public import proofs.«01_k».proof.Proof.AdamMixB
public import proofs.«01_k».proof.Proof.AdamMixOut
public import proofs.«01_k».proof.Proof.AdaDw
public import proofs.«01_k».proof.Proof.CtxCond
public import proofs.«01_k».proof.Proof.SumFfnUp
public import proofs.«01_k».proof.Proof.SumFfnDown
public import proofs.«01_k».proof.Proof.SumPoolW
public import proofs.«01_k».proof.Proof.SumQkv
public import proofs.«01_k».proof.Proof.SumOut
public import proofs.«01_k».proof.Proof.SumMixIn
public import proofs.«01_k».proof.Proof.SumMixOut
public import proofs.«01_k».proof.Proof.SumSmall
public import proofs.«01_k».proof.Proof.SumCond
public import proofs.«01_k».proof.Proof.LossHead
public import proofs.«01_k».proof.Proof.Gen.KernelIdeal.Value
public import proofs.«01_k».proof.Proof.Gen.ReferenceIdeal.Run
public import proofs.«01_k».proof.Proof.Results
public import proofs.«01_k».proof.Proof.RefTerms
public import proofs.«01_k».proof.Proof.Finite
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import Idealize.ShloMosaic.Adequacy
public import Idealize.ShloMosaic.Init

@[expose] public section

set_option maxRecDepth 16384

noncomputable section

namespace Cert.Proof

open Idealize.ShloMosaic Idealize.ShloMosaic.TcCoe Idealize.SL.Sem

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

open Cert.Attn.Blk Cert.Attn.Row

/-- The two memories hold the same five arguments. -/
structure Agree (c : Dev Cert.KernelIdeal.nD) : Prop where
  q : Cert.Attn.Ref.argQ m' c = Cert.Attn.Entry.argQ m c
  k : Cert.Attn.Ref.argK m' c = Cert.Attn.Entry.argK m c
  v : Cert.Attn.Ref.argV m' c = Cert.Attn.Entry.argV m c
  s : Cert.Attn.Ref.argS m' c = Cert.Attn.Entry.argS m c
  g : Cert.Attn.Ref.argG m' c = Cert.Attn.Entry.argG m c

/-- The kernel's arguments are real numbers. -/
structure Reals (c : Dev Cert.KernelIdeal.nD) : Prop where
  q : ∀ x, IsReal (Cert.Attn.Entry.argQ m c x)
  k : ∀ x, IsReal (Cert.Attn.Entry.argK m c x)
  v : ∀ x, IsReal (Cert.Attn.Entry.argV m c x)
  s : ∀ x, IsReal (Cert.Attn.Entry.argS m c x)
  g : ∀ x, IsReal (Cert.Attn.Entry.argG m c x)

variable {m m'} {c : Dev Cert.KernelIdeal.nD} (ha : Agree m m' c) (hr : Reals m c)

include ha hr

theorem eq_q : (Cert.KernelIdeal.Gen.dats m 0 c).arrAt 12 Cert.KernelIdeal.cfg0.N
    = Cert.ReferenceIdeal.Value.res_main_v95 m' c := by
  rw [Cert.Attn.Ref.out_q, ha.q, ha.k, ha.v, ha.s, ha.g]
  funext x
  idx_vars x
  exact (final_dq m c _ _ _).trans (res_q m c hr.q hr.k hr.v hr.s hr.g _ _ _)

theorem eq_k : (Cert.KernelIdeal.Gen.dats m 0 c).arrAt 13 Cert.KernelIdeal.cfg0.N
    = Cert.ReferenceIdeal.Value.res_main_v99 m' c := by
  rw [Cert.Attn.Ref.out_k, ha.q, ha.k, ha.v, ha.s, ha.g]
  funext x
  idx_vars x
  exact (final_dk m c _ _ _).trans (res_k m c hr.q hr.k hr.v hr.s hr.g _ _ _)

theorem eq_v : (Cert.KernelIdeal.Gen.dats m 0 c).arrAt 14 Cert.KernelIdeal.cfg0.N
    = Cert.ReferenceIdeal.Value.res_main_v103 m' c := by
  rw [Cert.Attn.Ref.out_v, ha.q, ha.k, ha.s, ha.g]
  funext x
  idx_vars x
  exact (final_dv m c _ _ _).trans (res_v m c hr.q hr.k hr.s _ _ _)

theorem eq_s : (Cert.KernelIdeal.Gen.dats m 0 c).arrAt 15 Cert.KernelIdeal.cfg0.N
    = Cert.ReferenceIdeal.Value.res_main_v104 m' c := by
  rw [Cert.Attn.Ref.out_sink, ha.q, ha.k, ha.v, ha.s, ha.g]
  have key : ∀ a : Fin 16, (Cert.KernelIdeal.Gen.dats m 0 c).arrAt 15 Cert.KernelIdeal.cfg0.N (ix3 a 0 0)
      = Cert.Attn.Ref.gradSink (dfull m c) (ix3 a 0 0) := by
    intro a
    have e : a = (⟨4 * (⟨a.val / 4, by omega⟩ : Fin 4).val + (⟨a.val % 4, by omega⟩ : Fin 4).val, by
        show 4 * (a.val / 4) + a.val % 4 < 16
        omega⟩ : Fin 16) := Fin.ext (by show a.val = 4 * (a.val / 4) + a.val % 4; omega)
    rw [e]
    exact (final_ds m c _ _).trans (res_s m c hr.q hr.k hr.v hr.s hr.g _ _)
  funext x
  idx_vars x
  obtain rfl : x1 = 0 := Subsingleton.elim _ _
  obtain rfl : x2 = 0 := Subsingleton.elim _ _
  exact key _

end

/-- The four results of the two runs are equal at finite arguments. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have ha : ∀ c, Agree m m' c := fun c => ⟨(hargs c).1, (hargs c).2.1, (hargs c).2.2.1, (hargs c).2.2.2.1, (hargs c).2.2.2.2⟩
  have hr : ∀ c, Reals m c := fun c => by
    obtain ⟨h1, h2, h3, h4, h5⟩ := Cert.Attn.Row.finite_real _ _ _ _ _ (hpre c)
    exact ⟨h1, h2, h3, h4, h5⟩
  refine ⟨fun c => (Cert.KernelIdeal.Gen.dats m 0 c).arrAt 12 Cert.KernelIdeal.cfg0.N,
    fun c => (Cert.KernelIdeal.Gen.dats m 0 c).arrAt 13 Cert.KernelIdeal.cfg0.N,
    fun c => (Cert.KernelIdeal.Gen.dats m 0 c).arrAt 14 Cert.KernelIdeal.cfg0.N,
    fun c => (Cert.KernelIdeal.Gen.dats m 0 c).arrAt 15 Cert.KernelIdeal.cfg0.N,
    Cert.KernelIdeal.Value.run_blocks m g, ?_⟩
  refine (θ_run _ _ _).mono (fun r h c => ?_) (Cert.ReferenceIdeal.Value.run m' g')
  obtain ⟨h0, h1, h2, h3, hk⟩ := h c
  exact ⟨h0.trans (eq_q (ha c) (hr c)).symm, h1.trans (eq_k (ha c) (hr c)).symm, h2.trans (eq_v (ha c) (hr c)).symm,
    h3.trans (eq_s (ha c) (hr c)).symm, hk⟩

/-- The reference runs and keeps its arguments; it declares no semaphore. -/
theorem frame_r : Cert.quiescent_ReferenceIdeal (hReferenceIdeal := Cert.ReferenceIdeal.Gen.facts) := by
  intro m ρ _
  exact (θ_run Cert.ReferenceIdeal.defs _ _).mono (fun r h => ⟨fun c => (h c).2.2.2.2,
      Idealize.ShloMosaic.sem_eq_zero_of_no_sems (by decide) r.2⟩)
    (Cert.ReferenceIdeal.Value.run m ρ)

/-- All the claims: the attention's backward call first, then the other calls in the order of the test module. -/
theorem claim : Cert.Claim := ⟨Cert.Kernel.Gen.facts, Cert.KernelIdeal.Gen.facts, Cert.ReferenceIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.DownDw.Gen.facts, Cert.DownDwIdeal.Gen.facts, Cert.DownDwRefIdeal.Gen.facts,
  Cert.DownDx.Gen.facts, Cert.DownDxIdeal.Gen.facts, Cert.DownDxRefIdeal.Gen.facts,
  Cert.UpDw.Gen.facts, Cert.UpDwIdeal.Gen.facts, Cert.UpDwRefIdeal.Gen.facts,
  Cert.UpDxV.Gen.facts, Cert.UpDxVIdeal.Gen.facts, Cert.UpDxVRefIdeal.Gen.facts,
  Cert.UpDxG.Gen.facts, Cert.UpDxGIdeal.Gen.facts, Cert.UpDxGRefIdeal.Gen.facts,
  Cert.Qkv.Gen.facts, Cert.QkvIdeal.Gen.facts, Cert.QkvRefIdeal.Gen.facts,
  Cert.QkvDw.Gen.facts, Cert.QkvDwIdeal.Gen.facts, Cert.QkvDwRefIdeal.Gen.facts,
  Cert.QkvDx.Gen.facts, Cert.QkvDxIdeal.Gen.facts, Cert.QkvDxRefIdeal.Gen.facts,
  Cert.Out.Gen.facts, Cert.OutIdeal.Gen.facts, Cert.OutRefIdeal.Gen.facts,
  Cert.OutDw.Gen.facts, Cert.OutDwIdeal.Gen.facts, Cert.OutDwRefIdeal.Gen.facts,
  Cert.OutDx.Gen.facts, Cert.OutDxIdeal.Gen.facts, Cert.OutDxRefIdeal.Gen.facts,
  Cert.GluDx.Gen.facts, Cert.GluDxIdeal.Gen.facts, Cert.GluDxRefIdeal.Gen.facts,
  Cert.MixIn.Gen.facts, Cert.MixInIdeal.Gen.facts, Cert.MixInRefIdeal.Gen.facts,
  Cert.MixInDw.Gen.facts, Cert.MixInDwIdeal.Gen.facts, Cert.MixInDwRefIdeal.Gen.facts,
  Cert.MixInDx.Gen.facts, Cert.MixInDxIdeal.Gen.facts, Cert.MixInDxRefIdeal.Gen.facts,
  Cert.MixOut.Gen.facts, Cert.MixOutIdeal.Gen.facts, Cert.MixOutRefIdeal.Gen.facts,
  Cert.MixOutDw.Gen.facts, Cert.MixOutDwIdeal.Gen.facts, Cert.MixOutDwRefIdeal.Gen.facts,
  Cert.MixOutDx.Gen.facts, Cert.MixOutDxIdeal.Gen.facts, Cert.MixOutDxRefIdeal.Gen.facts,
  Cert.AdamCCtx.Gen.facts, Cert.AdamCCtxIdeal.Gen.facts, Cert.AdamCCtxRefIdeal.Gen.facts,
  Cert.AdamAdaW.Gen.facts, Cert.AdamAdaWIdeal.Gen.facts, Cert.AdamAdaWRefIdeal.Gen.facts,
  Cert.AdamAdaB.Gen.facts, Cert.AdamAdaBIdeal.Gen.facts, Cert.AdamAdaBRefIdeal.Gen.facts,
  Cert.AdamNorm.Gen.facts, Cert.AdamNormIdeal.Gen.facts, Cert.AdamNormRefIdeal.Gen.facts,
  Cert.AdamFfnUp.Gen.facts, Cert.AdamFfnUpIdeal.Gen.facts, Cert.AdamFfnUpRefIdeal.Gen.facts,
  Cert.AdamConvW.Gen.facts, Cert.AdamConvWIdeal.Gen.facts, Cert.AdamConvWRefIdeal.Gen.facts,
  Cert.AdamConvB.Gen.facts, Cert.AdamConvBIdeal.Gen.facts, Cert.AdamConvBRefIdeal.Gen.facts,
  Cert.AdamFfnDown.Gen.facts, Cert.AdamFfnDownIdeal.Gen.facts, Cert.AdamFfnDownRefIdeal.Gen.facts,
  Cert.AdamPoolW.Gen.facts, Cert.AdamPoolWIdeal.Gen.facts, Cert.AdamPoolWRefIdeal.Gen.facts,
  Cert.AdamPool.Gen.facts, Cert.AdamPoolIdeal.Gen.facts, Cert.AdamPoolRefIdeal.Gen.facts,
  Cert.AdamQkv.Gen.facts, Cert.AdamQkvIdeal.Gen.facts, Cert.AdamQkvRefIdeal.Gen.facts,
  Cert.AdamOut.Gen.facts, Cert.AdamOutIdeal.Gen.facts, Cert.AdamOutRefIdeal.Gen.facts,
  Cert.AdamSink.Gen.facts, Cert.AdamSinkIdeal.Gen.facts, Cert.AdamSinkRefIdeal.Gen.facts,
  Cert.AdamLambda.Gen.facts, Cert.AdamLambdaIdeal.Gen.facts, Cert.AdamLambdaRefIdeal.Gen.facts,
  Cert.AdamLogDt.Gen.facts, Cert.AdamLogDtIdeal.Gen.facts, Cert.AdamLogDtRefIdeal.Gen.facts,
  Cert.AdamSsmB.Gen.facts, Cert.AdamSsmBIdeal.Gen.facts, Cert.AdamSsmBRefIdeal.Gen.facts,
  Cert.AdamSsmC.Gen.facts, Cert.AdamSsmCIdeal.Gen.facts, Cert.AdamSsmCRefIdeal.Gen.facts,
  Cert.AdamSsmD.Gen.facts, Cert.AdamSsmDIdeal.Gen.facts, Cert.AdamSsmDRefIdeal.Gen.facts,
  Cert.AdamMixIn.Gen.facts, Cert.AdamMixInIdeal.Gen.facts, Cert.AdamMixInRefIdeal.Gen.facts,
  Cert.AdamMixBias.Gen.facts, Cert.AdamMixBiasIdeal.Gen.facts, Cert.AdamMixBiasRefIdeal.Gen.facts,
  Cert.AdamMixNorm.Gen.facts, Cert.AdamMixNormIdeal.Gen.facts, Cert.AdamMixNormRefIdeal.Gen.facts,
  Cert.AdamMixW.Gen.facts, Cert.AdamMixWIdeal.Gen.facts, Cert.AdamMixWRefIdeal.Gen.facts,
  Cert.AdamMixB.Gen.facts, Cert.AdamMixBIdeal.Gen.facts, Cert.AdamMixBRefIdeal.Gen.facts,
  Cert.AdamMixOut.Gen.facts, Cert.AdamMixOutIdeal.Gen.facts, Cert.AdamMixOutRefIdeal.Gen.facts,
  Cert.AdaDw.Gen.facts, Cert.AdaDwIdeal.Gen.facts, Cert.AdaDwRefIdeal.Gen.facts,
  Cert.CtxCond.Gen.facts, Cert.CtxCondIdeal.Gen.facts, Cert.CtxCondRefIdeal.Gen.facts,
  Cert.SumFfnUp.Gen.facts, Cert.SumFfnUpIdeal.Gen.facts, Cert.SumFfnUpRefIdeal.Gen.facts,
  Cert.SumFfnDown.Gen.facts, Cert.SumFfnDownIdeal.Gen.facts, Cert.SumFfnDownRefIdeal.Gen.facts,
  Cert.SumPoolW.Gen.facts, Cert.SumPoolWIdeal.Gen.facts, Cert.SumPoolWRefIdeal.Gen.facts,
  Cert.SumQkv.Gen.facts, Cert.SumQkvIdeal.Gen.facts, Cert.SumQkvRefIdeal.Gen.facts,
  Cert.SumOut.Gen.facts, Cert.SumOutIdeal.Gen.facts, Cert.SumOutRefIdeal.Gen.facts,
  Cert.SumMixIn.Gen.facts, Cert.SumMixInIdeal.Gen.facts, Cert.SumMixInRefIdeal.Gen.facts,
  Cert.SumMixOut.Gen.facts, Cert.SumMixOutIdeal.Gen.facts, Cert.SumMixOutRefIdeal.Gen.facts,
  Cert.SumSmall.Gen.facts, Cert.SumSmallIdeal.Gen.facts, Cert.SumSmallRefIdeal.Gen.facts,
  Cert.SumCond.Gen.facts, Cert.SumCondIdeal.Gen.facts, Cert.SumCondRefIdeal.Gen.facts,
  Cert.LossHead.Gen.facts, Cert.LossHeadIdeal.Gen.facts, Cert.LossHeadRefIdeal.Gen.facts,
  Cert.Pre_finite.Gen.facts,
  fun m ρ _ => Cert.Kernel.Gen.frame m ρ, fun m ρ _ => Cert.KernelIdeal.Gen.frame m ρ,
  fun m ρ _ => Cert.KernelIdeal.Gen.frame m ρ, frame_r, fun m ρ _ => frame_r m ρ trivial,
  fun m ρ _ => Cert.Up.Gen.frame m ρ, fun m ρ _ => Cert.UpIdeal.Gen.frame m ρ, Cert.Products.Up.frame_r,
  fun m ρ _ => Cert.Down.Gen.frame m ρ, fun m ρ _ => Cert.DownIdeal.Gen.frame m ρ, Cert.Products.Down.frame_r,
  fun m ρ _ => Cert.DownDw.Gen.frame m ρ, fun m ρ _ => Cert.DownDwIdeal.Gen.frame m ρ, Cert.Products.DownDw.frame_r,
  fun m ρ _ => Cert.DownDx.Gen.frame m ρ, fun m ρ _ => Cert.DownDxIdeal.Gen.frame m ρ, Cert.Products.DownDx.frame_r,
  fun m ρ _ => Cert.UpDw.Gen.frame m ρ, fun m ρ _ => Cert.UpDwIdeal.Gen.frame m ρ, Cert.Products.UpDw.frame_r,
  fun m ρ _ => Cert.UpDxV.Gen.frame m ρ, fun m ρ _ => Cert.UpDxVIdeal.Gen.frame m ρ, Cert.Products.UpDxV.frame_r,
  fun m ρ _ => Cert.UpDxG.Gen.frame m ρ, fun m ρ _ => Cert.UpDxGIdeal.Gen.frame m ρ, Cert.Products.UpDxG.frame_r,
  fun m ρ _ => Cert.Qkv.Gen.frame m ρ, fun m ρ _ => Cert.QkvIdeal.Gen.frame m ρ, Cert.Products.Qkv.frame_r,
  fun m ρ _ => Cert.QkvDw.Gen.frame m ρ, fun m ρ _ => Cert.QkvDwIdeal.Gen.frame m ρ, Cert.Products.QkvDw.frame_r,
  fun m ρ _ => Cert.QkvDx.Gen.frame m ρ, fun m ρ _ => Cert.QkvDxIdeal.Gen.frame m ρ, Cert.Products.QkvDx.frame_r,
  fun m ρ _ => Cert.Out.Gen.frame m ρ, fun m ρ _ => Cert.OutIdeal.Gen.frame m ρ, Cert.Products.Out.frame_r,
  fun m ρ _ => Cert.OutDw.Gen.frame m ρ, fun m ρ _ => Cert.OutDwIdeal.Gen.frame m ρ, Cert.Products.OutDw.frame_r,
  fun m ρ _ => Cert.OutDx.Gen.frame m ρ, fun m ρ _ => Cert.OutDxIdeal.Gen.frame m ρ, Cert.Products.OutDx.frame_r,
  fun m ρ _ => Cert.GluDx.Gen.frame m ρ, fun m ρ _ => Cert.GluDxIdeal.Gen.frame m ρ, Cert.Products.GluDx.frame_r,
  fun m ρ _ => Cert.MixIn.Gen.frame m ρ, fun m ρ _ => Cert.MixInIdeal.Gen.frame m ρ, Cert.Products.MixIn.frame_r,
  fun m ρ _ => Cert.MixInDw.Gen.frame m ρ, fun m ρ _ => Cert.MixInDwIdeal.Gen.frame m ρ, Cert.Products.MixInDw.frame_r,
  fun m ρ _ => Cert.MixInDx.Gen.frame m ρ, fun m ρ _ => Cert.MixInDxIdeal.Gen.frame m ρ, Cert.Products.MixInDx.frame_r,
  fun m ρ _ => Cert.MixOut.Gen.frame m ρ, fun m ρ _ => Cert.MixOutIdeal.Gen.frame m ρ, Cert.Products.MixOut.frame_r,
  fun m ρ _ => Cert.MixOutDw.Gen.frame m ρ, fun m ρ _ => Cert.MixOutDwIdeal.Gen.frame m ρ, Cert.Products.MixOutDw.frame_r,
  fun m ρ _ => Cert.MixOutDx.Gen.frame m ρ, fun m ρ _ => Cert.MixOutDxIdeal.Gen.frame m ρ, Cert.Products.MixOutDx.frame_r,
  fun m ρ _ => Cert.AdamCCtx.Gen.frame m ρ, fun m ρ _ => Cert.AdamCCtxIdeal.Gen.frame m ρ, Cert.Adam.AdamCCtx.frame_r,
  fun m ρ _ => Cert.AdamAdaW.Gen.frame m ρ, fun m ρ _ => Cert.AdamAdaWIdeal.Gen.frame m ρ, Cert.Adam.AdamAdaW.frame_r,
  fun m ρ _ => Cert.AdamAdaB.Gen.frame m ρ, fun m ρ _ => Cert.AdamAdaBIdeal.Gen.frame m ρ, Cert.Adam.AdamAdaB.frame_r,
  fun m ρ _ => Cert.AdamNorm.Gen.frame m ρ, fun m ρ _ => Cert.AdamNormIdeal.Gen.frame m ρ, Cert.Adam.AdamNorm.frame_r,
  fun m ρ _ => Cert.AdamFfnUp.Gen.frame m ρ, fun m ρ _ => Cert.AdamFfnUpIdeal.Gen.frame m ρ, Cert.Adam.AdamFfnUp.frame_r,
  fun m ρ _ => Cert.AdamConvW.Gen.frame m ρ, fun m ρ _ => Cert.AdamConvWIdeal.Gen.frame m ρ, Cert.Adam.AdamConvW.frame_r,
  fun m ρ _ => Cert.AdamConvB.Gen.frame m ρ, fun m ρ _ => Cert.AdamConvBIdeal.Gen.frame m ρ, Cert.Adam.AdamConvB.frame_r,
  fun m ρ _ => Cert.AdamFfnDown.Gen.frame m ρ, fun m ρ _ => Cert.AdamFfnDownIdeal.Gen.frame m ρ, Cert.Adam.AdamFfnDown.frame_r,
  fun m ρ _ => Cert.AdamPoolW.Gen.frame m ρ, fun m ρ _ => Cert.AdamPoolWIdeal.Gen.frame m ρ, Cert.Adam.AdamPoolW.frame_r,
  fun m ρ _ => Cert.AdamPool.Gen.frame m ρ, fun m ρ _ => Cert.AdamPoolIdeal.Gen.frame m ρ, Cert.Adam.AdamPool.frame_r,
  fun m ρ _ => Cert.AdamQkv.Gen.frame m ρ, fun m ρ _ => Cert.AdamQkvIdeal.Gen.frame m ρ, Cert.Adam.AdamQkv.frame_r,
  fun m ρ _ => Cert.AdamOut.Gen.frame m ρ, fun m ρ _ => Cert.AdamOutIdeal.Gen.frame m ρ, Cert.Adam.AdamOut.frame_r,
  fun m ρ _ => Cert.AdamSink.Gen.frame m ρ, fun m ρ _ => Cert.AdamSinkIdeal.Gen.frame m ρ, Cert.Adam.AdamSink.frame_r,
  fun m ρ _ => Cert.AdamLambda.Gen.frame m ρ, fun m ρ _ => Cert.AdamLambdaIdeal.Gen.frame m ρ, Cert.Adam.AdamLambda.frame_r,
  fun m ρ _ => Cert.AdamLogDt.Gen.frame m ρ, fun m ρ _ => Cert.AdamLogDtIdeal.Gen.frame m ρ, Cert.Adam.AdamLogDt.frame_r,
  fun m ρ _ => Cert.AdamSsmB.Gen.frame m ρ, fun m ρ _ => Cert.AdamSsmBIdeal.Gen.frame m ρ, Cert.Adam.AdamSsmB.frame_r,
  fun m ρ _ => Cert.AdamSsmC.Gen.frame m ρ, fun m ρ _ => Cert.AdamSsmCIdeal.Gen.frame m ρ, Cert.Adam.AdamSsmC.frame_r,
  fun m ρ _ => Cert.AdamSsmD.Gen.frame m ρ, fun m ρ _ => Cert.AdamSsmDIdeal.Gen.frame m ρ, Cert.Adam.AdamSsmD.frame_r,
  fun m ρ _ => Cert.AdamMixIn.Gen.frame m ρ, fun m ρ _ => Cert.AdamMixInIdeal.Gen.frame m ρ, Cert.Adam.AdamMixIn.frame_r,
  fun m ρ _ => Cert.AdamMixBias.Gen.frame m ρ, fun m ρ _ => Cert.AdamMixBiasIdeal.Gen.frame m ρ, Cert.Adam.AdamMixBias.frame_r,
  fun m ρ _ => Cert.AdamMixNorm.Gen.frame m ρ, fun m ρ _ => Cert.AdamMixNormIdeal.Gen.frame m ρ, Cert.Adam.AdamMixNorm.frame_r,
  fun m ρ _ => Cert.AdamMixW.Gen.frame m ρ, fun m ρ _ => Cert.AdamMixWIdeal.Gen.frame m ρ, Cert.Adam.AdamMixW.frame_r,
  fun m ρ _ => Cert.AdamMixB.Gen.frame m ρ, fun m ρ _ => Cert.AdamMixBIdeal.Gen.frame m ρ, Cert.Adam.AdamMixB.frame_r,
  fun m ρ _ => Cert.AdamMixOut.Gen.frame m ρ, fun m ρ _ => Cert.AdamMixOutIdeal.Gen.frame m ρ, Cert.Adam.AdamMixOut.frame_r,
  fun m ρ _ => Cert.AdaDw.Gen.frame m ρ, fun m ρ _ => Cert.AdaDwIdeal.Gen.frame m ρ, Cert.Products.AdaDw.frame_r,
  fun m ρ _ => Cert.CtxCond.Gen.frame m ρ, fun m ρ _ => Cert.CtxCondIdeal.Gen.frame m ρ, Cert.Products.CtxCond.frame_r,
  fun m ρ _ => Cert.SumFfnUp.Gen.frame m ρ, fun m ρ _ => Cert.SumFfnUpIdeal.Gen.frame m ρ, Cert.Shares.SumFfnUp.frame_r,
  fun m ρ _ => Cert.SumFfnDown.Gen.frame m ρ, fun m ρ _ => Cert.SumFfnDownIdeal.Gen.frame m ρ, Cert.Shares.SumFfnDown.frame_r,
  fun m ρ _ => Cert.SumPoolW.Gen.frame m ρ, fun m ρ _ => Cert.SumPoolWIdeal.Gen.frame m ρ, Cert.Shares.SumPoolW.frame_r,
  fun m ρ _ => Cert.SumQkv.Gen.frame m ρ, fun m ρ _ => Cert.SumQkvIdeal.Gen.frame m ρ, Cert.Shares.SumQkv.frame_r,
  fun m ρ _ => Cert.SumOut.Gen.frame m ρ, fun m ρ _ => Cert.SumOutIdeal.Gen.frame m ρ, Cert.Shares.SumOut.frame_r,
  fun m ρ _ => Cert.SumMixIn.Gen.frame m ρ, fun m ρ _ => Cert.SumMixInIdeal.Gen.frame m ρ, Cert.Shares.SumMixIn.frame_r,
  fun m ρ _ => Cert.SumMixOut.Gen.frame m ρ, fun m ρ _ => Cert.SumMixOutIdeal.Gen.frame m ρ, Cert.Shares.SumMixOut.frame_r,
  fun m ρ _ => Cert.SumSmall.Gen.frame m ρ, fun m ρ _ => Cert.SumSmallIdeal.Gen.frame m ρ, Cert.Shares.SumSmall.frame_r,
  fun m ρ _ => Cert.SumCond.Gen.frame m ρ, fun m ρ _ => Cert.SumCondIdeal.Gen.frame m ρ, Cert.Shares.SumCond.frame_r,
  fun m ρ _ => Cert.LossHead.Gen.frame m ρ, fun m ρ _ => Cert.LossHeadIdeal.Gen.frame m ρ, Cert.Loss.LossHead.frame_r,
  IdealRules.named_const.statement _ _ _ _ _ rfl, algebraic,
  trivial, Cert.Products.Up.algebraic,
  trivial, Cert.Products.Down.algebraic,
  trivial, Cert.Products.DownDw.algebraic,
  trivial, Cert.Products.DownDx.algebraic,
  trivial, Cert.Products.UpDw.algebraic,
  trivial, Cert.Products.UpDxV.algebraic,
  trivial, Cert.Products.UpDxG.algebraic,
  trivial, Cert.Products.Qkv.algebraic,
  trivial, Cert.Products.QkvDw.algebraic,
  trivial, Cert.Products.QkvDx.algebraic,
  trivial, Cert.Products.Out.algebraic,
  trivial, Cert.Products.OutDw.algebraic,
  trivial, Cert.Products.OutDx.algebraic,
  trivial, Cert.Products.GluDx.algebraic,
  trivial, Cert.Products.MixIn.algebraic,
  trivial, Cert.Products.MixInDw.algebraic,
  trivial, Cert.Products.MixInDx.algebraic,
  trivial, Cert.Products.MixOut.algebraic,
  trivial, Cert.Products.MixOutDw.algebraic,
  trivial, Cert.Products.MixOutDx.algebraic,
  trivial, Cert.Adam.AdamCCtx.algebraic,
  trivial, Cert.Adam.AdamAdaW.algebraic,
  trivial, Cert.Adam.AdamAdaB.algebraic,
  trivial, Cert.Adam.AdamNorm.algebraic,
  trivial, Cert.Adam.AdamFfnUp.algebraic,
  trivial, Cert.Adam.AdamConvW.algebraic,
  trivial, Cert.Adam.AdamConvB.algebraic,
  trivial, Cert.Adam.AdamFfnDown.algebraic,
  trivial, Cert.Adam.AdamPoolW.algebraic,
  trivial, Cert.Adam.AdamPool.algebraic,
  trivial, Cert.Adam.AdamQkv.algebraic,
  trivial, Cert.Adam.AdamOut.algebraic,
  trivial, Cert.Adam.AdamSink.algebraic,
  trivial, Cert.Adam.AdamLambda.algebraic,
  trivial, Cert.Adam.AdamLogDt.algebraic,
  trivial, Cert.Adam.AdamSsmB.algebraic,
  trivial, Cert.Adam.AdamSsmC.algebraic,
  trivial, Cert.Adam.AdamSsmD.algebraic,
  trivial, Cert.Adam.AdamMixIn.algebraic,
  trivial, Cert.Adam.AdamMixBias.algebraic,
  trivial, Cert.Adam.AdamMixNorm.algebraic,
  trivial, Cert.Adam.AdamMixW.algebraic,
  trivial, Cert.Adam.AdamMixB.algebraic,
  trivial, Cert.Adam.AdamMixOut.algebraic,
  trivial, Cert.Products.AdaDw.algebraic,
  trivial, Cert.Products.CtxCond.algebraic,
  trivial, Cert.Shares.SumFfnUp.algebraic,
  trivial, Cert.Shares.SumFfnDown.algebraic,
  trivial, Cert.Shares.SumPoolW.algebraic,
  trivial, Cert.Shares.SumQkv.algebraic,
  trivial, Cert.Shares.SumOut.algebraic,
  trivial, Cert.Shares.SumMixIn.algebraic,
  trivial, Cert.Shares.SumMixOut.algebraic,
  trivial, Cert.Shares.SumSmall.algebraic,
  trivial, Cert.Shares.SumCond.algebraic,
  trivial, Cert.Loss.LossHead.algebraic⟩

end Cert.Proof

end
